-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gates [hPre_finite_gates : Cert.Pre_finite_gates.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_gates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gates [hPre_finite_gates : Cert.Pre_finite_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_activation_grads [hPre_finite_activation_grads : Cert.Pre_finite_activation_grads.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_activation_grads.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))).1 = (fun _ => 1#1)
    ∧ (Cert.Pre_finite_activation_grads.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))).2.1 = (fun _ => 1#1)
    ∧ (Cert.Pre_finite_activation_grads.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))).2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_activation_grads [hPre_finite_activation_grads : Cert.Pre_finite_activation_grads.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_activation_grads.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))).1 = (fun _ => 1#1)
    ∧ (Cert.Pre_finite_activation_grads.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))).2.1 = (fun _ => 1#1)
    ∧ (Cert.Pre_finite_activation_grads.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))).2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_embedding_grads [hPre_finite_embedding_grads : Cert.Pre_finite_embedding_grads.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_embedding_grads.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).1 = (fun _ => 1#1)
    ∧ (Cert.Pre_finite_embedding_grads.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.1 = (fun _ => 1#1)
    ∧ (Cert.Pre_finite_embedding_grads.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2.1 = (fun _ => 1#1)
    ∧ (Cert.Pre_finite_embedding_grads.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2.2.1 = (fun _ => 1#1)
    ∧ (Cert.Pre_finite_embedding_grads.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6))).2.2.2.2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_embedding_grads [hPre_finite_embedding_grads : Cert.Pre_finite_embedding_grads.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_embedding_grads.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).1 = (fun _ => 1#1)
    ∧ (Cert.Pre_finite_embedding_grads.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.1 = (fun _ => 1#1)
    ∧ (Cert.Pre_finite_embedding_grads.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.2.1 = (fun _ => 1#1)
    ∧ (Cert.Pre_finite_embedding_grads.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.2.2.1 = (fun _ => 1#1)
    ∧ (Cert.Pre_finite_embedding_grads.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6))).2.2.2.2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_norm_grads [hPre_finite_norm_grads : Cert.Pre_finite_norm_grads.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_norm_grads.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))).1 = (fun _ => 1#1)
    ∧ (Cert.Pre_finite_norm_grads.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))).2.1 = (fun _ => 1#1)
    ∧ (Cert.Pre_finite_norm_grads.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))).2.2.1 = (fun _ => 1#1)
    ∧ (Cert.Pre_finite_norm_grads.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))).2.2.2.1 = (fun _ => 1#1)
    ∧ (Cert.Pre_finite_norm_grads.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4)) (m ((c.tc : Thread Cert.Kernel18Ideal.nD Cert.Kernel18Ideal.τ).loc Cert.Kernel18Ideal.main_arg5))).2.2.2.2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_norm_grads [hPre_finite_norm_grads : Cert.Pre_finite_norm_grads.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_norm_grads.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))).1 = (fun _ => 1#1)
    ∧ (Cert.Pre_finite_norm_grads.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))).2.1 = (fun _ => 1#1)
    ∧ (Cert.Pre_finite_norm_grads.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))).2.2.1 = (fun _ => 1#1)
    ∧ (Cert.Pre_finite_norm_grads.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))).2.2.2.1 = (fun _ => 1#1)
    ∧ (Cert.Pre_finite_norm_grads.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4)) (m ((c.tc : Thread Cert.Reference18Ideal.nD Cert.Reference18Ideal.τ).loc Cert.Reference18Ideal.main_arg5))).2.2.2.2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite_logits [hPre_finite_logits : Cert.Pre_finite_logits.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite_logits.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1))).1 = (fun _ => 1#1)
    ∧ (Cert.Pre_finite_logits.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1))).2 = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite_logits [hPre_finite_logits : Cert.Pre_finite_logits.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite_logits.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1))).1 = (fun _ => 1#1)
    ∧ (Cert.Pre_finite_logits.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gates [hKernelIdeal : Cert.KernelIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gates [hReferenceIdeal : Cert.ReferenceIdeal.Facts] [hPre_finite_gates : Cert.Pre_finite_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Kernel16Ideal_pre_finite_activation_grads [hKernel16Ideal : Cert.Kernel16Ideal.Facts] [hPre_finite_activation_grads : Cert.Pre_finite_activation_grads.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_activation_grads m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Reference16Ideal_pre_finite_activation_grads [hReference16Ideal : Cert.Reference16Ideal.Facts] [hPre_finite_activation_grads : Cert.Pre_finite_activation_grads.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_activation_grads m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Kernel17Ideal_pre_finite_embedding_grads [hKernel17Ideal : Cert.Kernel17Ideal.Facts] [hPre_finite_embedding_grads : Cert.Pre_finite_embedding_grads.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_embedding_grads m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Reference17Ideal_pre_finite_embedding_grads [hReference17Ideal : Cert.Reference17Ideal.Facts] [hPre_finite_embedding_grads : Cert.Pre_finite_embedding_grads.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_embedding_grads m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Kernel18Ideal_pre_finite_norm_grads [hKernel18Ideal : Cert.Kernel18Ideal.Facts] [hPre_finite_norm_grads : Cert.Pre_finite_norm_grads.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_norm_grads m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Reference18Ideal_pre_finite_norm_grads [hReference18Ideal : Cert.Reference18Ideal.Facts] [hPre_finite_norm_grads : Cert.Pre_finite_norm_grads.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_norm_grads m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Kernel28Ideal_pre_finite_logits [hKernel28Ideal : Cert.Kernel28Ideal.Facts] [hPre_finite_logits : Cert.Pre_finite_logits.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite_logits m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Reference28Ideal_pre_finite_logits [hReference28Ideal : Cert.Reference28Ideal.Facts] [hPre_finite_logits : Cert.Pre_finite_logits.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite_logits m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def preserves_Kernel_KernelIdeal : Prop :=
  True

def algebraic_KernelIdeal_ReferenceIdeal_pre_finite_gates [hKernelIdeal : Cert.KernelIdeal.Facts] [hReferenceIdeal : Cert.ReferenceIdeal.Facts] [hPre_finite_gates : Cert.Pre_finite_gates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_v9) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v27) = v0 c
          ∧ r.2.mem ((c.tc : Thread Cert.Reference15Ideal.nD Cert.Reference15Ideal.τ).loc Cert.Reference15Ideal.main_v62) = v1 c
          ∧ r.2.mem ((c.tc : Thread Cert.Reference15Ideal.nD Cert.Reference15Ideal.τ).loc Cert.Reference15Ideal.main_v61) = v2 c
          ∧ r.2.mem ((c.tc : Thread Cert.Reference15Ideal.nD Cert.Reference15Ideal.τ).loc Cert.Reference15Ideal.main_v63) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9))

def preserves_Kernel16_Kernel16Ideal : Prop :=
  True

def algebraic_Kernel16Ideal_Reference16Ideal_pre_finite_activation_grads [hKernel16Ideal : Cert.Kernel16Ideal.Facts] [hReference16Ideal : Cert.Reference16Ideal.Facts] [hPre_finite_activation_grads : Cert.Pre_finite_activation_grads.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_activation_grads m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v11) = v0 c
          ∧ r.2.mem ((c.tc : Thread Cert.Reference16Ideal.nD Cert.Reference16Ideal.τ).loc Cert.Reference16Ideal.main_v12) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal_pre_finite_embedding_grads [hKernel17Ideal : Cert.Kernel17Ideal.Facts] [hReference17Ideal : Cert.Reference17Ideal.Facts] [hPre_finite_embedding_grads : Cert.Pre_finite_embedding_grads.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_embedding_grads m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)) (v4 : (c : Dev Cert.Kernel17Ideal.nD) → Buf (Elt Ideal) ((c.tc : Thread Cert.Kernel17Ideal.nD Cert.Kernel17Ideal.τ).loc Cert.Kernel17Ideal.main_v0_4)) (v5 : (c : Dev Cert.Kernel17Ideal.nD) → Buf (Elt Ideal) ((c.tc : Thread Cert.Kernel17Ideal.nD Cert.Kernel17Ideal.τ).loc Cert.Kernel17Ideal.main_v0_5)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_v0_4) = v4 c
          ∧ r.2.mem ((c.tc : Thread Cert.Kernel17Ideal.nD Cert.Kernel17Ideal.τ).loc Cert.Kernel17Ideal.main_v0_5) = v5 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v83) = v0 c
          ∧ r.2.mem ((c.tc : Thread Cert.Reference17Ideal.nD Cert.Reference17Ideal.τ).loc Cert.Reference17Ideal.main_v84) = v1 c
          ∧ r.2.mem ((c.tc : Thread Cert.Reference17Ideal.nD Cert.Reference17Ideal.τ).loc Cert.Reference17Ideal.main_v82) = v2 c
          ∧ r.2.mem ((c.tc : Thread Cert.Reference17Ideal.nD Cert.Reference17Ideal.τ).loc Cert.Reference17Ideal.main_v85) = v3 c
          ∧ r.2.mem ((c.tc : Thread Cert.Reference17Ideal.nD Cert.Reference17Ideal.τ).loc Cert.Reference17Ideal.main_v56) = v4 c
          ∧ r.2.mem ((c.tc : Thread Cert.Reference17Ideal.nD Cert.Reference17Ideal.τ).loc Cert.Reference17Ideal.main_v53) = v5 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  True

def algebraic_Kernel18Ideal_Reference18Ideal_pre_finite_norm_grads [hKernel18Ideal : Cert.Kernel18Ideal.Facts] [hReference18Ideal : Cert.Reference18Ideal.Facts] [hPre_finite_norm_grads : Cert.Pre_finite_norm_grads.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_norm_grads m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v65) = v0 c
          ∧ r.2.mem ((c.tc : Thread Cert.Reference18Ideal.nD Cert.Reference18Ideal.τ).loc Cert.Reference18Ideal.main_v66) = v1 c
          ∧ r.2.mem ((c.tc : Thread Cert.Reference18Ideal.nD Cert.Reference18Ideal.τ).loc Cert.Reference18Ideal.main_v39) = v2 c
          ∧ r.2.mem ((c.tc : Thread Cert.Reference18Ideal.nD Cert.Reference18Ideal.τ).loc Cert.Reference18Ideal.main_v36) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  IdealRules.named_const.Statement Cert.Kernel19Ideal.κ "inv_bias1" .f32 0x3FC48605#32 ((8388608 / 5463681 : ℝ) : EReal)
  ∧ IdealRules.named_const.Statement Cert.Kernel19Ideal.κ "inv_bias2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg1) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0))

def preserves_Kernel21_Kernel21Ideal : Prop :=
  IdealRules.named_const.Statement Cert.Kernel21Ideal.κ "inv_bias1" .f32 0x3FC48605#32 ((8388608 / 5463681 : ℝ) : EReal)
  ∧ IdealRules.named_const.Statement Cert.Kernel21Ideal.κ "inv_bias2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_v26) = v1 c
          ∧ r.2.mem ((c.tc : Thread Cert.Reference21Ideal.nD Cert.Reference21Ideal.τ).loc Cert.Reference21Ideal.main_v7) = v2 c
          ∧ r.2.mem ((c.tc : Thread Cert.Reference21Ideal.nD Cert.Reference21Ideal.τ).loc Cert.Reference21Ideal.main_v13) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  IdealRules.named_const.Statement Cert.Kernel22Ideal.κ "inv_bias1" .f32 0x3FC48605#32 ((8388608 / 5463681 : ℝ) : EReal)
  ∧ IdealRules.named_const.Statement Cert.Kernel22Ideal.κ "inv_bias2" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_v26) = v1 c
          ∧ r.2.mem ((c.tc : Thread Cert.Reference22Ideal.nD Cert.Reference22Ideal.τ).loc Cert.Reference22Ideal.main_v7) = v2 c
          ∧ r.2.mem ((c.tc : Thread Cert.Reference22Ideal.nD Cert.Reference22Ideal.τ).loc Cert.Reference22Ideal.main_v13) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  IdealRules.named_const.Statement Cert.Kernel23Ideal.κ "inv_bias1" .f32 0x3FC48605#32 ((8388608 / 5463681 : ℝ) : EReal)
  ∧ IdealRules.named_const.Statement Cert.Kernel23Ideal.κ "inv_bias2" .f32 0x42C8E6D3#32 ((268435456 / 2672307 : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  IdealRules.named_const.Statement Cert.Kernel24Ideal.κ "inv_bias1" .f32 0x3FC48605#32 ((8388608 / 5463681 : ℝ) : EReal)
  ∧ IdealRules.named_const.Statement Cert.Kernel24Ideal.κ "inv_bias2" .f32 0x42C8E6D3#32 ((268435456 / 2672307 : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_v26) = v1 c
          ∧ r.2.mem ((c.tc : Thread Cert.Reference24Ideal.nD Cert.Reference24Ideal.τ).loc Cert.Reference24Ideal.main_v7) = v2 c
          ∧ r.2.mem ((c.tc : Thread Cert.Reference24Ideal.nD Cert.Reference24Ideal.τ).loc Cert.Reference24Ideal.main_v13) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  IdealRules.named_const.Statement Cert.Kernel25Ideal.κ "inv_bias1" .f32 0x3FC48605#32 ((8388608 / 5463681 : ℝ) : EReal)
  ∧ IdealRules.named_const.Statement Cert.Kernel25Ideal.κ "inv_bias2" .f32 0x42C8E6D3#32 ((268435456 / 2672307 : ℝ) : EReal)

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_v26) = v1 c
          ∧ r.2.mem ((c.tc : Thread Cert.Reference25Ideal.nD Cert.Reference25Ideal.τ).loc Cert.Reference25Ideal.main_v7) = v2 c
          ∧ r.2.mem ((c.tc : Thread Cert.Reference25Ideal.nD Cert.Reference25Ideal.τ).loc Cert.Reference25Ideal.main_v13) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  IdealRules.named_const.Statement Cert.Kernel26Ideal.κ "inv_bias1" .f32 0x3FC48605#32 ((8388608 / 5463681 : ℝ) : EReal)
  ∧ IdealRules.named_const.Statement Cert.Kernel26Ideal.κ "inv_bias2" .f32 0x42C8E6D3#32 ((268435456 / 2672307 : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v14) = v0 c
          ∧ r.2.mem ((c.tc : Thread Cert.Reference27Ideal.nD Cert.Reference27Ideal.τ).loc Cert.Reference27Ideal.main_v15) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal_pre_finite_logits [hKernel28Ideal : Cert.Kernel28Ideal.Facts] [hReference28Ideal : Cert.Reference28Ideal.Facts] [hPre_finite_logits : Cert.Pre_finite_logits.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite_logits m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v51) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite_gates : Cert.Pre_finite_gates.Facts) (hPre_finite_activation_grads : Cert.Pre_finite_activation_grads.Facts) (hPre_finite_embedding_grads : Cert.Pre_finite_embedding_grads.Facts) (hPre_finite_norm_grads : Cert.Pre_finite_norm_grads.Facts) (hPre_finite_logits : Cert.Pre_finite_logits.Facts),
    quiescent_Kernel (hKernel := hKernel)
    ∧ quiescent_KernelIdeal (hKernelIdeal := hKernelIdeal)
    ∧ quiescent_KernelIdeal_pre_finite_gates (hKernelIdeal := hKernelIdeal) (hPre_finite_gates := hPre_finite_gates)
    ∧ quiescent_ReferenceIdeal (hReferenceIdeal := hReferenceIdeal)
    ∧ quiescent_ReferenceIdeal_pre_finite_gates (hReferenceIdeal := hReferenceIdeal) (hPre_finite_gates := hPre_finite_gates)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite_activation_grads (hKernel16Ideal := hKernel16Ideal) (hPre_finite_activation_grads := hPre_finite_activation_grads)
    ∧ quiescent_Reference16Ideal (hReference16Ideal := hReference16Ideal)
    ∧ quiescent_Reference16Ideal_pre_finite_activation_grads (hReference16Ideal := hReference16Ideal) (hPre_finite_activation_grads := hPre_finite_activation_grads)
    ∧ quiescent_Kernel17 (hKernel17 := hKernel17)
    ∧ quiescent_Kernel17Ideal (hKernel17Ideal := hKernel17Ideal)
    ∧ quiescent_Kernel17Ideal_pre_finite_embedding_grads (hKernel17Ideal := hKernel17Ideal) (hPre_finite_embedding_grads := hPre_finite_embedding_grads)
    ∧ quiescent_Reference17Ideal (hReference17Ideal := hReference17Ideal)
    ∧ quiescent_Reference17Ideal_pre_finite_embedding_grads (hReference17Ideal := hReference17Ideal) (hPre_finite_embedding_grads := hPre_finite_embedding_grads)
    ∧ quiescent_Kernel18 (hKernel18 := hKernel18)
    ∧ quiescent_Kernel18Ideal (hKernel18Ideal := hKernel18Ideal)
    ∧ quiescent_Kernel18Ideal_pre_finite_norm_grads (hKernel18Ideal := hKernel18Ideal) (hPre_finite_norm_grads := hPre_finite_norm_grads)
    ∧ quiescent_Reference18Ideal (hReference18Ideal := hReference18Ideal)
    ∧ quiescent_Reference18Ideal_pre_finite_norm_grads (hReference18Ideal := hReference18Ideal) (hPre_finite_norm_grads := hPre_finite_norm_grads)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel28Ideal_pre_finite_logits (hKernel28Ideal := hKernel28Ideal) (hPre_finite_logits := hPre_finite_logits)
    ∧ quiescent_Reference28Ideal (hReference28Ideal := hReference28Ideal)
    ∧ quiescent_Reference28Ideal_pre_finite_logits (hReference28Ideal := hReference28Ideal) (hPre_finite_logits := hPre_finite_logits)
    ∧ preserves_Kernel_KernelIdeal
    ∧ algebraic_KernelIdeal_ReferenceIdeal_pre_finite_gates (hKernelIdeal := hKernelIdeal) (hReferenceIdeal := hReferenceIdeal) (hPre_finite_gates := hPre_finite_gates)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite_activation_grads (hKernel16Ideal := hKernel16Ideal) (hReference16Ideal := hReference16Ideal) (hPre_finite_activation_grads := hPre_finite_activation_grads)
    ∧ preserves_Kernel17_Kernel17Ideal
    ∧ algebraic_Kernel17Ideal_Reference17Ideal_pre_finite_embedding_grads (hKernel17Ideal := hKernel17Ideal) (hReference17Ideal := hReference17Ideal) (hPre_finite_embedding_grads := hPre_finite_embedding_grads)
    ∧ preserves_Kernel18_Kernel18Ideal
    ∧ algebraic_Kernel18Ideal_Reference18Ideal_pre_finite_norm_grads (hKernel18Ideal := hKernel18Ideal) (hReference18Ideal := hReference18Ideal) (hPre_finite_norm_grads := hPre_finite_norm_grads)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_pre_finite_logits (hKernel28Ideal := hKernel28Ideal) (hReference28Ideal := hReference28Ideal) (hPre_finite_logits := hPre_finite_logits)
-- ==== Pre_finite_activation_grads.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S2816x1024 : S_.BroadcastsInDim S2816x1024 (![] : Fin 0 → Fin S2816x1024.rank)
  bcast_S_S16384x2816 : S_.BroadcastsInDim S16384x2816 (![] : Fin 0 → Fin S16384x2816.rank)

variable [Facts]

def fn {F : FTy → Type} [FloatOps F] (main_arg0 : FVec F S16384x1024 .bf16) (main_arg1 : FVec F S2816x1024 .bf16) (main_arg2 : FVec F S16384x2816 .bf16) (main_arg3 : FVec F S16384x2816 .bf16) : IVec S16384x1024 1 × IVec S2816x1024 1 × IVec S16384x2816 1 :=
  let main_v0 : FVec F S16384x1024 .f32 := (extf .f32 · bitsLt_bf16_f32) main_arg0
  let main_v1 : FVec F S2816x1024 .f32 := (extf .f32 · bitsLt_bf16_f32) main_arg1
  let main_v2 : FVec F S16384x2816 .f32 := (extf .f32 · bitsLt_bf16_f32) main_arg3
  let main_v3 : FVec F S16384x1024 .f32 := Host.absf main_v0
  let main_cst : FVec F S_ .f32 := constant S_ .f32 0x7F800000#32
  let main_v4 : FVec F S16384x1024 .f32 := broadcastInDim S16384x1024 ![] bcast_S_S16384x1024 main_cst
  let main_v5 : IVec S16384x1024 1 := cmpf .olt main_v3 main_v4
  let main_v6 : FVec F S2816x1024 .f32 := Host.absf main_v1
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_v9 : FVec F S16384x2816 .f32 := Host.absf main_v2
  let main_cst_1 : FVec F S_ .f32 := constant S_ .f32 0x7F800000#32
  let main_v10 : FVec F S16384x2816 .f32 := broadcastInDim S16384x2816 ![] bcast_S_S16384x2816 main_cst_1
  let main_v11 : IVec S16384x2816 1 := cmpf .olt main_v9 main_v10
  (main_v5, main_v8, main_v11)
-- ==== Pre_finite_embedding_grads.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S16384x256 : S_.BroadcastsInDim S16384x256 (![] : Fin 0 → Fin S16384x256.rank)
  bcast_S_S1024x1024 : S_.BroadcastsInDim S1024x1024 (![] : Fin 0 → Fin S1024x1024.rank)
  bcast_S_S256x1024 : S_.BroadcastsInDim S256x1024 (![] : Fin 0 → Fin S256x1024.rank)
  bcast_S_S1x1024 : S_.BroadcastsInDim S1x1024 (![] : Fin 0 → Fin S1x1024.rank)

variable [Facts]

def fn {F : FTy → Type} [FloatOps F] (main_arg0 : FVec F S16384x1024 .f32) (main_arg1 : FVec F S16384x1024 .bf16) (main_arg2 : FVec F S16384x256 .f32) (main_arg3 : FVec F S1024x1024 .bf16) (main_arg4 : FVec F S256x1024 .bf16) (main_arg5 : FVec F S16384x1024 .f32) (main_arg6 : FVec F S1x1024 .f32) : IVec S16384x1024 1 × IVec S16384x256 1 × IVec S1024x1024 1 × IVec S256x1024 1 × IVec S1x1024 1 :=
  let main_v0 : FVec F S1024x1024 .f32 := (extf .f32 · bitsLt_bf16_f32) main_arg3
  let main_v1 : FVec F S256x1024 .f32 := (extf .f32 · bitsLt_bf16_f32) main_arg4
  let main_v2 : FVec F S16384x1024 .f32 := Host.absf main_arg0
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_v5 : FVec F S16384x256 .f32 := Host.absf main_arg2
  let main_cst_0 : FVec F S_ .f32 := constant S_ .f32 0x7F800000#32
  let main_v6 : FVec F S16384x256 .f32 := broadcastInDim S16384x256 ![] bcast_S_S16384x256 main_cst_0
  let main_v7 : IVec S16384x256 1 := cmpf .olt main_v5 main_v6
  let main_v8 : FVec F S1024x1024 .f32 := Host.absf main_v0
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : FVec F S256x1024 .f32 := Host.absf main_v1
  let main_cst_2 : FVec F S_ .f32 := constant S_ .f32 0x7F800000#32
  let main_v12 : FVec F S256x1024 .f32 := broadcastInDim S256x1024 ![] bcast_S_S256x1024 main_cst_2
  let main_v13 : IVec S256x1024 1 := cmpf .olt main_v11 main_v12
  let main_v14 : FVec F S1x1024 .f32 := Host.absf main_arg6
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  (main_v4, main_v7, main_v10, main_v13, main_v16)
-- ==== Pre_finite_gates.lean ====
abbrev S16384x5120 : Shape := ⟨2, ![16384, 5120]⟩
abbrev S8x1x128 : Shape := ⟨3, ![8, 1, 128]⟩
abbrev S8x256x128x128 : Shape := ⟨4, ![8, 256, 128, 128]⟩
abbrev S16384x1024 : Shape := ⟨2, ![16384, 1024]⟩
abbrev S_ : Shape := ⟨0, ![]⟩

class Facts : Prop where
  slices_S16384x5120_S16384x1024_0_2048 : S16384x5120.Slices ![0, 2048] S16384x1024
  bcast_S_S16384x1024 : S_.BroadcastsInDim S16384x1024 (![] : Fin 0 → Fin S16384x1024.rank)
  bcast_S_S8x1x128 : S_.BroadcastsInDim S8x1x128 (![] : Fin 0 → Fin S8x1x128.rank)

variable [Facts]

def fn {F : FTy → Type} [FloatOps F] (main_arg0 : FVec F S16384x5120 .f32) (main_arg1 : FVec F S8x1x128 .f32) (main_arg2 : FVec F S8x256x128x128 .bf16) (main_arg3 : FVec F S16384x1024 .f32) (main_arg4 : FVec F S16384x1024 .f32) (main_arg5 : FVec F S16384x1024 .f32) : IVec S16384x1024 1 × IVec S8x1x128 1 × IVec S8x1x128 1 :=
  let main_v0 : FVec F S16384x1024 .f32 := (extractStridedSlice S16384x1024 ![0, 2048] · slices_S16384x5120_S16384x1024_0_2048) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_cst_0 : FVec F S_ .f32 := constant S_ .f32 0x00000000#32
  let main_v4 : FVec F S8x1x128 .f32 := broadcastInDim S8x1x128 ![] bcast_S_S8x1x128 main_cst_0
  let main_v5 : IVec S8x1x128 1 := cmpf .oge main_arg1 main_v4
  let main_cst_1 : FVec F S_ .f32 := constant S_ .f32 0x3F800000#32
  let main_v6 : FVec F S8x1x128 .f32 := broadcastInDim S8x1x128 ![] bcast_S_S8x1x128 main_cst_1
  let main_v7 : IVec S8x1x128 1 := cmpf .ole main_arg1 main_v6
  (main_v3, main_v5, main_v7)
-- ==== Pre_finite_logits.lean ====
abbrev S4x256 : Shape := ⟨2, ![4, 256]⟩
abbrev S2x256 : Shape := ⟨2, ![2, 256]⟩
abbrev S_ : Shape := ⟨0, ![]⟩

class Facts : Prop where
  bcast_S_S4x256 : S_.BroadcastsInDim S4x256 (![] : Fin 0 → Fin S4x256.rank)
  bcast_S_S2x256 : S_.BroadcastsInDim S2x256 (![] : Fin 0 → Fin S2x256.rank)

variable [Facts]

def fn {F : FTy → Type} [FloatOps F] (main_arg0 : FVec F S4x256 .f32) (main_arg1 : FVec F S2x256 .f32) : IVec S4x256 1 × IVec S2x256 1 :=
  let main_v0 : FVec F S4x256 .f32 := Host.absf main_arg0
  let main_cst : FVec F S_ .f32 := constant S_ .f32 0x7F800000#32
  let main_v1 : FVec F S4x256 .f32 := broadcastInDim S4x256 ![] bcast_S_S4x256 main_cst
  let main_v2 : IVec S4x256 1 := cmpf .olt main_v0 main_v1
  let main_v3 : FVec F S2x256 .f32 := Host.absf main_arg1
  let main_cst_0 : FVec F S_ .f32 := constant S_ .f32 0x7F800000#32
  let main_v4 : FVec F S2x256 .f32 := broadcastInDim S2x256 ![] bcast_S_S2x256 main_cst_0
  let main_v5 : IVec S2x256 1 := cmpf .olt main_v3 main_v4
  (main_v2, main_v5)
-- ==== Pre_finite_norm_grads.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  bcast_S_S1024x5632 : S_.BroadcastsInDim S1024x5632 (![] : Fin 0 → Fin S1024x5632.rank)
  bcast_S_S16384x1024 : S_.BroadcastsInDim S16384x1024 (![] : Fin 0 → Fin S16384x1024.rank)
  bcast_S_S1x1024 : S_.BroadcastsInDim S1x1024 (![] : Fin 0 → Fin S1x1024.rank)

variable [Facts]

def fn {F : FTy → Type} [FloatOps F] (main_arg0 : FVec F S16384x2816 .bf16) (main_arg1 : FVec F S16384x2816 .bf16) (main_arg2 : FVec F S1024x5632 .bf16) (main_arg3 : FVec F S16384x1024 .f32) (main_arg4 : FVec F S16384x1024 .f32) (main_arg5 : FVec F S1x1024 .f32) : IVec S16384x2816 1 × IVec S16384x2816 1 × IVec S1024x5632 1 × IVec S16384x1024 1 × IVec S1x1024 1 :=
  let main_v0 : FVec F S16384x2816 .f32 := (extf .f32 · bitsLt_bf16_f32) main_arg0
  let main_v1 : FVec F S16384x2816 .f32 := (extf .f32 · bitsLt_bf16_f32) main_arg1
  let main_v2 : FVec F S1024x5632 .f32 := (extf .f32 · bitsLt_bf16_f32) main_arg2
  let main_v3 : FVec F S16384x2816 .f32 := Host.absf main_v0
  let main_cst : FVec F S_ .f32 := constant S_ .f32 0x7F800000#32
  let main_v4 : FVec F S16384x2816 .f32 := broadcastInDim S16384x2816 ![] bcast_S_S16384x2816 main_cst
  let main_v5 : IVec S16384x2816 1 := cmpf .olt main_v3 main_v4
  let main_v6 : FVec F S16384x2816 .f32 := Host.absf main_v1
  let main_cst_0 : FVec F S_ .f32 := constant S_ .f32 0x7F800000#32
  let main_v7 : FVec F S16384x2816 .f32 := broadcastInDim S16384x2816 ![] bcast_S_S16384x2816 main_cst_0
  let main_v8 : IVec S16384x2816 1 := cmpf .olt main_v6 main_v7
  let main_v9 : FVec F S1024x5632 .f32 := Host.absf main_v2
  let main_cst_1 : FVec F S_ .f32 := constant S_ .f32 0x7F800000#32
  let main_v10 : FVec F S1024x5632 .f32 := broadcastInDim S1024x5632 ![] bcast_S_S1024x5632 main_cst_1
  let main_v11 : IVec S1024x5632 1 := cmpf .olt main_v9 main_v10
  let main_v12 : FVec F S16384x1024 .f32 := Host.absf main_arg3
  let main_cst_2 : FVec F S_ .f32 := constant S_ .f32 0x7F800000#32
  let main_v13 : FVec F S16384x1024 .f32 := broadcastInDim S16384x1024 ![] bcast_S_S16384x1024 main_cst_2
  let main_v14 : IVec S16384x1024 1 := cmpf .olt main_v12 main_v13
  let main_v15 : FVec F S1x1024 .f32 := Host.absf main_arg5
  let main_cst_3 : FVec F S_ .f32 := constant S_ .f32 0x7F800000#32
  let main_v16 : FVec F S1x1024 .f32 := broadcastInDim S1x1024 ![] bcast_S_S1x1024 main_cst_3
  let main_v17 : IVec S1x1024 1 := cmpf .olt main_v15 main_v16
  (main_v5, main_v8, main_v11, main_v14, main_v17)
-- ==== Kernel.lean ====
abbrev S16384x5120 : Shape := ⟨2, ![16384, 5120]⟩
abbrev S8x1x128 : Shape := ⟨3, ![8, 1, 128]⟩
abbrev S8x256x128x128 : Shape := ⟨4, ![8, 256, 128, 128]⟩
abbrev S16384x1024 : Shape := ⟨2, ![16384, 1024]⟩
abbrev S1x1024 : Shape := ⟨2, ![1, 1024]⟩
abbrev S_ : Shape := ⟨0, ![]⟩
abbrev S256x64x8x128 : Shape := ⟨4, ![256, 64, 8, 128]⟩
abbrev S256x8x64x128 : Shape := ⟨4, ![256, 8, 64, 128]⟩
abbrev S256x8x1x128 : Shape := ⟨4, ![256, 8, 1, 128]⟩
abbrev S8x256x1x128 : Shape := ⟨4, ![8, 256, 1, 128]⟩
abbrev S2048x128 : Shape := ⟨2, ![2048, 128]⟩
abbrev S1x1x128 : Shape := ⟨3, ![1, 1, 128]⟩
abbrev S1x32x128x128 : Shape := ⟨4, ![1, 32, 128, 128]⟩
abbrev S1x32x1x128 : Shape := ⟨4, ![1, 32, 1, 128]⟩
abbrev S128x128 : Shape := ⟨2, ![128, 128]⟩
abbrev S64x128 : Shape := ⟨2, ![64, 128]⟩
abbrev S256x64 : Shape := ⟨2, ![256, 64]⟩
abbrev S1x128 : Shape := ⟨2, ![1, 128]⟩
abbrev S1x1x1x128 : Shape := ⟨4, ![1, 1, 1, 128]⟩
abbrev S1x1x128x128 : Shape := ⟨4, ![1, 1, 128, 128]⟩
abbrev S128 : Shape := ⟨1, ![128]⟩
abbrev S256x128 : Shape := ⟨2, ![256, 128]⟩
abbrev S64x64 : Shape := ⟨2, ![64, 64]⟩

abbrev nBuf : Space → Nat
  | .hbm => 64
  | .vmem => 29
  | .smem => 0
  | _ => 0

abbrev bufTy : (tb : Table) → Fin (tcTables nBuf tb) → BufTy
  | .hbm, ⟨0, _⟩ => ⟨S16384x5120, .f32⟩
  | .hbm, ⟨1, _⟩ => ⟨S8x1x128, .f32⟩
  | .hbm, ⟨2, _⟩ => ⟨S8x256x128x128, .bf16⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S256x64x8x128, .f32⟩
  | .hbm, ⟨34, _⟩ => ⟨S256x8x64x128, .f32⟩
  | .hbm, ⟨35, _⟩ => ⟨S_, .f32⟩
  | .hbm, ⟨36, _⟩ => ⟨S_, .f32⟩
  | .hbm, ⟨37, _⟩ => ⟨S256x8x64x128, .f32⟩
  | .hbm, ⟨38, _⟩ => ⟨S256x8x64x128, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S256x64x8x128, .f32⟩
  | .hbm, ⟨51, _⟩ => ⟨S256x8x64x128, .f32⟩
  | .hbm, ⟨52, _⟩ => ⟨S256x8x64x128, .f32⟩
  | .hbm, ⟨53, _⟩ => ⟨S256x64x8x128, .f32⟩
  | .hbm, ⟨54, _⟩ => ⟨S16384x1024, .f32⟩
  | .hbm, ⟨55, _⟩ => ⟨S16384x1024, .f32⟩
  | .hbm, ⟨56, _⟩ => ⟨S16384x1024, .bf16⟩
  | .hbm, ⟨57, _⟩ => ⟨S256x8x1x128, .f32⟩
  | .hbm, ⟨58, _⟩ => ⟨S256x8x1x128, .f32⟩
  | .hbm, ⟨59, _⟩ => ⟨S8x256x1x128, .f32⟩
  | .hbm, ⟨60, _⟩ => ⟨S16384x1024, .bf16⟩
  | .hbm, ⟨61, _⟩ => ⟨S16384x1024, .bf16⟩
  | .hbm, ⟨62, _⟩ => ⟨S16384x1024, .bf16⟩
  | .hbm, ⟨63, _⟩ => ⟨S8x1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x1x128, .f32⟩
  | .local _ .vmem, ⟨7, _⟩ => ⟨S1x1x128, .f32⟩
  | .local _ .vmem, ⟨8, _⟩ => ⟨S1x32x128x128, .bf16⟩
  | .local _ .vmem, ⟨9, _⟩ => ⟨S1x32x128x128, .bf16⟩
  | .local _ .vmem, ⟨10, _⟩ => ⟨S2048x128, .bf16⟩
  | .local _ .vmem, ⟨11, _⟩ => ⟨S2048x128, .bf16⟩
  | .local _ .vmem, ⟨12, _⟩ => ⟨S1x32x1x128, .f32⟩
  | .local _ .vmem, ⟨13, _⟩ => ⟨S1x32x1x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S1x1x128, .f32⟩
  | .local _ .vmem, ⟨27, _⟩ => ⟨S1x1x128, .f32⟩
  | .local _ .vmem, ⟨28, _⟩ => ⟨S128x128, .f32⟩
  | _, _ => ⟨S16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_call0_cst : Ref sig .tc := ⟨.hbm, 35, rfl⟩
abbrev main_call1_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call2_v0 : Ref sig .tc := ⟨.hbm, 40, rfl⟩
abbrev main_call2_v1 : Ref sig .tc := ⟨.hbm, 41, rfl⟩
abbrev main_call2_cst : Ref sig .tc := ⟨.hbm, 42, rfl⟩
abbrev main_call2_v2 : Ref sig .tc := ⟨.hbm, 43, rfl⟩
abbrev main_call2_v3 : Ref sig .tc := ⟨.hbm, 44, rfl⟩
abbrev main_call2_cst_0 : Ref sig .tc := ⟨.hbm, 45, rfl⟩
abbrev main_call2_v4 : Ref sig .tc := ⟨.hbm, 46, rfl⟩
abbrev main_call2_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39_0 : Ref sig .tc := ⟨.hbm, 60, rfl⟩
abbrev main_v39_1 : Ref sig .tc := ⟨.hbm, 61, rfl⟩
abbrev main_v39_2 : Ref sig .tc := ⟨.hbm, 62, rfl⟩
abbrev main_v39_3 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c0_i32_5169 : BitVec 32 := 0#32
  let v14872 : BitVec 1 := Scalar.cmpi .eq arg1 c0_i32_5169
  let v14873 : BitVec 32 := Scalar.extui v14872
  let c0_i32_5170 : BitVec 32 := 0#32
  let v14874 : BitVec 1 := Scalar.cmpi .ne v14873 c0_i32_5170
  v14874

def k0_cond3 (i : grid0.Coords) : BitVec 1 :=
  let arg1 : BitVec 32 := BitVec.ofNat 32 (i 1).val
  let c0_i32_5171 : BitVec 32 := 0#32
  let v14875 : BitVec 1 := Scalar.cmpi .sgt arg1 c0_i32_5171
  let v14876 : BitVec 32 := Scalar.extui v14875
  let c0_i32_5172 : BitVec 32 := 0#32
  let v14877 : BitVec 1 := Scalar.cmpi .ne v14876 c0_i32_5172
  v14877

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S16384x5120 : Shape := ⟨2, ![16384, 5120]⟩
abbrev S8x1x128 : Shape := ⟨3, ![8, 1, 128]⟩
abbrev S8x256x128x128 : Shape := ⟨4, ![8, 256, 128, 128]⟩
abbrev S16384x1024 : Shape := ⟨2, ![16384, 1024]⟩
abbrev S1x1024 : Shape := ⟨2, ![1, 1024]⟩
abbrev S_ : Shape := ⟨0, ![]⟩
abbrev S256x64x8x128 : Shape := ⟨4, ![256, 64, 8, 128]⟩
abbrev S256x8x64x128 : Shape := ⟨4, ![256, 8, 64, 128]⟩
abbrev S64x64 : Shape := ⟨2, ![64, 64]⟩
abbrev S256x8x64x1x128 : Shape := ⟨5, ![256, 8, 64, 1, 128]⟩
abbrev S256x8x1x64x128 : Shape := ⟨5, ![256, 8, 1, 64, 128]⟩
abbrev S256x8x64x64x128 : Shape := ⟨5, ![256, 8, 64, 64, 128]⟩
abbrev S64x64x1 : Shape := ⟨3, ![64, 64, 1]⟩
abbrev S256x8x64x64 : Shape := ⟨4, ![256, 8, 64, 64]⟩
abbrev S256x8x1x128 : Shape := ⟨4, ![256, 8, 1, 128]⟩
abbrev S8x128x128 : Shape := ⟨3, ![8, 128, 128]⟩
abbrev S256x8x128x64 : Shape := ⟨4, ![256, 8, 128, 64]⟩
abbrev S256x8x128 : Shape := ⟨3, ![256, 8, 128]⟩
abbrev S256x8x128x1 : Shape := ⟨4, ![256, 8, 128, 1]⟩
abbrev S1x8x64x128 : Shape := ⟨4, ![1, 8, 64, 128]⟩
abbrev S8x64x128 : Shape := ⟨3, ![8, 64, 128]⟩
abbrev S1x8x128x1 : Shape := ⟨4, ![1, 8, 128, 1]⟩
abbrev S8x128x1 : Shape := ⟨3, ![8, 128, 1]⟩
abbrev S1x8x128x64 : Shape := ⟨4, ![1, 8, 128, 64]⟩
abbrev S8x128x64 : Shape := ⟨3, ![8, 128, 64]⟩
abbrev S1x8x64x64 : Shape := ⟨4, ![1, 8, 64, 64]⟩
abbrev S8x64x64 : Shape := ⟨3, ![8, 64, 64]⟩

abbrev nBuf : Space → Nat
  | .hbm => 167
  | .vmem => 0
  | .smem => 0
  | _ => 0

abbrev hbmTy0_0 (i : Nat) : BufTy := match i % 128 with
  | 0 => ⟨S16384x5120, .f32⟩
  | 1 => ⟨S8x1x128, .f32⟩
  | 2 => ⟨S8x256x128x128, .bf16⟩
  | 3 => ⟨S16384x1024, .f32⟩
  | 4 => ⟨S16384x1024, .f32⟩
  | 5 => ⟨S16384x1024, .f32⟩
  | 6 => ⟨S16384x1024, .f32⟩
  | 7 => ⟨S1x1024, .f32⟩
  | 8 => ⟨S16384x1024, .f32⟩
  | 9 => ⟨S16384x1024, .f32⟩
  | 10 => ⟨S_, .f32⟩
  | 11 => ⟨S16384x1024, .f32⟩
  | 12 => ⟨S16384x1024, .f32⟩
  | 13 => ⟨S_, .f32⟩
  | 14 => ⟨S16384x1024, .f32⟩
  | 15 => ⟨S16384x1024, .f32⟩
  | 16 => ⟨S_, .f32⟩
  | 17 => ⟨S1x1024, .f32⟩
  | 18 => ⟨S1x1024, .f32⟩
  | 19 => ⟨S16384x1024, .f32⟩
  | 20 => ⟨S16384x1024, .f32⟩
  | 21 => ⟨S16384x1024, .f32⟩
  | 22 => ⟨S16384x1024, .f32⟩
  | 23 => ⟨S16384x1024, .f32⟩
  | 24 => ⟨S_, .f32⟩
  | 25 => ⟨S1x1024, .f32⟩
  | 26 => ⟨S1x1024, .f32⟩
  | 27 => ⟨S_, .f32⟩
  | 28 => ⟨S16384x1024, .f32⟩
  | 29 => ⟨S16384x1024, .f32⟩
  | 30 => ⟨S16384x1024, .f32⟩
  | 31 => ⟨S16384x1024, .f32⟩
  | 32 => ⟨S16384x1024, .f32⟩
  | 33 => ⟨S16384x1024, .f32⟩
  | 34 => ⟨S16384x1024, .f32⟩
  | 35 => ⟨S_, .f32⟩
  | 36 => ⟨S16384x1024, .f32⟩
  | 37 => ⟨S16384x1024, .f32⟩
  | 38 => ⟨S_, .f32⟩
  | 39 => ⟨S16384x1024, .f32⟩
  | 40 => ⟨S16384x1024, .f32⟩
  | 41 => ⟨S16384x1024, .f32⟩
  | 42 => ⟨S16384x1024, .f32⟩
  | 43 => ⟨S256x64x8x128, .f32⟩
  | 44 => ⟨S256x8x64x128, .f32⟩
  | 45 => ⟨S16384x1024, .f32⟩
  | 46 => ⟨S256x64x8x128, .f32⟩
  | 47 => ⟨S256x8x64x128, .f32⟩
  | 48 => ⟨S16384x1024, .f32⟩
  | 49 => ⟨S256x64x8x128, .f32⟩
  | 50 => ⟨S256x8x64x128, .f32⟩
  | 51 => ⟨S_, .i1⟩
  | 52 => ⟨S64x64, .i1⟩
  | 53 => ⟨S64x64, .i32⟩
  | 54 => ⟨S_, .i32⟩
  | 55 => ⟨S64x64, .i32⟩
  | 56 => ⟨S64x64, .i32⟩
  | 57 => ⟨S64x64, .i32⟩
  | 58 => ⟨S64x64, .i1⟩
  | 59 => ⟨S_, .i1⟩
  | 60 => ⟨S64x64, .i1⟩
  | 61 => ⟨S64x64, .i1⟩
  | 62 => ⟨S_, .f32⟩
  | 63 => ⟨S_, .f32⟩
  | 64 => ⟨S256x8x64x128, .f32⟩
  | 65 => ⟨S256x8x64x1x128, .f32⟩
  | 66 => ⟨S256x8x1x64x128, .f32⟩
  | 67 => ⟨S256x8x64x64x128, .f32⟩
  | 68 => ⟨S256x8x64x64x128, .f32⟩
  | 69 => ⟨S256x8x64x64x128, .f32⟩
  | 70 => ⟨S64x64x1, .i1⟩
  | 71 => ⟨S_, .f32⟩
  | 72 => ⟨S_, .f32⟩
  | 73 => ⟨S256x8x64x64x128, .i1⟩
  | 74 => ⟨S256x8x64x64x128, .f32⟩
  | 75 => ⟨S256x8x64x64x128, .f32⟩
  | 76 => ⟨S256x8x64x64x128, .f32⟩
  | 77 => ⟨S256x8x64x1x128, .f32⟩
  | 78 => ⟨S256x8x1x64x128, .f32⟩
  | 79 => ⟨S256x8x64x64x128, .f32⟩
  | 80 => ⟨S256x8x64x64x128, .f32⟩
  | 81 => ⟨S256x8x64x64x128, .f32⟩
  | 82 => ⟨S256x8x64x64x128, .f32⟩
  | 83 => ⟨S_, .f32⟩
  | 84 => ⟨S256x8x64x64, .f32⟩
  | 85 => ⟨S256x8x1x128, .f32⟩
  | 86 => ⟨S_, .f32⟩
  | 87 => ⟨S8x128x128, .f32⟩
  | 88 => ⟨S256x8x64x128, .f32⟩
  | 89 => ⟨S256x8x64x128, .f32⟩
  | 90 => ⟨S256x8x64x128, .f32⟩
  | 91 => ⟨S256x8x64x128, .f32⟩
  | 92 => ⟨S256x8x64x128, .f32⟩
  | 93 => ⟨S256x8x64x128, .f32⟩
  | 94 => ⟨S256x8x128x64, .f32⟩
  | 95 => ⟨S256x8x128, .f32⟩
  | 96 => ⟨S256x8x128, .f32⟩
  | 97 => ⟨S256x8x128x1, .f32⟩
  | 98 => ⟨S16384x1024, .f32⟩
  | 99 => ⟨S256x64x8x128, .f32⟩
  | 100 => ⟨S256x8x64x128, .f32⟩
  | 101 => ⟨S_, .f32⟩
  | 102 => ⟨S8x128x128, .f32⟩
  | 103 => ⟨S_, .f32⟩
  | 104 => ⟨S256x8x64x128, .f32⟩
  | 105 => ⟨S_, .i32⟩
  | 106 => ⟨S256x8x64x128, .f32⟩
  | 107 => ⟨S256x8x128x1, .f32⟩
  | 108 => ⟨S256x8x128x64, .f32⟩
  | 109 => ⟨S256x8x64x128, .f32⟩
  | 110 => ⟨S256x8x64x64, .f32⟩
  | 111 => ⟨S_, .i32⟩
  | 112 => ⟨S8x128x128, .f32⟩
  | 113 => ⟨S256x8x64x128, .f32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S1x8x64x128, .f32⟩
  | 124 => ⟨S8x64x128, .f32⟩
  | 125 => ⟨S_, .i32⟩
  | 126 => ⟨S_, .i32⟩
  | 127 => ⟨S_, .i32⟩
  | _ => ⟨S16384x5120, .f32⟩

abbrev hbmTy0_1 (i : Nat) : BufTy := match i % 128 with
  | 0 => ⟨S1x8x128x1, .f32⟩
  | 1 => ⟨S8x128x1, .f32⟩
  | 2 => ⟨S_, .i32⟩
  | 3 => ⟨S_, .i32⟩
  | 4 => ⟨S_, .i32⟩
  | 5 => ⟨S1x8x128x64, .f32⟩
  | 6 => ⟨S8x128x64, .f32⟩
  | 7 => ⟨S_, .i32⟩
  | 8 => ⟨S_, .i32⟩
  | 9 => ⟨S_, .i32⟩
  | 10 => ⟨S1x8x64x128, .f32⟩
  | 11 => ⟨S8x64x128, .f32⟩
  | 12 => ⟨S_, .i32⟩
  | 13 => ⟨S_, .i32⟩
  | 14 => ⟨S_, .i32⟩
  | 15 => ⟨S1x8x64x64, .f32⟩
  | 16 => ⟨S8x64x64, .f32⟩
  | 17 => ⟨S8x128x64, .f32⟩
  | 18 => ⟨S8x64x128, .f32⟩
  | 19 => ⟨S8x128x128, .f32⟩
  | 20 => ⟨S8x128x128, .f32⟩
  | 21 => ⟨S8x128x64, .f32⟩
  | 22 => ⟨S8x64x128, .f32⟩
  | 23 => ⟨S8x64x128, .f32⟩
  | 24 => ⟨S8x128x128, .f32⟩
  | 25 => ⟨S8x128x128, .f32⟩
  | 26 => ⟨S8x128x128, .f32⟩
  | 27 => ⟨S1x8x64x128, .f32⟩
  | 28 => ⟨S_, .i32⟩
  | 29 => ⟨S_, .i32⟩
  | 30 => ⟨S_, .i32⟩
  | 31 => ⟨S256x8x64x128, .f32⟩
  | 32 => ⟨S_, .i32⟩
  | 33 => ⟨S_, .i32⟩
  | 34 => ⟨S256x64x8x128, .f32⟩
  | 35 => ⟨S16384x1024, .f32⟩
  | 36 => ⟨S16384x1024, .f32⟩
  | 37 => ⟨S16384x1024, .f32⟩
  | 38 => ⟨S16384x1024, .bf16⟩
  | _ => ⟨S16384x5120, .f32⟩

abbrev hbmTy (i : Nat) : BufTy := match i / 128 with
  | 0 => hbmTy0_0 i
  | 1 => hbmTy0_1 i
  | _ => ⟨S16384x5120, .f32⟩

abbrev bufTy : (tb : Table) → Fin (tcTables nBuf tb) → BufTy
  | .hbm, ⟨i, _⟩ => hbmTy i
  | _, _ => ⟨S16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c : Ref sig .tc := ⟨.hbm, 51, rfl⟩
abbrev main_v32 : Ref sig .tc := ⟨.hbm, 52, rfl⟩
abbrev main_call5_v0 : Ref sig .tc := ⟨.hbm, 53, rfl⟩
abbrev main_call5_c : Ref sig .tc := ⟨.hbm, 54, rfl⟩
abbrev main_call5_v1 : Ref sig .tc := ⟨.hbm, 55, rfl⟩
abbrev main_call5_v2 : Ref sig .tc := ⟨.hbm, 56, rfl⟩
abbrev main_call5_v3 : Ref sig .tc := ⟨.hbm, 57, rfl⟩
abbrev main_call5_v4 : Ref sig .tc := ⟨.hbm, 58, rfl⟩
abbrev main_call5_c_0 : Ref sig .tc := ⟨.hbm, 59, rfl⟩
abbrev main_call5_v5 : Ref sig .tc := ⟨.hbm, 60, rfl⟩
abbrev main_v33 : Ref sig .tc := ⟨.hbm, 61, rfl⟩
abbrev main_call6_call0_cst : Ref sig .tc := ⟨.hbm, 62, rfl⟩
abbrev main_call6_call0_v0 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_4 : Ref sig .tc := ⟨.hbm, 71, rfl⟩
abbrev main_call7_v0 : Ref sig .tc := ⟨.hbm, 72, rfl⟩
abbrev main_call7_v1 : Ref sig .tc := ⟨.hbm, 73, rfl⟩
abbrev main_call7_v2 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_5 : Ref sig .tc := ⟨.hbm, 83, rfl⟩
abbrev main_v49 : Ref sig .tc := ⟨.hbm, 84, rfl⟩
abbrev main_v50 : Ref sig .tc := ⟨.hbm, 85, rfl⟩
abbrev main_cst_6 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_7 : Ref sig .tc := ⟨.hbm, 101, rfl⟩
abbrev main_v65 : Ref sig .tc := ⟨.hbm, 102, rfl⟩
abbrev main_cst_8 : Ref sig .tc := ⟨.hbm, 103, rfl⟩
abbrev main_v66 : Ref sig .tc := ⟨.hbm, 104, rfl⟩
abbrev main_c_9 : Ref sig .tc := ⟨.hbm, 105, rfl⟩
abbrev main_v67_0 : Ref sig .tc := ⟨.hbm, 106, rfl⟩
abbrev main_v67_1 : Ref sig .tc := ⟨.hbm, 107, rfl⟩
abbrev main_v67_2 : Ref sig .tc := ⟨.hbm, 108, rfl⟩
abbrev main_v67_3 : Ref sig .tc := ⟨.hbm, 109, rfl⟩
abbrev main_v67_4 : Ref sig .tc := ⟨.hbm, 110, rfl⟩
abbrev main_v67_5 : Ref sig .tc := ⟨.hbm, 111, rfl⟩
abbrev main_v67_6 : Ref sig .tc := ⟨.hbm, 112, rfl⟩
abbrev main_v67_7 : Ref sig .tc := ⟨.hbm, 113, rfl⟩
abbrev main_while0c_c_17 : Ref sig .tc := ⟨.hbm, 114, rfl⟩
abbrev main_while0c_v73 : Ref sig .tc := ⟨.hbm, 115, rfl⟩
abbrev main_while0b_c_17 : Ref sig .tc := ⟨.hbm, 116, rfl⟩
abbrev main_while0b_v73 : Ref sig .tc := ⟨.hbm, 117, rfl⟩
abbrev main_while0b_c_18 : Ref sig .tc := ⟨.hbm, 118, rfl⟩
abbrev main_while0b_v74 : Ref sig .tc := ⟨.hbm, 119, rfl⟩
abbrev main_while0b_call10_c : Ref sig .tc := ⟨.hbm, 120, rfl⟩
abbrev main_while0b_call10_c_0 : Ref sig .tc := ⟨.hbm, 121, rfl⟩
abbrev main_while0b_call10_c_1 : Ref sig .tc := ⟨.hbm, 122, rfl⟩
abbrev main_while0b_call10_v0 : Ref sig .tc := ⟨.hbm, 123, rfl⟩
abbrev main_while0b_v75 : Ref sig .tc := ⟨.hbm, 124, rfl⟩
abbrev main_while0b_call11_c : Ref sig .tc := ⟨.hbm, 125, rfl⟩
abbrev main_while0b_call11_c_0 : Ref sig .tc := ⟨.hbm, 126, rfl⟩
abbrev main_while0b_call11_c_1 : Ref sig .tc := ⟨.hbm, 127, rfl⟩
abbrev main_while0b_call11_v0 : Ref sig .tc := ⟨.hbm, 128, rfl⟩
abbrev main_while0b_v76 : Ref sig .tc := ⟨.hbm, 129, rfl⟩
abbrev main_while0b_call12_c : Ref sig .tc := ⟨.hbm, 130, rfl⟩
abbrev main_while0b_call12_c_0 : Ref sig .tc := ⟨.hbm, 131, rfl⟩
abbrev main_while0b_call12_c_1 : Ref sig .tc := ⟨.hbm, 132, rfl⟩
abbrev main_while0b_call12_v0 : Ref sig .tc := ⟨.hbm, 133, rfl⟩
abbrev main_while0b_v77 : Ref sig .tc := ⟨.hbm, 134, rfl⟩
abbrev main_while0b_call13_c : Ref sig .tc := ⟨.hbm, 135, rfl⟩
abbrev main_while0b_call13_c_0 : Ref sig .tc := ⟨.hbm, 136, rfl⟩
abbrev main_while0b_call13_c_1 : Ref sig .tc := ⟨.hbm, 137, rfl⟩
abbrev main_while0b_call13_v0 : Ref sig .tc := ⟨.hbm, 138, rfl⟩
abbrev main_while0b_v78 : Ref sig .tc := ⟨.hbm, 139, rfl⟩
abbrev main_while0b_call14_c : Ref sig .tc := ⟨.hbm, 140, rfl⟩
abbrev main_while0b_call14_c_0 : Ref sig .tc := ⟨.hbm, 141, rfl⟩
abbrev main_while0b_call14_c_1 : Ref sig .tc := ⟨.hbm, 142, rfl⟩
abbrev main_while0b_call14_v0 : Ref sig .tc := ⟨.hbm, 143, rfl⟩
abbrev main_while0b_v79 : Ref sig .tc := ⟨.hbm, 144, rfl⟩
abbrev main_while0b_v80 : Ref sig .tc := ⟨.hbm, 145, rfl⟩
abbrev main_while0b_v81 : Ref sig .tc := ⟨.hbm, 146, rfl⟩
abbrev main_while0b_v82 : Ref sig .tc := ⟨.hbm, 147, rfl⟩
abbrev main_while0b_v83 : Ref sig .tc := ⟨.hbm, 148, rfl⟩
abbrev main_while0b_v84 : Ref sig .tc := ⟨.hbm, 149, rfl⟩
abbrev main_while0b_v85 : Ref sig .tc := ⟨.hbm, 150, rfl⟩
abbrev main_while0b_v86 : Ref sig .tc := ⟨.hbm, 151, rfl⟩
abbrev main_while0b_v87 : Ref sig .tc := ⟨.hbm, 152, rfl⟩
abbrev main_while0b_v88 : Ref sig .tc := ⟨.hbm, 153, rfl⟩
abbrev main_while0b_v89 : Ref sig .tc := ⟨.hbm, 154, rfl⟩
abbrev main_while0b_call15_v0 : Ref sig .tc := ⟨.hbm, 155, rfl⟩
abbrev main_while0b_call15_c : Ref sig .tc := ⟨.hbm, 156, rfl⟩
abbrev main_while0b_call15_c_0 : Ref sig .tc := ⟨.hbm, 157, rfl⟩
abbrev main_while0b_call15_c_1 : Ref sig .tc := ⟨.hbm, 158, rfl⟩
abbrev main_while0b_v90 : Ref sig .tc := ⟨.hbm, 159, rfl⟩
abbrev main_while0b_c_19 : Ref sig .tc := ⟨.hbm, 160, rfl⟩
abbrev main_while0b_v91 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩

abbrev nD : Nat := 1
abbrev τ : Topo := Topo.v7x

variable {F : FTy → Type} [FloatOps F]

abbrev main_while0_count : Scf.Loop 32 := ⟨0#32, 256#32, 1#32⟩
-- ==== Kernel2.lean ====
abbrev S16384x1024 : Shape := ⟨2, ![16384, 1024]⟩
abbrev S16384x2816 : Shape := ⟨2, ![16384, 2816]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S16384x2816, .bf16⟩
  | .hbm, ⟨3, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 8], ![false, false, false]⟩

def k0_cond7 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg1 c2_i32
  let c4_i32 : BitVec 32 := 4#32
  let v1 : BitVec 1 := Scalar.cmpi .slt arg1 c4_i32
  let v2 : BitVec 1 := Scalar.andi v0 v1
  let c0_i32 : BitVec 32 := 0#32
  let v3 : BitVec 32 := Scalar.select v2 arg2 c0_i32
  let c2_i32_0 : BitVec 32 := 2#32
  let v4 : BitVec 32 := Scalar.subi arg1 c2_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S16384x1024 : Shape := ⟨2, ![16384, 1024]⟩
abbrev S16384x2816 : Shape := ⟨2, ![16384, 2816]⟩
abbrev S16384x5632 : Shape := ⟨2, ![16384, 5632]⟩
abbrev S5632x1024 : Shape := ⟨2, ![5632, 1024]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S16384x2816, .bf16⟩
  | .hbm, ⟨3, _⟩ => ⟨S16384x5632, .bf16⟩
  | .hbm, ⟨4, _⟩ => ⟨S16384x5632, .f32⟩
  | .hbm, ⟨5, _⟩ => ⟨S16384x1024, .f32⟩
  | .hbm, ⟨6, _⟩ => ⟨S5632x1024, .f32⟩
  | .hbm, ⟨7, _⟩ => ⟨S1024x5632, .f32⟩
  | .hbm, ⟨8, _⟩ => ⟨S1024x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S16384x1024 : Shape := ⟨2, ![16384, 1024]⟩
abbrev S1024x5632 : Shape := ⟨2, ![1024, 5632]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S256x1024 : Shape := ⟨2, ![256, 1024]⟩
abbrev S256x1408 : Shape := ⟨2, ![256, 1408]⟩

abbrev nBuf : Space → Nat
  | .hbm => 5
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x2816, .bf16⟩
  | .hbm, ⟨3, _⟩ => ⟨S16384x2816, .bf16⟩
  | .hbm, ⟨4, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | .hbm, ⟨5, _⟩ => ⟨S16384x2816, .f32⟩
  | .hbm, ⟨6, _⟩ => ⟨S16384x2816, .f32⟩
  | .hbm, ⟨7, _⟩ => ⟨S16384x2816, .bf16⟩
  | .hbm, ⟨8, _⟩ => ⟨S16384x2816, .bf16⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel4.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x2816 : Shape := ⟨2, ![16384, 2816]⟩
abbrev S16384x1024 : Shape := ⟨2, ![16384, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S16384x1024 : Shape := ⟨2, ![16384, 1024]⟩
abbrev S1024x5120 : Shape := ⟨2, ![1024, 5120]⟩
abbrev S16384x5120 : Shape := ⟨2, ![16384, 5120]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5120, .bf16⟩
  | .hbm, ⟨2, _⟩ => ⟨S16384x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S1024x5120 : Shape := ⟨2, ![1024, 5120]⟩
abbrev S16384x5120 : Shape := ⟨2, ![16384, 5120]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5120, .bf16⟩
  | .hbm, ⟨2, _⟩ => ⟨S16384x1024, .f32⟩
  | .hbm, ⟨3, _⟩ => ⟨S1024x5120, .f32⟩
  | .hbm, ⟨4, _⟩ => ⟨S16384x5120, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S16384x1024 : Shape := ⟨2, ![16384, 1024]⟩
abbrev S1024x5120 : Shape := ⟨2, ![1024, 5120]⟩
abbrev S512x1024 : Shape := ⟨2, ![512, 1024]⟩
abbrev S256x1024 : Shape := ⟨2, ![256, 1024]⟩
abbrev S1024x1024 : Shape := ⟨2, ![1024, 1024]⟩

abbrev nBuf : Space → Nat
  | .hbm => 8
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S1024x5120, .bf16⟩
  | .hbm, ⟨6, _⟩ => ⟨S16384x1024, .f32⟩
  | .hbm, ⟨7, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x5120, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S16384x1024 : Shape := ⟨2, ![16384, 1024]⟩
abbrev S1024x5120 : Shape := ⟨2, ![1024, 5120]⟩
abbrev S16384x5120 : Shape := ⟨2, ![16384, 5120]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S1024x5120, .bf16⟩
  | .hbm, ⟨6, _⟩ => ⟨S16384x1024, .f32⟩
  | .hbm, ⟨7, _⟩ => ⟨S16384x5120, .bf16⟩
  | .hbm, ⟨8, _⟩ => ⟨S16384x5120, .f32⟩
  | .hbm, ⟨9, _⟩ => ⟨S1024x5120, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]
-- ==== Kernel7.lean ====
abbrev S16384x1024 : Shape := ⟨2, ![16384, 1024]⟩
abbrev S1024x5120 : Shape := ⟨2, ![1024, 5120]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 7
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S1024x5120, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![1, 10, 8], ![false, false, false]⟩

def k0_cond16 (i : grid0.Coords) : BitVec 1 :=
  let arg2 : BitVec 32 := BitVec.ofNat 32 (i 2).val
  let c7_i32 : BitVec 32 := 7#32
  let v25 : BitVec 1 := Scalar.cmpi .eq arg2 c7_i32
  let v26 : BitVec 32 := Scalar.extui v25
  let c0_i32_9 : BitVec 32 := 0#32
  let v27 : BitVec 1 := Scalar.cmpi .ne v26 c0_i32_9
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg1 c2_i32
  let c4_i32 : BitVec 32 := 4#32
  let v1 : BitVec 1 := Scalar.cmpi .slt arg1 c4_i32
  let v2 : BitVec 1 := Scalar.andi v0 v1
  let c0_i32 : BitVec 32 := 0#32
  let v3 : BitVec 32 := Scalar.select v2 arg2 c0_i32
  let c2_i32_0 : BitVec 32 := 2#32
  let v4 : BitVec 32 := Scalar.subi arg1 c2_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg1 c4_i32
  let c6_i32 : BitVec 32 := 6#32
  let v1 : BitVec 1 := Scalar.cmpi .slt arg1 c6_i32
  let v2 : BitVec 1 := Scalar.andi v0 v1
  let c0_i32 : BitVec 32 := 0#32
  let v3 : BitVec 32 := Scalar.select v2 arg2 c0_i32
  let c4_i32_0 : BitVec 32 := 4#32
  let v4 : BitVec 32 := Scalar.subi arg1 c4_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 1 := Scalar.cmpi .sge arg1 c6_i32
  let c8_i32 : BitVec 32 := 8#32
  let v1 : BitVec 1 := Scalar.cmpi .slt arg1 c8_i32
  let v2 : BitVec 1 := Scalar.andi v0 v1
  let c0_i32 : BitVec 32 := 0#32
  let v3 : BitVec 32 := Scalar.select v2 arg2 c0_i32
  let c6_i32_0 : BitVec 32 := 6#32
  let v4 : BitVec 32 := Scalar.subi arg1 c6_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .sge arg1 c8_i32
  let c10_i32 : BitVec 32 := 10#32
  let v1 : BitVec 1 := Scalar.cmpi .slt arg1 c10_i32
  let v2 : BitVec 1 := Scalar.andi v0 v1
  let c0_i32 : BitVec 32 := 0#32
  let v3 : BitVec 32 := Scalar.select v2 arg2 c0_i32
  let c8_i32_0 : BitVec 32 := 8#32
  let v4 : BitVec 32 := Scalar.subi arg1 c8_i32_0
  let c0_i32_1 : BitVec 32 := 0#32
  let c1_i32 : BitVec 32 := 1#32
  let v5 : BitVec 32 := Scalar.maxsi c0_i32_1 v4
  let v6 : BitVec 32 := Scalar.minsi c1_i32 v5
  let c0_i32_2 : BitVec 32 := 0#32
  ![v3.toNat, v6.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference7Ideal.lean ====
abbrev S16384x1024 : Shape := ⟨2, ![16384, 1024]⟩
abbrev S16384x5120 : Shape := ⟨2, ![16384, 5120]⟩
abbrev S5120x1024 : Shape := ⟨2, ![5120, 1024]⟩
abbrev S1024x5120 : Shape := ⟨2, ![1024, 5120]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .f32⟩
  | .hbm, ⟨7, _⟩ => ⟨S16384x5120, .bf16⟩
  | .hbm, ⟨8, _⟩ => ⟨S16384x5120, .f32⟩
  | .hbm, ⟨9, _⟩ => ⟨S5120x1024, .f32⟩
  | .hbm, ⟨10, _⟩ => ⟨S1024x5120, .f32⟩
  | .hbm, ⟨11, _⟩ => ⟨S1024x5120, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Kernel8.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel9.lean ====
abbrev S16384x1024 : Shape := ⟨2, ![16384, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S16384x1024 : Shape := ⟨2, ![16384, 1024]⟩
abbrev S1024x1024 : Shape := ⟨2, ![1024, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S16384x1024 : Shape := ⟨2, ![16384, 1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel11.lean ====
abbrev S16384x1024 : Shape := ⟨2, ![16384, 1024]⟩
abbrev S1024x1536 : Shape := ⟨2, ![1024, 1536]⟩
abbrev S16384x1536 : Shape := ⟨2, ![16384, 1536]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x1536, .bf16⟩
  | .hbm, ⟨2, _⟩ => ⟨S16384x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1024 : Shape := ⟨2, ![16384, 1024]⟩
abbrev S1024x1536 : Shape := ⟨2, ![1024, 1536]⟩
abbrev S16384x1536 : Shape := ⟨2, ![16384, 1536]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1536, .bf16⟩
  | .hbm, ⟨2, _⟩ => ⟨S16384x1024, .f32⟩
  | .hbm, ⟨3, _⟩ => ⟨S1024x1536, .f32⟩
  | .hbm, ⟨4, _⟩ => ⟨S16384x1536, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S16384x1024 : Shape := ⟨2, ![16384, 1024]⟩
abbrev S16384x512 : Shape := ⟨2, ![16384, 512]⟩
abbrev S1024x1536 : Shape := ⟨2, ![1024, 1536]⟩
abbrev S512x1024 : Shape := ⟨2, ![512, 1024]⟩
abbrev S512x512 : Shape := ⟨2, ![512, 512]⟩
abbrev S256x1024 : Shape := ⟨2, ![256, 1024]⟩
abbrev S1024x1024 : Shape := ⟨2, ![1024, 1024]⟩
abbrev S256x512 : Shape := ⟨2, ![256, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1024x1536, .bf16⟩
  | .hbm, ⟨3, _⟩ => ⟨S16384x1024, .f32⟩
  | .hbm, ⟨4, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x1536, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S16384x1024 : Shape := ⟨2, ![16384, 1024]⟩
abbrev S16384x512 : Shape := ⟨2, ![16384, 512]⟩
abbrev S1024x1536 : Shape := ⟨2, ![1024, 1536]⟩
abbrev S16384x1536 : Shape := ⟨2, ![16384, 1536]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1024x1536, .bf16⟩
  | .hbm, ⟨3, _⟩ => ⟨S16384x1024, .f32⟩
  | .hbm, ⟨4, _⟩ => ⟨S16384x1536, .bf16⟩
  | .hbm, ⟨5, _⟩ => ⟨S16384x1536, .f32⟩
  | .hbm, ⟨6, _⟩ => ⟨S1024x1536, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel13.lean ====
abbrev S16384x1024 : Shape := ⟨2, ![16384, 1024]⟩
abbrev S16384x512 : Shape := ⟨2, ![16384, 512]⟩
abbrev S1024x1536 : Shape := ⟨2, ![1024, 1536]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 3, 8], ![false, false, false]⟩

def k0_cond7 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg1 c2_i32
  let c3_i32 : BitVec 32 := 3#32
  let v1 : BitVec 1 := Scalar.cmpi .slt arg1 c3_i32
  let v2 : BitVec 1 := Scalar.andi v0 v1
  let c0_i32 : BitVec 32 := 0#32
  let v3 : BitVec 32 := Scalar.select v2 arg2 c0_i32
  let c2_i32_0 : BitVec 32 := 2#32
  let v4 : BitVec 32 := Scalar.subi arg1 c2_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S16384x1024 : Shape := ⟨2, ![16384, 1024]⟩
abbrev S16384x512 : Shape := ⟨2, ![16384, 512]⟩
abbrev S16384x1536 : Shape := ⟨2, ![16384, 1536]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S16384x1024, .f32⟩
  | .hbm, ⟨4, _⟩ => ⟨S16384x1536, .bf16⟩
  | .hbm, ⟨5, _⟩ => ⟨S16384x1536, .f32⟩
  | .hbm, ⟨6, _⟩ => ⟨S1536x1024, .f32⟩
  | .hbm, ⟨7, _⟩ => ⟨S1024x1536, .f32⟩
  | .hbm, ⟨8, _⟩ => ⟨S1024x1536, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S16384x256 : Shape := ⟨2, ![16384, 256]⟩
abbrev S16384x1024 : Shape := ⟨2, ![16384, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S256x1024, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S16384x256 : Shape := ⟨2, ![16384, 256]⟩
abbrev S16384x1024 : Shape := ⟨2, ![16384, 1024]⟩
abbrev S1024x256 : Shape := ⟨2, ![1024, 256]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S16384x1024, .f32⟩
  | .hbm, ⟨3, _⟩ => ⟨S1024x256, .f32⟩
  | .hbm, ⟨4, _⟩ => ⟨S256x1024, .f32⟩
  | .hbm, ⟨5, _⟩ => ⟨S256x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S16384x256 : Shape := ⟨2, ![16384, 256]⟩
abbrev S1024x1024 : Shape := ⟨2, ![1024, 1024]⟩
abbrev S256x1024 : Shape := ⟨2, ![256, 1024]⟩
abbrev S512x2816 : Shape := ⟨2, ![512, 2816]⟩
abbrev S512x1024 : Shape := ⟨2, ![512, 1024]⟩
abbrev S512x256 : Shape := ⟨2, ![512, 256]⟩
abbrev S256 : Shape := ⟨1, ![256]⟩
abbrev S256x1 : Shape := ⟨2, ![256, 1]⟩
abbrev S256x2816 : Shape := ⟨2, ![256, 2816]⟩
abbrev S256x256 : Shape := ⟨2, ![256, 256]⟩

abbrev nBuf : Space → Nat
  | .hbm => 14
  | .vmem => 21
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x256, .f32⟩
  | .hbm, ⟨8, _⟩ => ⟨S1024x1024, .bf16⟩
  | .hbm, ⟨9, _⟩ => ⟨S256x1024, .bf16⟩
  | .hbm, ⟨10, _⟩ => ⟨S16384x1024, .f32⟩
  | .hbm, ⟨11, _⟩ => ⟨S16384x1024, .bf16⟩
  | .hbm, ⟨12, _⟩ => ⟨S16384x1024, .f32⟩
  | .hbm, ⟨13, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x256, .f32⟩
  | .local _ .vmem, ⟨10, _⟩ => ⟨S512x256, .f32⟩
  | .local _ .vmem, ⟨11, _⟩ => ⟨S1024x1024, .bf16⟩
  | .local _ .vmem, ⟨12, _⟩ => ⟨S256x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference15Ideal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S16384x256 : Shape := ⟨2, ![16384, 256]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩

abbrev nBuf : Space → Nat
  | .hbm => 87
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S16384x256, .f32⟩
  | .hbm, ⟨8, _⟩ => ⟨S1024x1024, .bf16⟩
  | .hbm, ⟨9, _⟩ => ⟨S256x1024, .bf16⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x2816, .f32⟩
  | .hbm, ⟨41, _⟩ => ⟨S2816x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1024x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384x1024, .f32⟩
  | .hbm, ⟨80, _⟩ => ⟨S16384x1024, .f32⟩
  | .hbm, ⟨81, _⟩ => ⟨S256x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .bf16⟩
  | .hbm, ⟨86, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Kernel16.lean ====
abbrev S16384x1024 : Shape := ⟨2, ![16384, 1024]⟩
abbrev S2816x1024 : Shape := ⟨2, ![2816, 1024]⟩
abbrev S16384x2816 : Shape := ⟨2, ![16384, 2816]⟩
abbrev S256x1024 : Shape := ⟨2, ![256, 1024]⟩
abbrev S256x2816 : Shape := ⟨2, ![256, 2816]⟩

abbrev nBuf : Space → Nat
  | .hbm => 6
  | .vmem => 11
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .hbm, ⟨3, _⟩ => ⟨S16384x2816, .bf16⟩
  | .hbm, ⟨4, _⟩ => ⟨S16384x2816, .bf16⟩
  | .hbm, ⟨5, _⟩ => ⟨S16384x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference16Ideal.lean ====
abbrev S16384x1024 : Shape := ⟨2, ![16384, 1024]⟩
abbrev S2816x1024 : Shape := ⟨2, ![2816, 1024]⟩
abbrev S16384x2816 : Shape := ⟨2, ![16384, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .bf16⟩
  | .hbm, ⟨3, _⟩ => ⟨S16384x2816, .bf16⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S2816x1024, .f32⟩
  | .hbm, ⟨21, _⟩ => ⟨S16384x1024, .f32⟩
  | .hbm, ⟨22, _⟩ => ⟨S16384x1024, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x2816, .bf16⟩
  | .hbm, ⟨31, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel17.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S1024 : Shape := ⟨1, ![1024]⟩

abbrev nBuf : Space → Nat
  | .hbm => 13
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x256, .f32⟩
  | .hbm, ⟨3, _⟩ => ⟨S1024x1024, .bf16⟩
  | .hbm, ⟨4, _⟩ => ⟨S256x1024, .bf16⟩
  | .hbm, ⟨5, _⟩ => ⟨S16384x1024, .f32⟩
  | .hbm, ⟨6, _⟩ => ⟨S1x1024, .f32⟩
  | .hbm, ⟨7, _⟩ => ⟨S16384x1024, .bf16⟩
  | .hbm, ⟨8, _⟩ => ⟨S16384x1024, .bf16⟩
  | .hbm, ⟨9, _⟩ => ⟨S16384x1024, .f32⟩
  | .hbm, ⟨10, _⟩ => ⟨S16384x1024, .bf16⟩
  | .hbm, ⟨11, _⟩ => ⟨S1x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x256, .f32⟩
  | .local _ .vmem, ⟨5, _⟩ => ⟨S512x256, .f32⟩
  | .local _ .vmem, ⟨6, _⟩ => ⟨S1024x1024, .bf16⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v138 : BitVec 1 := Scalar.cmpi .eq arg0 c0_i32
  let v139 : BitVec 32 := Scalar.extui v138
  let c0_i32_77 : BitVec 32 := 0#32
  let v140 : BitVec 1 := Scalar.cmpi .ne v139 c0_i32_77
  v140

def k0_cond2 (i : grid0.Coords) : BitVec 1 :=
  let arg0 : BitVec 32 := BitVec.ofNat 32 (i 0).val
  let c0_i32 : BitVec 32 := 0#32
  let v138 : BitVec 1 := Scalar.cmpi .eq arg0 c0_i32
  let v_true : BitVec 1 := 1#1
  let v141 : BitVec 1 := Scalar.xori v138 v_true
  let v142 : BitVec 32 := Scalar.extui v141
  let c0_i32_78 : BitVec 32 := 0#32
  let v143 : BitVec 1 := Scalar.cmpi .ne v142 c0_i32_78
  v143

def k0_cond3 (i : grid0.Coords) : BitVec 1 :=
  let arg0 : BitVec 32 := BitVec.ofNat 32 (i 0).val
  let c0_i32_79 : BitVec 32 := 0#32
  let v144 : BitVec 1 := Scalar.cmpi .eq arg0 c0_i32_79
  let v145 : BitVec 32 := Scalar.extui v144
  let c0_i32_80 : BitVec 32 := 0#32
  let v146 : BitVec 1 := Scalar.cmpi .ne v145 c0_i32_80
  v146

def k0_cond4 (i : grid0.Coords) : BitVec 1 :=
  let arg0 : BitVec 32 := BitVec.ofNat 32 (i 0).val
  let c0_i32_79 : BitVec 32 := 0#32
  let v144 : BitVec 1 := Scalar.cmpi .eq arg0 c0_i32_79
  let true_81 : BitVec 1 := 1#1
  let v147 : BitVec 1 := Scalar.xori v144 true_81
  let v148 : BitVec 32 := Scalar.extui v147
  let c0_i32_82 : BitVec 32 := 0#32
  let v149 : BitVec 1 := Scalar.cmpi .ne v148 c0_i32_82
  v149

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference17Ideal.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x256, .f32⟩
  | .hbm, ⟨3, _⟩ => ⟨S1024x1024, .bf16⟩
  | .hbm, ⟨4, _⟩ => ⟨S256x1024, .bf16⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S256x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1024x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S16384x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S16384x1, .f32⟩
  | .hbm, ⟨86, _⟩ => ⟨S16384x1024, .f32⟩
  | .hbm, ⟨87, _⟩ => ⟨S_, .f32⟩
  | .hbm, ⟨88, _⟩ => ⟨S16384, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S_, .f32⟩
  | .hbm, ⟨94, _⟩ => ⟨S16384, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S_, .f32⟩
  | .hbm, ⟨99, _⟩ => ⟨S16384, .f32⟩
  | .hbm, ⟨100, _⟩ => ⟨S16384x1, .f32⟩
  | .hbm, ⟨101, _⟩ => ⟨S16384x1024, .f32⟩
  | .hbm, ⟨102, _⟩ => ⟨S16384x1, .f32⟩
  | .hbm, ⟨103, _⟩ => ⟨S_, .f32⟩
  | .hbm, ⟨104, _⟩ => ⟨S16384x1, .f32⟩
  | .hbm, ⟨105, _⟩ => ⟨S16384x1, .f32⟩
  | .hbm, ⟨106, _⟩ => ⟨S_, .f32⟩
  | .hbm, ⟨107, _⟩ => ⟨S16384, .f32⟩
  | .hbm, ⟨108, _⟩ => ⟨S16384x1024, .f32⟩
  | .hbm, ⟨109, _⟩ => ⟨S16384x1024, .f32⟩
  | .hbm, ⟨110, _⟩ => ⟨S16384x1024, .bf16⟩
  | .hbm, ⟨111, _⟩ => ⟨S16384x1024, .bf16⟩
  | .hbm, ⟨112, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_cst_15 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_17 : Ref sig .tc := ⟨.hbm, 103, rfl⟩
abbrev main_v78 : Ref sig .tc := ⟨.hbm, 104, rfl⟩
abbrev main_v79 : Ref sig .tc := ⟨.hbm, 105, rfl⟩
abbrev main_cst_18 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩

abbrev nD : Nat := 1
abbrev τ : Topo := Topo.v7x

variable {F : FTy → Type} [FloatOps F]
-- ==== Kernel18.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S256x2816 : Shape := ⟨2, ![256, 2816]⟩
abbrev S256x1024 : Shape := ⟨2, ![256, 1024]⟩
abbrev S1024x2816 : Shape := ⟨2, ![1024, 2816]⟩
abbrev S256 : Shape := ⟨1, ![256]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S1x1024, .f32⟩
  | .hbm, ⟨9, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x5632, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let v60 : BitVec 32 := Scalar.extui v59
  let c0_i32_31 : BitVec 32 := 0#32
  let v61 : BitVec 1 := Scalar.cmpi .ne v60 c0_i32_31
  v61

def k0_cond2 (i : grid0.Coords) : BitVec 1 :=
  let arg0 : BitVec 32 := BitVec.ofNat 32 (i 0).val
  let c0_i32 : BitVec 32 := 0#32
  let v59 : BitVec 1 := Scalar.cmpi .eq arg0 c0_i32
  let v_true : BitVec 1 := 1#1
  let v62 : BitVec 1 := Scalar.xori v59 v_true
  let v63 : BitVec 32 := Scalar.extui v62
  let c0_i32_32 : BitVec 32 := 0#32
  let v64 : BitVec 1 := Scalar.cmpi .ne v63 c0_i32_32
  v64

def k0_cond3 (i : grid0.Coords) : BitVec 1 :=
  let arg0 : BitVec 32 := BitVec.ofNat 32 (i 0).val
  let c0_i32_33 : BitVec 32 := 0#32
  let v65 : BitVec 1 := Scalar.cmpi .eq arg0 c0_i32_33
  let v66 : BitVec 32 := Scalar.extui v65
  let c0_i32_34 : BitVec 32 := 0#32
  let v67 : BitVec 1 := Scalar.cmpi .ne v66 c0_i32_34
  v67

def k0_cond4 (i : grid0.Coords) : BitVec 1 :=
  let arg0 : BitVec 32 := BitVec.ofNat 32 (i 0).val
  let c0_i32_33 : BitVec 32 := 0#32
  let v65 : BitVec 1 := Scalar.cmpi .eq arg0 c0_i32_33
  let true_35 : BitVec 1 := 1#1
  let v68 : BitVec 1 := Scalar.xori v65 true_35
  let v69 : BitVec 32 := Scalar.extui v68
  let c0_i32_36 : BitVec 32 := 0#32
  let v70 : BitVec 1 := Scalar.cmpi .ne v69 c0_i32_36
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference18Ideal.lean ====
abbrev S16384x2816 : Shape := ⟨2, ![16384, 2816]⟩
abbrev S1024x5632 : Shape := ⟨2, ![1024, 5632]⟩
abbrev S16384x1024 : Shape := ⟨2, ![16384, 1024]⟩
abbrev S1x1024 : Shape := ⟨2, ![1, 1024]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x5632, .bf16⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S16384x5632, .bf16⟩
  | .hbm, ⟨7, _⟩ => ⟨S16384x5632, .f32⟩
  | .hbm, ⟨8, _⟩ => ⟨S1024x5632, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S1x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16384x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S16384x1, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S16384x1024, .f32⟩
  | .hbm, ⟨82, _⟩ => ⟨S16384x1, .f32⟩
  | .hbm, ⟨83, _⟩ => ⟨S_, .f32⟩
  | .hbm, ⟨84, _⟩ => ⟨S16384x1, .f32⟩
  | .hbm, ⟨85, _⟩ => ⟨S16384x1, .f32⟩
  | .hbm, ⟨86, _⟩ => ⟨S_, .f32⟩
  | .hbm, ⟨87, _⟩ => ⟨S16384, .f32⟩
  | .hbm, ⟨88, _⟩ => ⟨S16384x1024, .f32⟩
  | .hbm, ⟨89, _⟩ => ⟨S16384x1024, .f32⟩
  | .hbm, ⟨90, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_cst_16 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Kernel19.lean ====
abbrev S24x1024 : Shape := ⟨2, ![24, 1024]⟩

abbrev nBuf : Space → Nat
  | .hbm => 8
  | .vmem => 8
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .local _ .vmem, ⟨0, _⟩ => ⟨S24x1024, .f32⟩
  | .local _ .vmem, ⟨1, _⟩ => ⟨S24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel19Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference19Ideal.lean ====
abbrev S24x1024 : Shape := ⟨2, ![24, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S24x1024, .f32⟩
  | .hbm, ⟨7, _⟩ => ⟨S_, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S_, .f32⟩
  | .hbm, ⟨12, _⟩ => ⟨S24x1024, .f32⟩
  | .hbm, ⟨13, _⟩ => ⟨S24x1024, .f32⟩
  | .hbm, ⟨14, _⟩ => ⟨S24x1024, .f32⟩
  | .hbm, ⟨15, _⟩ => ⟨S_, .f32⟩
  | .hbm, ⟨16, _⟩ => ⟨S24x1024, .f32⟩
  | .hbm, ⟨17, _⟩ => ⟨S24x1024, .f32⟩
  | .hbm, ⟨18, _⟩ => ⟨S24x1024, .f32⟩
  | .hbm, ⟨19, _⟩ => ⟨S_, .f32⟩
  | .hbm, ⟨20, _⟩ => ⟨S24x1024, .f32⟩
  | .hbm, ⟨21, _⟩ => ⟨S24x1024, .f32⟩
  | .hbm, ⟨22, _⟩ => ⟨S_, .f32⟩
  | .hbm, ⟨23, _⟩ => ⟨S24x1024, .f32⟩
  | .hbm, ⟨24, _⟩ => ⟨S24x1024, .f32⟩
  | .hbm, ⟨25, _⟩ => ⟨S24x1024, .f32⟩
  | .hbm, ⟨26, _⟩ => ⟨S_, .f32⟩
  | .hbm, ⟨27, _⟩ => ⟨S24x1024, .f32⟩
  | .hbm, ⟨28, _⟩ => ⟨S24x1024, .f32⟩
  | .hbm, ⟨29, _⟩ => ⟨S24x1024, .f32⟩
  | .hbm, ⟨30, _⟩ => ⟨S_, .f32⟩
  | .hbm, ⟨31, _⟩ => ⟨S24x1024, .f32⟩
  | .hbm, ⟨32, _⟩ => ⟨S24x1024, .f32⟩
  | .hbm, ⟨33, _⟩ => ⟨S24x1024, .f32⟩
  | .hbm, ⟨34, _⟩ => ⟨S_, .f32⟩
  | .hbm, ⟨35, _⟩ => ⟨S24x1024, .f32⟩
  | .hbm, ⟨36, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S8x24x1024 : Shape := ⟨3, ![8, 24, 1024]⟩
abbrev S24x1024 : Shape := ⟨2, ![24, 1024]⟩
abbrev S1x24x1024 : Shape := ⟨3, ![1, 24, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .local _ .vmem, ⟨0, _⟩ => ⟨S8x24x1024, .f32⟩
  | .local _ .vmem, ⟨1, _⟩ => ⟨S24x1024, .f32⟩
  | _, _ => ⟨S8x24x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference20Ideal.lean ====
abbrev S8x24x1024 : Shape := ⟨3, ![8, 24, 1024]⟩
abbrev S_ : Shape := ⟨0, ![]⟩
abbrev S24x1024 : Shape := ⟨2, ![24, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S_, .f32⟩
  | .hbm, ⟨2, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S192x1024 : Shape := ⟨2, ![192, 1024]⟩
abbrev S8x1536x1024 : Shape := ⟨3, ![8, 1536, 1024]⟩
abbrev S8x192x1024 : Shape := ⟨3, ![8, 192, 1024]⟩
abbrev S1x192x1024 : Shape := ⟨3, ![1, 192, 1024]⟩

abbrev nBuf : Space → Nat
  | .hbm => 8
  | .vmem => 8
  | .smem => 0
  | _ => 0

abbrev bufTy : (tb : Table) → Fin (tcTables nBuf tb) → BufTy
  | .hbm, ⟨0, _⟩ => ⟨S192x1024, .f32⟩
  | .hbm, ⟨1, _⟩ => ⟨S8x1536x1024, .bf16⟩
  | .hbm, ⟨2, _⟩ => ⟨S192x1024, .f32⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S192x1024, .f32⟩
  | .hbm, ⟨7, _⟩ => ⟨S192x1024, .f32⟩
  | .local _ .vmem, ⟨0, _⟩ => ⟨S192x1024, .f32⟩
  | .local _ .vmem, ⟨1, _⟩ => ⟨S8x192x1024, .bf16⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel21Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference21Ideal.lean ====
abbrev S192x1024 : Shape := ⟨2, ![192, 1024]⟩
abbrev S8x1536x1024 : Shape := ⟨3, ![8, 1536, 1024]⟩
abbrev S8x192x1024 : Shape := ⟨3, ![8, 192, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S8x1536x1024, .bf16⟩
  | .hbm, ⟨2, _⟩ => ⟨S192x1024, .f32⟩
  | .hbm, ⟨3, _⟩ => ⟨S192x1024, .f32⟩
  | .hbm, ⟨4, _⟩ => ⟨S8x192x1024, .bf16⟩
  | .hbm, ⟨5, _⟩ => ⟨S8x192x1024, .f32⟩
  | .hbm, ⟨6, _⟩ => ⟨S_, .f32⟩
  | .hbm, ⟨7, _⟩ => ⟨S192x1024, .f32⟩
  | .hbm, ⟨8, _⟩ => ⟨S_, .f32⟩
  | .hbm, ⟨9, _⟩ => ⟨S192x1024, .f32⟩
  | .hbm, ⟨10, _⟩ => ⟨S192x1024, .f32⟩
  | .hbm, ⟨11, _⟩ => ⟨S_, .f32⟩
  | .hbm, ⟨12, _⟩ => ⟨S192x1024, .f32⟩
  | .hbm, ⟨13, _⟩ => ⟨S192x1024, .f32⟩
  | .hbm, ⟨14, _⟩ => ⟨S192x1024, .f32⟩
  | .hbm, ⟨15, _⟩ => ⟨S_, .f32⟩
  | .hbm, ⟨16, _⟩ => ⟨S192x1024, .f32⟩
  | .hbm, ⟨17, _⟩ => ⟨S192x1024, .f32⟩
  | .hbm, ⟨18, _⟩ => ⟨S192x1024, .f32⟩
  | .hbm, ⟨19, _⟩ => ⟨S_, .f32⟩
  | .hbm, ⟨20, _⟩ => ⟨S192x1024, .f32⟩
  | .hbm, ⟨21, _⟩ => ⟨S192x1024, .f32⟩
  | .hbm, ⟨22, _⟩ => ⟨S192x1024, .f32⟩
  | .hbm, ⟨23, _⟩ => ⟨S_, .f32⟩
  | .hbm, ⟨24, _⟩ => ⟨S192x1024, .f32⟩
  | .hbm, ⟨25, _⟩ => ⟨S192x1024, .f32⟩
  | .hbm, ⟨26, _⟩ => ⟨S_, .f32⟩
  | .hbm, ⟨27, _⟩ => ⟨S192x1024, .f32⟩
  | .hbm, ⟨28, _⟩ => ⟨S192x1024, .f32⟩
  | .hbm, ⟨29, _⟩ => ⟨S192x1024, .f32⟩
  | .hbm, ⟨30, _⟩ => ⟨S_, .f32⟩
  | .hbm, ⟨31, _⟩ => ⟨S192x1024, .f32⟩
  | .hbm, ⟨32, _⟩ => ⟨S192x1024, .f32⟩
  | .hbm, ⟨33, _⟩ => ⟨S192x1024, .f32⟩
  | .hbm, ⟨34, _⟩ => ⟨S_, .f32⟩
  | .hbm, ⟨35, _⟩ => ⟨S192x1024, .f32⟩
  | .hbm, ⟨36, _⟩ => ⟨S192x1024, .f32⟩
  | .hbm, ⟨37, _⟩ => ⟨S192x1024, .f32⟩
  | .hbm, ⟨38, _⟩ => ⟨S_, .f32⟩
  | .hbm, ⟨39, _⟩ => ⟨S192x1024, .f32⟩
  | .hbm, ⟨40, _⟩ => ⟨S192x1024, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel22.lean ====
abbrev S640x1024 : Shape := ⟨2, ![640, 1024]⟩
abbrev S8x1984x1024 : Shape := ⟨3, ![8, 1984, 1024]⟩
abbrev S160x1024 : Shape := ⟨2, ![160, 1024]⟩
abbrev S8x160x1024 : Shape := ⟨3, ![8, 160, 1024]⟩
abbrev S1x160x1024 : Shape := ⟨3, ![1, 160, 1024]⟩

abbrev nBuf : Space → Nat
  | .hbm => 8
  | .vmem => 16
  | .smem => 0
  | _ => 0

abbrev bufTy : (tb : Table) → Fin (tcTables nBuf tb) → BufTy
  | .hbm, ⟨0, _⟩ => ⟨S640x1024, .f32⟩
  | .hbm, ⟨1, _⟩ => ⟨S8x1984x1024, .bf16⟩
  | .hbm, ⟨2, _⟩ => ⟨S640x1024, .f32⟩
  | .hbm, ⟨3, _⟩ => ⟨S640x1024, .f32⟩
  | .hbm, ⟨4, _⟩ => ⟨S640x1024, .f32⟩
  | .hbm, ⟨5, _⟩ => ⟨S640x1024, .f32⟩
  | .hbm, ⟨6, _⟩ => ⟨S640x1024, .f32⟩
  | .hbm, ⟨7, _⟩ => ⟨S640x1024, .f32⟩
  | .local _ .vmem, ⟨0, _⟩ => ⟨S160x1024, .f32⟩
  | .local _ .vmem, ⟨1, _⟩ => ⟨S160x1024, .f32⟩
  | .local _ .vmem, ⟨2, _⟩ => ⟨S8x160x1024, .bf16⟩
  | .local _ .vmem, ⟨3, _⟩ => ⟨S8x160x1024, .bf16⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | .local _ .vmem, ⟨8, _⟩ => ⟨S160x1024, .f32⟩
  | .local _ .vmem, ⟨9, _⟩ => ⟨S160x1024, .f32⟩
  | .local _ .vmem, ⟨10, _⟩ => ⟨S160x1024, .f32⟩
  | .local _ .vmem, ⟨11, _⟩ => ⟨S160x1024, .f32⟩
  | .local _ .vmem, ⟨12, _⟩ => ⟨S160x1024, .f32⟩
  | .local _ .vmem, ⟨13, _⟩ => ⟨S160x1024, .f32⟩
  | .local _ .vmem, ⟨14, _⟩ => ⟨S160x1024, .f32⟩
  | .local _ .vmem, ⟨15, _⟩ => ⟨S160x1024, .f32⟩
  | _, _ => ⟨S640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x160x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S160x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S160x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S160x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel22Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference22Ideal.lean ====
abbrev S640x1024 : Shape := ⟨2, ![640, 1024]⟩
abbrev S8x1984x1024 : Shape := ⟨3, ![8, 1984, 1024]⟩
abbrev S8x640x1024 : Shape := ⟨3, ![8, 640, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S640x1024, .f32⟩
  | .hbm, ⟨1, _⟩ => ⟨S8x1984x1024, .bf16⟩
  | .hbm, ⟨2, _⟩ => ⟨S640x1024, .f32⟩
  | .hbm, ⟨3, _⟩ => ⟨S640x1024, .f32⟩
  | .hbm, ⟨4, _⟩ => ⟨S8x640x1024, .bf16⟩
  | .hbm, ⟨5, _⟩ => ⟨S8x640x1024, .f32⟩
  | .hbm, ⟨6, _⟩ => ⟨S_, .f32⟩
  | .hbm, ⟨7, _⟩ => ⟨S640x1024, .f32⟩
  | .hbm, ⟨8, _⟩ => ⟨S_, .f32⟩
  | .hbm, ⟨9, _⟩ => ⟨S640x1024, .f32⟩
  | .hbm, ⟨10, _⟩ => ⟨S640x1024, .f32⟩
  | .hbm, ⟨11, _⟩ => ⟨S_, .f32⟩
  | .hbm, ⟨12, _⟩ => ⟨S640x1024, .f32⟩
  | .hbm, ⟨13, _⟩ => ⟨S640x1024, .f32⟩
  | .hbm, ⟨14, _⟩ => ⟨S640x1024, .f32⟩
  | .hbm, ⟨15, _⟩ => ⟨S_, .f32⟩
  | .hbm, ⟨16, _⟩ => ⟨S640x1024, .f32⟩
  | .hbm, ⟨17, _⟩ => ⟨S640x1024, .f32⟩
  | .hbm, ⟨18, _⟩ => ⟨S640x1024, .f32⟩
  | .hbm, ⟨19, _⟩ => ⟨S_, .f32⟩
  | .hbm, ⟨20, _⟩ => ⟨S640x1024, .f32⟩
  | .hbm, ⟨21, _⟩ => ⟨S640x1024, .f32⟩
  | .hbm, ⟨22, _⟩ => ⟨S640x1024, .f32⟩
  | .hbm, ⟨23, _⟩ => ⟨S_, .f32⟩
  | .hbm, ⟨24, _⟩ => ⟨S640x1024, .f32⟩
  | .hbm, ⟨25, _⟩ => ⟨S640x1024, .f32⟩
  | .hbm, ⟨26, _⟩ => ⟨S_, .f32⟩
  | .hbm, ⟨27, _⟩ => ⟨S640x1024, .f32⟩
  | .hbm, ⟨28, _⟩ => ⟨S640x1024, .f32⟩
  | .hbm, ⟨29, _⟩ => ⟨S640x1024, .f32⟩
  | .hbm, ⟨30, _⟩ => ⟨S_, .f32⟩
  | .hbm, ⟨31, _⟩ => ⟨S640x1024, .f32⟩
  | .hbm, ⟨32, _⟩ => ⟨S640x1024, .f32⟩
  | .hbm, ⟨33, _⟩ => ⟨S640x1024, .f32⟩
  | .hbm, ⟨34, _⟩ => ⟨S_, .f32⟩
  | .hbm, ⟨35, _⟩ => ⟨S640x1024, .f32⟩
  | .hbm, ⟨36, _⟩ => ⟨S640x1024, .f32⟩
  | .hbm, ⟨37, _⟩ => ⟨S640x1024, .f32⟩
  | .hbm, ⟨38, _⟩ => ⟨S_, .f32⟩
  | .hbm, ⟨39, _⟩ => ⟨S640x1024, .f32⟩
  | .hbm, ⟨40, _⟩ => ⟨S640x1024, .f32⟩
  | _, _ => ⟨S640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel23.lean ====
abbrev S1344x1024 : Shape := ⟨2, ![1344, 1024]⟩
abbrev S8x1344x1024 : Shape := ⟨3, ![8, 1344, 1024]⟩
abbrev S224x1024 : Shape := ⟨2, ![224, 1024]⟩
abbrev S8x224x1024 : Shape := ⟨3, ![8, 224, 1024]⟩
abbrev S1x224x1024 : Shape := ⟨3, ![1, 224, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1344x1024, .f32⟩
  | .hbm, ⟨1, _⟩ => ⟨S8x1344x1024, .bf16⟩
  | .hbm, ⟨2, _⟩ => ⟨S1344x1024, .f32⟩
  | .hbm, ⟨3, _⟩ => ⟨S1344x1024, .f32⟩
  | .hbm, ⟨4, _⟩ => ⟨S1344x1024, .f32⟩
  | .hbm, ⟨5, _⟩ => ⟨S1344x1024, .f32⟩
  | .hbm, ⟨6, _⟩ => ⟨S1344x1024, .f32⟩
  | .hbm, ⟨7, _⟩ => ⟨S1344x1024, .f32⟩
  | .local _ .vmem, ⟨0, _⟩ => ⟨S224x1024, .f32⟩
  | .local _ .vmem, ⟨1, _⟩ => ⟨S224x1024, .f32⟩
  | .local _ .vmem, ⟨2, _⟩ => ⟨S8x224x1024, .bf16⟩
  | .local _ .vmem, ⟨3, _⟩ => ⟨S8x224x1024, .bf16⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | .local _ .vmem, ⟨7, _⟩ => ⟨S224x1024, .f32⟩
  | .local _ .vmem, ⟨8, _⟩ => ⟨S224x1024, .f32⟩
  | .local _ .vmem, ⟨9, _⟩ => ⟨S224x1024, .f32⟩
  | .local _ .vmem, ⟨10, _⟩ => ⟨S224x1024, .f32⟩
  | .local _ .vmem, ⟨11, _⟩ => ⟨S224x1024, .f32⟩
  | .local _ .vmem, ⟨12, _⟩ => ⟨S224x1024, .f32⟩
  | .local _ .vmem, ⟨13, _⟩ => ⟨S224x1024, .f32⟩
  | .local _ .vmem, ⟨14, _⟩ => ⟨S224x1024, .f32⟩
  | .local _ .vmem, ⟨15, _⟩ => ⟨S224x1024, .f32⟩
  | _, _ => ⟨S1344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S224x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel23Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference23Ideal.lean ====
abbrev S1344x1024 : Shape := ⟨2, ![1344, 1024]⟩
abbrev S8x1344x1024 : Shape := ⟨3, ![8, 1344, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1344x1024, .f32⟩
  | .hbm, ⟨1, _⟩ => ⟨S8x1344x1024, .bf16⟩
  | .hbm, ⟨2, _⟩ => ⟨S1344x1024, .f32⟩
  | .hbm, ⟨3, _⟩ => ⟨S1344x1024, .f32⟩
  | .hbm, ⟨4, _⟩ => ⟨S8x1344x1024, .f32⟩
  | .hbm, ⟨5, _⟩ => ⟨S_, .f32⟩
  | .hbm, ⟨6, _⟩ => ⟨S1344x1024, .f32⟩
  | .hbm, ⟨7, _⟩ => ⟨S_, .f32⟩
  | .hbm, ⟨8, _⟩ => ⟨S1344x1024, .f32⟩
  | .hbm, ⟨9, _⟩ => ⟨S1344x1024, .f32⟩
  | .hbm, ⟨10, _⟩ => ⟨S_, .f32⟩
  | .hbm, ⟨11, _⟩ => ⟨S1344x1024, .f32⟩
  | .hbm, ⟨12, _⟩ => ⟨S1344x1024, .f32⟩
  | .hbm, ⟨13, _⟩ => ⟨S1344x1024, .f32⟩
  | .hbm, ⟨14, _⟩ => ⟨S_, .f32⟩
  | .hbm, ⟨15, _⟩ => ⟨S1344x1024, .f32⟩
  | .hbm, ⟨16, _⟩ => ⟨S1344x1024, .f32⟩
  | .hbm, ⟨17, _⟩ => ⟨S1344x1024, .f32⟩
  | .hbm, ⟨18, _⟩ => ⟨S_, .f32⟩
  | .hbm, ⟨19, _⟩ => ⟨S1344x1024, .f32⟩
  | .hbm, ⟨20, _⟩ => ⟨S1344x1024, .f32⟩
  | .hbm, ⟨21, _⟩ => ⟨S1344x1024, .f32⟩
  | .hbm, ⟨22, _⟩ => ⟨S_, .f32⟩
  | .hbm, ⟨23, _⟩ => ⟨S1344x1024, .f32⟩
  | .hbm, ⟨24, _⟩ => ⟨S1344x1024, .f32⟩
  | .hbm, ⟨25, _⟩ => ⟨S_, .f32⟩
  | .hbm, ⟨26, _⟩ => ⟨S1344x1024, .f32⟩
  | .hbm, ⟨27, _⟩ => ⟨S1344x1024, .f32⟩
  | .hbm, ⟨28, _⟩ => ⟨S1344x1024, .f32⟩
  | .hbm, ⟨29, _⟩ => ⟨S_, .f32⟩
  | .hbm, ⟨30, _⟩ => ⟨S1344x1024, .f32⟩
  | .hbm, ⟨31, _⟩ => ⟨S1344x1024, .f32⟩
  | .hbm, ⟨32, _⟩ => ⟨S1344x1024, .f32⟩
  | .hbm, ⟨33, _⟩ => ⟨S_, .f32⟩
  | .hbm, ⟨34, _⟩ => ⟨S1344x1024, .f32⟩
  | .hbm, ⟨35, _⟩ => ⟨S1344x1024, .f32⟩
  | .hbm, ⟨36, _⟩ => ⟨S1344x1024, .f32⟩
  | .hbm, ⟨37, _⟩ => ⟨S_, .f32⟩
  | .hbm, ⟨38, _⟩ => ⟨S1344x1024, .f32⟩
  | .hbm, ⟨39, _⟩ => ⟨S1344x1024, .f32⟩
  | _, _ => ⟨S1344x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S1344x1024 : Shape := ⟨2, ![1344, 1024]⟩
abbrev S8x1536x1024 : Shape := ⟨3, ![8, 1536, 1024]⟩
abbrev S192x1024 : Shape := ⟨2, ![192, 1024]⟩
abbrev S8x192x1024 : Shape := ⟨3, ![8, 192, 1024]⟩
abbrev S1x192x1024 : Shape := ⟨3, ![1, 192, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1344x1024, .f32⟩
  | .hbm, ⟨1, _⟩ => ⟨S8x1536x1024, .bf16⟩
  | .hbm, ⟨2, _⟩ => ⟨S1344x1024, .f32⟩
  | .hbm, ⟨3, _⟩ => ⟨S1344x1024, .f32⟩
  | .hbm, ⟨4, _⟩ => ⟨S1344x1024, .f32⟩
  | .hbm, ⟨5, _⟩ => ⟨S1344x1024, .f32⟩
  | .hbm, ⟨6, _⟩ => ⟨S1344x1024, .f32⟩
  | .hbm, ⟨7, _⟩ => ⟨S1344x1024, .f32⟩
  | .local _ .vmem, ⟨0, _⟩ => ⟨S192x1024, .f32⟩
  | .local _ .vmem, ⟨1, _⟩ => ⟨S192x1024, .f32⟩
  | .local _ .vmem, ⟨2, _⟩ => ⟨S8x192x1024, .bf16⟩
  | .local _ .vmem, ⟨3, _⟩ => ⟨S8x192x1024, .bf16⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | _, _ => ⟨S1344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel24Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference24Ideal.lean ====
abbrev S1344x1024 : Shape := ⟨2, ![1344, 1024]⟩
abbrev S8x1536x1024 : Shape := ⟨3, ![8, 1536, 1024]⟩
abbrev S8x1344x1024 : Shape := ⟨3, ![8, 1344, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1344x1024, .f32⟩
  | .hbm, ⟨1, _⟩ => ⟨S8x1536x1024, .bf16⟩
  | .hbm, ⟨2, _⟩ => ⟨S1344x1024, .f32⟩
  | .hbm, ⟨3, _⟩ => ⟨S1344x1024, .f32⟩
  | .hbm, ⟨4, _⟩ => ⟨S8x1344x1024, .bf16⟩
  | .hbm, ⟨5, _⟩ => ⟨S8x1344x1024, .f32⟩
  | .hbm, ⟨6, _⟩ => ⟨S_, .f32⟩
  | .hbm, ⟨7, _⟩ => ⟨S1344x1024, .f32⟩
  | .hbm, ⟨8, _⟩ => ⟨S_, .f32⟩
  | .hbm, ⟨9, _⟩ => ⟨S1344x1024, .f32⟩
  | .hbm, ⟨10, _⟩ => ⟨S1344x1024, .f32⟩
  | .hbm, ⟨11, _⟩ => ⟨S_, .f32⟩
  | .hbm, ⟨12, _⟩ => ⟨S1344x1024, .f32⟩
  | .hbm, ⟨13, _⟩ => ⟨S1344x1024, .f32⟩
  | .hbm, ⟨14, _⟩ => ⟨S1344x1024, .f32⟩
  | .hbm, ⟨15, _⟩ => ⟨S_, .f32⟩
  | .hbm, ⟨16, _⟩ => ⟨S1344x1024, .f32⟩
  | .hbm, ⟨17, _⟩ => ⟨S1344x1024, .f32⟩
  | .hbm, ⟨18, _⟩ => ⟨S1344x1024, .f32⟩
  | .hbm, ⟨19, _⟩ => ⟨S_, .f32⟩
  | .hbm, ⟨20, _⟩ => ⟨S1344x1024, .f32⟩
  | .hbm, ⟨21, _⟩ => ⟨S1344x1024, .f32⟩
  | .hbm, ⟨22, _⟩ => ⟨S1344x1024, .f32⟩
  | .hbm, ⟨23, _⟩ => ⟨S_, .f32⟩
  | .hbm, ⟨24, _⟩ => ⟨S1344x1024, .f32⟩
  | .hbm, ⟨25, _⟩ => ⟨S1344x1024, .f32⟩
  | .hbm, ⟨26, _⟩ => ⟨S_, .f32⟩
  | .hbm, ⟨27, _⟩ => ⟨S1344x1024, .f32⟩
  | .hbm, ⟨28, _⟩ => ⟨S1344x1024, .f32⟩
  | .hbm, ⟨29, _⟩ => ⟨S1344x1024, .f32⟩
  | .hbm, ⟨30, _⟩ => ⟨S_, .f32⟩
  | .hbm, ⟨31, _⟩ => ⟨S1344x1024, .f32⟩
  | .hbm, ⟨32, _⟩ => ⟨S1344x1024, .f32⟩
  | .hbm, ⟨33, _⟩ => ⟨S1344x1024, .f32⟩
  | .hbm, ⟨34, _⟩ => ⟨S_, .f32⟩
  | .hbm, ⟨35, _⟩ => ⟨S1344x1024, .f32⟩
  | .hbm, ⟨36, _⟩ => ⟨S1344x1024, .f32⟩
  | .hbm, ⟨37, _⟩ => ⟨S1344x1024, .f32⟩
  | .hbm, ⟨38, _⟩ => ⟨S_, .f32⟩
  | .hbm, ⟨39, _⟩ => ⟨S1344x1024, .f32⟩
  | .hbm, ⟨40, _⟩ => ⟨S1344x1024, .f32⟩
  | _, _ => ⟨S1344x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel25.lean ====
abbrev S1344x1024 : Shape := ⟨2, ![1344, 1024]⟩
abbrev S8x1984x1024 : Shape := ⟨3, ![8, 1984, 1024]⟩
abbrev S64x1024 : Shape := ⟨2, ![64, 1024]⟩
abbrev S8x64x1024 : Shape := ⟨3, ![8, 64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1344x1024, .f32⟩
  | .hbm, ⟨1, _⟩ => ⟨S8x1984x1024, .bf16⟩
  | .hbm, ⟨2, _⟩ => ⟨S1344x1024, .f32⟩
  | .hbm, ⟨3, _⟩ => ⟨S1344x1024, .f32⟩
  | .hbm, ⟨4, _⟩ => ⟨S1344x1024, .f32⟩
  | .hbm, ⟨5, _⟩ => ⟨S1344x1024, .f32⟩
  | .hbm, ⟨6, _⟩ => ⟨S1344x1024, .f32⟩
  | .hbm, ⟨7, _⟩ => ⟨S1344x1024, .f32⟩
  | .local _ .vmem, ⟨0, _⟩ => ⟨S64x1024, .f32⟩
  | .local _ .vmem, ⟨1, _⟩ => ⟨S64x1024, .f32⟩
  | .local _ .vmem, ⟨2, _⟩ => ⟨S8x64x1024, .bf16⟩
  | .local _ .vmem, ⟨3, _⟩ => ⟨S8x64x1024, .bf16⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S1344x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel25Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference25Ideal.lean ====
abbrev S1344x1024 : Shape := ⟨2, ![1344, 1024]⟩
abbrev S8x1984x1024 : Shape := ⟨3, ![8, 1984, 1024]⟩
abbrev S8x1344x1024 : Shape := ⟨3, ![8, 1344, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1344x1024, .f32⟩
  | .hbm, ⟨1, _⟩ => ⟨S8x1984x1024, .bf16⟩
  | .hbm, ⟨2, _⟩ => ⟨S1344x1024, .f32⟩
  | .hbm, ⟨3, _⟩ => ⟨S1344x1024, .f32⟩
  | .hbm, ⟨4, _⟩ => ⟨S8x1344x1024, .bf16⟩
  | .hbm, ⟨5, _⟩ => ⟨S8x1344x1024, .f32⟩
  | .hbm, ⟨6, _⟩ => ⟨S_, .f32⟩
  | .hbm, ⟨7, _⟩ => ⟨S1344x1024, .f32⟩
  | .hbm, ⟨8, _⟩ => ⟨S_, .f32⟩
  | .hbm, ⟨9, _⟩ => ⟨S1344x1024, .f32⟩
  | .hbm, ⟨10, _⟩ => ⟨S1344x1024, .f32⟩
  | .hbm, ⟨11, _⟩ => ⟨S_, .f32⟩
  | .hbm, ⟨12, _⟩ => ⟨S1344x1024, .f32⟩
  | .hbm, ⟨13, _⟩ => ⟨S1344x1024, .f32⟩
  | .hbm, ⟨14, _⟩ => ⟨S1344x1024, .f32⟩
  | .hbm, ⟨15, _⟩ => ⟨S_, .f32⟩
  | .hbm, ⟨16, _⟩ => ⟨S1344x1024, .f32⟩
  | .hbm, ⟨17, _⟩ => ⟨S1344x1024, .f32⟩
  | .hbm, ⟨18, _⟩ => ⟨S1344x1024, .f32⟩
  | .hbm, ⟨19, _⟩ => ⟨S_, .f32⟩
  | .hbm, ⟨20, _⟩ => ⟨S1344x1024, .f32⟩
  | .hbm, ⟨21, _⟩ => ⟨S1344x1024, .f32⟩
  | .hbm, ⟨22, _⟩ => ⟨S1344x1024, .f32⟩
  | .hbm, ⟨23, _⟩ => ⟨S_, .f32⟩
  | .hbm, ⟨24, _⟩ => ⟨S1344x1024, .f32⟩
  | .hbm, ⟨25, _⟩ => ⟨S1344x1024, .f32⟩
  | .hbm, ⟨26, _⟩ => ⟨S_, .f32⟩
  | .hbm, ⟨27, _⟩ => ⟨S1344x1024, .f32⟩
  | .hbm, ⟨28, _⟩ => ⟨S1344x1024, .f32⟩
  | .hbm, ⟨29, _⟩ => ⟨S1344x1024, .f32⟩
  | .hbm, ⟨30, _⟩ => ⟨S_, .f32⟩
  | .hbm, ⟨31, _⟩ => ⟨S1344x1024, .f32⟩
  | .hbm, ⟨32, _⟩ => ⟨S1344x1024, .f32⟩
  | .hbm, ⟨33, _⟩ => ⟨S1344x1024, .f32⟩
  | .hbm, ⟨34, _⟩ => ⟨S_, .f32⟩
  | .hbm, ⟨35, _⟩ => ⟨S1344x1024, .f32⟩
  | .hbm, ⟨36, _⟩ => ⟨S1344x1024, .f32⟩
  | .hbm, ⟨37, _⟩ => ⟨S1344x1024, .f32⟩
  | .hbm, ⟨38, _⟩ => ⟨S_, .f32⟩
  | .hbm, ⟨39, _⟩ => ⟨S1344x1024, .f32⟩
  | .hbm, ⟨40, _⟩ => ⟨S1344x1024, .f32⟩
  | _, _ => ⟨S1344x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel26.lean ====
abbrev S192x1024 : Shape := ⟨2, ![192, 1024]⟩
abbrev S8x192x1024 : Shape := ⟨3, ![8, 192, 1024]⟩
abbrev S1x192x1024 : Shape := ⟨3, ![1, 192, 1024]⟩

abbrev nBuf : Space → Nat
  | .hbm => 8
  | .vmem => 8
  | .smem => 0
  | _ => 0

abbrev bufTy : (tb : Table) → Fin (tcTables nBuf tb) → BufTy
  | .hbm, ⟨0, _⟩ => ⟨S192x1024, .f32⟩
  | .hbm, ⟨1, _⟩ => ⟨S8x192x1024, .bf16⟩
  | .hbm, ⟨2, _⟩ => ⟨S192x1024, .f32⟩
  | .hbm, ⟨3, _⟩ => ⟨S192x1024, .f32⟩
  | .hbm, ⟨4, _⟩ => ⟨S192x1024, .f32⟩
  | .hbm, ⟨5, _⟩ => ⟨S192x1024, .f32⟩
  | .hbm, ⟨6, _⟩ => ⟨S192x1024, .f32⟩
  | .hbm, ⟨7, _⟩ => ⟨S192x1024, .f32⟩
  | .local _ .vmem, ⟨0, _⟩ => ⟨S192x1024, .f32⟩
  | .local _ .vmem, ⟨1, _⟩ => ⟨S8x192x1024, .bf16⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | _, _ => ⟨S192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel26Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference26Ideal.lean ====
abbrev S192x1024 : Shape := ⟨2, ![192, 1024]⟩
abbrev S8x192x1024 : Shape := ⟨3, ![8, 192, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S192x1024, .f32⟩
  | .hbm, ⟨1, _⟩ => ⟨S8x192x1024, .bf16⟩
  | .hbm, ⟨2, _⟩ => ⟨S192x1024, .f32⟩
  | .hbm, ⟨3, _⟩ => ⟨S192x1024, .f32⟩
  | .hbm, ⟨4, _⟩ => ⟨S8x192x1024, .f32⟩
  | .hbm, ⟨5, _⟩ => ⟨S_, .f32⟩
  | .hbm, ⟨6, _⟩ => ⟨S192x1024, .f32⟩
  | .hbm, ⟨7, _⟩ => ⟨S_, .f32⟩
  | .hbm, ⟨8, _⟩ => ⟨S192x1024, .f32⟩
  | .hbm, ⟨9, _⟩ => ⟨S192x1024, .f32⟩
  | .hbm, ⟨10, _⟩ => ⟨S_, .f32⟩
  | .hbm, ⟨11, _⟩ => ⟨S192x1024, .f32⟩
  | .hbm, ⟨12, _⟩ => ⟨S192x1024, .f32⟩
  | .hbm, ⟨13, _⟩ => ⟨S192x1024, .f32⟩
  | .hbm, ⟨14, _⟩ => ⟨S_, .f32⟩
  | .hbm, ⟨15, _⟩ => ⟨S192x1024, .f32⟩
  | .hbm, ⟨16, _⟩ => ⟨S192x1024, .f32⟩
  | .hbm, ⟨17, _⟩ => ⟨S192x1024, .f32⟩
  | .hbm, ⟨18, _⟩ => ⟨S_, .f32⟩
  | .hbm, ⟨19, _⟩ => ⟨S192x1024, .f32⟩
  | .hbm, ⟨20, _⟩ => ⟨S192x1024, .f32⟩
  | .hbm, ⟨21, _⟩ => ⟨S192x1024, .f32⟩
  | .hbm, ⟨22, _⟩ => ⟨S_, .f32⟩
  | .hbm, ⟨23, _⟩ => ⟨S192x1024, .f32⟩
  | .hbm, ⟨24, _⟩ => ⟨S192x1024, .f32⟩
  | .hbm, ⟨25, _⟩ => ⟨S_, .f32⟩
  | .hbm, ⟨26, _⟩ => ⟨S192x1024, .f32⟩
  | .hbm, ⟨27, _⟩ => ⟨S192x1024, .f32⟩
  | .hbm, ⟨28, _⟩ => ⟨S192x1024, .f32⟩
  | .hbm, ⟨29, _⟩ => ⟨S_, .f32⟩
  | .hbm, ⟨30, _⟩ => ⟨S192x1024, .f32⟩
  | .hbm, ⟨31, _⟩ => ⟨S192x1024, .f32⟩
  | .hbm, ⟨32, _⟩ => ⟨S192x1024, .f32⟩
  | .hbm, ⟨33, _⟩ => ⟨S_, .f32⟩
  | .hbm, ⟨34, _⟩ => ⟨S192x1024, .f32⟩
  | .hbm, ⟨35, _⟩ => ⟨S192x1024, .f32⟩
  | .hbm, ⟨36, _⟩ => ⟨S192x1024, .f32⟩
  | .hbm, ⟨37, _⟩ => ⟨S_, .f32⟩
  | .hbm, ⟨38, _⟩ => ⟨S192x1024, .f32⟩
  | .hbm, ⟨39, _⟩ => ⟨S192x1024, .f32⟩
  | _, _ => ⟨S192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel27.lean ====
abbrev S16384x1024 : Shape := ⟨2, ![16384, 1024]⟩
abbrev S8x128 : Shape := ⟨2, ![8, 128]⟩
abbrev S512x1024 : Shape := ⟨2, ![512, 1024]⟩
abbrev S1x1024 : Shape := ⟨2, ![1, 1024]⟩
abbrev S1024 : Shape := ⟨1, ![1024]⟩
abbrev S1 : Shape := ⟨1, ![1]⟩
abbrev S1x1 : Shape := ⟨2, ![1, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | .local _ .vmem, ⟨7, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v15 : BitVec 1 := Scalar.cmpi .eq arg0 c31_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference27Ideal.lean ====
abbrev S16384x1024 : Shape := ⟨2, ![16384, 1024]⟩
abbrev S_ : Shape := ⟨0, ![]⟩
abbrev S16384 : Shape := ⟨1, ![16384]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | .hbm, ⟨25, _⟩ => ⟨S8x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel28.lean ====
abbrev S4x256 : Shape := ⟨2, ![4, 256]⟩
abbrev S2x256 : Shape := ⟨2, ![2, 256]⟩
abbrev S256 : Shape := ⟨1, ![256]⟩
abbrev S1x256 : Shape := ⟨2, ![1, 256]⟩

abbrev nBuf : Space → Nat
  | .hbm => 3
  | .vmem => 3
  | .smem => 0
  | _ => 0

abbrev bufTy : (tb : Table) → Fin (tcTables nBuf tb) → BufTy
  | .hbm, ⟨0, _⟩ => ⟨S4x256, .f32⟩
  | .hbm, ⟨1, _⟩ => ⟨S2x256, .f32⟩
  | .hbm, ⟨2, _⟩ => ⟨S4x256, .f32⟩
  | .local _ .vmem, ⟨0, _⟩ => ⟨S4x256, .f32⟩
  | .local _ .vmem, ⟨1, _⟩ => ⟨S2x256, .f32⟩
  | .local _ .vmem, ⟨2, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference28Ideal.lean ====
abbrev S4x256 : Shape := ⟨2, ![4, 256]⟩
abbrev S2x256 : Shape := ⟨2, ![2, 256]⟩
abbrev S_ : Shape := ⟨0, ![]⟩
abbrev S256 : Shape := ⟨1, ![256]⟩
abbrev S1x256 : Shape := ⟨2, ![1, 256]⟩

abbrev nBuf : Space → Nat
  | .hbm => 73
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S2x256, .f32⟩
  | .hbm, ⟨2, _⟩ => ⟨S_, .f32⟩
  | .hbm, ⟨3, _⟩ => ⟨S256, .f32⟩
  | .hbm, ⟨4, _⟩ => ⟨S1x256, .f32⟩
  | .hbm, ⟨5, _⟩ => ⟨S4x256, .f32⟩
  | .hbm, ⟨6, _⟩ => ⟨S4x256, .i1⟩
  | .hbm, ⟨7, _⟩ => ⟨S4x256, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .i1⟩
  | .hbm, ⟨16, _⟩ => ⟨S_, .f32⟩
  | .hbm, ⟨17, _⟩ => ⟨S256, .f32⟩
  | .hbm, ⟨18, _⟩ => ⟨S256, .i1⟩
  | .hbm, ⟨19, _⟩ => ⟨S_, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S1x256, .f32⟩
  | .hbm, ⟨28, _⟩ => ⟨S4x256, .f32⟩
  | .hbm, ⟨29, _⟩ => ⟨S4x256, .f32⟩
  | .hbm, ⟨30, _⟩ => ⟨S4x256, .f32⟩
  | .hbm, ⟨31, _⟩ => ⟨S_, .f32⟩
  | .hbm, ⟨32, _⟩ => ⟨S256, .f32⟩
  | .hbm, ⟨33, _⟩ => ⟨S1x256, .f32⟩
  | .hbm, ⟨34, _⟩ => ⟨S4x256, .f32⟩
  | .hbm, ⟨35, _⟩ => ⟨S4x256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S_, .f32⟩
  | .hbm, ⟨41, _⟩ => ⟨S_, .f32⟩
  | .hbm, ⟨42, _⟩ => ⟨S4x256, .f32⟩
  | .hbm, ⟨43, _⟩ => ⟨S1x256, .f32⟩
  | .hbm, ⟨44, _⟩ => ⟨S4x256, .f32⟩
  | .hbm, ⟨45, _⟩ => ⟨S4x256, .f32⟩
  | .hbm, ⟨46, _⟩ => ⟨S2x256, .f32⟩
  | .hbm, ⟨47, _⟩ => ⟨S_, .f32⟩
  | .hbm, ⟨48, _⟩ => ⟨S4x256, .f32⟩
  | .hbm, ⟨49, _⟩ => ⟨S4x256, .f32⟩
  | .hbm, ⟨50, _⟩ => ⟨S_, .f32⟩
  | .hbm, ⟨51, _⟩ => ⟨S256, .f32⟩
  | .hbm, ⟨52, _⟩ => ⟨S1x256, .f32⟩
  | .hbm, ⟨53, _⟩ => ⟨S_, .f32⟩
  | .hbm, ⟨54, _⟩ => ⟨S4x256, .f32⟩
  | .hbm, ⟨55, _⟩ => ⟨S_, .f32⟩
  | .hbm, ⟨56, _⟩ => ⟨S_, .f32⟩
  | .hbm, ⟨57, _⟩ => ⟨S4x256, .f32⟩
  | .hbm, ⟨58, _⟩ => ⟨S4x256, .f32⟩
  | .hbm, ⟨59, _⟩ => ⟨S4x256, .f32⟩
  | .hbm, ⟨60, _⟩ => ⟨S4x256, .f32⟩
  | .hbm, ⟨61, _⟩ => ⟨S4x256, .f32⟩
  | .hbm, ⟨62, _⟩ => ⟨S_, .f32⟩
  | .hbm, ⟨63, _⟩ => ⟨S256, .f32⟩
  | .hbm, ⟨64, _⟩ => ⟨S1x256, .f32⟩
  | .hbm, ⟨65, _⟩ => ⟨S1x256, .f32⟩
  | .hbm, ⟨66, _⟩ => ⟨S4x256, .f32⟩
  | .hbm, ⟨67, _⟩ => ⟨S4x256, .f32⟩
  | .hbm, ⟨68, _⟩ => ⟨S_, .f32⟩
  | .hbm, ⟨69, _⟩ => ⟨S256, .f32⟩
  | .hbm, ⟨70, _⟩ => ⟨S4x256, .f32⟩
  | .hbm, ⟨71, _⟩ => ⟨S4x256, .f32⟩
  | .hbm, ⟨72, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_call1_call0_cst : Ref sig .tc := ⟨.hbm, 55, rfl⟩
abbrev main_call1_call0_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Proof.Chunk.lean ====
module

public import proofs.«01_k».proof.Proof.Gen.KernelIdeal.Frame

@[expose] public section

set_option maxRecDepth 16384

noncomputable section

/-! What the body of the kernel computes for one chunk of 64 rows of one head, as named functions of the
chunk's inputs. They are spelt with the operations of the printed body, so that the body's payloads
unfold to them. -/

namespace Cert.KernelIdeal.Dv

open Idealize.ShloMosaic Cert.KernelIdeal.Gen

variable {F : FTy → Type} [FloatOps F]

/-- A 64x128 table filled with one float literal. -/
def fill (b : BitVec 32) : FVec F S64x128 .f32 := broadcast S64x128 (Scalar.ofBits .f32 b)

/-- The place in time of each row: the scan runs from the last row of a chunk to the first. -/
def place : IVec S64x128 32 := subi (broadcast S64x128 63#32) (iota .tc S64x128 32 [0] iota_S64x128_d0_w32)

/-- Rounding division of the place in time by 16. -/
def placeDiv : IVec S64x128 32 :=
  select (andi
      (cmpi .ne (subi (extui 32 (cmpi .sgt place (broadcast S64x128 0#32)) natLt_1_32) (extui 32 (cmpi .slt place (broadcast S64x128 0#32)) natLt_1_32))
        (broadcast S64x128 (Scalar.subi (Scalar.extui (Scalar.cmpi .sgt 16#32 0#32)) (Scalar.extui (Scalar.cmpi .slt 16#32 0#32)))))
      (cmpi .ne (remsi place (broadcast S64x128 16#32)) (broadcast S64x128 0#32)))
    (subi (divsi place (broadcast S64x128 16#32)) (broadcast S64x128 1#32))
    (divsi place (broadcast S64x128 16#32))

/-- The rows of the sub-block `n` of 16 places. -/
def inSub (n : BitVec 32) : IVec S64x128 1 := cmpi .eq placeDiv (broadcast S64x128 n)

/-- The key's place in time, for the four stacked 64x64 score blocks. -/
def keyPlace : IVec S256x64 32 := subi (broadcast S256x64 63#32) (iota .tc S256x64 32 [1] iota_S256x64_d1_w32)

/-- The stacked row. -/
def stackRow : IVec S256x64 32 := iota .tc S256x64 32 [0] iota_S256x64_d0_w32

/-- The key's sub-block of 16 places. -/
def keySub : IVec S256x64 32 :=
  select (andi
      (cmpi .ne (subi (extui 32 (cmpi .sgt keyPlace (broadcast S256x64 0#32)) natLt_1_32) (extui 32 (cmpi .slt keyPlace (broadcast S256x64 0#32)) natLt_1_32))
        (broadcast S256x64 (Scalar.subi (Scalar.extui (Scalar.cmpi .sgt 16#32 0#32)) (Scalar.extui (Scalar.cmpi .slt 16#32 0#32)))))
      (cmpi .ne (remsi keyPlace (broadcast S256x64 16#32)) (broadcast S256x64 0#32)))
    (subi (divsi keyPlace (broadcast S256x64 16#32)) (broadcast S256x64 1#32))
    (divsi keyPlace (broadcast S256x64 16#32))

/-- Which of the four stacked score blocks a stacked row is of. -/
def stackSub : IVec S256x64 32 :=
  select (andi
      (cmpi .ne (subi (extui 32 (cmpi .sgt stackRow (broadcast S256x64 0#32)) natLt_1_32) (extui 32 (cmpi .slt stackRow (broadcast S256x64 0#32)) natLt_1_32))
        (broadcast S256x64 (Scalar.subi (Scalar.extui (Scalar.cmpi .sgt 64#32 0#32)) (Scalar.extui (Scalar.cmpi .slt 64#32 0#32)))))
      (cmpi .ne (remsi stackRow (broadcast S256x64 64#32)) (broadcast S256x64 0#32)))
    (subi (divsi stackRow (broadcast S256x64 64#32)) (broadcast S256x64 1#32))
    (divsi stackRow (broadcast S256x64 64#32))

/-- The divisor of the stacked row. -/
def sixtyFour : BitVec 32 := Scalar.select (Scalar.cmpi .eq 64#32 0#32) 1#32 64#32

/-- The stacked row within its block. -/
def stackMod : IVec S256x64 32 :=
  select (andi (xori (cmpi .slt (remsi stackRow (broadcast S256x64 sixtyFour)) (broadcast S256x64 0#32))
        (broadcastTo S256x64 (broadcast S256x64 (Scalar.cmpi .slt sixtyFour 0#32)) broadcasts_S256x64_S256x64))
      (cmpi .ne (remsi stackRow (broadcast S256x64 sixtyFour)) (broadcast S256x64 0#32)))
    (addi (remsi stackRow (broadcast S256x64 sixtyFour)) (broadcast S256x64 sixtyFour))
    (remsi stackRow (broadcast S256x64 sixtyFour))

/-- Where a stacked score is kept: the key lies in the block's sub-block and not after the query. -/
def keep : IVec S256x64 1 :=
  andi (cmpi .eq keySub stackSub) (cmpi .sle keyPlace (subi (broadcast S256x64 63#32) stackMod))

/-- The bound of the forget gate, one row for a head. -/
def bound (lb : Vec F S1x1x128 .f32) : FVec F S1x128 .f32 := shapeCast S1x128 lb shapeCasts_S1x1x128_S1x128

/-- One minus the bound. -/
def unbound (lb : Vec F S1x1x128 .f32) : FVec F S1x128 .f32 := subf (broadcast S1x128 (Scalar.ofBits .f32 0x3F800000#32)) (bound lb)

/-- The logarithm of the forget gate. -/
def logGate (zf : Vec F S64x128 .f32) (lb : Vec F S1x1x128 .f32) : FVec F S64x128 .f32 :=
  log (addf (broadcastTo S64x128 (bound lb) broadcasts_S1x128_S64x128) (mulf (broadcastTo S64x128 (unbound lb) broadcasts_S1x128_S64x128) (logistic zf)))

/-- The keys. -/
def keys (zf : Vec F S64x128 .f32) (lb : Vec F S1x1x128 .f32) : FVec F S64x128 .f32 :=
  mulf (broadcastTo S64x128 (unbound lb) broadcasts_S1x128_S64x128) (subf (fill 0x3F800000#32) (logistic zf))

/-- The queries. -/
def queries (zq : Vec F S64x128 .f32) : FVec F S64x128 .f32 := mulf zq (logistic zq)

/-- One doubling step of the running sum: adds the row `64 - s` below, where there is one. -/
def rollStep (s : BitVec 32) (v : FVec F S64x128 .f32) : FVec F S64x128 .f32 :=
  addf v (select (cmpi .slt (iota .tc S64x128 32 [0] iota_S64x128_d0_w32) (broadcast S64x128 s)) (dynamicRotate 0 s none v rotates_S64x128_d0) (fill 0x00000000#32))

/-- The running sum from the last row of the chunk up. -/
def running (v : FVec F S64x128 .f32) : FVec F S64x128 .f32 :=
  rollStep 32#32 (rollStep 48#32 (rollStep 56#32 (rollStep 60#32 (rollStep 62#32 (rollStep 63#32 v)))))

/-- The row of `b` at a place in time, picked by a masked sum. -/
def rowAt (n : BitVec 32) (b : FVec F S64x128 .f32) : FVec F S1x128 .f32 :=
  shapeCast S1x128 (multiReduction .add [0] S128 (select (cmpi .eq place (broadcast S64x128 n)) b (fill 0x00000000#32)) 0x00000000#32 reduces_S64x128_S128 (.inl rfl) rfl) shapeCasts_S128_S1x128

/-- That row, repeated. -/
def rowsAt (n : BitVec 32) (b : FVec F S64x128 .f32) : FVec F S64x128 .f32 := broadcastTo S64x128 (rowAt n b) broadcasts_S1x128_S64x128

/-- That row, repeated, with the reshape to its own shape that the body has in one use. -/
def rowsAt' (n : BitVec 32) (b : FVec F S64x128 .f32) : FVec F S64x128 .f32 :=
  broadcastTo S64x128 (shapeCast S1x128 (rowAt n b) shapeCasts_S1x128_S1x128) broadcasts_S1x128_S64x128

/-- For each row the running sum at the end of its sub-block. -/
def ends (b : FVec F S64x128 .f32) : FVec F S64x128 .f32 :=
  select (inSub 2#32) (rowsAt' 47#32 b) (select (inSub 1#32) (rowsAt' 31#32 b) (select (inSub 0#32) (rowsAt' 15#32 b) (rowsAt' 63#32 b)))

/-- The queries, decayed to the end of a sub-block, from the place `lo` on. -/
def qDecayed (lo n : BitVec 32) (q b : FVec F S64x128 .f32) : FVec F S64x128 .f32 :=
  mulf q (exp (select (cmpi .sge place (broadcast S64x128 lo)) (subf b (rowsAt n b)) (fill 0x00000000#32)))

/-- The four stacked score blocks. -/
def stacked (q k b : FVec F S64x128 .f32) : FVec F S256x64 .f32 :=
  select keep
    (matmul dot_S256x128_S64x128_S256x64_1_1_0_0_n_n none
      (truncf .bf16 (concatenate S256x128 0 [⟨S64x128, qDecayed 0#32 15#32 q b⟩, ⟨S64x128, qDecayed 16#32 31#32 q b⟩, ⟨S64x128, qDecayed 32#32 47#32 q b⟩, ⟨S64x128, qDecayed 48#32 63#32 q b⟩] concatenates_S64x128_S64x128_S64x128_S64x128_S256x128_d0) bitsLt_bf16_f32)
      (truncf .bf16 (mulf k (exp (subf (ends b) b))) bitsLt_bf16_f32) (constant S256x64 .f32 0x00000000#32))
    (broadcast S256x64 (Scalar.ofBits .f32 0x00000000#32))

/-- The scores inside a chunk: the four blocks added. -/
def scores (q k b : FVec F S64x128 .f32) : FVec F S64x64 .f32 :=
  addf (addf (addf (extractStridedSlice S64x64 ![0, 0] (stacked q k b) slices_S256x64_o0_0_S64x64)
    (extractStridedSlice S64x64 ![64, 0] (stacked q k b) slices_S256x64_o64_0_S64x64))
    (extractStridedSlice S64x64 ![128, 0] (stacked q k b) slices_S256x64_o128_0_S64x64))
    (extractStridedSlice S64x64 ![192, 0] (stacked q k b) slices_S256x64_o192_0_S64x64)

/-- The keys, decayed to the end of the chunk. -/
def kDecayed (k b : FVec F S64x128 .f32) : FVec F S64x128 .f32 := mulf k (exp (subf (rowsAt 63#32 b) b))

/-- A chunk of the values' gradient, in the running sums: through the state that leaves the chunk, through
the scores, and the other direction's gradient. -/
def dvOf (q k b : FVec F S64x128 .f32) (dout addv : Vec F S64x128 .f32) (g : Vec F S128x128 .f32) : FVec F S64x128 .bf16 :=
  truncf .bf16
    (addf (addf
      (matmul dot_S64x128_S128x128_S64x128_1_1_0_0_n_n none (truncf .bf16 (kDecayed k b) bitsLt_bf16_f32)
        (truncf .bf16 g bitsLt_bf16_f32) (constant S64x128 .f32 0x00000000#32))
      (matmul dot_S64x64_S64x128_S64x128_0_0_1_1_n_n none (truncf .bf16 (scores q k b) bitsLt_bf16_f32)
        (truncf .bf16 (shapeCast S64x128 dout shapeCasts_S64x128_S64x128) bitsLt_bf16_f32) (constant S64x128 .f32 0x00000000#32)))
      addv) bitsLt_bf16_f32

/-- A chunk of the values' gradient. -/
def dvChunk (zq zf : Vec F S64x128 .f32) (lb : Vec F S1x1x128 .f32) (dout addv : Vec F S64x128 .f32) (g : Vec F S128x128 .f32) : FVec F S64x128 .bf16 :=
  dvOf (queries zq) (keys zf lb) (running (logGate zf lb)) dout addv g

/-- The state's gradient, taken over a chunk. -/
def gradStep (dec : Vec F S1x1x1x128 .f32) (dout : Vec F S64x128 .f32) (qs : Vec F S64x128 .bf16) (g : Vec F S128x128 .f32) : FVec F S128x128 .f32 :=
  addf (mulf (broadcastTo S128x128 (shapeCast S1x128 dec shapeCasts_S1x1x1x128_S1x128) broadcasts_S1x128_S128x128) g)
    (matmul dot_S64x128_S64x128_S128x128_0_0_1_1_n_n none (truncf .bf16 dout bitsLt_bf16_f32) (shapeCast S64x128 qs shapeCasts_S64x128_S64x128) (constant S128x128 .f32 0x00000000#32))

end Cert.KernelIdeal.Dv
-- ==== Proof.Bridge.lean ====
module

public import proofs.«01_k».proof.Proof.Chunk

@[expose] public section

set_option maxRecDepth 16384

noncomputable section

/-! The pieces the kernel's run leaves in the values' gradient and in the carried scratch, as the chunk
functions of `Chunk`: 32 pieces per block of 2048 rows, each from its rows of the blocks. -/

namespace Cert.KernelIdeal.Dv

open Idealize.ShloMosaic Idealize.ShloMosaic.Tactic Cert.KernelIdeal.Gen

variable {F : FTy → Type} [FloatOps F]

/-- The values `f (n-1), …, f 0` as a list. -/
def downTo {α : Type} (f : ℕ → α) : ℕ → List α
  | 0 => []
  | n + 1 => f n :: downTo f n

theorem mem_downTo {α : Type} (f : ℕ → α) (p : α) : ∀ n, p ∈ downTo f n → ∃ k, k < n ∧ p = f k
  | 0, h => absurd h List.not_mem_nil
  | n + 1, h => by
    rcases List.mem_cons.mp h with h | h
    · exact ⟨n, Nat.lt_succ_self n, h⟩
    · obtain ⟨k, hk, e⟩ := mem_downTo f p n h
      exact ⟨k, Nat.lt_succ_of_lt hk, e⟩

theorem inb_rows (n : ℕ) : ∀ a, (![64 * (n % 32), 0] : Fin 2 → ℕ) a + S64x128.size a ≤ S2048x128.size a := by
  have h : n % 32 < 32 := Nat.mod_lt _ (by decide)
  intro a
  match a with
  | ⟨0, _⟩ => show 64 * (n % 32) + 64 ≤ 2048; omega
  | ⟨1, _⟩ => show 0 + 128 ≤ 128; omega

theorem inb_dec (n : ℕ) : ∀ a, (![0, n % 32, 0, 0] : Fin 4 → ℕ) a + S1x1x1x128.size a ≤ S1x32x1x128.size a := by
  have h : n % 32 < 32 := Nat.mod_lt _ (by decide)
  intro a
  match a with
  | ⟨0, _⟩ => show 0 + 1 ≤ 1; omega
  | ⟨1, _⟩ => show n % 32 + 1 ≤ 32; omega
  | ⟨2, _⟩ => show 0 + 1 ≤ 1; omega
  | ⟨3, _⟩ => show 0 + 128 ≤ 128; omega

/-- The rows of chunk `n` in a block of 2048 rows. -/
def rowsR (n : ℕ) : Rect S2048x128 := Rect.unit (s := S2048x128) ![64 * (n % 32), 0] S64x128.size (inb_rows n)

/-- The row of chunk `n` in a block of 32 rows of decays. -/
def decR (n : ℕ) : Rect S1x32x1x128 := Rect.unit (s := S1x32x1x128) ![0, n % 32, 0, 0] S1x1x1x128.size (inb_dec n)

/-- The whole row of bounds. -/
def boundR : Rect S1x1x128 := Rect.unit (s := S1x1x128) ![0, 0, 0] S1x1x128.size inb_S1x1x128_S1x1x128_0_0_0

/-- The whole carried scratch. -/
def stateR : Rect S128x128 := Rect.unit (s := S128x128) ![0, 0] S128x128.size inb_S128x128_S128x128_0_0

/-- A load of the rows of chunk `n` from a block held at `x`. -/
def ld {e : EltTy} (a : Memref sig .tc .vmem S2048x128 e) (h : a.IsWhole) (x : Vec F S2048x128 e) (n : ℕ) : Vec F S64x128 e :=
  View.readAt (Elt F) a.view (rowsR n).toLoadRect (h.unread x)

/-- A load of chunk `n`'s decay. -/
def ldDec (a : Memref sig .tc .vmem S1x32x1x128 .f32) (h : a.IsWhole) (x : Vec F S1x32x1x128 .f32) (n : ℕ) : Vec F S1x1x1x128 .f32 :=
  View.readAt (Elt F) a.view (decR n).toLoadRect (h.unread x)

/-- The load of the bounds. -/
def ldBound (a : Memref sig .tc .vmem S1x1x128 .f32) (h : a.IsWhole) (x : Vec F S1x1x128 .f32) : Vec F S1x1x128 .f32 :=
  View.readAt (Elt F) a.view boundR.toLoadRect (h.unread x)

/-- The state's gradient after `n` chunks. -/
def chain (dec : ℕ → Vec F S1x1x1x128 .f32) (dout : ℕ → Vec F S64x128 .f32) (qs : ℕ → Vec F S64x128 .bf16) (g : Vec F S128x128 .f32) : ℕ → Vec F S128x128 .f32
  | 0 => g
  | n + 1 => gradStep (dec n) (dout n) (qs n) (chain dec dout qs g n)

/-- The state's gradient as the chunk `n` of a block sees it: the first one takes the load through a reshape to
its own shape. -/
def seen (dec : ℕ → Vec F S1x1x1x128 .f32) (dout : ℕ → Vec F S64x128 .f32) (qs : ℕ → Vec F S64x128 .bf16) (g : Vec F S128x128 .f32) : ℕ → Vec F S128x128 .f32
  | 0 => shapeCast S128x128 g shapeCasts_S128x128_S128x128
  | n + 1 => chain dec dout qs g (n + 1)

/-- What the first block of a head starts from: the scratch read after zeros were stored. -/
def zeroState (a : Memref sig .tc .vmem S128x128 .f32) : Vec F S128x128 .f32 :=
  a.view.readCov (Val := Elt F) [⟨stateR, shapeCast S128x128 (broadcast S128x128 (Scalar.ofBits (F := F) .f32 0x00000000#32)) shapeCasts_S128x128_S128x128⟩] stateR.toLoadRect

/-- What a later block starts from: the scratch the block before left. -/
def keptState (a : Memref sig .tc .vmem S128x128 .f32) (h : a.IsWhole) (x : Vec F S128x128 .f32) : Vec F S128x128 .f32 :=
  View.readAt (Elt F) a.view stateR.toLoadRect (h.unread x)

variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x1x128 .f32) (harg5 : arg5.IsWhole) (arg6 : Memref sig .tc .vmem S1x32x128x128 .bf16) (harg6 : arg6.IsWhole) (arg7 : Memref sig .tc .vmem S2048x128 .bf16) (harg7 : arg7.IsWhole) (arg8 : Memref sig .tc .vmem S1x32x1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1x1x128 .f32) (harg15 : arg15.IsWhole) (arg16 : Memref sig .tc .vmem S128x128 .f32) (harg16 : arg16.IsWhole)
variable (x0 : Vec F S2048x128 .f32) (x1 : Vec F S2048x128 .f32) (x2 : Vec F S2048x128 .f32) (x3 : Vec F S1x1x128 .f32) (x4 : Vec F S1x32x128x128 .bf16) (x5 : Vec F S2048x128 .bf16) (x6 : Vec F S1x32x1x128 .f32) (x7 : Vec F S2048x128 .f32) (x8 : Vec F S2048x128 .f32) (x9 : Vec F S2048x128 .f32)

set_option maxHeartbeats 4000000 in
/-- In a first block of a head the values' gradient is stored chunk by chunk. -/
theorem pieces_A (hc0 : cond0_0 i) (hc1 : cond0_1 i) (hc2 : ¬cond0_2 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.1
      = downTo (fun n => ⟨rowsR n, dvChunk (ld arg2 harg2 x0 n) (ld arg3 harg3 x1 n) (ldBound arg5 harg5 x3) (ld arg9 harg9 x7 n) (ld arg11 harg11 x9 n)
          (seen (ldDec arg8 harg8 x6) (ld arg9 harg9 x7) (ld arg7 harg7 x5) (zeroState arg16) n)⟩) 32 := by
  sl_kernel_rfl

set_option maxHeartbeats 4000000 in
/-- In a first block of a head the scratch is left at the state's gradient after its 32 chunks. -/
theorem state_A (hc0 : cond0_0 i) (hc1 : cond0_1 i) (hc2 : ¬cond0_2 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9).2.2.2.2.1
      = [⟨stateR, shapeCast S128x128 (chain (ldDec arg8 harg8 x6) (ld arg9 harg9 x7) (ld arg7 harg7 x5) (zeroState arg16) 32) shapeCasts_S128x128_S128x128⟩,
        ⟨stateR, shapeCast S128x128 (broadcast S128x128 (Scalar.ofBits (F := F) .f32 0x00000000#32)) shapeCasts_S128x128_S128x128⟩] := by
  sl_kernel_rfl

set_option maxHeartbeats 4000000 in
/-- In a later block of a head the values' gradient is stored chunk by chunk. -/
theorem pieces_B (hc0 : ¬cond0_0 i) (hc1 : ¬cond0_1 i) (hc2 : cond0_2 i) (xo13 : Vec F S1x1x128 .f32) (xs0 : Vec F S128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo13 xs0).2.2.1
      = downTo (fun n => ⟨rowsR n, dvChunk (ld arg2 harg2 x0 n) (ld arg3 harg3 x1 n) (ldBound arg5 harg5 x3) (ld arg9 harg9 x7 n) (ld arg11 harg11 x9 n)
          (seen (ldDec arg8 harg8 x6) (ld arg9 harg9 x7) (ld arg7 harg7 x5) (keptState arg16 harg16 xs0) n)⟩) 32 := by
  sl_kernel_rfl

set_option maxHeartbeats 4000000 in
/-- In a later block of a head the scratch is left at the state's gradient after its 32 chunks. -/
theorem state_B (hc0 : ¬cond0_0 i) (hc1 : ¬cond0_1 i) (hc2 : cond0_2 i) (xo13 : Vec F S1x1x128 .f32) (xs0 : Vec F S128x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 xo13 xs0).2.2.2.2.1
      = [⟨stateR, shapeCast S128x128 (chain (ldDec arg8 harg8 x6) (ld arg9 harg9 x7) (ld arg7 harg7 x5) (keptState arg16 harg16 xs0) 32) shapeCasts_S128x128_S128x128⟩] := by
  sl_kernel_rfl

end Cert.KernelIdeal.Dv
-- ==== Proof.Spec.lean ====
module

public import Idealize.ShloMosaic.PureOps.Ideal

@[expose] public section

noncomputable section

/-! The gradient of the gated scan's values in closed form, over the extended reals: what both programs are shown
to compute. A chunk has 64 rows; row 0 is the last in time. -/

namespace Cert.Dv

open Idealize.ShloMosaic

/-- The sum of a column from a row to the chunk's last. -/
def tail (f : Fin 64 → EReal) (y : ℕ) : EReal := ∑ i ∈ Finset.range 64, if h : y + i < 64 then f ⟨y + i, h⟩ else 0

/-- The score of a query row against a key row: zero where the key is later in time. -/
def score (q k b : Fin 64 → Fin 128 → EReal) (yq yk : Fin 64) : EReal :=
  if yq ≤ yk then ∑ d, q yq d * k yk d * Ideal.exp (b yq d - b yk d) else 0

/-- A chunk of the values' gradient: through the state the chunk leaves, and through the scores. -/
def inner (q k b dout : Fin 64 → Fin 128 → EReal) (g : Fin 128 → Fin 128 → EReal) (y : Fin 64) (v : Fin 128) : EReal :=
  (∑ d, k y d * Ideal.exp (b 0 d - b y d) * g v d) + ∑ yq, score q k b yq y * dout yq v

/-- The state's gradient taken over a chunk (values by keys). -/
def carried (q b dout : Fin 64 → Fin 128 → EReal) (g : Fin 128 → Fin 128 → EReal) (v d : Fin 128) : EReal :=
  Ideal.exp (b 0 d) * g v d + ∑ y, dout y v * (q y d * Ideal.exp (b y d))

/-- A value is a real number. -/
def IsReal (x : EReal) : Prop := ∃ r : ℝ, x = r

theorem IsReal.add {x y : EReal} : IsReal x → IsReal y → IsReal (x + y) := by
  rintro ⟨a, rfl⟩ ⟨b, rfl⟩
  exact ⟨a + b, rfl⟩

theorem IsReal.zero : IsReal 0 := ⟨0, rfl⟩

theorem IsReal.sum {ι : Type} (s : Finset ι) (f : ι → EReal) (h : ∀ i, IsReal (f i)) : IsReal (∑ i ∈ s, f i) := by
  classical
  induction s using Finset.induction_on with
  | empty => exact IsReal.zero
  | insert a s ha ih => rw [Finset.sum_insert ha]; exact (h a).add ih

theorem IsReal.tail (f : Fin 64 → EReal) (h : ∀ y, IsReal (f y)) (y : ℕ) : IsReal (tail f y) := by
  refine IsReal.sum _ _ fun i => ?_
  by_cases hi : y + i < 64
  · rw [dif_pos hi]; exact h _
  · rw [dif_neg hi]; exact IsReal.zero

/-- Two decays to a common row make the decay between the rows. -/
theorem decay_split (q k x y z : EReal) (hx : IsReal x) (hy : IsReal y) (hz : IsReal z) :
    q * Ideal.exp (x - z) * (k * Ideal.exp (z - y)) = q * k * Ideal.exp (x - y) := by
  obtain ⟨x, rfl⟩ := hx
  obtain ⟨y, rfl⟩ := hy
  obtain ⟨z, rfl⟩ := hz
  rw [mul_mul_mul_comm]
  congr 1
  rw [← EReal.coe_sub, ← EReal.coe_sub, ← EReal.coe_sub, Ideal.exp_coe, Ideal.exp_coe, Ideal.exp_coe, ← EReal.coe_mul, ← Real.exp_add]
  congr 2
  ring

/-- The logarithm of a forget gate is real when its bound lies in [0, 1] and its input is real. -/
theorem isReal_log_gate (l z : EReal) (h0 : 0 ≤ l) (h1 : l ≤ 1) (hz : IsReal z) :
    IsReal (Ideal.log (l + (1 - l) * Ideal.logistic z)) := by
  obtain ⟨z, rfl⟩ := hz
  have hl : l ≠ ⊤ ∧ l ≠ ⊥ := ⟨fun h => by rw [h] at h1; exact absurd (top_le_iff.mp h1) (EReal.coe_ne_top 1), fun h => by rw [h] at h0; exact absurd h0 (by simp)⟩
  lift l to ℝ using hl
  have h0' : 0 ≤ l := by exact_mod_cast h0
  have h1' : l ≤ 1 := by exact_mod_cast h1
  rw [Ideal.logistic_coe]
  have hs : 0 < (1 + Real.exp (-z))⁻¹ := by positivity
  have e : (l : EReal) + (1 - (l : EReal)) * (((1 + Real.exp (-z))⁻¹ : ℝ) : EReal) = ((l + (1 - l) * (1 + Real.exp (-z))⁻¹ : ℝ) : EReal) := by
    push_cast
    rfl
  rw [e, Ideal.log_coe, if_neg]
  · exact ⟨_, rfl⟩
  · rw [not_le]
    rcases h0'.lt_or_eq with h | h
    · have : 0 ≤ (1 - l) * (1 + Real.exp (-z))⁻¹ := mul_nonneg (by linarith) hs.le
      linarith
    · rw [← h]; simpa using hs

end Cert.Dv
-- ==== Proof.Whole.lean ====
module

public import proofs.«01_k».proof.Proof.Spec
public import Idealize.ShloMosaic.Lib.Pointwise

@[expose] public section

noncomputable section

/-! The values' gradient of the whole scan over the four arrays it is taken of: 8 heads of 128 features, 256 chunks
of 64 rows. The scan runs from the last row to the first, so its gradient runs from chunk 0 up. -/

namespace Cert.Dv

open Idealize.ShloMosaic Idealize.ShloMosaic.Pointwise

/-- The row at place `y` of chunk `c`. -/
def rowOf (c : ℕ) (y : Fin 64) : Fin 16384 := ⟨64 * (c % 256) + y.val, by omega⟩

/-- The column of feature `d` of head `h`. -/
def colOf (h : Fin 8) (d : Fin 128) : Fin 1024 := ⟨128 * h.val + d.val, by omega⟩

/-- The query's pre-activation column. -/
def qCol (h : Fin 8) (d : Fin 128) : Fin 5120 := ⟨128 * h.val + d.val, by omega⟩

/-- The gate's pre-activation column. -/
def fCol (h : Fin 8) (d : Fin 128) : Fin 5120 := ⟨2048 + 128 * h.val + d.val, by omega⟩

/-- The shapes of the four arrays. -/
abbrev Zs : Shape := ⟨2, ![16384, 5120]⟩
abbrev Ls : Shape := ⟨3, ![8, 1, 128]⟩
abbrev Rs : Shape := ⟨2, ![16384, 1024]⟩

variable (z : Zs.Idx → EReal) (lb : Ls.Idx → EReal) (dout addv : Rs.Idx → EReal)

/-- The queries of a chunk. -/
def qs (h : Fin 8) (c : ℕ) (y : Fin 64) (d : Fin 128) : EReal := z (ix2 (rowOf c y) (qCol h d)) * Ideal.logistic (z (ix2 (rowOf c y) (qCol h d)))

/-- The keys of a chunk. -/
def ks (h : Fin 8) (c : ℕ) (y : Fin 64) (d : Fin 128) : EReal := (1 - lb (ix3 h 0 d)) * (1 - Ideal.logistic (z (ix2 (rowOf c y) (fCol h d))))

/-- The logarithms of a chunk's gates. -/
def gs (h : Fin 8) (c : ℕ) (y : Fin 64) (d : Fin 128) : EReal := Ideal.log (lb (ix3 h 0 d) + (1 - lb (ix3 h 0 d)) * Ideal.logistic (z (ix2 (rowOf c y) (fCol h d))))

/-- Their running sums. -/
def bs (h : Fin 8) (c : ℕ) (y : Fin 64) (d : Fin 128) : EReal := tail (fun y => gs z lb h c y d) y.val

/-- The rows of the incoming gradient. -/
def ds (h : Fin 8) (c : ℕ) (y : Fin 64) (v : Fin 128) : EReal := dout (ix2 (rowOf c y) (colOf h v))

/-- The state's gradient before chunk `c` (values by keys). -/
def grad (h : Fin 8) : ℕ → Fin 128 → Fin 128 → EReal
  | 0 => fun _ _ => 0
  | c + 1 => carried (qs z h c) (bs z lb h c) (ds dout h c) (grad h c)

/-- The values' gradient at a row and a column. -/
def valuesGrad (h : Fin 8) (c : ℕ) (y : Fin 64) (v : Fin 128) : EReal :=
  Cert.Dv.inner (qs z h c) (ks z lb h c) (bs z lb h c) (ds dout h c) (grad z lb dout h c) y v + addv (ix2 (rowOf c y) (colOf h v))

/-- The values' gradient as an array. -/
def out : Rs.Idx → EReal := fun i => valuesGrad z lb dout addv ⟨(i 1).val / 128, by have : (i 1).val < 1024 := (i 1).isLt; omega⟩ ((i 0).val / 64)
  ⟨(i 0).val % 64, Nat.mod_lt _ (by decide)⟩ ⟨(i 1).val % 128, Nat.mod_lt _ (by decide)⟩

/-- The gates are real numbers: the precondition both programs are read under. -/
def RealGates : Prop := (∀ h d, 0 ≤ lb (ix3 h 0 d) ∧ lb (ix3 h 0 d) ≤ 1) ∧ ∀ h c y d, IsReal (z (ix2 (rowOf c y) (fCol h d)))

theorem bs_real (H : RealGates z lb) (h : Fin 8) (c : ℕ) (y : Fin 64) (d : Fin 128) : IsReal (bs z lb h c y d) :=
  IsReal.tail _ (fun y => isReal_log_gate _ _ (H.1 h d).1 (H.1 h d).2 (H.2 h c y d)) _

end Cert.Dv
-- ==== Proof.Running.lean ====
module

public import proofs.«01_k».proof.Proof.Spec
public import Idealize.ShloMosaic.Lib.Pointwise

@[expose] public section

set_option maxRecDepth 16384

noncomputable section

/-! The host's running sum over the 64 places of each chunk, read at an index. -/

namespace Cert.Dv

open Idealize.ShloMosaic Idealize.ShloMosaic.Pointwise

/-- Adding the entries of a list one after another is adding their sum. -/
theorem foldl_add {α : Type} (f : α → EReal) : ∀ (l : List α) (v : EReal), l.foldl (fun r n => r + f n) v = v + (l.map f).sum
  | [], v => by simp
  | a :: l, v => by rw [List.foldl_cons, foldl_add f l, List.map_cons, List.sum_cons, add_assoc]

/-- The chunked arrays' shape. -/
abbrev Chunks : Shape := ⟨4, ![256, 8, 64, 128]⟩

/-- The window of the running sum. -/
abbrev Win : Shape := ⟨4, ![1, 1, 64, 1]⟩

/-- The window's positions in order step through its one long axis. -/
theorem win_pos : ∀ (n : Fin 64), (Win.rowMajor.symm (n.cast (by decide)) 0).val = 0 ∧ (Win.rowMajor.symm (n.cast (by decide)) 1).val = 0
    ∧ (Win.rowMajor.symm (n.cast (by decide)) 2).val = n.val ∧ (Win.rowMajor.symm (n.cast (by decide)) 3).val = 0 := by
  decide +kernel

/-- The running sum at the place `63 - y` of a chunk adds the places up to it: the rows from `y` on, counted from
the chunk's end. -/
theorem windowSum_apply (x : FVec Ideal Chunks .f32) (init : (⟨0, ![]⟩ : Shape).Idx → EReal)
    (h : Chunks.ReduceWindows ![1, 1, 64, 1] ![1, 1, 1, 1] ![0, 0, 63, 0] ![0, 0, 0, 0] Chunks) (hu : 0 < (⟨0, ![]⟩ : Shape).numel)
    (hi : init (Shape.Idx.first hu) = 0) (n : Fin 256) (a : Fin 8) (y : Fin 64) (d : Fin 128) :
    (Host.reduceWindowAdd (F := Ideal) (φ := .f32) ![1, 1, 64, 1] ![1, 1, 1, 1] ![0, 0, 63, 0] ![0, 0, 0, 0] x init h hu (ix4 n a y.rev d) : EReal)
      = tail (fun y => x (ix4 n a y.rev d)) y.val := by
  show Ideal.hostReduceWindowAdd _ _ _ _ h x (init (Shape.Idx.first hu)) (ix4 n a y.rev d) = _
  unfold Ideal.hostReduceWindowAdd Host.reduceWindow
  rw [hi]
  dsimp only
  rw [foldl_add, zero_add]
  have e : ∀ l : List (Fin Win.numel), l = List.finRange Win.numel → ∀ g : Fin Win.numel → EReal,
      (l.map g).sum = ∑ k : Fin 64, g (k.cast (by decide)) := by
    rintro l rfl g
    rw [← List.sum_ofFn, List.ofFn_eq_map]
    rfl
  rw [e _ rfl]
  unfold tail
  rw [← Fin.sum_univ_eq_sum_range (fun i => if h : y.val + i < 64 then x (ix4 n a (Fin.rev ⟨y.val + i, h⟩) d) else 0) 64,
    ← Equiv.sum_comp Fin.revPerm]
  refine Finset.sum_congr rfl fun k _ => ?_
  obtain ⟨p0, p1, p2, p3⟩ := win_pos (Fin.revPerm k)
  have hk := k.isLt
  have hy := y.isLt
  have ha := a.isLt
  have hn := n.isLt
  have hd := d.isLt
  have hr : (y.rev).val = 63 - y.val := by rw [Fin.val_rev]; omega
  have hkr : (Fin.revPerm k).val = 63 - k.val := by rw [Fin.revPerm_apply, Fin.val_rev]; omega
  by_cases hyk : y.val + k.val < 64
  · rw [dif_pos hyk, dif_pos]
    · refine congrArg x (funext fun b => Fin.ext ?_)
      match b with
      | ⟨0, _⟩ => show n.val * 1 + (Win.rowMajor.symm _ 0).val - 0 = n.val; rw [p0]; omega
      | ⟨1, _⟩ => show a.val * 1 + (Win.rowMajor.symm _ 1).val - 0 = a.val; rw [p1]; omega
      | ⟨2, _⟩ =>
        show (y.rev).val * 1 + (Win.rowMajor.symm _ 2).val - 63 = (Fin.rev (⟨y.val + k.val, hyk⟩ : Fin 64)).val
        rw [p2, hkr, hr, Fin.val_rev]; dsimp only; omega
      | ⟨3, _⟩ => show d.val * 1 + (Win.rowMajor.symm _ 3).val - 0 = d.val; rw [p3]; omega
    · intro b
      match b with
      | ⟨0, _⟩ => show 0 ≤ n.val * 1 + (Win.rowMajor.symm _ 0).val ∧ n.val * 1 + (Win.rowMajor.symm _ 0).val - 0 < 256; rw [p0]; omega
      | ⟨1, _⟩ => show 0 ≤ a.val * 1 + (Win.rowMajor.symm _ 1).val ∧ a.val * 1 + (Win.rowMajor.symm _ 1).val - 0 < 8; rw [p1]; omega
      | ⟨2, _⟩ =>
        show 63 ≤ (y.rev).val * 1 + (Win.rowMajor.symm _ 2).val ∧ (y.rev).val * 1 + (Win.rowMajor.symm _ 2).val - 63 < 64
        rw [p2, hkr, hr]; omega
      | ⟨3, _⟩ => show 0 ≤ d.val * 1 + (Win.rowMajor.symm _ 3).val ∧ d.val * 1 + (Win.rowMajor.symm _ 3).val - 0 < 128; rw [p3]; omega
  · rw [dif_neg hyk, dif_neg]
    intro H
    have H2 := (H 2).1
    change 63 ≤ (y.rev).val * 1 + (Win.rowMajor.symm _ 2).val at H2
    rw [p2, hkr, hr] at H2
    omega

end Cert.Dv
-- ==== Proof.HostIn.lean ====
module

public import proofs.«01_k».proof.Proof.Whole
public import proofs.«01_k».proof.Proof.Running
public import proofs.«01_k».proof.Proof.Gen.KernelIdeal.Frame.Runs
public import Idealize.ShloMosaic.Lib.Pointwise
public import Idealize.ShloMosaic.Lib.StableHlo.ReadAt

@[expose] public section

set_option maxRecDepth 16384

noncomputable section

/-! The two arrays the host prepares for the kernel, read at an index: the decayed queries and each chunk's whole
decay. -/

namespace Cert.KernelIdeal.Dv

open Idealize.ShloMosaic Idealize.ShloMosaic.TcCoe Cert.KernelIdeal.Gen Idealize.ShloMosaic.Pointwise Cert.Dv

variable (m : (ℓ : Loc nD τ sig) → Buf (Elt Ideal) ℓ) (c : Dev nD)

/-- The arrays as the functions the closed form is over. -/
abbrev zA : Zs.Idx → EReal := m ((c : Thread nD τ).loc main_arg0)
abbrev lA : Ls.Idx → EReal := m ((c : Thread nD τ).loc main_arg1)
abbrev dA : Rs.Idx → EReal := m ((c : Thread nD τ).loc main_arg3)
abbrev aA : Rs.Idx → EReal := m ((c : Thread nD τ).loc main_arg5)

/-- Summing equal columns. -/
theorem tail_congr {f g : Fin 64 → EReal} (h : ∀ y, f y = g y) (y : ℕ) : tail f y = tail g y := by
  rw [show f = g from funext h]

theorem gate_at (z : Zs.Idx → EReal) (l : Ls.Idx → EReal) {h : Fin 8} {n : ℕ} {y : Fin 64} {d : Fin 128} {r : Fin 16384} {a : Fin 8} {e : Fin 128} {k : Fin 5120}
    (hr : r = rowOf n y) (ha : a = h) (he : e = d) (hk : k = fCol h d) :
    Ideal.log (l (ix3 a 0 e) + (1 - l (ix3 a 0 e)) * Ideal.div 1 (1 + Ideal.exp (-z (ix2 r k)))) = gs z l h n y d := by
  subst hr ha he hk
  rfl

theorem query_at (z : Zs.Idx → EReal) {h : Fin 8} {n : ℕ} {y : Fin 64} {d : Fin 128} {r : Fin 16384} {k : Fin 5120}
    (hr : r = rowOf n y) (hk : k = qCol h d) :
    z (ix2 r k) * Ideal.div 1 (1 + Ideal.exp (-z (ix2 r k))) = qs z h n y d := by
  subst hr hk
  rfl

/-- The decay of a whole chunk. -/
theorem V38 (h : Fin 8) (n : Fin 256) (d : Fin 128) :
    (V (F := Ideal) m c main_v38 (ix4 h n 0 d) : EReal) = Ideal.exp (bs (zA m c) (lA m c) h n.val 0 d) := by
  unfold V
  after_reads_simp
  try simp -implicitDefEqProofs only [StableHlo.TRef.toBuf, StableHlo.TRef.ofBuf, cast_eq]
  clean_types
  pointwise
  refine congrArg Ideal.exp ?_
  refine (windowSum_apply _ _ _ _ (by pointwise) n.rev h 0 d).trans ?_
  unfold bs
  refine tail_congr (fun y => ?_) _
  pointwise
  have hn := n.isLt
  have hh := h.isLt
  have hy := y.isLt
  have hd := d.isLt
  refine gate_at (zA m c) (lA m c) (Fin.ext ?_) (Fin.ext ?_) (Fin.ext ?_) (Fin.ext ?_)
  · change 16384 - ((256 - (n.val + 1)) * 64 + (64 - (y.val + 1)) + 1) = 64 * (n.val % 256) + y.val
    omega
  · change (h.val * 128 + d.val) / 128 = h.val
    omega
  · change (h.val * 128 + d.val) % 128 = d.val
    omega
  · change 2048 + (h.val * 128 + d.val) = 2048 + 128 * h.val + d.val
    omega

/-- The queries, decayed to their chunk's start. -/
theorem V35 (h : Fin 8) (n : Fin 256) (y : Fin 64) (d : Fin 128) :
    (V (F := Ideal) m c main_v35 (ix2 (rowOf n.val y) (colOf h d)) : EReal) = qs (zA m c) h n.val y d * Ideal.exp (bs (zA m c) (lA m c) h n.val y d) := by
  unfold V
  after_reads_simp
  try simp -implicitDefEqProofs only [StableHlo.TRef.toBuf, StableHlo.TRef.ofBuf, cast_eq]
  clean_types
  pointwise
  have hn := n.isLt
  have hh := h.isLt
  have hy := y.isLt
  have hd := d.isLt
  congr 1
  · refine query_at (zA m c) (Fin.ext ?_) (Fin.ext ?_)
    · change 16384 - ((16384 - (64 * (n.val % 256) + y.val + 1)) / 64 * 64 + (16384 - (64 * (n.val % 256) + y.val + 1)) % 64 + 1) = 64 * (n.val % 256) + y.val
      omega
    · change (128 * h.val + d.val) / 128 * 128 + (128 * h.val + d.val) % 128 = 128 * h.val + d.val
      omega
  refine congrArg Ideal.exp ?_
  have e : ∀ (v : FVec Ideal Chunks .f32) (i : Fin 256) (a : Fin 8) (t : Fin 64) (k : Fin 128), i = n.rev → a = h → t = y.rev → k = d → v (ix4 i a t k) = v (ix4 n.rev h y.rev d) := by
    rintro v _ _ _ _ rfl rfl rfl rfl
    rfl
  refine (e _ _ _ _ _ (Fin.ext ?_) (Fin.ext ?_) (Fin.ext ?_) (Fin.ext ?_)).trans ((windowSum_apply _ _ _ _ (by pointwise) n.rev h y d).trans ?_)
  · change (16384 - (64 * (n.val % 256) + y.val + 1)) / 64 = 256 - (n.val + 1)
    omega
  · change (128 * h.val + d.val) / 128 = h.val
    omega
  · change (16384 - (64 * (n.val % 256) + y.val + 1)) % 64 = 64 - (y.val + 1)
    omega
  · change (128 * h.val + d.val) % 128 = d.val
    omega
  unfold bs
  refine tail_congr (fun y => ?_) _
  have hy := y.isLt
  pointwise
  refine gate_at (zA m c) (lA m c) (Fin.ext ?_) (Fin.ext ?_) (Fin.ext ?_) (Fin.ext ?_)
  · change 16384 - ((256 - (n.val + 1)) * 64 + (64 - (y.val + 1)) + 1) = 64 * (n.val % 256) + y.val
    omega
  · change (h.val * 128 + d.val) / 128 = h.val
    omega
  · change (h.val * 128 + d.val) % 128 = d.val
    omega
  · change 2048 + (h.val * 128 + d.val) = 2048 + 128 * h.val + d.val
    omega

end Cert.KernelIdeal.Dv
-- ==== Proof.Blocks.lean ====
module

public import proofs.«01_k».proof.Proof.Bridge
public import proofs.«01_k».proof.Proof.HostIn
public import proofs.«01_k».proof.Proof.Gen.KernelIdeal.Frame
public import Idealize.ShloMosaic.Lib.WholeRead

@[expose] public section

set_option maxRecDepth 16384

noncomputable section

/-! The kernel's blocks at a point of the grid, read at an index of a chunk: point `t` takes head `t / 8` and the rows
of the chunks from `32 * (t % 8)`. -/

namespace Cert.KernelIdeal.Dv

open Idealize.ShloMosaic Idealize.ShloMosaic.TcCoe Cert.KernelIdeal.Gen Idealize.ShloMosaic.Pointwise Cert.Dv

variable (m : (ℓ : Loc nD τ sig) → Buf (Elt Ideal) ℓ) (c : Dev nD)

/-- The head of a point. -/
def hd (t : Fin cfg0.N) : Fin 8 := ⟨t.val / 8, by have := lt_of_lt_of_eq t.isLt (show cfg0.N = 64 from N_0); omega⟩

/-- The chunk of the whole scan that is chunk `n` of a point. -/
def ch (t : Fin cfg0.N) (n : ℕ) : ℕ := 32 * (t.val % 8) + n

theorem idx0 : ∀ t : Fin cfg0.N, win0_0.index t (0 : Fin 2) = t.val % 8 ∧ win0_0.index t (1 : Fin 2) = t.val / 8 := (by decide +kernel : ∀ t : Fin grid0.N, _)
theorem idx1 : ∀ t : Fin cfg0.N, win0_1.index t (0 : Fin 2) = t.val % 8 ∧ win0_1.index t (1 : Fin 2) = 16 + t.val / 8 := (by decide +kernel : ∀ t : Fin grid0.N, _)
theorem idx3 : ∀ t : Fin cfg0.N, win0_3.index t (0 : Fin 3) = t.val / 8 ∧ win0_3.index t (1 : Fin 3) = 0 ∧ win0_3.index t (2 : Fin 3) = 0 := (by decide +kernel : ∀ t : Fin grid0.N, _)
theorem idx5 : ∀ t : Fin cfg0.N, win0_5.index t (0 : Fin 2) = t.val % 8 ∧ win0_5.index t (1 : Fin 2) = t.val / 8 := (by decide +kernel : ∀ t : Fin grid0.N, _)
theorem idx6 : ∀ t : Fin cfg0.N, win0_6.index t (0 : Fin 4) = t.val / 8 ∧ win0_6.index t (1 : Fin 4) = t.val % 8 ∧ win0_6.index t (2 : Fin 4) = 0 ∧ win0_6.index t (3 : Fin 4) = 0 := (by decide +kernel : ∀ t : Fin grid0.N, _)
theorem idx7 : ∀ t : Fin cfg0.N, win0_7.index t (0 : Fin 2) = t.val % 8 ∧ win0_7.index t (1 : Fin 2) = t.val / 8 := (by decide +kernel : ∀ t : Fin grid0.N, _)
theorem idx9 : ∀ t : Fin cfg0.N, win0_9.index t (0 : Fin 2) = t.val % 8 ∧ win0_9.index t (1 : Fin 2) = t.val / 8 := (by decide +kernel : ∀ t : Fin grid0.N, _)

/-- A load of a chunk's rows reads the block at them. -/
theorem ld_apply {e : EltTy} (a : Memref sig .tc .vmem S2048x128 e) (h : a.IsWhole) (x : Vec Ideal S2048x128 e) (n : ℕ) (hn : n < 32) (y : Fin 64) (d : Fin 128) :
    ld (F := Ideal) a h x n (ix2 y d) = x (ix2 ⟨64 * n + y.val, by omega⟩ d) := by
  refine (h.readAt_unread x (rowsR n).toLoadRect (ix2 y d)).trans (congrArg x (funext fun b => Fin.ext ?_))
  match b with
  | ⟨0, _⟩ => show 64 * (n % 32) + 1 * y.val = 64 * n + y.val; omega
  | ⟨1, _⟩ => show 0 + 1 * d.val = d.val; omega

theorem ldDec_apply (a : Memref sig .tc .vmem S1x32x1x128 .f32) (h : a.IsWhole) (x : Vec Ideal S1x32x1x128 .f32) (n : ℕ) (hn : n < 32) (d : Fin 128) :
    ldDec (F := Ideal) a h x n (ix4 0 0 0 d) = x (ix4 0 ⟨n, hn⟩ 0 d) := by
  refine (h.readAt_unread x (decR n).toLoadRect (ix4 0 0 0 d)).trans (congrArg x (funext fun b => Fin.ext ?_))
  match b with
  | ⟨0, _⟩ => rfl
  | ⟨1, _⟩ => show n % 32 + 1 * 0 = n; omega
  | ⟨2, _⟩ => rfl
  | ⟨3, _⟩ => show 0 + 1 * d.val = d.val; omega

theorem ldBound_apply (a : Memref sig .tc .vmem S1x1x128 .f32) (h : a.IsWhole) (x : Vec Ideal S1x1x128 .f32) (d : Fin 128) :
    ldBound (F := Ideal) a h x (ix3 0 0 d) = x (ix3 0 0 d) := by
  refine (h.readAt_unread x boundR.toLoadRect (ix3 0 0 d)).trans (congrArg x (funext fun b => Fin.ext ?_))
  match b with
  | ⟨0, _⟩ => rfl
  | ⟨1, _⟩ => rfl
  | ⟨2, _⟩ => show 0 + 1 * d.val = d.val; omega

/-- The query block. -/
theorem query_blk (t : Fin cfg0.N) (n : ℕ) (hn : n < 32) (y : Fin 64) (d : Fin 128) :
    (ld (F := Ideal) (ms0_0 t) (hs0_0 t) (iblk m c 0 t) n (ix2 y d) : EReal) = zA m c (ix2 (rowOf (ch t n) y) (qCol (hd t) d)) := by
  rw [ld_apply _ _ _ _ hn]
  show V m c main_arg0 (((cfg0.win 0).blk t).view.emb (ix2 (⟨64 * n + y.val, by omega⟩ : Fin 2048) d)) = _
  rw [V_main_arg0]
  obtain ⟨e0, e1⟩ := idx0 t
  refine congrArg (zA m c) (funext fun b => Fin.ext ?_)
  match b with
  | ⟨0, _⟩ => show win0_0.index t (0 : Fin 2) * 2048 + 1 * (64 * n + y.val) = 64 * ((32 * (t.val % 8) + n) % 256) + y.val; omega
  | ⟨1, _⟩ => show win0_0.index t (1 : Fin 2) * 128 + 1 * d.val = 128 * (t.val / 8) + d.val; omega

/-- The gates' block. -/
theorem gate_blk (t : Fin cfg0.N) (n : ℕ) (hn : n < 32) (y : Fin 64) (d : Fin 128) :
    (ld (F := Ideal) (ms0_1 t) (hs0_1 t) (iblk m c 1 t) n (ix2 y d) : EReal) = zA m c (ix2 (rowOf (ch t n) y) (fCol (hd t) d)) := by
  rw [ld_apply _ _ _ _ hn]
  show V m c main_arg0 (((cfg0.win 1).blk t).view.emb (ix2 (⟨64 * n + y.val, by omega⟩ : Fin 2048) d)) = _
  rw [V_main_arg0]
  obtain ⟨e0, e1⟩ := idx1 t
  refine congrArg (zA m c) (funext fun b => Fin.ext ?_)
  match b with
  | ⟨0, _⟩ => show win0_1.index t (0 : Fin 2) * 2048 + 1 * (64 * n + y.val) = 64 * ((32 * (t.val % 8) + n) % 256) + y.val; omega
  | ⟨1, _⟩ => show win0_1.index t (1 : Fin 2) * 128 + 1 * d.val = 2048 + 128 * (t.val / 8) + d.val; omega

/-- The bounds' block. -/
theorem bound_blk (t : Fin cfg0.N) (d : Fin 128) :
    (ldBound (F := Ideal) (ms0_3 t) (hs0_3 t) (iblk m c 3 t) (ix3 0 0 d) : EReal) = lA m c (ix3 (hd t) 0 d) := by
  rw [ldBound_apply]
  show V m c main_arg1 (((cfg0.win 3).blk t).view.emb (ix3 (0 : Fin 1) (0 : Fin 1) d)) = _
  rw [V_main_arg1]
  obtain ⟨e0, e1, e2⟩ := idx3 t
  refine congrArg (lA m c) (funext fun b => Fin.ext ?_)
  match b with
  | ⟨0, _⟩ => show win0_3.index t (0 : Fin 3) * 1 + 1 * 0 = t.val / 8; omega
  | ⟨1, _⟩ => show win0_3.index t (1 : Fin 3) * 1 + 1 * 0 = 0; omega
  | ⟨2, _⟩ => show win0_3.index t (2 : Fin 3) * 128 + 1 * d.val = d.val; omega

/-- The incoming gradient's block. -/
theorem dout_blk (t : Fin cfg0.N) (n : ℕ) (hn : n < 32) (y : Fin 64) (d : Fin 128) :
    (ld (F := Ideal) (ms0_7 t) (hs0_7 t) (iblk m c 7 t) n (ix2 y d) : EReal) = ds (dA m c) (hd t) (ch t n) y d := by
  rw [ld_apply _ _ _ _ hn]
  show V m c main_arg3 (((cfg0.win 7).blk t).view.emb (ix2 (⟨64 * n + y.val, by omega⟩ : Fin 2048) d)) = _
  rw [V_main_arg3]
  obtain ⟨e0, e1⟩ := idx7 t
  refine congrArg (dA m c) (funext fun b => Fin.ext ?_)
  match b with
  | ⟨0, _⟩ => show win0_7.index t (0 : Fin 2) * 2048 + 1 * (64 * n + y.val) = 64 * ((32 * (t.val % 8) + n) % 256) + y.val; omega
  | ⟨1, _⟩ => show win0_7.index t (1 : Fin 2) * 128 + 1 * d.val = 128 * (t.val / 8) + d.val; omega

/-- The added gradient's block. -/
theorem addv_blk (t : Fin cfg0.N) (n : ℕ) (hn : n < 32) (y : Fin 64) (d : Fin 128) :
    (ld (F := Ideal) (ms0_9 t) (hs0_9 t) (iblk m c 9 t) n (ix2 y d) : EReal) = aA m c (ix2 (rowOf (ch t n) y) (colOf (hd t) d)) := by
  rw [ld_apply _ _ _ _ hn]
  show V m c main_arg5 (((cfg0.win 9).blk t).view.emb (ix2 (⟨64 * n + y.val, by omega⟩ : Fin 2048) d)) = _
  rw [V_main_arg5]
  obtain ⟨e0, e1⟩ := idx9 t
  refine congrArg (aA m c) (funext fun b => Fin.ext ?_)
  match b with
  | ⟨0, _⟩ => show win0_9.index t (0 : Fin 2) * 2048 + 1 * (64 * n + y.val) = 64 * ((32 * (t.val % 8) + n) % 256) + y.val; omega
  | ⟨1, _⟩ => show win0_9.index t (1 : Fin 2) * 128 + 1 * d.val = 128 * (t.val / 8) + d.val; omega

/-- The decayed queries' block. -/
theorem qs_blk (t : Fin cfg0.N) (n : ℕ) (hn : n < 32) (y : Fin 64) (d : Fin 128) :
    (ld (F := Ideal) (ms0_5 t) (hs0_5 t) (iblk m c 5 t) n (ix2 y d) : EReal)
      = qs (zA m c) (hd t) (ch t n) y d * Ideal.exp (bs (zA m c) (lA m c) (hd t) (ch t n) y d) := by
  rw [ld_apply _ _ _ _ hn]
  show V m c main_v35 (((cfg0.win 5).blk t).view.emb (ix2 (⟨64 * n + y.val, by omega⟩ : Fin 2048) d)) = _
  obtain ⟨e0, e1⟩ := idx5 t
  refine Eq.trans (congrArg (V m c main_v35) (funext fun b => Fin.ext ?_)) (V35 m c (hd t) ⟨ch t n, by unfold ch; omega⟩ y d)
  match b with
  | ⟨0, _⟩ => show win0_5.index t (0 : Fin 2) * 2048 + 1 * (64 * n + y.val) = 64 * ((32 * (t.val % 8) + n) % 256) + y.val; omega
  | ⟨1, _⟩ => show win0_5.index t (1 : Fin 2) * 128 + 1 * d.val = 128 * (t.val / 8) + d.val; omega

/-- The decays' block. -/
theorem dec_blk (t : Fin cfg0.N) (n : ℕ) (hn : n < 32) (d : Fin 128) :
    (ldDec (F := Ideal) (ms0_6 t) (hs0_6 t) (iblk m c 6 t) n (ix4 0 0 0 d) : EReal) = Ideal.exp (bs (zA m c) (lA m c) (hd t) (ch t n) 0 d) := by
  rw [ldDec_apply _ _ _ _ hn]
  show V m c main_v38 (((cfg0.win 6).blk t).view.emb (ix4 (0 : Fin 1) (⟨n, hn⟩ : Fin 32) (0 : Fin 1) d)) = _
  obtain ⟨e0, e1, e2, e3⟩ := idx6 t
  refine Eq.trans (congrArg (V m c main_v38) (funext fun b => Fin.ext ?_)) (V38 m c (hd t) ⟨ch t n, by unfold ch; omega⟩ d)
  match b with
  | ⟨0, _⟩ => show win0_6.index t (0 : Fin 4) * 1 + 1 * 0 = t.val / 8; omega
  | ⟨1, _⟩ => show win0_6.index t (1 : Fin 4) * 32 + 1 * n = 32 * (t.val % 8) + n; omega
  | ⟨2, _⟩ => show win0_6.index t (2 : Fin 4) * 1 + 1 * 0 = 0; omega
  | ⟨3, _⟩ => show win0_6.index t (3 : Fin 4) * 128 + 1 * d.val = d.val; omega

end Cert.KernelIdeal.Dv
-- ==== Proof.ChunkIdeal.lean ====
module

public import proofs.«01_k».proof.Proof.Chunk
public import proofs.«01_k».proof.Proof.Spec
public import Idealize.ShloMosaic.Lib.Pointwise

@[expose] public section

set_option maxRecDepth 16384

noncomputable section

/-! The chunk functions over the extended reals, read at an index: the running sums, the picked rows, the
masks and the stacked scores, up to `Spec`'s closed form. -/

namespace Cert.KernelIdeal.Dv

open Idealize.ShloMosaic Cert.KernelIdeal.Gen Idealize.ShloMosaic.Pointwise Cert.Dv

/-- A table as a function of its two coordinates. -/
abbrev tab {a b : ℕ} (x : (⟨2, ![a, b]⟩ : Shape).Idx → EReal) : Fin a → Fin b → EReal := fun y d => x (ix2 y d)

/-- A partial running sum of `m` rows. -/
def part (f : Fin 64 → EReal) (m y : ℕ) : EReal := ∑ i ∈ Finset.range m, if h : y + i < 64 then f ⟨y + i, h⟩ else 0

theorem part_one (f : Fin 64 → EReal) (y : Fin 64) : part f 1 y = f y := by
  unfold part
  rw [Finset.sum_range_one, dif_pos (by omega)]
  rfl

theorem part_beyond (f : Fin 64 → EReal) (m y : ℕ) (h : 64 ≤ y) : part f m y = 0 :=
  Finset.sum_eq_zero fun i _ => dif_neg (by omega)

theorem part_double (f : Fin 64 → EReal) (m y : ℕ) : part f (m + m) y = part f m y + part f m (y + m) := by
  unfold part
  rw [Finset.sum_range_add]
  congr 1
  refine Finset.sum_congr rfl fun i _ => ?_
  have e : y + (m + i) = y + m + i := by omega
  by_cases h : y + (m + i) < 64
  · rw [dif_pos h, dif_pos (e ▸ h)]; congr 2
  · rw [dif_neg h, dif_neg (e ▸ h)]

/-- The steps of the running sum: how far each reaches, and the rotation that reaches there. -/
def strides : List (ℕ × BitVec 32) := [(1, 63#32), (2, 62#32), (4, 60#32), (8, 56#32), (16, 48#32), (32, 32#32)]

/-- A doubling step at a row: the row `k` below is added where there is one. -/
theorem rollStep_apply (k : ℕ) (w : BitVec 32) (h : (k, w) ∈ strides) (b : FVec Ideal S64x128 .f32) (y : Fin 64) (d : Fin 128) :
    rollStep w b (ix2 y d) = b (ix2 y d) + if h : y.val + k < 64 then b (ix2 ⟨y.val + k, h⟩ d) else 0 := by
  have hy := y.isLt
  simp only [strides, List.mem_cons, Prod.mk.injEq, List.not_mem_nil, or_false] at h
  rcases h with ⟨rfl, rfl⟩ | ⟨rfl, rfl⟩ | ⟨rfl, rfl⟩ | ⟨rfl, rfl⟩ | ⟨rfl, rfl⟩ | ⟨rfl, rfl⟩
  all_goals
    pointwise [rollStep, fill]
    congr 1
    split
    next hl =>
      refine Eq.trans (congrArg (fun c => Scalar.select c _ _) (show _ = 1#1 from ?_)) ((ValueIdx.select_one _ _).trans ?_)
      · clear b d
        revert y
        decide +kernel
      · congr 2
        exact Fin.ext (by show (y.val + 64 - _) % 64 = y.val + _; omega)
    next hl =>
      refine Eq.trans (congrArg (fun c => Scalar.select c _ _) (show _ = 0#1 from ?_)) (ValueIdx.select_zero _ _)
      clear b d
      revert y
      decide +kernel

/-- A doubling step doubles the number of rows summed. -/
theorem rollStep_part (k : ℕ) (w : BitVec 32) (h : (k, w) ∈ strides) (b v : FVec Ideal S64x128 .f32)
    (hb : ∀ y d, b (ix2 y d) = part (fun y => v (ix2 y d)) k y.val) (y : Fin 64) (d : Fin 128) :
    rollStep w b (ix2 y d) = part (fun y => v (ix2 y d)) (k + k) y.val := by
  rw [rollStep_apply k w h, part_double, hb]
  congr 1
  split
  · exact hb _ _
  · exact (part_beyond _ _ _ (by omega)).symm

/-- The six doubling steps sum a column from a row down. -/
theorem running_apply (v : FVec Ideal S64x128 .f32) (y : Fin 64) (d : Fin 128) :
    running v (ix2 y d) = tail (fun y => v (ix2 y d)) y.val :=
  rollStep_part 32 _ (by decide) _ v (rollStep_part 16 _ (by decide) _ v (rollStep_part 8 _ (by decide) _ v
    (rollStep_part 4 _ (by decide) _ v (rollStep_part 2 _ (by decide) _ v (rollStep_part 1 _ (by decide) _ v
      fun y d => (part_one (fun y => v (ix2 y d)) y).symm))))) y d

/-- The places in time whose rows are picked. -/
def picks : List (Fin 64 × BitVec 32) := [(0, 63#32), (16, 47#32), (32, 31#32), (48, 15#32)]

/-- A picked row. -/
theorem rowAt_apply (r : Fin 64) (n : BitVec 32) (h : (r, n) ∈ picks) (b : FVec Ideal S64x128 .f32) (d : Fin 128) :
    rowAt n b (ix2 0 d) = b (ix2 r d) := by
  have hc : ∀ x : Fin 64, IntOp.cmpi .eq (IntOp.subi 63#32 (BitVec.ofNat 32 x.val)) n = if x = r then 1#1 else 0#1 := by
    simp only [picks, List.mem_cons, Prod.mk.injEq, List.not_mem_nil, or_false] at h
    rcases h with ⟨rfl, rfl⟩ | ⟨rfl, rfl⟩ | ⟨rfl, rfl⟩ | ⟨rfl, rfl⟩ <;> decide +kernel
  pointwise [rowAt, place, fill]
  refine (Finset.sum_eq_single r (fun x _ hx => ?_) fun hn => absurd (Finset.mem_univ r) hn).trans ?_
  · rw [hc, if_neg hx]; rfl
  · rw [hc, if_pos rfl]; rfl

/-- Which rows a sub-block has. -/
theorem inSub_apply (n : Fin 4) (w : BitVec 32) (h : w = BitVec.ofNat 32 n.val) (y : Fin 64) (d : Fin 128) :
    inSub w (ix2 y d) = if (63 - y.val) / 16 = n.val then 1#1 else 0#1 := by
  subst h
  pointwise [inSub, placeDiv, place]
  revert y n
  decide +kernel

/-- The last row of a row's sub-block of 16 places. -/
def endRow (y : Fin 64) : Fin 64 := ⟨16 * (y.val / 16), by omega⟩

theorem endRow_eq (y r : Fin 64) (h : 16 * (y.val / 16) = r.val) : r = endRow y := Fin.ext h.symm

/-- Each row's entry at the end of its sub-block. -/
theorem ends_apply (b : FVec Ideal S64x128 .f32) (y : Fin 64) (d : Fin 128) : ends b (ix2 y d) = b (ix2 (endRow y) d) := by
  have hy := y.isLt
  pointwise [ends, rowsAt']
  rw [rowAt_apply 16 47#32 (by decide), rowAt_apply 32 31#32 (by decide), rowAt_apply 48 15#32 (by decide), rowAt_apply 0 63#32 (by decide)]
  rw [inSub_apply 2 2#32 rfl y d, inSub_apply 1 1#32 rfl y d, inSub_apply 0 0#32 rfl y d]
  by_cases h2 : (63 - y.val) / 16 = (2 : Fin 4).val
  · rw [if_pos h2]; exact congrArg (fun r => b (ix2 r d)) (endRow_eq y 16 (by show _ = 16; have : (63 - y.val) / 16 = 2 := h2; omega))
  rw [if_neg h2]
  by_cases h1 : (63 - y.val) / 16 = (1 : Fin 4).val
  · rw [if_pos h1]; exact congrArg (fun r => b (ix2 r d)) (endRow_eq y 32 (by show _ = 32; have : (63 - y.val) / 16 = 1 := h1; omega))
  rw [if_neg h1]
  by_cases h0 : (63 - y.val) / 16 = (0 : Fin 4).val
  · rw [if_pos h0]; exact congrArg (fun r => b (ix2 r d)) (endRow_eq y 48 (by show _ = 48; have : (63 - y.val) / 16 = 0 := h0; omega))
  rw [if_neg h0]
  refine congrArg (fun r => b (ix2 r d)) (endRow_eq y 0 ?_)
  show _ = 0
  have h2 : ¬(63 - y.val) / 16 = 2 := h2
  have h1 : ¬(63 - y.val) / 16 = 1 := h1
  have h0 : ¬(63 - y.val) / 16 = 0 := h0
  omega

/-- The sub-blocks' starts in time, the place of their ends, and the rows of their ends. -/
def subBlocks : List (Fin 4 × BitVec 32 × BitVec 32 × Fin 64) :=
  [(0, 0#32, 15#32, 48), (1, 16#32, 31#32, 32), (2, 32#32, 47#32, 16), (3, 48#32, 63#32, 0)]

/-- A query from a sub-block's start on is decayed to the sub-block's end. -/
theorem qDecayed_apply (n : Fin 4) (lo e : BitVec 32) (r : Fin 64) (h : (n, lo, e, r) ∈ subBlocks) (q b : FVec Ideal S64x128 .f32) (y : Fin 64) (d : Fin 128)
    (hy : n.val ≤ (63 - y.val) / 16) : qDecayed lo e q b (ix2 y d) = q (ix2 y d) * Ideal.exp (b (ix2 y d) - b (ix2 r d)) := by
  have hr : rowAt e b (ix2 0 d) = b (ix2 r d) := by
    refine rowAt_apply r e ?_ b d
    simp only [subBlocks, List.mem_cons, Prod.mk.injEq, List.not_mem_nil, or_false] at h
    rcases h with ⟨rfl, rfl, rfl, rfl⟩ | ⟨rfl, rfl, rfl, rfl⟩ | ⟨rfl, rfl, rfl, rfl⟩ | ⟨rfl, rfl, rfl, rfl⟩ <;> decide
  have hc : IntOp.cmpi .sge (IntOp.subi 63#32 (BitVec.ofNat 32 y.val)) lo = 1#1 := by
    clear hr
    simp only [subBlocks, List.mem_cons, Prod.mk.injEq, List.not_mem_nil, or_false] at h
    rcases h with ⟨rfl, rfl, rfl, rfl⟩ | ⟨rfl, rfl, rfl, rfl⟩ | ⟨rfl, rfl, rfl, rfl⟩ | ⟨rfl, rfl, rfl, rfl⟩ <;> (revert y; decide +kernel)
  pointwise [qDecayed, place, rowsAt, fill]
  rw [hr, hc]
  rfl

/-- Which stacked scores are kept. -/
theorem keep_apply (n : Fin 4) (yq yk : Fin 64) (r : Fin 256) (hr : r.val = 64 * n.val + yq.val) :
    keep (ix2 r yk) = if (63 - yk.val) / 16 = n.val ∧ yq ≤ yk then 1#1 else 0#1 := by
  have hk : keySub (ix2 r yk) = BitVec.ofNat 32 ((63 - yk.val) / 16) := by
    pointwise [keySub, keyPlace]
    clear hr
    revert yk
    decide +kernel
  have hs : stackSub (ix2 r yk) = BitVec.ofNat 32 n.val := by
    have : n.val = r.val / 64 := by omega
    rw [this]
    pointwise [stackSub, stackRow]
    clear this hr hk
    revert r
    decide +kernel
  have hm : stackMod (ix2 r yk) = BitVec.ofNat 32 yq.val := by
    have : yq.val = r.val % 64 := by omega
    rw [this]
    pointwise [stackMod, stackRow, sixtyFour]
    clear this hr hk hs
    revert r
    decide +kernel
  pointwise [keep, keyPlace]
  rw [hk, hs, hm]
  clear hk hs hm hr
  have h1 : IntOp.cmpi .eq (BitVec.ofNat 32 ((63 - yk.val) / 16)) (BitVec.ofNat 32 n.val) = if (63 - yk.val) / 16 = n.val then 1#1 else 0#1 := by
    revert yk n
    decide +kernel
  have h2 : IntOp.cmpi .sle (IntOp.subi 63#32 (BitVec.ofNat 32 yk.val)) (IntOp.subi 63#32 (BitVec.ofNat 32 yq.val)) = if yq ≤ yk then 1#1 else 0#1 := by
    clear h1
    revert yk yq
    decide +kernel
  rw [h1, h2]
  by_cases hA : (63 - yk.val) / 16 = n.val
  · by_cases hB : yq ≤ yk
    · rw [if_pos hA, if_pos hB, if_pos (And.intro hA hB)]; rfl
    · rw [if_pos hA, if_neg hB, if_neg (fun h : (63 - yk.val) / 16 = n.val ∧ yq ≤ yk => hB h.2)]; rfl
  · rw [if_neg hA, if_neg (fun h : (63 - yk.val) / 16 = n.val ∧ yq ≤ yk => hA h.1)]
    by_cases hB : yq ≤ yk
    · rw [if_pos hB]; rfl
    · rw [if_neg hB]; rfl

/-- The four queries' blocks, one below the other. -/
theorem stacked_apply (n : Fin 4) (lo e : BitVec 32) (re : Fin 64) (h : (n, lo, e, re) ∈ subBlocks) (q k b : FVec Ideal S64x128 .f32)
    (hb : ∀ y d, IsReal (b (ix2 y d))) (yq yk : Fin 64) (r : Fin 256) (hr : r.val = 64 * n.val + yq.val) :
    stacked q k b (ix2 r yk) = if (63 - yk.val) / 16 = n.val then score (tab q) (tab k) (tab b) yq yk else 0 := by
  unfold score
  have hyq := yq.isLt
  have hyk := yk.isLt
  pointwise [stacked]
  rw [keep_apply n yq yk r hr]
  by_cases hA : (63 - yk.val) / 16 = n.val
  · by_cases hB : yq ≤ yk
    · rw [if_pos ⟨hA, hB⟩, if_pos hA, if_pos hB, ValueIdx.select_one]
      refine Finset.sum_congr rfl fun d _ => ?_
      have hB' : yq.val ≤ yk.val := hB
      have hn : n.val ≤ (63 - yq.val) / 16 := by omega
      have he : endRow yk = re := by
        refine Fin.ext ?_
        show 16 * (yk.val / 16) = re.val
        have : re.val = 48 - 16 * n.val := by
          simp only [subBlocks, List.mem_cons, Prod.mk.injEq, List.not_mem_nil, or_false] at h
          rcases h with ⟨rfl, rfl, rfl, rfl⟩ | ⟨rfl, rfl, rfl, rfl⟩ | ⟨rfl, rfl, rfl, rfl⟩ | ⟨rfl, rfl, rfl, rfl⟩ <;> rfl
        omega
      rw [ends_apply, he]
      refine Eq.trans (congrArg (· * _) ?_) (decay_split _ _ _ _ _ (hb yq d) (hb yk d) (hb re d))
      refine Eq.trans ?_ (qDecayed_apply n lo e re h q b yq d hn)
      simp only [subBlocks, List.mem_cons, Prod.mk.injEq, List.not_mem_nil, or_false] at h
      rcases h with ⟨rfl, rfl, rfl, rfl⟩ | ⟨rfl, rfl, rfl, rfl⟩ | ⟨rfl, rfl, rfl, rfl⟩ | ⟨rfl, rfl, rfl, rfl⟩
      · have hv : r.val = yq.val := by rw [hr]; show 64 * 0 + _ = _; omega
        rw [dif_pos (by omega)]
        exact congrArg (fun z => qDecayed _ _ q b (ix2 z d)) (Fin.ext hv)
      · have hv : r.val = 64 + yq.val := by rw [hr]; show 64 * 1 + _ = _; omega
        rw [dif_neg (by omega), dif_pos (by omega)]
        exact congrArg (fun z => qDecayed _ _ q b (ix2 z d)) (Fin.ext (by show r.val - 64 = _; omega))
      · have hv : r.val = 128 + yq.val := by rw [hr]; show 64 * 2 + _ = _; omega
        rw [dif_neg (by omega), dif_neg (by omega), dif_pos (by omega)]
        exact congrArg (fun z => qDecayed _ _ q b (ix2 z d)) (Fin.ext (by show r.val - 64 - 64 = _; omega))
      · have hv : r.val = 192 + yq.val := by rw [hr]; show 64 * 3 + _ = _; omega
        rw [dif_neg (by omega), dif_neg (by omega), dif_neg (by omega)]
        exact congrArg (fun z => qDecayed _ _ q b (ix2 z d)) (Fin.ext (by show r.val - 64 - 64 - 64 = _; omega))
    · rw [if_neg fun h => hB h.2, if_pos hA, if_neg hB, ValueIdx.select_zero]
  · rw [if_neg fun h => hA h.1, if_neg hA, ValueIdx.select_zero]

/-- The scores of a chunk: of the four stacked blocks only the key's sub-block's is not zero. -/
theorem scores_apply (q k b : FVec Ideal S64x128 .f32) (hb : ∀ y d, IsReal (b (ix2 y d))) (yq yk : Fin 64) :
    scores q k b (ix2 yq yk) = score (tab q) (tab k) (tab b) yq yk := by
  have hk := yk.isLt
  pointwise [scores]
  rw [stacked_apply 0 0#32 15#32 48 (by decide) q k b hb yq yk _ (by show yq.val = 64 * 0 + _; omega),
    stacked_apply 1 16#32 31#32 32 (by decide) q k b hb yq yk _ rfl,
    stacked_apply 2 32#32 47#32 16 (by decide) q k b hb yq yk _ rfl,
    stacked_apply 3 48#32 63#32 0 (by decide) q k b hb yq yk _ rfl]
  have e : ∀ n : Fin 4, (63 - yk.val) / 16 = n.val ↔ (⟨(63 - yk.val) / 16, by omega⟩ : Fin 4) = n := fun n => ⟨fun h => Fin.ext h, fun h => congrArg Fin.val h⟩
  simp only [e]
  generalize (⟨(63 - yk.val) / 16, _⟩ : Fin 4) = m
  generalize score (tab q) (tab k) (tab b) yq yk = x
  fin_cases m <;> simp

/-- A chunk of the values' gradient is `Spec`'s, with the other direction's gradient added. -/
theorem dvOf_apply (q k b : FVec Ideal S64x128 .f32) (hb : ∀ y d, IsReal (b (ix2 y d))) (dout addv : FVec Ideal S64x128 .f32)
    (g : FVec Ideal S128x128 .f32) (y : Fin 64) (v : Fin 128) :
    dvOf q k b dout addv g (ix2 y v) = Cert.Dv.inner (tab q) (tab k) (tab b) (tab dout) (tab g) y v + addv (ix2 y v) := by
  unfold Cert.Dv.inner
  pointwise [dvOf, kDecayed, rowsAt]
  congr 2
  · refine Finset.sum_congr rfl fun d _ => ?_
    rw [rowAt_apply 0 63#32 (by decide)]
  · refine Finset.sum_congr rfl fun x _ => ?_
    rw [scores_apply q k b hb]

/-- The state's gradient over a chunk is `Spec`'s, for queries that are already decayed. -/
theorem gradStep_apply (dec : FVec Ideal S1x1x1x128 .f32) (dout : FVec Ideal S64x128 .f32) (qs : FVec Ideal S64x128 .bf16) (g : FVec Ideal S128x128 .f32)
    (q b : Fin 64 → Fin 128 → EReal) (hd : ∀ d, dec (ix4 0 0 0 d) = Ideal.exp (b 0 d)) (hq : ∀ y d, qs (ix2 y d) = q y d * Ideal.exp (b y d)) (v d : Fin 128) :
    gradStep (F := Ideal) dec dout qs g (ix2 v d) = carried q b (tab dout) (tab g) v d := by
  unfold carried
  pointwise [gradStep]
  rw [hd]
  congr 1
  exact Finset.sum_congr rfl fun y _ => by rw [hq]

/-- The logarithm of the forget gate at an entry. -/
theorem logGate_apply (zf : FVec Ideal S64x128 .f32) (lb : FVec Ideal S1x1x128 .f32) (y : Fin 64) (d : Fin 128) :
    logGate (F := Ideal) zf lb (ix2 y d) = Ideal.log (lb (ix3 0 0 d) + (1 - lb (ix3 0 0 d)) * Ideal.logistic (zf (ix2 y d))) := by
  pointwise [logGate, bound, unbound]

/-- A key at an entry. -/
theorem keys_apply (zf : FVec Ideal S64x128 .f32) (lb : FVec Ideal S1x1x128 .f32) (y : Fin 64) (d : Fin 128) :
    keys (F := Ideal) zf lb (ix2 y d) = (1 - lb (ix3 0 0 d)) * (1 - Ideal.logistic (zf (ix2 y d))) := by
  pointwise [keys, bound, unbound, fill]

/-- A query at an entry. -/
theorem queries_apply (zq : FVec Ideal S64x128 .f32) (y : Fin 64) (d : Fin 128) :
    queries (F := Ideal) zq (ix2 y d) = zq (ix2 y d) * Ideal.logistic (zq (ix2 y d)) := by
  pointwise [queries]

end Cert.KernelIdeal.Dv
-- ==== Proof.KernelValue.lean ====
module

public import proofs.«01_k».proof.Proof.Blocks
public import proofs.«01_k».proof.Proof.ChunkIdeal
public import proofs.«01_k».proof.Proof.Gen.KernelIdeal.Value
public import Idealize.ShloMosaic.Lib.VecWindow

@[expose] public section

set_option maxRecDepth 16384

noncomputable section

/-! What the kernel leaves in the values' gradient: at each point of the grid its block of the closed form, and in
the carried scratch the state's gradient after the point's chunks. -/

namespace Cert.KernelIdeal.Dv

open Idealize.ShloMosaic Idealize.ShloMosaic.TcCoe Cert.KernelIdeal.Gen Cert.KernelIdeal.Value Idealize.ShloMosaic.Pointwise Cert.Dv

variable (m : (ℓ : Loc nD τ sig) → Buf (Elt Ideal) ℓ) (c : Dev nD)

/-- The state's gradient before chunk `n`. -/
abbrev gradA (h : Fin 8) (n : ℕ) : Fin 128 → Fin 128 → EReal := grad (zA m c) (lA m c) (dA m c) h n

/-- The chain of a point's chunks, from the state's gradient the point starts with. -/
abbrev chainA (t : Fin cfg0.N) (g0 : FVec Ideal S128x128 .f32) (n : ℕ) : FVec Ideal S128x128 .f32 :=
  chain (F := Ideal) (ldDec (ms0_6 t) (hs0_6 t) (iblk m c 6 t)) (ld (ms0_7 t) (hs0_7 t) (iblk m c 7 t)) (ld (ms0_5 t) (hs0_5 t) (iblk m c 5 t)) g0 n

/-- After `n` chunks of a point the chain is the state's gradient before the next chunk. -/
theorem chain_grad (t : Fin cfg0.N) (g0 : FVec Ideal S128x128 .f32) (hg : ∀ v d, g0 (ix2 v d) = gradA m c (hd t) (ch t 0) v d) :
    ∀ n, n ≤ 32 → ∀ v d, chainA m c t g0 n (ix2 v d) = gradA m c (hd t) (ch t n) v d
  | 0, _ => hg
  | n + 1, hn => fun v d => by
    have ih := chain_grad t g0 hg n (by omega)
    refine (gradStep_apply _ _ _ _ (qs (zA m c) (hd t) (ch t n)) (bs (zA m c) (lA m c) (hd t) (ch t n)) (dec_blk m c t n (by omega)) (qs_blk m c t n (by omega)) v d).trans ?_
    have e1 : tab (ld (F := Ideal) (ms0_7 t) (hs0_7 t) (iblk m c 7 t) n) = ds (dA m c) (hd t) (ch t n) := funext fun y => funext fun v => dout_blk m c t n (by omega) y v
    have e2 : tab (chainA m c t g0 n) = gradA m c (hd t) (ch t n) := funext fun v => funext fun d => ih v d
    rw [e1]
    exact congrArg (fun g => carried _ _ _ g v d) e2

/-- The state's gradient as a chunk sees it. -/
theorem seen_grad (t : Fin cfg0.N) (g0 : FVec Ideal S128x128 .f32) (hg : ∀ v d, g0 (ix2 v d) = gradA m c (hd t) (ch t 0) v d) (n : ℕ) (hn : n < 32) (v d : Fin 128) :
    seen (F := Ideal) (ldDec (ms0_6 t) (hs0_6 t) (iblk m c 6 t)) (ld (ms0_7 t) (hs0_7 t) (iblk m c 7 t)) (ld (ms0_5 t) (hs0_5 t) (iblk m c 5 t)) g0 n (ix2 v d)
      = gradA m c (hd t) (ch t n) v d := by
  cases n with
  | zero =>
    refine Eq.trans ?_ (hg v d)
    show shapeCast S128x128 g0 shapeCasts_S128x128_S128x128 (ix2 v d) = _
    pointwise
  | succ n => exact chain_grad m c t g0 hg (n + 1) (by omega) v d

/-- The piece of a chunk is the closed form at the chunk's rows. -/
theorem piece_value (H : RealGates (zA m c) (lA m c)) (t : Fin cfg0.N) (g0 : FVec Ideal S128x128 .f32) (hg : ∀ v d, g0 (ix2 v d) = gradA m c (hd t) (ch t 0) v d) (n : ℕ) (hn : n < 32) (y : Fin 64) (v : Fin 128) :
    dvChunk (F := Ideal) (ld (ms0_0 t) (hs0_0 t) (iblk m c 0 t) n) (ld (ms0_1 t) (hs0_1 t) (iblk m c 1 t) n) (ldBound (ms0_3 t) (hs0_3 t) (iblk m c 3 t))
      (ld (ms0_7 t) (hs0_7 t) (iblk m c 7 t) n) (ld (ms0_9 t) (hs0_9 t) (iblk m c 9 t) n)
      (seen (ldDec (ms0_6 t) (hs0_6 t) (iblk m c 6 t)) (ld (ms0_7 t) (hs0_7 t) (iblk m c 7 t)) (ld (ms0_5 t) (hs0_5 t) (iblk m c 5 t)) g0 n) (ix2 y v)
      = valuesGrad (zA m c) (lA m c) (dA m c) (aA m c) (hd t) (ch t n) y v := by
  have eq : tab (queries (F := Ideal) (ld (ms0_0 t) (hs0_0 t) (iblk m c 0 t) n)) = qs (zA m c) (hd t) (ch t n) := by
    funext y d
    refine (queries_apply _ y d).trans ?_
    rw [query_blk m c t n hn y d]
    rfl
  have ek : tab (keys (F := Ideal) (ld (ms0_1 t) (hs0_1 t) (iblk m c 1 t) n) (ldBound (ms0_3 t) (hs0_3 t) (iblk m c 3 t))) = ks (zA m c) (lA m c) (hd t) (ch t n) := by
    funext y d
    refine (keys_apply _ _ y d).trans ?_
    rw [gate_blk m c t n hn y d, bound_blk m c t d]
    rfl
  have eb : tab (running (F := Ideal) (logGate (ld (ms0_1 t) (hs0_1 t) (iblk m c 1 t) n) (ldBound (ms0_3 t) (hs0_3 t) (iblk m c 3 t)))) = bs (zA m c) (lA m c) (hd t) (ch t n) := by
    funext y d
    refine (running_apply _ y d).trans (tail_congr (fun y => ?_) _)
    refine (logGate_apply _ _ y d).trans ?_
    rw [gate_blk m c t n hn y d, bound_blk m c t d]
    rfl
  have ed : tab (ld (F := Ideal) (ms0_7 t) (hs0_7 t) (iblk m c 7 t) n) = ds (dA m c) (hd t) (ch t n) := funext fun y => funext fun v => dout_blk m c t n hn y v
  have eg : tab (seen (F := Ideal) (ldDec (ms0_6 t) (hs0_6 t) (iblk m c 6 t)) (ld (ms0_7 t) (hs0_7 t) (iblk m c 7 t)) (ld (ms0_5 t) (hs0_5 t) (iblk m c 5 t)) g0 n) = gradA m c (hd t) (ch t n) :=
    funext fun v => funext fun d => seen_grad m c t g0 hg n hn v d
  unfold dvChunk
  refine (dvOf_apply _ _ _ (fun y d => ?_) _ _ _ y v).trans ?_
  · exact (congrArg IsReal (congrFun (congrFun eb y) d)).mpr (bs_real _ _ H _ _ _ _)
  · rw [eq, ek, eb, ed, eg, addv_blk m c t n hn y v]
    rfl

/-- A point's block of the closed form. -/
def blockOut (t : Fin cfg0.N) : S2048x128.Idx → EReal := fun i =>
  valuesGrad (zA m c) (lA m c) (dA m c) (aA m c) (hd t) (ch t ((i 0).val / 64)) ⟨(i 0).val % 64, Nat.mod_lt _ (by decide)⟩ (i 1)

/-- The pieces of a point, read back, are its block of the closed form. -/
theorem block_value (H : RealGates (zA m c) (lA m c)) (t : Fin cfg0.N) (g0 : FVec Ideal S128x128 .f32) (hg : ∀ v d, g0 (ix2 v d) = gradA m c (hd t) (ch t 0) v d)
    (L : List (View.Piece (Elt Ideal) S2048x128 .bf16))
    (hL : L = downTo (fun n => ⟨rowsR n, dvChunk (F := Ideal) (ld (ms0_0 t) (hs0_0 t) (iblk m c 0 t) n) (ld (ms0_1 t) (hs0_1 t) (iblk m c 1 t) n) (ldBound (ms0_3 t) (hs0_3 t) (iblk m c 3 t))
      (ld (ms0_7 t) (hs0_7 t) (iblk m c 7 t) n) (ld (ms0_9 t) (hs0_9 t) (iblk m c 9 t) n)
      (seen (ldDec (ms0_6 t) (hs0_6 t) (iblk m c 6 t)) (ld (ms0_7 t) (hs0_7 t) (iblk m c 7 t)) (ld (ms0_5 t) (hs0_5 t) (iblk m c 5 t)) g0 n)⟩) 32)
    (hc : ∀ y, ∃ p ∈ L, y ∈ p.1.set) (i : S2048x128.Idx) :
    (VO0_12.read (Elt Ideal) (VO0_12.writes (Elt Ideal) VO0_12.junk L) i : EReal) = blockOut m c t i := by
  refine View.read_writes_apply_of_pieces VO0_12 _ (blockOut m c t) L (fun p hp x => ?_) i (hc i)
  rw [hL] at hp
  obtain ⟨n, hn, rfl⟩ := mem_downTo _ _ _ hp
  obtain ⟨y, v, rfl⟩ : ∃ (y : Fin 64) (v : Fin 128), x = ix2 y v := ⟨x 0, x 1, by funext b; match b with | ⟨0, _⟩ => rfl | ⟨1, _⟩ => rfl⟩
  refine (piece_value m c H t g0 hg n hn y v).trans ?_
  have hy := y.isLt
  have key : ∀ (n' : ℕ) (y' : Fin 64) (v' : Fin 128), n' = n → y' = y → v' = v →
      valuesGrad (zA m c) (lA m c) (dA m c) (aA m c) (hd t) (ch t n) y v = valuesGrad (zA m c) (lA m c) (dA m c) (aA m c) (hd t) (ch t n') y' v' := by
    rintro _ _ _ rfl rfl rfl
    rfl
  refine key _ _ _ ?_ (Fin.ext ?_) (Fin.ext ?_)
  · show (64 * (n % 32) + 1 * y.val) / 64 = n; omega
  · show (64 * (n % 32) + 1 * y.val) % 64 = y.val; omega
  · show 0 + 1 * v.val = v.val; omega

/-- A first block starts from zero. -/
theorem zero_start (v d : Fin 128) : (zeroState (F := Ideal) scM0_0 (ix2 v d) : EReal) = 0 := by
  unfold zeroState stateR
  refine (congrFun (View.readCov_full (Val := Elt Ideal) scM0_0.view _ _ _ _) (ix2 v d)).trans ?_
  pointwise

/-- A later block starts from what was kept. -/
theorem kept_start (x : FVec Ideal S128x128 .f32) (v d : Fin 128) : keptState (F := Ideal) scM0_0 (Memref.isWhole_whole _) x (ix2 v d) = x (ix2 v d) := by
  refine ((show scM0_0.IsWhole from Memref.isWhole_whole _).readAt_unread (Val := Elt Ideal) x stateR.toLoadRect (ix2 v d)).trans (congrArg x (funext fun b => Fin.ext ?_))
  match b with
  | ⟨0, _⟩ => show 0 + 1 * v.val = v.val; omega
  | ⟨1, _⟩ => show 0 + 1 * d.val = d.val; omega

/-- The scratch after a point, read back from its pieces. -/
theorem scratch_value (t : Fin cfg0.N) (g0 : FVec Ideal S128x128 .f32) (hg : ∀ v d, g0 (ix2 v d) = gradA m c (hd t) (ch t 0) v d)
    (L : List (View.Piece (Elt Ideal) S128x128 .f32))
    (hL : ∃ T, L = ⟨stateR, shapeCast S128x128 (chainA m c t g0 32) shapeCasts_S128x128_S128x128⟩ :: T) (v d : Fin 128) :
    (VS0_0.read (Elt Ideal) (VS0_0.writes (Elt Ideal) VS0_0.junk L) (ix2 v d) : EReal) = gradA m c (hd t) (ch t 32) v d := by
  obtain ⟨T, rfl⟩ := hL
  unfold stateR
  refine (congrFun (View.read_writes_full (Val := Elt Ideal) VS0_0 _ _ _ _) (ix2 v d)).trans ?_
  refine Eq.trans ?_ (chain_grad m c t g0 hg 32 le_rfl v d)
  pointwise

/-- What a point leaves, given what it starts from. -/
def Leaves (t : Fin cfg0.N) : Prop :=
  (∀ i, ((outsAt0 (F := Ideal) m c t.val t.isLt).2.2.1 i : EReal) = blockOut m c t i)
    ∧ ∀ v d, ((outsAt0 (F := Ideal) m c t.val t.isLt).2.2.2.2 (ix2 v d) : EReal) = gradA m c (hd t) (ch t 32) v d

theorem leaves_A (H : RealGates (zA m c) (lA m c)) (t : Fin cfg0.N) (h0 : t.val % 8 = 0) : Leaves m c t := by
  have hz : ∀ v d, (zeroState (F := Ideal) scM0_0 (ix2 v d) : EReal) = gradA m c (hd t) (ch t 0) v d := fun v d => by
    rw [zero_start, show ch t 0 = 0 by unfold ch; omega]
    rfl
  constructor
  · intro i
    rw [outsAt0_A m c t h0 h0 (by omega)]
    unfold out0_A_12
    refine block_value m c H t _ hz _ ?_ ?_ i
    · exact pieces_A _ _ _ _ _ _ _ _ _ _ _ _ _ _ _ _ _ _ _ _ _ _ _ _ _ _ _ _ _ _ _ _ _ _ _ _ _ _ _ _ _ _ _ _ _
    · exact fun y => cover0_A_12 _ _ _ _ _ _ _ _ _ _ _ _ _ _ _ _ _ _ _ _ _ _ _ _ _ _ _ _ _ _ _ _ _ _ _ _ _ _ _ _ _ _ _ _ _ y
  · intro v d
    rw [outsAt0_A m c t h0 h0 (by omega)]
    unfold sout0_A_0
    refine scratch_value m c t _ hz _ ?_ v d
    exact ⟨_, state_A (F := Ideal) _ _ _ _ _ _ _ _ _ _ _ _ _ _ _ _ _ _ _ _ _ _ _ _ _ _ _ _ _ _ _ _ _ _ _ _ _ _ _ _ _ _ _ _ _⟩

theorem leaves_B (H : RealGates (zA m c) (lA m c)) (t : Fin cfg0.N) (h0 : ¬t.val % 8 = 0)
    (ih : Leaves m c ⟨t.val - 1, Nat.lt_of_le_of_lt (Nat.sub_le _ _) t.isLt⟩) : Leaves m c t := by
  have hk : ∀ v d, (keptState (F := Ideal) scM0_0 (Memref.isWhole_whole _) (outsAt0 m c (t.val - 1) (Nat.lt_of_le_of_lt (Nat.sub_le _ _) t.isLt)).2.2.2.2 (ix2 v d) : EReal)
      = gradA m c (hd t) (ch t 0) v d := fun v d => by
    refine (kept_start _ v d).trans ((ih.2 v d).trans ?_)
    rw [show hd ⟨t.val - 1, Nat.lt_of_le_of_lt (Nat.sub_le _ _) t.isLt⟩ = hd t from Fin.ext (by show (t.val - 1) / 8 = t.val / 8; omega),
      show ch ⟨t.val - 1, Nat.lt_of_le_of_lt (Nat.sub_le _ _) t.isLt⟩ 32 = ch t 0 from by show 32 * ((t.val - 1) % 8) + 32 = 32 * (t.val % 8) + 0; omega]
  constructor
  · intro i
    rw [outsAt0_B m c t h0 h0 (by omega)]
    unfold out0_B_12
    refine block_value m c H t _ hk _ ?_ ?_ i
    · exact pieces_B _ _ _ _ _ _ _ _ _ _ _ _ _ _ _ _ _ _ _ _ _ _ _ _ _ _ _ _ _ _ _ _ _ _ _ _ _ _ _ _ _ _ _ _ _ _ _
    · exact fun y => cover0_B_12 _ _ _ _ _ _ _ _ _ _ _ _ _ _ _ _ _ _ _ _ _ _ _ _ _ _ _ _ _ _ _ _ _ _ _ _ _ _ _ _ _ _ _ _ _ _ _ y
  · intro v d
    rw [outsAt0_B m c t h0 h0 (by omega)]
    unfold sout0_B_0
    refine scratch_value m c t _ hk _ ?_ v d
    exact ⟨_, state_B (F := Ideal) _ _ _ _ _ _ _ _ _ _ _ _ _ _ _ _ _ _ _ _ _ _ _ _ _ _ _ _ _ _ _ _ _ _ _ _ _ _ _ _ _ _ _ _ _ _ _⟩

/-- Every point leaves its block. -/
theorem leaves (H : RealGates (zA m c) (lA m c)) : ∀ (n : ℕ) (hn : n < cfg0.N), Leaves m c ⟨n, hn⟩
  | 0, hn => leaves_A m c H ⟨0, hn⟩ rfl
  | n + 1, hn => by
    by_cases h : (n + 1) % 8 = 0
    · exact leaves_A m c H ⟨n + 1, hn⟩ h
    · exact leaves_B m c H ⟨n + 1, hn⟩ h (leaves H n (Nat.lt_of_succ_lt hn))

/-- What the kernel leaves in its result is the closed form. -/
theorem G12_eq (H : RealGates (zA m c) (lA m c)) : G12 (F := Ideal) m c = out (zA m c) (lA m c) (dA m c) (aA m c) := by
  funext i
  have h0 : (i 0).val < 16384 := (i 0).isLt
  have h1 : (i 1).val < 1024 := (i 1).isLt
  have hp : pt12Of i = (i 0).val / 2048 + 8 * ((i 1).val / 128) := by show 1 * ((i 0).val / 2048 - 0) + 8 * ((i 1).val / 128 - 0) = _; omega
  have hN : pt12Of i < cfg0.N := lt_of_lt_of_eq (by rw [hp]; omega) (show 64 = cfg0.N from N_0.symm)
  unfold G12
  rw [dif_pos hN, ← outsAt0_sweep m c (pt12Of i) hN]
  refine ((leaves m c H (pt12Of i) hN).1 (loc12Of i)).trans ?_
  have key : ∀ (h h' : Fin 8) (n n' : ℕ) (y y' : Fin 64) (v v' : Fin 128), h = h' → n = n' → y = y' → v = v' →
      valuesGrad (zA m c) (lA m c) (dA m c) (aA m c) h n y v = valuesGrad (zA m c) (lA m c) (dA m c) (aA m c) h' n' y' v' := by
    rintro _ _ _ _ _ _ _ _ rfl rfl rfl rfl
    rfl
  refine key _ _ _ _ _ _ _ _ (Fin.ext ?_) ?_ (Fin.ext ?_) (Fin.ext ?_)
  · show pt12Of i / 8 = (i 1).val / 128; rw [hp]; omega
  · show 32 * (pt12Of i % 8) + (i 0).val % 2048 / 64 = (i 0).val / 64; rw [hp]; omega
  · show (i 0).val % 2048 % 64 = (i 0).val % 64; omega
  · rfl

end Cert.KernelIdeal.Dv
-- ==== Proof.RefArrays.lean ====
module

public import proofs.«01_k».proof.Proof.Whole
public import proofs.«01_k».proof.Proof.Running
public import proofs.«01_k».proof.Proof.Gen.ReferenceIdeal.Step
public import Idealize.ShloMosaic.Lib.Pointwise

@[expose] public section

set_option maxRecDepth 16384

noncomputable section

/-! The arrays the reference prepares before its loop, read at an index. It works on the rows in the order of time:
its chunk `n` is chunk `255 - n` of the arrays, and place `t` of a chunk is row `63 - t`. -/

namespace Cert.ReferenceIdeal.Dv

open Idealize.ShloMosaic Cert.ReferenceIdeal Cert.ReferenceIdeal.Gen Cert.ReferenceIdeal.Step Idealize.ShloMosaic.Pointwise Cert.Dv

variable (z : Zs.Idx → EReal) (l : Ls.Idx → EReal) (g : Rs.Idx → EReal)

theorem sum_rev (f : Fin 64 → EReal) : ∑ t, f t = ∑ y : Fin 64, f y.rev := (Equiv.sum_comp Fin.revPerm f).symm

theorem sum_tail_congr {f g : Fin 64 → EReal} (h : ∀ y, f y = g y) (y : ℕ) : tail f y = tail g y := by
  rw [show f = g from funext h]

theorem gate_eq {h : Fin 8} {n : ℕ} {y : Fin 64} {d : Fin 128} {r : Fin 16384} {a : Fin 8} {e : Fin 128} {k : Fin 5120}
    (hr : r = rowOf n y) (ha : a = h) (he : e = d) (hk : k = fCol h d) :
    Ideal.log (l (ix3 a 0 e) + (1 - l (ix3 a 0 e)) * Ideal.div 1 (1 + Ideal.exp (-z (ix2 r k)))) = gs z l h n y d := by
  subst hr ha he hk
  rfl

theorem key_eq {h : Fin 8} {n : ℕ} {y : Fin 64} {d : Fin 128} {r : Fin 16384} {a : Fin 8} {e : Fin 128} {k : Fin 5120}
    (hr : r = rowOf n y) (ha : a = h) (he : e = d) (hk : k = fCol h d) :
    (1 - l (ix3 a 0 e)) * (1 - Ideal.div 1 (1 + Ideal.exp (-z (ix2 r k)))) = ks z l h n y d := by
  subst hr ha he hk
  rfl

theorem query_eq {h : Fin 8} {n : ℕ} {y : Fin 64} {d : Fin 128} {r : Fin 16384} {k : Fin 5120}
    (hr : r = rowOf n y) (hk : k = qCol h d) :
    z (ix2 r k) * Ideal.div 1 (1 + Ideal.exp (-z (ix2 r k))) = qs z h n y d := by
  subst hr hk
  rfl

variable (h : Fin 8) (c : Fin 256) (y : Fin 64) (d : Fin 128)

theorem gates_at : (A_main_v31 (F := Ideal) z l g (ix4 c.rev h y.rev d) : EReal) = gs z l h c.val y d := by
  have hc := c.isLt
  have hh := h.isLt
  have hy := y.isLt
  have hd := d.isLt
  pointwise [A_main_v31, A_main_v30, A_main_v29, A_main_v14, A_main_v13, A_main_v12, A_main_v11, A_main_v10, A_main_v9, A_main_v7, A_main_v5, A_main_v3, A_main_v2, A_main_v1, A_main_v0, K_main_v4, K_main_v6, K_main_v8, K_main_cst, K_main_cst_0, K_main_cst_1]
  refine gate_eq z l (Fin.ext ?_) (Fin.ext ?_) (Fin.ext ?_) (Fin.ext ?_)
  · change 16384 - ((256 - (c.val + 1)) * 64 + (64 - (y.val + 1)) + 1) = 64 * (c.val % 256) + y.val
    omega
  · change (h.val * 128 + d.val) / 128 = h.val
    omega
  · change (h.val * 128 + d.val) % 128 = d.val
    omega
  · change 2048 + (h.val * 128 + d.val) = 2048 + 128 * h.val + d.val
    omega

theorem keys_at : (A_main_v28 (F := Ideal) z l g (ix4 c.rev h y.rev d) : EReal) = ks z l h c.val y d := by
  have hc := c.isLt
  have hh := h.isLt
  have hy := y.isLt
  have hd := d.isLt
  pointwise [A_main_v28, A_main_v27, A_main_v26, A_main_v20, A_main_v19, A_main_v18, A_main_v16, A_main_v7, A_main_v5, A_main_v3, A_main_v2, A_main_v1, A_main_v0, K_main_v4, K_main_v6, K_main_v15, K_main_v17, K_main_cst, K_main_cst_0, K_main_cst_2, K_main_cst_3]
  refine key_eq z l (Fin.ext ?_) (Fin.ext ?_) (Fin.ext ?_) (Fin.ext ?_)
  · change 16384 - ((256 - (c.val + 1)) * 64 + (64 - (y.val + 1)) + 1) = 64 * (c.val % 256) + y.val
    omega
  · change (h.val * 128 + d.val) / 128 = h.val
    omega
  · change (h.val * 128 + d.val) % 128 = d.val
    omega
  · change 2048 + (h.val * 128 + d.val) = 2048 + 128 * h.val + d.val
    omega

theorem queries_at : (A_main_v25 (F := Ideal) z l g (ix4 c.rev h y.rev d) : EReal) = qs z h c.val y d := by
  have hc := c.isLt
  have hh := h.isLt
  have hy := y.isLt
  have hd := d.isLt
  pointwise [A_main_v25, A_main_v24, A_main_v23, A_main_v22, A_main_v21, A_main_call0_v0, A_main_call0_v1, A_main_call0_v3, A_main_call0_v5, K_main_call0_v2, K_main_call0_v4, K_main_call0_cst, K_main_call0_cst_0]
  refine query_eq z (Fin.ext ?_) (Fin.ext ?_)
  · change 16384 - ((256 - (c.val + 1)) * 64 + (64 - (y.val + 1)) + 1) = 64 * (c.val % 256) + y.val
    omega
  · change h.val * 128 + d.val = 128 * h.val + d.val
    omega

theorem sums_at : (A_main_v34 (F := Ideal) z l g (ix4 c.rev h y.rev d) : EReal) = bs z l h c.val y d := by
  unfold A_main_v34
  refine (windowSum_apply _ _ _ _ (by pointwise [K_main_call6_call0_v0, K_main_call6_call0_cst]) c.rev h y d).trans ?_
  exact sum_tail_congr (fun y => gates_at z l g h c y d) _

theorem incoming_at : (A_main_v64 (F := Ideal) z l g (ix4 c.rev h y.rev d) : EReal) = ds g h c.val y d := by
  have hc := c.isLt
  have hh := h.isLt
  have hy := y.isLt
  have hd := d.isLt
  pointwise [A_main_v64, A_main_v63, A_main_v62]
  have e : ∀ (r : Fin 16384) (k : Fin 1024), r = rowOf c.val y → k = colOf h d → g (ix2 r k) = ds g h c.val y d := by
    rintro _ _ rfl rfl
    rfl
  refine e _ _ (Fin.ext ?_) (Fin.ext ?_)
  · change 16384 - ((256 - (c.val + 1)) * 64 + (64 - (y.val + 1)) + 1) = 64 * (c.val % 256) + y.val
    omega
  · change h.val * 128 + d.val = 128 * h.val + d.val
    omega

theorem decayedQ_at : (A_main_v53 (F := Ideal) z l g (ix4 c.rev h y.rev d) : EReal) = qs z h c.val y d * Ideal.exp (bs z l h c.val y d) := by
  pointwise [A_main_v53, A_main_v52]
  rw [queries_at, sums_at]

theorem decayedK_at : (A_main_v58 (F := Ideal) z l g (ix4 c.rev h d y.rev) : EReal) = ks z l h c.val y d * Ideal.exp (bs z l h c.val 0 d - bs z l h c.val y d) := by
  pointwise [A_main_v58, A_main_v57, A_main_v56, A_main_v55, A_main_v54, A_main_v50]
  rw [keys_at, sums_at]
  have e := sums_at z l g h c 0 d
  exact congrArg (fun b => ks z l h c.val y d * Ideal.exp (b - bs z l h c.val y d)) e

theorem wholeDecay_at : (A_main_v61 (F := Ideal) z l g (ix4 c.rev h d 0) : EReal) = Ideal.exp (bs z l h c.val 0 d) := by
  pointwise [A_main_v61, A_main_v60, A_main_v59, A_main_v50]
  exact congrArg Ideal.exp (sums_at z l g h c 0 d)

/-- The causal mask. -/
theorem mask_at (t s : Fin 64) : K_main_v33 (F := Ideal) (ix2 t s) = if s ≤ t then 1#1 else 0#1 := by
  pointwise [K_main_v33, K_main_call5_v4, K_main_call5_v2, K_main_call5_v0, K_main_call5_v1, K_main_call5_c, K_main_call5_v3, K_main_v32, K_main_c, K_main_call5_v5, K_main_call5_c_0]
  revert t s
  decide +kernel

theorem scores_at (s : Fin 64) : (A_main_v49 (F := Ideal) z l g (ix4 c.rev h y.rev s.rev) : EReal) = score (qs z h c.val) (ks z l h c.val) (bs z l h c.val) y s := by
  pointwise [A_main_v49, A_main_v48, A_main_v47, A_main_v46, A_main_v45, A_main_v44, A_main_v43, A_main_v42, A_main_v41, A_main_v39, A_main_v38, A_main_v37, A_main_v36, A_main_v35, K_main_cst_5, K_main_call7_v1, K_main_call7_v2, K_main_call7_v0, K_main_v40, K_main_cst_4]
  rw [mask_at]
  unfold score
  by_cases hs : y ≤ s
  · rw [if_pos (Fin.rev_le_rev.mpr hs), if_pos hs]
    refine Finset.sum_congr rfl fun x _ => ?_
    rw [queries_at, keys_at, sums_at, sums_at, ValueIdx.select_one]
  · rw [if_neg (fun hr => hs (Fin.rev_le_rev.mp hr)), if_neg hs]
    refine Finset.sum_eq_zero fun x _ => ?_
    rw [ValueIdx.select_zero]
    have e : Ideal.exp (id (constant S_ FTy.f32 4286578688#32 : FVec Ideal S_ .f32) ix0 : EReal) = 0 := by
      rw [show (id (constant S_ FTy.f32 4286578688#32 : FVec Ideal S_ .f32) ix0 : EReal) = ⊥ from by
        show Ideal.ofBits .f32 0xFF800000#32 = ⊥
        simp [Ideal.ofBits, Ideal.ieee]]
      rfl
    rw [e, mul_zero]

end Cert.ReferenceIdeal.Dv
-- ==== Proof.RefRun.lean ====
module

public import proofs.«01_k».proof.Proof.Gen.ReferenceIdeal.Run
public import proofs.«01_k».proof.Proof.Gen.ReferenceIdeal.Step
public import Idealize.ShloMosaic.Lib.Tactic

@[expose] public section

set_option maxRecDepth 65536

noncomputable section

/-! The reference's run in terms of its loop's state: what 256 trips of the loop leave is the state function
iterated from the state the host's set-up leaves. -/

namespace Cert.ReferenceIdeal.Dv

open Idealize.ShloMosaic Idealize.ShloMosaic.TcCoe Idealize.SL.Sem Idealize.ShloMosaic.StableHlo Idealize.ShloMosaic.Tactic
open Cert.ReferenceIdeal Cert.ReferenceIdeal.Gen Cert.ReferenceIdeal.Value
open Cert.ReferenceIdeal.Step (State step init)

variable {F : FTy → Type} [FloatOps F]

/-- The state that the buffers of a valuation hold. -/
def stateOf (V : Valuation τ sig (Elt F)) : State F :=
  ⟨V (Proc.devRef .tc main_v67_6), V (Proc.devRef .tc main_v67_7), V (Proc.devRef .tc main_v67_0), V (Proc.devRef .tc main_v67_1),
    V (Proc.devRef .tc main_v67_2), V (Proc.devRef .tc main_v67_3), V (Proc.devRef .tc main_v67_4)⟩

/-- The loop's counter holds the trip's number. -/
def Counts (V : Valuation τ sig (Elt F)) (j : ℕ) : Prop :=
  V (Proc.devRef .tc main_v67_5) = constantI S_ 32 (BitVec.ofNat 32 j)

/-- The counter after a trip. -/
theorem counts_step (V : Valuation τ sig (Elt F)) (j : ℕ) (h : Counts V j) : Counts (STEP V) (j + 1) := by
  refine (STEP_main_v67_5 V).trans ?_
  unfold step_main_v67_5
  rw [h]
  funext i
  show BitVec.ofNat 32 j + 1#32 = BitVec.ofNat 32 (j + 1)
  simp only [BitVec.ofNat_add]

/-- The index a trip uses. -/
theorem index_eq (V : Valuation τ sig (Elt F)) (j : ℕ) (h : Counts V j) :
    res_main_while0b_v74 V = Step.b3 j (stateOf V) := by
  unfold res_main_while0b_v74
  rw [h]
  rfl

theorem carry_step (V : Valuation τ sig (Elt F)) (j : ℕ) (h : Counts V j) :
    step_main_v67_6 V = (step j (stateOf V)).main_v67_6 := by
  unfold step_main_v67_6 res_main_while0b_v75
  rw [index_eq V j h]
  sl_kernel_rfl

theorem out_step (V : Valuation τ sig (Elt F)) (j : ℕ) (h : Counts V j) :
    step_main_v67_7 V = (step j (stateOf V)).main_v67_7 := by
  unfold step_main_v67_7 res_main_while0b_v75
  rw [index_eq V j h]
  sl_kernel_rfl

/-- A trip takes the state to the next state. -/
theorem state_step (V : Valuation τ sig (Elt F)) (j : ℕ) (h : Counts V j) : stateOf (STEP V) = step j (stateOf V) := by
  unfold stateOf
  rw [STEP_main_v67_6, STEP_main_v67_7, STEP_main_v67_0, STEP_main_v67_1, STEP_main_v67_2, STEP_main_v67_3, STEP_main_v67_4,
    carry_step V j h, out_step V j h]
  rfl

/-- The state before the first trip, of the memory the run starts from. -/
def start (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg3))

/-- The state before trip `k`. -/
def states (m : (ℓ : Loc nD τ sig) → Buf (Elt F) ℓ) (c : Dev nD) : ℕ → State F
  | 0 => start m c
  | k + 1 => step k (states m c k)

variable (m : (ℓ : Loc nD τ sig) → Buf (Elt F) ℓ) (c : Dev nD)

set_option maxHeartbeats 1000000 in
/-- The host's set-up leaves the first state. -/
theorem entry_state : stateOf (entryContents preI m c) = start m c := by
  unfold stateOf
  simp only [entryContents, afterL_cons, afterL_nil]
  after_reads_simp
  rfl

set_option maxHeartbeats 1000000 in
/-- The host's set-up leaves the counter at zero. -/
theorem entry_counts : Counts (entryContents preI m c) 0 := by
  unfold Counts
  simp only [entryContents, afterL_cons, afterL_nil]
  after_reads_simp
  rfl

/-- Before trip `k` the buffers hold state `k`. -/
theorem iter_state : ∀ k, stateOf (STEP^[k] (entryContents preI m c)) = states m c k ∧ Counts (STEP^[k] (entryContents preI m c)) k
  | 0 => ⟨entry_state m c, entry_counts m c⟩
  | k + 1 => by
    obtain ⟨hs, hc⟩ := iter_state k
    rw [Function.iterate_succ_apply']
    exact ⟨(state_step _ k hc).trans (by rw [hs]; rfl), counts_step _ k hc⟩

/-- The result of a final state. -/
theorem result_eq (V : Valuation τ sig (Elt F)) :
    out_main_v72 V = Step.R_main_v72 (stateOf V) (V (Proc.devRef .tc main_arg5)) := by
  unfold out_main_v72
  rfl

/-- Every run of the reference ends with its result read off state 256 and its arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v72) = Step.R_main_v72 (states m c 256) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((result_eq _).trans (by rw [(iter_state m c 256).1, iter_main_arg5 m c 256])), (h c).2⟩)
    (Value.run m ρ)

end Cert.ReferenceIdeal.Dv

end
-- ==== Proof.RefValue.lean ====
module

public import proofs.«01_k».proof.Proof.RefArrays
public import proofs.«01_k».proof.Proof.RefRun

@[expose] public section

set_option maxRecDepth 16384

noncomputable section

/-! The reference's loop: before trip `k` it carries the state's gradient at chunk `k` and has written the chunks
below `k` of the values' gradient. -/

namespace Cert.ReferenceIdeal.Dv

open Idealize.ShloMosaic Cert.ReferenceIdeal Cert.ReferenceIdeal.Gen Cert.ReferenceIdeal.Step Idealize.ShloMosaic.Pointwise Cert.Dv

/-- A slice one chunk wide, taken where the index says. -/
theorem slice_at {p q r : ℕ} (x : (⟨4, ![256, p, q, r]⟩ : Shape).Idx → EReal) (start : Fin 4 → ℤ)
    (hf : (⟨4, ![256, p, q, r]⟩ : Shape).Slices (fun _ => 0) ⟨4, ![1, p, q, r]⟩) (n : Fin 256) (h0 : start 0 = n.val)
    (h1 : start 1 = 0) (h2 : start 2 = 0) (h3 : start 3 = 0) (a : Fin p) (b : Fin q) (e : Fin r) :
    Host.dynamicSlice ⟨4, ![1, p, q, r]⟩ x start hf (ix4 0 a b e) = x (ix4 n a b e) := by
  have hn := n.isLt
  unfold Host.dynamicSlice extractStridedSlice
  refine congrArg x (funext fun k => Fin.ext ?_)
  match k with
  | ⟨0, _⟩ =>
    show (min (max (start 0) 0) ((256 - 1 : ℕ) : ℤ)).toNat + 0 = n.val
    rw [h0]
    omega
  | ⟨1, _⟩ =>
    show (min (max (start 1) 0) ((p - p : ℕ) : ℤ)).toNat + a.val = a.val
    rw [h1]
    omega
  | ⟨2, _⟩ =>
    show (min (max (start 2) 0) ((q - q : ℕ) : ℤ)).toNat + b.val = b.val
    rw [h2]
    omega
  | ⟨3, _⟩ =>
    show (min (max (start 3) 0) ((r - r : ℕ) : ℤ)).toNat + e.val = e.val
    rw [h3]
    omega

/-- An array after one of its chunks is replaced. -/
theorem update_at {p q r : ℕ} (x : (⟨4, ![256, p, q, r]⟩ : Shape).Idx → EReal) (u : (⟨4, ![1, p, q, r]⟩ : Shape).Idx → EReal)
    (start : Fin 4 → ℤ) (hf : (⟨4, ![256, p, q, r]⟩ : Shape).Slices (fun _ => 0) ⟨4, ![1, p, q, r]⟩) (n : Fin 256) (h0 : start 0 = n.val)
    (h1 : start 1 = 0) (h2 : start 2 = 0) (h3 : start 3 = 0) (i : Fin 256) (a : Fin p) (b : Fin q) (e : Fin r) :
    Host.dynamicUpdateSlice x u start hf (ix4 i a b e) = if i = n then u (ix4 0 a b e) else x (ix4 i a b e) := by
  have hn := n.isLt
  have ha := a.isLt
  have hb := b.isLt
  have he := e.isLt
  have e0 : (min (max (start 0) 0) ((256 - 1 : ℕ) : ℤ)).toNat = n.val := by rw [h0]; omega
  have e1 : (min (max (start 1) 0) ((p - p : ℕ) : ℤ)).toNat = 0 := by rw [h1]; omega
  have e2 : (min (max (start 2) 0) ((q - q : ℕ) : ℤ)).toNat = 0 := by rw [h2]; omega
  have e3 : (min (max (start 3) 0) ((r - r : ℕ) : ℤ)).toNat = 0 := by rw [h3]; omega
  unfold Host.dynamicUpdateSlice updateSlice
  by_cases hi : i = n
  · subst hi
    rw [if_pos rfl, dif_pos]
    · refine congrArg u (funext fun k => Fin.ext ?_)
      match k with
      | ⟨0, _⟩ =>
        show i.val - (min (max (start 0) 0) ((256 - 1 : ℕ) : ℤ)).toNat = 0
        omega
      | ⟨1, _⟩ =>
        show a.val - (min (max (start 1) 0) ((p - p : ℕ) : ℤ)).toNat = a.val
        omega
      | ⟨2, _⟩ =>
        show b.val - (min (max (start 2) 0) ((q - q : ℕ) : ℤ)).toNat = b.val
        omega
      | ⟨3, _⟩ =>
        show e.val - (min (max (start 3) 0) ((r - r : ℕ) : ℤ)).toNat = e.val
        omega
    · intro k
      match k with
      | ⟨0, _⟩ =>
        show (min (max (start 0) 0) ((256 - 1 : ℕ) : ℤ)).toNat ≤ i.val ∧ i.val < (min (max (start 0) 0) ((256 - 1 : ℕ) : ℤ)).toNat + 1
        omega
      | ⟨1, _⟩ =>
        show (min (max (start 1) 0) ((p - p : ℕ) : ℤ)).toNat ≤ a.val ∧ a.val < (min (max (start 1) 0) ((p - p : ℕ) : ℤ)).toNat + p
        omega
      | ⟨2, _⟩ =>
        show (min (max (start 2) 0) ((q - q : ℕ) : ℤ)).toNat ≤ b.val ∧ b.val < (min (max (start 2) 0) ((q - q : ℕ) : ℤ)).toNat + q
        omega
      | ⟨3, _⟩ =>
        show (min (max (start 3) 0) ((r - r : ℕ) : ℤ)).toNat ≤ e.val ∧ e.val < (min (max (start 3) 0) ((r - r : ℕ) : ℤ)).toNat + r
        omega
  · rw [if_neg hi, dif_neg]
    intro hall
    have h := hall (0 : Fin 4)
    have h' : (min (max (start 0) 0) ((256 - 1 : ℕ) : ℤ)).toNat ≤ i.val ∧ i.val < (min (max (start 0) 0) ((256 - 1 : ℕ) : ℤ)).toNat + 1 := h
    exact hi (Fin.ext (by omega))

/-- Trip `c` works on the chunk `255 - c`. -/
theorem index_at : ∀ c : Fin 256, ((256#32 - BitVec.ofNat 32 c.val - 1#32 : BitVec 32)).toInt = (c.rev.val : ℤ) := by decide +kernel

variable (s : State Ideal) (c : Fin 256) (h : Fin 8)

theorem b7_at (t : Fin 64) (v : Fin 128) : (b7 (F := Ideal) c.val s (ix4 0 h t v) : EReal) = s.main_v67_0 (ix4 c.rev h t v) := by
  unfold b7
  exact slice_at _ _ _ c.rev (index_at c) rfl rfl rfl h t v

theorem b12_at (d : Fin 128) : (b12 (F := Ideal) c.val s (ix4 0 h d 0) : EReal) = s.main_v67_1 (ix4 c.rev h d 0) := by
  unfold b12
  exact slice_at _ _ _ c.rev (index_at c) rfl rfl rfl h d 0

theorem b17_at (d : Fin 128) (t : Fin 64) : (b17 (F := Ideal) c.val s (ix4 0 h d t) : EReal) = s.main_v67_2 (ix4 c.rev h d t) := by
  unfold b17
  exact slice_at _ _ _ c.rev (index_at c) rfl rfl rfl h d t

theorem b22_at (t : Fin 64) (d : Fin 128) : (b22 (F := Ideal) c.val s (ix4 0 h t d) : EReal) = s.main_v67_3 (ix4 c.rev h t d) := by
  unfold b22
  exact slice_at _ _ _ c.rev (index_at c) rfl rfl rfl h t d

theorem b27_at (t u : Fin 64) : (b27 (F := Ideal) c.val s (ix4 0 h t u) : EReal) = s.main_v67_4 (ix4 c.rev h t u) := by
  unfold b27
  exact slice_at _ _ _ c.rev (index_at c) rfl rfl rfl h t u

theorem b43_at (i : Fin 256) (t : Fin 64) (v : Fin 128) : (b43 (F := Ideal) c.val s (ix4 i h t v) : EReal) =
    if i = c.rev then b39 (F := Ideal) c.val s (ix4 0 h t v) else s.main_v67_7 (ix4 i h t v) := by
  unfold b43
  exact update_at _ _ _ _ c.rev (index_at c) rfl rfl rfl i h t v

/-- What a trip carries on. -/
theorem b38_at (d v : Fin 128) : (b38 (F := Ideal) c.val s (ix3 h d v) : EReal) =
    s.main_v67_1 (ix4 c.rev h d 0) * s.main_v67_6 (ix3 h d v)
      + ∑ t : Fin 64, s.main_v67_0 (ix4 c.rev h t v) * s.main_v67_3 (ix4 c.rev h t d) := by
  pointwise [b38, b37, b36, b32, b31, b13, b8, b23]
  simp only [b7_at, b12_at, b22_at]

/-- What a trip writes. -/
theorem b39_at (t : Fin 64) (v : Fin 128) : (b39 (F := Ideal) c.val s (ix4 0 h t v) : EReal) =
    (∑ d : Fin 128, s.main_v67_6 (ix3 h d v) * s.main_v67_2 (ix4 c.rev h d t))
      + ∑ u : Fin 64, s.main_v67_0 (ix4 c.rev h u v) * s.main_v67_4 (ix4 c.rev h u t) := by
  pointwise [b39, b35, b34, b33, b30, b29, b8, b18, b28]
  simp only [b7_at, b17_at, b27_at]

variable (m : (ℓ : Loc nD τ sig) → Buf (Elt Ideal) ℓ) (dev : Dev nD)

abbrev zA : Zs.Idx → EReal := m ((dev.tc : Thread nD τ).loc main_arg0)
abbrev lA : Ls.Idx → EReal := m ((dev.tc : Thread nD τ).loc main_arg1)
abbrev dA : Rs.Idx → EReal := m ((dev.tc : Thread nD τ).loc main_arg3)
abbrev aA : Rs.Idx → EReal := m ((dev.tc : Thread nD τ).loc main_arg5)

/-- The loop changes none of the arrays it reads. -/
theorem fixed (k : ℕ) : (states m dev k).main_v67_0 = A_main_v64 (zA m dev) (lA m dev) (dA m dev)
    ∧ (states m dev k).main_v67_1 = A_main_v61 (zA m dev) (lA m dev) (dA m dev)
    ∧ (states m dev k).main_v67_2 = A_main_v58 (zA m dev) (lA m dev) (dA m dev)
    ∧ (states m dev k).main_v67_3 = A_main_v53 (zA m dev) (lA m dev) (dA m dev)
    ∧ (states m dev k).main_v67_4 = A_main_v49 (zA m dev) (lA m dev) (dA m dev) := by
  induction k with
  | zero => exact ⟨rfl, rfl, rfl, rfl, rfl⟩
  | succ k ih => exact ih

/-- The state before trip `k`. -/
def Holds (k : ℕ) : Prop :=
  (∀ (h : Fin 8) (d v : Fin 128), ((states m dev k).main_v67_6 (ix3 h d v) : EReal) = grad (zA m dev) (lA m dev) (dA m dev) h k v d)
  ∧ ∀ (c : Fin 256) (h : Fin 8) (y : Fin 64) (v : Fin 128), c.val < k →
      ((states m dev k).main_v67_7 (ix4 c.rev h y.rev v) : EReal) =
        Cert.Dv.inner (qs (zA m dev) h c.val) (ks (zA m dev) (lA m dev) h c.val) (bs (zA m dev) (lA m dev) h c.val) (ds (dA m dev) h c.val)
          (grad (zA m dev) (lA m dev) (dA m dev) h c.val) y v

theorem holds_zero : Holds m dev 0 := by
  refine ⟨fun h d v => ?_, fun c h y v hc => absurd hc (Nat.not_lt_zero _)⟩
  show (K_main_v65 (F := Ideal) (ix3 h d v) : EReal) = 0
  pointwise [K_main_v65, K_main_cst_7]

theorem holds_succ (k : ℕ) (hk : k < 256) (H : Holds m dev k) : Holds m dev (k + 1) := by
  obtain ⟨f0, f1, f2, f3, f4⟩ := fixed m dev k
  refine ⟨fun h d v => ?_, fun c h y v hc => ?_⟩
  · refine (b38_at (states m dev k) ⟨k, hk⟩ h d v).trans ?_
    rw [H.1, f0, f1, f3, wholeDecay_at, sum_rev]
    refine congrArg₂ (· + ·) rfl (Finset.sum_congr rfl fun y _ => ?_)
    rw [incoming_at, decayedQ_at]
  · refine (b43_at (states m dev k) ⟨k, hk⟩ h c.rev y.rev v).trans ?_
    by_cases e : c = ⟨k, hk⟩
    · subst e
      rw [if_pos rfl, b39_at, f0, f2, f4, sum_rev]
      refine congrArg₂ (· + ·) (Finset.sum_congr rfl fun d _ => ?_) (Finset.sum_congr rfl fun u _ => ?_)
      · rw [H.1, decayedK_at, mul_comm]
      · rw [incoming_at, scores_at, mul_comm]
    · rw [if_neg (fun he => e (Fin.rev_injective he))]
      exact H.2 c h y v (by
        have : c.val ≠ k := fun hv => e (Fin.ext hv)
        omega)

theorem holds : ∀ k, k ≤ 256 → Holds m dev k
  | 0, _ => holds_zero m dev
  | k + 1, hk => holds_succ m dev k hk (holds k (by omega))

/-- The reference's result. -/
theorem result : Step.R_main_v72 (F := Ideal) (states m dev 256) (m ((dev.tc : Thread nD τ).loc main_arg5))
    = out (zA m dev) (lA m dev) (dA m dev) (aA m dev) := by
  have hH := (holds m dev 256 le_rfl).2
  funext j
  obtain ⟨i, k, rfl⟩ : ∃ (i : Fin 16384) (k : Fin 1024), j = ix2 i k := ⟨j 0, j 1, ValueIdx.eq_ix2 j⟩
  have hi := i.isLt
  have hk := k.isLt
  pointwise [Step.R_main_v72]
  have e : ∀ (p : Fin 256) (q : Fin 8) (t : Fin 64) (v : Fin 128), p = (⟨i.val / 64, by omega⟩ : Fin 256).rev → q = ⟨k.val / 128, by omega⟩ →
      t = (⟨i.val % 64, by omega⟩ : Fin 64).rev → v = ⟨k.val % 128, by omega⟩ →
      ((states m dev 256).main_v67_7 (ix4 p q t v) : EReal) + aA m dev (ix2 i k) = out (zA m dev) (lA m dev) (dA m dev) (aA m dev) (ix2 i k) := by
    rintro _ _ _ _ rfl rfl rfl rfl
    rw [hH _ _ _ _ (by show i.val / 64 < 256; omega)]
    refine congrArg₂ (· + ·) rfl (congrArg (aA m dev) (congrArg₂ ix2 (Fin.ext ?_) (Fin.ext ?_)))
    · show i.val = 64 * (i.val / 64 % 256) + i.val % 64
      omega
    · show k.val = 128 * (k.val / 128) + k.val % 128
      omega
  refine e _ _ _ _ (Fin.ext ?_) (Fin.ext ?_) (Fin.ext ?_) (Fin.ext ?_)
  · change (16384 - (i.val + 1)) / 64 = 256 - (i.val / 64 + 1)
    omega
  · change k.val / 128 = k.val / 128
    rfl
  · change (16384 - (i.val + 1)) % 64 = 64 - (i.val % 64 + 1)
    omega
  · change k.val % 128 = k.val % 128
    rfl

end Cert.ReferenceIdeal.Dv
-- ==== Proof.Bounds.lean ====
module

public import proofs.«01_k».proof.Defs
public import proofs.«01_k».proof.Proof.HostIn
public import proofs.«01_k».proof.Proof.Gen.Pre_finite_gates
public import Idealize.ShloMosaic.Lib.Pointwise

@[expose] public section

set_option maxRecDepth 16384

noncomputable section

/-! What the precondition says: the gates' inputs are real numbers and the lower bounds lie between zero and one. -/

namespace Cert.KernelIdeal.Dv

open Idealize.ShloMosaic Idealize.ShloMosaic.TcCoe Cert.KernelIdeal.Gen Idealize.ShloMosaic.Pointwise Cert.Dv

/-- A comparison that answers one holds. -/
theorem holds_of_one {p : Prop} [Decidable p] (h : BitVec.ofBool (decide p) = 1#1) : p := by
  by_contra hp
  rw [decide_eq_false hp] at h
  exact absurd h (by decide)

/-- A value whose magnitude is below infinity is a real number. -/
theorem real_of_abs_lt {x : EReal} (h : max x (-x) < ⊤) : IsReal x := by
  induction x with
  | bot => simp at h
  | top => simp at h
  | coe r => exact ⟨r, rfl⟩

/-- A number whose magnitude compares below infinity is real. -/
theorem real_of_cmp {x : EReal} (h : Ideal.cmp .olt (max x (-x)) (Ideal.ofBits .f32 0x7F800000#32) = 1#1) : IsReal x := by
  rw [show Ideal.ofBits .f32 0x7F800000#32 = ⊤ from by simp [Ideal.ofBits, Ideal.ieee]] at h
  exact real_of_abs_lt (holds_of_one h)

/-- Products of real numbers are real. -/
theorem real_mul {x y : EReal} : IsReal x → IsReal y → IsReal (x * y)
  | ⟨a, ha⟩, ⟨b, hb⟩ => ⟨a * b, by rw [ha, hb, EReal.coe_mul]⟩

/-- Where the precondition holds, the gates' inputs are real and the lower bounds lie between zero and one. -/
theorem realGates (m : (ℓ : Loc nD τ sig) → Buf (Elt Ideal) ℓ)
    (H : Cert.Pre_KernelIdeal_finite_gates (hPre_finite_gates := Cert.Pre_finite_gates.Gen.facts) m) (c : Dev nD) : RealGates (zA m c) (lA m c) := by
  obtain ⟨h0, h1, h2⟩ := H c
  refine ⟨fun h d => ⟨?_, ?_⟩, fun h n y d => ?_⟩
  · have e : Ideal.cmp .oge (lA m c (ix3 h 0 d)) (Ideal.ofBits .f32 0x00000000#32) = 1#1 := congrFun h1 (ix3 h 0 d)
    rw [show Ideal.ofBits .f32 0x00000000#32 = 0 from by simp [Ideal.ofBits, Ideal.ieee]] at e
    exact holds_of_one e
  · have e : Ideal.cmp .ole (lA m c (ix3 h 0 d)) (Ideal.ofBits .f32 0x3F800000#32) = 1#1 := congrFun h2 (ix3 h 0 d)
    rw [show Ideal.ofBits .f32 0x3F800000#32 = 1 from Ideal.ofBits_one_f32] at e
    exact holds_of_one e
  · have hh := h.isLt
    have hd := d.isLt
    have e0 := congrFun h0 (ix2 (rowOf n y) ⟨128 * h.val + d.val, by omega⟩)
    simp only [Cert.Pre_finite_gates.fn] at e0
    have e : Ideal.cmp .olt (max (zA m c (ix2 (rowOf n y) (fCol h d))) (-zA m c (ix2 (rowOf n y) (fCol h d)))) (Ideal.ofBits .f32 0x7F800000#32) = 1#1 := by
      refine Eq.trans ?_ e0
      pointwise
      have k : fCol h d = ⟨2048 + (128 * h.val + d.val), by omega⟩ := Fin.ext (by show 2048 + 128 * h.val + d.val = 2048 + (128 * h.val + d.val); omega)
      rw [k]
      rfl
    rw [show Ideal.ofBits .f32 0x7F800000#32 = ⊤ from by simp [Ideal.ofBits, Ideal.ieee]] at e
    exact real_of_abs_lt (holds_of_one e)

end Cert.KernelIdeal.Dv
-- ==== Proof.Sums.lean ====
module

public import Idealize.ShloMosaic.Lib.Pointwise

@[expose] public section

noncomputable section

/-! Sums over the 16384 rows, taken 2048 at a time. -/

namespace Cert.Rows

/-- Row `n` of an array of 16384 rows. -/
def row (n : ℕ) : Fin 16384 := ⟨n % 16384, Nat.mod_lt _ (by decide)⟩

theorem row_val (k : Fin 16384) : row k.val = k := Fin.ext (Nat.mod_eq_of_lt k.isLt)

/-- The sum over the first `n` blocks of 2048 rows. -/
def upTo (f : Fin 16384 → EReal) (n : ℕ) : EReal := ∑ j ∈ Finset.range (2048 * n), f (row j)

theorem upTo_zero (f : Fin 16384 → EReal) : upTo f 0 = 0 := rfl

/-- One block more. -/
theorem upTo_succ (f : Fin 16384 → EReal) (n : ℕ) : upTo f (n + 1) = upTo f n + ∑ r : Fin 2048, f (row (2048 * n + r.val)) := by
  unfold upTo
  rw [Nat.mul_succ, Finset.sum_range_add, ← Fin.sum_univ_eq_sum_range (fun r => f (row (2048 * n + r)))]

/-- The first block alone. -/
theorem upTo_one (f : Fin 16384 → EReal) : upTo f 1 = ∑ r : Fin 2048, f (row (2048 * 0 + r.val)) := by
  rw [upTo_succ, upTo_zero, zero_add]

/-- All eight blocks are all rows. -/
theorem upTo_all (f : Fin 16384 → EReal) : upTo f 8 = ∑ k : Fin 16384, f k := by
  unfold upTo
  rw [← Fin.sum_univ_eq_sum_range (fun j => f (row j)) (2048 * 8)]
  exact Finset.sum_congr rfl fun k _ => congrArg f (row_val k)

end Cert.Rows
-- ==== Proof.Stores.lean ====
module

public import Idealize.ShloMosaic.Lib.Pointwise
public import Idealize.ShloMosaic.Lib.VecWindow
public import Idealize.ShloMosaic.Lib.WholeRead

@[expose] public section

/-! Loads and stores of a whole buffer. -/

noncomputable section

namespace Cert.Stores

open Idealize.ShloMosaic

variable {sig : RefSig} {κ : Kind} {sp : Space} {s : Shape} {e : EltTy}

/-- What a load of a whole buffer that holds `x` reads. -/
abbrev got {a : Memref sig κ sp s e} (h : a.IsWhole) {off : Fin s.rank → ℕ} (inb : ∀ b, off b + s.size b ≤ s.size b) (x : Vec Ideal s e) : Vec Ideal s e :=
  View.readAt (Elt Ideal) a.view (Rect.unit (s := s) off s.size inb).toLoadRect (h.unread x)

/-- What a load of a whole buffer reads after a store of `w` to all of it. -/
abbrev again (v : View sig κ sp s e) {off : Fin s.rank → ℕ} (inb : ∀ b, off b + s.size b ≤ s.size b) (w : Vec Ideal s e) : Vec Ideal s e :=
  v.readCov (Val := Elt Ideal) [⟨Rect.unit (s := s) off s.size inb, w⟩] (Rect.unit (s := s) off s.size inb).toLoadRect

/-- A load of a whole buffer that holds `x` reads `x`. -/
theorem whole_load {a : Memref sig κ sp s e} (h : a.IsWhole) (x : Vec Ideal s e) {off : Fin s.rank → ℕ} (inb : ∀ b, off b + s.size b ≤ s.size b) :
    View.readAt (Elt Ideal) a.view (Rect.unit (s := s) off s.size inb).toLoadRect (h.unread x) = x := by
  rw [View.readAt_full]
  exact h.read_unread x

/-- Such a load reads what the buffer holds. -/
theorem got_eq {a : Memref sig κ sp s e} (h : a.IsWhole) {off : Fin s.rank → ℕ} (inb : ∀ b, off b + s.size b ≤ s.size b) (x : Vec Ideal s e) : got h inb x = x :=
  whole_load h x inb

/-- A store of a whole buffer leaves what was stored. -/
theorem whole_store (v : View sig κ sp s e) (f : v.ty.Contents (Elt Ideal)) {off : Fin s.rank → ℕ} (inb : ∀ b, off b + s.size b ≤ s.size b) (w : Vec Ideal s e)
    (L : List (View.Piece (Elt Ideal) s e)) : v.read (Elt Ideal) (v.writes (Elt Ideal) f (⟨Rect.unit (s := s) off s.size inb, w⟩ :: L)) = w :=
  View.read_writes_full (Val := Elt Ideal) v f inb w L

/-- A buffer whose only store is of all of it keeps what was stored. -/
theorem kept_of (v : View sig κ sp s e) (f : v.ty.Contents (Elt Ideal)) {L : List (View.Piece (Elt Ideal) s e)} {off : Fin s.rank → ℕ}
    (inb : ∀ b, off b + s.size b ≤ s.size b) (w : Vec Ideal s e) {x : Vec Ideal s e} (hL : L = [⟨Rect.unit (s := s) off s.size inb, w⟩]) (hw : w = x) :
    v.read (Elt Ideal) (v.writes (Elt Ideal) f L) = x := by
  rw [hL, whole_store, hw]

/-- A load of a whole buffer after a store of all of it reads what was stored. -/
theorem whole_again (v : View sig κ sp s e) {off off' : Fin s.rank → ℕ} (inb : ∀ b, off b + s.size b ≤ s.size b) (inb' : ∀ b, off' b + s.size b ≤ s.size b) (w : Vec Ideal s e)
    (L : List (View.Piece (Elt Ideal) s e)) : v.readCov (Val := Elt Ideal) (⟨Rect.unit (s := s) off' s.size inb', w⟩ :: L) (Rect.unit (s := s) off s.size inb).toLoadRect = w :=
  View.readCov_full (Val := Elt Ideal) v inb inb' w L

/-- Such a load reads what was stored. -/
theorem again_eq (v : View sig κ sp s e) {off : Fin s.rank → ℕ} (inb : ∀ b, off b + s.size b ≤ s.size b) (w : Vec Ideal s e) : again v inb w = w :=
  whole_again v inb inb w []

end Cert.Stores

end
-- ==== Proof.DwFfnIn.lean ====
module

public import proofs.«01_k».proof.Proof.Sums
public import proofs.«01_k».proof.Proof.Stores
public import proofs.«01_k».proof.Proof.Gen.Kernel2Ideal.Value

@[expose] public section

/-! The weight gradient of the call at `Kernel2Ideal`: its result is the product of the transposed input with the incoming
gradients, each entry a sum over the 16384 rows that the kernel takes 2048 at a time. -/

set_option maxRecDepth 16384

noncomputable section

namespace Cert.Kernel2Ideal.Dw

open Idealize.ShloMosaic Idealize.ShloMosaic.Tactic Idealize.ShloMosaic.TcCoe Cert.Kernel2Ideal.Gen Cert.Kernel2Ideal.Value Idealize.ShloMosaic.Pointwise Cert.Rows Cert.Stores

variable (m : (ℓ : Loc nD τ sig) → Buf (Elt Ideal) ℓ) (c : Dev nD)

/-- The input whose transpose is multiplied. -/
abbrev xA : S16384x1024.Idx → EReal := m ((c : Thread nD τ).loc main_arg0)

/-- Incoming gradient 1 of 2. -/
abbrev y0A : S16384x2816.Idx → EReal := m ((c : Thread nD τ).loc main_arg1)

/-- Incoming gradient 2 of 2. -/
abbrev y1A : S16384x2816.Idx → EReal := m ((c : Thread nD τ).loc main_arg2)

/-- Row `k`, column `p` of the input. -/
def xv (k : Fin 16384) (p : ℕ) : EReal := xA m c (ix2 k ⟨p % 1024, Nat.mod_lt _ (by decide)⟩)

/-- Row `k`, column `q` of the incoming gradients side by side. -/
def yv (k : Fin 16384) (q : ℕ) : EReal := if q < 2816 then y0A m c (ix2 k ⟨(q - 0) % 2816, Nat.mod_lt _ (by decide)⟩) else y1A m c (ix2 k ⟨(q - 2816) % 2816, Nat.mod_lt _ (by decide)⟩)

/-- The products that entry `(p, q)` of the weight gradient sums. -/
def term (p q : ℕ) (k : Fin 16384) : EReal := xv m c k p * yv m c k q

/-- The input's block at a point. -/
theorem idx0 : ∀ t : Fin cfg0.N, win0_0.index t (0 : Fin 2) = t.val % 8 ∧ win0_0.index t (1 : Fin 2) = 0 := (by decide +kernel : ∀ t : Fin grid0.N, _)

/-- The input's block holds its rows. -/
theorem blk0 (t : Fin cfg0.N) (r : Fin 2048) (p : Fin 1024) : (iblk m c 0 t (ix2 r p) : EReal) = xv m c (row (2048 * (t.val % 8) + r.val)) (1024 * 0 + p.val) := by
  have hN := lt_of_lt_of_eq t.isLt (show cfg0.N = 32 from N_0)
  show V m c main_arg0 (((cfg0.win 0).blk t).view.emb (ix2 r p)) = _
  rw [V_main_arg0]
  obtain ⟨e0, e1⟩ := idx0 t
  refine congrArg (xA m c) (funext fun b => Fin.ext ?_)
  have hr := r.isLt
  have hp := p.isLt
  match b with
  | ⟨0, _⟩ => show win0_0.index t (0 : Fin 2) * 2048 + 1 * r.val = (2048 * (t.val % 8) + r.val) % 16384; omega
  | ⟨1, _⟩ => show win0_0.index t (1 : Fin 2) * 1024 + 1 * p.val = (1024 * 0 + p.val) % 1024; omega

/-- Gradient 1's block at a point that reads it. -/
theorem idx1 : ∀ t : Fin cfg0.N, 0 ≤ t.val / 8 ∧ t.val / 8 < 2 → win0_1.index t (0 : Fin 2) = t.val % 8 ∧ win0_1.index t (1 : Fin 2) = t.val / 8 := (by decide +kernel : ∀ t : Fin grid0.N, _)

/-- Gradient 1's block holds its rows. -/
theorem blk1 (t : Fin cfg0.N) (h : 0 ≤ t.val / 8 ∧ t.val / 8 < 2) (r : Fin 2048) (q : Fin 1408) : (iblk m c 1 t (ix2 r q) : EReal) = yv m c (row (2048 * (t.val % 8) + r.val)) (1408 * (t.val / 8) + q.val) := by
  have hN := lt_of_lt_of_eq t.isLt (show cfg0.N = 32 from N_0)
  have hr := r.isLt
  have hq := q.isLt
  show V m c main_arg1 (((cfg0.win 1).blk t).view.emb (ix2 r q)) = _
  rw [V_main_arg1]
  obtain ⟨e0, e1⟩ := idx1 t h
  unfold yv
  rw [if_pos (by omega)]
  refine congrArg (y0A m c) (funext fun b => Fin.ext ?_)
  match b with
  | ⟨0, _⟩ => show win0_1.index t (0 : Fin 2) * 2048 + 1 * r.val = (2048 * (t.val % 8) + r.val) % 16384; omega
  | ⟨1, _⟩ => show win0_1.index t (1 : Fin 2) * 1408 + 1 * q.val = (1408 * (t.val / 8) + q.val - 0) % 2816; omega

/-- Gradient 2's block at a point that reads it. -/
theorem idx2 : ∀ t : Fin cfg0.N, 2 ≤ t.val / 8 ∧ t.val / 8 < 4 → win0_2.index t (0 : Fin 2) = t.val % 8 ∧ win0_2.index t (1 : Fin 2) = t.val / 8 - 2 := (by decide +kernel : ∀ t : Fin grid0.N, _)

/-- Gradient 2's block holds its rows. -/
theorem blk2 (t : Fin cfg0.N) (h : 2 ≤ t.val / 8 ∧ t.val / 8 < 4) (r : Fin 2048) (q : Fin 1408) : (iblk m c 2 t (ix2 r q) : EReal) = yv m c (row (2048 * (t.val % 8) + r.val)) (1408 * (t.val / 8) + q.val) := by
  have hN := lt_of_lt_of_eq t.isLt (show cfg0.N = 32 from N_0)
  have hr := r.isLt
  have hq := q.isLt
  show V m c main_arg2 (((cfg0.win 2).blk t).view.emb (ix2 r q)) = _
  rw [V_main_arg2]
  obtain ⟨e0, e1⟩ := idx2 t h
  unfold yv
  rw [if_neg (by omega)]
  refine congrArg (y1A m c) (funext fun b => Fin.ext ?_)
  match b with
  | ⟨0, _⟩ => show win0_2.index t (0 : Fin 2) * 2048 + 1 * r.val = (2048 * (t.val % 8) + r.val) % 16384; omega
  | ⟨1, _⟩ => show win0_2.index t (1 : Fin 2) * 1408 + 1 * q.val = (1408 * (t.val / 8) + q.val - 2816) % 2816; omega

/-- One point's product. -/
theorem prod0 (a : Vec Ideal S2048x1024 .bf16) (b : Vec Ideal S2048x1408 .bf16) (p : Fin 1024) (q : Fin 1408) : (k0_pay1 a b (ix2 p q) : EReal) = ∑ r : Fin 2048, a (ix2 r p) * b (ix2 r q) := by
  unfold k0_pay1
  pointwise

/-- What a first point stores. -/
theorem start0 (a : Vec Ideal S2048x1024 .bf16) (b : Vec Ideal S2048x1408 .bf16) (p : Fin 1024) (q : Fin 1408) : (k0_pay2 a b (ix2 p q) : EReal) = ∑ r : Fin 2048, a (ix2 r p) * b (ix2 r q) := by
  unfold k0_pay2
  pointwise
  exact prod0 a b p q

/-- What a later point stores. -/
theorem more0 (a : Vec Ideal S2048x1024 .bf16) (b : Vec Ideal S2048x1408 .bf16) (w : Vec Ideal S1024x1408 .f32) (p : Fin 1024) (q : Fin 1408) :
    (k0_pay3 a b w (ix2 p q) : EReal) = w (ix2 p q) + ∑ r : Fin 2048, a (ix2 r p) * b (ix2 r q) := by
  unfold k0_pay3
  pointwise
  exact congrArg (w (ix2 p q) + ·) (prod0 a b p q)

/-- One point's part of the sum. -/
theorem part0 (n P Q : ℕ) (a : Vec Ideal S2048x1024 .bf16) (b : Vec Ideal S2048x1408 .bf16) (p : Fin 1024) (q : Fin 1408)
    (ha : ∀ r : Fin 2048, (a (ix2 r p) : EReal) = xv m c (row (2048 * n + r.val)) P) (hb : ∀ r : Fin 2048, (b (ix2 r q) : EReal) = yv m c (row (2048 * n + r.val)) Q) :
    ∑ r : Fin 2048, a (ix2 r p) * b (ix2 r q) = ∑ r : Fin 2048, term m c P Q (row (2048 * n + r.val)) :=
  Finset.sum_congr rfl fun r _ => congrArg₂ (fun x y : EReal => x * y) (ha r) (hb r)

/-- The stored result is the kept sum. -/
theorem last (w : Vec Ideal S1024x1408 .f32) (p : Fin 1024) (q : Fin 1408) : (k0_pay7 w (ix2 p q) : EReal) = w (ix2 p q) := by
  unfold k0_pay7
  pointwise

/-- The buffer of the kept sum is whole. -/
theorem wholeS : scM0_0.IsWhole := Memref.isWhole_whole _

/-- The sum kept before a point. -/
abbrev prev (t : Fin cfg0.N) : Vec Ideal S1024x1408 .f32 := (outsAt0 (F := Ideal) m c (t.val - 1) (Nat.lt_of_le_of_lt (Nat.sub_le _ _) t.isLt)).2

/-- A first point of gradient 1 on the run. -/
theorem atA (t : Fin cfg0.N) (h0 : t.val < 16) (h1 : t.val % 8 = 0) (h2 : ¬1 ≤ t.val % 8) (h3 : ¬16 ≤ t.val) (h4 : ¬t.val % 8 = 7) :
    (outsAt0 (F := Ideal) m c t.val t.isLt).2 = k0_pay2 (iblk m c 0 t) (iblk m c 1 t) := by
  rw [outsAt0_A m c t h0 h1 h2 h3 h4]
  dsimp only
  unfold sout0_A_0
  refine kept_of _ _ inb_S1024x1408_S1024x1408_0_0 (k0_pay2 (got (hs0_0 t) inb_S2048x1024_S2048x1024_0_0 (iblk m c 0 t)) (got (hs0_1 t) inb_S2048x1408_S2048x1408_0_0 (iblk m c 1 t))) ?_ ?_
  · sl_kernel_rfl
  · rw [got_eq, got_eq]

/-- A middle point of gradient 1 on the run. -/
theorem atB (t : Fin cfg0.N) (h0 : t.val < 16) (h1 : ¬t.val % 8 = 0) (h2 : 1 ≤ t.val % 8) (h3 : ¬16 ≤ t.val) (h4 : ¬t.val % 8 = 7) :
    (outsAt0 (F := Ideal) m c t.val t.isLt).2 = k0_pay3 (iblk m c 0 t) (iblk m c 1 t) (prev m c t) := by
  rw [outsAt0_B m c t h0 h1 h2 h3 h4]
  dsimp only
  unfold sout0_B_0
  refine kept_of _ _ inb_S1024x1408_S1024x1408_0_0 (k0_pay3 (got (hs0_0 t) inb_S2048x1024_S2048x1024_0_0 (iblk m c 0 t)) (got (hs0_1 t) inb_S2048x1408_S2048x1408_0_0 (iblk m c 1 t)) (got wholeS inb_S1024x1408_S1024x1408_0_0 (prev m c t))) ?_ ?_
  · sl_kernel_rfl
  · rw [got_eq, got_eq, got_eq]

/-- A last point of gradient 1 on the run. -/
theorem atC (t : Fin cfg0.N) (h0 : t.val < 16) (h1 : ¬t.val % 8 = 0) (h2 : 1 ≤ t.val % 8) (h3 : ¬16 ≤ t.val) (h4 : t.val % 8 = 7) :
    (outsAt0 (F := Ideal) m c t.val t.isLt).2 = k0_pay3 (iblk m c 0 t) (iblk m c 1 t) (prev m c t) := by
  rw [outsAt0_C m c t h0 h1 h2 h3 h4]
  dsimp only
  unfold sout0_C_0
  refine kept_of _ _ inb_S1024x1408_S1024x1408_0_0 (k0_pay3 (got (hs0_0 t) inb_S2048x1024_S2048x1024_0_0 (iblk m c 0 t)) (got (hs0_1 t) inb_S2048x1408_S2048x1408_0_0 (iblk m c 1 t)) (got wholeS inb_S1024x1408_S1024x1408_0_0 (prev m c t))) ?_ ?_
  · sl_kernel_rfl
  · rw [got_eq, got_eq, got_eq]

/-- A last point of gradient 1 on the run leaves the kept sum in the result's block. -/
theorem outC (t : Fin cfg0.N) (h0 : t.val < 16) (h1 : ¬t.val % 8 = 0) (h2 : 1 ≤ t.val % 8) (h3 : ¬16 ≤ t.val) (h4 : t.val % 8 = 7) :
    (outsAt0 (F := Ideal) m c t.val t.isLt).1 = k0_pay7 ((outsAt0 (F := Ideal) m c t.val t.isLt).2) := by
  rw [atC m c t h0 h1 h2 h3 h4, outsAt0_C m c t h0 h1 h2 h3 h4]
  dsimp only
  unfold out0_C_3
  refine kept_of _ _ inb_S1024x1408_S1024x1408_0_0 (k0_pay7 (again scM0_0.view inb_S1024x1408_S1024x1408_0_0 (k0_pay3 (got (hs0_0 t) inb_S2048x1024_S2048x1024_0_0 (iblk m c 0 t)) (got (hs0_1 t) inb_S2048x1408_S2048x1408_0_0 (iblk m c 1 t)) (got wholeS inb_S1024x1408_S1024x1408_0_0 (prev m c t))))) ?_ ?_
  · sl_kernel_rfl
  · rw [again_eq, got_eq, got_eq, got_eq]

/-- A first point of gradient 2 on the run. -/
theorem atD (t : Fin cfg0.N) (h0 : ¬t.val < 16) (h3 : 16 ≤ t.val) (h4 : ¬t.val % 8 = 7) (h5 : t.val % 8 = 0) (h6 : ¬1 ≤ t.val % 8) :
    (outsAt0 (F := Ideal) m c t.val t.isLt).2 = k0_pay5 (iblk m c 0 t) (iblk m c 2 t) := by
  rw [outsAt0_D m c t h0 h3 h4 h5 h6]
  dsimp only
  unfold sout0_D_0
  refine kept_of _ _ inb_S1024x1408_S1024x1408_0_0 (k0_pay5 (got (hs0_0 t) inb_S2048x1024_S2048x1024_0_0 (iblk m c 0 t)) (got (hs0_2 t) inb_S2048x1408_S2048x1408_0_0 (iblk m c 2 t))) ?_ ?_
  · sl_kernel_rfl
  · rw [got_eq, got_eq]

/-- A middle point of gradient 2 on the run. -/
theorem atE (t : Fin cfg0.N) (h0 : ¬t.val < 16) (h3 : 16 ≤ t.val) (h4 : ¬t.val % 8 = 7) (h5 : ¬t.val % 8 = 0) (h6 : 1 ≤ t.val % 8) :
    (outsAt0 (F := Ideal) m c t.val t.isLt).2 = k0_pay6 (iblk m c 0 t) (iblk m c 2 t) (prev m c t) := by
  rw [outsAt0_E m c t h0 h3 h4 h5 h6]
  dsimp only
  unfold sout0_E_0
  refine kept_of _ _ inb_S1024x1408_S1024x1408_0_0 (k0_pay6 (got (hs0_0 t) inb_S2048x1024_S2048x1024_0_0 (iblk m c 0 t)) (got (hs0_2 t) inb_S2048x1408_S2048x1408_0_0 (iblk m c 2 t)) (got wholeS inb_S1024x1408_S1024x1408_0_0 (prev m c t))) ?_ ?_
  · sl_kernel_rfl
  · rw [got_eq, got_eq, got_eq]

/-- A last point of gradient 2 on the run. -/
theorem atF (t : Fin cfg0.N) (h0 : ¬t.val < 16) (h3 : 16 ≤ t.val) (h4 : t.val % 8 = 7) (h5 : ¬t.val % 8 = 0) (h6 : 1 ≤ t.val % 8) :
    (outsAt0 (F := Ideal) m c t.val t.isLt).2 = k0_pay6 (iblk m c 0 t) (iblk m c 2 t) (prev m c t) := by
  rw [outsAt0_F m c t h0 h3 h4 h5 h6]
  dsimp only
  unfold sout0_F_0
  refine kept_of _ _ inb_S1024x1408_S1024x1408_0_0 (k0_pay6 (got (hs0_0 t) inb_S2048x1024_S2048x1024_0_0 (iblk m c 0 t)) (got (hs0_2 t) inb_S2048x1408_S2048x1408_0_0 (iblk m c 2 t)) (got wholeS inb_S1024x1408_S1024x1408_0_0 (prev m c t))) ?_ ?_
  · sl_kernel_rfl
  · rw [got_eq, got_eq, got_eq]

/-- A last point of gradient 2 on the run leaves the kept sum in the result's block. -/
theorem outF (t : Fin cfg0.N) (h0 : ¬t.val < 16) (h3 : 16 ≤ t.val) (h4 : t.val % 8 = 7) (h5 : ¬t.val % 8 = 0) (h6 : 1 ≤ t.val % 8) :
    (outsAt0 (F := Ideal) m c t.val t.isLt).1 = k0_pay7 ((outsAt0 (F := Ideal) m c t.val t.isLt).2) := by
  rw [atF m c t h0 h3 h4 h5 h6, outsAt0_F m c t h0 h3 h4 h5 h6]
  dsimp only
  unfold out0_F_3
  refine kept_of _ _ inb_S1024x1408_S1024x1408_0_0 (k0_pay7 (again scM0_0.view inb_S1024x1408_S1024x1408_0_0 (k0_pay6 (got (hs0_0 t) inb_S2048x1024_S2048x1024_0_0 (iblk m c 0 t)) (got (hs0_2 t) inb_S2048x1408_S2048x1408_0_0 (iblk m c 2 t)) (got wholeS inb_S1024x1408_S1024x1408_0_0 (prev m c t))))) ?_ ?_
  · sl_kernel_rfl
  · rw [again_eq, got_eq, got_eq, got_eq]

/-- A first point keeps the sum of its rows. -/
theorem first (t : Fin cfg0.N) (h : t.val % 8 = 0) (p : Fin 1024) (q : Fin 1408) :
    ((outsAt0 (F := Ideal) m c t.val t.isLt).2 (ix2 p q) : EReal) = upTo (term m c (1024 * 0 + p.val) (1408 * (t.val / 8) + q.val)) (t.val % 8 + 1) := by
  have hN := lt_of_lt_of_eq t.isLt (show cfg0.N = 32 from N_0)
  rw [upTo_succ, show upTo (term m c (1024 * 0 + p.val) (1408 * (t.val / 8) + q.val)) (t.val % 8) = 0 by rw [h, upTo_zero], zero_add]
  by_cases c0 : t.val / 8 < 2
  · rw [atA m c t (by omega) (by omega) (by omega) (by omega) (by omega)]
    exact (start0 _ _ p q).trans (part0 m c _ _ _ _ _ p q (fun r => blk0 m c t r p) (fun r => blk1 m c t (by omega) r q))
  rw [atD m c t (by omega) (by omega) (by omega) (by omega) (by omega)]
  exact (start0 _ _ p q).trans (part0 m c _ _ _ _ _ p q (fun r => blk0 m c t r p) (fun r => blk2 m c t (by omega) r q))

/-- A later point adds its rows to the kept sum. -/
theorem later (t : Fin cfg0.N) (h : ¬t.val % 8 = 0) (p : Fin 1024) (q : Fin 1408)
    (ih : ((prev m c t) (ix2 p q) : EReal) = upTo (term m c (1024 * 0 + p.val) (1408 * ((t.val - 1) / 8) + q.val)) ((t.val - 1) % 8 + 1)) :
    ((outsAt0 (F := Ideal) m c t.val t.isLt).2 (ix2 p q) : EReal) = upTo (term m c (1024 * 0 + p.val) (1408 * (t.val / 8) + q.val)) (t.val % 8 + 1) := by
  have hN := lt_of_lt_of_eq t.isLt (show cfg0.N = 32 from N_0)
  rw [show (t.val - 1) / 8 = t.val / 8 by omega, show (t.val - 1) % 8 + 1 = t.val % 8 by omega] at ih
  rw [upTo_succ, ← ih]
  by_cases h7 : t.val % 8 = 7
  · by_cases c0 : t.val / 8 < 2
    · rw [atC m c t (by omega) (by omega) (by omega) (by omega) (by omega)]
      exact (more0 _ _ _ p q).trans (congrArg (_ + ·) (part0 m c _ _ _ _ _ p q (fun r => blk0 m c t r p) (fun r => blk1 m c t (by omega) r q)))
    rw [atF m c t (by omega) (by omega) (by omega) (by omega) (by omega)]
    exact (more0 _ _ _ p q).trans (congrArg (_ + ·) (part0 m c _ _ _ _ _ p q (fun r => blk0 m c t r p) (fun r => blk2 m c t (by omega) r q)))
  · by_cases c0 : t.val / 8 < 2
    · rw [atB m c t (by omega) (by omega) (by omega) (by omega) (by omega)]
      exact (more0 _ _ _ p q).trans (congrArg (_ + ·) (part0 m c _ _ _ _ _ p q (fun r => blk0 m c t r p) (fun r => blk1 m c t (by omega) r q)))
    rw [atE m c t (by omega) (by omega) (by omega) (by omega) (by omega)]
    exact (more0 _ _ _ p q).trans (congrArg (_ + ·) (part0 m c _ _ _ _ _ p q (fun r => blk0 m c t r p) (fun r => blk2 m c t (by omega) r q)))

/-- Every point keeps the sum of the rows up to its own. -/
theorem kept : ∀ (n : ℕ) (hn : n < cfg0.N) (p : Fin 1024) (q : Fin 1408), ((outsAt0 (F := Ideal) m c n hn).2 (ix2 p q) : EReal) = upTo (term m c (1024 * 0 + p.val) (1408 * (n / 8) + q.val)) (n % 8 + 1)
  | 0, hn, p, q => first m c ⟨0, hn⟩ rfl p q
  | n + 1, hn, p, q => by
    by_cases h : (n + 1) % 8 = 0
    · exact first m c ⟨n + 1, hn⟩ h p q
    · exact later m c ⟨n + 1, hn⟩ h p q (kept n (Nat.lt_of_succ_lt hn) p q)

/-- A last point leaves the whole sum. -/
theorem done (t : Fin cfg0.N) (h : t.val % 8 = 7) (p : Fin 1024) (q : Fin 1408) :
    ((outsAt0 (F := Ideal) m c t.val t.isLt).1 (ix2 p q) : EReal) = ∑ k : Fin 16384, term m c (1024 * 0 + p.val) (1408 * (t.val / 8) + q.val) k := by
  have hN := lt_of_lt_of_eq t.isLt (show cfg0.N = 32 from N_0)
  rw [← upTo_all]
  have e := kept m c t.val t.isLt p q
  rw [h] at e
  by_cases c0 : t.val / 8 < 2
  · rw [outC m c t (by omega) (by omega) (by omega) (by omega) (by omega)]
    exact (last _ p q).trans e
  rw [outF m c t (by omega) (by omega) (by omega) (by omega) (by omega)]
  exact (last _ p q).trans e

/-- What the kernel leaves in its result. -/
theorem G_eq : G3 (F := Ideal) m c = fun i => ∑ k : Fin 16384, term m c (i 0).val (i 1).val k := by
  funext i
  have h0 : (i 0).val < 1024 := (i 0).isLt
  have h1 : (i 1).val < 5632 := (i 1).isLt
  have hp : pt3Of i = 8 * ((i 1).val / 1408) + 7 := by
    show 8 * (4 * ((i 0).val / 1024 - 0) + 1 * ((i 1).val / 1408 - 0)) + 7 = _
    omega
  have hN : pt3Of i < cfg0.N := lt_of_lt_of_eq (by rw [hp]; omega) (show 32 = cfg0.N from N_0.symm)
  have hl : loc3Of i = ix2 ⟨(i 0).val % 1024, Nat.mod_lt _ (by decide)⟩ ⟨(i 1).val % 1408, Nat.mod_lt _ (by decide)⟩ := ValueIdx.eq_ix2 _
  unfold G3
  rw [dif_pos hN, ← outsAt0_sweep m c (pt3Of i) hN, hl]
  refine (done m c ⟨pt3Of i, hN⟩ (by show pt3Of i % 8 = 7; rw [hp]; omega) _ _).trans (Finset.sum_congr rfl fun k _ => ?_)
  have e0 : 1024 * 0 + (i 0).val % 1024 = (i 0).val := by omega
  have e1 : 1408 * ((pt3Of i) / 8) + (i 1).val % 1408 = (i 1).val := by rw [hp]; omega
  exact congrArg₂ (fun a b => term m c a b k) e0 e1

end Cert.Kernel2Ideal.Dw

end
-- ==== Proof.DwFfnInEq.lean ====
module

public import proofs.«01_k».proof.Defs
public import proofs.«01_k».proof.Proof.DwFfnIn
public import proofs.«01_k».proof.Proof.Gen.Reference2Ideal.Run
public import proofs.«01_k».proof.Proof.Gen.Reference2Ideal.Read

@[expose] public section

/-! The reference of the weight gradient at `Kernel2Ideal`, and that both compute the same. -/

noncomputable section

namespace Cert.Reference2Ideal.Dw

open Idealize.ShloMosaic Idealize.ShloMosaic.TcCoe Idealize.SL.Sem Cert.Reference2Ideal.Gen Cert.Reference2Ideal.Read Idealize.ShloMosaic.Pointwise

/-- Row `k`, column `q` of the incoming gradients side by side. -/
def side (x1 : (⟨S16384x2816, .bf16⟩ : BufTy).Contents (Elt Ideal)) (x2 : (⟨S16384x2816, .bf16⟩ : BufTy).Contents (Elt Ideal)) (k : Fin 16384) (q : ℕ) : EReal := if q < 2816 then x1 (ix2 k ⟨(q - 0) % 2816, Nat.mod_lt _ (by decide)⟩) else x2 (ix2 k ⟨(q - 2816) % 2816, Nat.mod_lt _ (by decide)⟩)

/-- It depends on the gradients alone. -/
theorem side_congr {x1 z1 : (⟨S16384x2816, .bf16⟩ : BufTy).Contents (Elt Ideal)} {x2 z2 : (⟨S16384x2816, .bf16⟩ : BufTy).Contents (Elt Ideal)} (h1 : x1 = z1) (h2 : x2 = z2) (k : Fin 16384) (q : ℕ) :
    side x1 x2 k q = side z1 z2 k q := by
  subst h1 h2
  rfl

/-- The gradients put side by side. -/
theorem beside (x1 : (⟨S16384x2816, .bf16⟩ : BufTy).Contents (Elt Ideal)) (x2 : (⟨S16384x2816, .bf16⟩ : BufTy).Contents (Elt Ideal)) (k : Fin 16384) (q : Fin 5632) : (val_main_v0 (F := Ideal) x1 x2 (ix2 k q) : EReal) = side x1 x2 k q.val := by
  have hq := q.isLt
  unfold val_main_v0 side
  pointwise
  by_cases h0 : q.val < 2816
  · refine (dif_pos h0).trans (Eq.trans ?_ (if_pos (show q.val < 2816 by omega)).symm)
    exact congrArg (fun b => x1 (ix2 k b)) (Fin.ext (by show q.val = (q.val - 0) % 2816; omega))
  · refine (dif_neg h0).trans (Eq.trans ?_ (if_neg (show ¬q.val < 2816 by omega)).symm)
    exact congrArg (fun b => x2 (ix2 k b)) (Fin.ext (by show q.val - 2816 = (q.val - 2816) % 2816; omega))

/-- The reference's entries. -/
theorem entry (x0 : (⟨S16384x1024, .bf16⟩ : BufTy).Contents (Elt Ideal)) (x1 : (⟨S16384x2816, .bf16⟩ : BufTy).Contents (Elt Ideal)) (x2 : (⟨S16384x2816, .bf16⟩ : BufTy).Contents (Elt Ideal)) (p : Fin 1024) (q : Fin 5632) :
    (val_main_v5 (F := Ideal) x0 x1 x2 (ix2 p q) : EReal) = ∑ k : Fin 16384, side x1 x2 k q.val * x0 (ix2 k p) := by
  have hq := q.isLt
  unfold val_main_v5 val_main_v4 val_main_v3 val_main_v2 val_main_v1
  pointwise
  exact Finset.sum_congr rfl fun k _ => congrArg (fun b : EReal => b * x0 (ix2 k p)) (beside x1 x2 k q)

/-- The reference ends with its arguments unchanged and every counter at zero. -/
theorem frame : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩) (Cert.Reference2Ideal.Value.run m ρ)

/-- The kernel and the reference compute the same weight gradient. -/
theorem values : Cert.algebraic_Kernel2Ideal_Reference2Ideal (hKernel2Ideal := Cert.Kernel2Ideal.Gen.facts) (hReference2Ideal := Cert.Reference2Ideal.Gen.facts) := by
  intro m ρ m' ρ' _ hag
  refine ⟨fun c => Cert.Kernel2Ideal.Value.G3 (F := Ideal) m c, (θ_run _ _ _).mono (fun _ h c => h c) (Cert.Kernel2Ideal.Value.run (F := Ideal) m ρ),
    (θ_run _ _ _).mono (fun _ h c => ⟨(h c).1.trans ?_, (h c).2⟩) (Cert.Reference2Ideal.Value.run (F := Ideal) m' ρ')⟩
  obtain ⟨e0, e1, e2⟩ := hag c
  refine (val_main_v5_eq (F := Ideal) _ _ _).trans ?_
  refine Eq.trans ?_ (Cert.Kernel2Ideal.Dw.G_eq m c).symm
  funext i
  have h0 : (i 0).val < 1024 := (i 0).isLt
  refine (congrArg _ (ValueIdx.eq_ix2 i)).trans ((entry _ _ _ (i 0) (i 1)).trans (Finset.sum_congr rfl fun k _ => (mul_comm _ _).trans ?_))
  refine congrArg₂ (fun a b : EReal => a * b) ((congrFun e0 _).trans ?_) (side_congr e1 e2 k (i 1).val)
  exact congrArg (fun b => Cert.Kernel2Ideal.Dw.xA m c (ix2 k b)) (Fin.ext (Nat.mod_eq_of_lt h0).symm)

end Cert.Reference2Ideal.Dw

end
-- ==== Proof.Halves.lean ====
module

public import Idealize.ShloMosaic.Lib.Pointwise
public import Idealize.ShloMosaic.Lib.Pipeline.FrameBody
public import Idealize.ShloMosaic.Lib.Pipeline.Value

@[expose] public section

/-! Blocks of 512 rows that are stored as two halves of 256 rows, and loads of a part of a block. -/

noncomputable section

namespace Cert.Halves

open Idealize.ShloMosaic

/-- An entry of a load of a part of a block is the block's entry at the part's offset. -/
theorem ld_at {A B a b : ℕ} {e : EltTy} {x : Vec Ideal ⟨2, ![A, B]⟩ e} {o0 o1 : ℕ}
    {inb : ∀ d : Fin (Shape.mk 2 ![A, B]).rank, (![o0, o1] : Fin 2 → ℕ) d + (Shape.mk 2 ![a, b]).size d ≤ (Shape.mk 2 ![A, B]).size d}
    {r : Fin a} {k : Fin b} (p : Fin A) (q : Fin B) (hp : o0 + r.val = p.val) (hq : o1 + k.val = q.val) :
    View.ld x (Rect.unit (s := ⟨2, ![A, B]⟩) ![o0, o1] (Shape.mk 2 ![a, b]).size inb) (ix2 r k) = x (ix2 p q) := by
  refine congrArg x (funext fun d => Fin.ext ?_)
  match d with
  | ⟨0, _⟩ => show o0 + 1 * r.val = p.val; omega
  | ⟨1, _⟩ => show o1 + 1 * k.val = q.val; omega

/-- An entry of what two stores leave: the later one's if it holds the place, else the earlier one's. -/
theorem pieces {s : Shape} {e : EltTy} (r1 r0 : Rect s) (w1 : r1.shape.Idx → Elt Ideal e) (w0 : r0.shape.Idx → Elt Ideal e) (y : s.Idx) (v : Elt Ideal e)
    (h : (∃ x, r1.emb x = y ∧ w1 x = v) ∨ (y ∉ r1.set ∧ ∃ x, r0.emb x = y ∧ w0 x = v)) :
    View.canon (Val := Elt Ideal) [⟨r1, w1⟩, ⟨r0, w0⟩] y = v := by
  rcases h with ⟨x, rfl, rfl⟩ | ⟨hn, x, rfl, rfl⟩
  · exact View.canon_cons_emb r1 w1 _ x
  · exact (View.canon_cons_of_not_mem ⟨r1, w1⟩ _ hn).trans (View.canon_cons_emb r0 w0 _ x)

/-- An entry of a block stored in two halves is the entry of the half that holds its row. -/
theorem two {C : ℕ} {e : EltTy}
    {inb1 : ∀ d : Fin (Shape.mk 2 ![512, C]).rank, (![256, 0] : Fin 2 → ℕ) d + (Shape.mk 2 ![256, C]).size d ≤ (Shape.mk 2 ![512, C]).size d}
    {inb0 : ∀ d : Fin (Shape.mk 2 ![512, C]).rank, (![0, 0] : Fin 2 → ℕ) d + (Shape.mk 2 ![256, C]).size d ≤ (Shape.mk 2 ![512, C]).size d}
    {w1 w0 : Vec Ideal ⟨2, ![256, C]⟩ e} (p : Fin 512) (q : Fin C) (v : Elt Ideal e)
    (h1 : ∀ r : Fin 256, 256 + r.val = p.val → w1 (ix2 r q) = v) (h0 : ∀ r : Fin 256, 0 + r.val = p.val → w0 (ix2 r q) = v) :
    View.canon (Val := Elt Ideal) [⟨Rect.unit (s := ⟨2, ![512, C]⟩) ![256, 0] (Shape.mk 2 ![256, C]).size inb1, w1⟩,
      ⟨Rect.unit (s := ⟨2, ![512, C]⟩) ![0, 0] (Shape.mk 2 ![256, C]).size inb0, w0⟩] (ix2 p q) = v := by
  have hp := p.isLt
  by_cases h : p.val < 256
  · refine pieces _ _ _ _ _ _ (.inr ⟨fun hm => ?_, ix2 ⟨p.val, h⟩ q, funext fun d => Fin.ext ?_, h0 ⟨p.val, h⟩ (by show 0 + p.val = p.val; omega)⟩)
    · obtain ⟨j, _, e1⟩ := (LoadRect.mem_set _).mp hm 0
      have e2 : p.val = 256 + 1 * j := e1
      omega
    · match d with
      | ⟨0, _⟩ => show 0 + 1 * p.val = p.val; omega
      | ⟨1, _⟩ => show 0 + 1 * q.val = q.val; omega
  · refine pieces _ _ _ _ _ _ (.inl ⟨ix2 ⟨p.val - 256, by omega⟩ q, funext fun d => Fin.ext ?_, h1 ⟨p.val - 256, by omega⟩ (by show 256 + (p.val - 256) = p.val; omega)⟩)
    match d with
    | ⟨0, _⟩ => show 256 + 1 * (p.val - 256) = p.val; omega
    | ⟨1, _⟩ => show 0 + 1 * q.val = q.val; omega

/-- The same of a buffer whose stores are the two halves. -/
theorem halves_of {sig : RefSig} {κ : Kind} {sp : Space} {C : ℕ} {e : EltTy} (v : View sig κ sp ⟨2, ![512, C]⟩ e) (f : v.ty.Contents (Elt Ideal)) {L : List (View.Piece (Elt Ideal) ⟨2, ![512, C]⟩ e)}
    (inb1 : ∀ d : Fin (Shape.mk 2 ![512, C]).rank, (![256, 0] : Fin 2 → ℕ) d + (Shape.mk 2 ![256, C]).size d ≤ (Shape.mk 2 ![512, C]).size d)
    (inb0 : ∀ d : Fin (Shape.mk 2 ![512, C]).rank, (![0, 0] : Fin 2 → ℕ) d + (Shape.mk 2 ![256, C]).size d ≤ (Shape.mk 2 ![512, C]).size d)
    (w1 w0 : Vec Ideal ⟨2, ![256, C]⟩ e) (p : Fin 512) (q : Fin C) (x : Elt Ideal e)
    (hL : L = [⟨Rect.unit (s := ⟨2, ![512, C]⟩) ![256, 0] (Shape.mk 2 ![256, C]).size inb1, w1⟩, ⟨Rect.unit (s := ⟨2, ![512, C]⟩) ![0, 0] (Shape.mk 2 ![256, C]).size inb0, w0⟩])
    (h1 : ∀ r : Fin 256, 256 + r.val = p.val → w1 (ix2 r q) = x) (h0 : ∀ r : Fin 256, 0 + r.val = p.val → w0 (ix2 r q) = x) :
    v.read (Elt Ideal) (v.writes (Elt Ideal) f L) (ix2 p q) = x := by
  have hp := p.isLt
  rw [hL, View.read_writes_apply_eq_canon v f (ix2 p q) _ ?_]
  · exact two p q x h1 h0
  · by_cases h : p.val < 256
    · refine ⟨_, List.mem_cons_of_mem _ List.mem_cons_self, (LoadRect.mem_set _).mpr fun d => ?_⟩
      match d with
      | ⟨0, _⟩ => exact ⟨p.val, h, by show p.val = 0 + 1 * p.val; omega⟩
      | ⟨1, _⟩ => exact ⟨q.val, q.isLt, by show q.val = 0 + 1 * q.val; omega⟩
    · refine ⟨_, List.mem_cons_self, (LoadRect.mem_set _).mpr fun d => ?_⟩
      match d with
      | ⟨0, _⟩ => exact ⟨p.val - 256, by show p.val - 256 < 256; omega, by show p.val = 256 + 1 * (p.val - 256); omega⟩
      | ⟨1, _⟩ => exact ⟨q.val, q.isLt, by show q.val = 0 + 1 * q.val; omega⟩

end Cert.Halves

end
-- ==== Proof.FfnIn.lean ====
module

public import proofs.«01_k».proof.Proof.Halves
public import proofs.«01_k».proof.Proof.Gen.Kernel3Ideal.Value
public import Idealize.ShloMosaic.Lib.Pipeline.ValueKit.Basic

@[expose] public section

/-! The feed-forward input product and its activation at `Kernel3Ideal`. Every grid point multiplies 512 rows, in two halves, by a block of 1408
columns of the gate's weight and the same columns of the other half's weight, and stores both products and the activation. -/

noncomputable section

namespace Cert.Kernel3Ideal.Ffn

open Idealize.ShloMosaic Idealize.ShloMosaic.TcCoe Idealize.SL.Sem Cert.Kernel3Ideal.Gen Cert.Kernel3Ideal.Value Idealize.ShloMosaic.Pointwise Cert.Halves

variable (m : (l : Loc nD τ sig) → Buf (Elt Ideal) l) (c : Dev nD)

/-- The rows as launched. -/
abbrev xA : (⟨S16384x1024, .bf16⟩ : BufTy).Contents (Elt Ideal) := m ((c : Thread nD τ).loc main_arg0)

/-- The weight as launched. -/
abbrev wA : (⟨S1024x5632, .bf16⟩ : BufTy).Contents (Elt Ideal) := m ((c : Thread nD τ).loc main_arg1)

/-- A row against a column. -/
def dot (f g : Fin 1024 → EReal) : EReal := ∑ k : Fin 1024, f k * g k

/-- The gated activation. -/
def act (g u : EReal) : EReal := g * Ideal.logistic g * u

/-- The block of rows at a point. -/
theorem idx0 : ∀ t : Fin cfg0.N, win0_0.index t (0 : Fin 2) = t.val % 32 ∧ win0_0.index t (1 : Fin 2) = 0 := (by decide +kernel : ∀ t : Fin grid0.N, _)

/-- The block of the gate's weight at a point. -/
theorem idx1 : ∀ t : Fin cfg0.N, win0_1.index t (0 : Fin 2) = 0 ∧ win0_1.index t (1 : Fin 2) = t.val / 32 := (by decide +kernel : ∀ t : Fin grid0.N, _)

/-- The block of the other half's weight at a point. -/
theorem idx2 : ∀ t : Fin cfg0.N, win0_2.index t (0 : Fin 2) = 0 ∧ win0_2.index t (1 : Fin 2) = t.val / 32 + 2 := (by decide +kernel : ∀ t : Fin grid0.N, _)

/-- An entry of the block of rows. -/
theorem blk0 (t : Fin cfg0.N) (r : Fin 512) (k : Fin 1024) (a : Fin 16384) (ha : 512 * (t.val % 32) + r.val = a.val) : (iblk m c 0 t (ix2 r k) : EReal) = xA m c (ix2 a k) := by
  show V m c main_arg0 (((cfg0.win 0).blk t).view.emb (ix2 r k)) = _
  rw [V_main_arg0]
  obtain ⟨e0, e1⟩ := idx0 t
  refine congrArg (xA m c) (funext fun b => Fin.ext ?_)
  match b with
  | ⟨0, _⟩ => show win0_0.index t (0 : Fin 2) * 512 + 1 * r.val = a.val; omega
  | ⟨1, _⟩ => show win0_0.index t (1 : Fin 2) * 1024 + 1 * k.val = k.val; omega

/-- An entry of the gate's block of the weight. -/
theorem blk1 (t : Fin cfg0.N) (k : Fin 1024) (q : Fin 1408) (b : Fin 5632) (hb : 1408 * (t.val / 32) + q.val + 0 = b.val) : (iblk m c 1 t (ix2 k q) : EReal) = wA m c (ix2 k b) := by
  show V m c main_arg1 (((cfg0.win 1).blk t).view.emb (ix2 k q)) = _
  rw [V_main_arg1]
  obtain ⟨e0, e1⟩ := idx1 t
  refine congrArg (wA m c) (funext fun d => Fin.ext ?_)
  match d with
  | ⟨0, _⟩ => show win0_1.index t (0 : Fin 2) * 1024 + 1 * k.val = k.val; omega
  | ⟨1, _⟩ => show win0_1.index t (1 : Fin 2) * 1408 + 1 * q.val = b.val; omega

/-- An entry of the other half's block of the weight. -/
theorem blk2 (t : Fin cfg0.N) (k : Fin 1024) (q : Fin 1408) (b : Fin 5632) (hb : 1408 * (t.val / 32) + q.val + 2816 = b.val) : (iblk m c 2 t (ix2 k q) : EReal) = wA m c (ix2 k b) := by
  show V m c main_arg1 (((cfg0.win 2).blk t).view.emb (ix2 k q)) = _
  rw [V_main_arg1]
  obtain ⟨e0, e1⟩ := idx2 t
  refine congrArg (wA m c) (funext fun d => Fin.ext ?_)
  match d with
  | ⟨0, _⟩ => show win0_2.index t (0 : Fin 2) * 1024 + 1 * k.val = k.val; omega
  | ⟨1, _⟩ => show win0_2.index t (1 : Fin 2) * 1408 + 1 * q.val = b.val; omega

/-- A half's product with the gate's weight, the first half. -/
theorem pay1 (x : Vec Ideal S256x1024 .bf16) (w : Vec Ideal S1024x1408 .bf16) (r : Fin 256) (q : Fin 1408) :
    (k0_pay1 (F := Ideal) x w (ix2 r q) : EReal) = dot (fun k => x (ix2 r k)) (fun k => w (ix2 k q)) := by
  unfold k0_pay1 dot
  pointwise
  try rfl

/-- A half's product with the other half's weight, the first half. -/
theorem pay2 (x : Vec Ideal S256x1024 .bf16) (w : Vec Ideal S1024x1408 .bf16) (r : Fin 256) (q : Fin 1408) :
    (k0_pay2 (F := Ideal) x w (ix2 r q) : EReal) = dot (fun k => x (ix2 r k)) (fun k => w (ix2 k q)) := by
  unfold k0_pay2 dot
  pointwise
  try rfl

/-- A half's product with the gate's weight, the second half. -/
theorem pay6 (x : Vec Ideal S256x1024 .bf16) (w : Vec Ideal S1024x1408 .bf16) (r : Fin 256) (q : Fin 1408) :
    (k0_pay6 (F := Ideal) x w (ix2 r q) : EReal) = dot (fun k => x (ix2 r k)) (fun k => w (ix2 k q)) := by
  unfold k0_pay6 dot
  pointwise
  try rfl

/-- A half's product with the other half's weight, the second half. -/
theorem pay7 (x : Vec Ideal S256x1024 .bf16) (w : Vec Ideal S1024x1408 .bf16) (r : Fin 256) (q : Fin 1408) :
    (k0_pay7 (F := Ideal) x w (ix2 r q) : EReal) = dot (fun k => x (ix2 r k)) (fun k => w (ix2 k q)) := by
  unfold k0_pay7 dot
  pointwise
  try rfl

/-- The product as it is stored. -/
theorem pay3 (x : Vec Ideal S256x1024 .bf16) (w : Vec Ideal S1024x1408 .bf16) (r : Fin 256) (q : Fin 1408) :
    (k0_pay3 (F := Ideal) x w (ix2 r q) : EReal) = dot (fun k => x (ix2 r k)) (fun k => w (ix2 k q)) := by
  unfold k0_pay3
  pointwise
  exact pay1 x w r q

/-- The product as it is stored. -/
theorem pay4 (x : Vec Ideal S256x1024 .bf16) (w : Vec Ideal S1024x1408 .bf16) (r : Fin 256) (q : Fin 1408) :
    (k0_pay4 (F := Ideal) x w (ix2 r q) : EReal) = dot (fun k => x (ix2 r k)) (fun k => w (ix2 k q)) := by
  unfold k0_pay4
  pointwise
  exact pay2 x w r q

/-- The product as it is stored. -/
theorem pay8 (x : Vec Ideal S256x1024 .bf16) (w : Vec Ideal S1024x1408 .bf16) (r : Fin 256) (q : Fin 1408) :
    (k0_pay8 (F := Ideal) x w (ix2 r q) : EReal) = dot (fun k => x (ix2 r k)) (fun k => w (ix2 k q)) := by
  unfold k0_pay8
  pointwise
  exact pay6 x w r q

/-- The product as it is stored. -/
theorem pay9 (x : Vec Ideal S256x1024 .bf16) (w : Vec Ideal S1024x1408 .bf16) (r : Fin 256) (q : Fin 1408) :
    (k0_pay9 (F := Ideal) x w (ix2 r q) : EReal) = dot (fun k => x (ix2 r k)) (fun k => w (ix2 k q)) := by
  unfold k0_pay9
  pointwise
  exact pay7 x w r q

/-- The activation as it is stored. -/
theorem pay5 (x : Vec Ideal S256x1024 .bf16) (w v : Vec Ideal S1024x1408 .bf16) (r : Fin 256) (q : Fin 1408) :
    (k0_pay5 (F := Ideal) x w v (ix2 r q) : EReal) = act (dot (fun k => x (ix2 r k)) (fun k => w (ix2 k q))) (dot (fun k => x (ix2 r k)) (fun k => v (ix2 k q))) := by
  unfold k0_pay5
  pointwise
  rw [← pay1, ← pay2]
  rfl

/-- The activation as it is stored. -/
theorem pay10 (x : Vec Ideal S256x1024 .bf16) (w v : Vec Ideal S1024x1408 .bf16) (r : Fin 256) (q : Fin 1408) :
    (k0_pay10 (F := Ideal) x w v (ix2 r q) : EReal) = act (dot (fun k => x (ix2 r k)) (fun k => w (ix2 k q))) (dot (fun k => x (ix2 r k)) (fun k => v (ix2 k q))) := by
  unfold k0_pay10
  pointwise
  rw [← pay6, ← pay7]
  rfl

/-- What a point stores, of the gate. -/
theorem out3 (x : Vec Ideal S512x1024 .bf16) (w v : Vec Ideal S1024x1408 .bf16) (p : Fin 512) (q : Fin 1408) (f g u : Fin 1024 → EReal)
    (hf : ∀ k, x (ix2 p k) = f k) (hg : ∀ k, w (ix2 k q) = g k) (_hu : ∀ k, v (ix2 k q) = u k) :
    (out0_3 (F := Ideal) x w v (ix2 p q) : EReal) = dot f g := by
  unfold out0_3
  exact two p q _ (fun r h => (pay8 _ _ r q).trans (congrArg₂ dot (funext fun k => (ld_at p k h (Nat.zero_add _)).trans (hf k)) (funext fun k => (ld_at k q (Nat.zero_add _) (Nat.zero_add _)).trans (hg k))))
    (fun r h => (pay3 _ _ r q).trans (congrArg₂ dot (funext fun k => (ld_at p k h (Nat.zero_add _)).trans (hf k)) (funext fun k => (ld_at k q (Nat.zero_add _) (Nat.zero_add _)).trans (hg k))))

/-- The block of the result at a point. -/
theorem idxo3 : ∀ t : Fin cfg0.N, win0_3.index t (0 : Fin 2) = t.val % 32 ∧ win0_3.index t (1 : Fin 2) = t.val / 32 := (by decide +kernel : ∀ t : Fin grid0.N, _)

/-- Every point writes its block back. -/
theorem flush3 : ∀ t : Fin cfg0.N, (cfg0.win 3).flush t = true := (by decide +kernel : ∀ t : Fin grid0.N, _)

/-- Every entry of the result. -/
theorem arr3 (a : Fin 16384) (b : Fin 2816) (f g u : Fin 1024 → EReal) (hf : ∀ k, xA m c (ix2 a k) = f k)
    (hg : ∀ k, wA m c (ix2 k ⟨b.val, by omega⟩) = g k) (hu : ∀ k, wA m c (ix2 k ⟨b.val + 2816, by omega⟩) = u k) :
    ((dats m 0 c).arrAt 3 cfg0.N (ix2 a b) : EReal) = dot f g := by
  have ha := a.isLt
  have hb := b.isLt
  let t : Fin cfg0.N := ⟨32 * (b.val / 1408) + a.val / 512, lt_of_lt_of_eq (show 32 * (b.val / 1408) + a.val / 512 < 64 by omega) N_0.symm⟩
  have ht : t.val = 32 * (b.val / 1408) + a.val / 512 := rfl
  let p : Fin 512 := ⟨a.val % 512, Nat.mod_lt _ (by decide)⟩
  let q : Fin 1408 := ⟨b.val % 1408, Nat.mod_lt _ (by decide)⟩
  have hp : p.val = a.val % 512 := rfl
  have hq : q.val = b.val % 1408 := rfl
  have h : (dats m 0 c).arrAt 3 cfg0.N (((cfg0.win 3).blk t).view.emb (ix2 p q)) = out0_3 (F := Ideal) (iblk m c 0 t) (iblk m c 1 t) (iblk m c 2 t) (ix2 p q) :=
    (congrFun (blocks3 m c t (flush3 t)) (ix2 p q)).trans (congrFun (flushed3 m c t) (ix2 p q))
  obtain ⟨e0, e1⟩ := idxo3 t
  have hi : ((cfg0.win 3).blk t).view.emb (ix2 p q) = ix2 a b := by
    refine funext fun d => Fin.ext ?_
    match d with
    | ⟨0, _⟩ => show win0_3.index t (0 : Fin 2) * 512 + 1 * p.val = a.val; omega
    | ⟨1, _⟩ => show win0_3.index t (1 : Fin 2) * 1408 + 1 * q.val = b.val; omega
  rw [hi] at h
  refine (show ((dats m 0 c).arrAt 3 cfg0.N (ix2 a b) : EReal) = _ from h).trans (out3 _ _ _ p q f g u (fun k => (blk0 m c t p k a ?_).trans (hf k))
    (fun k => (blk1 m c t k q ⟨b.val, by omega⟩ ?_).trans (hg k)) (fun k => (blk2 m c t k q ⟨b.val + 2816, by omega⟩ ?_).trans (hu k)))
  · omega
  · show _ = b.val; omega
  · show _ = b.val + 2816; omega

/-- What a point stores, of the other half. -/
theorem out4 (x : Vec Ideal S512x1024 .bf16) (w v : Vec Ideal S1024x1408 .bf16) (p : Fin 512) (q : Fin 1408) (f g u : Fin 1024 → EReal)
    (hf : ∀ k, x (ix2 p k) = f k) (_hg : ∀ k, w (ix2 k q) = g k) (hu : ∀ k, v (ix2 k q) = u k) :
    (out0_4 (F := Ideal) x w v (ix2 p q) : EReal) = dot f u := by
  unfold out0_4
  exact two p q _ (fun r h => (pay9 _ _ r q).trans (congrArg₂ dot (funext fun k => (ld_at p k h (Nat.zero_add _)).trans (hf k)) (funext fun k => (ld_at k q (Nat.zero_add _) (Nat.zero_add _)).trans (hu k))))
    (fun r h => (pay4 _ _ r q).trans (congrArg₂ dot (funext fun k => (ld_at p k h (Nat.zero_add _)).trans (hf k)) (funext fun k => (ld_at k q (Nat.zero_add _) (Nat.zero_add _)).trans (hu k))))

/-- The block of the result at a point. -/
theorem idxo4 : ∀ t : Fin cfg0.N, win0_4.index t (0 : Fin 2) = t.val % 32 ∧ win0_4.index t (1 : Fin 2) = t.val / 32 := (by decide +kernel : ∀ t : Fin grid0.N, _)

/-- Every point writes its block back. -/
theorem flush4 : ∀ t : Fin cfg0.N, (cfg0.win 4).flush t = true := (by decide +kernel : ∀ t : Fin grid0.N, _)

/-- Every entry of the result. -/
theorem arr4 (a : Fin 16384) (b : Fin 2816) (f g u : Fin 1024 → EReal) (hf : ∀ k, xA m c (ix2 a k) = f k)
    (hg : ∀ k, wA m c (ix2 k ⟨b.val, by omega⟩) = g k) (hu : ∀ k, wA m c (ix2 k ⟨b.val + 2816, by omega⟩) = u k) :
    ((dats m 0 c).arrAt 4 cfg0.N (ix2 a b) : EReal) = dot f u := by
  have ha := a.isLt
  have hb := b.isLt
  let t : Fin cfg0.N := ⟨32 * (b.val / 1408) + a.val / 512, lt_of_lt_of_eq (show 32 * (b.val / 1408) + a.val / 512 < 64 by omega) N_0.symm⟩
  have ht : t.val = 32 * (b.val / 1408) + a.val / 512 := rfl
  let p : Fin 512 := ⟨a.val % 512, Nat.mod_lt _ (by decide)⟩
  let q : Fin 1408 := ⟨b.val % 1408, Nat.mod_lt _ (by decide)⟩
  have hp : p.val = a.val % 512 := rfl
  have hq : q.val = b.val % 1408 := rfl
  have h : (dats m 0 c).arrAt 4 cfg0.N (((cfg0.win 4).blk t).view.emb (ix2 p q)) = out0_4 (F := Ideal) (iblk m c 0 t) (iblk m c 1 t) (iblk m c 2 t) (ix2 p q) :=
    (congrFun (blocks4 m c t (flush4 t)) (ix2 p q)).trans (congrFun (flushed4 m c t) (ix2 p q))
  obtain ⟨e0, e1⟩ := idxo4 t
  have hi : ((cfg0.win 4).blk t).view.emb (ix2 p q) = ix2 a b := by
    refine funext fun d => Fin.ext ?_
    match d with
    | ⟨0, _⟩ => show win0_4.index t (0 : Fin 2) * 512 + 1 * p.val = a.val; omega
    | ⟨1, _⟩ => show win0_4.index t (1 : Fin 2) * 1408 + 1 * q.val = b.val; omega
  rw [hi] at h
  refine (show ((dats m 0 c).arrAt 4 cfg0.N (ix2 a b) : EReal) = _ from h).trans (out4 _ _ _ p q f g u (fun k => (blk0 m c t p k a ?_).trans (hf k))
    (fun k => (blk1 m c t k q ⟨b.val, by omega⟩ ?_).trans (hg k)) (fun k => (blk2 m c t k q ⟨b.val + 2816, by omega⟩ ?_).trans (hu k)))
  · omega
  · show _ = b.val; omega
  · show _ = b.val + 2816; omega

/-- What a point stores, of the activation. -/
theorem out5 (x : Vec Ideal S512x1024 .bf16) (w v : Vec Ideal S1024x1408 .bf16) (p : Fin 512) (q : Fin 1408) (f g u : Fin 1024 → EReal)
    (hf : ∀ k, x (ix2 p k) = f k) (hg : ∀ k, w (ix2 k q) = g k) (hu : ∀ k, v (ix2 k q) = u k) :
    (out0_5 (F := Ideal) x w v (ix2 p q) : EReal) = act (dot f g) (dot f u) := by
  unfold out0_5
  exact two p q _ (fun r h => (pay10 _ _ _ r q).trans (congrArg₂ act (congrArg₂ dot (funext fun k => (ld_at p k h (Nat.zero_add _)).trans (hf k)) (funext fun k => (ld_at k q (Nat.zero_add _) (Nat.zero_add _)).trans (hg k))) (congrArg₂ dot (funext fun k => (ld_at p k h (Nat.zero_add _)).trans (hf k)) (funext fun k => (ld_at k q (Nat.zero_add _) (Nat.zero_add _)).trans (hu k)))))
    (fun r h => (pay5 _ _ _ r q).trans (congrArg₂ act (congrArg₂ dot (funext fun k => (ld_at p k h (Nat.zero_add _)).trans (hf k)) (funext fun k => (ld_at k q (Nat.zero_add _) (Nat.zero_add _)).trans (hg k))) (congrArg₂ dot (funext fun k => (ld_at p k h (Nat.zero_add _)).trans (hf k)) (funext fun k => (ld_at k q (Nat.zero_add _) (Nat.zero_add _)).trans (hu k)))))

/-- The block of the result at a point. -/
theorem idxo5 : ∀ t : Fin cfg0.N, win0_5.index t (0 : Fin 2) = t.val % 32 ∧ win0_5.index t (1 : Fin 2) = t.val / 32 := (by decide +kernel : ∀ t : Fin grid0.N, _)

/-- Every point writes its block back. -/
theorem flush5 : ∀ t : Fin cfg0.N, (cfg0.win 5).flush t = true := (by decide +kernel : ∀ t : Fin grid0.N, _)

/-- Every entry of the result. -/
theorem arr5 (a : Fin 16384) (b : Fin 2816) (f g u : Fin 1024 → EReal) (hf : ∀ k, xA m c (ix2 a k) = f k)
    (hg : ∀ k, wA m c (ix2 k ⟨b.val, by omega⟩) = g k) (hu : ∀ k, wA m c (ix2 k ⟨b.val + 2816, by omega⟩) = u k) :
    ((dats m 0 c).arrAt 5 cfg0.N (ix2 a b) : EReal) = act (dot f g) (dot f u) := by
  have ha := a.isLt
  have hb := b.isLt
  let t : Fin cfg0.N := ⟨32 * (b.val / 1408) + a.val / 512, lt_of_lt_of_eq (show 32 * (b.val / 1408) + a.val / 512 < 64 by omega) N_0.symm⟩
  have ht : t.val = 32 * (b.val / 1408) + a.val / 512 := rfl
  let p : Fin 512 := ⟨a.val % 512, Nat.mod_lt _ (by decide)⟩
  let q : Fin 1408 := ⟨b.val % 1408, Nat.mod_lt _ (by decide)⟩
  have hp : p.val = a.val % 512 := rfl
  have hq : q.val = b.val % 1408 := rfl
  have h : (dats m 0 c).arrAt 5 cfg0.N (((cfg0.win 5).blk t).view.emb (ix2 p q)) = out0_5 (F := Ideal) (iblk m c 0 t) (iblk m c 1 t) (iblk m c 2 t) (ix2 p q) :=
    (congrFun (blocks5 m c t (flush5 t)) (ix2 p q)).trans (congrFun (flushed5 m c t) (ix2 p q))
  obtain ⟨e0, e1⟩ := idxo5 t
  have hi : ((cfg0.win 5).blk t).view.emb (ix2 p q) = ix2 a b := by
    refine funext fun d => Fin.ext ?_
    match d with
    | ⟨0, _⟩ => show win0_5.index t (0 : Fin 2) * 512 + 1 * p.val = a.val; omega
    | ⟨1, _⟩ => show win0_5.index t (1 : Fin 2) * 1408 + 1 * q.val = b.val; omega
  rw [hi] at h
  refine (show ((dats m 0 c).arrAt 5 cfg0.N (ix2 a b) : EReal) = _ from h).trans (out5 _ _ _ p q f g u (fun k => (blk0 m c t p k a ?_).trans (hf k))
    (fun k => (blk1 m c t k q ⟨b.val, by omega⟩ ?_).trans (hg k)) (fun k => (blk2 m c t k q ⟨b.val + 2816, by omega⟩ ?_).trans (hu k)))
  · omega
  · show _ = b.val; omega
  · show _ = b.val + 2816; omega

end Cert.Kernel3Ideal.Ffn

end
-- ==== Proof.FfnInEq.lean ====
module

public import proofs.«01_k».proof.Defs
public import proofs.«01_k».proof.Proof.FfnIn
public import proofs.«01_k».proof.Proof.Gen.Reference3Ideal.Run
public import proofs.«01_k».proof.Proof.Gen.Reference3Ideal.Read

@[expose] public section

/-! The reference of the feed-forward input product, and that both compute the same. -/

noncomputable section

namespace Cert.Reference3Ideal.Ffn

open Cert.Kernel3Ideal.Ffn (xA wA dot act)
open Idealize.ShloMosaic Idealize.ShloMosaic.TcCoe Idealize.SL.Sem Cert.Reference3Ideal.Gen Cert.Reference3Ideal.Read Idealize.ShloMosaic.Pointwise

/-- The product's columns of the gate. -/
theorem gate (x0 : (⟨S16384x1024, .bf16⟩ : BufTy).Contents (Elt Ideal)) (x1 : (⟨S1024x5632, .bf16⟩ : BufTy).Contents (Elt Ideal)) (p : Fin 16384) (q : Fin 2816) :
    (val_main_v3 (F := Ideal) x0 x1 (ix2 p q) : EReal) = dot (fun k => x0 (ix2 p k)) (fun k => x1 (ix2 k ⟨q.val, by omega⟩)) := by
  unfold val_main_v3 val_main_v2 val_main_v1 val_main_v0 dot
  pointwise

/-- The product's other columns. -/
theorem other (x0 : (⟨S16384x1024, .bf16⟩ : BufTy).Contents (Elt Ideal)) (x1 : (⟨S1024x5632, .bf16⟩ : BufTy).Contents (Elt Ideal)) (p : Fin 16384) (q : Fin 2816) :
    (val_main_v4 (F := Ideal) x0 x1 (ix2 p q) : EReal) = dot (fun k => x0 (ix2 p k)) (fun k => x1 (ix2 k ⟨q.val + 2816, by omega⟩)) := by
  unfold val_main_v4 val_main_v2 val_main_v1 val_main_v0 dot
  pointwise
  exact Finset.sum_congr rfl fun k _ => congrArg (fun b => (x0 (ix2 p k) : EReal) * x1 (ix2 k b)) (Fin.ext (by show 2816 + q.val = q.val + 2816; omega))

/-- The activation. -/
theorem active (x0 : (⟨S16384x1024, .bf16⟩ : BufTy).Contents (Elt Ideal)) (x1 : (⟨S1024x5632, .bf16⟩ : BufTy).Contents (Elt Ideal)) (p : Fin 16384) (q : Fin 2816) :
    (val_main_v9 (F := Ideal) x0 x1 (ix2 p q) : EReal) = act (val_main_v3 (F := Ideal) x0 x1 (ix2 p q)) (val_main_v4 (F := Ideal) x0 x1 (ix2 p q)) := by
  unfold val_main_v9 val_main_v8 val_main_v7 val_main_call0_v5 val_main_call0_v4 val_main_call0_cst_0 val_main_call0_v3 val_main_call0_v2 val_main_call0_cst val_main_call0_v1 val_main_call0_v0 act Ideal.logistic
  pointwise [Idealize.ShloMosaic.Ideal.ofBits_one_f32]

/-- The gate is the kernel's. -/
theorem eq3 (m : (l : Loc Cert.Kernel3Ideal.nD Cert.Kernel3Ideal.τ Cert.Kernel3Ideal.sig) → Buf (Elt Ideal) l) (c : Dev Cert.Kernel3Ideal.nD) {x0 : (⟨S16384x1024, .bf16⟩ : BufTy).Contents (Elt Ideal)} {x1 : (⟨S1024x5632, .bf16⟩ : BufTy).Contents (Elt Ideal)}
    (e0 : x0 = xA m c) (e1 : x1 = wA m c) : val_main_v5 (F := Ideal) x0 x1 = (Cert.Kernel3Ideal.Gen.dats (F := Ideal) m 0 c).arrAt 3 Cert.Kernel3Ideal.cfg0.N := by
  subst e0 e1
  funext i
  refine (congrArg _ (ValueIdx.eq_ix2 i)).trans (Eq.trans ?_ (congrArg _ (ValueIdx.eq_ix2 i).symm))
  show (val_main_v3 (F := Ideal) _ _ (ix2 (i 0) (i 1)) : EReal) = _
  exact (gate _ _ (i 0) (i 1)).trans (Cert.Kernel3Ideal.Ffn.arr3 m c (i 0) (i 1) _ _ _ (fun _ => rfl) (fun _ => rfl) (fun _ => rfl)).symm

/-- The other half is the kernel's. -/
theorem eq4 (m : (l : Loc Cert.Kernel3Ideal.nD Cert.Kernel3Ideal.τ Cert.Kernel3Ideal.sig) → Buf (Elt Ideal) l) (c : Dev Cert.Kernel3Ideal.nD) {x0 : (⟨S16384x1024, .bf16⟩ : BufTy).Contents (Elt Ideal)} {x1 : (⟨S1024x5632, .bf16⟩ : BufTy).Contents (Elt Ideal)}
    (e0 : x0 = xA m c) (e1 : x1 = wA m c) : val_main_v6 (F := Ideal) x0 x1 = (Cert.Kernel3Ideal.Gen.dats (F := Ideal) m 0 c).arrAt 4 Cert.Kernel3Ideal.cfg0.N := by
  subst e0 e1
  funext i
  refine (congrArg _ (ValueIdx.eq_ix2 i)).trans (Eq.trans ?_ (congrArg _ (ValueIdx.eq_ix2 i).symm))
  show (val_main_v4 (F := Ideal) _ _ (ix2 (i 0) (i 1)) : EReal) = _
  exact (other _ _ (i 0) (i 1)).trans (Cert.Kernel3Ideal.Ffn.arr4 m c (i 0) (i 1) _ _ _ (fun _ => rfl) (fun _ => rfl) (fun _ => rfl)).symm

/-- The activation is the kernel's. -/
theorem eq5 (m : (l : Loc Cert.Kernel3Ideal.nD Cert.Kernel3Ideal.τ Cert.Kernel3Ideal.sig) → Buf (Elt Ideal) l) (c : Dev Cert.Kernel3Ideal.nD) {x0 : (⟨S16384x1024, .bf16⟩ : BufTy).Contents (Elt Ideal)} {x1 : (⟨S1024x5632, .bf16⟩ : BufTy).Contents (Elt Ideal)}
    (e0 : x0 = xA m c) (e1 : x1 = wA m c) : val_main_v9 (F := Ideal) x0 x1 = (Cert.Kernel3Ideal.Gen.dats (F := Ideal) m 0 c).arrAt 5 Cert.Kernel3Ideal.cfg0.N := by
  subst e0 e1
  funext i
  refine (congrArg _ (ValueIdx.eq_ix2 i)).trans (Eq.trans ?_ (congrArg _ (ValueIdx.eq_ix2 i).symm))

  exact ((active _ _ (i 0) (i 1)).trans (congrArg₂ act (gate _ _ (i 0) (i 1)) (other _ _ (i 0) (i 1)))).trans (Cert.Kernel3Ideal.Ffn.arr5 m c (i 0) (i 1) _ _ _ (fun _ => rfl) (fun _ => rfl) (fun _ => rfl)).symm

/-- The reference ends with its arguments unchanged and every counter at zero. -/
theorem frame : Cert.quiescent_Reference3Ideal (hReference3Ideal := Cert.Reference3Ideal.Gen.facts) := fun m ρ _ =>
  (θ_run Cert.Reference3Ideal.defs _ _).mono
    (fun r h => ⟨fun c => (h c).2.2.2, Idealize.ShloMosaic.sem_eq_zero_of_no_sems (by decide) r.2⟩) (Cert.Reference3Ideal.Value.run m ρ)

/-- The kernel and the reference compute the same. -/
theorem values : Cert.algebraic_Kernel3Ideal_Reference3Ideal (hKernel3Ideal := Cert.Kernel3Ideal.Gen.facts) (hReference3Ideal := Cert.Reference3Ideal.Gen.facts) := by
  intro m ρ m' ρ' _ hag
  refine ⟨fun c => (Cert.Kernel3Ideal.Gen.dats (F := Ideal) m 0 c).arrAt 3 Cert.Kernel3Ideal.cfg0.N, fun c => (Cert.Kernel3Ideal.Gen.dats (F := Ideal) m 0 c).arrAt 4 Cert.Kernel3Ideal.cfg0.N, fun c => (Cert.Kernel3Ideal.Gen.dats (F := Ideal) m 0 c).arrAt 5 Cert.Kernel3Ideal.cfg0.N, (θ_run _ _ _).mono (fun _ h c => h c) (Cert.Kernel3Ideal.Value.run_blocks (F := Ideal) m ρ),
    (θ_run _ _ _).mono (fun _ h c => ⟨(h c).1.trans ?_, (h c).2.1.trans ?_, (h c).2.2.1.trans ?_, (h c).2.2.2⟩) (Cert.Reference3Ideal.Value.run (F := Ideal) m' ρ')⟩
  · obtain ⟨e0, e1⟩ := hag c
    exact (val_main_v5_eq (F := Ideal) _ _).trans (eq3 m c e0 e1)
  · obtain ⟨e0, e1⟩ := hag c
    exact (val_main_v6_eq (F := Ideal) _ _).trans (eq4 m c e0 e1)
  · obtain ⟨e0, e1⟩ := hag c
    exact (val_main_v9_eq (F := Ideal) _ _).trans (eq5 m c e0 e1)

end Cert.Reference3Ideal.Ffn

end
-- ==== Proof.DwFfnOut.lean ====
module

public import proofs.«01_k».proof.Proof.Sums
public import proofs.«01_k».proof.Proof.Stores
public import proofs.«01_k».proof.Proof.Gen.Kernel4Ideal.Value

@[expose] public section

/-! The weight gradient of the call at `Kernel4Ideal`: its result is the product of the transposed input with the incoming
gradients, each entry a sum over the 16384 rows that the kernel takes 2048 at a time. -/

set_option maxRecDepth 16384

noncomputable section

namespace Cert.Kernel4Ideal.Dw

open Idealize.ShloMosaic Idealize.ShloMosaic.Tactic Idealize.ShloMosaic.TcCoe Cert.Kernel4Ideal.Gen Cert.Kernel4Ideal.Value Idealize.ShloMosaic.Pointwise Cert.Rows Cert.Stores

variable (m : (ℓ : Loc nD τ sig) → Buf (Elt Ideal) ℓ) (c : Dev nD)

/-- The input whose transpose is multiplied. -/
abbrev xA : S16384x2816.Idx → EReal := m ((c : Thread nD τ).loc main_arg0)

/-- Incoming gradient 1 of 1. -/
abbrev y0A : S16384x1024.Idx → EReal := m ((c : Thread nD τ).loc main_arg1)

/-- Row `k`, column `p` of the input. -/
def xv (k : Fin 16384) (p : ℕ) : EReal := xA m c (ix2 k ⟨p % 2816, Nat.mod_lt _ (by decide)⟩)

/-- Row `k`, column `q` of the incoming gradients side by side. -/
def yv (k : Fin 16384) (q : ℕ) : EReal := y0A m c (ix2 k ⟨(q - 0) % 1024, Nat.mod_lt _ (by decide)⟩)

/-- The products that entry `(p, q)` of the weight gradient sums. -/
def term (p q : ℕ) (k : Fin 16384) : EReal := xv m c k p * yv m c k q

/-- The input's block at a point. -/
theorem idx0 : ∀ t : Fin cfg0.N, win0_0.index t (0 : Fin 2) = t.val % 8 ∧ win0_0.index t (1 : Fin 2) = (t.val / 8) := (by decide +kernel : ∀ t : Fin grid0.N, _)

/-- The input's block holds its rows. -/
theorem blk0 (t : Fin cfg0.N) (r : Fin 2048) (p : Fin 1408) : (iblk m c 0 t (ix2 r p) : EReal) = xv m c (row (2048 * (t.val % 8) + r.val)) (1408 * (t.val / 8) + p.val) := by
  have hN := lt_of_lt_of_eq t.isLt (show cfg0.N = 16 from N_0)
  show V m c main_arg0 (((cfg0.win 0).blk t).view.emb (ix2 r p)) = _
  rw [V_main_arg0]
  obtain ⟨e0, e1⟩ := idx0 t
  refine congrArg (xA m c) (funext fun b => Fin.ext ?_)
  have hr := r.isLt
  have hp := p.isLt
  match b with
  | ⟨0, _⟩ => show win0_0.index t (0 : Fin 2) * 2048 + 1 * r.val = (2048 * (t.val % 8) + r.val) % 16384; omega
  | ⟨1, _⟩ => show win0_0.index t (1 : Fin 2) * 1408 + 1 * p.val = (1408 * (t.val / 8) + p.val) % 2816; omega

/-- Gradient 1's block at a point that reads it. -/
theorem idx1 : ∀ t : Fin cfg0.N, win0_1.index t (0 : Fin 2) = t.val % 8 ∧ win0_1.index t (1 : Fin 2) = 0 := (by decide +kernel : ∀ t : Fin grid0.N, _)

/-- Gradient 1's block holds its rows. -/
theorem blk1 (t : Fin cfg0.N) (r : Fin 2048) (q : Fin 1024) : (iblk m c 1 t (ix2 r q) : EReal) = yv m c (row (2048 * (t.val % 8) + r.val)) (1024 * 0 + q.val) := by
  have hN := lt_of_lt_of_eq t.isLt (show cfg0.N = 16 from N_0)
  have hr := r.isLt
  have hq := q.isLt
  show V m c main_arg1 (((cfg0.win 1).blk t).view.emb (ix2 r q)) = _
  rw [V_main_arg1]
  obtain ⟨e0, e1⟩ := idx1 t
  unfold yv
  refine congrArg (y0A m c) (funext fun b => Fin.ext ?_)
  match b with
  | ⟨0, _⟩ => show win0_1.index t (0 : Fin 2) * 2048 + 1 * r.val = (2048 * (t.val % 8) + r.val) % 16384; omega
  | ⟨1, _⟩ => show win0_1.index t (1 : Fin 2) * 1024 + 1 * q.val = (1024 * 0 + q.val - 0) % 1024; omega

/-- One point's product. -/
theorem prod0 (a : Vec Ideal S2048x1408 .bf16) (b : Vec Ideal S2048x1024 .bf16) (p : Fin 1408) (q : Fin 1024) : (k0_pay1 a b (ix2 p q) : EReal) = ∑ r : Fin 2048, a (ix2 r p) * b (ix2 r q) := by
  unfold k0_pay1
  pointwise

/-- What a first point stores. -/
theorem start0 (a : Vec Ideal S2048x1408 .bf16) (b : Vec Ideal S2048x1024 .bf16) (p : Fin 1408) (q : Fin 1024) : (k0_pay2 a b (ix2 p q) : EReal) = ∑ r : Fin 2048, a (ix2 r p) * b (ix2 r q) := by
  unfold k0_pay2
  pointwise
  exact prod0 a b p q

/-- What a later point stores. -/
theorem more0 (a : Vec Ideal S2048x1408 .bf16) (b : Vec Ideal S2048x1024 .bf16) (w : Vec Ideal S1408x1024 .f32) (p : Fin 1408) (q : Fin 1024) :
    (k0_pay3 a b w (ix2 p q) : EReal) = w (ix2 p q) + ∑ r : Fin 2048, a (ix2 r p) * b (ix2 r q) := by
  unfold k0_pay3
  pointwise
  exact congrArg (w (ix2 p q) + ·) (prod0 a b p q)

/-- One point's part of the sum. -/
theorem part0 (n P Q : ℕ) (a : Vec Ideal S2048x1408 .bf16) (b : Vec Ideal S2048x1024 .bf16) (p : Fin 1408) (q : Fin 1024)
    (ha : ∀ r : Fin 2048, (a (ix2 r p) : EReal) = xv m c (row (2048 * n + r.val)) P) (hb : ∀ r : Fin 2048, (b (ix2 r q) : EReal) = yv m c (row (2048 * n + r.val)) Q) :
    ∑ r : Fin 2048, a (ix2 r p) * b (ix2 r q) = ∑ r : Fin 2048, term m c P Q (row (2048 * n + r.val)) :=
  Finset.sum_congr rfl fun r _ => congrArg₂ (fun x y : EReal => x * y) (ha r) (hb r)

/-- The stored result is the kept sum. -/
theorem last (w : Vec Ideal S1408x1024 .f32) (p : Fin 1408) (q : Fin 1024) : (k0_pay4 w (ix2 p q) : EReal) = w (ix2 p q) := by
  unfold k0_pay4
  pointwise

/-- The buffer of the kept sum is whole. -/
theorem wholeS : scM0_0.IsWhole := Memref.isWhole_whole _

/-- The sum kept before a point. -/
abbrev prev (t : Fin cfg0.N) : Vec Ideal S1408x1024 .f32 := (outsAt0 (F := Ideal) m c (t.val - 1) (Nat.lt_of_le_of_lt (Nat.sub_le _ _) t.isLt)).2

/-- A first point of gradient 1 on the run. -/
theorem atA (t : Fin cfg0.N) (h0 : t.val % 8 = 0) (h1 : ¬1 ≤ t.val % 8) (h2 : ¬t.val % 8 = 7) :
    (outsAt0 (F := Ideal) m c t.val t.isLt).2 = k0_pay2 (iblk m c 0 t) (iblk m c 1 t) := by
  rw [outsAt0_A m c t h0 h1 h2]
  dsimp only
  unfold sout0_A_0
  refine kept_of _ _ inb_S1408x1024_S1408x1024_0_0 (k0_pay2 (got (hs0_0 t) inb_S2048x1408_S2048x1408_0_0 (iblk m c 0 t)) (got (hs0_1 t) inb_S2048x1024_S2048x1024_0_0 (iblk m c 1 t))) ?_ ?_
  · sl_kernel_rfl
  · rw [got_eq, got_eq]

/-- A middle point of gradient 1 on the run. -/
theorem atB (t : Fin cfg0.N) (h0 : ¬t.val % 8 = 0) (h1 : 1 ≤ t.val % 8) (h2 : ¬t.val % 8 = 7) :
    (outsAt0 (F := Ideal) m c t.val t.isLt).2 = k0_pay3 (iblk m c 0 t) (iblk m c 1 t) (prev m c t) := by
  rw [outsAt0_B m c t h0 h1 h2]
  dsimp only
  unfold sout0_B_0
  refine kept_of _ _ inb_S1408x1024_S1408x1024_0_0 (k0_pay3 (got (hs0_0 t) inb_S2048x1408_S2048x1408_0_0 (iblk m c 0 t)) (got (hs0_1 t) inb_S2048x1024_S2048x1024_0_0 (iblk m c 1 t)) (got wholeS inb_S1408x1024_S1408x1024_0_0 (prev m c t))) ?_ ?_
  · sl_kernel_rfl
  · rw [got_eq, got_eq, got_eq]

/-- A last point of gradient 1 on the run. -/
theorem atC (t : Fin cfg0.N) (h0 : ¬t.val % 8 = 0) (h1 : 1 ≤ t.val % 8) (h2 : t.val % 8 = 7) :
    (outsAt0 (F := Ideal) m c t.val t.isLt).2 = k0_pay3 (iblk m c 0 t) (iblk m c 1 t) (prev m c t) := by
  rw [outsAt0_C m c t h0 h1 h2]
  dsimp only
  unfold sout0_C_0
  refine kept_of _ _ inb_S1408x1024_S1408x1024_0_0 (k0_pay3 (got (hs0_0 t) inb_S2048x1408_S2048x1408_0_0 (iblk m c 0 t)) (got (hs0_1 t) inb_S2048x1024_S2048x1024_0_0 (iblk m c 1 t)) (got wholeS inb_S1408x1024_S1408x1024_0_0 (prev m c t))) ?_ ?_
  · sl_kernel_rfl
  · rw [got_eq, got_eq, got_eq]

/-- A last point of gradient 1 on the run leaves the kept sum in the result's block. -/
theorem outC (t : Fin cfg0.N) (h0 : ¬t.val % 8 = 0) (h1 : 1 ≤ t.val % 8) (h2 : t.val % 8 = 7) :
    (outsAt0 (F := Ideal) m c t.val t.isLt).1 = k0_pay4 ((outsAt0 (F := Ideal) m c t.val t.isLt).2) := by
  rw [atC m c t h0 h1 h2, outsAt0_C m c t h0 h1 h2]
  dsimp only
  unfold out0_C_2
  refine kept_of _ _ inb_S1408x1024_S1408x1024_0_0 (k0_pay4 (again scM0_0.view inb_S1408x1024_S1408x1024_0_0 (k0_pay3 (got (hs0_0 t) inb_S2048x1408_S2048x1408_0_0 (iblk m c 0 t)) (got (hs0_1 t) inb_S2048x1024_S2048x1024_0_0 (iblk m c 1 t)) (got wholeS inb_S1408x1024_S1408x1024_0_0 (prev m c t))))) ?_ ?_
  · sl_kernel_rfl
  · rw [again_eq, got_eq, got_eq, got_eq]

/-- A first point keeps the sum of its rows. -/
theorem first (t : Fin cfg0.N) (h : t.val % 8 = 0) (p : Fin 1408) (q : Fin 1024) :
    ((outsAt0 (F := Ideal) m c t.val t.isLt).2 (ix2 p q) : EReal) = upTo (term m c (1408 * (t.val / 8) + p.val) (1024 * 0 + q.val)) (t.val % 8 + 1) := by
  have hN := lt_of_lt_of_eq t.isLt (show cfg0.N = 16 from N_0)
  rw [upTo_succ, show upTo (term m c (1408 * (t.val / 8) + p.val) (1024 * 0 + q.val)) (t.val % 8) = 0 by rw [h, upTo_zero], zero_add]
  rw [atA m c t (by omega) (by omega) (by omega)]
  exact (start0 _ _ p q).trans (part0 m c _ _ _ _ _ p q (fun r => blk0 m c t r p) (fun r => blk1 m c t r q))

/-- A later point adds its rows to the kept sum. -/
theorem later (t : Fin cfg0.N) (h : ¬t.val % 8 = 0) (p : Fin 1408) (q : Fin 1024)
    (ih : ((prev m c t) (ix2 p q) : EReal) = upTo (term m c (1408 * ((t.val - 1) / 8) + p.val) (1024 * 0 + q.val)) ((t.val - 1) % 8 + 1)) :
    ((outsAt0 (F := Ideal) m c t.val t.isLt).2 (ix2 p q) : EReal) = upTo (term m c (1408 * (t.val / 8) + p.val) (1024 * 0 + q.val)) (t.val % 8 + 1) := by
  have hN := lt_of_lt_of_eq t.isLt (show cfg0.N = 16 from N_0)
  rw [show (t.val - 1) / 8 = t.val / 8 by omega, show (t.val - 1) % 8 + 1 = t.val % 8 by omega] at ih
  rw [upTo_succ, ← ih]
  by_cases h7 : t.val % 8 = 7
  · rw [atC m c t (by omega) (by omega) (by omega)]
    exact (more0 _ _ _ p q).trans (congrArg (_ + ·) (part0 m c _ _ _ _ _ p q (fun r => blk0 m c t r p) (fun r => blk1 m c t r q)))
  · rw [atB m c t (by omega) (by omega) (by omega)]
    exact (more0 _ _ _ p q).trans (congrArg (_ + ·) (part0 m c _ _ _ _ _ p q (fun r => blk0 m c t r p) (fun r => blk1 m c t r q)))

/-- Every point keeps the sum of the rows up to its own. -/
theorem kept : ∀ (n : ℕ) (hn : n < cfg0.N) (p : Fin 1408) (q : Fin 1024), ((outsAt0 (F := Ideal) m c n hn).2 (ix2 p q) : EReal) = upTo (term m c (1408 * (n / 8) + p.val) (1024 * 0 + q.val)) (n % 8 + 1)
  | 0, hn, p, q => first m c ⟨0, hn⟩ rfl p q
  | n + 1, hn, p, q => by
    by_cases h : (n + 1) % 8 = 0
    · exact first m c ⟨n + 1, hn⟩ h p q
    · exact later m c ⟨n + 1, hn⟩ h p q (kept n (Nat.lt_of_succ_lt hn) p q)

/-- A last point leaves the whole sum. -/
theorem done (t : Fin cfg0.N) (h : t.val % 8 = 7) (p : Fin 1408) (q : Fin 1024) :
    ((outsAt0 (F := Ideal) m c t.val t.isLt).1 (ix2 p q) : EReal) = ∑ k : Fin 16384, term m c (1408 * (t.val / 8) + p.val) (1024 * 0 + q.val) k := by
  have hN := lt_of_lt_of_eq t.isLt (show cfg0.N = 16 from N_0)
  rw [← upTo_all]
  have e := kept m c t.val t.isLt p q
  rw [h] at e
  rw [outC m c t (by omega) (by omega) (by omega)]
  exact (last _ p q).trans e

/-- What the kernel leaves in its result. -/
theorem G_eq : G2 (F := Ideal) m c = fun i => ∑ k : Fin 16384, term m c (i 0).val (i 1).val k := by
  funext i
  have h0 : (i 0).val < 2816 := (i 0).isLt
  have h1 : (i 1).val < 1024 := (i 1).isLt
  have hp : pt2Of i = 8 * ((i 0).val / 1408) + 7 := by
    show 8 * (1 * ((i 0).val / 1408 - 0) + 1 * ((i 1).val / 1024 - 0)) + 7 = _
    omega
  have hN : pt2Of i < cfg0.N := lt_of_lt_of_eq (by rw [hp]; omega) (show 16 = cfg0.N from N_0.symm)
  have hl : loc2Of i = ix2 ⟨(i 0).val % 1408, Nat.mod_lt _ (by decide)⟩ ⟨(i 1).val % 1024, Nat.mod_lt _ (by decide)⟩ := ValueIdx.eq_ix2 _
  unfold G2
  rw [dif_pos hN, ← outsAt0_sweep m c (pt2Of i) hN, hl]
  refine (done m c ⟨pt2Of i, hN⟩ (by show pt2Of i % 8 = 7; rw [hp]; omega) _ _).trans (Finset.sum_congr rfl fun k _ => ?_)
  have e0 : 1408 * ((pt2Of i) / 8) + (i 0).val % 1408 = (i 0).val := by rw [hp]; omega
  have e1 : 1024 * 0 + (i 1).val % 1024 = (i 1).val := by omega
  exact congrArg₂ (fun a b => term m c a b k) e0 e1

end Cert.Kernel4Ideal.Dw

end
-- ==== Proof.DwFfnOutEq.lean ====
module

public import proofs.«01_k».proof.Defs
public import proofs.«01_k».proof.Proof.DwFfnOut
public import proofs.«01_k».proof.Proof.Gen.Reference4Ideal.Run
public import proofs.«01_k».proof.Proof.Gen.Reference4Ideal.Read

@[expose] public section

/-! The reference of the weight gradient at `Kernel4Ideal`, and that both compute the same. -/

noncomputable section

namespace Cert.Reference4Ideal.Dw

open Idealize.ShloMosaic Idealize.ShloMosaic.TcCoe Idealize.SL.Sem Cert.Reference4Ideal.Gen Cert.Reference4Ideal.Read Idealize.ShloMosaic.Pointwise

/-- Row `k`, column `q` of the incoming gradients side by side. -/
def side (x1 : (⟨S16384x1024, .bf16⟩ : BufTy).Contents (Elt Ideal)) (k : Fin 16384) (q : ℕ) : EReal := x1 (ix2 k ⟨(q - 0) % 1024, Nat.mod_lt _ (by decide)⟩)

/-- It depends on the gradients alone. -/
theorem side_congr {x1 z1 : (⟨S16384x1024, .bf16⟩ : BufTy).Contents (Elt Ideal)} (h1 : x1 = z1) (k : Fin 16384) (q : ℕ) :
    side x1 k q = side z1 k q := by
  subst h1
  rfl

/-- The reference's entries. -/
theorem entry (x0 : (⟨S16384x2816, .bf16⟩ : BufTy).Contents (Elt Ideal)) (x1 : (⟨S16384x1024, .bf16⟩ : BufTy).Contents (Elt Ideal)) (p : Fin 2816) (q : Fin 1024) :
    (val_main_v4 (F := Ideal) x0 x1 (ix2 p q) : EReal) = ∑ k : Fin 16384, side x1 k q.val * x0 (ix2 k p) := by
  have hq := q.isLt
  unfold val_main_v4 val_main_v3 val_main_v2 val_main_v1 val_main_v0
  pointwise
  exact Finset.sum_congr rfl fun k _ => congrArg (fun b : Fin 1024 => (x1 (ix2 k b) : EReal) * x0 (ix2 k p)) (Fin.ext (by show q.val = (q.val - 0) % 1024; omega))

/-- The reference ends with its arguments unchanged and every counter at zero. -/
theorem frame : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩) (Cert.Reference4Ideal.Value.run m ρ)

/-- The kernel and the reference compute the same weight gradient. -/
theorem values : Cert.algebraic_Kernel4Ideal_Reference4Ideal (hKernel4Ideal := Cert.Kernel4Ideal.Gen.facts) (hReference4Ideal := Cert.Reference4Ideal.Gen.facts) := by
  intro m ρ m' ρ' _ hag
  refine ⟨fun c => Cert.Kernel4Ideal.Value.G2 (F := Ideal) m c, (θ_run _ _ _).mono (fun _ h c => h c) (Cert.Kernel4Ideal.Value.run (F := Ideal) m ρ),
    (θ_run _ _ _).mono (fun _ h c => ⟨(h c).1.trans ?_, (h c).2⟩) (Cert.Reference4Ideal.Value.run (F := Ideal) m' ρ')⟩
  obtain ⟨e0, e1⟩ := hag c
  refine (val_main_v4_eq (F := Ideal) _ _).trans ?_
  refine Eq.trans ?_ (Cert.Kernel4Ideal.Dw.G_eq m c).symm
  funext i
  have h0 : (i 0).val < 2816 := (i 0).isLt
  refine (congrArg _ (ValueIdx.eq_ix2 i)).trans ((entry _ _ (i 0) (i 1)).trans (Finset.sum_congr rfl fun k _ => (mul_comm _ _).trans ?_))
  refine congrArg₂ (fun a b : EReal => a * b) ((congrFun e0 _).trans ?_) (side_congr e1 k (i 1).val)
  exact congrArg (fun b => Cert.Kernel4Ideal.Dw.xA m c (ix2 k b)) (Fin.ext (Nat.mod_eq_of_lt h0).symm)

end Cert.Reference4Ideal.Dw

end
-- ==== Proof.HgrnIn.lean ====
module

public import proofs.«01_k».proof.Proof.Gen.Kernel5Ideal.Value
public import Idealize.ShloMosaic.Lib.Pointwise
public import Idealize.ShloMosaic.Lib.Pipeline.ValueKit.Basic

@[expose] public section

/-! The product at `Kernel5Ideal`: a gated layer's mixing input. Every grid point multiplies 1024 rows by 1024 columns and stores their product whole. -/

noncomputable section

namespace Cert.Kernel5Ideal.Mm

open Idealize.ShloMosaic Idealize.ShloMosaic.TcCoe Idealize.SL.Sem Cert.Kernel5Ideal.Gen Cert.Kernel5Ideal.Value Idealize.ShloMosaic.Pointwise

variable (m : (l : Loc nD τ sig) → Buf (Elt Ideal) l) (c : Dev nD)

/-- The rows as launched. -/
abbrev xA : (⟨S16384x1024, .bf16⟩ : BufTy).Contents (Elt Ideal) := m ((c : Thread nD τ).loc main_arg0)

/-- The weight as launched. -/
abbrev wA : (⟨S1024x5120, .bf16⟩ : BufTy).Contents (Elt Ideal) := m ((c : Thread nD τ).loc main_arg1)

/-- The block of rows at a point. -/
theorem idx0 : ∀ t : Fin cfg0.N, win0_0.index t (0 : Fin 2) = t.val / 5 ∧ win0_0.index t (1 : Fin 2) = 0 := (by decide +kernel : ∀ t : Fin grid0.N, _)

/-- The block of the weight at a point. -/
theorem idx1 : ∀ t : Fin cfg0.N, win0_1.index t (0 : Fin 2) = 0 ∧ win0_1.index t (1 : Fin 2) = t.val % 5 := (by decide +kernel : ∀ t : Fin grid0.N, _)

/-- The block of the result at a point. -/
theorem idx2 : ∀ t : Fin cfg0.N, win0_2.index t (0 : Fin 2) = t.val / 5 ∧ win0_2.index t (1 : Fin 2) = t.val % 5 := (by decide +kernel : ∀ t : Fin grid0.N, _)

/-- Every point writes its block back. -/
theorem flush2 : ∀ t : Fin cfg0.N, (cfg0.win 2).flush t = true := (by decide +kernel : ∀ t : Fin grid0.N, _)

/-- An entry of the block of rows. -/
theorem blk0 (t : Fin cfg0.N) (r : Fin 1024) (k : Fin 1024) (a : Fin 16384) (ha : 1024 * (t.val / 5) + r.val = a.val) : (iblk m c 0 t (ix2 r k) : EReal) = xA m c (ix2 a k) := by
  show V m c main_arg0 (((cfg0.win 0).blk t).view.emb (ix2 r k)) = _
  rw [V_main_arg0]
  obtain ⟨e0, e1⟩ := idx0 t
  refine congrArg (xA m c) (funext fun b => Fin.ext ?_)
  match b with
  | ⟨0, _⟩ => show win0_0.index t (0 : Fin 2) * 1024 + 1 * r.val = a.val; omega
  | ⟨1, _⟩ => show win0_0.index t (1 : Fin 2) * 1024 + 1 * k.val = k.val; omega

/-- An entry of the weight's block. -/
theorem blk1 (t : Fin cfg0.N) (k : Fin 1024) (q : Fin 1024) (b : Fin 5120) (hb : 1024 * (t.val % 5) + q.val = b.val) : (iblk m c 1 t (ix2 k q) : EReal) = wA m c (ix2 k b) := by
  show V m c main_arg1 (((cfg0.win 1).blk t).view.emb (ix2 k q)) = _
  rw [V_main_arg1]
  obtain ⟨e0, e1⟩ := idx1 t
  refine congrArg (wA m c) (funext fun d => Fin.ext ?_)
  match d with
  | ⟨0, _⟩ => show win0_1.index t (0 : Fin 2) * 1024 + 1 * k.val = k.val; omega
  | ⟨1, _⟩ => show win0_1.index t (1 : Fin 2) * 1024 + 1 * q.val = b.val; omega

/-- A point's product. -/
theorem prod (x : Vec Ideal S1024x1024 .bf16) (w : Vec Ideal S1024x1024 .bf16) (p : Fin 1024) (q : Fin 1024) :
    (out0_2 (F := Ideal) x w (ix2 p q) : EReal) = ∑ k : Fin 1024, x (ix2 p k) * w (ix2 k q) := by
  have h : out0_2 (F := Ideal) x w = k0_pay1 (F := Ideal) x w := by
    unfold out0_2
    rw [View.canon_cons_unit_lit _ _ _ (by decide), View.ld_unit_lit _ _ (by decide), View.ld_unit_lit _ _ (by decide)]
  rw [h]
  unfold k0_pay1
  pointwise
  try rfl

/-- A point's product, its factors named. -/
theorem prod_of (x : Vec Ideal S1024x1024 .bf16) (w : Vec Ideal S1024x1024 .bf16) (p : Fin 1024) (q : Fin 1024) (f g : Fin 1024 → EReal)
    (hf : ∀ k, x (ix2 p k) = f k) (hg : ∀ k, w (ix2 k q) = g k) : (out0_2 (F := Ideal) x w (ix2 p q) : EReal) = ∑ k : Fin 1024, f k * g k :=
  (prod x w p q).trans (Finset.sum_congr rfl fun k _ => congrArg₂ (fun a b : EReal => a * b) (hf k) (hg k))

/-- Every entry of the result is its row of the left factor against its column of the weight. -/
theorem arr_eq (a : Fin 16384) (b : Fin 5120) : ((dats m 0 c).arrAt 2 cfg0.N (ix2 a b) : EReal) = ∑ k : Fin 1024, xA m c (ix2 a k) * wA m c (ix2 k b) := by
  have ha := a.isLt
  have hb := b.isLt
  let t : Fin cfg0.N := ⟨5 * (a.val / 1024) + b.val / 1024, lt_of_lt_of_eq (show 5 * (a.val / 1024) + b.val / 1024 < 80 by omega) N_0.symm⟩
  have ht : t.val = 5 * (a.val / 1024) + b.val / 1024 := rfl
  let p : Fin 1024 := ⟨a.val % 1024, Nat.mod_lt _ (by decide)⟩
  let q : Fin 1024 := ⟨b.val % 1024, Nat.mod_lt _ (by decide)⟩
  have hp : p.val = a.val % 1024 := rfl
  have hq : q.val = b.val % 1024 := rfl
  have h : (dats m 0 c).arrAt 2 cfg0.N (((cfg0.win 2).blk t).view.emb (ix2 p q)) = out0_2 (F := Ideal) (iblk m c 0 t) (iblk m c 1 t) (ix2 p q) :=
    (congrFun (blocks2 m c t (flush2 t)) (ix2 p q)).trans (congrFun (flushed2 m c t) (ix2 p q))
  obtain ⟨e0, e1⟩ := idx2 t
  have hi : ((cfg0.win 2).blk t).view.emb (ix2 p q) = ix2 a b := by
    refine funext fun d => Fin.ext ?_
    match d with
    | ⟨0, _⟩ => show win0_2.index t (0 : Fin 2) * 1024 + 1 * p.val = a.val; omega
    | ⟨1, _⟩ => show win0_2.index t (1 : Fin 2) * 1024 + 1 * q.val = b.val; omega
  rw [hi] at h
  refine (show ((dats m 0 c).arrAt 2 cfg0.N (ix2 a b) : EReal) = _ from h).trans (prod_of _ _ p q _ _ (fun k => blk0 m c t p k a ?_) (fun k => blk1 m c t k q b ?_)) <;> omega

end Cert.Kernel5Ideal.Mm

end
-- ==== Proof.HgrnInEq.lean ====
module

public import proofs.«01_k».proof.Defs
public import proofs.«01_k».proof.Proof.HgrnIn
public import proofs.«01_k».proof.Proof.Gen.Reference5Ideal.Run
public import proofs.«01_k».proof.Proof.Gen.Reference5Ideal.Read

@[expose] public section

/-! The reference of the product at `Kernel5Ideal`, and that both compute the same. -/

noncomputable section

namespace Cert.Reference5Ideal.Mm

open Idealize.ShloMosaic Idealize.ShloMosaic.TcCoe Idealize.SL.Sem Cert.Reference5Ideal.Gen Cert.Reference5Ideal.Read Idealize.ShloMosaic.Pointwise

/-- The reference's entries. -/
theorem entry (x0 : (⟨S16384x1024, .bf16⟩ : BufTy).Contents (Elt Ideal)) (x1 : (⟨S1024x5120, .bf16⟩ : BufTy).Contents (Elt Ideal)) (p : Fin 16384) (q : Fin 5120) :
    (val_main_v2 (F := Ideal) x0 x1 (ix2 p q) : EReal) = ∑ k : Fin 1024, x0 (ix2 p k) * x1 (ix2 k q) := by
  unfold val_main_v2 val_main_v1 val_main_v0
  pointwise
  try rfl

/-- The reference ends with its arguments unchanged and every counter at zero. -/
theorem frame : Cert.quiescent_Reference5Ideal (hReference5Ideal := Cert.Reference5Ideal.Gen.facts) := fun m ρ _ =>
  (θ_run Cert.Reference5Ideal.defs _ _).mono
    (fun r h => ⟨fun c => (h c).2, Idealize.ShloMosaic.sem_eq_zero_of_no_sems (by decide) r.2⟩) (Cert.Reference5Ideal.Value.run m ρ)

/-- The kernel and the reference compute the same product. -/
theorem values : Cert.algebraic_Kernel5Ideal_Reference5Ideal (hKernel5Ideal := Cert.Kernel5Ideal.Gen.facts) (hReference5Ideal := Cert.Reference5Ideal.Gen.facts) := by
  intro m ρ m' ρ' _ hag
  refine ⟨fun c => (Cert.Kernel5Ideal.Gen.dats (F := Ideal) m 0 c).arrAt 2 Cert.Kernel5Ideal.cfg0.N, (θ_run _ _ _).mono (fun _ h c => h c) (Cert.Kernel5Ideal.Value.run_blocks (F := Ideal) m ρ),
    (θ_run _ _ _).mono (fun _ h c => ⟨(h c).1.trans ?_, (h c).2⟩) (Cert.Reference5Ideal.Value.run (F := Ideal) m' ρ')⟩
  obtain ⟨e0, e1⟩ := hag c
  refine (val_main_v2_eq (F := Ideal) _ _).trans ?_
  funext i
  refine (congrArg _ (ValueIdx.eq_ix2 i)).trans (Eq.trans ?_ (congrArg _ (ValueIdx.eq_ix2 i).symm))
  refine (entry _ _ (i 0) (i 1)).trans (Eq.trans ?_ (Cert.Kernel5Ideal.Mm.arr_eq m c (i 0) (i 1)).symm)
  exact Finset.sum_congr rfl fun k _ => congrArg₂ (fun a b : EReal => a * b) (congrFun e0 _) (congrFun e1 _)

end Cert.Reference5Ideal.Mm

end
-- ==== Proof.MixInBwd.lean ====
module

public import proofs.«01_k».proof.Proof.Halves
public import proofs.«01_k».proof.Proof.Gen.Kernel6Ideal.Value
public import Idealize.ShloMosaic.Lib.Pipeline.ValueKit.Basic

@[expose] public section

/-! The mixer input gradient at `Kernel6Ideal`. Every grid point takes 512 rows, in two halves: the scaled incoming gradient of the sum plus the product of each piece of the
other incoming gradient with its columns of the weight. -/

noncomputable section

namespace Cert.Kernel6Ideal.Mx

open Idealize.ShloMosaic Idealize.ShloMosaic.TcCoe Idealize.SL.Sem Cert.Kernel6Ideal.Gen Cert.Kernel6Ideal.Value Idealize.ShloMosaic.Pointwise Cert.Halves

variable (m : (l : Loc nD τ sig) → Buf (Elt Ideal) l) (c : Dev nD)

/-- The gradient's piece 0 as launched. -/
abbrev x0 : (⟨S16384x1024, .bf16⟩ : BufTy).Contents (Elt Ideal) := m ((c : Thread nD τ).loc main_arg0)

/-- The gradient's piece 1 as launched. -/
abbrev x1 : (⟨S16384x1024, .bf16⟩ : BufTy).Contents (Elt Ideal) := m ((c : Thread nD τ).loc main_arg1)

/-- The gradient's piece 2 as launched. -/
abbrev x2 : (⟨S16384x1024, .bf16⟩ : BufTy).Contents (Elt Ideal) := m ((c : Thread nD τ).loc main_arg2)

/-- The gradient's piece 3 as launched. -/
abbrev x3 : (⟨S16384x1024, .bf16⟩ : BufTy).Contents (Elt Ideal) := m ((c : Thread nD τ).loc main_arg3)

/-- The gradient's piece 4 as launched. -/
abbrev x4 : (⟨S16384x1024, .bf16⟩ : BufTy).Contents (Elt Ideal) := m ((c : Thread nD τ).loc main_arg4)

/-- The weight as launched. -/
abbrev wA : (⟨S1024x5120, .bf16⟩ : BufTy).Contents (Elt Ideal) := m ((c : Thread nD τ).loc main_arg5)

/-- The gradient of the sum as launched. -/
abbrev dA : (⟨S16384x1024, .f32⟩ : BufTy).Contents (Elt Ideal) := m ((c : Thread nD τ).loc main_arg6)

/-- The scale of the sum's gradient. -/
abbrev sc : EReal := Ideal.ofBits .f32 0x3FD744FD#32

/-- A row against a row. -/
def dot {n : ℕ} (f g : Fin n → EReal) : EReal := ∑ k : Fin n, f k * g k

/-- The rows of argument 0 at a point. -/
theorem idx0 : ∀ t : Fin cfg0.N, win0_0.index t (0 : Fin 2) = t.val ∧ win0_0.index t (1 : Fin 2) = 0 := (by decide +kernel : ∀ t : Fin grid0.N, _)

/-- An entry of the block of rows of argument 0. -/
theorem blk0 (t : Fin cfg0.N) (r : Fin 512) (k : Fin 1024) (a : Fin 16384) (ha : 512 * t.val + r.val = a.val) : (iblk m c 0 t (ix2 r k) : EReal) = x0 m c (ix2 a k) := by
  show V m c main_arg0 (((cfg0.win 0).blk t).view.emb (ix2 r k)) = _
  rw [V_main_arg0]
  obtain ⟨e0, e1⟩ := idx0 t
  refine congrArg (x0 m c) (funext fun b => Fin.ext ?_)
  match b with
  | ⟨0, _⟩ => show win0_0.index t (0 : Fin 2) * 512 + 1 * r.val = a.val; omega
  | ⟨1, _⟩ => show win0_0.index t (1 : Fin 2) * 1024 + 1 * k.val = k.val; omega

/-- The rows of argument 1 at a point. -/
theorem idx1 : ∀ t : Fin cfg0.N, win0_1.index t (0 : Fin 2) = t.val ∧ win0_1.index t (1 : Fin 2) = 0 := (by decide +kernel : ∀ t : Fin grid0.N, _)

/-- An entry of the block of rows of argument 1. -/
theorem blk1 (t : Fin cfg0.N) (r : Fin 512) (k : Fin 1024) (a : Fin 16384) (ha : 512 * t.val + r.val = a.val) : (iblk m c 1 t (ix2 r k) : EReal) = x1 m c (ix2 a k) := by
  show V m c main_arg1 (((cfg0.win 1).blk t).view.emb (ix2 r k)) = _
  rw [V_main_arg1]
  obtain ⟨e0, e1⟩ := idx1 t
  refine congrArg (x1 m c) (funext fun b => Fin.ext ?_)
  match b with
  | ⟨0, _⟩ => show win0_1.index t (0 : Fin 2) * 512 + 1 * r.val = a.val; omega
  | ⟨1, _⟩ => show win0_1.index t (1 : Fin 2) * 1024 + 1 * k.val = k.val; omega

/-- The rows of argument 2 at a point. -/
theorem idx2 : ∀ t : Fin cfg0.N, win0_2.index t (0 : Fin 2) = t.val ∧ win0_2.index t (1 : Fin 2) = 0 := (by decide +kernel : ∀ t : Fin grid0.N, _)

/-- An entry of the block of rows of argument 2. -/
theorem blk2 (t : Fin cfg0.N) (r : Fin 512) (k : Fin 1024) (a : Fin 16384) (ha : 512 * t.val + r.val = a.val) : (iblk m c 2 t (ix2 r k) : EReal) = x2 m c (ix2 a k) := by
  show V m c main_arg2 (((cfg0.win 2).blk t).view.emb (ix2 r k)) = _
  rw [V_main_arg2]
  obtain ⟨e0, e1⟩ := idx2 t
  refine congrArg (x2 m c) (funext fun b => Fin.ext ?_)
  match b with
  | ⟨0, _⟩ => show win0_2.index t (0 : Fin 2) * 512 + 1 * r.val = a.val; omega
  | ⟨1, _⟩ => show win0_2.index t (1 : Fin 2) * 1024 + 1 * k.val = k.val; omega

/-- The rows of argument 3 at a point. -/
theorem idx3 : ∀ t : Fin cfg0.N, win0_3.index t (0 : Fin 2) = t.val ∧ win0_3.index t (1 : Fin 2) = 0 := (by decide +kernel : ∀ t : Fin grid0.N, _)

/-- An entry of the block of rows of argument 3. -/
theorem blk3 (t : Fin cfg0.N) (r : Fin 512) (k : Fin 1024) (a : Fin 16384) (ha : 512 * t.val + r.val = a.val) : (iblk m c 3 t (ix2 r k) : EReal) = x3 m c (ix2 a k) := by
  show V m c main_arg3 (((cfg0.win 3).blk t).view.emb (ix2 r k)) = _
  rw [V_main_arg3]
  obtain ⟨e0, e1⟩ := idx3 t
  refine congrArg (x3 m c) (funext fun b => Fin.ext ?_)
  match b with
  | ⟨0, _⟩ => show win0_3.index t (0 : Fin 2) * 512 + 1 * r.val = a.val; omega
  | ⟨1, _⟩ => show win0_3.index t (1 : Fin 2) * 1024 + 1 * k.val = k.val; omega

/-- The rows of argument 4 at a point. -/
theorem idx4 : ∀ t : Fin cfg0.N, win0_4.index t (0 : Fin 2) = t.val ∧ win0_4.index t (1 : Fin 2) = 0 := (by decide +kernel : ∀ t : Fin grid0.N, _)

/-- An entry of the block of rows of argument 4. -/
theorem blk4 (t : Fin cfg0.N) (r : Fin 512) (k : Fin 1024) (a : Fin 16384) (ha : 512 * t.val + r.val = a.val) : (iblk m c 4 t (ix2 r k) : EReal) = x4 m c (ix2 a k) := by
  show V m c main_arg4 (((cfg0.win 4).blk t).view.emb (ix2 r k)) = _
  rw [V_main_arg4]
  obtain ⟨e0, e1⟩ := idx4 t
  refine congrArg (x4 m c) (funext fun b => Fin.ext ?_)
  match b with
  | ⟨0, _⟩ => show win0_4.index t (0 : Fin 2) * 512 + 1 * r.val = a.val; omega
  | ⟨1, _⟩ => show win0_4.index t (1 : Fin 2) * 1024 + 1 * k.val = k.val; omega

/-- The rows of argument 6 at a point. -/
theorem idx6 : ∀ t : Fin cfg0.N, win0_6.index t (0 : Fin 2) = t.val ∧ win0_6.index t (1 : Fin 2) = 0 := (by decide +kernel : ∀ t : Fin grid0.N, _)

/-- An entry of the block of rows of argument 6. -/
theorem blk6 (t : Fin cfg0.N) (r : Fin 512) (k : Fin 1024) (a : Fin 16384) (ha : 512 * t.val + r.val = a.val) : (iblk m c 6 t (ix2 r k) : EReal) = dA m c (ix2 a k) := by
  show V m c main_arg6 (((cfg0.win 6).blk t).view.emb (ix2 r k)) = _
  rw [V_main_arg6]
  obtain ⟨e0, e1⟩ := idx6 t
  refine congrArg (dA m c) (funext fun b => Fin.ext ?_)
  match b with
  | ⟨0, _⟩ => show win0_6.index t (0 : Fin 2) * 512 + 1 * r.val = a.val; omega
  | ⟨1, _⟩ => show win0_6.index t (1 : Fin 2) * 1024 + 1 * k.val = k.val; omega

/-- The weight's block at a point. -/
theorem idx5 : ∀ t : Fin cfg0.N, win0_5.index t (0 : Fin 2) = 0 ∧ win0_5.index t (1 : Fin 2) = 0 := (by decide +kernel : ∀ t : Fin grid0.N, _)

/-- Every point holds the whole weight. -/
theorem blk5 (t : Fin cfg0.N) (q : Fin 1024) (k : Fin 5120) : (iblk m c 5 t (ix2 q k) : EReal) = wA m c (ix2 q k) := by
  show V m c main_arg5 (((cfg0.win 5).blk t).view.emb (ix2 q k)) = _
  rw [V_main_arg5]
  obtain ⟨e0, e1⟩ := idx5 t
  refine congrArg (wA m c) (funext fun b => Fin.ext ?_)
  match b with
  | ⟨0, _⟩ => show win0_5.index t (0 : Fin 2) * 1024 + 1 * q.val = q.val; omega
  | ⟨1, _⟩ => show win0_5.index t (1 : Fin 2) * 5120 + 1 * k.val = k.val; omega

/-- A result's entry: the scaled gradient of the sum, and the pieces' products added one after another. -/
def tot (d : EReal) (f0 g0 : Fin 1024 → EReal) (f1 g1 : Fin 1024 → EReal) (f2 g2 : Fin 1024 → EReal) (f3 g3 : Fin 1024 → EReal) (f4 g4 : Fin 1024 → EReal) : EReal := sc * d + dot f0 g0 + dot f1 g1 + dot f2 g2 + dot f3 g3 + dot f4 g4

/-- What is stored of the second half. -/
theorem pay1 (d : Vec Ideal S256x1024 .f32) (y0 : Vec Ideal S256x1024 .bf16) (w0 : Vec Ideal S1024x1024 .bf16) (y1 : Vec Ideal S256x1024 .bf16) (w1 : Vec Ideal S1024x1024 .bf16) (y2 : Vec Ideal S256x1024 .bf16) (w2 : Vec Ideal S1024x1024 .bf16) (y3 : Vec Ideal S256x1024 .bf16) (w3 : Vec Ideal S1024x1024 .bf16) (y4 : Vec Ideal S256x1024 .bf16) (w4 : Vec Ideal S1024x1024 .bf16) (r : Fin 256) (q : Fin 1024) :
    (k0_pay1 (F := Ideal) d (Scalar.ofBits .f32 0x3FD744FD#32) y0 w0 y1 w1 y2 w2 y3 w3 y4 w4 (ix2 r q) : EReal) = tot (d (ix2 r q)) (fun k => y0 (ix2 r k)) (fun k => w0 (ix2 q k)) (fun k => y1 (ix2 r k)) (fun k => w1 (ix2 q k)) (fun k => y2 (ix2 r k)) (fun k => w2 (ix2 q k)) (fun k => y3 (ix2 r k)) (fun k => w3 (ix2 q k)) (fun k => y4 (ix2 r k)) (fun k => w4 (ix2 q k)) := by
  unfold k0_pay1 tot dot
  pointwise
  try rfl

/-- The same from values read before. -/
theorem pay1_at (d : Vec Ideal S256x1024 .f32) (y0 : Vec Ideal S256x1024 .bf16) (w0 : Vec Ideal S1024x1024 .bf16) (y1 : Vec Ideal S256x1024 .bf16) (w1 : Vec Ideal S1024x1024 .bf16) (y2 : Vec Ideal S256x1024 .bf16) (w2 : Vec Ideal S1024x1024 .bf16) (y3 : Vec Ideal S256x1024 .bf16) (w3 : Vec Ideal S1024x1024 .bf16) (y4 : Vec Ideal S256x1024 .bf16) (w4 : Vec Ideal S1024x1024 .bf16) (r : Fin 256) (q : Fin 1024) (v : EReal) (f0 g0 : Fin 1024 → EReal) (f1 g1 : Fin 1024 → EReal) (f2 g2 : Fin 1024 → EReal) (f3 g3 : Fin 1024 → EReal) (f4 g4 : Fin 1024 → EReal)
    (hd : d (ix2 r q) = v) (hf0 : ∀ k, y0 (ix2 r k) = f0 k) (hg0 : ∀ k, w0 (ix2 q k) = g0 k) (hf1 : ∀ k, y1 (ix2 r k) = f1 k) (hg1 : ∀ k, w1 (ix2 q k) = g1 k) (hf2 : ∀ k, y2 (ix2 r k) = f2 k) (hg2 : ∀ k, w2 (ix2 q k) = g2 k) (hf3 : ∀ k, y3 (ix2 r k) = f3 k) (hg3 : ∀ k, w3 (ix2 q k) = g3 k) (hf4 : ∀ k, y4 (ix2 r k) = f4 k) (hg4 : ∀ k, w4 (ix2 q k) = g4 k) :
    (k0_pay1 (F := Ideal) d (Scalar.ofBits .f32 0x3FD744FD#32) y0 w0 y1 w1 y2 w2 y3 w3 y4 w4 (ix2 r q) : EReal) = tot v f0 g0 f1 g1 f2 g2 f3 g3 f4 g4 := by
  refine (pay1 d y0 w0 y1 w1 y2 w2 y3 w3 y4 w4 r q).trans ?_
  have hd' : (d (ix2 r q) : EReal) = v := hd
  have a0 : (fun k => (y0 (ix2 r k) : EReal)) = f0 := funext hf0
  have b0 : (fun k => (w0 (ix2 q k) : EReal)) = g0 := funext hg0
  have a1 : (fun k => (y1 (ix2 r k) : EReal)) = f1 := funext hf1
  have b1 : (fun k => (w1 (ix2 q k) : EReal)) = g1 := funext hg1
  have a2 : (fun k => (y2 (ix2 r k) : EReal)) = f2 := funext hf2
  have b2 : (fun k => (w2 (ix2 q k) : EReal)) = g2 := funext hg2
  have a3 : (fun k => (y3 (ix2 r k) : EReal)) = f3 := funext hf3
  have b3 : (fun k => (w3 (ix2 q k) : EReal)) = g3 := funext hg3
  have a4 : (fun k => (y4 (ix2 r k) : EReal)) = f4 := funext hf4
  have b4 : (fun k => (w4 (ix2 q k) : EReal)) = g4 := funext hg4
  rw [hd', a0, b0, a1, b1, a2, b2, a3, b3, a4, b4]

/-- What is stored of the first half. -/
theorem pay2 (d : Vec Ideal S256x1024 .f32) (y0 : Vec Ideal S256x1024 .bf16) (w0 : Vec Ideal S1024x1024 .bf16) (y1 : Vec Ideal S256x1024 .bf16) (w1 : Vec Ideal S1024x1024 .bf16) (y2 : Vec Ideal S256x1024 .bf16) (w2 : Vec Ideal S1024x1024 .bf16) (y3 : Vec Ideal S256x1024 .bf16) (w3 : Vec Ideal S1024x1024 .bf16) (y4 : Vec Ideal S256x1024 .bf16) (w4 : Vec Ideal S1024x1024 .bf16) (r : Fin 256) (q : Fin 1024) :
    (k0_pay2 (F := Ideal) d  y0 w0 y1 w1 y2 w2 y3 w3 y4 w4 (ix2 r q) : EReal) = tot (d (ix2 r q)) (fun k => y0 (ix2 r k)) (fun k => w0 (ix2 q k)) (fun k => y1 (ix2 r k)) (fun k => w1 (ix2 q k)) (fun k => y2 (ix2 r k)) (fun k => w2 (ix2 q k)) (fun k => y3 (ix2 r k)) (fun k => w3 (ix2 q k)) (fun k => y4 (ix2 r k)) (fun k => w4 (ix2 q k)) := by
  unfold k0_pay2 tot dot
  pointwise
  try rfl

/-- The same from values read before. -/
theorem pay2_at (d : Vec Ideal S256x1024 .f32) (y0 : Vec Ideal S256x1024 .bf16) (w0 : Vec Ideal S1024x1024 .bf16) (y1 : Vec Ideal S256x1024 .bf16) (w1 : Vec Ideal S1024x1024 .bf16) (y2 : Vec Ideal S256x1024 .bf16) (w2 : Vec Ideal S1024x1024 .bf16) (y3 : Vec Ideal S256x1024 .bf16) (w3 : Vec Ideal S1024x1024 .bf16) (y4 : Vec Ideal S256x1024 .bf16) (w4 : Vec Ideal S1024x1024 .bf16) (r : Fin 256) (q : Fin 1024) (v : EReal) (f0 g0 : Fin 1024 → EReal) (f1 g1 : Fin 1024 → EReal) (f2 g2 : Fin 1024 → EReal) (f3 g3 : Fin 1024 → EReal) (f4 g4 : Fin 1024 → EReal)
    (hd : d (ix2 r q) = v) (hf0 : ∀ k, y0 (ix2 r k) = f0 k) (hg0 : ∀ k, w0 (ix2 q k) = g0 k) (hf1 : ∀ k, y1 (ix2 r k) = f1 k) (hg1 : ∀ k, w1 (ix2 q k) = g1 k) (hf2 : ∀ k, y2 (ix2 r k) = f2 k) (hg2 : ∀ k, w2 (ix2 q k) = g2 k) (hf3 : ∀ k, y3 (ix2 r k) = f3 k) (hg3 : ∀ k, w3 (ix2 q k) = g3 k) (hf4 : ∀ k, y4 (ix2 r k) = f4 k) (hg4 : ∀ k, w4 (ix2 q k) = g4 k) :
    (k0_pay2 (F := Ideal) d  y0 w0 y1 w1 y2 w2 y3 w3 y4 w4 (ix2 r q) : EReal) = tot v f0 g0 f1 g1 f2 g2 f3 g3 f4 g4 := by
  refine (pay2 d y0 w0 y1 w1 y2 w2 y3 w3 y4 w4 r q).trans ?_
  have hd' : (d (ix2 r q) : EReal) = v := hd
  have a0 : (fun k => (y0 (ix2 r k) : EReal)) = f0 := funext hf0
  have b0 : (fun k => (w0 (ix2 q k) : EReal)) = g0 := funext hg0
  have a1 : (fun k => (y1 (ix2 r k) : EReal)) = f1 := funext hf1
  have b1 : (fun k => (w1 (ix2 q k) : EReal)) = g1 := funext hg1
  have a2 : (fun k => (y2 (ix2 r k) : EReal)) = f2 := funext hf2
  have b2 : (fun k => (w2 (ix2 q k) : EReal)) = g2 := funext hg2
  have a3 : (fun k => (y3 (ix2 r k) : EReal)) = f3 := funext hf3
  have b3 : (fun k => (w3 (ix2 q k) : EReal)) = g3 := funext hg3
  have a4 : (fun k => (y4 (ix2 r k) : EReal)) = f4 := funext hf4
  have b4 : (fun k => (w4 (ix2 q k) : EReal)) = g4 := funext hg4
  rw [hd', a0, b0, a1, b1, a2, b2, a3, b3, a4, b4]

/-- What a point stores. -/
theorem outAt (y0 : Vec Ideal S512x1024 .bf16) (y1 : Vec Ideal S512x1024 .bf16) (y2 : Vec Ideal S512x1024 .bf16) (y3 : Vec Ideal S512x1024 .bf16) (y4 : Vec Ideal S512x1024 .bf16) (w : Vec Ideal S1024x5120 .bf16) (d : Vec Ideal S512x1024 .f32) (p : Fin 512) (q : Fin 1024) (v : EReal) (f0 g0 : Fin 1024 → EReal) (f1 g1 : Fin 1024 → EReal) (f2 g2 : Fin 1024 → EReal) (f3 g3 : Fin 1024 → EReal) (f4 g4 : Fin 1024 → EReal)
    (hd : d (ix2 p q) = v) (hf0 : ∀ k, y0 (ix2 p k) = f0 k) (hg0 : ∀ k : Fin 1024, w (ix2 q ⟨0 + k.val, by omega⟩) = g0 k) (hf1 : ∀ k, y1 (ix2 p k) = f1 k) (hg1 : ∀ k : Fin 1024, w (ix2 q ⟨1024 + k.val, by omega⟩) = g1 k) (hf2 : ∀ k, y2 (ix2 p k) = f2 k) (hg2 : ∀ k : Fin 1024, w (ix2 q ⟨2048 + k.val, by omega⟩) = g2 k) (hf3 : ∀ k, y3 (ix2 p k) = f3 k) (hg3 : ∀ k : Fin 1024, w (ix2 q ⟨3072 + k.val, by omega⟩) = g3 k) (hf4 : ∀ k, y4 (ix2 p k) = f4 k) (hg4 : ∀ k : Fin 1024, w (ix2 q ⟨4096 + k.val, by omega⟩) = g4 k) :
    (out0_7 (F := Ideal) y0 y1 y2 y3 y4 w d (ix2 p q) : EReal) = tot v f0 g0 f1 g1 f2 g2 f3 g3 f4 g4 := by
  unfold out0_7
  exact two p q _
    (fun r h => pay1_at _ _ _ _ _ _ _ _ _ _ _ r q v f0 g0 f1 g1 f2 g2 f3 g3 f4 g4 ((ld_at p q h (Nat.zero_add _)).trans hd) (fun k => (ld_at p k h (Nat.zero_add _)).trans (hf0 k)) (fun k => (ld_at q ⟨0 + k.val, by omega⟩ (Nat.zero_add _) rfl).trans (hg0 k)) (fun k => (ld_at p k h (Nat.zero_add _)).trans (hf1 k)) (fun k => (ld_at q ⟨1024 + k.val, by omega⟩ (Nat.zero_add _) rfl).trans (hg1 k)) (fun k => (ld_at p k h (Nat.zero_add _)).trans (hf2 k)) (fun k => (ld_at q ⟨2048 + k.val, by omega⟩ (Nat.zero_add _) rfl).trans (hg2 k)) (fun k => (ld_at p k h (Nat.zero_add _)).trans (hf3 k)) (fun k => (ld_at q ⟨3072 + k.val, by omega⟩ (Nat.zero_add _) rfl).trans (hg3 k)) (fun k => (ld_at p k h (Nat.zero_add _)).trans (hf4 k)) (fun k => (ld_at q ⟨4096 + k.val, by omega⟩ (Nat.zero_add _) rfl).trans (hg4 k)))
    (fun r h => pay2_at _ _ _ _ _ _ _ _ _ _ _ r q v f0 g0 f1 g1 f2 g2 f3 g3 f4 g4 ((ld_at p q h (Nat.zero_add _)).trans hd) (fun k => (ld_at p k h (Nat.zero_add _)).trans (hf0 k)) (fun k => (ld_at q ⟨0 + k.val, by omega⟩ (Nat.zero_add _) rfl).trans (hg0 k)) (fun k => (ld_at p k h (Nat.zero_add _)).trans (hf1 k)) (fun k => (ld_at q ⟨1024 + k.val, by omega⟩ (Nat.zero_add _) rfl).trans (hg1 k)) (fun k => (ld_at p k h (Nat.zero_add _)).trans (hf2 k)) (fun k => (ld_at q ⟨2048 + k.val, by omega⟩ (Nat.zero_add _) rfl).trans (hg2 k)) (fun k => (ld_at p k h (Nat.zero_add _)).trans (hf3 k)) (fun k => (ld_at q ⟨3072 + k.val, by omega⟩ (Nat.zero_add _) rfl).trans (hg3 k)) (fun k => (ld_at p k h (Nat.zero_add _)).trans (hf4 k)) (fun k => (ld_at q ⟨4096 + k.val, by omega⟩ (Nat.zero_add _) rfl).trans (hg4 k)))

/-- The block of the result at a point. -/
theorem idx7 : ∀ t : Fin cfg0.N, win0_7.index t (0 : Fin 2) = t.val ∧ win0_7.index t (1 : Fin 2) = 0 := (by decide +kernel : ∀ t : Fin grid0.N, _)

/-- Every point writes its block back. -/
theorem flush7 : ∀ t : Fin cfg0.N, (cfg0.win 7).flush t = true := (by decide +kernel : ∀ t : Fin grid0.N, _)

/-- Every entry of the result. -/
theorem arr (a : Fin 16384) (b : Fin 1024) :
    ((dats m 0 c).arrAt 7 cfg0.N (ix2 a b) : EReal) = tot (dA m c (ix2 a b)) (fun k => x0 m c (ix2 a k)) (fun k => wA m c (ix2 b ⟨0 + k.val, by omega⟩)) (fun k => x1 m c (ix2 a k)) (fun k => wA m c (ix2 b ⟨1024 + k.val, by omega⟩)) (fun k => x2 m c (ix2 a k)) (fun k => wA m c (ix2 b ⟨2048 + k.val, by omega⟩)) (fun k => x3 m c (ix2 a k)) (fun k => wA m c (ix2 b ⟨3072 + k.val, by omega⟩)) (fun k => x4 m c (ix2 a k)) (fun k => wA m c (ix2 b ⟨4096 + k.val, by omega⟩)) := by
  have ha := a.isLt
  let t : Fin cfg0.N := ⟨a.val / 512, lt_of_lt_of_eq (show a.val / 512 < 32 by omega) N_0.symm⟩
  have ht : t.val = a.val / 512 := rfl
  let p : Fin 512 := ⟨a.val % 512, Nat.mod_lt _ (by decide)⟩
  have hp : p.val = a.val % 512 := rfl
  have hr : 512 * t.val + p.val = a.val := by omega
  have h : (dats m 0 c).arrAt 7 cfg0.N (((cfg0.win 7).blk t).view.emb (ix2 p b)) = out0_7 (F := Ideal) (iblk m c 0 t) (iblk m c 1 t) (iblk m c 2 t) (iblk m c 3 t) (iblk m c 4 t) (iblk m c 5 t) (iblk m c 6 t) (ix2 p b) :=
    (congrFun (blocks7 m c t (flush7 t)) (ix2 p b)).trans (congrFun (flushed7 m c t) (ix2 p b))
  obtain ⟨e0, e1⟩ := idx7 t
  have hi : ((cfg0.win 7).blk t).view.emb (ix2 p b) = ix2 a b := by
    refine funext fun d => Fin.ext ?_
    match d with
    | ⟨0, _⟩ => show win0_7.index t (0 : Fin 2) * 512 + 1 * p.val = a.val; omega
    | ⟨1, _⟩ => show win0_7.index t (1 : Fin 2) * 1024 + 1 * b.val = b.val; omega
  rw [hi] at h
  exact (show ((dats m 0 c).arrAt 7 cfg0.N (ix2 a b) : EReal) = _ from h).trans (outAt _ _ _ _ _ _ _ p b _ _ _ _ _ _ _ _ _ _ _ (blk6 m c t p b a hr) (fun k => blk0 m c t p k a hr) (fun k => blk5 m c t b _) (fun k => blk1 m c t p k a hr) (fun k => blk5 m c t b _) (fun k => blk2 m c t p k a hr) (fun k => blk5 m c t b _) (fun k => blk3 m c t p k a hr) (fun k => blk5 m c t b _) (fun k => blk4 m c t p k a hr) (fun k => blk5 m c t b _))

end Cert.Kernel6Ideal.Mx

end
-- ==== Proof.MixInBwdEq.lean ====
module

public import proofs.«01_k».proof.Defs
public import proofs.«01_k».proof.Proof.MixInBwd
public import proofs.«01_k».proof.Proof.Gen.Reference6Ideal.Run
public import proofs.«01_k».proof.Proof.Gen.Reference6Ideal.Read

@[expose] public section

/-! The reference of the mixer input gradient, and that both compute the same. -/

noncomputable section

namespace Cert.Reference6Ideal.Mx

open Cert.Kernel6Ideal.Mx (sc dot tot)
open Idealize.ShloMosaic Idealize.ShloMosaic.TcCoe Idealize.SL.Sem Cert.Reference6Ideal.Gen Cert.Reference6Ideal.Read Idealize.ShloMosaic.Pointwise

/-- A sum cut in two. -/
theorem cut {a b n : ℕ} (h : a + b = n) (f : Fin n → EReal) : ∑ k : Fin n, f k = (∑ k : Fin a, f ⟨k.val, by omega⟩) + ∑ k : Fin b, f ⟨a + k.val, by omega⟩ := by
  subst h
  exact Fin.sum_univ_add f

/-- Piece 0 of the gradients put side by side. -/
theorem side0 (x0 : (⟨S16384x1024, .bf16⟩ : BufTy).Contents (Elt Ideal)) (x1 : (⟨S16384x1024, .bf16⟩ : BufTy).Contents (Elt Ideal)) (x2 : (⟨S16384x1024, .bf16⟩ : BufTy).Contents (Elt Ideal)) (x3 : (⟨S16384x1024, .bf16⟩ : BufTy).Contents (Elt Ideal)) (x4 : (⟨S16384x1024, .bf16⟩ : BufTy).Contents (Elt Ideal)) (p : Fin 16384) (q : Fin 5120) (k : Fin 1024) (h : 0 + k.val = q.val) : (val_main_v1 (F := Ideal) x0 x1 x2 x3 x4 (ix2 p q) : EReal) = x0 (ix2 p k) := by
  have hk := k.isLt
  unfold val_main_v1 val_main_v0
  pointwise
  refine (dif_pos (show q.val < 1024 by omega)).trans ?_
  exact congrArg (fun b => (x0 (ix2 p b) : EReal)) (Fin.ext (by show q.val = k.val; omega))

/-- Piece 1 of the gradients put side by side. -/
theorem side1 (x0 : (⟨S16384x1024, .bf16⟩ : BufTy).Contents (Elt Ideal)) (x1 : (⟨S16384x1024, .bf16⟩ : BufTy).Contents (Elt Ideal)) (x2 : (⟨S16384x1024, .bf16⟩ : BufTy).Contents (Elt Ideal)) (x3 : (⟨S16384x1024, .bf16⟩ : BufTy).Contents (Elt Ideal)) (x4 : (⟨S16384x1024, .bf16⟩ : BufTy).Contents (Elt Ideal)) (p : Fin 16384) (q : Fin 5120) (k : Fin 1024) (h : 1024 + k.val = q.val) : (val_main_v1 (F := Ideal) x0 x1 x2 x3 x4 (ix2 p q) : EReal) = x1 (ix2 p k) := by
  have hk := k.isLt
  unfold val_main_v1 val_main_v0
  pointwise
  refine (dif_neg (show ¬q.val < 1024 by omega)).trans ?_
  refine (dif_pos (show q.val - 1024 < 1024 by omega)).trans ?_
  exact congrArg (fun b => (x1 (ix2 p b) : EReal)) (Fin.ext (by show q.val - 1024 = k.val; omega))

/-- Piece 2 of the gradients put side by side. -/
theorem side2 (x0 : (⟨S16384x1024, .bf16⟩ : BufTy).Contents (Elt Ideal)) (x1 : (⟨S16384x1024, .bf16⟩ : BufTy).Contents (Elt Ideal)) (x2 : (⟨S16384x1024, .bf16⟩ : BufTy).Contents (Elt Ideal)) (x3 : (⟨S16384x1024, .bf16⟩ : BufTy).Contents (Elt Ideal)) (x4 : (⟨S16384x1024, .bf16⟩ : BufTy).Contents (Elt Ideal)) (p : Fin 16384) (q : Fin 5120) (k : Fin 1024) (h : 2048 + k.val = q.val) : (val_main_v1 (F := Ideal) x0 x1 x2 x3 x4 (ix2 p q) : EReal) = x2 (ix2 p k) := by
  have hk := k.isLt
  unfold val_main_v1 val_main_v0
  pointwise
  refine (dif_neg (show ¬q.val < 1024 by omega)).trans ?_
  refine (dif_neg (show ¬q.val - 1024 < 1024 by omega)).trans ?_
  refine (dif_pos (show q.val - 1024 - 1024 < 1024 by omega)).trans ?_
  exact congrArg (fun b => (x2 (ix2 p b) : EReal)) (Fin.ext (by show q.val - 1024 - 1024 = k.val; omega))

/-- Piece 3 of the gradients put side by side. -/
theorem side3 (x0 : (⟨S16384x1024, .bf16⟩ : BufTy).Contents (Elt Ideal)) (x1 : (⟨S16384x1024, .bf16⟩ : BufTy).Contents (Elt Ideal)) (x2 : (⟨S16384x1024, .bf16⟩ : BufTy).Contents (Elt Ideal)) (x3 : (⟨S16384x1024, .bf16⟩ : BufTy).Contents (Elt Ideal)) (x4 : (⟨S16384x1024, .bf16⟩ : BufTy).Contents (Elt Ideal)) (p : Fin 16384) (q : Fin 5120) (k : Fin 1024) (h : 3072 + k.val = q.val) : (val_main_v1 (F := Ideal) x0 x1 x2 x3 x4 (ix2 p q) : EReal) = x3 (ix2 p k) := by
  have hk := k.isLt
  unfold val_main_v1 val_main_v0
  pointwise
  refine (dif_neg (show ¬q.val < 1024 by omega)).trans ?_
  refine (dif_neg (show ¬q.val - 1024 < 1024 by omega)).trans ?_
  refine (dif_neg (show ¬q.val - 1024 - 1024 < 1024 by omega)).trans ?_
  refine (dif_pos (show q.val - 1024 - 1024 - 1024 < 1024 by omega)).trans ?_
  exact congrArg (fun b => (x3 (ix2 p b) : EReal)) (Fin.ext (by show q.val - 1024 - 1024 - 1024 = k.val; omega))

/-- Piece 4 of the gradients put side by side. -/
theorem side4 (x0 : (⟨S16384x1024, .bf16⟩ : BufTy).Contents (Elt Ideal)) (x1 : (⟨S16384x1024, .bf16⟩ : BufTy).Contents (Elt Ideal)) (x2 : (⟨S16384x1024, .bf16⟩ : BufTy).Contents (Elt Ideal)) (x3 : (⟨S16384x1024, .bf16⟩ : BufTy).Contents (Elt Ideal)) (x4 : (⟨S16384x1024, .bf16⟩ : BufTy).Contents (Elt Ideal)) (p : Fin 16384) (q : Fin 5120) (k : Fin 1024) (h : 4096 + k.val = q.val) : (val_main_v1 (F := Ideal) x0 x1 x2 x3 x4 (ix2 p q) : EReal) = x4 (ix2 p k) := by
  have hk := k.isLt
  unfold val_main_v1 val_main_v0
  pointwise
  refine (dif_neg (show ¬q.val < 1024 by omega)).trans ?_
  refine (dif_neg (show ¬q.val - 1024 < 1024 by omega)).trans ?_
  refine (dif_neg (show ¬q.val - 1024 - 1024 < 1024 by omega)).trans ?_
  refine (dif_neg (show ¬q.val - 1024 - 1024 - 1024 < 1024 by omega)).trans ?_
  exact congrArg (fun b => (x4 (ix2 p b) : EReal)) (Fin.ext (by show q.val - 1024 - 1024 - 1024 - 1024 = k.val; omega))

/-- The reference's entries. -/
theorem entry (x0 : (⟨S16384x1024, .bf16⟩ : BufTy).Contents (Elt Ideal)) (x1 : (⟨S16384x1024, .bf16⟩ : BufTy).Contents (Elt Ideal)) (x2 : (⟨S16384x1024, .bf16⟩ : BufTy).Contents (Elt Ideal)) (x3 : (⟨S16384x1024, .bf16⟩ : BufTy).Contents (Elt Ideal)) (x4 : (⟨S16384x1024, .bf16⟩ : BufTy).Contents (Elt Ideal)) (x5 : (⟨S1024x5120, .bf16⟩ : BufTy).Contents (Elt Ideal)) (x6 : (⟨S16384x1024, .f32⟩ : BufTy).Contents (Elt Ideal)) (p : Fin 16384) (q : Fin 1024) :
    (val_main_v6 (F := Ideal) x0 x1 x2 x3 x4 x5 x6 (ix2 p q) : EReal) = (∑ k : Fin 5120, (val_main_v1 (F := Ideal) x0 x1 x2 x3 x4 (ix2 p k) : EReal) * x5 (ix2 q k)) + sc * x6 (ix2 p q) := by
  unfold val_main_v6 val_main_v5 val_main_v4 val_main_cst val_main_v3 val_main_v2
  pointwise

/-- The order of the additions is free. -/
theorem order (d s0 s1 s2 s3 s4 : EReal) : ((((s0 + s1) + s2) + s3) + s4) + d = (((((d + s0) + s1) + s2) + s3) + s4) := by
  ac_rfl

/-- The reference's entries, one piece's product after another. -/
theorem entries (x0 : (⟨S16384x1024, .bf16⟩ : BufTy).Contents (Elt Ideal)) (x1 : (⟨S16384x1024, .bf16⟩ : BufTy).Contents (Elt Ideal)) (x2 : (⟨S16384x1024, .bf16⟩ : BufTy).Contents (Elt Ideal)) (x3 : (⟨S16384x1024, .bf16⟩ : BufTy).Contents (Elt Ideal)) (x4 : (⟨S16384x1024, .bf16⟩ : BufTy).Contents (Elt Ideal)) (x5 : (⟨S1024x5120, .bf16⟩ : BufTy).Contents (Elt Ideal)) (x6 : (⟨S16384x1024, .f32⟩ : BufTy).Contents (Elt Ideal)) (p : Fin 16384) (q : Fin 1024) :
    (val_main_v6 (F := Ideal) x0 x1 x2 x3 x4 x5 x6 (ix2 p q) : EReal) = tot (x6 (ix2 p q)) (fun k => x0 (ix2 p k)) (fun k => x5 (ix2 q ⟨0 + k.val, by omega⟩)) (fun k => x1 (ix2 p k)) (fun k => x5 (ix2 q ⟨1024 + k.val, by omega⟩)) (fun k => x2 (ix2 p k)) (fun k => x5 (ix2 q ⟨2048 + k.val, by omega⟩)) (fun k => x3 (ix2 p k)) (fun k => x5 (ix2 q ⟨3072 + k.val, by omega⟩)) (fun k => x4 (ix2 p k)) (fun k => x5 (ix2 q ⟨4096 + k.val, by omega⟩)) := by
  rw [entry]
  rw [cut (a := 4096) (b := 1024) (by omega)]
  rw [cut (a := 3072) (b := 1024) (by omega)]
  rw [cut (a := 2048) (b := 1024) (by omega)]
  rw [cut (a := 1024) (b := 1024) (by omega)]
  refine Eq.trans ?_ (order _ _ _ _ _ _ )
  refine congrArg (fun b : EReal => b + _) ?_
  exact (congrArg₂ (fun a b : EReal => a + b) (congrArg₂ (fun a b : EReal => a + b) (congrArg₂ (fun a b : EReal => a + b) (congrArg₂ (fun a b : EReal => a + b) (Finset.sum_congr rfl fun k _ => congrArg₂ (fun a b : EReal => a * b) (side0 x0 x1 x2 x3 x4 p _ k (Nat.zero_add _)) (congrArg (fun b => (x5 (ix2 q b) : EReal)) (Fin.ext (Nat.zero_add _).symm)))
    (Finset.sum_congr rfl fun k _ => congrArg₂ (fun a b : EReal => a * b) (side1 x0 x1 x2 x3 x4 p _ k rfl) (congrArg (fun b => (x5 (ix2 q b) : EReal)) (Fin.ext rfl))))
    (Finset.sum_congr rfl fun k _ => congrArg₂ (fun a b : EReal => a * b) (side2 x0 x1 x2 x3 x4 p _ k rfl) (congrArg (fun b => (x5 (ix2 q b) : EReal)) (Fin.ext rfl))))
    (Finset.sum_congr rfl fun k _ => congrArg₂ (fun a b : EReal => a * b) (side3 x0 x1 x2 x3 x4 p _ k rfl) (congrArg (fun b => (x5 (ix2 q b) : EReal)) (Fin.ext rfl))))
    (Finset.sum_congr rfl fun k _ => congrArg₂ (fun a b : EReal => a * b) (side4 x0 x1 x2 x3 x4 p _ k rfl) (congrArg (fun b => (x5 (ix2 q b) : EReal)) (Fin.ext rfl))))

/-- The result is the kernel's. -/
theorem eqOut (m : (l : Loc Cert.Kernel6Ideal.nD Cert.Kernel6Ideal.τ Cert.Kernel6Ideal.sig) → Buf (Elt Ideal) l) (c : Dev Cert.Kernel6Ideal.nD) {x0 : (⟨S16384x1024, .bf16⟩ : BufTy).Contents (Elt Ideal)} {x1 : (⟨S16384x1024, .bf16⟩ : BufTy).Contents (Elt Ideal)} {x2 : (⟨S16384x1024, .bf16⟩ : BufTy).Contents (Elt Ideal)} {x3 : (⟨S16384x1024, .bf16⟩ : BufTy).Contents (Elt Ideal)} {x4 : (⟨S16384x1024, .bf16⟩ : BufTy).Contents (Elt Ideal)} {x5 : (⟨S1024x5120, .bf16⟩ : BufTy).Contents (Elt Ideal)} {x6 : (⟨S16384x1024, .f32⟩ : BufTy).Contents (Elt Ideal)}
    (e0 : x0 = Cert.Kernel6Ideal.Mx.x0 m c) (e1 : x1 = Cert.Kernel6Ideal.Mx.x1 m c) (e2 : x2 = Cert.Kernel6Ideal.Mx.x2 m c) (e3 : x3 = Cert.Kernel6Ideal.Mx.x3 m c) (e4 : x4 = Cert.Kernel6Ideal.Mx.x4 m c) (e5 : x5 = Cert.Kernel6Ideal.Mx.wA m c) (e6 : x6 = Cert.Kernel6Ideal.Mx.dA m c) :
    val_main_v6 (F := Ideal) x0 x1 x2 x3 x4 x5 x6 = (Cert.Kernel6Ideal.Gen.dats (F := Ideal) m 0 c).arrAt 7 Cert.Kernel6Ideal.cfg0.N := by
  subst e0 e1 e2 e3 e4 e5 e6
  funext i
  refine (congrArg _ (ValueIdx.eq_ix2 i)).trans (Eq.trans ?_ (congrArg _ (ValueIdx.eq_ix2 i).symm))
  exact (entries _ _ _ _ _ _ _ (i 0) (i 1)).trans (Cert.Kernel6Ideal.Mx.arr m c (i 0) (i 1)).symm

/-- The reference ends with its arguments unchanged and every counter at zero. -/
theorem frame : Cert.quiescent_Reference6Ideal (hReference6Ideal := Cert.Reference6Ideal.Gen.facts) := fun m ρ _ =>
  (θ_run Cert.Reference6Ideal.defs _ _).mono
    (fun r h => ⟨fun c => (h c).2, Idealize.ShloMosaic.sem_eq_zero_of_no_sems (by decide) r.2⟩) (Cert.Reference6Ideal.Value.run m ρ)

/-- The kernel and the reference compute the same. -/
theorem values : Cert.algebraic_Kernel6Ideal_Reference6Ideal (hKernel6Ideal := Cert.Kernel6Ideal.Gen.facts) (hReference6Ideal := Cert.Reference6Ideal.Gen.facts) := by
  intro m ρ m' ρ' _ hag
  refine ⟨fun c => (Cert.Kernel6Ideal.Gen.dats (F := Ideal) m 0 c).arrAt 7 Cert.Kernel6Ideal.cfg0.N, (θ_run _ _ _).mono (fun _ h c => h c) (Cert.Kernel6Ideal.Value.run_blocks (F := Ideal) m ρ),
    (θ_run _ _ _).mono (fun _ h c => ⟨(h c).1.trans ?_, (h c).2⟩) (Cert.Reference6Ideal.Value.run (F := Ideal) m' ρ')⟩
  · obtain ⟨e0, e1, e2, e3, e4, e5, e6⟩ := hag c
    exact (val_main_v6_eq (F := Ideal) _ _ _ _ _ _ _).trans (eqOut m c e0 e1 e2 e3 e4 e5 e6)

end Cert.Reference6Ideal.Mx

end
-- ==== Proof.DwMixIn.lean ====
module

public import proofs.«01_k».proof.Proof.Sums
public import proofs.«01_k».proof.Proof.Stores
public import proofs.«01_k».proof.Proof.Gen.Kernel7Ideal.Value

@[expose] public section

/-! The weight gradient of the call at `Kernel7Ideal`: its result is the product of the transposed input with the incoming
gradients, each entry a sum over the 16384 rows that the kernel takes 2048 at a time. -/

set_option maxRecDepth 16384

noncomputable section

namespace Cert.Kernel7Ideal.Dw

open Idealize.ShloMosaic Idealize.ShloMosaic.Tactic Idealize.ShloMosaic.TcCoe Cert.Kernel7Ideal.Gen Cert.Kernel7Ideal.Value Idealize.ShloMosaic.Pointwise Cert.Rows Cert.Stores

variable (m : (ℓ : Loc nD τ sig) → Buf (Elt Ideal) ℓ) (c : Dev nD)

/-- The input whose transpose is multiplied. -/
abbrev xA : S16384x1024.Idx → EReal := m ((c : Thread nD τ).loc main_arg0)

/-- Incoming gradient 1 of 5. -/
abbrev y0A : S16384x1024.Idx → EReal := m ((c : Thread nD τ).loc main_arg1)

/-- Incoming gradient 2 of 5. -/
abbrev y1A : S16384x1024.Idx → EReal := m ((c : Thread nD τ).loc main_arg2)

/-- Incoming gradient 3 of 5. -/
abbrev y2A : S16384x1024.Idx → EReal := m ((c : Thread nD τ).loc main_arg3)

/-- Incoming gradient 4 of 5. -/
abbrev y3A : S16384x1024.Idx → EReal := m ((c : Thread nD τ).loc main_arg4)

/-- Incoming gradient 5 of 5. -/
abbrev y4A : S16384x1024.Idx → EReal := m ((c : Thread nD τ).loc main_arg5)

/-- Row `k`, column `p` of the input. -/
def xv (k : Fin 16384) (p : ℕ) : EReal := xA m c (ix2 k ⟨p % 1024, Nat.mod_lt _ (by decide)⟩)

/-- Row `k`, column `q` of the incoming gradients side by side. -/
def yv (k : Fin 16384) (q : ℕ) : EReal := if q < 1024 then y0A m c (ix2 k ⟨(q - 0) % 1024, Nat.mod_lt _ (by decide)⟩) else if q < 2048 then y1A m c (ix2 k ⟨(q - 1024) % 1024, Nat.mod_lt _ (by decide)⟩) else if q < 3072 then y2A m c (ix2 k ⟨(q - 2048) % 1024, Nat.mod_lt _ (by decide)⟩) else if q < 4096 then y3A m c (ix2 k ⟨(q - 3072) % 1024, Nat.mod_lt _ (by decide)⟩) else y4A m c (ix2 k ⟨(q - 4096) % 1024, Nat.mod_lt _ (by decide)⟩)

/-- The products that entry `(p, q)` of the weight gradient sums. -/
def term (p q : ℕ) (k : Fin 16384) : EReal := xv m c k p * yv m c k q

/-- The input's block at a point. -/
theorem idx0 : ∀ t : Fin cfg0.N, win0_0.index t (0 : Fin 2) = t.val % 8 ∧ win0_0.index t (1 : Fin 2) = 0 := (by decide +kernel : ∀ t : Fin grid0.N, _)

/-- The input's block holds its rows. -/
theorem blk0 (t : Fin cfg0.N) (r : Fin 2048) (p : Fin 1024) : (iblk m c 0 t (ix2 r p) : EReal) = xv m c (row (2048 * (t.val % 8) + r.val)) (1024 * 0 + p.val) := by
  have hN := lt_of_lt_of_eq t.isLt (show cfg0.N = 80 from N_0)
  show V m c main_arg0 (((cfg0.win 0).blk t).view.emb (ix2 r p)) = _
  rw [V_main_arg0]
  obtain ⟨e0, e1⟩ := idx0 t
  refine congrArg (xA m c) (funext fun b => Fin.ext ?_)
  have hr := r.isLt
  have hp := p.isLt
  match b with
  | ⟨0, _⟩ => show win0_0.index t (0 : Fin 2) * 2048 + 1 * r.val = (2048 * (t.val % 8) + r.val) % 16384; omega
  | ⟨1, _⟩ => show win0_0.index t (1 : Fin 2) * 1024 + 1 * p.val = (1024 * 0 + p.val) % 1024; omega

/-- Gradient 1's block at a point that reads it. -/
theorem idx1 : ∀ t : Fin cfg0.N, 0 ≤ t.val / 8 ∧ t.val / 8 < 2 → win0_1.index t (0 : Fin 2) = t.val % 8 ∧ win0_1.index t (1 : Fin 2) = t.val / 8 := (by decide +kernel : ∀ t : Fin grid0.N, _)

/-- Gradient 1's block holds its rows. -/
theorem blk1 (t : Fin cfg0.N) (h : 0 ≤ t.val / 8 ∧ t.val / 8 < 2) (r : Fin 2048) (q : Fin 512) : (iblk m c 1 t (ix2 r q) : EReal) = yv m c (row (2048 * (t.val % 8) + r.val)) (512 * (t.val / 8) + q.val) := by
  have hN := lt_of_lt_of_eq t.isLt (show cfg0.N = 80 from N_0)
  have hr := r.isLt
  have hq := q.isLt
  show V m c main_arg1 (((cfg0.win 1).blk t).view.emb (ix2 r q)) = _
  rw [V_main_arg1]
  obtain ⟨e0, e1⟩ := idx1 t h
  unfold yv
  rw [if_pos (by omega)]
  refine congrArg (y0A m c) (funext fun b => Fin.ext ?_)
  match b with
  | ⟨0, _⟩ => show win0_1.index t (0 : Fin 2) * 2048 + 1 * r.val = (2048 * (t.val % 8) + r.val) % 16384; omega
  | ⟨1, _⟩ => show win0_1.index t (1 : Fin 2) * 512 + 1 * q.val = (512 * (t.val / 8) + q.val - 0) % 1024; omega

/-- Gradient 2's block at a point that reads it. -/
theorem idx2 : ∀ t : Fin cfg0.N, 2 ≤ t.val / 8 ∧ t.val / 8 < 4 → win0_2.index t (0 : Fin 2) = t.val % 8 ∧ win0_2.index t (1 : Fin 2) = t.val / 8 - 2 := (by decide +kernel : ∀ t : Fin grid0.N, _)

/-- Gradient 2's block holds its rows. -/
theorem blk2 (t : Fin cfg0.N) (h : 2 ≤ t.val / 8 ∧ t.val / 8 < 4) (r : Fin 2048) (q : Fin 512) : (iblk m c 2 t (ix2 r q) : EReal) = yv m c (row (2048 * (t.val % 8) + r.val)) (512 * (t.val / 8) + q.val) := by
  have hN := lt_of_lt_of_eq t.isLt (show cfg0.N = 80 from N_0)
  have hr := r.isLt
  have hq := q.isLt
  show V m c main_arg2 (((cfg0.win 2).blk t).view.emb (ix2 r q)) = _
  rw [V_main_arg2]
  obtain ⟨e0, e1⟩ := idx2 t h
  unfold yv
  rw [if_neg (by omega)]
  rw [if_pos (by omega)]
  refine congrArg (y1A m c) (funext fun b => Fin.ext ?_)
  match b with
  | ⟨0, _⟩ => show win0_2.index t (0 : Fin 2) * 2048 + 1 * r.val = (2048 * (t.val % 8) + r.val) % 16384; omega
  | ⟨1, _⟩ => show win0_2.index t (1 : Fin 2) * 512 + 1 * q.val = (512 * (t.val / 8) + q.val - 1024) % 1024; omega

/-- Gradient 3's block at a point that reads it. -/
theorem idx3 : ∀ t : Fin cfg0.N, 4 ≤ t.val / 8 ∧ t.val / 8 < 6 → win0_3.index t (0 : Fin 2) = t.val % 8 ∧ win0_3.index t (1 : Fin 2) = t.val / 8 - 4 := (by decide +kernel : ∀ t : Fin grid0.N, _)

/-- Gradient 3's block holds its rows. -/
theorem blk3 (t : Fin cfg0.N) (h : 4 ≤ t.val / 8 ∧ t.val / 8 < 6) (r : Fin 2048) (q : Fin 512) : (iblk m c 3 t (ix2 r q) : EReal) = yv m c (row (2048 * (t.val % 8) + r.val)) (512 * (t.val / 8) + q.val) := by
  have hN := lt_of_lt_of_eq t.isLt (show cfg0.N = 80 from N_0)
  have hr := r.isLt
  have hq := q.isLt
  show V m c main_arg3 (((cfg0.win 3).blk t).view.emb (ix2 r q)) = _
  rw [V_main_arg3]
  obtain ⟨e0, e1⟩ := idx3 t h
  unfold yv
  rw [if_neg (by omega)]
  rw [if_neg (by omega)]
  rw [if_pos (by omega)]
  refine congrArg (y2A m c) (funext fun b => Fin.ext ?_)
  match b with
  | ⟨0, _⟩ => show win0_3.index t (0 : Fin 2) * 2048 + 1 * r.val = (2048 * (t.val % 8) + r.val) % 16384; omega
  | ⟨1, _⟩ => show win0_3.index t (1 : Fin 2) * 512 + 1 * q.val = (512 * (t.val / 8) + q.val - 2048) % 1024; omega

/-- Gradient 4's block at a point that reads it. -/
theorem idx4 : ∀ t : Fin cfg0.N, 6 ≤ t.val / 8 ∧ t.val / 8 < 8 → win0_4.index t (0 : Fin 2) = t.val % 8 ∧ win0_4.index t (1 : Fin 2) = t.val / 8 - 6 := (by decide +kernel : ∀ t : Fin grid0.N, _)

/-- Gradient 4's block holds its rows. -/
theorem blk4 (t : Fin cfg0.N) (h : 6 ≤ t.val / 8 ∧ t.val / 8 < 8) (r : Fin 2048) (q : Fin 512) : (iblk m c 4 t (ix2 r q) : EReal) = yv m c (row (2048 * (t.val % 8) + r.val)) (512 * (t.val / 8) + q.val) := by
  have hN := lt_of_lt_of_eq t.isLt (show cfg0.N = 80 from N_0)
  have hr := r.isLt
  have hq := q.isLt
  show V m c main_arg4 (((cfg0.win 4).blk t).view.emb (ix2 r q)) = _
  rw [V_main_arg4]
  obtain ⟨e0, e1⟩ := idx4 t h
  unfold yv
  rw [if_neg (by omega)]
  rw [if_neg (by omega)]
  rw [if_neg (by omega)]
  rw [if_pos (by omega)]
  refine congrArg (y3A m c) (funext fun b => Fin.ext ?_)
  match b with
  | ⟨0, _⟩ => show win0_4.index t (0 : Fin 2) * 2048 + 1 * r.val = (2048 * (t.val % 8) + r.val) % 16384; omega
  | ⟨1, _⟩ => show win0_4.index t (1 : Fin 2) * 512 + 1 * q.val = (512 * (t.val / 8) + q.val - 3072) % 1024; omega

/-- Gradient 5's block at a point that reads it. -/
theorem idx5 : ∀ t : Fin cfg0.N, 8 ≤ t.val / 8 ∧ t.val / 8 < 10 → win0_5.index t (0 : Fin 2) = t.val % 8 ∧ win0_5.index t (1 : Fin 2) = t.val / 8 - 8 := (by decide +kernel : ∀ t : Fin grid0.N, _)

/-- Gradient 5's block holds its rows. -/
theorem blk5 (t : Fin cfg0.N) (h : 8 ≤ t.val / 8 ∧ t.val / 8 < 10) (r : Fin 2048) (q : Fin 512) : (iblk m c 5 t (ix2 r q) : EReal) = yv m c (row (2048 * (t.val % 8) + r.val)) (512 * (t.val / 8) + q.val) := by
  have hN := lt_of_lt_of_eq t.isLt (show cfg0.N = 80 from N_0)
  have hr := r.isLt
  have hq := q.isLt
  show V m c main_arg5 (((cfg0.win 5).blk t).view.emb (ix2 r q)) = _
  rw [V_main_arg5]
  obtain ⟨e0, e1⟩ := idx5 t h
  unfold yv
  rw [if_neg (by omega)]
  rw [if_neg (by omega)]
  rw [if_neg (by omega)]
  rw [if_neg (by omega)]
  refine congrArg (y4A m c) (funext fun b => Fin.ext ?_)
  match b with
  | ⟨0, _⟩ => show win0_5.index t (0 : Fin 2) * 2048 + 1 * r.val = (2048 * (t.val % 8) + r.val) % 16384; omega
  | ⟨1, _⟩ => show win0_5.index t (1 : Fin 2) * 512 + 1 * q.val = (512 * (t.val / 8) + q.val - 4096) % 1024; omega

/-- One point's product. -/
theorem prod0 (a : Vec Ideal S2048x1024 .bf16) (b : Vec Ideal S2048x512 .bf16) (p : Fin 1024) (q : Fin 512) : (k0_pay1 a b (ix2 p q) : EReal) = ∑ r : Fin 2048, a (ix2 r p) * b (ix2 r q) := by
  unfold k0_pay1
  pointwise

/-- What a first point stores. -/
theorem start0 (a : Vec Ideal S2048x1024 .bf16) (b : Vec Ideal S2048x512 .bf16) (p : Fin 1024) (q : Fin 512) : (k0_pay2 a b (ix2 p q) : EReal) = ∑ r : Fin 2048, a (ix2 r p) * b (ix2 r q) := by
  unfold k0_pay2
  pointwise
  exact prod0 a b p q

/-- What a later point stores. -/
theorem more0 (a : Vec Ideal S2048x1024 .bf16) (b : Vec Ideal S2048x512 .bf16) (w : Vec Ideal S1024x512 .f32) (p : Fin 1024) (q : Fin 512) :
    (k0_pay3 a b w (ix2 p q) : EReal) = w (ix2 p q) + ∑ r : Fin 2048, a (ix2 r p) * b (ix2 r q) := by
  unfold k0_pay3
  pointwise
  exact congrArg (w (ix2 p q) + ·) (prod0 a b p q)

/-- One point's part of the sum. -/
theorem part0 (n P Q : ℕ) (a : Vec Ideal S2048x1024 .bf16) (b : Vec Ideal S2048x512 .bf16) (p : Fin 1024) (q : Fin 512)
    (ha : ∀ r : Fin 2048, (a (ix2 r p) : EReal) = xv m c (row (2048 * n + r.val)) P) (hb : ∀ r : Fin 2048, (b (ix2 r q) : EReal) = yv m c (row (2048 * n + r.val)) Q) :
    ∑ r : Fin 2048, a (ix2 r p) * b (ix2 r q) = ∑ r : Fin 2048, term m c P Q (row (2048 * n + r.val)) :=
  Finset.sum_congr rfl fun r _ => congrArg₂ (fun x y : EReal => x * y) (ha r) (hb r)

/-- The stored result is the kept sum. -/
theorem last (w : Vec Ideal S1024x512 .f32) (p : Fin 1024) (q : Fin 512) : (k0_pay16 w (ix2 p q) : EReal) = w (ix2 p q) := by
  unfold k0_pay16
  pointwise

/-- The buffer of the kept sum is whole. -/
theorem wholeS : scM0_0.IsWhole := Memref.isWhole_whole _

/-- The sum kept before a point. -/
abbrev prev (t : Fin cfg0.N) : Vec Ideal S1024x512 .f32 := (outsAt0 (F := Ideal) m c (t.val - 1) (Nat.lt_of_le_of_lt (Nat.sub_le _ _) t.isLt)).2

/-- A first point of gradient 1 on the run. -/
theorem atA (t : Fin cfg0.N) (h0 : t.val < 16) (h1 : t.val % 8 = 0) (h2 : ¬1 ≤ t.val % 8) (h3 : ¬(2 ≤ t.val / 8 % 10 ∧ t.val / 8 % 10 ≤ 3)) (h4 : ¬(4 ≤ t.val / 8 % 10 ∧ t.val / 8 % 10 ≤ 5)) (h5 : ¬(6 ≤ t.val / 8 % 10 ∧ t.val / 8 % 10 ≤ 7)) (h6 : ¬64 ≤ t.val) (h7 : ¬t.val % 8 = 7) :
    (outsAt0 (F := Ideal) m c t.val t.isLt).2 = k0_pay2 (iblk m c 0 t) (iblk m c 1 t) := by
  rw [outsAt0_A m c t h0 h1 h2 h3 h4 h5 h6 h7]
  dsimp only
  unfold sout0_A_0
  refine kept_of _ _ inb_S1024x512_S1024x512_0_0 (k0_pay2 (got (hs0_0 t) inb_S2048x1024_S2048x1024_0_0 (iblk m c 0 t)) (got (hs0_1 t) inb_S2048x512_S2048x512_0_0 (iblk m c 1 t))) ?_ ?_
  · sl_kernel_rfl
  · rw [got_eq, got_eq]

/-- A middle point of gradient 1 on the run. -/
theorem atB (t : Fin cfg0.N) (h0 : t.val < 16) (h1 : ¬t.val % 8 = 0) (h2 : 1 ≤ t.val % 8) (h3 : ¬(2 ≤ t.val / 8 % 10 ∧ t.val / 8 % 10 ≤ 3)) (h4 : ¬(4 ≤ t.val / 8 % 10 ∧ t.val / 8 % 10 ≤ 5)) (h5 : ¬(6 ≤ t.val / 8 % 10 ∧ t.val / 8 % 10 ≤ 7)) (h6 : ¬64 ≤ t.val) (h7 : ¬t.val % 8 = 7) :
    (outsAt0 (F := Ideal) m c t.val t.isLt).2 = k0_pay3 (iblk m c 0 t) (iblk m c 1 t) (prev m c t) := by
  rw [outsAt0_B m c t h0 h1 h2 h3 h4 h5 h6 h7]
  dsimp only
  unfold sout0_B_0
  refine kept_of _ _ inb_S1024x512_S1024x512_0_0 (k0_pay3 (got (hs0_0 t) inb_S2048x1024_S2048x1024_0_0 (iblk m c 0 t)) (got (hs0_1 t) inb_S2048x512_S2048x512_0_0 (iblk m c 1 t)) (got wholeS inb_S1024x512_S1024x512_0_0 (prev m c t))) ?_ ?_
  · sl_kernel_rfl
  · rw [got_eq, got_eq, got_eq]

/-- A last point of gradient 1 on the run. -/
theorem atC (t : Fin cfg0.N) (h0 : t.val < 16) (h1 : ¬t.val % 8 = 0) (h2 : 1 ≤ t.val % 8) (h3 : ¬(2 ≤ t.val / 8 % 10 ∧ t.val / 8 % 10 ≤ 3)) (h4 : ¬(4 ≤ t.val / 8 % 10 ∧ t.val / 8 % 10 ≤ 5)) (h5 : ¬(6 ≤ t.val / 8 % 10 ∧ t.val / 8 % 10 ≤ 7)) (h6 : ¬64 ≤ t.val) (h7 : t.val % 8 = 7) :
    (outsAt0 (F := Ideal) m c t.val t.isLt).2 = k0_pay3 (iblk m c 0 t) (iblk m c 1 t) (prev m c t) := by
  rw [outsAt0_C m c t h0 h1 h2 h3 h4 h5 h6 h7]
  dsimp only
  unfold sout0_C_0
  refine kept_of _ _ inb_S1024x512_S1024x512_0_0 (k0_pay3 (got (hs0_0 t) inb_S2048x1024_S2048x1024_0_0 (iblk m c 0 t)) (got (hs0_1 t) inb_S2048x512_S2048x512_0_0 (iblk m c 1 t)) (got wholeS inb_S1024x512_S1024x512_0_0 (prev m c t))) ?_ ?_
  · sl_kernel_rfl
  · rw [got_eq, got_eq, got_eq]

/-- A last point of gradient 1 on the run leaves the kept sum in the result's block. -/
theorem outC (t : Fin cfg0.N) (h0 : t.val < 16) (h1 : ¬t.val % 8 = 0) (h2 : 1 ≤ t.val % 8) (h3 : ¬(2 ≤ t.val / 8 % 10 ∧ t.val / 8 % 10 ≤ 3)) (h4 : ¬(4 ≤ t.val / 8 % 10 ∧ t.val / 8 % 10 ≤ 5)) (h5 : ¬(6 ≤ t.val / 8 % 10 ∧ t.val / 8 % 10 ≤ 7)) (h6 : ¬64 ≤ t.val) (h7 : t.val % 8 = 7) :
    (outsAt0 (F := Ideal) m c t.val t.isLt).1 = k0_pay16 ((outsAt0 (F := Ideal) m c t.val t.isLt).2) := by
  rw [atC m c t h0 h1 h2 h3 h4 h5 h6 h7, outsAt0_C m c t h0 h1 h2 h3 h4 h5 h6 h7]
  dsimp only
  unfold out0_C_6
  refine kept_of _ _ inb_S1024x512_S1024x512_0_0 (k0_pay16 (again scM0_0.view inb_S1024x512_S1024x512_0_0 (k0_pay3 (got (hs0_0 t) inb_S2048x1024_S2048x1024_0_0 (iblk m c 0 t)) (got (hs0_1 t) inb_S2048x512_S2048x512_0_0 (iblk m c 1 t)) (got wholeS inb_S1024x512_S1024x512_0_0 (prev m c t))))) ?_ ?_
  · sl_kernel_rfl
  · rw [again_eq, got_eq, got_eq, got_eq]

/-- A first point of gradient 2 on the run. -/
theorem atD (t : Fin cfg0.N) (h0 : ¬t.val < 16) (h3 : (2 ≤ t.val / 8 % 10 ∧ t.val / 8 % 10 ≤ 3)) (h4 : ¬(4 ≤ t.val / 8 % 10 ∧ t.val / 8 % 10 ≤ 5)) (h5 : ¬(6 ≤ t.val / 8 % 10 ∧ t.val / 8 % 10 ≤ 7)) (h6 : ¬64 ≤ t.val) (h7 : ¬t.val % 8 = 7) (h8 : t.val % 8 = 0) (h9 : ¬1 ≤ t.val % 8) :
    (outsAt0 (F := Ideal) m c t.val t.isLt).2 = k0_pay5 (iblk m c 0 t) (iblk m c 2 t) := by
  rw [outsAt0_D m c t h0 h3 h4 h5 h6 h7 h8 h9]
  dsimp only
  unfold sout0_D_0
  refine kept_of _ _ inb_S1024x512_S1024x512_0_0 (k0_pay5 (got (hs0_0 t) inb_S2048x1024_S2048x1024_0_0 (iblk m c 0 t)) (got (hs0_2 t) inb_S2048x512_S2048x512_0_0 (iblk m c 2 t))) ?_ ?_
  · sl_kernel_rfl
  · rw [got_eq, got_eq]

/-- A middle point of gradient 2 on the run. -/
theorem atE (t : Fin cfg0.N) (h0 : ¬t.val < 16) (h3 : (2 ≤ t.val / 8 % 10 ∧ t.val / 8 % 10 ≤ 3)) (h4 : ¬(4 ≤ t.val / 8 % 10 ∧ t.val / 8 % 10 ≤ 5)) (h5 : ¬(6 ≤ t.val / 8 % 10 ∧ t.val / 8 % 10 ≤ 7)) (h6 : ¬64 ≤ t.val) (h7 : ¬t.val % 8 = 7) (h8 : ¬t.val % 8 = 0) (h9 : 1 ≤ t.val % 8) :
    (outsAt0 (F := Ideal) m c t.val t.isLt).2 = k0_pay6 (iblk m c 0 t) (iblk m c 2 t) (prev m c t) := by
  rw [outsAt0_E m c t h0 h3 h4 h5 h6 h7 h8 h9]
  dsimp only
  unfold sout0_E_0
  refine kept_of _ _ inb_S1024x512_S1024x512_0_0 (k0_pay6 (got (hs0_0 t) inb_S2048x1024_S2048x1024_0_0 (iblk m c 0 t)) (got (hs0_2 t) inb_S2048x512_S2048x512_0_0 (iblk m c 2 t)) (got wholeS inb_S1024x512_S1024x512_0_0 (prev m c t))) ?_ ?_
  · sl_kernel_rfl
  · rw [got_eq, got_eq, got_eq]

/-- A last point of gradient 2 on the run. -/
theorem atF (t : Fin cfg0.N) (h0 : ¬t.val < 16) (h3 : (2 ≤ t.val / 8 % 10 ∧ t.val / 8 % 10 ≤ 3)) (h4 : ¬(4 ≤ t.val / 8 % 10 ∧ t.val / 8 % 10 ≤ 5)) (h5 : ¬(6 ≤ t.val / 8 % 10 ∧ t.val / 8 % 10 ≤ 7)) (h6 : ¬64 ≤ t.val) (h7 : t.val % 8 = 7) (h8 : ¬t.val % 8 = 0) (h9 : 1 ≤ t.val % 8) :
    (outsAt0 (F := Ideal) m c t.val t.isLt).2 = k0_pay6 (iblk m c 0 t) (iblk m c 2 t) (prev m c t) := by
  rw [outsAt0_F m c t h0 h3 h4 h5 h6 h7 h8 h9]
  dsimp only
  unfold sout0_F_0
  refine kept_of _ _ inb_S1024x512_S1024x512_0_0 (k0_pay6 (got (hs0_0 t) inb_S2048x1024_S2048x1024_0_0 (iblk m c 0 t)) (got (hs0_2 t) inb_S2048x512_S2048x512_0_0 (iblk m c 2 t)) (got wholeS inb_S1024x512_S1024x512_0_0 (prev m c t))) ?_ ?_
  · sl_kernel_rfl
  · rw [got_eq, got_eq, got_eq]

/-- A last point of gradient 2 on the run leaves the kept sum in the result's block. -/
theorem outF (t : Fin cfg0.N) (h0 : ¬t.val < 16) (h3 : (2 ≤ t.val / 8 % 10 ∧ t.val / 8 % 10 ≤ 3)) (h4 : ¬(4 ≤ t.val / 8 % 10 ∧ t.val / 8 % 10 ≤ 5)) (h5 : ¬(6 ≤ t.val / 8 % 10 ∧ t.val / 8 % 10 ≤ 7)) (h6 : ¬64 ≤ t.val) (h7 : t.val % 8 = 7) (h8 : ¬t.val % 8 = 0) (h9 : 1 ≤ t.val % 8) :
    (outsAt0 (F := Ideal) m c t.val t.isLt).1 = k0_pay16 ((outsAt0 (F := Ideal) m c t.val t.isLt).2) := by
  rw [atF m c t h0 h3 h4 h5 h6 h7 h8 h9, outsAt0_F m c t h0 h3 h4 h5 h6 h7 h8 h9]
  dsimp only
  unfold out0_F_6
  refine kept_of _ _ inb_S1024x512_S1024x512_0_0 (k0_pay16 (again scM0_0.view inb_S1024x512_S1024x512_0_0 (k0_pay6 (got (hs0_0 t) inb_S2048x1024_S2048x1024_0_0 (iblk m c 0 t)) (got (hs0_2 t) inb_S2048x512_S2048x512_0_0 (iblk m c 2 t)) (got wholeS inb_S1024x512_S1024x512_0_0 (prev m c t))))) ?_ ?_
  · sl_kernel_rfl
  · rw [again_eq, got_eq, got_eq, got_eq]

/-- A first point of gradient 3 on the run. -/
theorem atG (t : Fin cfg0.N) (h0 : ¬t.val < 16) (h3 : ¬(2 ≤ t.val / 8 % 10 ∧ t.val / 8 % 10 ≤ 3)) (h4 : (4 ≤ t.val / 8 % 10 ∧ t.val / 8 % 10 ≤ 5)) (h5 : ¬(6 ≤ t.val / 8 % 10 ∧ t.val / 8 % 10 ≤ 7)) (h6 : ¬64 ≤ t.val) (h7 : ¬t.val % 8 = 7) (h10 : t.val % 8 = 0) (h11 : ¬1 ≤ t.val % 8) :
    (outsAt0 (F := Ideal) m c t.val t.isLt).2 = k0_pay8 (iblk m c 0 t) (iblk m c 3 t) := by
  rw [outsAt0_G m c t h0 h3 h4 h5 h6 h7 h10 h11]
  dsimp only
  unfold sout0_G_0
  refine kept_of _ _ inb_S1024x512_S1024x512_0_0 (k0_pay8 (got (hs0_0 t) inb_S2048x1024_S2048x1024_0_0 (iblk m c 0 t)) (got (hs0_3 t) inb_S2048x512_S2048x512_0_0 (iblk m c 3 t))) ?_ ?_
  · sl_kernel_rfl
  · rw [got_eq, got_eq]

/-- A middle point of gradient 3 on the run. -/
theorem atH (t : Fin cfg0.N) (h0 : ¬t.val < 16) (h3 : ¬(2 ≤ t.val / 8 % 10 ∧ t.val / 8 % 10 ≤ 3)) (h4 : (4 ≤ t.val / 8 % 10 ∧ t.val / 8 % 10 ≤ 5)) (h5 : ¬(6 ≤ t.val / 8 % 10 ∧ t.val / 8 % 10 ≤ 7)) (h6 : ¬64 ≤ t.val) (h7 : ¬t.val % 8 = 7) (h10 : ¬t.val % 8 = 0) (h11 : 1 ≤ t.val % 8) :
    (outsAt0 (F := Ideal) m c t.val t.isLt).2 = k0_pay9 (iblk m c 0 t) (iblk m c 3 t) (prev m c t) := by
  rw [outsAt0_H m c t h0 h3 h4 h5 h6 h7 h10 h11]
  dsimp only
  unfold sout0_H_0
  refine kept_of _ _ inb_S1024x512_S1024x512_0_0 (k0_pay9 (got (hs0_0 t) inb_S2048x1024_S2048x1024_0_0 (iblk m c 0 t)) (got (hs0_3 t) inb_S2048x512_S2048x512_0_0 (iblk m c 3 t)) (got wholeS inb_S1024x512_S1024x512_0_0 (prev m c t))) ?_ ?_
  · sl_kernel_rfl
  · rw [got_eq, got_eq, got_eq]

/-- A last point of gradient 3 on the run. -/
theorem atI (t : Fin cfg0.N) (h0 : ¬t.val < 16) (h3 : ¬(2 ≤ t.val / 8 % 10 ∧ t.val / 8 % 10 ≤ 3)) (h4 : (4 ≤ t.val / 8 % 10 ∧ t.val / 8 % 10 ≤ 5)) (h5 : ¬(6 ≤ t.val / 8 % 10 ∧ t.val / 8 % 10 ≤ 7)) (h6 : ¬64 ≤ t.val) (h7 : t.val % 8 = 7) (h10 : ¬t.val % 8 = 0) (h11 : 1 ≤ t.val % 8) :
    (outsAt0 (F := Ideal) m c t.val t.isLt).2 = k0_pay9 (iblk m c 0 t) (iblk m c 3 t) (prev m c t) := by
  rw [outsAt0_I m c t h0 h3 h4 h5 h6 h7 h10 h11]
  dsimp only
  unfold sout0_I_0
  refine kept_of _ _ inb_S1024x512_S1024x512_0_0 (k0_pay9 (got (hs0_0 t) inb_S2048x1024_S2048x1024_0_0 (iblk m c 0 t)) (got (hs0_3 t) inb_S2048x512_S2048x512_0_0 (iblk m c 3 t)) (got wholeS inb_S1024x512_S1024x512_0_0 (prev m c t))) ?_ ?_
  · sl_kernel_rfl
  · rw [got_eq, got_eq, got_eq]

/-- A last point of gradient 3 on the run leaves the kept sum in the result's block. -/
theorem outI (t : Fin cfg0.N) (h0 : ¬t.val < 16) (h3 : ¬(2 ≤ t.val / 8 % 10 ∧ t.val / 8 % 10 ≤ 3)) (h4 : (4 ≤ t.val / 8 % 10 ∧ t.val / 8 % 10 ≤ 5)) (h5 : ¬(6 ≤ t.val / 8 % 10 ∧ t.val / 8 % 10 ≤ 7)) (h6 : ¬64 ≤ t.val) (h7 : t.val % 8 = 7) (h10 : ¬t.val % 8 = 0) (h11 : 1 ≤ t.val % 8) :
    (outsAt0 (F := Ideal) m c t.val t.isLt).1 = k0_pay16 ((outsAt0 (F := Ideal) m c t.val t.isLt).2) := by
  rw [atI m c t h0 h3 h4 h5 h6 h7 h10 h11, outsAt0_I m c t h0 h3 h4 h5 h6 h7 h10 h11]
  dsimp only
  unfold out0_I_6
  refine kept_of _ _ inb_S1024x512_S1024x512_0_0 (k0_pay16 (again scM0_0.view inb_S1024x512_S1024x512_0_0 (k0_pay9 (got (hs0_0 t) inb_S2048x1024_S2048x1024_0_0 (iblk m c 0 t)) (got (hs0_3 t) inb_S2048x512_S2048x512_0_0 (iblk m c 3 t)) (got wholeS inb_S1024x512_S1024x512_0_0 (prev m c t))))) ?_ ?_
  · sl_kernel_rfl
  · rw [again_eq, got_eq, got_eq, got_eq]

/-- A first point of gradient 4 on the run. -/
theorem atJ (t : Fin cfg0.N) (h0 : ¬t.val < 16) (h3 : ¬(2 ≤ t.val / 8 % 10 ∧ t.val / 8 % 10 ≤ 3)) (h4 : ¬(4 ≤ t.val / 8 % 10 ∧ t.val / 8 % 10 ≤ 5)) (h5 : (6 ≤ t.val / 8 % 10 ∧ t.val / 8 % 10 ≤ 7)) (h6 : ¬64 ≤ t.val) (h7 : ¬t.val % 8 = 7) (h12 : t.val % 8 = 0) (h13 : ¬1 ≤ t.val % 8) :
    (outsAt0 (F := Ideal) m c t.val t.isLt).2 = k0_pay11 (iblk m c 0 t) (iblk m c 4 t) := by
  rw [outsAt0_J m c t h0 h3 h4 h5 h6 h7 h12 h13]
  dsimp only
  unfold sout0_J_0
  refine kept_of _ _ inb_S1024x512_S1024x512_0_0 (k0_pay11 (got (hs0_0 t) inb_S2048x1024_S2048x1024_0_0 (iblk m c 0 t)) (got (hs0_4 t) inb_S2048x512_S2048x512_0_0 (iblk m c 4 t))) ?_ ?_
  · sl_kernel_rfl
  · rw [got_eq, got_eq]

/-- A middle point of gradient 4 on the run. -/
theorem atK (t : Fin cfg0.N) (h0 : ¬t.val < 16) (h3 : ¬(2 ≤ t.val / 8 % 10 ∧ t.val / 8 % 10 ≤ 3)) (h4 : ¬(4 ≤ t.val / 8 % 10 ∧ t.val / 8 % 10 ≤ 5)) (h5 : (6 ≤ t.val / 8 % 10 ∧ t.val / 8 % 10 ≤ 7)) (h6 : ¬64 ≤ t.val) (h7 : ¬t.val % 8 = 7) (h12 : ¬t.val % 8 = 0) (h13 : 1 ≤ t.val % 8) :
    (outsAt0 (F := Ideal) m c t.val t.isLt).2 = k0_pay12 (iblk m c 0 t) (iblk m c 4 t) (prev m c t) := by
  rw [outsAt0_K m c t h0 h3 h4 h5 h6 h7 h12 h13]
  dsimp only
  unfold sout0_K_0
  refine kept_of _ _ inb_S1024x512_S1024x512_0_0 (k0_pay12 (got (hs0_0 t) inb_S2048x1024_S2048x1024_0_0 (iblk m c 0 t)) (got (hs0_4 t) inb_S2048x512_S2048x512_0_0 (iblk m c 4 t)) (got wholeS inb_S1024x512_S1024x512_0_0 (prev m c t))) ?_ ?_
  · sl_kernel_rfl
  · rw [got_eq, got_eq, got_eq]

/-- A last point of gradient 4 on the run. -/
theorem atL (t : Fin cfg0.N) (h0 : ¬t.val < 16) (h3 : ¬(2 ≤ t.val / 8 % 10 ∧ t.val / 8 % 10 ≤ 3)) (h4 : ¬(4 ≤ t.val / 8 % 10 ∧ t.val / 8 % 10 ≤ 5)) (h5 : (6 ≤ t.val / 8 % 10 ∧ t.val / 8 % 10 ≤ 7)) (h6 : ¬64 ≤ t.val) (h7 : t.val % 8 = 7) (h12 : ¬t.val % 8 = 0) (h13 : 1 ≤ t.val % 8) :
    (outsAt0 (F := Ideal) m c t.val t.isLt).2 = k0_pay12 (iblk m c 0 t) (iblk m c 4 t) (prev m c t) := by
  rw [outsAt0_L m c t h0 h3 h4 h5 h6 h7 h12 h13]
  dsimp only
  unfold sout0_L_0
  refine kept_of _ _ inb_S1024x512_S1024x512_0_0 (k0_pay12 (got (hs0_0 t) inb_S2048x1024_S2048x1024_0_0 (iblk m c 0 t)) (got (hs0_4 t) inb_S2048x512_S2048x512_0_0 (iblk m c 4 t)) (got wholeS inb_S1024x512_S1024x512_0_0 (prev m c t))) ?_ ?_
  · sl_kernel_rfl
  · rw [got_eq, got_eq, got_eq]

/-- A last point of gradient 4 on the run leaves the kept sum in the result's block. -/
theorem outL (t : Fin cfg0.N) (h0 : ¬t.val < 16) (h3 : ¬(2 ≤ t.val / 8 % 10 ∧ t.val / 8 % 10 ≤ 3)) (h4 : ¬(4 ≤ t.val / 8 % 10 ∧ t.val / 8 % 10 ≤ 5)) (h5 : (6 ≤ t.val / 8 % 10 ∧ t.val / 8 % 10 ≤ 7)) (h6 : ¬64 ≤ t.val) (h7 : t.val % 8 = 7) (h12 : ¬t.val % 8 = 0) (h13 : 1 ≤ t.val % 8) :
    (outsAt0 (F := Ideal) m c t.val t.isLt).1 = k0_pay16 ((outsAt0 (F := Ideal) m c t.val t.isLt).2) := by
  rw [atL m c t h0 h3 h4 h5 h6 h7 h12 h13, outsAt0_L m c t h0 h3 h4 h5 h6 h7 h12 h13]
  dsimp only
  unfold out0_L_6
  refine kept_of _ _ inb_S1024x512_S1024x512_0_0 (k0_pay16 (again scM0_0.view inb_S1024x512_S1024x512_0_0 (k0_pay12 (got (hs0_0 t) inb_S2048x1024_S2048x1024_0_0 (iblk m c 0 t)) (got (hs0_4 t) inb_S2048x512_S2048x512_0_0 (iblk m c 4 t)) (got wholeS inb_S1024x512_S1024x512_0_0 (prev m c t))))) ?_ ?_
  · sl_kernel_rfl
  · rw [again_eq, got_eq, got_eq, got_eq]

/-- A first point of gradient 5 on the run. -/
theorem atM (t : Fin cfg0.N) (h0 : ¬t.val < 16) (h3 : ¬(2 ≤ t.val / 8 % 10 ∧ t.val / 8 % 10 ≤ 3)) (h4 : ¬(4 ≤ t.val / 8 % 10 ∧ t.val / 8 % 10 ≤ 5)) (h5 : ¬(6 ≤ t.val / 8 % 10 ∧ t.val / 8 % 10 ≤ 7)) (h6 : 64 ≤ t.val) (h7 : ¬t.val % 8 = 7) (h14 : t.val % 8 = 0) (h15 : ¬1 ≤ t.val % 8) :
    (outsAt0 (F := Ideal) m c t.val t.isLt).2 = k0_pay14 (iblk m c 0 t) (iblk m c 5 t) := by
  rw [outsAt0_M m c t h0 h3 h4 h5 h6 h7 h14 h15]
  dsimp only
  unfold sout0_M_0
  refine kept_of _ _ inb_S1024x512_S1024x512_0_0 (k0_pay14 (got (hs0_0 t) inb_S2048x1024_S2048x1024_0_0 (iblk m c 0 t)) (got (hs0_5 t) inb_S2048x512_S2048x512_0_0 (iblk m c 5 t))) ?_ ?_
  · sl_kernel_rfl
  · rw [got_eq, got_eq]

/-- A middle point of gradient 5 on the run. -/
theorem atN (t : Fin cfg0.N) (h0 : ¬t.val < 16) (h3 : ¬(2 ≤ t.val / 8 % 10 ∧ t.val / 8 % 10 ≤ 3)) (h4 : ¬(4 ≤ t.val / 8 % 10 ∧ t.val / 8 % 10 ≤ 5)) (h5 : ¬(6 ≤ t.val / 8 % 10 ∧ t.val / 8 % 10 ≤ 7)) (h6 : 64 ≤ t.val) (h7 : ¬t.val % 8 = 7) (h14 : ¬t.val % 8 = 0) (h15 : 1 ≤ t.val % 8) :
    (outsAt0 (F := Ideal) m c t.val t.isLt).2 = k0_pay15 (iblk m c 0 t) (iblk m c 5 t) (prev m c t) := by
  rw [outsAt0_N m c t h0 h3 h4 h5 h6 h7 h14 h15]
  dsimp only
  unfold sout0_N_0
  refine kept_of _ _ inb_S1024x512_S1024x512_0_0 (k0_pay15 (got (hs0_0 t) inb_S2048x1024_S2048x1024_0_0 (iblk m c 0 t)) (got (hs0_5 t) inb_S2048x512_S2048x512_0_0 (iblk m c 5 t)) (got wholeS inb_S1024x512_S1024x512_0_0 (prev m c t))) ?_ ?_
  · sl_kernel_rfl
  · rw [got_eq, got_eq, got_eq]

/-- A last point of gradient 5 on the run. -/
theorem atO (t : Fin cfg0.N) (h0 : ¬t.val < 16) (h3 : ¬(2 ≤ t.val / 8 % 10 ∧ t.val / 8 % 10 ≤ 3)) (h4 : ¬(4 ≤ t.val / 8 % 10 ∧ t.val / 8 % 10 ≤ 5)) (h5 : ¬(6 ≤ t.val / 8 % 10 ∧ t.val / 8 % 10 ≤ 7)) (h6 : 64 ≤ t.val) (h7 : t.val % 8 = 7) (h14 : ¬t.val % 8 = 0) (h15 : 1 ≤ t.val % 8) :
    (outsAt0 (F := Ideal) m c t.val t.isLt).2 = k0_pay15 (iblk m c 0 t) (iblk m c 5 t) (prev m c t) := by
  rw [outsAt0_O m c t h0 h3 h4 h5 h6 h7 h14 h15]
  dsimp only
  unfold sout0_O_0
  refine kept_of _ _ inb_S1024x512_S1024x512_0_0 (k0_pay15 (got (hs0_0 t) inb_S2048x1024_S2048x1024_0_0 (iblk m c 0 t)) (got (hs0_5 t) inb_S2048x512_S2048x512_0_0 (iblk m c 5 t)) (got wholeS inb_S1024x512_S1024x512_0_0 (prev m c t))) ?_ ?_
  · sl_kernel_rfl
  · rw [got_eq, got_eq, got_eq]

/-- A last point of gradient 5 on the run leaves the kept sum in the result's block. -/
theorem outO (t : Fin cfg0.N) (h0 : ¬t.val < 16) (h3 : ¬(2 ≤ t.val / 8 % 10 ∧ t.val / 8 % 10 ≤ 3)) (h4 : ¬(4 ≤ t.val / 8 % 10 ∧ t.val / 8 % 10 ≤ 5)) (h5 : ¬(6 ≤ t.val / 8 % 10 ∧ t.val / 8 % 10 ≤ 7)) (h6 : 64 ≤ t.val) (h7 : t.val % 8 = 7) (h14 : ¬t.val % 8 = 0) (h15 : 1 ≤ t.val % 8) :
    (outsAt0 (F := Ideal) m c t.val t.isLt).1 = k0_pay16 ((outsAt0 (F := Ideal) m c t.val t.isLt).2) := by
  rw [atO m c t h0 h3 h4 h5 h6 h7 h14 h15, outsAt0_O m c t h0 h3 h4 h5 h6 h7 h14 h15]
  dsimp only
  unfold out0_O_6
  refine kept_of _ _ inb_S1024x512_S1024x512_0_0 (k0_pay16 (again scM0_0.view inb_S1024x512_S1024x512_0_0 (k0_pay15 (got (hs0_0 t) inb_S2048x1024_S2048x1024_0_0 (iblk m c 0 t)) (got (hs0_5 t) inb_S2048x512_S2048x512_0_0 (iblk m c 5 t)) (got wholeS inb_S1024x512_S1024x512_0_0 (prev m c t))))) ?_ ?_
  · sl_kernel_rfl
  · rw [again_eq, got_eq, got_eq, got_eq]

/-- A first point keeps the sum of its rows. -/
theorem first (t : Fin cfg0.N) (h : t.val % 8 = 0) (p : Fin 1024) (q : Fin 512) :
    ((outsAt0 (F := Ideal) m c t.val t.isLt).2 (ix2 p q) : EReal) = upTo (term m c (1024 * 0 + p.val) (512 * (t.val / 8) + q.val)) (t.val % 8 + 1) := by
  have hN := lt_of_lt_of_eq t.isLt (show cfg0.N = 80 from N_0)
  rw [upTo_succ, show upTo (term m c (1024 * 0 + p.val) (512 * (t.val / 8) + q.val)) (t.val % 8) = 0 by rw [h, upTo_zero], zero_add]
  by_cases c0 : t.val / 8 < 2
  · rw [atA m c t (by omega) (by omega) (by omega) (by omega) (by omega) (by omega) (by omega) (by omega)]
    exact (start0 _ _ p q).trans (part0 m c _ _ _ _ _ p q (fun r => blk0 m c t r p) (fun r => blk1 m c t (by omega) r q))
  by_cases c1 : t.val / 8 < 4
  · rw [atD m c t (by omega) (by omega) (by omega) (by omega) (by omega) (by omega) (by omega) (by omega)]
    exact (start0 _ _ p q).trans (part0 m c _ _ _ _ _ p q (fun r => blk0 m c t r p) (fun r => blk2 m c t (by omega) r q))
  by_cases c2 : t.val / 8 < 6
  · rw [atG m c t (by omega) (by omega) (by omega) (by omega) (by omega) (by omega) (by omega) (by omega)]
    exact (start0 _ _ p q).trans (part0 m c _ _ _ _ _ p q (fun r => blk0 m c t r p) (fun r => blk3 m c t (by omega) r q))
  by_cases c3 : t.val / 8 < 8
  · rw [atJ m c t (by omega) (by omega) (by omega) (by omega) (by omega) (by omega) (by omega) (by omega)]
    exact (start0 _ _ p q).trans (part0 m c _ _ _ _ _ p q (fun r => blk0 m c t r p) (fun r => blk4 m c t (by omega) r q))
  rw [atM m c t (by omega) (by omega) (by omega) (by omega) (by omega) (by omega) (by omega) (by omega)]
  exact (start0 _ _ p q).trans (part0 m c _ _ _ _ _ p q (fun r => blk0 m c t r p) (fun r => blk5 m c t (by omega) r q))

/-- A later point adds its rows to the kept sum. -/
theorem later (t : Fin cfg0.N) (h : ¬t.val % 8 = 0) (p : Fin 1024) (q : Fin 512)
    (ih : ((prev m c t) (ix2 p q) : EReal) = upTo (term m c (1024 * 0 + p.val) (512 * ((t.val - 1) / 8) + q.val)) ((t.val - 1) % 8 + 1)) :
    ((outsAt0 (F := Ideal) m c t.val t.isLt).2 (ix2 p q) : EReal) = upTo (term m c (1024 * 0 + p.val) (512 * (t.val / 8) + q.val)) (t.val % 8 + 1) := by
  have hN := lt_of_lt_of_eq t.isLt (show cfg0.N = 80 from N_0)
  rw [show (t.val - 1) / 8 = t.val / 8 by omega, show (t.val - 1) % 8 + 1 = t.val % 8 by omega] at ih
  rw [upTo_succ, ← ih]
  by_cases h7 : t.val % 8 = 7
  · by_cases c0 : t.val / 8 < 2
    · rw [atC m c t (by omega) (by omega) (by omega) (by omega) (by omega) (by omega) (by omega) (by omega)]
      exact (more0 _ _ _ p q).trans (congrArg (_ + ·) (part0 m c _ _ _ _ _ p q (fun r => blk0 m c t r p) (fun r => blk1 m c t (by omega) r q)))
    by_cases c1 : t.val / 8 < 4
    · rw [atF m c t (by omega) (by omega) (by omega) (by omega) (by omega) (by omega) (by omega) (by omega)]
      exact (more0 _ _ _ p q).trans (congrArg (_ + ·) (part0 m c _ _ _ _ _ p q (fun r => blk0 m c t r p) (fun r => blk2 m c t (by omega) r q)))
    by_cases c2 : t.val / 8 < 6
    · rw [atI m c t (by omega) (by omega) (by omega) (by omega) (by omega) (by omega) (by omega) (by omega)]
      exact (more0 _ _ _ p q).trans (congrArg (_ + ·) (part0 m c _ _ _ _ _ p q (fun r => blk0 m c t r p) (fun r => blk3 m c t (by omega) r q)))
    by_cases c3 : t.val / 8 < 8
    · rw [atL m c t (by omega) (by omega) (by omega) (by omega) (by omega) (by omega) (by omega) (by omega)]
      exact (more0 _ _ _ p q).trans (congrArg (_ + ·) (part0 m c _ _ _ _ _ p q (fun r => blk0 m c t r p) (fun r => blk4 m c t (by omega) r q)))
    rw [atO m c t (by omega) (by omega) (by omega) (by omega) (by omega) (by omega) (by omega) (by omega)]
    exact (more0 _ _ _ p q).trans (congrArg (_ + ·) (part0 m c _ _ _ _ _ p q (fun r => blk0 m c t r p) (fun r => blk5 m c t (by omega) r q)))
  · by_cases c0 : t.val / 8 < 2
    · rw [atB m c t (by omega) (by omega) (by omega) (by omega) (by omega) (by omega) (by omega) (by omega)]
      exact (more0 _ _ _ p q).trans (congrArg (_ + ·) (part0 m c _ _ _ _ _ p q (fun r => blk0 m c t r p) (fun r => blk1 m c t (by omega) r q)))
    by_cases c1 : t.val / 8 < 4
    · rw [atE m c t (by omega) (by omega) (by omega) (by omega) (by omega) (by omega) (by omega) (by omega)]
      exact (more0 _ _ _ p q).trans (congrArg (_ + ·) (part0 m c _ _ _ _ _ p q (fun r => blk0 m c t r p) (fun r => blk2 m c t (by omega) r q)))
    by_cases c2 : t.val / 8 < 6
    · rw [atH m c t (by omega) (by omega) (by omega) (by omega) (by omega) (by omega) (by omega) (by omega)]
      exact (more0 _ _ _ p q).trans (congrArg (_ + ·) (part0 m c _ _ _ _ _ p q (fun r => blk0 m c t r p) (fun r => blk3 m c t (by omega) r q)))
    by_cases c3 : t.val / 8 < 8
    · rw [atK m c t (by omega) (by omega) (by omega) (by omega) (by omega) (by omega) (by omega) (by omega)]
      exact (more0 _ _ _ p q).trans (congrArg (_ + ·) (part0 m c _ _ _ _ _ p q (fun r => blk0 m c t r p) (fun r => blk4 m c t (by omega) r q)))
    rw [atN m c t (by omega) (by omega) (by omega) (by omega) (by omega) (by omega) (by omega) (by omega)]
    exact (more0 _ _ _ p q).trans (congrArg (_ + ·) (part0 m c _ _ _ _ _ p q (fun r => blk0 m c t r p) (fun r => blk5 m c t (by omega) r q)))

/-- Every point keeps the sum of the rows up to its own. -/
theorem kept : ∀ (n : ℕ) (hn : n < cfg0.N) (p : Fin 1024) (q : Fin 512), ((outsAt0 (F := Ideal) m c n hn).2 (ix2 p q) : EReal) = upTo (term m c (1024 * 0 + p.val) (512 * (n / 8) + q.val)) (n % 8 + 1)
  | 0, hn, p, q => first m c ⟨0, hn⟩ rfl p q
  | n + 1, hn, p, q => by
    by_cases h : (n + 1) % 8 = 0
    · exact first m c ⟨n + 1, hn⟩ h p q
    · exact later m c ⟨n + 1, hn⟩ h p q (kept n (Nat.lt_of_succ_lt hn) p q)

/-- A last point leaves the whole sum. -/
theorem done (t : Fin cfg0.N) (h : t.val % 8 = 7) (p : Fin 1024) (q : Fin 512) :
    ((outsAt0 (F := Ideal) m c t.val t.isLt).1 (ix2 p q) : EReal) = ∑ k : Fin 16384, term m c (1024 * 0 + p.val) (512 * (t.val / 8) + q.val) k := by
  have hN := lt_of_lt_of_eq t.isLt (show cfg0.N = 80 from N_0)
  rw [← upTo_all]
  have e := kept m c t.val t.isLt p q
  rw [h] at e
  by_cases c0 : t.val / 8 < 2
  · rw [outC m c t (by omega) (by omega) (by omega) (by omega) (by omega) (by omega) (by omega) (by omega)]
    exact (last _ p q).trans e
  by_cases c1 : t.val / 8 < 4
  · rw [outF m c t (by omega) (by omega) (by omega) (by omega) (by omega) (by omega) (by omega) (by omega)]
    exact (last _ p q).trans e
  by_cases c2 : t.val / 8 < 6
  · rw [outI m c t (by omega) (by omega) (by omega) (by omega) (by omega) (by omega) (by omega) (by omega)]
    exact (last _ p q).trans e
  by_cases c3 : t.val / 8 < 8
  · rw [outL m c t (by omega) (by omega) (by omega) (by omega) (by omega) (by omega) (by omega) (by omega)]
    exact (last _ p q).trans e
  rw [outO m c t (by omega) (by omega) (by omega) (by omega) (by omega) (by omega) (by omega) (by omega)]
  exact (last _ p q).trans e

/-- What the kernel leaves in its result. -/
theorem G_eq : G6 (F := Ideal) m c = fun i => ∑ k : Fin 16384, term m c (i 0).val (i 1).val k := by
  funext i
  have h0 : (i 0).val < 1024 := (i 0).isLt
  have h1 : (i 1).val < 5120 := (i 1).isLt
  have hp : pt6Of i = 8 * ((i 1).val / 512) + 7 := by
    show 8 * (10 * ((i 0).val / 1024 - 0) + 1 * ((i 1).val / 512 - 0)) + 7 = _
    omega
  have hN : pt6Of i < cfg0.N := lt_of_lt_of_eq (by rw [hp]; omega) (show 80 = cfg0.N from N_0.symm)
  have hl : loc6Of i = ix2 ⟨(i 0).val % 1024, Nat.mod_lt _ (by decide)⟩ ⟨(i 1).val % 512, Nat.mod_lt _ (by decide)⟩ := ValueIdx.eq_ix2 _
  unfold G6
  rw [dif_pos hN, ← outsAt0_sweep m c (pt6Of i) hN, hl]
  refine (done m c ⟨pt6Of i, hN⟩ (by show pt6Of i % 8 = 7; rw [hp]; omega) _ _).trans (Finset.sum_congr rfl fun k _ => ?_)
  have e0 : 1024 * 0 + (i 0).val % 1024 = (i 0).val := by omega
  have e1 : 512 * ((pt6Of i) / 8) + (i 1).val % 512 = (i 1).val := by rw [hp]; omega
  exact congrArg₂ (fun a b => term m c a b k) e0 e1

end Cert.Kernel7Ideal.Dw

end
-- ==== Proof.DwMixInEq.lean ====
module

public import proofs.«01_k».proof.Defs
public import proofs.«01_k».proof.Proof.DwMixIn
public import proofs.«01_k».proof.Proof.Gen.Reference7Ideal.Run
public import proofs.«01_k».proof.Proof.Gen.Reference7Ideal.Read

@[expose] public section

/-! The reference of the weight gradient at `Kernel7Ideal`, and that both compute the same. -/

noncomputable section

namespace Cert.Reference7Ideal.Dw

open Idealize.ShloMosaic Idealize.ShloMosaic.TcCoe Idealize.SL.Sem Cert.Reference7Ideal.Gen Cert.Reference7Ideal.Read Idealize.ShloMosaic.Pointwise

/-- Row `k`, column `q` of the incoming gradients side by side. -/
def side (x1 : (⟨S16384x1024, .bf16⟩ : BufTy).Contents (Elt Ideal)) (x2 : (⟨S16384x1024, .bf16⟩ : BufTy).Contents (Elt Ideal)) (x3 : (⟨S16384x1024, .bf16⟩ : BufTy).Contents (Elt Ideal)) (x4 : (⟨S16384x1024, .bf16⟩ : BufTy).Contents (Elt Ideal)) (x5 : (⟨S16384x1024, .bf16⟩ : BufTy).Contents (Elt Ideal)) (k : Fin 16384) (q : ℕ) : EReal := if q < 1024 then x1 (ix2 k ⟨(q - 0) % 1024, Nat.mod_lt _ (by decide)⟩) else if q < 2048 then x2 (ix2 k ⟨(q - 1024) % 1024, Nat.mod_lt _ (by decide)⟩) else if q < 3072 then x3 (ix2 k ⟨(q - 2048) % 1024, Nat.mod_lt _ (by decide)⟩) else if q < 4096 then x4 (ix2 k ⟨(q - 3072) % 1024, Nat.mod_lt _ (by decide)⟩) else x5 (ix2 k ⟨(q - 4096) % 1024, Nat.mod_lt _ (by decide)⟩)

/-- It depends on the gradients alone. -/
theorem side_congr {x1 z1 : (⟨S16384x1024, .bf16⟩ : BufTy).Contents (Elt Ideal)} {x2 z2 : (⟨S16384x1024, .bf16⟩ : BufTy).Contents (Elt Ideal)} {x3 z3 : (⟨S16384x1024, .bf16⟩ : BufTy).Contents (Elt Ideal)} {x4 z4 : (⟨S16384x1024, .bf16⟩ : BufTy).Contents (Elt Ideal)} {x5 z5 : (⟨S16384x1024, .bf16⟩ : BufTy).Contents (Elt Ideal)} (h1 : x1 = z1) (h2 : x2 = z2) (h3 : x3 = z3) (h4 : x4 = z4) (h5 : x5 = z5) (k : Fin 16384) (q : ℕ) :
    side x1 x2 x3 x4 x5 k q = side z1 z2 z3 z4 z5 k q := by
  subst h1 h2 h3 h4 h5
  rfl

/-- The gradients put side by side. -/
theorem beside (x1 : (⟨S16384x1024, .bf16⟩ : BufTy).Contents (Elt Ideal)) (x2 : (⟨S16384x1024, .bf16⟩ : BufTy).Contents (Elt Ideal)) (x3 : (⟨S16384x1024, .bf16⟩ : BufTy).Contents (Elt Ideal)) (x4 : (⟨S16384x1024, .bf16⟩ : BufTy).Contents (Elt Ideal)) (x5 : (⟨S16384x1024, .bf16⟩ : BufTy).Contents (Elt Ideal)) (k : Fin 16384) (q : Fin 5120) : (val_main_v1 (F := Ideal) x1 x2 x3 x4 x5 (ix2 k q) : EReal) = side x1 x2 x3 x4 x5 k q.val := by
  have hq := q.isLt
  unfold val_main_v1 side
  pointwise
  by_cases h0 : q.val < 1024
  · refine (dif_pos h0).trans (Eq.trans ?_ (if_pos (show q.val < 1024 by omega)).symm)
    exact congrArg (fun b => x1 (ix2 k b)) (Fin.ext (by show q.val = (q.val - 0) % 1024; omega))
  · refine (dif_neg h0).trans (Eq.trans ?_ (if_neg (show ¬q.val < 1024 by omega)).symm)
    by_cases h1 : q.val - 1024 < 1024
    · refine (dif_pos h1).trans (Eq.trans ?_ (if_pos (show q.val < 2048 by omega)).symm)
      exact congrArg (fun b => x2 (ix2 k b)) (Fin.ext (by show q.val - 1024 = (q.val - 1024) % 1024; omega))
    · refine (dif_neg h1).trans (Eq.trans ?_ (if_neg (show ¬q.val < 2048 by omega)).symm)
      by_cases h2 : q.val - 1024 - 1024 < 1024
      · refine (dif_pos h2).trans (Eq.trans ?_ (if_pos (show q.val < 3072 by omega)).symm)
        exact congrArg (fun b => x3 (ix2 k b)) (Fin.ext (by show q.val - 1024 - 1024 = (q.val - 2048) % 1024; omega))
      · refine (dif_neg h2).trans (Eq.trans ?_ (if_neg (show ¬q.val < 3072 by omega)).symm)
        by_cases h3 : q.val - 1024 - 1024 - 1024 < 1024
        · refine (dif_pos h3).trans (Eq.trans ?_ (if_pos (show q.val < 4096 by omega)).symm)
          exact congrArg (fun b => x4 (ix2 k b)) (Fin.ext (by show q.val - 1024 - 1024 - 1024 = (q.val - 3072) % 1024; omega))
        · refine (dif_neg h3).trans (Eq.trans ?_ (if_neg (show ¬q.val < 4096 by omega)).symm)
          exact congrArg (fun b => x5 (ix2 k b)) (Fin.ext (by show q.val - 1024 - 1024 - 1024 - 1024 = (q.val - 4096) % 1024; omega))

/-- The reference's entries. -/
theorem entry (x0 : (⟨S16384x1024, .bf16⟩ : BufTy).Contents (Elt Ideal)) (x1 : (⟨S16384x1024, .bf16⟩ : BufTy).Contents (Elt Ideal)) (x2 : (⟨S16384x1024, .bf16⟩ : BufTy).Contents (Elt Ideal)) (x3 : (⟨S16384x1024, .bf16⟩ : BufTy).Contents (Elt Ideal)) (x4 : (⟨S16384x1024, .bf16⟩ : BufTy).Contents (Elt Ideal)) (x5 : (⟨S16384x1024, .bf16⟩ : BufTy).Contents (Elt Ideal)) (p : Fin 1024) (q : Fin 5120) :
    (val_main_v5 (F := Ideal) x0 x1 x2 x3 x4 x5 (ix2 p q) : EReal) = ∑ k : Fin 16384, side x1 x2 x3 x4 x5 k q.val * x0 (ix2 k p) := by
  have hq := q.isLt
  unfold val_main_v5 val_main_v4 val_main_v3 val_main_v2 val_main_v0
  pointwise
  exact Finset.sum_congr rfl fun k _ => congrArg (fun b : EReal => b * x0 (ix2 k p)) (beside x1 x2 x3 x4 x5 k q)

/-- The reference ends with its arguments unchanged and every counter at zero. -/
theorem frame : Cert.quiescent_Reference7Ideal (hReference7Ideal := Cert.Reference7Ideal.Gen.facts) := fun m ρ _ =>
  (θ_run Cert.Reference7Ideal.defs _ _).mono
    (fun r h => ⟨fun c => (h c).2, Idealize.ShloMosaic.sem_eq_zero_of_no_sems (by decide) r.2⟩) (Cert.Reference7Ideal.Value.run m ρ)

/-- The kernel and the reference compute the same weight gradient. -/
theorem values : Cert.algebraic_Kernel7Ideal_Reference7Ideal (hKernel7Ideal := Cert.Kernel7Ideal.Gen.facts) (hReference7Ideal := Cert.Reference7Ideal.Gen.facts) := by
  intro m ρ m' ρ' _ hag
  refine ⟨fun c => Cert.Kernel7Ideal.Value.G6 (F := Ideal) m c, (θ_run _ _ _).mono (fun _ h c => h c) (Cert.Kernel7Ideal.Value.run (F := Ideal) m ρ),
    (θ_run _ _ _).mono (fun _ h c => ⟨(h c).1.trans ?_, (h c).2⟩) (Cert.Reference7Ideal.Value.run (F := Ideal) m' ρ')⟩
  obtain ⟨e0, e1, e2, e3, e4, e5⟩ := hag c
  refine (val_main_v5_eq (F := Ideal) _ _ _ _ _ _).trans ?_
  refine Eq.trans ?_ (Cert.Kernel7Ideal.Dw.G_eq m c).symm
  funext i
  have h0 : (i 0).val < 1024 := (i 0).isLt
  refine (congrArg _ (ValueIdx.eq_ix2 i)).trans ((entry _ _ _ _ _ _ (i 0) (i 1)).trans (Finset.sum_congr rfl fun k _ => (mul_comm _ _).trans ?_))
  refine congrArg₂ (fun a b : EReal => a * b) ((congrFun e0 _).trans ?_) (side_congr e1 e2 e3 e4 e5 k (i 1).val)
  exact congrArg (fun b => Cert.Kernel7Ideal.Dw.xA m c (ix2 k b)) (Fin.ext (Nat.mod_eq_of_lt h0).symm)

end Cert.Reference7Ideal.Dw

end
-- ==== Proof.DwMixOut.lean ====
module

public import proofs.«01_k».proof.Proof.Sums
public import proofs.«01_k».proof.Proof.Stores
public import proofs.«01_k».proof.Proof.Gen.Kernel8Ideal.Value

@[expose] public section

/-! The weight gradient of the call at `Kernel8Ideal`: its result is the product of the transposed input with the incoming
gradients, each entry a sum over the 16384 rows that the kernel takes 2048 at a time. -/

set_option maxRecDepth 16384

noncomputable section

namespace Cert.Kernel8Ideal.Dw

open Idealize.ShloMosaic Idealize.ShloMosaic.Tactic Idealize.ShloMosaic.TcCoe Cert.Kernel8Ideal.Gen Cert.Kernel8Ideal.Value Idealize.ShloMosaic.Pointwise Cert.Rows Cert.Stores

variable (m : (ℓ : Loc nD τ sig) → Buf (Elt Ideal) ℓ) (c : Dev nD)

/-- The input whose transpose is multiplied. -/
abbrev xA : S16384x1024.Idx → EReal := m ((c : Thread nD τ).loc main_arg0)

/-- Incoming gradient 1 of 1. -/
abbrev y0A : S16384x1024.Idx → EReal := m ((c : Thread nD τ).loc main_arg1)

/-- Row `k`, column `p` of the input. -/
def xv (k : Fin 16384) (p : ℕ) : EReal := xA m c (ix2 k ⟨p % 1024, Nat.mod_lt _ (by decide)⟩)

/-- Row `k`, column `q` of the incoming gradients side by side. -/
def yv (k : Fin 16384) (q : ℕ) : EReal := y0A m c (ix2 k ⟨(q - 0) % 1024, Nat.mod_lt _ (by decide)⟩)

/-- The products that entry `(p, q)` of the weight gradient sums. -/
def term (p q : ℕ) (k : Fin 16384) : EReal := xv m c k p * yv m c k q

/-- The input's block at a point. -/
theorem idx0 : ∀ t : Fin cfg0.N, win0_0.index t (0 : Fin 2) = t.val % 8 ∧ win0_0.index t (1 : Fin 2) = 0 := (by decide +kernel : ∀ t : Fin grid0.N, _)

/-- The input's block holds its rows. -/
theorem blk0 (t : Fin cfg0.N) (r : Fin 2048) (p : Fin 1024) : (iblk m c 0 t (ix2 r p) : EReal) = xv m c (row (2048 * (t.val % 8) + r.val)) (1024 * 0 + p.val) := by
  have hN := lt_of_lt_of_eq t.isLt (show cfg0.N = 8 from N_0)
  show V m c main_arg0 (((cfg0.win 0).blk t).view.emb (ix2 r p)) = _
  rw [V_main_arg0]
  obtain ⟨e0, e1⟩ := idx0 t
  refine congrArg (xA m c) (funext fun b => Fin.ext ?_)
  have hr := r.isLt
  have hp := p.isLt
  match b with
  | ⟨0, _⟩ => show win0_0.index t (0 : Fin 2) * 2048 + 1 * r.val = (2048 * (t.val % 8) + r.val) % 16384; omega
  | ⟨1, _⟩ => show win0_0.index t (1 : Fin 2) * 1024 + 1 * p.val = (1024 * 0 + p.val) % 1024; omega

/-- Gradient 1's block at a point that reads it. -/
theorem idx1 : ∀ t : Fin cfg0.N, win0_1.index t (0 : Fin 2) = t.val % 8 ∧ win0_1.index t (1 : Fin 2) = t.val / 8 := (by decide +kernel : ∀ t : Fin grid0.N, _)

/-- Gradient 1's block holds its rows. -/
theorem blk1 (t : Fin cfg0.N) (r : Fin 2048) (q : Fin 1024) : (iblk m c 1 t (ix2 r q) : EReal) = yv m c (row (2048 * (t.val % 8) + r.val)) (1024 * (t.val / 8) + q.val) := by
  have hN := lt_of_lt_of_eq t.isLt (show cfg0.N = 8 from N_0)
  have hr := r.isLt
  have hq := q.isLt
  show V m c main_arg1 (((cfg0.win 1).blk t).view.emb (ix2 r q)) = _
  rw [V_main_arg1]
  obtain ⟨e0, e1⟩ := idx1 t
  unfold yv
  refine congrArg (y0A m c) (funext fun b => Fin.ext ?_)
  match b with
  | ⟨0, _⟩ => show win0_1.index t (0 : Fin 2) * 2048 + 1 * r.val = (2048 * (t.val % 8) + r.val) % 16384; omega
  | ⟨1, _⟩ => show win0_1.index t (1 : Fin 2) * 1024 + 1 * q.val = (1024 * (t.val / 8) + q.val - 0) % 1024; omega

/-- One point's product. -/
theorem prod0 (a : Vec Ideal S2048x1024 .bf16) (b : Vec Ideal S2048x1024 .bf16) (p : Fin 1024) (q : Fin 1024) : (k0_pay1 a b (ix2 p q) : EReal) = ∑ r : Fin 2048, a (ix2 r p) * b (ix2 r q) := by
  unfold k0_pay1
  pointwise

/-- What a first point stores. -/
theorem start0 (a : Vec Ideal S2048x1024 .bf16) (b : Vec Ideal S2048x1024 .bf16) (p : Fin 1024) (q : Fin 1024) : (k0_pay2 a b (ix2 p q) : EReal) = ∑ r : Fin 2048, a (ix2 r p) * b (ix2 r q) := by
  unfold k0_pay2
  pointwise
  exact prod0 a b p q

/-- What a later point stores. -/
theorem more0 (a : Vec Ideal S2048x1024 .bf16) (b : Vec Ideal S2048x1024 .bf16) (w : Vec Ideal S1024x1024 .f32) (p : Fin 1024) (q : Fin 1024) :
    (k0_pay3 a b w (ix2 p q) : EReal) = w (ix2 p q) + ∑ r : Fin 2048, a (ix2 r p) * b (ix2 r q) := by
  unfold k0_pay3
  pointwise
  exact congrArg (w (ix2 p q) + ·) (prod0 a b p q)

/-- One point's part of the sum. -/
theorem part0 (n P Q : ℕ) (a : Vec Ideal S2048x1024 .bf16) (b : Vec Ideal S2048x1024 .bf16) (p : Fin 1024) (q : Fin 1024)
    (ha : ∀ r : Fin 2048, (a (ix2 r p) : EReal) = xv m c (row (2048 * n + r.val)) P) (hb : ∀ r : Fin 2048, (b (ix2 r q) : EReal) = yv m c (row (2048 * n + r.val)) Q) :
    ∑ r : Fin 2048, a (ix2 r p) * b (ix2 r q) = ∑ r : Fin 2048, term m c P Q (row (2048 * n + r.val)) :=
  Finset.sum_congr rfl fun r _ => congrArg₂ (fun x y : EReal => x * y) (ha r) (hb r)

/-- The stored result is the kept sum. -/
theorem last (w : Vec Ideal S1024x1024 .f32) (p : Fin 1024) (q : Fin 1024) : (k0_pay4 w (ix2 p q) : EReal) = w (ix2 p q) := by
  unfold k0_pay4
  pointwise

/-- The buffer of the kept sum is whole. -/
theorem wholeS : scM0_0.IsWhole := Memref.isWhole_whole _

/-- The sum kept before a point. -/
abbrev prev (t : Fin cfg0.N) : Vec Ideal S1024x1024 .f32 := (outsAt0 (F := Ideal) m c (t.val - 1) (Nat.lt_of_le_of_lt (Nat.sub_le _ _) t.isLt)).2

/-- A first point of gradient 1 on the run. -/
theorem atA (t : Fin cfg0.N) (h0 : t.val % 8 = 0) (h1 : ¬1 ≤ t.val) (h2 : ¬t.val % 8 = 7) :
    (outsAt0 (F := Ideal) m c t.val t.isLt).2 = k0_pay2 (iblk m c 0 t) (iblk m c 1 t) := by
  rw [outsAt0_A m c t h0 h1 h2]
  dsimp only
  unfold sout0_A_0
  refine kept_of _ _ inb_S1024x1024_S1024x1024_0_0 (k0_pay2 (got (hs0_0 t) inb_S2048x1024_S2048x1024_0_0 (iblk m c 0 t)) (got (hs0_1 t) inb_S2048x1024_S2048x1024_0_0 (iblk m c 1 t))) ?_ ?_
  · sl_kernel_rfl
  · rw [got_eq, got_eq]

/-- A middle point of gradient 1 on the run. -/
theorem atB (t : Fin cfg0.N) (h0 : ¬t.val % 8 = 0) (h1 : 1 ≤ t.val) (h2 : ¬t.val % 8 = 7) :
    (outsAt0 (F := Ideal) m c t.val t.isLt).2 = k0_pay3 (iblk m c 0 t) (iblk m c 1 t) (prev m c t) := by
  rw [outsAt0_B m c t h0 h1 h2]
  dsimp only
  unfold sout0_B_0
  refine kept_of _ _ inb_S1024x1024_S1024x1024_0_0 (k0_pay3 (got (hs0_0 t) inb_S2048x1024_S2048x1024_0_0 (iblk m c 0 t)) (got (hs0_1 t) inb_S2048x1024_S2048x1024_0_0 (iblk m c 1 t)) (got wholeS inb_S1024x1024_S1024x1024_0_0 (prev m c t))) ?_ ?_
  · sl_kernel_rfl
  · rw [got_eq, got_eq, got_eq]

/-- A last point of gradient 1 on the run. -/
theorem atC (t : Fin cfg0.N) (h0 : ¬t.val % 8 = 0) (h1 : 1 ≤ t.val) (h2 : t.val % 8 = 7) :
    (outsAt0 (F := Ideal) m c t.val t.isLt).2 = k0_pay3 (iblk m c 0 t) (iblk m c 1 t) (prev m c t) := by
  rw [outsAt0_C m c t h0 h1 h2]
  dsimp only
  unfold sout0_C_0
  refine kept_of _ _ inb_S1024x1024_S1024x1024_0_0 (k0_pay3 (got (hs0_0 t) inb_S2048x1024_S2048x1024_0_0 (iblk m c 0 t)) (got (hs0_1 t) inb_S2048x1024_S2048x1024_0_0 (iblk m c 1 t)) (got wholeS inb_S1024x1024_S1024x1024_0_0 (prev m c t))) ?_ ?_
  · sl_kernel_rfl
  · rw [got_eq, got_eq, got_eq]

/-- A last point of gradient 1 on the run leaves the kept sum in the result's block. -/
theorem outC (t : Fin cfg0.N) (h0 : ¬t.val % 8 = 0) (h1 : 1 ≤ t.val) (h2 : t.val % 8 = 7) :
    (outsAt0 (F := Ideal) m c t.val t.isLt).1 = k0_pay4 ((outsAt0 (F := Ideal) m c t.val t.isLt).2) := by
  rw [atC m c t h0 h1 h2, outsAt0_C m c t h0 h1 h2]
  dsimp only
  unfold out0_C_2
  refine kept_of _ _ inb_S1024x1024_S1024x1024_0_0 (k0_pay4 (again scM0_0.view inb_S1024x1024_S1024x1024_0_0 (k0_pay3 (got (hs0_0 t) inb_S2048x1024_S2048x1024_0_0 (iblk m c 0 t)) (got (hs0_1 t) inb_S2048x1024_S2048x1024_0_0 (iblk m c 1 t)) (got wholeS inb_S1024x1024_S1024x1024_0_0 (prev m c t))))) ?_ ?_
  · sl_kernel_rfl
  · rw [again_eq, got_eq, got_eq, got_eq]

/-- A first point keeps the sum of its rows. -/
theorem first (t : Fin cfg0.N) (h : t.val % 8 = 0) (p : Fin 1024) (q : Fin 1024) :
    ((outsAt0 (F := Ideal) m c t.val t.isLt).2 (ix2 p q) : EReal) = upTo (term m c (1024 * 0 + p.val) (1024 * (t.val / 8) + q.val)) (t.val % 8 + 1) := by
  have hN := lt_of_lt_of_eq t.isLt (show cfg0.N = 8 from N_0)
  rw [upTo_succ, show upTo (term m c (1024 * 0 + p.val) (1024 * (t.val / 8) + q.val)) (t.val % 8) = 0 by rw [h, upTo_zero], zero_add]
  rw [atA m c t (by omega) (by omega) (by omega)]
  exact (start0 _ _ p q).trans (part0 m c _ _ _ _ _ p q (fun r => blk0 m c t r p) (fun r => blk1 m c t r q))

/-- A later point adds its rows to the kept sum. -/
theorem later (t : Fin cfg0.N) (h : ¬t.val % 8 = 0) (p : Fin 1024) (q : Fin 1024)
    (ih : ((prev m c t) (ix2 p q) : EReal) = upTo (term m c (1024 * 0 + p.val) (1024 * ((t.val - 1) / 8) + q.val)) ((t.val - 1) % 8 + 1)) :
    ((outsAt0 (F := Ideal) m c t.val t.isLt).2 (ix2 p q) : EReal) = upTo (term m c (1024 * 0 + p.val) (1024 * (t.val / 8) + q.val)) (t.val % 8 + 1) := by
  have hN := lt_of_lt_of_eq t.isLt (show cfg0.N = 8 from N_0)
  rw [show (t.val - 1) / 8 = t.val / 8 by omega, show (t.val - 1) % 8 + 1 = t.val % 8 by omega] at ih
  rw [upTo_succ, ← ih]
  by_cases h7 : t.val % 8 = 7
  · rw [atC m c t (by omega) (by omega) (by omega)]
    exact (more0 _ _ _ p q).trans (congrArg (_ + ·) (part0 m c _ _ _ _ _ p q (fun r => blk0 m c t r p) (fun r => blk1 m c t r q)))
  · rw [atB m c t (by omega) (by omega) (by omega)]
    exact (more0 _ _ _ p q).trans (congrArg (_ + ·) (part0 m c _ _ _ _ _ p q (fun r => blk0 m c t r p) (fun r => blk1 m c t r q)))

/-- Every point keeps the sum of the rows up to its own. -/
theorem kept : ∀ (n : ℕ) (hn : n < cfg0.N) (p : Fin 1024) (q : Fin 1024), ((outsAt0 (F := Ideal) m c n hn).2 (ix2 p q) : EReal) = upTo (term m c (1024 * 0 + p.val) (1024 * (n / 8) + q.val)) (n % 8 + 1)
  | 0, hn, p, q => first m c ⟨0, hn⟩ rfl p q
  | n + 1, hn, p, q => by
    by_cases h : (n + 1) % 8 = 0
    · exact first m c ⟨n + 1, hn⟩ h p q
    · exact later m c ⟨n + 1, hn⟩ h p q (kept n (Nat.lt_of_succ_lt hn) p q)

/-- A last point leaves the whole sum. -/
theorem done (t : Fin cfg0.N) (h : t.val % 8 = 7) (p : Fin 1024) (q : Fin 1024) :
    ((outsAt0 (F := Ideal) m c t.val t.isLt).1 (ix2 p q) : EReal) = ∑ k : Fin 16384, term m c (1024 * 0 + p.val) (1024 * (t.val / 8) + q.val) k := by
  have hN := lt_of_lt_of_eq t.isLt (show cfg0.N = 8 from N_0)
  rw [← upTo_all]
  have e := kept m c t.val t.isLt p q
  rw [h] at e
  rw [outC m c t (by omega) (by omega) (by omega)]
  exact (last _ p q).trans e

/-- What the kernel leaves in its result. -/
theorem G_eq : G2 (F := Ideal) m c = fun i => ∑ k : Fin 16384, term m c (i 0).val (i 1).val k := by
  funext i
  have h0 : (i 0).val < 1024 := (i 0).isLt
  have h1 : (i 1).val < 1024 := (i 1).isLt
  have hp : pt2Of i = 8 * ((i 1).val / 1024) + 7 := by
    show 8 * (1 * ((i 0).val / 1024 - 0) + 1 * ((i 1).val / 1024 - 0)) + 7 = _
    omega
  have hN : pt2Of i < cfg0.N := lt_of_lt_of_eq (by rw [hp]; omega) (show 8 = cfg0.N from N_0.symm)
  have hl : loc2Of i = ix2 ⟨(i 0).val % 1024, Nat.mod_lt _ (by decide)⟩ ⟨(i 1).val % 1024, Nat.mod_lt _ (by decide)⟩ := ValueIdx.eq_ix2 _
  unfold G2
  rw [dif_pos hN, ← outsAt0_sweep m c (pt2Of i) hN, hl]
  refine (done m c ⟨pt2Of i, hN⟩ (by show pt2Of i % 8 = 7; rw [hp]; omega) _ _).trans (Finset.sum_congr rfl fun k _ => ?_)
  have e0 : 1024 * 0 + (i 0).val % 1024 = (i 0).val := by omega
  have e1 : 1024 * ((pt2Of i) / 8) + (i 1).val % 1024 = (i 1).val := by rw [hp]; omega
  exact congrArg₂ (fun a b => term m c a b k) e0 e1

end Cert.Kernel8Ideal.Dw

end
-- ==== Proof.DwMixOutEq.lean ====
module

public import proofs.«01_k».proof.Defs
public import proofs.«01_k».proof.Proof.DwMixOut
public import proofs.«01_k».proof.Proof.Gen.Reference8Ideal.Run
public import proofs.«01_k».proof.Proof.Gen.Reference8Ideal.Read

@[expose] public section

/-! The reference of the weight gradient at `Kernel8Ideal`, and that both compute the same. -/

noncomputable section

namespace Cert.Reference8Ideal.Dw

open Idealize.ShloMosaic Idealize.ShloMosaic.TcCoe Idealize.SL.Sem Cert.Reference8Ideal.Gen Cert.Reference8Ideal.Read Idealize.ShloMosaic.Pointwise

/-- Row `k`, column `q` of the incoming gradients side by side. -/
def side (x1 : (⟨S16384x1024, .bf16⟩ : BufTy).Contents (Elt Ideal)) (k : Fin 16384) (q : ℕ) : EReal := x1 (ix2 k ⟨(q - 0) % 1024, Nat.mod_lt _ (by decide)⟩)

/-- It depends on the gradients alone. -/
theorem side_congr {x1 z1 : (⟨S16384x1024, .bf16⟩ : BufTy).Contents (Elt Ideal)} (h1 : x1 = z1) (k : Fin 16384) (q : ℕ) :
    side x1 k q = side z1 k q := by
  subst h1
  rfl

/-- The reference's entries. -/
theorem entry (x0 : (⟨S16384x1024, .bf16⟩ : BufTy).Contents (Elt Ideal)) (x1 : (⟨S16384x1024, .bf16⟩ : BufTy).Contents (Elt Ideal)) (p : Fin 1024) (q : Fin 1024) :
    (val_main_v4 (F := Ideal) x0 x1 (ix2 p q) : EReal) = ∑ k : Fin 16384, side x1 k q.val * x0 (ix2 k p) := by
  have hq := q.isLt
  unfold val_main_v4 val_main_v3 val_main_v2 val_main_v1 val_main_v0
  pointwise
  exact Finset.sum_congr rfl fun k _ => congrArg (fun b : Fin 1024 => (x1 (ix2 k b) : EReal) * x0 (ix2 k p)) (Fin.ext (by show q.val = (q.val - 0) % 1024; omega))

/-- The reference ends with its arguments unchanged and every counter at zero. -/
theorem frame : Cert.quiescent_Reference8Ideal (hReference8Ideal := Cert.Reference8Ideal.Gen.facts) := fun m ρ _ =>
  (θ_run Cert.Reference8Ideal.defs _ _).mono
    (fun r h => ⟨fun c => (h c).2, Idealize.ShloMosaic.sem_eq_zero_of_no_sems (by decide) r.2⟩) (Cert.Reference8Ideal.Value.run m ρ)

/-- The kernel and the reference compute the same weight gradient. -/
theorem values : Cert.algebraic_Kernel8Ideal_Reference8Ideal (hKernel8Ideal := Cert.Kernel8Ideal.Gen.facts) (hReference8Ideal := Cert.Reference8Ideal.Gen.facts) := by
  intro m ρ m' ρ' _ hag
  refine ⟨fun c => Cert.Kernel8Ideal.Value.G2 (F := Ideal) m c, (θ_run _ _ _).mono (fun _ h c => h c) (Cert.Kernel8Ideal.Value.run (F := Ideal) m ρ),
    (θ_run _ _ _).mono (fun _ h c => ⟨(h c).1.trans ?_, (h c).2⟩) (Cert.Reference8Ideal.Value.run (F := Ideal) m' ρ')⟩
  obtain ⟨e0, e1⟩ := hag c
  refine (val_main_v4_eq (F := Ideal) _ _).trans ?_
  refine Eq.trans ?_ (Cert.Kernel8Ideal.Dw.G_eq m c).symm
  funext i
  have h0 : (i 0).val < 1024 := (i 0).isLt
  refine (congrArg _ (ValueIdx.eq_ix2 i)).trans ((entry _ _ (i 0) (i 1)).trans (Finset.sum_congr rfl fun k _ => (mul_comm _ _).trans ?_))
  refine congrArg₂ (fun a b : EReal => a * b) ((congrFun e0 _).trans ?_) (side_congr e1 k (i 1).val)
  exact congrArg (fun b => Cert.Kernel8Ideal.Dw.xA m c (ix2 k b)) (Fin.ext (Nat.mod_eq_of_lt h0).symm)

end Cert.Reference8Ideal.Dw

end
-- ==== Proof.MixOutBwd.lean ====
module

public import proofs.«01_k».proof.Proof.Gen.Kernel9Ideal.Value
public import Idealize.ShloMosaic.Lib.Pointwise
public import Idealize.ShloMosaic.Lib.Pipeline.ValueKit.Basic

@[expose] public section

/-! The product at `Kernel9Ideal`: a mixing output's input gradient. Every grid point multiplies 1024 rows by 1024 columns and stores their product whole. -/

noncomputable section

namespace Cert.Kernel9Ideal.Mm

open Idealize.ShloMosaic Idealize.ShloMosaic.TcCoe Idealize.SL.Sem Cert.Kernel9Ideal.Gen Cert.Kernel9Ideal.Value Idealize.ShloMosaic.Pointwise

variable (m : (l : Loc nD τ sig) → Buf (Elt Ideal) l) (c : Dev nD)

/-- The rows as launched. -/
abbrev xA : (⟨S16384x1024, .bf16⟩ : BufTy).Contents (Elt Ideal) := m ((c : Thread nD τ).loc main_arg0)

/-- The weight as launched. -/
abbrev wA : (⟨S1024x1024, .bf16⟩ : BufTy).Contents (Elt Ideal) := m ((c : Thread nD τ).loc main_arg1)

/-- The block of rows at a point. -/
theorem idx0 : ∀ t : Fin cfg0.N, win0_0.index t (0 : Fin 2) = t.val / 1 ∧ win0_0.index t (1 : Fin 2) = 0 := (by decide +kernel : ∀ t : Fin grid0.N, _)

/-- The block of the weight at a point. -/
theorem idx1 : ∀ t : Fin cfg0.N, win0_1.index t (0 : Fin 2) = 0 ∧ win0_1.index t (1 : Fin 2) = 0 := (by decide +kernel : ∀ t : Fin grid0.N, _)

/-- The block of the result at a point. -/
theorem idx2 : ∀ t : Fin cfg0.N, win0_2.index t (0 : Fin 2) = t.val / 1 ∧ win0_2.index t (1 : Fin 2) = 0 := (by decide +kernel : ∀ t : Fin grid0.N, _)

/-- Every point writes its block back. -/
theorem flush2 : ∀ t : Fin cfg0.N, (cfg0.win 2).flush t = true := (by decide +kernel : ∀ t : Fin grid0.N, _)

/-- An entry of the block of rows. -/
theorem blk0 (t : Fin cfg0.N) (r : Fin 1024) (k : Fin 1024) (a : Fin 16384) (ha : 1024 * (t.val / 1) + r.val = a.val) : (iblk m c 0 t (ix2 r k) : EReal) = xA m c (ix2 a k) := by
  show V m c main_arg0 (((cfg0.win 0).blk t).view.emb (ix2 r k)) = _
  rw [V_main_arg0]
  obtain ⟨e0, e1⟩ := idx0 t
  refine congrArg (xA m c) (funext fun b => Fin.ext ?_)
  match b with
  | ⟨0, _⟩ => show win0_0.index t (0 : Fin 2) * 1024 + 1 * r.val = a.val; omega
  | ⟨1, _⟩ => show win0_0.index t (1 : Fin 2) * 1024 + 1 * k.val = k.val; omega

/-- An entry of the weight's block. -/
theorem blk1 (t : Fin cfg0.N) (k : Fin 1024) (q : Fin 1024) (b : Fin 1024) (hb : 1024 * (0) + q.val = b.val) : (iblk m c 1 t (ix2 q k) : EReal) = wA m c (ix2 b k) := by
  show V m c main_arg1 (((cfg0.win 1).blk t).view.emb (ix2 q k)) = _
  rw [V_main_arg1]
  obtain ⟨e0, e1⟩ := idx1 t
  refine congrArg (wA m c) (funext fun d => Fin.ext ?_)
  match d with
  | ⟨0, _⟩ => show win0_1.index t (0 : Fin 2) * 1024 + 1 * q.val = b.val; omega
  | ⟨1, _⟩ => show win0_1.index t (1 : Fin 2) * 1024 + 1 * k.val = k.val; omega

/-- A point's product. -/
theorem prod (x : Vec Ideal S1024x1024 .bf16) (w : Vec Ideal S1024x1024 .bf16) (p : Fin 1024) (q : Fin 1024) :
    (out0_2 (F := Ideal) x w (ix2 p q) : EReal) = ∑ k : Fin 1024, x (ix2 p k) * w (ix2 q k) := by
  have h : out0_2 (F := Ideal) x w = k0_pay1 (F := Ideal) x w := by
    unfold out0_2
    rw [View.canon_cons_unit_lit _ _ _ (by decide), View.ld_unit_lit _ _ (by decide), View.ld_unit_lit _ _ (by decide)]
  rw [h]
  unfold k0_pay1
  pointwise
  try rfl

/-- A point's product, its factors named. -/
theorem prod_of (x : Vec Ideal S1024x1024 .bf16) (w : Vec Ideal S1024x1024 .bf16) (p : Fin 1024) (q : Fin 1024) (f g : Fin 1024 → EReal)
    (hf : ∀ k, x (ix2 p k) = f k) (hg : ∀ k, w (ix2 q k) = g k) : (out0_2 (F := Ideal) x w (ix2 p q) : EReal) = ∑ k : Fin 1024, f k * g k :=
  (prod x w p q).trans (Finset.sum_congr rfl fun k _ => congrArg₂ (fun a b : EReal => a * b) (hf k) (hg k))

/-- Every entry of the result is its row of the left factor against its row of the weight. -/
theorem arr_eq (a : Fin 16384) (b : Fin 1024) : ((dats m 0 c).arrAt 2 cfg0.N (ix2 a b) : EReal) = ∑ k : Fin 1024, xA m c (ix2 a k) * wA m c (ix2 b k) := by
  have ha := a.isLt
  have hb := b.isLt
  let t : Fin cfg0.N := ⟨1 * (a.val / 1024) + b.val / 1024, lt_of_lt_of_eq (show 1 * (a.val / 1024) + b.val / 1024 < 16 by omega) N_0.symm⟩
  have ht : t.val = 1 * (a.val / 1024) + b.val / 1024 := rfl
  let p : Fin 1024 := ⟨a.val % 1024, Nat.mod_lt _ (by decide)⟩
  let q : Fin 1024 := ⟨b.val % 1024, Nat.mod_lt _ (by decide)⟩
  have hp : p.val = a.val % 1024 := rfl
  have hq : q.val = b.val % 1024 := rfl
  have h : (dats m 0 c).arrAt 2 cfg0.N (((cfg0.win 2).blk t).view.emb (ix2 p q)) = out0_2 (F := Ideal) (iblk m c 0 t) (iblk m c 1 t) (ix2 p q) :=
    (congrFun (blocks2 m c t (flush2 t)) (ix2 p q)).trans (congrFun (flushed2 m c t) (ix2 p q))
  obtain ⟨e0, e1⟩ := idx2 t
  have hi : ((cfg0.win 2).blk t).view.emb (ix2 p q) = ix2 a b := by
    refine funext fun d => Fin.ext ?_
    match d with
    | ⟨0, _⟩ => show win0_2.index t (0 : Fin 2) * 1024 + 1 * p.val = a.val; omega
    | ⟨1, _⟩ => show win0_2.index t (1 : Fin 2) * 1024 + 1 * q.val = b.val; omega
  rw [hi] at h
  refine (show ((dats m 0 c).arrAt 2 cfg0.N (ix2 a b) : EReal) = _ from h).trans (prod_of _ _ p q _ _ (fun k => blk0 m c t p k a ?_) (fun k => blk1 m c t k q b ?_)) <;> omega

end Cert.Kernel9Ideal.Mm

end
-- ==== Proof.MixOutBwdEq.lean ====
module

public import proofs.«01_k».proof.Defs
public import proofs.«01_k».proof.Proof.MixOutBwd
public import proofs.«01_k».proof.Proof.Gen.Reference9Ideal.Run
public import proofs.«01_k».proof.Proof.Gen.Reference9Ideal.Read

@[expose] public section

/-! The reference of the product at `Kernel9Ideal`, and that both compute the same. -/

noncomputable section

namespace Cert.Reference9Ideal.Mm

open Idealize.ShloMosaic Idealize.ShloMosaic.TcCoe Idealize.SL.Sem Cert.Reference9Ideal.Gen Cert.Reference9Ideal.Read Idealize.ShloMosaic.Pointwise

/-- The reference's entries. -/
theorem entry (x0 : (⟨S16384x1024, .bf16⟩ : BufTy).Contents (Elt Ideal)) (x1 : (⟨S1024x1024, .bf16⟩ : BufTy).Contents (Elt Ideal)) (p : Fin 16384) (q : Fin 1024) :
    (val_main_v3 (F := Ideal) x0 x1 (ix2 p q) : EReal) = ∑ k : Fin 1024, x0 (ix2 p k) * x1 (ix2 q k) := by
  unfold val_main_v3 val_main_v2 val_main_v1 val_main_v0
  pointwise
  try rfl

/-- The reference ends with its arguments unchanged and every counter at zero. -/
theorem frame : Cert.quiescent_Reference9Ideal (hReference9Ideal := Cert.Reference9Ideal.Gen.facts) := fun m ρ _ =>
  (θ_run Cert.Reference9Ideal.defs _ _).mono
    (fun r h => ⟨fun c => (h c).2, Idealize.ShloMosaic.sem_eq_zero_of_no_sems (by decide) r.2⟩) (Cert.Reference9Ideal.Value.run m ρ)

/-- The kernel and the reference compute the same product. -/
theorem values : Cert.algebraic_Kernel9Ideal_Reference9Ideal (hKernel9Ideal := Cert.Kernel9Ideal.Gen.facts) (hReference9Ideal := Cert.Reference9Ideal.Gen.facts) := by
  intro m ρ m' ρ' _ hag
  refine ⟨fun c => (Cert.Kernel9Ideal.Gen.dats (F := Ideal) m 0 c).arrAt 2 Cert.Kernel9Ideal.cfg0.N, (θ_run _ _ _).mono (fun _ h c => h c) (Cert.Kernel9Ideal.Value.run_blocks (F := Ideal) m ρ),
    (θ_run _ _ _).mono (fun _ h c => ⟨(h c).1.trans ?_, (h c).2⟩) (Cert.Reference9Ideal.Value.run (F := Ideal) m' ρ')⟩
  obtain ⟨e0, e1⟩ := hag c
  refine (val_main_v3_eq (F := Ideal) _ _).trans ?_
  funext i
  refine (congrArg _ (ValueIdx.eq_ix2 i)).trans (Eq.trans ?_ (congrArg _ (ValueIdx.eq_ix2 i).symm))
  refine (entry _ _ (i 0) (i 1)).trans (Eq.trans ?_ (Cert.Kernel9Ideal.Mm.arr_eq m c (i 0) (i 1)).symm)
  exact Finset.sum_congr rfl fun k _ => congrArg₂ (fun a b : EReal => a * b) (congrFun e0 _) (congrFun e1 _)

end Cert.Reference9Ideal.Mm

end
-- ==== Proof.Norm.lean ====
module

public import Idealize.ShloMosaic.Lib.Pointwise
public import Idealize.ShloMosaic.PureOps.Ideal

@[expose] public section

/-! Rows of 1024 entries: the mean, the layer norm, a product of a row with a column, and the parts of a layer that are computed row by row from them. -/

noncomputable section

namespace Cert.Norm

open Idealize.ShloMosaic

/-- A row against a column. -/
def dot {n : ℕ} (f g : Fin n → EReal) : EReal := ∑ k : Fin n, f k * g k

/-- The scale of the residual branch. -/
abbrev sc : EReal := Ideal.ofBits .f32 0x3FD744FD#32

/-- The number of entries of a row. -/
abbrev len : EReal := Ideal.ofBits .f32 0x44800000#32

/-- What is added to a variance before its root. -/
abbrev eps : EReal := Ideal.ofBits .f32 0x3727C5AC#32

/-- A row's mean. -/
def mean (f : Fin 1024 → EReal) : EReal := Ideal.div (∑ k : Fin 1024, f k) len

/-- A row's variance. -/
def var (f : Fin 1024 → EReal) : EReal := mean fun k => (f k - mean f) * (f k - mean f)

/-- The layer norm of a row. -/
def ln (f g b : Fin 1024 → EReal) (q : Fin 1024) : EReal := (f q - mean f) * Ideal.rsqrt (var f + eps) * g q + b q

/-- A residual branch: the scaled row plus the product of another row with a matrix. -/
def res {n : ℕ} (x : Fin 1024 → EReal) (o : Fin n → EReal) (w : Fin n → Fin 1024 → EReal) (q : Fin 1024) : EReal := sc * x q + dot o fun k => w k q

/-- The per-layer embedding's addition: a row plus the gate of its product times the embedding's product. -/
def ple (x : Fin 1024 → EReal) (wg : Fin 1024 → Fin 1024 → EReal) (p : Fin 256 → EReal) (wp : Fin 256 → Fin 1024 → EReal) (q : Fin 1024) : EReal :=
  x q + Ideal.logistic (dot x fun k => wg k q) * dot p fun k => wp k q

end Cert.Norm

end
-- ==== Proof.MixOutLn.lean ====
module

public import proofs.«01_k».proof.Proof.Halves
public import proofs.«01_k».proof.Proof.Norm
public import proofs.«01_k».proof.Proof.Gen.Kernel10Ideal.Value
public import Idealize.ShloMosaic.Lib.Pipeline.ValueKit.Basic

@[expose] public section

/-! The mixer's output projection with its residual branch and its norm at `Kernel10Ideal`, row by row. -/

noncomputable section

namespace Cert.Kernel10Ideal.Ln

open Idealize.ShloMosaic Idealize.ShloMosaic.TcCoe Idealize.SL.Sem Cert.Kernel10Ideal.Gen Cert.Kernel10Ideal.Value Idealize.ShloMosaic.Pointwise Cert.Halves Cert.Norm

variable (m : (l : Loc nD τ sig) → Buf (Elt Ideal) l) (c : Dev nD)

/-- The projection with its residual branch, second half. -/
theorem pay1 (y0 : Vec Ideal S256x1024 .bf16) (y1 : Vec Ideal S1024x1024 .bf16) (y2 : Vec Ideal S256x1024 .f32) (r : Fin 256) (q : Fin 1024) : (k0_pay1 (F := Ideal) y0 y1 y2 (ix2 r q) : EReal) = (res (fun k => y2 (ix2 r k)) (fun k => y0 (ix2 r k)) (fun k j => y1 (ix2 k j))) q := by
  unfold k0_pay1 res dot
  pointwise
  try rfl

/-- The projection with its residual branch, first half. -/
theorem pay3 (y0 : Vec Ideal S256x1024 .bf16) (y1 : Vec Ideal S1024x1024 .bf16) (y2 : Vec Ideal S256x1024 .f32) (r : Fin 256) (q : Fin 1024) : (k0_pay3 (F := Ideal) y0 y1 y2 (ix2 r q) : EReal) = (res (fun k => y2 (ix2 r k)) (fun k => y0 (ix2 r k)) (fun k j => y1 (ix2 k j))) q := by
  unfold k0_pay3 res dot
  pointwise
  try rfl

/-- Its norm, second half. -/
theorem pay2 (y0 : Vec Ideal S256x1024 .bf16) (y1 : Vec Ideal S1024x1024 .bf16) (y2 : Vec Ideal S256x1024 .f32) (g b : Vec Ideal S1x1024 .f32) (r : Fin 256) (q : Fin 1024) :
    (k0_pay2 (F := Ideal) y0 y1 y2 g b (ix2 r q) : EReal) = ln (res (fun k => y2 (ix2 r k)) (fun k => y0 (ix2 r k)) (fun k j => y1 (ix2 k j))) (fun k => g (ix2 0 k)) (fun k => b (ix2 0 k)) q := by
  refine Eq.trans ?_ (congrArg (fun f => ln f _ _ q) (funext fun k => pay1 y0 y1 y2 r k))
  unfold k0_pay2 ln var mean
  pointwise
  try rfl

/-- Its norm, first half. -/
theorem pay4 (y0 : Vec Ideal S256x1024 .bf16) (y1 : Vec Ideal S1024x1024 .bf16) (y2 : Vec Ideal S256x1024 .f32) (g b : Vec Ideal S1x1024 .f32) (r : Fin 256) (q : Fin 1024) :
    (k0_pay4 (F := Ideal) y0 y1 y2 g b (ix2 r q) : EReal) = ln (res (fun k => y2 (ix2 r k)) (fun k => y0 (ix2 r k)) (fun k j => y1 (ix2 k j))) (fun k => g (ix2 0 k)) (fun k => b (ix2 0 k)) q := by
  refine Eq.trans ?_ (congrArg (fun f => ln f _ _ q) (funext fun k => pay3 y0 y1 y2 r k))
  unfold k0_pay4 ln var mean
  pointwise
  try rfl

/-- The mixer's output as launched. -/
abbrev aA : (⟨S16384x1024, .bf16⟩ : BufTy).Contents (Elt Ideal) := m ((c : Thread nD τ).loc main_arg0)

/-- The block of argument 0 at a point. -/
theorem idx0 : ∀ t : Fin cfg0.N, win0_0.index t (0 : Fin 2) = t.val ∧ win0_0.index t (1 : Fin 2) = 0 := (by decide +kernel : ∀ t : Fin grid0.N, _)

/-- An entry of the block of argument 0. -/
theorem blk0 (t : Fin cfg0.N) (r : Fin 512) (k : Fin 1024) (a : Fin 16384) (ha : 512 * t.val + r.val = a.val) : (iblk m c 0 t (ix2 r k) : EReal) = aA m c (ix2 a k) := by
  show V m c main_arg0 (((cfg0.win 0).blk t).view.emb (ix2 r k)) = _
  rw [V_main_arg0]
  obtain ⟨e0, e1⟩ := idx0 t
  refine congrArg (aA m c) (funext fun b => Fin.ext ?_)
  match b with
  | ⟨0, _⟩ => show win0_0.index t (0 : Fin 2) * 512 + 1 * r.val = a.val; omega
  | ⟨1, _⟩ => show win0_0.index t (1 : Fin 2) * 1024 + 1 * k.val = k.val; omega

/-- The weight as launched. -/
abbrev wA : (⟨S1024x1024, .bf16⟩ : BufTy).Contents (Elt Ideal) := m ((c : Thread nD τ).loc main_arg1)

/-- The block of argument 1 at a point. -/
theorem idx1 : ∀ t : Fin cfg0.N, win0_1.index t (0 : Fin 2) = 0 ∧ win0_1.index t (1 : Fin 2) = 0 := (by decide +kernel : ∀ t : Fin grid0.N, _)

/-- Every point holds the whole of argument 1. -/
theorem blk1 (t : Fin cfg0.N) (q : Fin 1024) (k : Fin 1024) : (iblk m c 1 t (ix2 q k) : EReal) = wA m c (ix2 q k) := by
  show V m c main_arg1 (((cfg0.win 1).blk t).view.emb (ix2 q k)) = _
  rw [V_main_arg1]
  obtain ⟨e0, e1⟩ := idx1 t
  refine congrArg (wA m c) (funext fun b => Fin.ext ?_)
  match b with
  | ⟨0, _⟩ => show win0_1.index t (0 : Fin 2) * 1024 + 1 * q.val = q.val; omega
  | ⟨1, _⟩ => show win0_1.index t (1 : Fin 2) * 1024 + 1 * k.val = k.val; omega

/-- The residual branch as launched. -/
abbrev xA : (⟨S16384x1024, .f32⟩ : BufTy).Contents (Elt Ideal) := m ((c : Thread nD τ).loc main_arg2)

/-- The block of argument 2 at a point. -/
theorem idx2 : ∀ t : Fin cfg0.N, win0_2.index t (0 : Fin 2) = t.val ∧ win0_2.index t (1 : Fin 2) = 0 := (by decide +kernel : ∀ t : Fin grid0.N, _)

/-- An entry of the block of argument 2. -/
theorem blk2 (t : Fin cfg0.N) (r : Fin 512) (k : Fin 1024) (a : Fin 16384) (ha : 512 * t.val + r.val = a.val) : (iblk m c 2 t (ix2 r k) : EReal) = xA m c (ix2 a k) := by
  show V m c main_arg2 (((cfg0.win 2).blk t).view.emb (ix2 r k)) = _
  rw [V_main_arg2]
  obtain ⟨e0, e1⟩ := idx2 t
  refine congrArg (xA m c) (funext fun b => Fin.ext ?_)
  match b with
  | ⟨0, _⟩ => show win0_2.index t (0 : Fin 2) * 512 + 1 * r.val = a.val; omega
  | ⟨1, _⟩ => show win0_2.index t (1 : Fin 2) * 1024 + 1 * k.val = k.val; omega

/-- The norm's scale as launched. -/
abbrev gA : (⟨S1x1024, .f32⟩ : BufTy).Contents (Elt Ideal) := m ((c : Thread nD τ).loc main_arg3)

/-- The block of argument 3 at a point. -/
theorem idx3 : ∀ t : Fin cfg0.N, win0_3.index t (0 : Fin 2) = 0 ∧ win0_3.index t (1 : Fin 2) = 0 := (by decide +kernel : ∀ t : Fin grid0.N, _)

/-- Every point holds the whole of argument 3. -/
theorem blk3 (t : Fin cfg0.N) (q : Fin 1) (k : Fin 1024) : (iblk m c 3 t (ix2 q k) : EReal) = gA m c (ix2 q k) := by
  show V m c main_arg3 (((cfg0.win 3).blk t).view.emb (ix2 q k)) = _
  rw [V_main_arg3]
  obtain ⟨e0, e1⟩ := idx3 t
  refine congrArg (gA m c) (funext fun b => Fin.ext ?_)
  match b with
  | ⟨0, _⟩ => show win0_3.index t (0 : Fin 2) * 1 + 1 * q.val = q.val; omega
  | ⟨1, _⟩ => show win0_3.index t (1 : Fin 2) * 1024 + 1 * k.val = k.val; omega

/-- The norm's shift as launched. -/
abbrev bA : (⟨S1x1024, .f32⟩ : BufTy).Contents (Elt Ideal) := m ((c : Thread nD τ).loc main_arg4)

/-- The block of argument 4 at a point. -/
theorem idx4 : ∀ t : Fin cfg0.N, win0_4.index t (0 : Fin 2) = 0 ∧ win0_4.index t (1 : Fin 2) = 0 := (by decide +kernel : ∀ t : Fin grid0.N, _)

/-- Every point holds the whole of argument 4. -/
theorem blk4 (t : Fin cfg0.N) (q : Fin 1) (k : Fin 1024) : (iblk m c 4 t (ix2 q k) : EReal) = bA m c (ix2 q k) := by
  show V m c main_arg4 (((cfg0.win 4).blk t).view.emb (ix2 q k)) = _
  rw [V_main_arg4]
  obtain ⟨e0, e1⟩ := idx4 t
  refine congrArg (bA m c) (funext fun b => Fin.ext ?_)
  match b with
  | ⟨0, _⟩ => show win0_4.index t (0 : Fin 2) * 1 + 1 * q.val = q.val; omega
  | ⟨1, _⟩ => show win0_4.index t (1 : Fin 2) * 1024 + 1 * k.val = k.val; omega

/-- Equal rows and weights have equal sums. -/
theorem pre_eq {f0 f0' f2 f2' : Fin 1024 → EReal} {f1 f1' : Fin 1024 → Fin 1024 → EReal} (h0 : f0 = f0') (h1 : f1 = f1') (h2 : f2 = f2') : res f2 f0 f1 = res f2' f0' f1' := by
  subst h0 h1 h2
  rfl

/-- Equal rows have equal norms. -/
theorem ln_eq {f f' g g' b b' : Fin 1024 → EReal} (h0 : f = f') (h1 : g = g') (h2 : b = b') (q : Fin 1024) : ln f g b q = ln f' g' b' q := by
  subst h0 h1 h2
  rfl

/-- The rows that the first half loads. -/
theorem first (y0 : Vec Ideal S512x1024 .bf16) (y1 : Vec Ideal S1024x1024 .bf16) (y2 : Vec Ideal S512x1024 .f32) (p : Fin 512) (r : Fin 256) (h : 0 + r.val = p.val) :
    res (fun k => (View.ld y2 r0_0 (ix2 r k) : EReal)) (fun k => View.ld y0 r0_0 (ix2 r k)) (fun k j => View.ld y1 r0_1 (ix2 k j)) = (res (fun k => y2 (ix2 p k)) (fun k => y0 (ix2 p k)) (fun k j => y1 (ix2 k j))) :=
  pre_eq (funext fun k => ld_at p k h (Nat.zero_add _)) (funext fun k => funext fun j => ld_at k j (Nat.zero_add _) (Nat.zero_add _)) (funext fun k => ld_at p k h (Nat.zero_add _))

/-- The rows that the second half loads. -/
theorem second (y0 : Vec Ideal S512x1024 .bf16) (y1 : Vec Ideal S1024x1024 .bf16) (y2 : Vec Ideal S512x1024 .f32) (p : Fin 512) (r : Fin 256) (h : 256 + r.val = p.val) :
    res (fun k => (View.ld y2 r0_3 (ix2 r k) : EReal)) (fun k => View.ld y0 r0_3 (ix2 r k)) (fun k j => View.ld y1 r0_1 (ix2 k j)) = (res (fun k => y2 (ix2 p k)) (fun k => y0 (ix2 p k)) (fun k j => y1 (ix2 k j))) :=
  pre_eq (funext fun k => ld_at p k h (Nat.zero_add _)) (funext fun k => funext fun j => ld_at k j (Nat.zero_add _) (Nat.zero_add _)) (funext fun k => ld_at p k h (Nat.zero_add _))

/-- What a point stores of the projection with its residual branch. -/
theorem out5 (y0 : Vec Ideal S512x1024 .bf16) (y1 : Vec Ideal S1024x1024 .bf16) (y2 : Vec Ideal S512x1024 .f32) (g b : Vec Ideal S1x1024 .f32) (p : Fin 512) (q : Fin 1024) : (out0_5 (F := Ideal) y0 y1 y2 g b (ix2 p q) : EReal) = (res (fun k => y2 (ix2 p k)) (fun k => y0 (ix2 p k)) (fun k j => y1 (ix2 k j))) q := by
  unfold out0_5
  exact two p q _ (fun r h => (pay1 _ _ _ r q).trans (congrFun (second y0 y1 y2 p r h) q)) (fun r h => (pay3 _ _ _ r q).trans (congrFun (first y0 y1 y2 p r h) q))

/-- What a point stores of the norm. -/
theorem out6 (y0 : Vec Ideal S512x1024 .bf16) (y1 : Vec Ideal S1024x1024 .bf16) (y2 : Vec Ideal S512x1024 .f32) (g b : Vec Ideal S1x1024 .f32) (p : Fin 512) (q : Fin 1024) :
    (out0_6 (F := Ideal) y0 y1 y2 g b (ix2 p q) : EReal) = ln (res (fun k => y2 (ix2 p k)) (fun k => y0 (ix2 p k)) (fun k j => y1 (ix2 k j))) (fun k => g (ix2 0 k)) (fun k => b (ix2 0 k)) q := by
  unfold out0_6
  exact two p q _ (fun r h => (pay2 _ _ _ _ _ r q).trans (ln_eq (second y0 y1 y2 p r h) (funext fun k => ld_at 0 k rfl (Nat.zero_add _)) (funext fun k => ld_at 0 k rfl (Nat.zero_add _)) q))
    (fun r h => (pay4 _ _ _ _ _ r q).trans (ln_eq (first y0 y1 y2 p r h) (funext fun k => ld_at 0 k rfl (Nat.zero_add _)) (funext fun k => ld_at 0 k rfl (Nat.zero_add _)) q))

/-- A row of the projection with its residual branch. -/
abbrev preR (a : Fin 16384) : Fin 1024 → EReal := (res (fun k => xA m c (ix2 a k)) (fun k => aA m c (ix2 a k)) (fun k j => wA m c (ix2 k j)))

/-- A row's norm. -/
abbrev lnR (a : Fin 16384) : Fin 1024 → EReal := ln (preR m c a) (fun k => gA m c (ix2 0 k)) (fun k => bA m c (ix2 0 k))

/-- The rows a point holds. -/
theorem pre_row (t : Fin cfg0.N) (p : Fin 512) (a : Fin 16384) (hr : 512 * t.val + p.val = a.val) :
    res (fun k => (iblk m c 2 t (ix2 p k) : EReal)) (fun k => iblk m c 0 t (ix2 p k)) (fun k j => iblk m c 1 t (ix2 k j)) = preR m c a :=
  pre_eq (funext fun k => blk0 m c t p k a hr) (funext fun k => funext fun j => blk1 m c t k j) (funext fun k => blk2 m c t p k a hr)

/-- The block of the result at a point. -/
theorem idx5 : ∀ t : Fin cfg0.N, win0_5.index t (0 : Fin 2) = t.val ∧ win0_5.index t (1 : Fin 2) = 0 := (by decide +kernel : ∀ t : Fin grid0.N, _)

/-- Every point writes its block back. -/
theorem flush5 : ∀ t : Fin cfg0.N, (cfg0.win 5).flush t = true := (by decide +kernel : ∀ t : Fin grid0.N, _)

/-- An entry of the projection with its residual branch is what its point stores of it. -/
theorem at5 (t : Fin cfg0.N) (p : Fin 512) (a : Fin 16384) (b : Fin 1024) (hr : 512 * t.val + p.val = a.val) :
    (dats m 0 c).arrAt 5 cfg0.N (ix2 a b) = out0_5 (F := Ideal) (iblk m c 0 t) (iblk m c 1 t) (iblk m c 2 t) (iblk m c 3 t) (iblk m c 4 t) (ix2 p b) := by
  have h : (dats m 0 c).arrAt 5 cfg0.N (((cfg0.win 5).blk t).view.emb (ix2 p b)) = out0_5 (F := Ideal) (iblk m c 0 t) (iblk m c 1 t) (iblk m c 2 t) (iblk m c 3 t) (iblk m c 4 t) (ix2 p b) :=
    (congrFun (blocks5 m c t (flush5 t)) (ix2 p b)).trans (congrFun (flushed5 m c t) (ix2 p b))
  obtain ⟨e0, e1⟩ := idx5 t
  have hi : ((cfg0.win 5).blk t).view.emb (ix2 p b) = ix2 a b := by
    refine funext fun d => Fin.ext ?_
    match d with
    | ⟨0, _⟩ => show win0_5.index t (0 : Fin 2) * 512 + 1 * p.val = a.val; omega
    | ⟨1, _⟩ => show win0_5.index t (1 : Fin 2) * 1024 + 1 * b.val = b.val; omega
  rw [hi] at h
  exact h

/-- Every entry of the projection with its residual branch. -/
theorem arr5 (a : Fin 16384) (b : Fin 1024) : ((dats m 0 c).arrAt 5 cfg0.N (ix2 a b) : EReal) = preR m c a b := by
  have ha := a.isLt
  let t : Fin cfg0.N := ⟨a.val / 512, lt_of_lt_of_eq (show a.val / 512 < 32 by omega) N_0.symm⟩
  have ht : t.val = a.val / 512 := rfl
  let p : Fin 512 := ⟨a.val % 512, Nat.mod_lt _ (by decide)⟩
  have hp : p.val = a.val % 512 := rfl
  have hr : 512 * t.val + p.val = a.val := by omega
  exact (show ((dats m 0 c).arrAt 5 cfg0.N (ix2 a b) : EReal) = _ from at5 m c t p a b hr).trans ((out5 _ _ _ _ _ p b).trans (congrFun (pre_row m c t p a hr) b))

/-- The block of the result at a point. -/
theorem idx6 : ∀ t : Fin cfg0.N, win0_6.index t (0 : Fin 2) = t.val ∧ win0_6.index t (1 : Fin 2) = 0 := (by decide +kernel : ∀ t : Fin grid0.N, _)

/-- Every point writes its block back. -/
theorem flush6 : ∀ t : Fin cfg0.N, (cfg0.win 6).flush t = true := (by decide +kernel : ∀ t : Fin grid0.N, _)

/-- An entry of the norm is what its point stores of it. -/
theorem at6 (t : Fin cfg0.N) (p : Fin 512) (a : Fin 16384) (b : Fin 1024) (hr : 512 * t.val + p.val = a.val) :
    (dats m 0 c).arrAt 6 cfg0.N (ix2 a b) = out0_6 (F := Ideal) (iblk m c 0 t) (iblk m c 1 t) (iblk m c 2 t) (iblk m c 3 t) (iblk m c 4 t) (ix2 p b) := by
  have h : (dats m 0 c).arrAt 6 cfg0.N (((cfg0.win 6).blk t).view.emb (ix2 p b)) = out0_6 (F := Ideal) (iblk m c 0 t) (iblk m c 1 t) (iblk m c 2 t) (iblk m c 3 t) (iblk m c 4 t) (ix2 p b) :=
    (congrFun (blocks6 m c t (flush6 t)) (ix2 p b)).trans (congrFun (flushed6 m c t) (ix2 p b))
  obtain ⟨e0, e1⟩ := idx6 t
  have hi : ((cfg0.win 6).blk t).view.emb (ix2 p b) = ix2 a b := by
    refine funext fun d => Fin.ext ?_
    match d with
    | ⟨0, _⟩ => show win0_6.index t (0 : Fin 2) * 512 + 1 * p.val = a.val; omega
    | ⟨1, _⟩ => show win0_6.index t (1 : Fin 2) * 1024 + 1 * b.val = b.val; omega
  rw [hi] at h
  exact h

/-- Every entry of the norm. -/
theorem arr6 (a : Fin 16384) (b : Fin 1024) : ((dats m 0 c).arrAt 6 cfg0.N (ix2 a b) : EReal) = lnR m c a b := by
  have ha := a.isLt
  let t : Fin cfg0.N := ⟨a.val / 512, lt_of_lt_of_eq (show a.val / 512 < 32 by omega) N_0.symm⟩
  have ht : t.val = a.val / 512 := rfl
  let p : Fin 512 := ⟨a.val % 512, Nat.mod_lt _ (by decide)⟩
  have hp : p.val = a.val % 512 := rfl
  have hr : 512 * t.val + p.val = a.val := by omega
  exact (show ((dats m 0 c).arrAt 6 cfg0.N (ix2 a b) : EReal) = _ from at6 m c t p a b hr).trans ((out6 _ _ _ _ _ p b).trans (ln_eq (pre_row m c t p a hr) (funext fun k => blk3 m c t 0 k) (funext fun k => blk4 m c t 0 k) b))

end Cert.Kernel10Ideal.Ln

end
-- ==== Proof.MixOutLnEq.lean ====
module

public import proofs.«01_k».proof.Defs
public import proofs.«01_k».proof.Proof.MixOutLn
public import proofs.«01_k».proof.Proof.Gen.Reference10Ideal.Run
public import proofs.«01_k».proof.Proof.Gen.Reference10Ideal.Read

@[expose] public section

/-! The reference of the mixer's output projection with its norm, and that both compute the same. -/

noncomputable section

namespace Cert.Reference10Ideal.Ln

open Cert.Norm
open Idealize.ShloMosaic Idealize.ShloMosaic.TcCoe Idealize.SL.Sem Cert.Reference10Ideal.Gen Cert.Reference10Ideal.Read Idealize.ShloMosaic.Pointwise

/-- The projection with its residual branch. -/
theorem pre (x0 : (⟨S16384x1024, .bf16⟩ : BufTy).Contents (Elt Ideal)) (x1 : (⟨S1024x1024, .bf16⟩ : BufTy).Contents (Elt Ideal)) (x2 : (⟨S16384x1024, .f32⟩ : BufTy).Contents (Elt Ideal)) (p : Fin 16384) (q : Fin 1024) :
    (val_main_v5 (F := Ideal) x0 x1 x2 (ix2 p q) : EReal) = (res (fun k => x2 (ix2 p k)) (fun k => x0 (ix2 p k)) (fun k j => x1 (ix2 k j))) q := by
  unfold val_main_v5 val_main_v4 val_main_v3 val_main_v2 val_main_v1 val_main_v0 val_main_cst res dot
  pointwise
  try rfl

/-- Its norm. -/
theorem norm (x0 : (⟨S16384x1024, .bf16⟩ : BufTy).Contents (Elt Ideal)) (x1 : (⟨S1024x1024, .bf16⟩ : BufTy).Contents (Elt Ideal)) (x2 : (⟨S16384x1024, .f32⟩ : BufTy).Contents (Elt Ideal)) (x3 : (⟨S1x1024, .f32⟩ : BufTy).Contents (Elt Ideal)) (x4 : (⟨S1x1024, .f32⟩ : BufTy).Contents (Elt Ideal)) (p : Fin 16384) (q : Fin 1024) :
    (val_main_v28 (F := Ideal) x0 x1 x2 x3 x4 (ix2 p q) : EReal) = ln (res (fun k => x2 (ix2 p k)) (fun k => x0 (ix2 p k)) (fun k j => x1 (ix2 k j))) (fun k => x3 (ix2 0 k)) (fun k => x4 (ix2 0 k)) q := by
  refine Eq.trans ?_ (congrArg (fun f => ln f _ _ q) (funext fun k => pre x0 x1 x2 p k))
  unfold val_main_v28 val_main_v27 val_main_v26 val_main_v25 val_main_v24 val_main_v23 val_main_v22 val_main_v21 val_main_v20 val_main_v19 val_main_cst_4 val_main_v18 val_main_v17 val_main_v16 val_main_v15 val_main_cst_3 val_main_v14 val_main_v13 val_main_cst_2 val_main_v12 val_main_v11 val_main_v10 val_main_v9 val_main_v8 val_main_cst_1 val_main_v7 val_main_v6 val_main_cst_0 ln var mean
  pointwise
  try rfl

variable (m : (l : Loc Cert.Kernel10Ideal.nD Cert.Kernel10Ideal.τ Cert.Kernel10Ideal.sig) → Buf (Elt Ideal) l) (c : Dev Cert.Kernel10Ideal.nD)

/-- The projection with its residual branch is the kernel's. -/
theorem eq5 {x0 : (⟨S16384x1024, .bf16⟩ : BufTy).Contents (Elt Ideal)} {x1 : (⟨S1024x1024, .bf16⟩ : BufTy).Contents (Elt Ideal)} {x2 : (⟨S16384x1024, .f32⟩ : BufTy).Contents (Elt Ideal)}
    (e0 : x0 = Cert.Kernel10Ideal.Ln.aA m c) (e1 : x1 = Cert.Kernel10Ideal.Ln.wA m c) (e2 : x2 = Cert.Kernel10Ideal.Ln.xA m c) :
    val_main_v5 (F := Ideal) x0 x1 x2 = (Cert.Kernel10Ideal.Gen.dats (F := Ideal) m 0 c).arrAt 5 Cert.Kernel10Ideal.cfg0.N := by
  subst e0 e1 e2
  funext i
  refine (congrArg _ (ValueIdx.eq_ix2 i)).trans (Eq.trans ?_ (congrArg _ (ValueIdx.eq_ix2 i).symm))
  exact (pre _ _ _ (i 0) (i 1)).trans (Cert.Kernel10Ideal.Ln.arr5 m c (i 0) (i 1)).symm

/-- The norm is the kernel's. -/
theorem eq6 {x0 : (⟨S16384x1024, .bf16⟩ : BufTy).Contents (Elt Ideal)} {x1 : (⟨S1024x1024, .bf16⟩ : BufTy).Contents (Elt Ideal)} {x2 : (⟨S16384x1024, .f32⟩ : BufTy).Contents (Elt Ideal)} {x3 : (⟨S1x1024, .f32⟩ : BufTy).Contents (Elt Ideal)} {x4 : (⟨S1x1024, .f32⟩ : BufTy).Contents (Elt Ideal)}
    (e0 : x0 = Cert.Kernel10Ideal.Ln.aA m c) (e1 : x1 = Cert.Kernel10Ideal.Ln.wA m c) (e2 : x2 = Cert.Kernel10Ideal.Ln.xA m c) (e3 : x3 = Cert.Kernel10Ideal.Ln.gA m c) (e4 : x4 = Cert.Kernel10Ideal.Ln.bA m c) :
    val_main_v28 (F := Ideal) x0 x1 x2 x3 x4 = (Cert.Kernel10Ideal.Gen.dats (F := Ideal) m 0 c).arrAt 6 Cert.Kernel10Ideal.cfg0.N := by
  subst e0 e1 e2 e3 e4
  funext i
  refine (congrArg _ (ValueIdx.eq_ix2 i)).trans (Eq.trans ?_ (congrArg _ (ValueIdx.eq_ix2 i).symm))
  exact (norm _ _ _ _ _ (i 0) (i 1)).trans (Cert.Kernel10Ideal.Ln.arr6 m c (i 0) (i 1)).symm

/-- The reference ends with its arguments unchanged and every counter at zero. -/
theorem frame : Cert.quiescent_Reference10Ideal (hReference10Ideal := Cert.Reference10Ideal.Gen.facts) := fun m ρ _ =>
  (θ_run Cert.Reference10Ideal.defs _ _).mono
    (fun r h => ⟨fun c => (h c).2.2, Idealize.ShloMosaic.sem_eq_zero_of_no_sems (by decide) r.2⟩) (Cert.Reference10Ideal.Value.run m ρ)

/-- The kernel and the reference compute the same. -/
theorem values : Cert.algebraic_Kernel10Ideal_Reference10Ideal (hKernel10Ideal := Cert.Kernel10Ideal.Gen.facts) (hReference10Ideal := Cert.Reference10Ideal.Gen.facts) := by
  intro m ρ m' ρ' _ hag
  refine ⟨fun c => (Cert.Kernel10Ideal.Gen.dats (F := Ideal) m 0 c).arrAt 5 Cert.Kernel10Ideal.cfg0.N, fun c => (Cert.Kernel10Ideal.Gen.dats (F := Ideal) m 0 c).arrAt 6 Cert.Kernel10Ideal.cfg0.N, (θ_run _ _ _).mono (fun _ h c => h c) (Cert.Kernel10Ideal.Value.run_blocks (F := Ideal) m ρ),
    (θ_run _ _ _).mono (fun _ h c => ⟨(h c).1.trans ?_, (h c).2.1.trans ?_, (h c).2.2⟩) (Cert.Reference10Ideal.Value.run (F := Ideal) m' ρ')⟩
  · obtain ⟨e0, e1, e2, e3, e4⟩ := hag c
    exact (val_main_v5_eq (F := Ideal) _ _ _).trans (eq5 m c e0 e1 e2)
  · obtain ⟨e0, e1, e2, e3, e4⟩ := hag c
    exact (val_main_v28_eq (F := Ideal) _ _ _ _ _).trans (eq6 m c e0 e1 e2 e3 e4)

end Cert.Reference10Ideal.Ln

end
-- ==== Proof.AttIn.lean ====
module

public import proofs.«01_k».proof.Proof.Gen.Kernel11Ideal.Value
public import Idealize.ShloMosaic.Lib.Pointwise
public import Idealize.ShloMosaic.Lib.Pipeline.ValueKit.Basic

@[expose] public section

/-! The product at `Kernel11Ideal`: an attention layer's mixing input. Every grid point multiplies 1024 rows by 512 columns and stores their product whole. -/

noncomputable section

namespace Cert.Kernel11Ideal.Mm

open Idealize.ShloMosaic Idealize.ShloMosaic.TcCoe Idealize.SL.Sem Cert.Kernel11Ideal.Gen Cert.Kernel11Ideal.Value Idealize.ShloMosaic.Pointwise

variable (m : (l : Loc nD τ sig) → Buf (Elt Ideal) l) (c : Dev nD)

/-- The rows as launched. -/
abbrev xA : (⟨S16384x1024, .bf16⟩ : BufTy).Contents (Elt Ideal) := m ((c : Thread nD τ).loc main_arg0)

/-- The weight as launched. -/
abbrev wA : (⟨S1024x1536, .bf16⟩ : BufTy).Contents (Elt Ideal) := m ((c : Thread nD τ).loc main_arg1)

/-- The block of rows at a point. -/
theorem idx0 : ∀ t : Fin cfg0.N, win0_0.index t (0 : Fin 2) = t.val / 3 ∧ win0_0.index t (1 : Fin 2) = 0 := (by decide +kernel : ∀ t : Fin grid0.N, _)

/-- The block of the weight at a point. -/
theorem idx1 : ∀ t : Fin cfg0.N, win0_1.index t (0 : Fin 2) = 0 ∧ win0_1.index t (1 : Fin 2) = t.val % 3 := (by decide +kernel : ∀ t : Fin grid0.N, _)

/-- The block of the result at a point. -/
theorem idx2 : ∀ t : Fin cfg0.N, win0_2.index t (0 : Fin 2) = t.val / 3 ∧ win0_2.index t (1 : Fin 2) = t.val % 3 := (by decide +kernel : ∀ t : Fin grid0.N, _)

/-- Every point writes its block back. -/
theorem flush2 : ∀ t : Fin cfg0.N, (cfg0.win 2).flush t = true := (by decide +kernel : ∀ t : Fin grid0.N, _)

/-- An entry of the block of rows. -/
theorem blk0 (t : Fin cfg0.N) (r : Fin 1024) (k : Fin 1024) (a : Fin 16384) (ha : 1024 * (t.val / 3) + r.val = a.val) : (iblk m c 0 t (ix2 r k) : EReal) = xA m c (ix2 a k) := by
  show V m c main_arg0 (((cfg0.win 0).blk t).view.emb (ix2 r k)) = _
  rw [V_main_arg0]
  obtain ⟨e0, e1⟩ := idx0 t
  refine congrArg (xA m c) (funext fun b => Fin.ext ?_)
  match b with
  | ⟨0, _⟩ => show win0_0.index t (0 : Fin 2) * 1024 + 1 * r.val = a.val; omega
  | ⟨1, _⟩ => show win0_0.index t (1 : Fin 2) * 1024 + 1 * k.val = k.val; omega

/-- An entry of the weight's block. -/
theorem blk1 (t : Fin cfg0.N) (k : Fin 1024) (q : Fin 512) (b : Fin 1536) (hb : 512 * (t.val % 3) + q.val = b.val) : (iblk m c 1 t (ix2 k q) : EReal) = wA m c (ix2 k b) := by
  show V m c main_arg1 (((cfg0.win 1).blk t).view.emb (ix2 k q)) = _
  rw [V_main_arg1]
  obtain ⟨e0, e1⟩ := idx1 t
  refine congrArg (wA m c) (funext fun d => Fin.ext ?_)
  match d with
  | ⟨0, _⟩ => show win0_1.index t (0 : Fin 2) * 1024 + 1 * k.val = k.val; omega
  | ⟨1, _⟩ => show win0_1.index t (1 : Fin 2) * 512 + 1 * q.val = b.val; omega

/-- A point's product. -/
theorem prod (x : Vec Ideal S1024x1024 .bf16) (w : Vec Ideal S1024x512 .bf16) (p : Fin 1024) (q : Fin 512) :
    (out0_2 (F := Ideal) x w (ix2 p q) : EReal) = ∑ k : Fin 1024, x (ix2 p k) * w (ix2 k q) := by
  have h : out0_2 (F := Ideal) x w = k0_pay1 (F := Ideal) x w := by
    unfold out0_2
    rw [View.canon_cons_unit_lit _ _ _ (by decide), View.ld_unit_lit _ _ (by decide), View.ld_unit_lit _ _ (by decide)]
  rw [h]
  unfold k0_pay1
  pointwise
  try rfl

/-- A point's product, its factors named. -/
theorem prod_of (x : Vec Ideal S1024x1024 .bf16) (w : Vec Ideal S1024x512 .bf16) (p : Fin 1024) (q : Fin 512) (f g : Fin 1024 → EReal)
    (hf : ∀ k, x (ix2 p k) = f k) (hg : ∀ k, w (ix2 k q) = g k) : (out0_2 (F := Ideal) x w (ix2 p q) : EReal) = ∑ k : Fin 1024, f k * g k :=
  (prod x w p q).trans (Finset.sum_congr rfl fun k _ => congrArg₂ (fun a b : EReal => a * b) (hf k) (hg k))

/-- Every entry of the result is its row of the left factor against its column of the weight. -/
theorem arr_eq (a : Fin 16384) (b : Fin 1536) : ((dats m 0 c).arrAt 2 cfg0.N (ix2 a b) : EReal) = ∑ k : Fin 1024, xA m c (ix2 a k) * wA m c (ix2 k b) := by
  have ha := a.isLt
  have hb := b.isLt
  let t : Fin cfg0.N := ⟨3 * (a.val / 1024) + b.val / 512, lt_of_lt_of_eq (show 3 * (a.val / 1024) + b.val / 512 < 48 by omega) N_0.symm⟩
  have ht : t.val = 3 * (a.val / 1024) + b.val / 512 := rfl
  let p : Fin 1024 := ⟨a.val % 1024, Nat.mod_lt _ (by decide)⟩
  let q : Fin 512 := ⟨b.val % 512, Nat.mod_lt _ (by decide)⟩
  have hp : p.val = a.val % 1024 := rfl
  have hq : q.val = b.val % 512 := rfl
  have h : (dats m 0 c).arrAt 2 cfg0.N (((cfg0.win 2).blk t).view.emb (ix2 p q)) = out0_2 (F := Ideal) (iblk m c 0 t) (iblk m c 1 t) (ix2 p q) :=
    (congrFun (blocks2 m c t (flush2 t)) (ix2 p q)).trans (congrFun (flushed2 m c t) (ix2 p q))
  obtain ⟨e0, e1⟩ := idx2 t
  have hi : ((cfg0.win 2).blk t).view.emb (ix2 p q) = ix2 a b := by
    refine funext fun d => Fin.ext ?_
    match d with
    | ⟨0, _⟩ => show win0_2.index t (0 : Fin 2) * 1024 + 1 * p.val = a.val; omega
    | ⟨1, _⟩ => show win0_2.index t (1 : Fin 2) * 512 + 1 * q.val = b.val; omega
  rw [hi] at h
  refine (show ((dats m 0 c).arrAt 2 cfg0.N (ix2 a b) : EReal) = _ from h).trans (prod_of _ _ p q _ _ (fun k => blk0 m c t p k a ?_) (fun k => blk1 m c t k q b ?_)) <;> omega

end Cert.Kernel11Ideal.Mm

end
-- ==== Proof.AttInEq.lean ====
module

public import proofs.«01_k».proof.Defs
public import proofs.«01_k».proof.Proof.AttIn
public import proofs.«01_k».proof.Proof.Gen.Reference11Ideal.Run
public import proofs.«01_k».proof.Proof.Gen.Reference11Ideal.Read

@[expose] public section

/-! The reference of the product at `Kernel11Ideal`, and that both compute the same. -/

noncomputable section

namespace Cert.Reference11Ideal.Mm

open Idealize.ShloMosaic Idealize.ShloMosaic.TcCoe Idealize.SL.Sem Cert.Reference11Ideal.Gen Cert.Reference11Ideal.Read Idealize.ShloMosaic.Pointwise

/-- The reference's entries. -/
theorem entry (x0 : (⟨S16384x1024, .bf16⟩ : BufTy).Contents (Elt Ideal)) (x1 : (⟨S1024x1536, .bf16⟩ : BufTy).Contents (Elt Ideal)) (p : Fin 16384) (q : Fin 1536) :
    (val_main_v2 (F := Ideal) x0 x1 (ix2 p q) : EReal) = ∑ k : Fin 1024, x0 (ix2 p k) * x1 (ix2 k q) := by
  unfold val_main_v2 val_main_v1 val_main_v0
  pointwise
  try rfl

/-- The reference ends with its arguments unchanged and every counter at zero. -/
theorem frame : Cert.quiescent_Reference11Ideal (hReference11Ideal := Cert.Reference11Ideal.Gen.facts) := fun m ρ _ =>
  (θ_run Cert.Reference11Ideal.defs _ _).mono
    (fun r h => ⟨fun c => (h c).2, Idealize.ShloMosaic.sem_eq_zero_of_no_sems (by decide) r.2⟩) (Cert.Reference11Ideal.Value.run m ρ)

/-- The kernel and the reference compute the same product. -/
theorem values : Cert.algebraic_Kernel11Ideal_Reference11Ideal (hKernel11Ideal := Cert.Kernel11Ideal.Gen.facts) (hReference11Ideal := Cert.Reference11Ideal.Gen.facts) := by
  intro m ρ m' ρ' _ hag
  refine ⟨fun c => (Cert.Kernel11Ideal.Gen.dats (F := Ideal) m 0 c).arrAt 2 Cert.Kernel11Ideal.cfg0.N, (θ_run _ _ _).mono (fun _ h c => h c) (Cert.Kernel11Ideal.Value.run_blocks (F := Ideal) m ρ),
    (θ_run _ _ _).mono (fun _ h c => ⟨(h c).1.trans ?_, (h c).2⟩) (Cert.Reference11Ideal.Value.run (F := Ideal) m' ρ')⟩
  obtain ⟨e0, e1⟩ := hag c
  refine (val_main_v2_eq (F := Ideal) _ _).trans ?_
  funext i
  refine (congrArg _ (ValueIdx.eq_ix2 i)).trans (Eq.trans ?_ (congrArg _ (ValueIdx.eq_ix2 i).symm))
  refine (entry _ _ (i 0) (i 1)).trans (Eq.trans ?_ (Cert.Kernel11Ideal.Mm.arr_eq m c (i 0) (i 1)).symm)
  exact Finset.sum_congr rfl fun k _ => congrArg₂ (fun a b : EReal => a * b) (congrFun e0 _) (congrFun e1 _)

end Cert.Reference11Ideal.Mm

end
-- ==== Proof.MixInBwdAtt.lean ====
module

public import proofs.«01_k».proof.Proof.Halves
public import proofs.«01_k».proof.Proof.Gen.Kernel12Ideal.Value
public import Idealize.ShloMosaic.Lib.Pipeline.ValueKit.Basic

@[expose] public section

/-! The mixer input gradient of attention at `Kernel12Ideal`. Every grid point takes 512 rows, in two halves: the scaled incoming gradient of the sum plus the product of each piece of the
other incoming gradient with its columns of the weight. -/

noncomputable section

namespace Cert.Kernel12Ideal.Mx

open Idealize.ShloMosaic Idealize.ShloMosaic.TcCoe Idealize.SL.Sem Cert.Kernel12Ideal.Gen Cert.Kernel12Ideal.Value Idealize.ShloMosaic.Pointwise Cert.Halves

variable (m : (l : Loc nD τ sig) → Buf (Elt Ideal) l) (c : Dev nD)

/-- The gradient's piece 0 as launched. -/
abbrev x0 : (⟨S16384x1024, .bf16⟩ : BufTy).Contents (Elt Ideal) := m ((c : Thread nD τ).loc main_arg0)

/-- The gradient's piece 1 as launched. -/
abbrev x1 : (⟨S16384x512, .bf16⟩ : BufTy).Contents (Elt Ideal) := m ((c : Thread nD τ).loc main_arg1)

/-- The weight as launched. -/
abbrev wA : (⟨S1024x1536, .bf16⟩ : BufTy).Contents (Elt Ideal) := m ((c : Thread nD τ).loc main_arg2)

/-- The gradient of the sum as launched. -/
abbrev dA : (⟨S16384x1024, .f32⟩ : BufTy).Contents (Elt Ideal) := m ((c : Thread nD τ).loc main_arg3)

/-- The scale of the sum's gradient. -/
abbrev sc : EReal := Ideal.ofBits .f32 0x3FD744FD#32

/-- A row against a row. -/
def dot {n : ℕ} (f g : Fin n → EReal) : EReal := ∑ k : Fin n, f k * g k

/-- The rows of argument 0 at a point. -/
theorem idx0 : ∀ t : Fin cfg0.N, win0_0.index t (0 : Fin 2) = t.val ∧ win0_0.index t (1 : Fin 2) = 0 := (by decide +kernel : ∀ t : Fin grid0.N, _)

/-- An entry of the block of rows of argument 0. -/
theorem blk0 (t : Fin cfg0.N) (r : Fin 512) (k : Fin 1024) (a : Fin 16384) (ha : 512 * t.val + r.val = a.val) : (iblk m c 0 t (ix2 r k) : EReal) = x0 m c (ix2 a k) := by
  show V m c main_arg0 (((cfg0.win 0).blk t).view.emb (ix2 r k)) = _
  rw [V_main_arg0]
  obtain ⟨e0, e1⟩ := idx0 t
  refine congrArg (x0 m c) (funext fun b => Fin.ext ?_)
  match b with
  | ⟨0, _⟩ => show win0_0.index t (0 : Fin 2) * 512 + 1 * r.val = a.val; omega
  | ⟨1, _⟩ => show win0_0.index t (1 : Fin 2) * 1024 + 1 * k.val = k.val; omega

/-- The rows of argument 1 at a point. -/
theorem idx1 : ∀ t : Fin cfg0.N, win0_1.index t (0 : Fin 2) = t.val ∧ win0_1.index t (1 : Fin 2) = 0 := (by decide +kernel : ∀ t : Fin grid0.N, _)

/-- An entry of the block of rows of argument 1. -/
theorem blk1 (t : Fin cfg0.N) (r : Fin 512) (k : Fin 512) (a : Fin 16384) (ha : 512 * t.val + r.val = a.val) : (iblk m c 1 t (ix2 r k) : EReal) = x1 m c (ix2 a k) := by
  show V m c main_arg1 (((cfg0.win 1).blk t).view.emb (ix2 r k)) = _
  rw [V_main_arg1]
  obtain ⟨e0, e1⟩ := idx1 t
  refine congrArg (x1 m c) (funext fun b => Fin.ext ?_)
  match b with
  | ⟨0, _⟩ => show win0_1.index t (0 : Fin 2) * 512 + 1 * r.val = a.val; omega
  | ⟨1, _⟩ => show win0_1.index t (1 : Fin 2) * 512 + 1 * k.val = k.val; omega

/-- The rows of argument 3 at a point. -/
theorem idx3 : ∀ t : Fin cfg0.N, win0_3.index t (0 : Fin 2) = t.val ∧ win0_3.index t (1 : Fin 2) = 0 := (by decide +kernel : ∀ t : Fin grid0.N, _)

/-- An entry of the block of rows of argument 3. -/
theorem blk3 (t : Fin cfg0.N) (r : Fin 512) (k : Fin 1024) (a : Fin 16384) (ha : 512 * t.val + r.val = a.val) : (iblk m c 3 t (ix2 r k) : EReal) = dA m c (ix2 a k) := by
  show V m c main_arg3 (((cfg0.win 3).blk t).view.emb (ix2 r k)) = _
  rw [V_main_arg3]
  obtain ⟨e0, e1⟩ := idx3 t
  refine congrArg (dA m c) (funext fun b => Fin.ext ?_)
  match b with
  | ⟨0, _⟩ => show win0_3.index t (0 : Fin 2) * 512 + 1 * r.val = a.val; omega
  | ⟨1, _⟩ => show win0_3.index t (1 : Fin 2) * 1024 + 1 * k.val = k.val; omega

/-- The weight's block at a point. -/
theorem idx2 : ∀ t : Fin cfg0.N, win0_2.index t (0 : Fin 2) = 0 ∧ win0_2.index t (1 : Fin 2) = 0 := (by decide +kernel : ∀ t : Fin grid0.N, _)

/-- Every point holds the whole weight. -/
theorem blk2 (t : Fin cfg0.N) (q : Fin 1024) (k : Fin 1536) : (iblk m c 2 t (ix2 q k) : EReal) = wA m c (ix2 q k) := by
  show V m c main_arg2 (((cfg0.win 2).blk t).view.emb (ix2 q k)) = _
  rw [V_main_arg2]
  obtain ⟨e0, e1⟩ := idx2 t
  refine congrArg (wA m c) (funext fun b => Fin.ext ?_)
  match b with
  | ⟨0, _⟩ => show win0_2.index t (0 : Fin 2) * 1024 + 1 * q.val = q.val; omega
  | ⟨1, _⟩ => show win0_2.index t (1 : Fin 2) * 1536 + 1 * k.val = k.val; omega

/-- A result's entry: the scaled gradient of the sum, and the pieces' products added one after another. -/
def tot (d : EReal) (f0 g0 : Fin 1024 → EReal) (f1 g1 : Fin 512 → EReal) : EReal := sc * d + dot f0 g0 + dot f1 g1

/-- What is stored of the first half. -/
theorem pay1 (d : Vec Ideal S256x1024 .f32) (y0 : Vec Ideal S256x1024 .bf16) (w0 : Vec Ideal S1024x1024 .bf16) (y1 : Vec Ideal S256x512 .bf16) (w1 : Vec Ideal S1024x512 .bf16) (r : Fin 256) (q : Fin 1024) :
    (k0_pay1 (F := Ideal) d  y0 w0 y1 w1 (ix2 r q) : EReal) = tot (d (ix2 r q)) (fun k => y0 (ix2 r k)) (fun k => w0 (ix2 q k)) (fun k => y1 (ix2 r k)) (fun k => w1 (ix2 q k)) := by
  unfold k0_pay1 tot dot
  pointwise
  try rfl

/-- The same from values read before. -/
theorem pay1_at (d : Vec Ideal S256x1024 .f32) (y0 : Vec Ideal S256x1024 .bf16) (w0 : Vec Ideal S1024x1024 .bf16) (y1 : Vec Ideal S256x512 .bf16) (w1 : Vec Ideal S1024x512 .bf16) (r : Fin 256) (q : Fin 1024) (v : EReal) (f0 g0 : Fin 1024 → EReal) (f1 g1 : Fin 512 → EReal)
    (hd : d (ix2 r q) = v) (hf0 : ∀ k, y0 (ix2 r k) = f0 k) (hg0 : ∀ k, w0 (ix2 q k) = g0 k) (hf1 : ∀ k, y1 (ix2 r k) = f1 k) (hg1 : ∀ k, w1 (ix2 q k) = g1 k) :
    (k0_pay1 (F := Ideal) d  y0 w0 y1 w1 (ix2 r q) : EReal) = tot v f0 g0 f1 g1 := by
  refine (pay1 d y0 w0 y1 w1 r q).trans ?_
  have hd' : (d (ix2 r q) : EReal) = v := hd
  have a0 : (fun k => (y0 (ix2 r k) : EReal)) = f0 := funext hf0
  have b0 : (fun k => (w0 (ix2 q k) : EReal)) = g0 := funext hg0
  have a1 : (fun k => (y1 (ix2 r k) : EReal)) = f1 := funext hf1
  have b1 : (fun k => (w1 (ix2 q k) : EReal)) = g1 := funext hg1
  rw [hd', a0, b0, a1, b1]

/-- What is stored of the second half. -/
theorem pay2 (d : Vec Ideal S256x1024 .f32) (y0 : Vec Ideal S256x1024 .bf16) (w0 : Vec Ideal S1024x1024 .bf16) (y1 : Vec Ideal S256x512 .bf16) (w1 : Vec Ideal S1024x512 .bf16) (r : Fin 256) (q : Fin 1024) :
    (k0_pay2 (F := Ideal) d  y0 w0 y1 w1 (ix2 r q) : EReal) = tot (d (ix2 r q)) (fun k => y0 (ix2 r k)) (fun k => w0 (ix2 q k)) (fun k => y1 (ix2 r k)) (fun k => w1 (ix2 q k)) := by
  unfold k0_pay2 tot dot
  pointwise
  try rfl

/-- The same from values read before. -/
theorem pay2_at (d : Vec Ideal S256x1024 .f32) (y0 : Vec Ideal S256x1024 .bf16) (w0 : Vec Ideal S1024x1024 .bf16) (y1 : Vec Ideal S256x512 .bf16) (w1 : Vec Ideal S1024x512 .bf16) (r : Fin 256) (q : Fin 1024) (v : EReal) (f0 g0 : Fin 1024 → EReal) (f1 g1 : Fin 512 → EReal)
    (hd : d (ix2 r q) = v) (hf0 : ∀ k, y0 (ix2 r k) = f0 k) (hg0 : ∀ k, w0 (ix2 q k) = g0 k) (hf1 : ∀ k, y1 (ix2 r k) = f1 k) (hg1 : ∀ k, w1 (ix2 q k) = g1 k) :
    (k0_pay2 (F := Ideal) d  y0 w0 y1 w1 (ix2 r q) : EReal) = tot v f0 g0 f1 g1 := by
  refine (pay2 d y0 w0 y1 w1 r q).trans ?_
  have hd' : (d (ix2 r q) : EReal) = v := hd
  have a0 : (fun k => (y0 (ix2 r k) : EReal)) = f0 := funext hf0
  have b0 : (fun k => (w0 (ix2 q k) : EReal)) = g0 := funext hg0
  have a1 : (fun k => (y1 (ix2 r k) : EReal)) = f1 := funext hf1
  have b1 : (fun k => (w1 (ix2 q k) : EReal)) = g1 := funext hg1
  rw [hd', a0, b0, a1, b1]

/-- What a point stores. -/
theorem outAt (y0 : Vec Ideal S512x1024 .bf16) (y1 : Vec Ideal S512x512 .bf16) (w : Vec Ideal S1024x1536 .bf16) (d : Vec Ideal S512x1024 .f32) (p : Fin 512) (q : Fin 1024) (v : EReal) (f0 g0 : Fin 1024 → EReal) (f1 g1 : Fin 512 → EReal)
    (hd : d (ix2 p q) = v) (hf0 : ∀ k, y0 (ix2 p k) = f0 k) (hg0 : ∀ k : Fin 1024, w (ix2 q ⟨0 + k.val, by omega⟩) = g0 k) (hf1 : ∀ k, y1 (ix2 p k) = f1 k) (hg1 : ∀ k : Fin 512, w (ix2 q ⟨1024 + k.val, by omega⟩) = g1 k) :
    (out0_4 (F := Ideal) y0 y1 w d (ix2 p q) : EReal) = tot v f0 g0 f1 g1 := by
  unfold out0_4
  exact two p q _
    (fun r h => pay2_at _ _ _ _ _ r q v f0 g0 f1 g1 ((ld_at p q h (Nat.zero_add _)).trans hd) (fun k => (ld_at p k h (Nat.zero_add _)).trans (hf0 k)) (fun k => (ld_at q ⟨0 + k.val, by omega⟩ (Nat.zero_add _) rfl).trans (hg0 k)) (fun k => (ld_at p k h (Nat.zero_add _)).trans (hf1 k)) (fun k => (ld_at q ⟨1024 + k.val, by omega⟩ (Nat.zero_add _) rfl).trans (hg1 k)))
    (fun r h => pay1_at _ _ _ _ _ r q v f0 g0 f1 g1 ((ld_at p q h (Nat.zero_add _)).trans hd) (fun k => (ld_at p k h (Nat.zero_add _)).trans (hf0 k)) (fun k => (ld_at q ⟨0 + k.val, by omega⟩ (Nat.zero_add _) rfl).trans (hg0 k)) (fun k => (ld_at p k h (Nat.zero_add _)).trans (hf1 k)) (fun k => (ld_at q ⟨1024 + k.val, by omega⟩ (Nat.zero_add _) rfl).trans (hg1 k)))

/-- The block of the result at a point. -/
theorem idx4 : ∀ t : Fin cfg0.N, win0_4.index t (0 : Fin 2) = t.val ∧ win0_4.index t (1 : Fin 2) = 0 := (by decide +kernel : ∀ t : Fin grid0.N, _)

/-- Every point writes its block back. -/
theorem flush4 : ∀ t : Fin cfg0.N, (cfg0.win 4).flush t = true := (by decide +kernel : ∀ t : Fin grid0.N, _)

/-- Every entry of the result. -/
theorem arr (a : Fin 16384) (b : Fin 1024) :
    ((dats m 0 c).arrAt 4 cfg0.N (ix2 a b) : EReal) = tot (dA m c (ix2 a b)) (fun k => x0 m c (ix2 a k)) (fun k => wA m c (ix2 b ⟨0 + k.val, by omega⟩)) (fun k => x1 m c (ix2 a k)) (fun k => wA m c (ix2 b ⟨1024 + k.val, by omega⟩)) := by
  have ha := a.isLt
  let t : Fin cfg0.N := ⟨a.val / 512, lt_of_lt_of_eq (show a.val / 512 < 32 by omega) N_0.symm⟩
  have ht : t.val = a.val / 512 := rfl
  let p : Fin 512 := ⟨a.val % 512, Nat.mod_lt _ (by decide)⟩
  have hp : p.val = a.val % 512 := rfl
  have hr : 512 * t.val + p.val = a.val := by omega
  have h : (dats m 0 c).arrAt 4 cfg0.N (((cfg0.win 4).blk t).view.emb (ix2 p b)) = out0_4 (F := Ideal) (iblk m c 0 t) (iblk m c 1 t) (iblk m c 2 t) (iblk m c 3 t) (ix2 p b) :=
    (congrFun (blocks4 m c t (flush4 t)) (ix2 p b)).trans (congrFun (flushed4 m c t) (ix2 p b))
  obtain ⟨e0, e1⟩ := idx4 t
  have hi : ((cfg0.win 4).blk t).view.emb (ix2 p b) = ix2 a b := by
    refine funext fun d => Fin.ext ?_
    match d with
    | ⟨0, _⟩ => show win0_4.index t (0 : Fin 2) * 512 + 1 * p.val = a.val; omega
    | ⟨1, _⟩ => show win0_4.index t (1 : Fin 2) * 1024 + 1 * b.val = b.val; omega
  rw [hi] at h
  exact (show ((dats m 0 c).arrAt 4 cfg0.N (ix2 a b) : EReal) = _ from h).trans (outAt _ _ _ _ p b _ _ _ _ _ (blk3 m c t p b a hr) (fun k => blk0 m c t p k a hr) (fun k => blk2 m c t b _) (fun k => blk1 m c t p k a hr) (fun k => blk2 m c t b _))

end Cert.Kernel12Ideal.Mx

end
-- ==== Proof.MixInBwdAttEq.lean ====
module

public import proofs.«01_k».proof.Defs
public import proofs.«01_k».proof.Proof.MixInBwdAtt
public import proofs.«01_k».proof.Proof.Gen.Reference12Ideal.Run
public import proofs.«01_k».proof.Proof.Gen.Reference12Ideal.Read

@[expose] public section

/-! The reference of the attention's mixer input gradient, and that both compute the same. -/

noncomputable section

namespace Cert.Reference12Ideal.Mx

open Cert.Kernel12Ideal.Mx (sc dot tot)
open Idealize.ShloMosaic Idealize.ShloMosaic.TcCoe Idealize.SL.Sem Cert.Reference12Ideal.Gen Cert.Reference12Ideal.Read Idealize.ShloMosaic.Pointwise

/-- A sum cut in two. -/
theorem cut {a b n : ℕ} (h : a + b = n) (f : Fin n → EReal) : ∑ k : Fin n, f k = (∑ k : Fin a, f ⟨k.val, by omega⟩) + ∑ k : Fin b, f ⟨a + k.val, by omega⟩ := by
  subst h
  exact Fin.sum_univ_add f

/-- Piece 0 of the gradients put side by side. -/
theorem side0 (x0 : (⟨S16384x1024, .bf16⟩ : BufTy).Contents (Elt Ideal)) (x1 : (⟨S16384x512, .bf16⟩ : BufTy).Contents (Elt Ideal)) (p : Fin 16384) (q : Fin 1536) (k : Fin 1024) (h : 0 + k.val = q.val) : (val_main_v1 (F := Ideal) x0 x1 (ix2 p q) : EReal) = x0 (ix2 p k) := by
  have hk := k.isLt
  unfold val_main_v1 val_main_v0
  pointwise
  refine (dif_pos (show q.val < 1024 by omega)).trans ?_
  exact congrArg (fun b => (x0 (ix2 p b) : EReal)) (Fin.ext (by show q.val = k.val; omega))

/-- Piece 1 of the gradients put side by side. -/
theorem side1 (x0 : (⟨S16384x1024, .bf16⟩ : BufTy).Contents (Elt Ideal)) (x1 : (⟨S16384x512, .bf16⟩ : BufTy).Contents (Elt Ideal)) (p : Fin 16384) (q : Fin 1536) (k : Fin 512) (h : 1024 + k.val = q.val) : (val_main_v1 (F := Ideal) x0 x1 (ix2 p q) : EReal) = x1 (ix2 p k) := by
  have hk := k.isLt
  unfold val_main_v1 val_main_v0
  pointwise
  refine (dif_neg (show ¬q.val < 1024 by omega)).trans ?_
  exact congrArg (fun b => (x1 (ix2 p b) : EReal)) (Fin.ext (by show q.val - 1024 = k.val; omega))

/-- The reference's entries. -/
theorem entry (x0 : (⟨S16384x1024, .bf16⟩ : BufTy).Contents (Elt Ideal)) (x1 : (⟨S16384x512, .bf16⟩ : BufTy).Contents (Elt Ideal)) (x2 : (⟨S1024x1536, .bf16⟩ : BufTy).Contents (Elt Ideal)) (x3 : (⟨S16384x1024, .f32⟩ : BufTy).Contents (Elt Ideal)) (p : Fin 16384) (q : Fin 1024) :
    (val_main_v6 (F := Ideal) x0 x1 x2 x3 (ix2 p q) : EReal) = (∑ k : Fin 1536, (val_main_v1 (F := Ideal) x0 x1 (ix2 p k) : EReal) * x2 (ix2 q k)) + sc * x3 (ix2 p q) := by
  unfold val_main_v6 val_main_v5 val_main_v4 val_main_cst val_main_v3 val_main_v2
  pointwise

/-- The order of the additions is free. -/
theorem order (d s0 s1 : EReal) : (s0 + s1) + d = ((d + s0) + s1) := by
  ac_rfl

/-- The reference's entries, one piece's product after another. -/
theorem entries (x0 : (⟨S16384x1024, .bf16⟩ : BufTy).Contents (Elt Ideal)) (x1 : (⟨S16384x512, .bf16⟩ : BufTy).Contents (Elt Ideal)) (x2 : (⟨S1024x1536, .bf16⟩ : BufTy).Contents (Elt Ideal)) (x3 : (⟨S16384x1024, .f32⟩ : BufTy).Contents (Elt Ideal)) (p : Fin 16384) (q : Fin 1024) :
    (val_main_v6 (F := Ideal) x0 x1 x2 x3 (ix2 p q) : EReal) = tot (x3 (ix2 p q)) (fun k => x0 (ix2 p k)) (fun k => x2 (ix2 q ⟨0 + k.val, by omega⟩)) (fun k => x1 (ix2 p k)) (fun k => x2 (ix2 q ⟨1024 + k.val, by omega⟩)) := by
  rw [entry]
  rw [cut (a := 1024) (b := 512) (by omega)]
  refine Eq.trans ?_ (order _ _ _ )
  refine congrArg (fun b : EReal => b + _) ?_
  exact (congrArg₂ (fun a b : EReal => a + b) (Finset.sum_congr rfl fun k _ => congrArg₂ (fun a b : EReal => a * b) (side0 x0 x1 p _ k (Nat.zero_add _)) (congrArg (fun b => (x2 (ix2 q b) : EReal)) (Fin.ext (Nat.zero_add _).symm)))
    (Finset.sum_congr rfl fun k _ => congrArg₂ (fun a b : EReal => a * b) (side1 x0 x1 p _ k rfl) (congrArg (fun b => (x2 (ix2 q b) : EReal)) (Fin.ext rfl))))

/-- The result is the kernel's. -/
theorem eqOut (m : (l : Loc Cert.Kernel12Ideal.nD Cert.Kernel12Ideal.τ Cert.Kernel12Ideal.sig) → Buf (Elt Ideal) l) (c : Dev Cert.Kernel12Ideal.nD) {x0 : (⟨S16384x1024, .bf16⟩ : BufTy).Contents (Elt Ideal)} {x1 : (⟨S16384x512, .bf16⟩ : BufTy).Contents (Elt Ideal)} {x2 : (⟨S1024x1536, .bf16⟩ : BufTy).Contents (Elt Ideal)} {x3 : (⟨S16384x1024, .f32⟩ : BufTy).Contents (Elt Ideal)}
    (e0 : x0 = Cert.Kernel12Ideal.Mx.x0 m c) (e1 : x1 = Cert.Kernel12Ideal.Mx.x1 m c) (e2 : x2 = Cert.Kernel12Ideal.Mx.wA m c) (e3 : x3 = Cert.Kernel12Ideal.Mx.dA m c) :
    val_main_v6 (F := Ideal) x0 x1 x2 x3 = (Cert.Kernel12Ideal.Gen.dats (F := Ideal) m 0 c).arrAt 4 Cert.Kernel12Ideal.cfg0.N := by
  subst e0 e1 e2 e3
  funext i
  refine (congrArg _ (ValueIdx.eq_ix2 i)).trans (Eq.trans ?_ (congrArg _ (ValueIdx.eq_ix2 i).symm))
  exact (entries _ _ _ _ (i 0) (i 1)).trans (Cert.Kernel12Ideal.Mx.arr m c (i 0) (i 1)).symm

/-- The reference ends with its arguments unchanged and every counter at zero. -/
theorem frame : Cert.quiescent_Reference12Ideal (hReference12Ideal := Cert.Reference12Ideal.Gen.facts) := fun m ρ _ =>
  (θ_run Cert.Reference12Ideal.defs _ _).mono
    (fun r h => ⟨fun c => (h c).2, Idealize.ShloMosaic.sem_eq_zero_of_no_sems (by decide) r.2⟩) (Cert.Reference12Ideal.Value.run m ρ)

/-- The kernel and the reference compute the same. -/
theorem values : Cert.algebraic_Kernel12Ideal_Reference12Ideal (hKernel12Ideal := Cert.Kernel12Ideal.Gen.facts) (hReference12Ideal := Cert.Reference12Ideal.Gen.facts) := by
  intro m ρ m' ρ' _ hag
  refine ⟨fun c => (Cert.Kernel12Ideal.Gen.dats (F := Ideal) m 0 c).arrAt 4 Cert.Kernel12Ideal.cfg0.N, (θ_run _ _ _).mono (fun _ h c => h c) (Cert.Kernel12Ideal.Value.run_blocks (F := Ideal) m ρ),
    (θ_run _ _ _).mono (fun _ h c => ⟨(h c).1.trans ?_, (h c).2⟩) (Cert.Reference12Ideal.Value.run (F := Ideal) m' ρ')⟩
  · obtain ⟨e0, e1, e2, e3⟩ := hag c
    exact (val_main_v6_eq (F := Ideal) _ _ _ _).trans (eqOut m c e0 e1 e2 e3)

end Cert.Reference12Ideal.Mx

end
-- ==== Proof.DwMixInAtt.lean ====
module

public import proofs.«01_k».proof.Proof.Sums
public import proofs.«01_k».proof.Proof.Stores
public import proofs.«01_k».proof.Proof.Gen.Kernel13Ideal.Value

@[expose] public section

/-! The weight gradient of the call at `Kernel13Ideal`: its result is the product of the transposed input with the incoming
gradients, each entry a sum over the 16384 rows that the kernel takes 2048 at a time. -/

set_option maxRecDepth 16384

noncomputable section

namespace Cert.Kernel13Ideal.Dw

open Idealize.ShloMosaic Idealize.ShloMosaic.Tactic Idealize.ShloMosaic.TcCoe Cert.Kernel13Ideal.Gen Cert.Kernel13Ideal.Value Idealize.ShloMosaic.Pointwise Cert.Rows Cert.Stores

variable (m : (ℓ : Loc nD τ sig) → Buf (Elt Ideal) ℓ) (c : Dev nD)

/-- The input whose transpose is multiplied. -/
abbrev xA : S16384x1024.Idx → EReal := m ((c : Thread nD τ).loc main_arg0)

/-- Incoming gradient 1 of 2. -/
abbrev y0A : S16384x1024.Idx → EReal := m ((c : Thread nD τ).loc main_arg1)

/-- Incoming gradient 2 of 2. -/
abbrev y1A : S16384x512.Idx → EReal := m ((c : Thread nD τ).loc main_arg2)

/-- Row `k`, column `p` of the input. -/
def xv (k : Fin 16384) (p : ℕ) : EReal := xA m c (ix2 k ⟨p % 1024, Nat.mod_lt _ (by decide)⟩)

/-- Row `k`, column `q` of the incoming gradients side by side. -/
def yv (k : Fin 16384) (q : ℕ) : EReal := if q < 1024 then y0A m c (ix2 k ⟨(q - 0) % 1024, Nat.mod_lt _ (by decide)⟩) else y1A m c (ix2 k ⟨(q - 1024) % 512, Nat.mod_lt _ (by decide)⟩)

/-- The products that entry `(p, q)` of the weight gradient sums. -/
def term (p q : ℕ) (k : Fin 16384) : EReal := xv m c k p * yv m c k q

/-- The input's block at a point. -/
theorem idx0 : ∀ t : Fin cfg0.N, win0_0.index t (0 : Fin 2) = t.val % 8 ∧ win0_0.index t (1 : Fin 2) = 0 := (by decide +kernel : ∀ t : Fin grid0.N, _)

/-- The input's block holds its rows. -/
theorem blk0 (t : Fin cfg0.N) (r : Fin 2048) (p : Fin 1024) : (iblk m c 0 t (ix2 r p) : EReal) = xv m c (row (2048 * (t.val % 8) + r.val)) (1024 * 0 + p.val) := by
  have hN := lt_of_lt_of_eq t.isLt (show cfg0.N = 24 from N_0)
  show V m c main_arg0 (((cfg0.win 0).blk t).view.emb (ix2 r p)) = _
  rw [V_main_arg0]
  obtain ⟨e0, e1⟩ := idx0 t
  refine congrArg (xA m c) (funext fun b => Fin.ext ?_)
  have hr := r.isLt
  have hp := p.isLt
  match b with
  | ⟨0, _⟩ => show win0_0.index t (0 : Fin 2) * 2048 + 1 * r.val = (2048 * (t.val % 8) + r.val) % 16384; omega
  | ⟨1, _⟩ => show win0_0.index t (1 : Fin 2) * 1024 + 1 * p.val = (1024 * 0 + p.val) % 1024; omega

/-- Gradient 1's block at a point that reads it. -/
theorem idx1 : ∀ t : Fin cfg0.N, 0 ≤ t.val / 8 ∧ t.val / 8 < 2 → win0_1.index t (0 : Fin 2) = t.val % 8 ∧ win0_1.index t (1 : Fin 2) = t.val / 8 := (by decide +kernel : ∀ t : Fin grid0.N, _)

/-- Gradient 1's block holds its rows. -/
theorem blk1 (t : Fin cfg0.N) (h : 0 ≤ t.val / 8 ∧ t.val / 8 < 2) (r : Fin 2048) (q : Fin 512) : (iblk m c 1 t (ix2 r q) : EReal) = yv m c (row (2048 * (t.val % 8) + r.val)) (512 * (t.val / 8) + q.val) := by
  have hN := lt_of_lt_of_eq t.isLt (show cfg0.N = 24 from N_0)
  have hr := r.isLt
  have hq := q.isLt
  show V m c main_arg1 (((cfg0.win 1).blk t).view.emb (ix2 r q)) = _
  rw [V_main_arg1]
  obtain ⟨e0, e1⟩ := idx1 t h
  unfold yv
  rw [if_pos (by omega)]
  refine congrArg (y0A m c) (funext fun b => Fin.ext ?_)
  match b with
  | ⟨0, _⟩ => show win0_1.index t (0 : Fin 2) * 2048 + 1 * r.val = (2048 * (t.val % 8) + r.val) % 16384; omega
  | ⟨1, _⟩ => show win0_1.index t (1 : Fin 2) * 512 + 1 * q.val = (512 * (t.val / 8) + q.val - 0) % 1024; omega

/-- Gradient 2's block at a point that reads it. -/
theorem idx2 : ∀ t : Fin cfg0.N, 2 ≤ t.val / 8 ∧ t.val / 8 < 3 → win0_2.index t (0 : Fin 2) = t.val % 8 ∧ win0_2.index t (1 : Fin 2) = t.val / 8 - 2 := (by decide +kernel : ∀ t : Fin grid0.N, _)

/-- Gradient 2's block holds its rows. -/
theorem blk2 (t : Fin cfg0.N) (h : 2 ≤ t.val / 8 ∧ t.val / 8 < 3) (r : Fin 2048) (q : Fin 512) : (iblk m c 2 t (ix2 r q) : EReal) = yv m c (row (2048 * (t.val % 8) + r.val)) (512 * (t.val / 8) + q.val) := by
  have hN := lt_of_lt_of_eq t.isLt (show cfg0.N = 24 from N_0)
  have hr := r.isLt
  have hq := q.isLt
  show V m c main_arg2 (((cfg0.win 2).blk t).view.emb (ix2 r q)) = _
  rw [V_main_arg2]
  obtain ⟨e0, e1⟩ := idx2 t h
  unfold yv
  rw [if_neg (by omega)]
  refine congrArg (y1A m c) (funext fun b => Fin.ext ?_)
  match b with
  | ⟨0, _⟩ => show win0_2.index t (0 : Fin 2) * 2048 + 1 * r.val = (2048 * (t.val % 8) + r.val) % 16384; omega
  | ⟨1, _⟩ => show win0_2.index t (1 : Fin 2) * 512 + 1 * q.val = (512 * (t.val / 8) + q.val - 1024) % 512; omega

/-- One point's product. -/
theorem prod0 (a : Vec Ideal S2048x1024 .bf16) (b : Vec Ideal S2048x512 .bf16) (p : Fin 1024) (q : Fin 512) : (k0_pay1 a b (ix2 p q) : EReal) = ∑ r : Fin 2048, a (ix2 r p) * b (ix2 r q) := by
  unfold k0_pay1
  pointwise

/-- What a first point stores. -/
theorem start0 (a : Vec Ideal S2048x1024 .bf16) (b : Vec Ideal S2048x512 .bf16) (p : Fin 1024) (q : Fin 512) : (k0_pay2 a b (ix2 p q) : EReal) = ∑ r : Fin 2048, a (ix2 r p) * b (ix2 r q) := by
  unfold k0_pay2
  pointwise
  exact prod0 a b p q

/-- What a later point stores. -/
theorem more0 (a : Vec Ideal S2048x1024 .bf16) (b : Vec Ideal S2048x512 .bf16) (w : Vec Ideal S1024x512 .f32) (p : Fin 1024) (q : Fin 512) :
    (k0_pay3 a b w (ix2 p q) : EReal) = w (ix2 p q) + ∑ r : Fin 2048, a (ix2 r p) * b (ix2 r q) := by
  unfold k0_pay3
  pointwise
  exact congrArg (w (ix2 p q) + ·) (prod0 a b p q)

/-- One point's part of the sum. -/
theorem part0 (n P Q : ℕ) (a : Vec Ideal S2048x1024 .bf16) (b : Vec Ideal S2048x512 .bf16) (p : Fin 1024) (q : Fin 512)
    (ha : ∀ r : Fin 2048, (a (ix2 r p) : EReal) = xv m c (row (2048 * n + r.val)) P) (hb : ∀ r : Fin 2048, (b (ix2 r q) : EReal) = yv m c (row (2048 * n + r.val)) Q) :
    ∑ r : Fin 2048, a (ix2 r p) * b (ix2 r q) = ∑ r : Fin 2048, term m c P Q (row (2048 * n + r.val)) :=
  Finset.sum_congr rfl fun r _ => congrArg₂ (fun x y : EReal => x * y) (ha r) (hb r)

/-- The stored result is the kept sum. -/
theorem last (w : Vec Ideal S1024x512 .f32) (p : Fin 1024) (q : Fin 512) : (k0_pay7 w (ix2 p q) : EReal) = w (ix2 p q) := by
  unfold k0_pay7
  pointwise

/-- The buffer of the kept sum is whole. -/
theorem wholeS : scM0_0.IsWhole := Memref.isWhole_whole _

/-- The sum kept before a point. -/
abbrev prev (t : Fin cfg0.N) : Vec Ideal S1024x512 .f32 := (outsAt0 (F := Ideal) m c (t.val - 1) (Nat.lt_of_le_of_lt (Nat.sub_le _ _) t.isLt)).2

/-- A first point of gradient 1 on the run. -/
theorem atA (t : Fin cfg0.N) (h0 : t.val < 16) (h1 : t.val % 8 = 0) (h2 : ¬1 ≤ t.val % 8) (h3 : ¬16 ≤ t.val) (h4 : ¬t.val % 8 = 7) :
    (outsAt0 (F := Ideal) m c t.val t.isLt).2 = k0_pay2 (iblk m c 0 t) (iblk m c 1 t) := by
  rw [outsAt0_A m c t h0 h1 h2 h3 h4]
  dsimp only
  unfold sout0_A_0
  refine kept_of _ _ inb_S1024x512_S1024x512_0_0 (k0_pay2 (got (hs0_0 t) inb_S2048x1024_S2048x1024_0_0 (iblk m c 0 t)) (got (hs0_1 t) inb_S2048x512_S2048x512_0_0 (iblk m c 1 t))) ?_ ?_
  · sl_kernel_rfl
  · rw [got_eq, got_eq]

/-- A middle point of gradient 1 on the run. -/
theorem atB (t : Fin cfg0.N) (h0 : t.val < 16) (h1 : ¬t.val % 8 = 0) (h2 : 1 ≤ t.val % 8) (h3 : ¬16 ≤ t.val) (h4 : ¬t.val % 8 = 7) :
    (outsAt0 (F := Ideal) m c t.val t.isLt).2 = k0_pay3 (iblk m c 0 t) (iblk m c 1 t) (prev m c t) := by
  rw [outsAt0_B m c t h0 h1 h2 h3 h4]
  dsimp only
  unfold sout0_B_0
  refine kept_of _ _ inb_S1024x512_S1024x512_0_0 (k0_pay3 (got (hs0_0 t) inb_S2048x1024_S2048x1024_0_0 (iblk m c 0 t)) (got (hs0_1 t) inb_S2048x512_S2048x512_0_0 (iblk m c 1 t)) (got wholeS inb_S1024x512_S1024x512_0_0 (prev m c t))) ?_ ?_
  · sl_kernel_rfl
  · rw [got_eq, got_eq, got_eq]

/-- A last point of gradient 1 on the run. -/
theorem atC (t : Fin cfg0.N) (h0 : t.val < 16) (h1 : ¬t.val % 8 = 0) (h2 : 1 ≤ t.val % 8) (h3 : ¬16 ≤ t.val) (h4 : t.val % 8 = 7) :
    (outsAt0 (F := Ideal) m c t.val t.isLt).2 = k0_pay3 (iblk m c 0 t) (iblk m c 1 t) (prev m c t) := by
  rw [outsAt0_C m c t h0 h1 h2 h3 h4]
  dsimp only
  unfold sout0_C_0
  refine kept_of _ _ inb_S1024x512_S1024x512_0_0 (k0_pay3 (got (hs0_0 t) inb_S2048x1024_S2048x1024_0_0 (iblk m c 0 t)) (got (hs0_1 t) inb_S2048x512_S2048x512_0_0 (iblk m c 1 t)) (got wholeS inb_S1024x512_S1024x512_0_0 (prev m c t))) ?_ ?_
  · sl_kernel_rfl
  · rw [got_eq, got_eq, got_eq]

/-- A last point of gradient 1 on the run leaves the kept sum in the result's block. -/
theorem outC (t : Fin cfg0.N) (h0 : t.val < 16) (h1 : ¬t.val % 8 = 0) (h2 : 1 ≤ t.val % 8) (h3 : ¬16 ≤ t.val) (h4 : t.val % 8 = 7) :
    (outsAt0 (F := Ideal) m c t.val t.isLt).1 = k0_pay7 ((outsAt0 (F := Ideal) m c t.val t.isLt).2) := by
  rw [atC m c t h0 h1 h2 h3 h4, outsAt0_C m c t h0 h1 h2 h3 h4]
  dsimp only
  unfold out0_C_3
  refine kept_of _ _ inb_S1024x512_S1024x512_0_0 (k0_pay7 (again scM0_0.view inb_S1024x512_S1024x512_0_0 (k0_pay3 (got (hs0_0 t) inb_S2048x1024_S2048x1024_0_0 (iblk m c 0 t)) (got (hs0_1 t) inb_S2048x512_S2048x512_0_0 (iblk m c 1 t)) (got wholeS inb_S1024x512_S1024x512_0_0 (prev m c t))))) ?_ ?_
  · sl_kernel_rfl
  · rw [again_eq, got_eq, got_eq, got_eq]

/-- A first point of gradient 2 on the run. -/
theorem atD (t : Fin cfg0.N) (h0 : ¬t.val < 16) (h3 : 16 ≤ t.val) (h4 : ¬t.val % 8 = 7) (h5 : t.val % 8 = 0) (h6 : ¬1 ≤ t.val % 8) :
    (outsAt0 (F := Ideal) m c t.val t.isLt).2 = k0_pay5 (iblk m c 0 t) (iblk m c 2 t) := by
  rw [outsAt0_D m c t h0 h3 h4 h5 h6]
  dsimp only
  unfold sout0_D_0
  refine kept_of _ _ inb_S1024x512_S1024x512_0_0 (k0_pay5 (got (hs0_0 t) inb_S2048x1024_S2048x1024_0_0 (iblk m c 0 t)) (got (hs0_2 t) inb_S2048x512_S2048x512_0_0 (iblk m c 2 t))) ?_ ?_
  · sl_kernel_rfl
  · rw [got_eq, got_eq]

/-- A middle point of gradient 2 on the run. -/
theorem atE (t : Fin cfg0.N) (h0 : ¬t.val < 16) (h3 : 16 ≤ t.val) (h4 : ¬t.val % 8 = 7) (h5 : ¬t.val % 8 = 0) (h6 : 1 ≤ t.val % 8) :
    (outsAt0 (F := Ideal) m c t.val t.isLt).2 = k0_pay6 (iblk m c 0 t) (iblk m c 2 t) (prev m c t) := by
  rw [outsAt0_E m c t h0 h3 h4 h5 h6]
  dsimp only
  unfold sout0_E_0
  refine kept_of _ _ inb_S1024x512_S1024x512_0_0 (k0_pay6 (got (hs0_0 t) inb_S2048x1024_S2048x1024_0_0 (iblk m c 0 t)) (got (hs0_2 t) inb_S2048x512_S2048x512_0_0 (iblk m c 2 t)) (got wholeS inb_S1024x512_S1024x512_0_0 (prev m c t))) ?_ ?_
  · sl_kernel_rfl
  · rw [got_eq, got_eq, got_eq]

/-- A last point of gradient 2 on the run. -/
theorem atF (t : Fin cfg0.N) (h0 : ¬t.val < 16) (h3 : 16 ≤ t.val) (h4 : t.val % 8 = 7) (h5 : ¬t.val % 8 = 0) (h6 : 1 ≤ t.val % 8) :
    (outsAt0 (F := Ideal) m c t.val t.isLt).2 = k0_pay6 (iblk m c 0 t) (iblk m c 2 t) (prev m c t) := by
  rw [outsAt0_F m c t h0 h3 h4 h5 h6]
  dsimp only
  unfold sout0_F_0
  refine kept_of _ _ inb_S1024x512_S1024x512_0_0 (k0_pay6 (got (hs0_0 t) inb_S2048x1024_S2048x1024_0_0 (iblk m c 0 t)) (got (hs0_2 t) inb_S2048x512_S2048x512_0_0 (iblk m c 2 t)) (got wholeS inb_S1024x512_S1024x512_0_0 (prev m c t))) ?_ ?_
  · sl_kernel_rfl
  · rw [got_eq, got_eq, got_eq]

/-- A last point of gradient 2 on the run leaves the kept sum in the result's block. -/
theorem outF (t : Fin cfg0.N) (h0 : ¬t.val < 16) (h3 : 16 ≤ t.val) (h4 : t.val % 8 = 7) (h5 : ¬t.val % 8 = 0) (h6 : 1 ≤ t.val % 8) :
    (outsAt0 (F := Ideal) m c t.val t.isLt).1 = k0_pay7 ((outsAt0 (F := Ideal) m c t.val t.isLt).2) := by
  rw [atF m c t h0 h3 h4 h5 h6, outsAt0_F m c t h0 h3 h4 h5 h6]
  dsimp only
  unfold out0_F_3
  refine kept_of _ _ inb_S1024x512_S1024x512_0_0 (k0_pay7 (again scM0_0.view inb_S1024x512_S1024x512_0_0 (k0_pay6 (got (hs0_0 t) inb_S2048x1024_S2048x1024_0_0 (iblk m c 0 t)) (got (hs0_2 t) inb_S2048x512_S2048x512_0_0 (iblk m c 2 t)) (got wholeS inb_S1024x512_S1024x512_0_0 (prev m c t))))) ?_ ?_
  · sl_kernel_rfl
  · rw [again_eq, got_eq, got_eq, got_eq]

/-- A first point keeps the sum of its rows. -/
theorem first (t : Fin cfg0.N) (h : t.val % 8 = 0) (p : Fin 1024) (q : Fin 512) :
    ((outsAt0 (F := Ideal) m c t.val t.isLt).2 (ix2 p q) : EReal) = upTo (term m c (1024 * 0 + p.val) (512 * (t.val / 8) + q.val)) (t.val % 8 + 1) := by
  have hN := lt_of_lt_of_eq t.isLt (show cfg0.N = 24 from N_0)
  rw [upTo_succ, show upTo (term m c (1024 * 0 + p.val) (512 * (t.val / 8) + q.val)) (t.val % 8) = 0 by rw [h, upTo_zero], zero_add]
  by_cases c0 : t.val / 8 < 2
  · rw [atA m c t (by omega) (by omega) (by omega) (by omega) (by omega)]
    exact (start0 _ _ p q).trans (part0 m c _ _ _ _ _ p q (fun r => blk0 m c t r p) (fun r => blk1 m c t (by omega) r q))
  rw [atD m c t (by omega) (by omega) (by omega) (by omega) (by omega)]
  exact (start0 _ _ p q).trans (part0 m c _ _ _ _ _ p q (fun r => blk0 m c t r p) (fun r => blk2 m c t (by omega) r q))

/-- A later point adds its rows to the kept sum. -/
theorem later (t : Fin cfg0.N) (h : ¬t.val % 8 = 0) (p : Fin 1024) (q : Fin 512)
    (ih : ((prev m c t) (ix2 p q) : EReal) = upTo (term m c (1024 * 0 + p.val) (512 * ((t.val - 1) / 8) + q.val)) ((t.val - 1) % 8 + 1)) :
    ((outsAt0 (F := Ideal) m c t.val t.isLt).2 (ix2 p q) : EReal) = upTo (term m c (1024 * 0 + p.val) (512 * (t.val / 8) + q.val)) (t.val % 8 + 1) := by
  have hN := lt_of_lt_of_eq t.isLt (show cfg0.N = 24 from N_0)
  rw [show (t.val - 1) / 8 = t.val / 8 by omega, show (t.val - 1) % 8 + 1 = t.val % 8 by omega] at ih
  rw [upTo_succ, ← ih]
  by_cases h7 : t.val % 8 = 7
  · by_cases c0 : t.val / 8 < 2
    · rw [atC m c t (by omega) (by omega) (by omega) (by omega) (by omega)]
      exact (more0 _ _ _ p q).trans (congrArg (_ + ·) (part0 m c _ _ _ _ _ p q (fun r => blk0 m c t r p) (fun r => blk1 m c t (by omega) r q)))
    rw [atF m c t (by omega) (by omega) (by omega) (by omega) (by omega)]
    exact (more0 _ _ _ p q).trans (congrArg (_ + ·) (part0 m c _ _ _ _ _ p q (fun r => blk0 m c t r p) (fun r => blk2 m c t (by omega) r q)))
  · by_cases c0 : t.val / 8 < 2
    · rw [atB m c t (by omega) (by omega) (by omega) (by omega) (by omega)]
      exact (more0 _ _ _ p q).trans (congrArg (_ + ·) (part0 m c _ _ _ _ _ p q (fun r => blk0 m c t r p) (fun r => blk1 m c t (by omega) r q)))
    rw [atE m c t (by omega) (by omega) (by omega) (by omega) (by omega)]
    exact (more0 _ _ _ p q).trans (congrArg (_ + ·) (part0 m c _ _ _ _ _ p q (fun r => blk0 m c t r p) (fun r => blk2 m c t (by omega) r q)))

/-- Every point keeps the sum of the rows up to its own. -/
theorem kept : ∀ (n : ℕ) (hn : n < cfg0.N) (p : Fin 1024) (q : Fin 512), ((outsAt0 (F := Ideal) m c n hn).2 (ix2 p q) : EReal) = upTo (term m c (1024 * 0 + p.val) (512 * (n / 8) + q.val)) (n % 8 + 1)
  | 0, hn, p, q => first m c ⟨0, hn⟩ rfl p q
  | n + 1, hn, p, q => by
    by_cases h : (n + 1) % 8 = 0
    · exact first m c ⟨n + 1, hn⟩ h p q
    · exact later m c ⟨n + 1, hn⟩ h p q (kept n (Nat.lt_of_succ_lt hn) p q)

/-- A last point leaves the whole sum. -/
theorem done (t : Fin cfg0.N) (h : t.val % 8 = 7) (p : Fin 1024) (q : Fin 512) :
    ((outsAt0 (F := Ideal) m c t.val t.isLt).1 (ix2 p q) : EReal) = ∑ k : Fin 16384, term m c (1024 * 0 + p.val) (512 * (t.val / 8) + q.val) k := by
  have hN := lt_of_lt_of_eq t.isLt (show cfg0.N = 24 from N_0)
  rw [← upTo_all]
  have e := kept m c t.val t.isLt p q
  rw [h] at e
  by_cases c0 : t.val / 8 < 2
  · rw [outC m c t (by omega) (by omega) (by omega) (by omega) (by omega)]
    exact (last _ p q).trans e
  rw [outF m c t (by omega) (by omega) (by omega) (by omega) (by omega)]
  exact (last _ p q).trans e

/-- What the kernel leaves in its result. -/
theorem G_eq : G3 (F := Ideal) m c = fun i => ∑ k : Fin 16384, term m c (i 0).val (i 1).val k := by
  funext i
  have h0 : (i 0).val < 1024 := (i 0).isLt
  have h1 : (i 1).val < 1536 := (i 1).isLt
  have hp : pt3Of i = 8 * ((i 1).val / 512) + 7 := by
    show 8 * (3 * ((i 0).val / 1024 - 0) + 1 * ((i 1).val / 512 - 0)) + 7 = _
    omega
  have hN : pt3Of i < cfg0.N := lt_of_lt_of_eq (by rw [hp]; omega) (show 24 = cfg0.N from N_0.symm)
  have hl : loc3Of i = ix2 ⟨(i 0).val % 1024, Nat.mod_lt _ (by decide)⟩ ⟨(i 1).val % 512, Nat.mod_lt _ (by decide)⟩ := ValueIdx.eq_ix2 _
  unfold G3
  rw [dif_pos hN, ← outsAt0_sweep m c (pt3Of i) hN, hl]
  refine (done m c ⟨pt3Of i, hN⟩ (by show pt3Of i % 8 = 7; rw [hp]; omega) _ _).trans (Finset.sum_congr rfl fun k _ => ?_)
  have e0 : 1024 * 0 + (i 0).val % 1024 = (i 0).val := by omega
  have e1 : 512 * ((pt3Of i) / 8) + (i 1).val % 512 = (i 1).val := by rw [hp]; omega
  exact congrArg₂ (fun a b => term m c a b k) e0 e1

end Cert.Kernel13Ideal.Dw

end
-- ==== Proof.DwMixInAttEq.lean ====
module

public import proofs.«01_k».proof.Defs
public import proofs.«01_k».proof.Proof.DwMixInAtt
public import proofs.«01_k».proof.Proof.Gen.Reference13Ideal.Run
public import proofs.«01_k».proof.Proof.Gen.Reference13Ideal.Read

@[expose] public section

/-! The reference of the weight gradient at `Kernel13Ideal`, and that both compute the same. -/

noncomputable section

namespace Cert.Reference13Ideal.Dw

open Idealize.ShloMosaic Idealize.ShloMosaic.TcCoe Idealize.SL.Sem Cert.Reference13Ideal.Gen Cert.Reference13Ideal.Read Idealize.ShloMosaic.Pointwise

/-- Row `k`, column `q` of the incoming gradients side by side. -/
def side (x1 : (⟨S16384x1024, .bf16⟩ : BufTy).Contents (Elt Ideal)) (x2 : (⟨S16384x512, .bf16⟩ : BufTy).Contents (Elt Ideal)) (k : Fin 16384) (q : ℕ) : EReal := if q < 1024 then x1 (ix2 k ⟨(q - 0) % 1024, Nat.mod_lt _ (by decide)⟩) else x2 (ix2 k ⟨(q - 1024) % 512, Nat.mod_lt _ (by decide)⟩)

/-- It depends on the gradients alone. -/
theorem side_congr {x1 z1 : (⟨S16384x1024, .bf16⟩ : BufTy).Contents (Elt Ideal)} {x2 z2 : (⟨S16384x512, .bf16⟩ : BufTy).Contents (Elt Ideal)} (h1 : x1 = z1) (h2 : x2 = z2) (k : Fin 16384) (q : ℕ) :
    side x1 x2 k q = side z1 z2 k q := by
  subst h1 h2
  rfl

/-- The gradients put side by side. -/
theorem beside (x1 : (⟨S16384x1024, .bf16⟩ : BufTy).Contents (Elt Ideal)) (x2 : (⟨S16384x512, .bf16⟩ : BufTy).Contents (Elt Ideal)) (k : Fin 16384) (q : Fin 1536) : (val_main_v1 (F := Ideal) x1 x2 (ix2 k q) : EReal) = side x1 x2 k q.val := by
  have hq := q.isLt
  unfold val_main_v1 side
  pointwise
  by_cases h0 : q.val < 1024
  · refine (dif_pos h0).trans (Eq.trans ?_ (if_pos (show q.val < 1024 by omega)).symm)
    exact congrArg (fun b => x1 (ix2 k b)) (Fin.ext (by show q.val = (q.val - 0) % 1024; omega))
  · refine (dif_neg h0).trans (Eq.trans ?_ (if_neg (show ¬q.val < 1024 by omega)).symm)
    exact congrArg (fun b => x2 (ix2 k b)) (Fin.ext (by show q.val - 1024 = (q.val - 1024) % 512; omega))

/-- The reference's entries. -/
theorem entry (x0 : (⟨S16384x1024, .bf16⟩ : BufTy).Contents (Elt Ideal)) (x1 : (⟨S16384x1024, .bf16⟩ : BufTy).Contents (Elt Ideal)) (x2 : (⟨S16384x512, .bf16⟩ : BufTy).Contents (Elt Ideal)) (p : Fin 1024) (q : Fin 1536) :
    (val_main_v5 (F := Ideal) x0 x1 x2 (ix2 p q) : EReal) = ∑ k : Fin 16384, side x1 x2 k q.val * x0 (ix2 k p) := by
  have hq := q.isLt
  unfold val_main_v5 val_main_v4 val_main_v3 val_main_v2 val_main_v0
  pointwise
  exact Finset.sum_congr rfl fun k _ => congrArg (fun b : EReal => b * x0 (ix2 k p)) (beside x1 x2 k q)

/-- The reference ends with its arguments unchanged and every counter at zero. -/
theorem frame : Cert.quiescent_Reference13Ideal (hReference13Ideal := Cert.Reference13Ideal.Gen.facts) := fun m ρ _ =>
  (θ_run Cert.Reference13Ideal.defs _ _).mono
    (fun r h => ⟨fun c => (h c).2, Idealize.ShloMosaic.sem_eq_zero_of_no_sems (by decide) r.2⟩) (Cert.Reference13Ideal.Value.run m ρ)

/-- The kernel and the reference compute the same weight gradient. -/
theorem values : Cert.algebraic_Kernel13Ideal_Reference13Ideal (hKernel13Ideal := Cert.Kernel13Ideal.Gen.facts) (hReference13Ideal := Cert.Reference13Ideal.Gen.facts) := by
  intro m ρ m' ρ' _ hag
  refine ⟨fun c => Cert.Kernel13Ideal.Value.G3 (F := Ideal) m c, (θ_run _ _ _).mono (fun _ h c => h c) (Cert.Kernel13Ideal.Value.run (F := Ideal) m ρ),
    (θ_run _ _ _).mono (fun _ h c => ⟨(h c).1.trans ?_, (h c).2⟩) (Cert.Reference13Ideal.Value.run (F := Ideal) m' ρ')⟩
  obtain ⟨e0, e1, e2⟩ := hag c
  refine (val_main_v5_eq (F := Ideal) _ _ _).trans ?_
  refine Eq.trans ?_ (Cert.Kernel13Ideal.Dw.G_eq m c).symm
  funext i
  have h0 : (i 0).val < 1024 := (i 0).isLt
  refine (congrArg _ (ValueIdx.eq_ix2 i)).trans ((entry _ _ _ (i 0) (i 1)).trans (Finset.sum_congr rfl fun k _ => (mul_comm _ _).trans ?_))
  refine congrArg₂ (fun a b : EReal => a * b) ((congrFun e0 _).trans ?_) (side_congr e1 e2 k (i 1).val)
  exact congrArg (fun b => Cert.Kernel13Ideal.Dw.xA m c (ix2 k b)) (Fin.ext (Nat.mod_eq_of_lt h0).symm)

end Cert.Reference13Ideal.Dw

end
-- ==== Proof.DwPleProj.lean ====
module

public import proofs.«01_k».proof.Proof.Sums
public import proofs.«01_k».proof.Proof.Stores
public import proofs.«01_k».proof.Proof.Gen.Kernel14Ideal.Value

@[expose] public section

/-! The weight gradient of the call at `Kernel14Ideal`: its result is the product of the transposed input with the incoming
gradients, each entry a sum over the 16384 rows that the kernel takes 2048 at a time. -/

set_option maxRecDepth 16384

noncomputable section

namespace Cert.Kernel14Ideal.Dw

open Idealize.ShloMosaic Idealize.ShloMosaic.Tactic Idealize.ShloMosaic.TcCoe Cert.Kernel14Ideal.Gen Cert.Kernel14Ideal.Value Idealize.ShloMosaic.Pointwise Cert.Rows Cert.Stores

variable (m : (ℓ : Loc nD τ sig) → Buf (Elt Ideal) ℓ) (c : Dev nD)

/-- The input whose transpose is multiplied. -/
abbrev xA : S16384x256.Idx → EReal := m ((c : Thread nD τ).loc main_arg0)

/-- Incoming gradient 1 of 1. -/
abbrev y0A : S16384x1024.Idx → EReal := m ((c : Thread nD τ).loc main_arg1)

/-- Row `k`, column `p` of the input. -/
def xv (k : Fin 16384) (p : ℕ) : EReal := xA m c (ix2 k ⟨p % 256, Nat.mod_lt _ (by decide)⟩)

/-- Row `k`, column `q` of the incoming gradients side by side. -/
def yv (k : Fin 16384) (q : ℕ) : EReal := y0A m c (ix2 k ⟨(q - 0) % 1024, Nat.mod_lt _ (by decide)⟩)

/-- The products that entry `(p, q)` of the weight gradient sums. -/
def term (p q : ℕ) (k : Fin 16384) : EReal := xv m c k p * yv m c k q

/-- The input's block at a point. -/
theorem idx0 : ∀ t : Fin cfg0.N, win0_0.index t (0 : Fin 2) = t.val % 8 ∧ win0_0.index t (1 : Fin 2) = 0 := (by decide +kernel : ∀ t : Fin grid0.N, _)

/-- The input's block holds its rows. -/
theorem blk0 (t : Fin cfg0.N) (r : Fin 2048) (p : Fin 256) : (iblk m c 0 t (ix2 r p) : EReal) = xv m c (row (2048 * (t.val % 8) + r.val)) (256 * 0 + p.val) := by
  have hN := lt_of_lt_of_eq t.isLt (show cfg0.N = 8 from N_0)
  show V m c main_arg0 (((cfg0.win 0).blk t).view.emb (ix2 r p)) = _
  rw [V_main_arg0]
  obtain ⟨e0, e1⟩ := idx0 t
  refine congrArg (xA m c) (funext fun b => Fin.ext ?_)
  have hr := r.isLt
  have hp := p.isLt
  match b with
  | ⟨0, _⟩ => show win0_0.index t (0 : Fin 2) * 2048 + 1 * r.val = (2048 * (t.val % 8) + r.val) % 16384; omega
  | ⟨1, _⟩ => show win0_0.index t (1 : Fin 2) * 256 + 1 * p.val = (256 * 0 + p.val) % 256; omega

/-- Gradient 1's block at a point that reads it. -/
theorem idx1 : ∀ t : Fin cfg0.N, win0_1.index t (0 : Fin 2) = t.val % 8 ∧ win0_1.index t (1 : Fin 2) = t.val / 8 := (by decide +kernel : ∀ t : Fin grid0.N, _)

/-- Gradient 1's block holds its rows. -/
theorem blk1 (t : Fin cfg0.N) (r : Fin 2048) (q : Fin 1024) : (iblk m c 1 t (ix2 r q) : EReal) = yv m c (row (2048 * (t.val % 8) + r.val)) (1024 * (t.val / 8) + q.val) := by
  have hN := lt_of_lt_of_eq t.isLt (show cfg0.N = 8 from N_0)
  have hr := r.isLt
  have hq := q.isLt
  show V m c main_arg1 (((cfg0.win 1).blk t).view.emb (ix2 r q)) = _
  rw [V_main_arg1]
  obtain ⟨e0, e1⟩ := idx1 t
  unfold yv
  refine congrArg (y0A m c) (funext fun b => Fin.ext ?_)
  match b with
  | ⟨0, _⟩ => show win0_1.index t (0 : Fin 2) * 2048 + 1 * r.val = (2048 * (t.val % 8) + r.val) % 16384; omega
  | ⟨1, _⟩ => show win0_1.index t (1 : Fin 2) * 1024 + 1 * q.val = (1024 * (t.val / 8) + q.val - 0) % 1024; omega

/-- One point's product. -/
theorem prod0 (a : Vec Ideal S2048x256 .f32) (b : Vec Ideal S2048x1024 .bf16) (p : Fin 256) (q : Fin 1024) : (k0_pay1 a b (ix2 p q) : EReal) = ∑ r : Fin 2048, a (ix2 r p) * b (ix2 r q) := by
  unfold k0_pay1
  pointwise

/-- What a first point stores. -/
theorem start0 (a : Vec Ideal S2048x256 .f32) (b : Vec Ideal S2048x1024 .bf16) (p : Fin 256) (q : Fin 1024) : (k0_pay2 a b (ix2 p q) : EReal) = ∑ r : Fin 2048, a (ix2 r p) * b (ix2 r q) := by
  unfold k0_pay2
  pointwise
  exact prod0 a b p q

/-- What a later point stores. -/
theorem more0 (a : Vec Ideal S2048x256 .f32) (b : Vec Ideal S2048x1024 .bf16) (w : Vec Ideal S256x1024 .f32) (p : Fin 256) (q : Fin 1024) :
    (k0_pay3 a b w (ix2 p q) : EReal) = w (ix2 p q) + ∑ r : Fin 2048, a (ix2 r p) * b (ix2 r q) := by
  unfold k0_pay3
  pointwise
  exact congrArg (w (ix2 p q) + ·) (prod0 a b p q)

/-- One point's part of the sum. -/
theorem part0 (n P Q : ℕ) (a : Vec Ideal S2048x256 .f32) (b : Vec Ideal S2048x1024 .bf16) (p : Fin 256) (q : Fin 1024)
    (ha : ∀ r : Fin 2048, (a (ix2 r p) : EReal) = xv m c (row (2048 * n + r.val)) P) (hb : ∀ r : Fin 2048, (b (ix2 r q) : EReal) = yv m c (row (2048 * n + r.val)) Q) :
    ∑ r : Fin 2048, a (ix2 r p) * b (ix2 r q) = ∑ r : Fin 2048, term m c P Q (row (2048 * n + r.val)) :=
  Finset.sum_congr rfl fun r _ => congrArg₂ (fun x y : EReal => x * y) (ha r) (hb r)

/-- The stored result is the kept sum. -/
theorem last (w : Vec Ideal S256x1024 .f32) (p : Fin 256) (q : Fin 1024) : (k0_pay4 w (ix2 p q) : EReal) = w (ix2 p q) := by
  unfold k0_pay4
  pointwise

/-- The buffer of the kept sum is whole. -/
theorem wholeS : scM0_0.IsWhole := Memref.isWhole_whole _

/-- The sum kept before a point. -/
abbrev prev (t : Fin cfg0.N) : Vec Ideal S256x1024 .f32 := (outsAt0 (F := Ideal) m c (t.val - 1) (Nat.lt_of_le_of_lt (Nat.sub_le _ _) t.isLt)).2

/-- A first point of gradient 1 on the run. -/
theorem atA (t : Fin cfg0.N) (h0 : t.val % 8 = 0) (h1 : ¬1 ≤ t.val) (h2 : ¬t.val % 8 = 7) :
    (outsAt0 (F := Ideal) m c t.val t.isLt).2 = k0_pay2 (iblk m c 0 t) (iblk m c 1 t) := by
  rw [outsAt0_A m c t h0 h1 h2]
  dsimp only
  unfold sout0_A_0
  refine kept_of _ _ inb_S256x1024_S256x1024_0_0 (k0_pay2 (got (hs0_0 t) inb_S2048x256_S2048x256_0_0 (iblk m c 0 t)) (got (hs0_1 t) inb_S2048x1024_S2048x1024_0_0 (iblk m c 1 t))) ?_ ?_
  · sl_kernel_rfl
  · rw [got_eq, got_eq]

/-- A middle point of gradient 1 on the run. -/
theorem atB (t : Fin cfg0.N) (h0 : ¬t.val % 8 = 0) (h1 : 1 ≤ t.val) (h2 : ¬t.val % 8 = 7) :
    (outsAt0 (F := Ideal) m c t.val t.isLt).2 = k0_pay3 (iblk m c 0 t) (iblk m c 1 t) (prev m c t) := by
  rw [outsAt0_B m c t h0 h1 h2]
  dsimp only
  unfold sout0_B_0
  refine kept_of _ _ inb_S256x1024_S256x1024_0_0 (k0_pay3 (got (hs0_0 t) inb_S2048x256_S2048x256_0_0 (iblk m c 0 t)) (got (hs0_1 t) inb_S2048x1024_S2048x1024_0_0 (iblk m c 1 t)) (got wholeS inb_S256x1024_S256x1024_0_0 (prev m c t))) ?_ ?_
  · sl_kernel_rfl
  · rw [got_eq, got_eq, got_eq]

/-- A last point of gradient 1 on the run. -/
theorem atC (t : Fin cfg0.N) (h0 : ¬t.val % 8 = 0) (h1 : 1 ≤ t.val) (h2 : t.val % 8 = 7) :
    (outsAt0 (F := Ideal) m c t.val t.isLt).2 = k0_pay3 (iblk m c 0 t) (iblk m c 1 t) (prev m c t) := by
  rw [outsAt0_C m c t h0 h1 h2]
  dsimp only
  unfold sout0_C_0
  refine kept_of _ _ inb_S256x1024_S256x1024_0_0 (k0_pay3 (got (hs0_0 t) inb_S2048x256_S2048x256_0_0 (iblk m c 0 t)) (got (hs0_1 t) inb_S2048x1024_S2048x1024_0_0 (iblk m c 1 t)) (got wholeS inb_S256x1024_S256x1024_0_0 (prev m c t))) ?_ ?_
  · sl_kernel_rfl
  · rw [got_eq, got_eq, got_eq]

/-- A last point of gradient 1 on the run leaves the kept sum in the result's block. -/
theorem outC (t : Fin cfg0.N) (h0 : ¬t.val % 8 = 0) (h1 : 1 ≤ t.val) (h2 : t.val % 8 = 7) :
    (outsAt0 (F := Ideal) m c t.val t.isLt).1 = k0_pay4 ((outsAt0 (F := Ideal) m c t.val t.isLt).2) := by
  rw [atC m c t h0 h1 h2, outsAt0_C m c t h0 h1 h2]
  dsimp only
  unfold out0_C_2
  refine kept_of _ _ inb_S256x1024_S256x1024_0_0 (k0_pay4 (again scM0_0.view inb_S256x1024_S256x1024_0_0 (k0_pay3 (got (hs0_0 t) inb_S2048x256_S2048x256_0_0 (iblk m c 0 t)) (got (hs0_1 t) inb_S2048x1024_S2048x1024_0_0 (iblk m c 1 t)) (got wholeS inb_S256x1024_S256x1024_0_0 (prev m c t))))) ?_ ?_
  · sl_kernel_rfl
  · rw [again_eq, got_eq, got_eq, got_eq]

/-- A first point keeps the sum of its rows. -/
theorem first (t : Fin cfg0.N) (h : t.val % 8 = 0) (p : Fin 256) (q : Fin 1024) :
    ((outsAt0 (F := Ideal) m c t.val t.isLt).2 (ix2 p q) : EReal) = upTo (term m c (256 * 0 + p.val) (1024 * (t.val / 8) + q.val)) (t.val % 8 + 1) := by
  have hN := lt_of_lt_of_eq t.isLt (show cfg0.N = 8 from N_0)
  rw [upTo_succ, show upTo (term m c (256 * 0 + p.val) (1024 * (t.val / 8) + q.val)) (t.val % 8) = 0 by rw [h, upTo_zero], zero_add]
  rw [atA m c t (by omega) (by omega) (by omega)]
  exact (start0 _ _ p q).trans (part0 m c _ _ _ _ _ p q (fun r => blk0 m c t r p) (fun r => blk1 m c t r q))

/-- A later point adds its rows to the kept sum. -/
theorem later (t : Fin cfg0.N) (h : ¬t.val % 8 = 0) (p : Fin 256) (q : Fin 1024)
    (ih : ((prev m c t) (ix2 p q) : EReal) = upTo (term m c (256 * 0 + p.val) (1024 * ((t.val - 1) / 8) + q.val)) ((t.val - 1) % 8 + 1)) :
    ((outsAt0 (F := Ideal) m c t.val t.isLt).2 (ix2 p q) : EReal) = upTo (term m c (256 * 0 + p.val) (1024 * (t.val / 8) + q.val)) (t.val % 8 + 1) := by
  have hN := lt_of_lt_of_eq t.isLt (show cfg0.N = 8 from N_0)
  rw [show (t.val - 1) / 8 = t.val / 8 by omega, show (t.val - 1) % 8 + 1 = t.val % 8 by omega] at ih
  rw [upTo_succ, ← ih]
  by_cases h7 : t.val % 8 = 7
  · rw [atC m c t (by omega) (by omega) (by omega)]
    exact (more0 _ _ _ p q).trans (congrArg (_ + ·) (part0 m c _ _ _ _ _ p q (fun r => blk0 m c t r p) (fun r => blk1 m c t r q)))
  · rw [atB m c t (by omega) (by omega) (by omega)]
    exact (more0 _ _ _ p q).trans (congrArg (_ + ·) (part0 m c _ _ _ _ _ p q (fun r => blk0 m c t r p) (fun r => blk1 m c t r q)))

/-- Every point keeps the sum of the rows up to its own. -/
theorem kept : ∀ (n : ℕ) (hn : n < cfg0.N) (p : Fin 256) (q : Fin 1024), ((outsAt0 (F := Ideal) m c n hn).2 (ix2 p q) : EReal) = upTo (term m c (256 * 0 + p.val) (1024 * (n / 8) + q.val)) (n % 8 + 1)
  | 0, hn, p, q => first m c ⟨0, hn⟩ rfl p q
  | n + 1, hn, p, q => by
    by_cases h : (n + 1) % 8 = 0
    · exact first m c ⟨n + 1, hn⟩ h p q
    · exact later m c ⟨n + 1, hn⟩ h p q (kept n (Nat.lt_of_succ_lt hn) p q)

/-- A last point leaves the whole sum. -/
theorem done (t : Fin cfg0.N) (h : t.val % 8 = 7) (p : Fin 256) (q : Fin 1024) :
    ((outsAt0 (F := Ideal) m c t.val t.isLt).1 (ix2 p q) : EReal) = ∑ k : Fin 16384, term m c (256 * 0 + p.val) (1024 * (t.val / 8) + q.val) k := by
  have hN := lt_of_lt_of_eq t.isLt (show cfg0.N = 8 from N_0)
  rw [← upTo_all]
  have e := kept m c t.val t.isLt p q
  rw [h] at e
  rw [outC m c t (by omega) (by omega) (by omega)]
  exact (last _ p q).trans e

/-- What the kernel leaves in its result. -/
theorem G_eq : G2 (F := Ideal) m c = fun i => ∑ k : Fin 16384, term m c (i 0).val (i 1).val k := by
  funext i
  have h0 : (i 0).val < 256 := (i 0).isLt
  have h1 : (i 1).val < 1024 := (i 1).isLt
  have hp : pt2Of i = 8 * ((i 1).val / 1024) + 7 := by
    show 8 * (1 * ((i 0).val / 256 - 0) + 1 * ((i 1).val / 1024 - 0)) + 7 = _
    omega
  have hN : pt2Of i < cfg0.N := lt_of_lt_of_eq (by rw [hp]; omega) (show 8 = cfg0.N from N_0.symm)
  have hl : loc2Of i = ix2 ⟨(i 0).val % 256, Nat.mod_lt _ (by decide)⟩ ⟨(i 1).val % 1024, Nat.mod_lt _ (by decide)⟩ := ValueIdx.eq_ix2 _
  unfold G2
  rw [dif_pos hN, ← outsAt0_sweep m c (pt2Of i) hN, hl]
  refine (done m c ⟨pt2Of i, hN⟩ (by show pt2Of i % 8 = 7; rw [hp]; omega) _ _).trans (Finset.sum_congr rfl fun k _ => ?_)
  have e0 : 256 * 0 + (i 0).val % 256 = (i 0).val := by omega
  have e1 : 1024 * ((pt2Of i) / 8) + (i 1).val % 1024 = (i 1).val := by rw [hp]; omega
  exact congrArg₂ (fun a b => term m c a b k) e0 e1

end Cert.Kernel14Ideal.Dw

end
-- ==== Proof.DwPleProjEq.lean ====
module

public import proofs.«01_k».proof.Defs
public import proofs.«01_k».proof.Proof.DwPleProj
public import proofs.«01_k».proof.Proof.Gen.Reference14Ideal.Run
public import proofs.«01_k».proof.Proof.Gen.Reference14Ideal.Read

@[expose] public section

/-! The reference of the weight gradient at `Kernel14Ideal`, and that both compute the same. -/

noncomputable section

namespace Cert.Reference14Ideal.Dw

open Idealize.ShloMosaic Idealize.ShloMosaic.TcCoe Idealize.SL.Sem Cert.Reference14Ideal.Gen Cert.Reference14Ideal.Read Idealize.ShloMosaic.Pointwise

/-- Row `k`, column `q` of the incoming gradients side by side. -/
def side (x1 : (⟨S16384x1024, .bf16⟩ : BufTy).Contents (Elt Ideal)) (k : Fin 16384) (q : ℕ) : EReal := x1 (ix2 k ⟨(q - 0) % 1024, Nat.mod_lt _ (by decide)⟩)

/-- It depends on the gradients alone. -/
theorem side_congr {x1 z1 : (⟨S16384x1024, .bf16⟩ : BufTy).Contents (Elt Ideal)} (h1 : x1 = z1) (k : Fin 16384) (q : ℕ) :
    side x1 k q = side z1 k q := by
  subst h1
  rfl

/-- The reference's entries. -/
theorem entry (x0 : (⟨S16384x256, .f32⟩ : BufTy).Contents (Elt Ideal)) (x1 : (⟨S16384x1024, .bf16⟩ : BufTy).Contents (Elt Ideal)) (p : Fin 256) (q : Fin 1024) :
    (val_main_v3 (F := Ideal) x0 x1 (ix2 p q) : EReal) = ∑ k : Fin 16384, side x1 k q.val * x0 (ix2 k p) := by
  have hq := q.isLt
  unfold val_main_v3 val_main_v2 val_main_v1 val_main_v0
  pointwise
  exact Finset.sum_congr rfl fun k _ => congrArg (fun b : Fin 1024 => (x1 (ix2 k b) : EReal) * x0 (ix2 k p)) (Fin.ext (by show q.val = (q.val - 0) % 1024; omega))

/-- The reference ends with its arguments unchanged and every counter at zero. -/
theorem frame : Cert.quiescent_Reference14Ideal (hReference14Ideal := Cert.Reference14Ideal.Gen.facts) := fun m ρ _ =>
  (θ_run Cert.Reference14Ideal.defs _ _).mono
    (fun r h => ⟨fun c => (h c).2, Idealize.ShloMosaic.sem_eq_zero_of_no_sems (by decide) r.2⟩) (Cert.Reference14Ideal.Value.run m ρ)

/-- The kernel and the reference compute the same weight gradient. -/
theorem values : Cert.algebraic_Kernel14Ideal_Reference14Ideal (hKernel14Ideal := Cert.Kernel14Ideal.Gen.facts) (hReference14Ideal := Cert.Reference14Ideal.Gen.facts) := by
  intro m ρ m' ρ' _ hag
  refine ⟨fun c => Cert.Kernel14Ideal.Value.G2 (F := Ideal) m c, (θ_run _ _ _).mono (fun _ h c => h c) (Cert.Kernel14Ideal.Value.run (F := Ideal) m ρ),
    (θ_run _ _ _).mono (fun _ h c => ⟨(h c).1.trans ?_, (h c).2⟩) (Cert.Reference14Ideal.Value.run (F := Ideal) m' ρ')⟩
  obtain ⟨e0, e1⟩ := hag c
  refine (val_main_v3_eq (F := Ideal) _ _).trans ?_
  refine Eq.trans ?_ (Cert.Kernel14Ideal.Dw.G_eq m c).symm
  funext i
  have h0 : (i 0).val < 256 := (i 0).isLt
  refine (congrArg _ (ValueIdx.eq_ix2 i)).trans ((entry _ _ (i 0) (i 1)).trans (Finset.sum_congr rfl fun k _ => (mul_comm _ _).trans ?_))
  refine congrArg₂ (fun a b : EReal => a * b) ((congrFun e0 _).trans ?_) (side_congr e1 k (i 1).val)
  exact congrArg (fun b => Cert.Kernel14Ideal.Dw.xA m c (ix2 k b)) (Fin.ext (Nat.mod_eq_of_lt h0).symm)

end Cert.Reference14Ideal.Dw

end
-- ==== Proof.FfnOutPle.lean ====
module

public import proofs.«01_k».proof.Proof.Halves
public import proofs.«01_k».proof.Proof.Norm
public import proofs.«01_k».proof.Proof.Gen.Kernel15Ideal.Value
public import Idealize.ShloMosaic.Lib.Pipeline.ValueKit.Basic

@[expose] public section

/-! The feed-forward output with the per-layer embedding at `Kernel15Ideal`, row by row. -/

noncomputable section

namespace Cert.Kernel15Ideal.Fo

open Idealize.ShloMosaic Idealize.ShloMosaic.TcCoe Idealize.SL.Sem Cert.Kernel15Ideal.Gen Cert.Kernel15Ideal.Value Idealize.ShloMosaic.Pointwise Cert.Halves Cert.Norm

variable (m : (l : Loc nD τ sig) → Buf (Elt Ideal) l) (c : Dev nD)

/-- The feed-forward output with its residual branch. -/
theorem pay5 (v0 : Vec Ideal S256x1024 .f32) (v1 v2 : Vec Ideal S1x1024 .f32) (v3 : Vec Ideal S256x2816 .bf16) (v4 : Vec Ideal S2816x1024 .bf16) (r : Fin 256) (q : Fin 1024) :
    (k0_pay5 (F := Ideal) v0 v1 v2 v3 v4 (ix2 r q) : EReal) = (res (ln (fun k => v0 (ix2 r k)) (fun k => v1 (ix2 0 k)) (fun k => v2 (ix2 0 k))) (fun k => v3 (ix2 r k)) (fun k j => v4 (ix2 k j))) q := by
  unfold k0_pay5 res ln var mean dot
  pointwise
  try rfl

/-- The feed-forward output with its residual branch. -/
theorem pay11 (v0 : Vec Ideal S256x1024 .f32) (v1 v2 : Vec Ideal S1x1024 .f32) (v3 : Vec Ideal S256x2816 .bf16) (v4 : Vec Ideal S2816x1024 .bf16) (r : Fin 256) (q : Fin 1024) :
    (k0_pay11 (F := Ideal) v0 v1 v2 v3 v4 (ix2 r q) : EReal) = (res (ln (fun k => v0 (ix2 r k)) (fun k => v1 (ix2 0 k)) (fun k => v2 (ix2 0 k))) (fun k => v3 (ix2 r k)) (fun k j => v4 (ix2 k j))) q := by
  unfold k0_pay11 res ln var mean dot
  pointwise
  try rfl

/-- Its mean. -/
theorem pay6 (v0 : Vec Ideal S256x1024 .f32) (v1 v2 : Vec Ideal S1x1024 .f32) (v3 : Vec Ideal S256x2816 .bf16) (v4 : Vec Ideal S2816x1024 .bf16) (r : Fin 256) (q : Fin 1024) :
    (k0_pay6 (F := Ideal) v0 v1 v2 v3 v4 (ix2 r q) : EReal) = mean (res (ln (fun k => v0 (ix2 r k)) (fun k => v1 (ix2 0 k)) (fun k => v2 (ix2 0 k))) (fun k => v3 (ix2 r k)) (fun k j => v4 (ix2 k j))) := by
  unfold k0_pay6 mean
  pointwise
  exact congrArg (fun a : EReal => Ideal.div a len) (Finset.sum_congr rfl fun k _ => pay5 v0 v1 v2 v3 v4 r k)

/-- Its difference from its mean. -/
theorem pay12 (v0 : Vec Ideal S256x1024 .f32) (v1 v2 : Vec Ideal S1x1024 .f32) (v3 : Vec Ideal S256x2816 .bf16) (v4 : Vec Ideal S2816x1024 .bf16) (r : Fin 256) (q : Fin 1024) :
    (k0_pay12 (F := Ideal) v0 v1 v2 v3 v4 (ix2 r q) : EReal) = (res (ln (fun k => v0 (ix2 r k)) (fun k => v1 (ix2 0 k)) (fun k => v2 (ix2 0 k))) (fun k => v3 (ix2 r k)) (fun k j => v4 (ix2 k j))) q - mean (res (ln (fun k => v0 (ix2 r k)) (fun k => v1 (ix2 0 k)) (fun k => v2 (ix2 0 k))) (fun k => v3 (ix2 r k)) (fun k j => v4 (ix2 k j))) := by
  unfold k0_pay12 mean
  pointwise
  exact congrArg₂ (fun a b : EReal => a - Ideal.div b len) (pay11 v0 v1 v2 v3 v4 r q) (Finset.sum_congr rfl fun k _ => pay11 v0 v1 v2 v3 v4 r k)

/-- Its variance. -/
theorem pay13 (v0 : Vec Ideal S256x1024 .f32) (v1 v2 : Vec Ideal S1x1024 .f32) (v3 : Vec Ideal S256x2816 .bf16) (v4 : Vec Ideal S2816x1024 .bf16) (r : Fin 256) (q : Fin 1) :
    (k0_pay13 (F := Ideal) v0 v1 v2 v3 v4 (ix2 r q) : EReal) = var (res (ln (fun k => v0 (ix2 r k)) (fun k => v1 (ix2 0 k)) (fun k => v2 (ix2 0 k))) (fun k => v3 (ix2 r k)) (fun k j => v4 (ix2 k j))) := by
  unfold k0_pay13 var
  pointwise
  exact congrArg (fun a : EReal => Ideal.div a len) (Finset.sum_congr rfl fun k _ => congrArg₂ (fun a b : EReal => a * b) (pay12 v0 v1 v2 v3 v4 r k) (pay12 v0 v1 v2 v3 v4 r k))

/-- The norm of a row, from the row and its mean. -/
theorem pay7 (y : Vec Ideal S256x1024 .f32) (g b : Vec Ideal S1x1024 .f32) (z : Vec Ideal S256x1024 .f32) (r : Fin 256) (q : Fin 1024) (f : Fin 1024 → EReal)
    (hy : ∀ k, (y (ix2 r k) : EReal) = f k) (hz : ∀ k, (z (ix2 r k) : EReal) = mean f) :
    (k0_pay7 (F := Ideal) y g b z (ix2 r q) : EReal) = ln f (fun k => g (ix2 0 k)) (fun k => b (ix2 0 k)) q := by
  have h : ∀ k, (y (ix2 r k) : EReal) - z (ix2 r k) = f k - mean f := fun k => by rw [hy, hz]
  unfold k0_pay7 ln var
  pointwise
  rw [h q]
  refine congrArg (fun a : EReal => (f q - mean f) * Ideal.rsqrt (a + eps) * g (ix2 0 q) + b (ix2 0 q)) ?_
  exact congrArg (fun a : EReal => Ideal.div a len) (Finset.sum_congr rfl fun k _ => congrArg₂ (fun a b : EReal => a * b) (h k) (h k))

/-- The norm of a row, from the row's difference from its mean and its variance. -/
theorem pay1 (g b : Vec Ideal S1x1024 .f32) (y : Vec Ideal S256x1024 .f32) (z : Vec Ideal S256x1 .f32) (r : Fin 256) (q : Fin 1024) (f : Fin 1024 → EReal)
    (hy : ∀ k, (y (ix2 r k) : EReal) = f k - mean f) (hz : (z (ix2 r 0) : EReal) = var f) :
    (k0_pay1 (F := Ideal) g b y z (ix2 r q) : EReal) = ln f (fun k => g (ix2 0 k)) (fun k => b (ix2 0 k)) q := by
  unfold k0_pay1 ln
  pointwise
  rw [hy q, hz]

/-- A row with the per-layer embedding, from its norm. -/
theorem pay3 (g b : Vec Ideal S1x1024 .f32) (y : Vec Ideal S256x1024 .f32) (z : Vec Ideal S256x1 .f32) (wg : Vec Ideal S1024x1024 .bf16) (p : Vec Ideal S256x256 .f32) (wp : Vec Ideal S256x1024 .bf16)
    (r : Fin 256) (q : Fin 1024) (f : Fin 1024 → EReal) (hf : ∀ k, (k0_pay1 (F := Ideal) g b y z (ix2 r k) : EReal) = f k) :
    (k0_pay3 (F := Ideal) g b y z wg p wp (ix2 r q) : EReal) = ple f (fun k j => wg (ix2 k j)) (fun k => p (ix2 r k)) (fun k j => wp (ix2 k j)) q := by
  unfold k0_pay3 k0_pay2 ple dot
  pointwise
  rw [hf q]
  exact congrArg (fun a : EReal => f q + Ideal.logistic a * _) (Finset.sum_congr rfl fun k _ => congrArg (fun a : EReal => a * wg (ix2 k q)) (hf k))

/-- A row with the per-layer embedding, from its norm. -/
theorem pay9 (g b : Vec Ideal S1x1024 .f32) (y : Vec Ideal S256x1024 .f32) (z : Vec Ideal S256x1024 .f32) (wg : Vec Ideal S1024x1024 .bf16) (p : Vec Ideal S256x256 .f32) (wp : Vec Ideal S256x1024 .bf16)
    (r : Fin 256) (q : Fin 1024) (f : Fin 1024 → EReal) (hf : ∀ k, (k0_pay7 (F := Ideal) y g b z (ix2 r k) : EReal) = f k) :
    (k0_pay9 (F := Ideal) y g b z wg p wp (ix2 r q) : EReal) = ple f (fun k j => wg (ix2 k j)) (fun k => p (ix2 r k)) (fun k j => wp (ix2 k j)) q := by
  unfold k0_pay9 k0_pay8 ple dot
  pointwise
  rw [hf q]
  exact congrArg (fun a : EReal => f q + Ideal.logistic a * _) (Finset.sum_congr rfl fun k _ => congrArg (fun a : EReal => a * wg (ix2 k q)) (hf k))

/-- The activation as launched. -/
abbrev aA : (⟨S16384x2816, .bf16⟩ : BufTy).Contents (Elt Ideal) := m ((c : Thread nD τ).loc main_arg0)

/-- The block of argument 0 at a point. -/
theorem idx0 : ∀ t : Fin cfg0.N, win0_0.index t (0 : Fin 2) = t.val ∧ win0_0.index t (1 : Fin 2) = 0 := (by decide +kernel : ∀ t : Fin grid0.N, _)

/-- An entry of the block of argument 0. -/
theorem blk0 (t : Fin cfg0.N) (r : Fin 512) (k : Fin 2816) (a : Fin 16384) (ha : 512 * t.val + r.val = a.val) : (iblk m c 0 t (ix2 r k) : EReal) = aA m c (ix2 a k) := by
  show V m c main_arg0 (((cfg0.win 0).blk t).view.emb (ix2 r k)) = _
  rw [V_main_arg0]
  obtain ⟨e0, e1⟩ := idx0 t
  refine congrArg (aA m c) (funext fun b => Fin.ext ?_)
  match b with
  | ⟨0, _⟩ => show win0_0.index t (0 : Fin 2) * 512 + 1 * r.val = a.val; omega
  | ⟨1, _⟩ => show win0_0.index t (1 : Fin 2) * 2816 + 1 * k.val = k.val; omega

/-- The output weight as launched. -/
abbrev wA : (⟨S2816x1024, .bf16⟩ : BufTy).Contents (Elt Ideal) := m ((c : Thread nD τ).loc main_arg1)

/-- The block of argument 1 at a point. -/
theorem idx1 : ∀ t : Fin cfg0.N, win0_1.index t (0 : Fin 2) = 0 ∧ win0_1.index t (1 : Fin 2) = 0 := (by decide +kernel : ∀ t : Fin grid0.N, _)

/-- Every point holds the whole of argument 1. -/
theorem blk1 (t : Fin cfg0.N) (q : Fin 2816) (k : Fin 1024) : (iblk m c 1 t (ix2 q k) : EReal) = wA m c (ix2 q k) := by
  show V m c main_arg1 (((cfg0.win 1).blk t).view.emb (ix2 q k)) = _
  rw [V_main_arg1]
  obtain ⟨e0, e1⟩ := idx1 t
  refine congrArg (wA m c) (funext fun b => Fin.ext ?_)
  match b with
  | ⟨0, _⟩ => show win0_1.index t (0 : Fin 2) * 2816 + 1 * q.val = q.val; omega
  | ⟨1, _⟩ => show win0_1.index t (1 : Fin 2) * 1024 + 1 * k.val = k.val; omega

/-- The row before the first norm as launched. -/
abbrev xA : (⟨S16384x1024, .f32⟩ : BufTy).Contents (Elt Ideal) := m ((c : Thread nD τ).loc main_arg2)

/-- The block of argument 2 at a point. -/
theorem idx2 : ∀ t : Fin cfg0.N, win0_2.index t (0 : Fin 2) = t.val ∧ win0_2.index t (1 : Fin 2) = 0 := (by decide +kernel : ∀ t : Fin grid0.N, _)

/-- An entry of the block of argument 2. -/
theorem blk2 (t : Fin cfg0.N) (r : Fin 512) (k : Fin 1024) (a : Fin 16384) (ha : 512 * t.val + r.val = a.val) : (iblk m c 2 t (ix2 r k) : EReal) = xA m c (ix2 a k) := by
  show V m c main_arg2 (((cfg0.win 2).blk t).view.emb (ix2 r k)) = _
  rw [V_main_arg2]
  obtain ⟨e0, e1⟩ := idx2 t
  refine congrArg (xA m c) (funext fun b => Fin.ext ?_)
  match b with
  | ⟨0, _⟩ => show win0_2.index t (0 : Fin 2) * 512 + 1 * r.val = a.val; omega
  | ⟨1, _⟩ => show win0_2.index t (1 : Fin 2) * 1024 + 1 * k.val = k.val; omega

/-- The first norm's scale as launched. -/
abbrev g1 : (⟨S1x1024, .f32⟩ : BufTy).Contents (Elt Ideal) := m ((c : Thread nD τ).loc main_arg3)

/-- The block of argument 3 at a point. -/
theorem idx3 : ∀ t : Fin cfg0.N, win0_3.index t (0 : Fin 2) = 0 ∧ win0_3.index t (1 : Fin 2) = 0 := (by decide +kernel : ∀ t : Fin grid0.N, _)

/-- Every point holds the whole of argument 3. -/
theorem blk3 (t : Fin cfg0.N) (q : Fin 1) (k : Fin 1024) : (iblk m c 3 t (ix2 q k) : EReal) = g1 m c (ix2 q k) := by
  show V m c main_arg3 (((cfg0.win 3).blk t).view.emb (ix2 q k)) = _
  rw [V_main_arg3]
  obtain ⟨e0, e1⟩ := idx3 t
  refine congrArg (g1 m c) (funext fun b => Fin.ext ?_)
  match b with
  | ⟨0, _⟩ => show win0_3.index t (0 : Fin 2) * 1 + 1 * q.val = q.val; omega
  | ⟨1, _⟩ => show win0_3.index t (1 : Fin 2) * 1024 + 1 * k.val = k.val; omega

/-- The first norm's shift as launched. -/
abbrev b1 : (⟨S1x1024, .f32⟩ : BufTy).Contents (Elt Ideal) := m ((c : Thread nD τ).loc main_arg4)

/-- The block of argument 4 at a point. -/
theorem idx4 : ∀ t : Fin cfg0.N, win0_4.index t (0 : Fin 2) = 0 ∧ win0_4.index t (1 : Fin 2) = 0 := (by decide +kernel : ∀ t : Fin grid0.N, _)

/-- Every point holds the whole of argument 4. -/
theorem blk4 (t : Fin cfg0.N) (q : Fin 1) (k : Fin 1024) : (iblk m c 4 t (ix2 q k) : EReal) = b1 m c (ix2 q k) := by
  show V m c main_arg4 (((cfg0.win 4).blk t).view.emb (ix2 q k)) = _
  rw [V_main_arg4]
  obtain ⟨e0, e1⟩ := idx4 t
  refine congrArg (b1 m c) (funext fun b => Fin.ext ?_)
  match b with
  | ⟨0, _⟩ => show win0_4.index t (0 : Fin 2) * 1 + 1 * q.val = q.val; omega
  | ⟨1, _⟩ => show win0_4.index t (1 : Fin 2) * 1024 + 1 * k.val = k.val; omega

/-- The second norm's scale as launched. -/
abbrev g2 : (⟨S1x1024, .f32⟩ : BufTy).Contents (Elt Ideal) := m ((c : Thread nD τ).loc main_arg5)

/-- The block of argument 5 at a point. -/
theorem idx5 : ∀ t : Fin cfg0.N, win0_5.index t (0 : Fin 2) = 0 ∧ win0_5.index t (1 : Fin 2) = 0 := (by decide +kernel : ∀ t : Fin grid0.N, _)

/-- Every point holds the whole of argument 5. -/
theorem blk5 (t : Fin cfg0.N) (q : Fin 1) (k : Fin 1024) : (iblk m c 5 t (ix2 q k) : EReal) = g2 m c (ix2 q k) := by
  show V m c main_arg5 (((cfg0.win 5).blk t).view.emb (ix2 q k)) = _
  rw [V_main_arg5]
  obtain ⟨e0, e1⟩ := idx5 t
  refine congrArg (g2 m c) (funext fun b => Fin.ext ?_)
  match b with
  | ⟨0, _⟩ => show win0_5.index t (0 : Fin 2) * 1 + 1 * q.val = q.val; omega
  | ⟨1, _⟩ => show win0_5.index t (1 : Fin 2) * 1024 + 1 * k.val = k.val; omega

/-- The second norm's shift as launched. -/
abbrev b2 : (⟨S1x1024, .f32⟩ : BufTy).Contents (Elt Ideal) := m ((c : Thread nD τ).loc main_arg6)

/-- The block of argument 6 at a point. -/
theorem idx6 : ∀ t : Fin cfg0.N, win0_6.index t (0 : Fin 2) = 0 ∧ win0_6.index t (1 : Fin 2) = 0 := (by decide +kernel : ∀ t : Fin grid0.N, _)

/-- Every point holds the whole of argument 6. -/
theorem blk6 (t : Fin cfg0.N) (q : Fin 1) (k : Fin 1024) : (iblk m c 6 t (ix2 q k) : EReal) = b2 m c (ix2 q k) := by
  show V m c main_arg6 (((cfg0.win 6).blk t).view.emb (ix2 q k)) = _
  rw [V_main_arg6]
  obtain ⟨e0, e1⟩ := idx6 t
  refine congrArg (b2 m c) (funext fun b => Fin.ext ?_)
  match b with
  | ⟨0, _⟩ => show win0_6.index t (0 : Fin 2) * 1 + 1 * q.val = q.val; omega
  | ⟨1, _⟩ => show win0_6.index t (1 : Fin 2) * 1024 + 1 * k.val = k.val; omega

/-- The per-layer embedding as launched. -/
abbrev pA : (⟨S16384x256, .f32⟩ : BufTy).Contents (Elt Ideal) := m ((c : Thread nD τ).loc main_arg7)

/-- The block of argument 7 at a point. -/
theorem idx7 : ∀ t : Fin cfg0.N, win0_7.index t (0 : Fin 2) = t.val ∧ win0_7.index t (1 : Fin 2) = 0 := (by decide +kernel : ∀ t : Fin grid0.N, _)

/-- An entry of the block of argument 7. -/
theorem blk7 (t : Fin cfg0.N) (r : Fin 512) (k : Fin 256) (a : Fin 16384) (ha : 512 * t.val + r.val = a.val) : (iblk m c 7 t (ix2 r k) : EReal) = pA m c (ix2 a k) := by
  show V m c main_arg7 (((cfg0.win 7).blk t).view.emb (ix2 r k)) = _
  rw [V_main_arg7]
  obtain ⟨e0, e1⟩ := idx7 t
  refine congrArg (pA m c) (funext fun b => Fin.ext ?_)
  match b with
  | ⟨0, _⟩ => show win0_7.index t (0 : Fin 2) * 512 + 1 * r.val = a.val; omega
  | ⟨1, _⟩ => show win0_7.index t (1 : Fin 2) * 256 + 1 * k.val = k.val; omega

/-- The gate's weight as launched. -/
abbrev wg : (⟨S1024x1024, .bf16⟩ : BufTy).Contents (Elt Ideal) := m ((c : Thread nD τ).loc main_arg8)

/-- The block of argument 8 at a point. -/
theorem idx8 : ∀ t : Fin cfg0.N, win0_8.index t (0 : Fin 2) = 0 ∧ win0_8.index t (1 : Fin 2) = 0 := (by decide +kernel : ∀ t : Fin grid0.N, _)

/-- Every point holds the whole of argument 8. -/
theorem blk8 (t : Fin cfg0.N) (q : Fin 1024) (k : Fin 1024) : (iblk m c 8 t (ix2 q k) : EReal) = wg m c (ix2 q k) := by
  show V m c main_arg8 (((cfg0.win 8).blk t).view.emb (ix2 q k)) = _
  rw [V_main_arg8]
  obtain ⟨e0, e1⟩ := idx8 t
  refine congrArg (wg m c) (funext fun b => Fin.ext ?_)
  match b with
  | ⟨0, _⟩ => show win0_8.index t (0 : Fin 2) * 1024 + 1 * q.val = q.val; omega
  | ⟨1, _⟩ => show win0_8.index t (1 : Fin 2) * 1024 + 1 * k.val = k.val; omega

/-- The embedding's weight as launched. -/
abbrev wp : (⟨S256x1024, .bf16⟩ : BufTy).Contents (Elt Ideal) := m ((c : Thread nD τ).loc main_arg9)

/-- The block of argument 9 at a point. -/
theorem idx9 : ∀ t : Fin cfg0.N, win0_9.index t (0 : Fin 2) = 0 ∧ win0_9.index t (1 : Fin 2) = 0 := (by decide +kernel : ∀ t : Fin grid0.N, _)

/-- Every point holds the whole of argument 9. -/
theorem blk9 (t : Fin cfg0.N) (q : Fin 256) (k : Fin 1024) : (iblk m c 9 t (ix2 q k) : EReal) = wp m c (ix2 q k) := by
  show V m c main_arg9 (((cfg0.win 9).blk t).view.emb (ix2 q k)) = _
  rw [V_main_arg9]
  obtain ⟨e0, e1⟩ := idx9 t
  refine congrArg (wp m c) (funext fun b => Fin.ext ?_)
  match b with
  | ⟨0, _⟩ => show win0_9.index t (0 : Fin 2) * 256 + 1 * q.val = q.val; omega
  | ⟨1, _⟩ => show win0_9.index t (1 : Fin 2) * 1024 + 1 * k.val = k.val; omega

/-- A row of the feed-forward output with its residual branch, from the arrays a point holds. -/
abbrev preB (y0 : Vec Ideal S512x2816 .bf16) (y1 : Vec Ideal S2816x1024 .bf16) (y2 : Vec Ideal S512x1024 .f32) (y3 y4 : Vec Ideal S1x1024 .f32) (p : Fin 512) : Fin 1024 → EReal :=
  res (ln (fun k => y2 (ix2 p k)) (fun k => y3 (ix2 0 k)) (fun k => y4 (ix2 0 k))) (fun k => y0 (ix2 p k)) (fun k j => y1 (ix2 k j))

/-- Loads of rows leave the row's functions alone. -/
theorem pre_eq {f0 f0' : Fin 2816 → EReal} {f1 f1' : Fin 2816 → Fin 1024 → EReal} {f2 f2' f3 f3' f4 f4' : Fin 1024 → EReal} (h0 : f0 = f0') (h1 : f1 = f1') (h2 : f2 = f2') (h3 : f3 = f3') (h4 : f4 = f4') :
    res (ln f2 f3 f4) f0 f1 = res (ln f2' f3' f4') f0' f1' := by
  subst h0 h1 h2 h3 h4
  rfl

/-- The rows that the first half loads. -/
theorem first (y0 : Vec Ideal S512x2816 .bf16) (y1 : Vec Ideal S2816x1024 .bf16) (y2 : Vec Ideal S512x1024 .f32) (y3 y4 : Vec Ideal S1x1024 .f32) (p : Fin 512) (r : Fin 256) (h : 0 + r.val = p.val) :
    res (ln (fun k => (View.ld y2 r0_0 (ix2 r k) : EReal)) (fun k => View.ld y3 r0_1 (ix2 0 k)) (fun k => View.ld y4 r0_1 (ix2 0 k))) (fun k => View.ld y0 r0_2 (ix2 r k)) (fun k j => View.ld y1 r0_3 (ix2 k j)) = preB y0 y1 y2 y3 y4 p :=
  pre_eq (funext fun k => ld_at p k h (Nat.zero_add _)) (funext fun k => funext fun j => ld_at k j (Nat.zero_add _) (Nat.zero_add _))
    (funext fun k => ld_at p k h (Nat.zero_add _)) (funext fun k => ld_at 0 k rfl (Nat.zero_add _)) (funext fun k => ld_at 0 k rfl (Nat.zero_add _))

/-- The rows that the second half loads. -/
theorem second (y0 : Vec Ideal S512x2816 .bf16) (y1 : Vec Ideal S2816x1024 .bf16) (y2 : Vec Ideal S512x1024 .f32) (y3 y4 : Vec Ideal S1x1024 .f32) (p : Fin 512) (r : Fin 256) (h : 256 + r.val = p.val) :
    res (ln (fun k => (View.ld y2 r0_7 (ix2 r k) : EReal)) (fun k => View.ld y3 r0_1 (ix2 0 k)) (fun k => View.ld y4 r0_1 (ix2 0 k))) (fun k => View.ld y0 r0_8 (ix2 r k)) (fun k j => View.ld y1 r0_3 (ix2 k j)) = preB y0 y1 y2 y3 y4 p :=
  pre_eq (funext fun k => ld_at p k h (Nat.zero_add _)) (funext fun k => funext fun j => ld_at k j (Nat.zero_add _) (Nat.zero_add _))
    (funext fun k => ld_at p k h (Nat.zero_add _)) (funext fun k => ld_at 0 k rfl (Nat.zero_add _)) (funext fun k => ld_at 0 k rfl (Nat.zero_add _))

/-- What a point stores of the feed-forward output. -/
theorem out10 (y0 : Vec Ideal S512x2816 .bf16) (y1 : Vec Ideal S2816x1024 .bf16) (y2 : Vec Ideal S512x1024 .f32) (y3 : Vec Ideal S1x1024 .f32) (y4 : Vec Ideal S1x1024 .f32) (y5 : Vec Ideal S1x1024 .f32) (y6 : Vec Ideal S1x1024 .f32) (y7 : Vec Ideal S512x256 .f32) (y8 : Vec Ideal S1024x1024 .bf16) (y9 : Vec Ideal S256x1024 .bf16) (p : Fin 512) (q : Fin 1024) :
    (out0_10 (F := Ideal) y0 y1 y2 y3 y4 y5 y6 y7 y8 y9 (ix2 p q) : EReal) = preB y0 y1 y2 y3 y4 p q := by
  unfold out0_10
  exact two p q _ (fun r h => (pay11 _ _ _ _ _ r q).trans (congrFun (second y0 y1 y2 y3 y4 p r h) q))
    (fun r h => (pay5 _ _ _ _ _ r q).trans (congrFun (first y0 y1 y2 y3 y4 p r h) q))

/-- A row's norm, from the arrays a point holds. -/
abbrev lnB (y0 : Vec Ideal S512x2816 .bf16) (y1 : Vec Ideal S2816x1024 .bf16) (y2 : Vec Ideal S512x1024 .f32) (y3 y4 y5 y6 : Vec Ideal S1x1024 .f32) (p : Fin 512) : Fin 1024 → EReal :=
  ln (preB y0 y1 y2 y3 y4 p) (fun k => y5 (ix2 0 k)) (fun k => y6 (ix2 0 k))

/-- The norm of a row of the first half. -/
theorem norm1 (y0 : Vec Ideal S512x2816 .bf16) (y1 : Vec Ideal S2816x1024 .bf16) (y2 : Vec Ideal S512x1024 .f32) (y3 : Vec Ideal S1x1024 .f32) (y4 : Vec Ideal S1x1024 .f32) (y5 : Vec Ideal S1x1024 .f32) (y6 : Vec Ideal S1x1024 .f32) (y7 : Vec Ideal S512x256 .f32) (y8 : Vec Ideal S1024x1024 .bf16) (y9 : Vec Ideal S256x1024 .bf16) (p : Fin 512) (r : Fin 256) (h : 0 + r.val = p.val) (q : Fin 1024) :
    (k0_pay7 (F := Ideal) (k0_pay14 y0 y1 y2 y3 y4 y5 y6 y7 y8 y9) (View.ld y5 r0_1) (View.ld y6 r0_1) (k0_pay15 y0 y1 y2 y3 y4 y5 y6 y7 y8 y9) (ix2 r q) : EReal) = lnB y0 y1 y2 y3 y4 y5 y6 p q :=
  (pay7 _ _ _ _ r q (preB y0 y1 y2 y3 y4 p) (fun k => (pay5 _ _ _ _ _ r k).trans (congrFun (first y0 y1 y2 y3 y4 p r h) k))
    (fun k => (pay6 _ _ _ _ _ r k).trans (congrArg mean (first y0 y1 y2 y3 y4 p r h)))).trans
    (congrArg₂ (fun a b => ln (preB y0 y1 y2 y3 y4 p) a b q) (funext fun k => ld_at 0 k rfl (Nat.zero_add _)) (funext fun k => ld_at 0 k rfl (Nat.zero_add _)))

/-- The norm of a row of the second half. -/
theorem norm2 (y0 : Vec Ideal S512x2816 .bf16) (y1 : Vec Ideal S2816x1024 .bf16) (y2 : Vec Ideal S512x1024 .f32) (y3 : Vec Ideal S1x1024 .f32) (y4 : Vec Ideal S1x1024 .f32) (y5 : Vec Ideal S1x1024 .f32) (y6 : Vec Ideal S1x1024 .f32) (y7 : Vec Ideal S512x256 .f32) (y8 : Vec Ideal S1024x1024 .bf16) (y9 : Vec Ideal S256x1024 .bf16) (p : Fin 512) (r : Fin 256) (h : 256 + r.val = p.val) (q : Fin 1024) :
    (k0_pay1 (F := Ideal) (View.ld y5 r0_1) (View.ld y6 r0_1) (k0_pay16 y0 y1 y2 y3 y4 y5 y6 y7 y8 y9) (k0_pay17 y0 y1 y2 y3 y4 y5 y6 y7 y8 y9) (ix2 r q) : EReal) = lnB y0 y1 y2 y3 y4 y5 y6 p q :=
  (pay1 _ _ _ _ r q (preB y0 y1 y2 y3 y4 p) (fun k => (pay12 _ _ _ _ _ r k).trans (congrArg (fun f : Fin 1024 → EReal => f k - mean f) (second y0 y1 y2 y3 y4 p r h)))
    ((pay13 _ _ _ _ _ r 0).trans (congrArg var (second y0 y1 y2 y3 y4 p r h)))).trans
    (congrArg₂ (fun a b => ln (preB y0 y1 y2 y3 y4 p) a b q) (funext fun k => ld_at 0 k rfl (Nat.zero_add _)) (funext fun k => ld_at 0 k rfl (Nat.zero_add _)))

/-- What a point stores of the norm. -/
theorem out11 (y0 : Vec Ideal S512x2816 .bf16) (y1 : Vec Ideal S2816x1024 .bf16) (y2 : Vec Ideal S512x1024 .f32) (y3 : Vec Ideal S1x1024 .f32) (y4 : Vec Ideal S1x1024 .f32) (y5 : Vec Ideal S1x1024 .f32) (y6 : Vec Ideal S1x1024 .f32) (y7 : Vec Ideal S512x256 .f32) (y8 : Vec Ideal S1024x1024 .bf16) (y9 : Vec Ideal S256x1024 .bf16) (p : Fin 512) (q : Fin 1024) :
    (out0_11 (F := Ideal) y0 y1 y2 y3 y4 y5 y6 y7 y8 y9 (ix2 p q) : EReal) = lnB y0 y1 y2 y3 y4 y5 y6 p q := by
  unfold out0_11
  exact two p q _ (fun r h => norm2 y0 y1 y2 y3 y4 y5 y6 y7 y8 y9 p r h q) (fun r h => norm1 y0 y1 y2 y3 y4 y5 y6 y7 y8 y9 p r h q)

/-- A row with the per-layer embedding, from the arrays a point holds. -/
abbrev pleB (y0 : Vec Ideal S512x2816 .bf16) (y1 : Vec Ideal S2816x1024 .bf16) (y2 : Vec Ideal S512x1024 .f32) (y3 : Vec Ideal S1x1024 .f32) (y4 : Vec Ideal S1x1024 .f32) (y5 : Vec Ideal S1x1024 .f32) (y6 : Vec Ideal S1x1024 .f32) (y7 : Vec Ideal S512x256 .f32) (y8 : Vec Ideal S1024x1024 .bf16) (y9 : Vec Ideal S256x1024 .bf16) (p : Fin 512) : Fin 1024 → EReal :=
  ple (lnB y0 y1 y2 y3 y4 y5 y6 p) (fun k j => y8 (ix2 k j)) (fun k => y7 (ix2 p k)) (fun k j => y9 (ix2 k j))

/-- Loads leave the embedding's functions alone. -/
theorem ple_eq (f : Fin 1024 → EReal) {a a' : Fin 1024 → Fin 1024 → EReal} {b b' : Fin 256 → EReal} {d d' : Fin 256 → Fin 1024 → EReal} (h0 : a = a') (h1 : b = b') (h2 : d = d') (q : Fin 1024) : ple f a b d q = ple f a' b' d' q := by
  subst h0 h1 h2
  rfl

/-- What a point stores of the layer's output. -/
theorem out12 (y0 : Vec Ideal S512x2816 .bf16) (y1 : Vec Ideal S2816x1024 .bf16) (y2 : Vec Ideal S512x1024 .f32) (y3 : Vec Ideal S1x1024 .f32) (y4 : Vec Ideal S1x1024 .f32) (y5 : Vec Ideal S1x1024 .f32) (y6 : Vec Ideal S1x1024 .f32) (y7 : Vec Ideal S512x256 .f32) (y8 : Vec Ideal S1024x1024 .bf16) (y9 : Vec Ideal S256x1024 .bf16) (p : Fin 512) (q : Fin 1024) :
    (out0_12 (F := Ideal) y0 y1 y2 y3 y4 y5 y6 y7 y8 y9 (ix2 p q) : EReal) = pleB y0 y1 y2 y3 y4 y5 y6 y7 y8 y9 p q := by
  unfold out0_12
  exact two p q _ (fun r h => (pay3 _ _ _ _ _ _ _ r q _ (norm2 y0 y1 y2 y3 y4 y5 y6 y7 y8 y9 p r h)).trans (ple_eq _ (funext fun k => funext fun j => ld_at k j (Nat.zero_add _) (Nat.zero_add _)) (funext fun k => ld_at p k h (Nat.zero_add _)) (funext fun k => funext fun j => ld_at k j (Nat.zero_add _) (Nat.zero_add _)) q))
    (fun r h => (pay9 _ _ _ _ _ _ _ r q _ (norm1 y0 y1 y2 y3 y4 y5 y6 y7 y8 y9 p r h)).trans (ple_eq _ (funext fun k => funext fun j => ld_at k j (Nat.zero_add _) (Nat.zero_add _)) (funext fun k => ld_at p k h (Nat.zero_add _)) (funext fun k => funext fun j => ld_at k j (Nat.zero_add _) (Nat.zero_add _)) q))

/-- What a point stores of the layer's output in its other format. -/
theorem out13 (y0 : Vec Ideal S512x2816 .bf16) (y1 : Vec Ideal S2816x1024 .bf16) (y2 : Vec Ideal S512x1024 .f32) (y3 : Vec Ideal S1x1024 .f32) (y4 : Vec Ideal S1x1024 .f32) (y5 : Vec Ideal S1x1024 .f32) (y6 : Vec Ideal S1x1024 .f32) (y7 : Vec Ideal S512x256 .f32) (y8 : Vec Ideal S1024x1024 .bf16) (y9 : Vec Ideal S256x1024 .bf16) (p : Fin 512) (q : Fin 1024) :
    (out0_13 (F := Ideal) y0 y1 y2 y3 y4 y5 y6 y7 y8 y9 (ix2 p q) : EReal) = pleB y0 y1 y2 y3 y4 y5 y6 y7 y8 y9 p q := by
  unfold out0_13
  exact two p q _ (fun r h => (pay3 _ _ _ _ _ _ _ r q _ (norm2 y0 y1 y2 y3 y4 y5 y6 y7 y8 y9 p r h)).trans (ple_eq _ (funext fun k => funext fun j => ld_at k j (Nat.zero_add _) (Nat.zero_add _)) (funext fun k => ld_at p k h (Nat.zero_add _)) (funext fun k => funext fun j => ld_at k j (Nat.zero_add _) (Nat.zero_add _)) q))
    (fun r h => (pay9 _ _ _ _ _ _ _ r q _ (norm1 y0 y1 y2 y3 y4 y5 y6 y7 y8 y9 p r h)).trans (ple_eq _ (funext fun k => funext fun j => ld_at k j (Nat.zero_add _) (Nat.zero_add _)) (funext fun k => ld_at p k h (Nat.zero_add _)) (funext fun k => funext fun j => ld_at k j (Nat.zero_add _) (Nat.zero_add _)) q))

/-- A row of the feed-forward output with its residual branch. -/
abbrev preR (a : Fin 16384) : Fin 1024 → EReal :=
  res (ln (fun k => xA m c (ix2 a k)) (fun k => g1 m c (ix2 0 k)) (fun k => b1 m c (ix2 0 k))) (fun k => aA m c (ix2 a k)) (fun k j => wA m c (ix2 k j))

/-- A row's norm. -/
abbrev lnR (a : Fin 16384) : Fin 1024 → EReal := ln (preR m c a) (fun k => g2 m c (ix2 0 k)) (fun k => b2 m c (ix2 0 k))

/-- A row with the per-layer embedding. -/
abbrev pleR (a : Fin 16384) : Fin 1024 → EReal :=
  ple (lnR m c a) (fun k j => wg m c (ix2 k j)) (fun k => pA m c (ix2 a k)) (fun k j => wp m c (ix2 k j))

/-- The rows a point holds, of the feed-forward output. -/
theorem pre_row (t : Fin cfg0.N) (p : Fin 512) (a : Fin 16384) (hr : 512 * t.val + p.val = a.val) :
    preB (iblk m c 0 t) (iblk m c 1 t) (iblk m c 2 t) (iblk m c 3 t) (iblk m c 4 t) p = preR m c a :=
  pre_eq (funext fun k => blk0 m c t p k a hr) (funext fun k => funext fun j => blk1 m c t k j) (funext fun k => blk2 m c t p k a hr) (funext fun k => blk3 m c t 0 k) (funext fun k => blk4 m c t 0 k)

/-- The norm's rows. -/
theorem ln_row (t : Fin cfg0.N) (p : Fin 512) (a : Fin 16384) (hr : 512 * t.val + p.val = a.val) :
    lnB (iblk m c 0 t) (iblk m c 1 t) (iblk m c 2 t) (iblk m c 3 t) (iblk m c 4 t) (iblk m c 5 t) (iblk m c 6 t) p = lnR m c a := by
  have e5 : (fun k : Fin 1024 => (iblk m c 5 t (ix2 0 k) : EReal)) = fun k => g2 m c (ix2 0 k) := funext fun k => blk5 m c t 0 k
  have e6 : (fun k : Fin 1024 => (iblk m c 6 t (ix2 0 k) : EReal)) = fun k => b2 m c (ix2 0 k) := funext fun k => blk6 m c t 0 k
  exact (congrArg (fun f => ln f _ _) (pre_row m c t p a hr)).trans (congrArg₂ (fun a' b' => ln (preR m c a) a' b') e5 e6)

/-- The output's rows. -/
theorem ple_row (t : Fin cfg0.N) (p : Fin 512) (a : Fin 16384) (hr : 512 * t.val + p.val = a.val) (q : Fin 1024) :
    pleB (iblk m c 0 t) (iblk m c 1 t) (iblk m c 2 t) (iblk m c 3 t) (iblk m c 4 t) (iblk m c 5 t) (iblk m c 6 t) (iblk m c 7 t) (iblk m c 8 t) (iblk m c 9 t) p q = pleR m c a q :=
  (congrArg (fun f => ple f _ _ _ q) (ln_row m c t p a hr)).trans
    (ple_eq _ (funext fun k => funext fun j => blk8 m c t k j) (funext fun k => blk7 m c t p k a hr) (funext fun k => funext fun j => blk9 m c t k j) q)

/-- The block of the result at a point. -/
theorem idx10 : ∀ t : Fin cfg0.N, win0_10.index t (0 : Fin 2) = t.val ∧ win0_10.index t (1 : Fin 2) = 0 := (by decide +kernel : ∀ t : Fin grid0.N, _)

/-- Every point writes its block back. -/
theorem flush10 : ∀ t : Fin cfg0.N, (cfg0.win 10).flush t = true := (by decide +kernel : ∀ t : Fin grid0.N, _)

/-- An entry of the feed-forward output is what its point stores of it. -/
theorem at10 (t : Fin cfg0.N) (p : Fin 512) (a : Fin 16384) (b : Fin 1024) (hr : 512 * t.val + p.val = a.val) :
    (dats m 0 c).arrAt 10 cfg0.N (ix2 a b) = out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p b) := by
  have h : (dats m 0 c).arrAt 10 cfg0.N (((cfg0.win 10).blk t).view.emb (ix2 p b)) = out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p b) :=
    (congrFun (blocks10 m c t (flush10 t)) (ix2 p b)).trans (congrFun (flushed10 m c t) (ix2 p b))
  obtain ⟨e0, e1⟩ := idx10 t
  have hi : ((cfg0.win 10).blk t).view.emb (ix2 p b) = ix2 a b := by
    refine funext fun d => Fin.ext ?_
    match d with
    | ⟨0, _⟩ => show win0_10.index t (0 : Fin 2) * 512 + 1 * p.val = a.val; omega
    | ⟨1, _⟩ => show win0_10.index t (1 : Fin 2) * 1024 + 1 * b.val = b.val; omega
  rw [hi] at h
  exact h

/-- Every entry of the feed-forward output. -/
theorem arr10 (a : Fin 16384) (b : Fin 1024) : ((dats m 0 c).arrAt 10 cfg0.N (ix2 a b) : EReal) = preR m c a b := by
  have ha := a.isLt
  let t : Fin cfg0.N := ⟨a.val / 512, lt_of_lt_of_eq (show a.val / 512 < 32 by omega) N_0.symm⟩
  have ht : t.val = a.val / 512 := rfl
  let p : Fin 512 := ⟨a.val % 512, Nat.mod_lt _ (by decide)⟩
  have hp : p.val = a.val % 512 := rfl
  have hr : 512 * t.val + p.val = a.val := by omega
  exact (show ((dats m 0 c).arrAt 10 cfg0.N (ix2 a b) : EReal) = _ from at10 m c t p a b hr).trans ((out10 _ _ _ _ _ _ _ _ _ _ p b).trans (congrFun (pre_row m c t p a hr) b))

/-- The block of the result at a point. -/
theorem idx11 : ∀ t : Fin cfg0.N, win0_11.index t (0 : Fin 2) = t.val ∧ win0_11.index t (1 : Fin 2) = 0 := (by decide +kernel : ∀ t : Fin grid0.N, _)

/-- Every point writes its block back. -/
theorem flush11 : ∀ t : Fin cfg0.N, (cfg0.win 11).flush t = true := (by decide +kernel : ∀ t : Fin grid0.N, _)

/-- An entry of the norm is what its point stores of it. -/
theorem at11 (t : Fin cfg0.N) (p : Fin 512) (a : Fin 16384) (b : Fin 1024) (hr : 512 * t.val + p.val = a.val) :
    (dats m 0 c).arrAt 11 cfg0.N (ix2 a b) = out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p b) := by
  have h : (dats m 0 c).arrAt 11 cfg0.N (((cfg0.win 11).blk t).view.emb (ix2 p b)) = out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p b) :=
    (congrFun (blocks11 m c t (flush11 t)) (ix2 p b)).trans (congrFun (flushed11 m c t) (ix2 p b))
  obtain ⟨e0, e1⟩ := idx11 t
  have hi : ((cfg0.win 11).blk t).view.emb (ix2 p b) = ix2 a b := by
    refine funext fun d => Fin.ext ?_
    match d with
    | ⟨0, _⟩ => show win0_11.index t (0 : Fin 2) * 512 + 1 * p.val = a.val; omega
    | ⟨1, _⟩ => show win0_11.index t (1 : Fin 2) * 1024 + 1 * b.val = b.val; omega
  rw [hi] at h
  exact h

/-- Every entry of the norm. -/
theorem arr11 (a : Fin 16384) (b : Fin 1024) : ((dats m 0 c).arrAt 11 cfg0.N (ix2 a b) : EReal) = lnR m c a b := by
  have ha := a.isLt
  let t : Fin cfg0.N := ⟨a.val / 512, lt_of_lt_of_eq (show a.val / 512 < 32 by omega) N_0.symm⟩
  have ht : t.val = a.val / 512 := rfl
  let p : Fin 512 := ⟨a.val % 512, Nat.mod_lt _ (by decide)⟩
  have hp : p.val = a.val % 512 := rfl
  have hr : 512 * t.val + p.val = a.val := by omega
  exact (show ((dats m 0 c).arrAt 11 cfg0.N (ix2 a b) : EReal) = _ from at11 m c t p a b hr).trans ((out11 _ _ _ _ _ _ _ _ _ _ p b).trans (congrFun (ln_row m c t p a hr) b))

/-- The block of the result at a point. -/
theorem idx12 : ∀ t : Fin cfg0.N, win0_12.index t (0 : Fin 2) = t.val ∧ win0_12.index t (1 : Fin 2) = 0 := (by decide +kernel : ∀ t : Fin grid0.N, _)

/-- Every point writes its block back. -/
theorem flush12 : ∀ t : Fin cfg0.N, (cfg0.win 12).flush t = true := (by decide +kernel : ∀ t : Fin grid0.N, _)

/-- An entry of the layer's output is what its point stores of it. -/
theorem at12 (t : Fin cfg0.N) (p : Fin 512) (a : Fin 16384) (b : Fin 1024) (hr : 512 * t.val + p.val = a.val) :
    (dats m 0 c).arrAt 12 cfg0.N (ix2 a b) = out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p b) := by
  have h : (dats m 0 c).arrAt 12 cfg0.N (((cfg0.win 12).blk t).view.emb (ix2 p b)) = out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p b) :=
    (congrFun (blocks12 m c t (flush12 t)) (ix2 p b)).trans (congrFun (flushed12 m c t) (ix2 p b))
  obtain ⟨e0, e1⟩ := idx12 t
  have hi : ((cfg0.win 12).blk t).view.emb (ix2 p b) = ix2 a b := by
    refine funext fun d => Fin.ext ?_
    match d with
    | ⟨0, _⟩ => show win0_12.index t (0 : Fin 2) * 512 + 1 * p.val = a.val; omega
    | ⟨1, _⟩ => show win0_12.index t (1 : Fin 2) * 1024 + 1 * b.val = b.val; omega
  rw [hi] at h
  exact h

/-- Every entry of the layer's output. -/
theorem arr12 (a : Fin 16384) (b : Fin 1024) : ((dats m 0 c).arrAt 12 cfg0.N (ix2 a b) : EReal) = pleR m c a b := by
  have ha := a.isLt
  let t : Fin cfg0.N := ⟨a.val / 512, lt_of_lt_of_eq (show a.val / 512 < 32 by omega) N_0.symm⟩
  have ht : t.val = a.val / 512 := rfl
  let p : Fin 512 := ⟨a.val % 512, Nat.mod_lt _ (by decide)⟩
  have hp : p.val = a.val % 512 := rfl
  have hr : 512 * t.val + p.val = a.val := by omega
  exact (show ((dats m 0 c).arrAt 12 cfg0.N (ix2 a b) : EReal) = _ from at12 m c t p a b hr).trans ((out12 _ _ _ _ _ _ _ _ _ _ p b).trans (ple_row m c t p a hr b))

/-- The block of the result at a point. -/
theorem idx13 : ∀ t : Fin cfg0.N, win0_13.index t (0 : Fin 2) = t.val ∧ win0_13.index t (1 : Fin 2) = 0 := (by decide +kernel : ∀ t : Fin grid0.N, _)

/-- Every point writes its block back. -/
theorem flush13 : ∀ t : Fin cfg0.N, (cfg0.win 13).flush t = true := (by decide +kernel : ∀ t : Fin grid0.N, _)

/-- An entry of the layer's output in its other format is what its point stores of it. -/
theorem at13 (t : Fin cfg0.N) (p : Fin 512) (a : Fin 16384) (b : Fin 1024) (hr : 512 * t.val + p.val = a.val) :
    (dats m 0 c).arrAt 13 cfg0.N (ix2 a b) = out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p b) := by
  have h : (dats m 0 c).arrAt 13 cfg0.N (((cfg0.win 13).blk t).view.emb (ix2 p b)) = out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p b) :=
    (congrFun (blocks13 m c t (flush13 t)) (ix2 p b)).trans (congrFun (flushed13 m c t) (ix2 p b))
  obtain ⟨e0, e1⟩ := idx13 t
  have hi : ((cfg0.win 13).blk t).view.emb (ix2 p b) = ix2 a b := by
    refine funext fun d => Fin.ext ?_
    match d with
    | ⟨0, _⟩ => show win0_13.index t (0 : Fin 2) * 512 + 1 * p.val = a.val; omega
    | ⟨1, _⟩ => show win0_13.index t (1 : Fin 2) * 1024 + 1 * b.val = b.val; omega
  rw [hi] at h
  exact h

/-- Every entry of the layer's output in its other format. -/
theorem arr13 (a : Fin 16384) (b : Fin 1024) : ((dats m 0 c).arrAt 13 cfg0.N (ix2 a b) : EReal) = pleR m c a b := by
  have ha := a.isLt
  let t : Fin cfg0.N := ⟨a.val / 512, lt_of_lt_of_eq (show a.val / 512 < 32 by omega) N_0.symm⟩
  have ht : t.val = a.val / 512 := rfl
  let p : Fin 512 := ⟨a.val % 512, Nat.mod_lt _ (by decide)⟩
  have hp : p.val = a.val % 512 := rfl
  have hr : 512 * t.val + p.val = a.val := by omega
  exact (show ((dats m 0 c).arrAt 13 cfg0.N (ix2 a b) : EReal) = _ from at13 m c t p a b hr).trans ((out13 _ _ _ _ _ _ _ _ _ _ p b).trans (ple_row m c t p a hr b))

end Cert.Kernel15Ideal.Fo

end
-- ==== Proof.FfnOutPleEq.lean ====
module

public import proofs.«01_k».proof.Defs
public import proofs.«01_k».proof.Proof.FfnOutPle
public import proofs.«01_k».proof.Proof.Gen.Reference15Ideal.Run
public import proofs.«01_k».proof.Proof.Gen.Reference15Ideal.Read

@[expose] public section

/-! The reference of the feed-forward output with the per-layer embedding, and that both compute the same. -/

noncomputable section

namespace Cert.Reference15Ideal.Fo

open Cert.Norm
open Idealize.ShloMosaic Idealize.ShloMosaic.TcCoe Idealize.SL.Sem Cert.Reference15Ideal.Gen Cert.Reference15Ideal.Read Idealize.ShloMosaic.Pointwise

/-- The feed-forward output with its residual branch. -/
theorem pre (x0 : (⟨S16384x2816, .bf16⟩ : BufTy).Contents (Elt Ideal)) (x1 : (⟨S2816x1024, .bf16⟩ : BufTy).Contents (Elt Ideal)) (x2 : (⟨S16384x1024, .f32⟩ : BufTy).Contents (Elt Ideal)) (x3 : (⟨S1x1024, .f32⟩ : BufTy).Contents (Elt Ideal)) (x4 : (⟨S1x1024, .f32⟩ : BufTy).Contents (Elt Ideal)) (p : Fin 16384) (q : Fin 1024) :
    (val_main_v27 (F := Ideal) x0 x1 x2 x3 x4 (ix2 p q) : EReal) = res (ln (fun k => x2 (ix2 p k)) (fun k => x3 (ix2 0 k)) (fun k => x4 (ix2 0 k))) (fun k => x0 (ix2 p k)) (fun k j => x1 (ix2 k j)) q := by
  unfold val_main_v27 val_main_v26 val_main_v25 val_main_v24 val_main_v23 val_main_v22 val_main_cst_4 val_main_v21 val_main_v20 val_main_v19 val_main_v18 val_main_v17 val_main_v16 val_main_v15 val_main_v14 val_main_v13 val_main_cst_3 val_main_v12 val_main_v11 val_main_v10 val_main_v9 val_main_cst_2 val_main_v8 val_main_v7 val_main_cst_1 val_main_v6 val_main_v5 val_main_v4 val_main_v3 val_main_v2 val_main_cst_0 val_main_v1 val_main_v0 val_main_cst res ln var mean dot
  pointwise
  try rfl

/-- Its norm. -/
theorem norm (x0 : (⟨S16384x2816, .bf16⟩ : BufTy).Contents (Elt Ideal)) (x1 : (⟨S2816x1024, .bf16⟩ : BufTy).Contents (Elt Ideal)) (x2 : (⟨S16384x1024, .f32⟩ : BufTy).Contents (Elt Ideal)) (x3 : (⟨S1x1024, .f32⟩ : BufTy).Contents (Elt Ideal)) (x4 : (⟨S1x1024, .f32⟩ : BufTy).Contents (Elt Ideal)) (x5 : (⟨S1x1024, .f32⟩ : BufTy).Contents (Elt Ideal)) (x6 : (⟨S1x1024, .f32⟩ : BufTy).Contents (Elt Ideal)) (p : Fin 16384) (q : Fin 1024) :
    (val_main_v49 (F := Ideal) x0 x1 x2 x3 x4 x5 x6 (ix2 p q) : EReal) = ln (fun k => val_main_v27 (F := Ideal) x0 x1 x2 x3 x4 (ix2 p k)) (fun k => x5 (ix2 0 k)) (fun k => x6 (ix2 0 k)) q := by
  unfold val_main_v49 val_main_v48 val_main_v47 val_main_v46 val_main_v45 val_main_v44 val_main_v43 val_main_v42 val_main_v41 val_main_cst_9 val_main_v40 val_main_v39 val_main_v38 val_main_v37 val_main_cst_8 val_main_v36 val_main_v35 val_main_cst_7 val_main_v34 val_main_v33 val_main_v32 val_main_v31 val_main_v30 val_main_cst_6 val_main_v29 val_main_v28 val_main_cst_5 ln var mean
  pointwise
  try rfl

/-- The layer's output. -/
theorem layer (x0 : (⟨S16384x2816, .bf16⟩ : BufTy).Contents (Elt Ideal)) (x1 : (⟨S2816x1024, .bf16⟩ : BufTy).Contents (Elt Ideal)) (x2 : (⟨S16384x1024, .f32⟩ : BufTy).Contents (Elt Ideal)) (x3 : (⟨S1x1024, .f32⟩ : BufTy).Contents (Elt Ideal)) (x4 : (⟨S1x1024, .f32⟩ : BufTy).Contents (Elt Ideal)) (x5 : (⟨S1x1024, .f32⟩ : BufTy).Contents (Elt Ideal)) (x6 : (⟨S1x1024, .f32⟩ : BufTy).Contents (Elt Ideal)) (x7 : (⟨S16384x256, .f32⟩ : BufTy).Contents (Elt Ideal)) (x8 : (⟨S1024x1024, .bf16⟩ : BufTy).Contents (Elt Ideal)) (x9 : (⟨S256x1024, .bf16⟩ : BufTy).Contents (Elt Ideal)) (p : Fin 16384) (q : Fin 1024) :
    (val_main_v61 (F := Ideal) x0 x1 x2 x3 x4 x5 x6 x7 x8 x9 (ix2 p q) : EReal) = ple (fun k => val_main_v49 (F := Ideal) x0 x1 x2 x3 x4 x5 x6 (ix2 p k)) (fun k j => x8 (ix2 k j)) (fun k => x7 (ix2 p k)) (fun k j => x9 (ix2 k j)) q := by
  unfold val_main_v61 val_main_v60 val_main_v59 val_main_v58 val_main_v57 val_main_v56 val_main_cst_11 val_main_v55 val_main_v54 val_main_cst_10 val_main_v53 val_main_v52 val_main_v51 val_main_v50 ple dot Ideal.logistic
  pointwise [Idealize.ShloMosaic.Ideal.ofBits_one_f32]
  try rfl

variable (m : (l : Loc Cert.Kernel15Ideal.nD Cert.Kernel15Ideal.τ Cert.Kernel15Ideal.sig) → Buf (Elt Ideal) l) (c : Dev Cert.Kernel15Ideal.nD)

/-- The feed-forward output is the kernel's. -/
theorem eq10 {x0 : (⟨S16384x2816, .bf16⟩ : BufTy).Contents (Elt Ideal)} {x1 : (⟨S2816x1024, .bf16⟩ : BufTy).Contents (Elt Ideal)} {x2 : (⟨S16384x1024, .f32⟩ : BufTy).Contents (Elt Ideal)} {x3 : (⟨S1x1024, .f32⟩ : BufTy).Contents (Elt Ideal)} {x4 : (⟨S1x1024, .f32⟩ : BufTy).Contents (Elt Ideal)}
    (e0 : x0 = Cert.Kernel15Ideal.Fo.aA m c) (e1 : x1 = Cert.Kernel15Ideal.Fo.wA m c) (e2 : x2 = Cert.Kernel15Ideal.Fo.xA m c) (e3 : x3 = Cert.Kernel15Ideal.Fo.g1 m c) (e4 : x4 = Cert.Kernel15Ideal.Fo.b1 m c) :
    val_main_v27 (F := Ideal) x0 x1 x2 x3 x4 = (Cert.Kernel15Ideal.Gen.dats (F := Ideal) m 0 c).arrAt 10 Cert.Kernel15Ideal.cfg0.N := by
  subst e0 e1 e2 e3 e4
  funext i
  refine (congrArg _ (ValueIdx.eq_ix2 i)).trans (Eq.trans ?_ (congrArg _ (ValueIdx.eq_ix2 i).symm))
  exact (pre (Cert.Kernel15Ideal.Fo.aA m c) (Cert.Kernel15Ideal.Fo.wA m c) (Cert.Kernel15Ideal.Fo.xA m c) (Cert.Kernel15Ideal.Fo.g1 m c) (Cert.Kernel15Ideal.Fo.b1 m c) (i 0) (i 1)).trans (Cert.Kernel15Ideal.Fo.arr10 m c (i 0) (i 1)).symm

/-- The norm is the kernel's. -/
theorem eq11 {x0 : (⟨S16384x2816, .bf16⟩ : BufTy).Contents (Elt Ideal)} {x1 : (⟨S2816x1024, .bf16⟩ : BufTy).Contents (Elt Ideal)} {x2 : (⟨S16384x1024, .f32⟩ : BufTy).Contents (Elt Ideal)} {x3 : (⟨S1x1024, .f32⟩ : BufTy).Contents (Elt Ideal)} {x4 : (⟨S1x1024, .f32⟩ : BufTy).Contents (Elt Ideal)} {x5 : (⟨S1x1024, .f32⟩ : BufTy).Contents (Elt Ideal)} {x6 : (⟨S1x1024, .f32⟩ : BufTy).Contents (Elt Ideal)}
    (e0 : x0 = Cert.Kernel15Ideal.Fo.aA m c) (e1 : x1 = Cert.Kernel15Ideal.Fo.wA m c) (e2 : x2 = Cert.Kernel15Ideal.Fo.xA m c) (e3 : x3 = Cert.Kernel15Ideal.Fo.g1 m c) (e4 : x4 = Cert.Kernel15Ideal.Fo.b1 m c) (e5 : x5 = Cert.Kernel15Ideal.Fo.g2 m c) (e6 : x6 = Cert.Kernel15Ideal.Fo.b2 m c) :
    val_main_v62 (F := Ideal) x0 x1 x2 x3 x4 x5 x6 = (Cert.Kernel15Ideal.Gen.dats (F := Ideal) m 0 c).arrAt 11 Cert.Kernel15Ideal.cfg0.N := by
  subst e0 e1 e2 e3 e4 e5 e6
  funext i
  refine (congrArg _ (ValueIdx.eq_ix2 i)).trans (Eq.trans ?_ (congrArg _ (ValueIdx.eq_ix2 i).symm))
  show (val_main_v49 (F := Ideal) _ _ _ _ _ _ _ (ix2 (i 0) (i 1)) : EReal) = _
  exact ((norm (Cert.Kernel15Ideal.Fo.aA m c) (Cert.Kernel15Ideal.Fo.wA m c) (Cert.Kernel15Ideal.Fo.xA m c) (Cert.Kernel15Ideal.Fo.g1 m c) (Cert.Kernel15Ideal.Fo.b1 m c) (Cert.Kernel15Ideal.Fo.g2 m c) (Cert.Kernel15Ideal.Fo.b2 m c) (i 0) (i 1)).trans (congrArg (fun f => ln f _ _ (i 1)) (funext fun k => pre (Cert.Kernel15Ideal.Fo.aA m c) (Cert.Kernel15Ideal.Fo.wA m c) (Cert.Kernel15Ideal.Fo.xA m c) (Cert.Kernel15Ideal.Fo.g1 m c) (Cert.Kernel15Ideal.Fo.b1 m c) (i 0) k))).trans (Cert.Kernel15Ideal.Fo.arr11 m c (i 0) (i 1)).symm

/-- The output is the kernel's. -/
theorem eq12 {x0 : (⟨S16384x2816, .bf16⟩ : BufTy).Contents (Elt Ideal)} {x1 : (⟨S2816x1024, .bf16⟩ : BufTy).Contents (Elt Ideal)} {x2 : (⟨S16384x1024, .f32⟩ : BufTy).Contents (Elt Ideal)} {x3 : (⟨S1x1024, .f32⟩ : BufTy).Contents (Elt Ideal)} {x4 : (⟨S1x1024, .f32⟩ : BufTy).Contents (Elt Ideal)} {x5 : (⟨S1x1024, .f32⟩ : BufTy).Contents (Elt Ideal)} {x6 : (⟨S1x1024, .f32⟩ : BufTy).Contents (Elt Ideal)} {x7 : (⟨S16384x256, .f32⟩ : BufTy).Contents (Elt Ideal)} {x8 : (⟨S1024x1024, .bf16⟩ : BufTy).Contents (Elt Ideal)} {x9 : (⟨S256x1024, .bf16⟩ : BufTy).Contents (Elt Ideal)}
    (e0 : x0 = Cert.Kernel15Ideal.Fo.aA m c) (e1 : x1 = Cert.Kernel15Ideal.Fo.wA m c) (e2 : x2 = Cert.Kernel15Ideal.Fo.xA m c) (e3 : x3 = Cert.Kernel15Ideal.Fo.g1 m c) (e4 : x4 = Cert.Kernel15Ideal.Fo.b1 m c) (e5 : x5 = Cert.Kernel15Ideal.Fo.g2 m c) (e6 : x6 = Cert.Kernel15Ideal.Fo.b2 m c) (e7 : x7 = Cert.Kernel15Ideal.Fo.pA m c) (e8 : x8 = Cert.Kernel15Ideal.Fo.wg m c) (e9 : x9 = Cert.Kernel15Ideal.Fo.wp m c) :
    val_main_v61 (F := Ideal) x0 x1 x2 x3 x4 x5 x6 x7 x8 x9 = (Cert.Kernel15Ideal.Gen.dats (F := Ideal) m 0 c).arrAt 12 Cert.Kernel15Ideal.cfg0.N := by
  subst e0 e1 e2 e3 e4 e5 e6 e7 e8 e9
  funext i
  refine (congrArg _ (ValueIdx.eq_ix2 i)).trans (Eq.trans ?_ (congrArg _ (ValueIdx.eq_ix2 i).symm))
  exact ((layer (Cert.Kernel15Ideal.Fo.aA m c) (Cert.Kernel15Ideal.Fo.wA m c) (Cert.Kernel15Ideal.Fo.xA m c) (Cert.Kernel15Ideal.Fo.g1 m c) (Cert.Kernel15Ideal.Fo.b1 m c) (Cert.Kernel15Ideal.Fo.g2 m c) (Cert.Kernel15Ideal.Fo.b2 m c) (Cert.Kernel15Ideal.Fo.pA m c) (Cert.Kernel15Ideal.Fo.wg m c) (Cert.Kernel15Ideal.Fo.wp m c) (i 0) (i 1)).trans (congrArg (fun f => ple f _ _ _ (i 1)) (funext fun k => (norm (Cert.Kernel15Ideal.Fo.aA m c) (Cert.Kernel15Ideal.Fo.wA m c) (Cert.Kernel15Ideal.Fo.xA m c) (Cert.Kernel15Ideal.Fo.g1 m c) (Cert.Kernel15Ideal.Fo.b1 m c) (Cert.Kernel15Ideal.Fo.g2 m c) (Cert.Kernel15Ideal.Fo.b2 m c) (i 0) k).trans (congrArg (fun f => ln f _ _ k) (funext fun j => pre (Cert.Kernel15Ideal.Fo.aA m c) (Cert.Kernel15Ideal.Fo.wA m c) (Cert.Kernel15Ideal.Fo.xA m c) (Cert.Kernel15Ideal.Fo.g1 m c) (Cert.Kernel15Ideal.Fo.b1 m c) (i 0) j))))).trans (Cert.Kernel15Ideal.Fo.arr12 m c (i 0) (i 1)).symm

/-- The output in its other format is the kernel's. -/
theorem eq13 {x0 : (⟨S16384x2816, .bf16⟩ : BufTy).Contents (Elt Ideal)} {x1 : (⟨S2816x1024, .bf16⟩ : BufTy).Contents (Elt Ideal)} {x2 : (⟨S16384x1024, .f32⟩ : BufTy).Contents (Elt Ideal)} {x3 : (⟨S1x1024, .f32⟩ : BufTy).Contents (Elt Ideal)} {x4 : (⟨S1x1024, .f32⟩ : BufTy).Contents (Elt Ideal)} {x5 : (⟨S1x1024, .f32⟩ : BufTy).Contents (Elt Ideal)} {x6 : (⟨S1x1024, .f32⟩ : BufTy).Contents (Elt Ideal)} {x7 : (⟨S16384x256, .f32⟩ : BufTy).Contents (Elt Ideal)} {x8 : (⟨S1024x1024, .bf16⟩ : BufTy).Contents (Elt Ideal)} {x9 : (⟨S256x1024, .bf16⟩ : BufTy).Contents (Elt Ideal)}
    (e0 : x0 = Cert.Kernel15Ideal.Fo.aA m c) (e1 : x1 = Cert.Kernel15Ideal.Fo.wA m c) (e2 : x2 = Cert.Kernel15Ideal.Fo.xA m c) (e3 : x3 = Cert.Kernel15Ideal.Fo.g1 m c) (e4 : x4 = Cert.Kernel15Ideal.Fo.b1 m c) (e5 : x5 = Cert.Kernel15Ideal.Fo.g2 m c) (e6 : x6 = Cert.Kernel15Ideal.Fo.b2 m c) (e7 : x7 = Cert.Kernel15Ideal.Fo.pA m c) (e8 : x8 = Cert.Kernel15Ideal.Fo.wg m c) (e9 : x9 = Cert.Kernel15Ideal.Fo.wp m c) :
    val_main_v63 (F := Ideal) x0 x1 x2 x3 x4 x5 x6 x7 x8 x9 = (Cert.Kernel15Ideal.Gen.dats (F := Ideal) m 0 c).arrAt 13 Cert.Kernel15Ideal.cfg0.N := by
  subst e0 e1 e2 e3 e4 e5 e6 e7 e8 e9
  funext i
  refine (congrArg _ (ValueIdx.eq_ix2 i)).trans (Eq.trans ?_ (congrArg _ (ValueIdx.eq_ix2 i).symm))
  show (val_main_v61 (F := Ideal) _ _ _ _ _ _ _ _ _ _ (ix2 (i 0) (i 1)) : EReal) = _
  exact ((layer (Cert.Kernel15Ideal.Fo.aA m c) (Cert.Kernel15Ideal.Fo.wA m c) (Cert.Kernel15Ideal.Fo.xA m c) (Cert.Kernel15Ideal.Fo.g1 m c) (Cert.Kernel15Ideal.Fo.b1 m c) (Cert.Kernel15Ideal.Fo.g2 m c) (Cert.Kernel15Ideal.Fo.b2 m c) (Cert.Kernel15Ideal.Fo.pA m c) (Cert.Kernel15Ideal.Fo.wg m c) (Cert.Kernel15Ideal.Fo.wp m c) (i 0) (i 1)).trans (congrArg (fun f => ple f _ _ _ (i 1)) (funext fun k => (norm (Cert.Kernel15Ideal.Fo.aA m c) (Cert.Kernel15Ideal.Fo.wA m c) (Cert.Kernel15Ideal.Fo.xA m c) (Cert.Kernel15Ideal.Fo.g1 m c) (Cert.Kernel15Ideal.Fo.b1 m c) (Cert.Kernel15Ideal.Fo.g2 m c) (Cert.Kernel15Ideal.Fo.b2 m c) (i 0) k).trans (congrArg (fun f => ln f _ _ k) (funext fun j => pre (Cert.Kernel15Ideal.Fo.aA m c) (Cert.Kernel15Ideal.Fo.wA m c) (Cert.Kernel15Ideal.Fo.xA m c) (Cert.Kernel15Ideal.Fo.g1 m c) (Cert.Kernel15Ideal.Fo.b1 m c) (i 0) j))))).trans (Cert.Kernel15Ideal.Fo.arr13 m c (i 0) (i 1)).symm

/-- The reference ends with its arguments unchanged and every counter at zero. -/
theorem frame : Cert.quiescent_Reference15Ideal (hReference15Ideal := Cert.Reference15Ideal.Gen.facts) := fun m ρ _ =>
  (θ_run Cert.Reference15Ideal.defs _ _).mono
    (fun r h => ⟨fun c => (h c).2.2.2.2, Idealize.ShloMosaic.sem_eq_zero_of_no_sems (by decide) r.2⟩) (Cert.Reference15Ideal.Value.run m ρ)

/-- The kernel and the reference compute the same. -/
theorem values : Cert.algebraic_Kernel15Ideal_Reference15Ideal (hKernel15Ideal := Cert.Kernel15Ideal.Gen.facts) (hReference15Ideal := Cert.Reference15Ideal.Gen.facts) := by
  intro m ρ m' ρ' _ hag
  refine ⟨fun c => (Cert.Kernel15Ideal.Gen.dats (F := Ideal) m 0 c).arrAt 10 Cert.Kernel15Ideal.cfg0.N, fun c => (Cert.Kernel15Ideal.Gen.dats (F := Ideal) m 0 c).arrAt 11 Cert.Kernel15Ideal.cfg0.N, fun c => (Cert.Kernel15Ideal.Gen.dats (F := Ideal) m 0 c).arrAt 12 Cert.Kernel15Ideal.cfg0.N, fun c => (Cert.Kernel15Ideal.Gen.dats (F := Ideal) m 0 c).arrAt 13 Cert.Kernel15Ideal.cfg0.N, (θ_run _ _ _).mono (fun _ h c => h c) (Cert.Kernel15Ideal.Value.run_blocks (F := Ideal) m ρ),
    (θ_run _ _ _).mono (fun _ h c => ⟨(h c).1.trans ?_, (h c).2.1.trans ?_, (h c).2.2.1.trans ?_, (h c).2.2.2.1.trans ?_, (h c).2.2.2.2⟩) (Cert.Reference15Ideal.Value.run (F := Ideal) m' ρ')⟩
  · obtain ⟨e0, e1, e2, e3, e4, e5, e6, e7, e8, e9⟩ := hag c
    exact (val_main_v27_eq (F := Ideal) _ _ _ _ _).trans (eq10 m c e0 e1 e2 e3 e4)
  · obtain ⟨e0, e1, e2, e3, e4, e5, e6, e7, e8, e9⟩ := hag c
    exact (val_main_v62_eq (F := Ideal) _ _).trans (eq11 m c e0 e1 e2 e3 e4 e5 e6)
  · obtain ⟨e0, e1, e2, e3, e4, e5, e6, e7, e8, e9⟩ := hag c
    exact (val_main_v61_eq (F := Ideal) _ _).trans (eq12 m c e0 e1 e2 e3 e4 e5 e6 e7 e8 e9)
  · obtain ⟨e0, e1, e2, e3, e4, e5, e6, e7, e8, e9⟩ := hag c
    exact (val_main_v63_eq (F := Ideal) _ _).trans (eq13 m c e0 e1 e2 e3 e4 e5 e6 e7 e8 e9)

end Cert.Reference15Ideal.Fo

end
-- ==== Proof.FfnBwdActEq.lean ====
module

public import proofs.«01_k».proof.Defs
public import proofs.«01_k».proof.Proof.Spec
public import proofs.«01_k».proof.Proof.Bounds
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Pre_finite_activation_grads
public import Idealize.ShloMosaic.Lib.Pointwise
public import Idealize.ShloMosaic.Lib.Pipeline.ValueKit.Basic

@[expose] public section

/-! The gradient through the gated activation: the kernel's two results and the reference's, and that they are the same. -/

set_option maxRecDepth 16384

noncomputable section

namespace Cert.Kernel16Ideal.Fb

open Idealize.ShloMosaic Idealize.ShloMosaic.TcCoe Idealize.SL.Sem Cert.Kernel16Ideal.Gen Cert.Kernel16Ideal.Value Idealize.ShloMosaic.Pointwise

/-- The gate's gradient, from the product's gradient, the gate and the other factor, as the kernel computes it. -/
def gateGrad (D g u : EReal) : EReal := D * u * Ideal.logistic g * (1 + g * (1 - Ideal.logistic g))

/-- The other factor's gradient, as the kernel computes it. -/
def factorGrad (D g : EReal) : EReal := D * g * Ideal.logistic g

variable (m : (l : Loc nD τ sig) → Buf (Elt Ideal) l) (c : Dev nD)

/-- The output's gradient as launched. -/
abbrev dA : (⟨S16384x1024, .bf16⟩ : BufTy).Contents (Elt Ideal) := m ((c : Thread nD τ).loc main_arg0)

/-- The weight as launched. -/
abbrev wA : (⟨S2816x1024, .bf16⟩ : BufTy).Contents (Elt Ideal) := m ((c : Thread nD τ).loc main_arg1)

/-- The gate as launched. -/
abbrev gA : (⟨S16384x2816, .bf16⟩ : BufTy).Contents (Elt Ideal) := m ((c : Thread nD τ).loc main_arg2)

/-- The other factor as launched. -/
abbrev uA : (⟨S16384x2816, .bf16⟩ : BufTy).Contents (Elt Ideal) := m ((c : Thread nD τ).loc main_arg3)

/-- The gradient of the activated product: a row of the output's gradient against a row of the weight. -/
abbrev D (a : Fin 16384) (b : Fin 2816) : EReal := ∑ k : Fin 1024, (dA m c (ix2 a k) : EReal) * wA m c (ix2 b k)

/-- Every point takes the block of rows at its own place, and the whole weight. -/
theorem idx : ∀ t : Fin cfg0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = t.val ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0) := (by decide +kernel : ∀ t : Fin grid0.N, _)

/-- Every point writes both results back. -/
theorem flush : ∀ t : Fin cfg0.N, (cfg0.win 4).flush t = true ∧ (cfg0.win 5).flush t = true := (by decide +kernel : ∀ t : Fin grid0.N, _)

section Block

variable (t : Fin cfg0.N) (r : Fin 256) (a : Fin 16384) (ha : 256 * t.val + r.val = a.val)

include ha in
/-- An entry of the block of the output's gradient. -/
theorem blk0 (k : Fin 1024) : (iblk m c 0 t (ix2 r k) : EReal) = dA m c (ix2 a k) := by
  show V m c main_arg0 (((cfg0.win 0).blk t).view.emb (ix2 r k)) = _
  rw [V_main_arg0]
  obtain ⟨⟨e0, e1⟩, -⟩ := idx t
  refine congrArg (dA m c) (funext fun b => Fin.ext ?_)
  match b with
  | ⟨0, _⟩ => show win0_0.index t (0 : Fin 2) * 256 + 1 * r.val = a.val; omega
  | ⟨1, _⟩ => show win0_0.index t (1 : Fin 2) * 1024 + 1 * k.val = k.val; omega

/-- An entry of the weight's block. -/
theorem blk1 (q : Fin 2816) (k : Fin 1024) : (iblk m c 1 t (ix2 q k) : EReal) = wA m c (ix2 q k) := by
  show V m c main_arg1 (((cfg0.win 1).blk t).view.emb (ix2 q k)) = _
  rw [V_main_arg1]
  obtain ⟨-, ⟨e0, e1⟩, -⟩ := idx t
  refine congrArg (wA m c) (funext fun b => Fin.ext ?_)
  match b with
  | ⟨0, _⟩ => show win0_1.index t (0 : Fin 2) * 2816 + 1 * q.val = q.val; omega
  | ⟨1, _⟩ => show win0_1.index t (1 : Fin 2) * 1024 + 1 * k.val = k.val; omega

include ha in
/-- An entry of the gate's block. -/
theorem blk2 (q : Fin 2816) : (iblk m c 2 t (ix2 r q) : EReal) = gA m c (ix2 a q) := by
  show V m c main_arg2 (((cfg0.win 2).blk t).view.emb (ix2 r q)) = _
  rw [V_main_arg2]
  obtain ⟨-, -, ⟨e0, e1⟩, -⟩ := idx t
  refine congrArg (gA m c) (funext fun b => Fin.ext ?_)
  match b with
  | ⟨0, _⟩ => show win0_2.index t (0 : Fin 2) * 256 + 1 * r.val = a.val; omega
  | ⟨1, _⟩ => show win0_2.index t (1 : Fin 2) * 2816 + 1 * q.val = q.val; omega

include ha in
/-- An entry of the other factor's block. -/
theorem blk3 (q : Fin 2816) : (iblk m c 3 t (ix2 r q) : EReal) = uA m c (ix2 a q) := by
  show V m c main_arg3 (((cfg0.win 3).blk t).view.emb (ix2 r q)) = _
  rw [V_main_arg3]
  obtain ⟨-, -, -, ⟨e0, e1⟩, -⟩ := idx t
  refine congrArg (uA m c) (funext fun b => Fin.ext ?_)
  match b with
  | ⟨0, _⟩ => show win0_3.index t (0 : Fin 2) * 256 + 1 * r.val = a.val; omega
  | ⟨1, _⟩ => show win0_3.index t (1 : Fin 2) * 2816 + 1 * q.val = q.val; omega

end Block

section Body

variable (x0 : Vec Ideal S256x1024 .bf16) (x1 : Vec Ideal S2816x1024 .bf16) (x2 x3 : Vec Ideal S256x2816 .bf16) (r : Fin 256) (q : Fin 2816)

/-- A point's product. -/
theorem prod : (k0_pay1 (F := Ideal) x0 x1 (ix2 r q) : EReal) = ∑ k : Fin 1024, x0 (ix2 r k) * x1 (ix2 q k) := by
  unfold k0_pay1
  pointwise
  try rfl

/-- The gate's gradient at a point. -/
theorem gate : (out0_4 (F := Ideal) x0 x1 x2 x3 (ix2 r q) : EReal) = gateGrad (∑ k : Fin 1024, x0 (ix2 r k) * x1 (ix2 q k)) (x2 (ix2 r q)) (x3 (ix2 r q)) := by
  have h : out0_4 (F := Ideal) x0 x1 x2 x3 = k0_pay4 (F := Ideal) x0 x1 x2 x3 := by
    unfold out0_4
    rw [View.canon_cons_unit_lit _ _ _ (by decide), View.ld_unit_lit _ _ (by decide), View.ld_unit_lit _ _ (by decide), View.ld_unit_lit _ _ (by decide), View.ld_unit_lit _ _ (by decide)]
  rw [h, ← prod x0 x1 r q]
  unfold k0_pay4 k0_pay3 k0_pay2 gateGrad
  generalize k0_pay1 (F := Ideal) x0 x1 = s
  pointwise
  try rfl

/-- The other factor's gradient at a point. -/
theorem factor : (out0_5 (F := Ideal) x0 x1 x2 x3 (ix2 r q) : EReal) = factorGrad (∑ k : Fin 1024, x0 (ix2 r k) * x1 (ix2 q k)) (x2 (ix2 r q)) := by
  have h : out0_5 (F := Ideal) x0 x1 x2 x3 = k0_pay5 (F := Ideal) x0 x1 x2 := by
    unfold out0_5
    rw [View.canon_cons_unit_lit _ _ _ (by decide), View.ld_unit_lit _ _ (by decide), View.ld_unit_lit _ _ (by decide), View.ld_unit_lit _ _ (by decide)]
  rw [h, ← prod x0 x1 r q]
  unfold k0_pay5 k0_pay3 k0_pay2 factorGrad
  generalize k0_pay1 (F := Ideal) x0 x1 = s
  pointwise
  try rfl

end Body

variable (a : Fin 16384) (b : Fin 2816)

/-- Where an entry lies: the point and the row of its block. -/
theorem place : ∃ (t : Fin cfg0.N) (r : Fin 256), 256 * t.val + r.val = a.val := by
  have ha := a.isLt
  exact ⟨⟨a.val / 256, lt_of_lt_of_eq (show a.val / 256 < 64 by omega) N_0.symm⟩, ⟨a.val % 256, Nat.mod_lt _ (by decide)⟩, Nat.div_add_mod _ _⟩

/-- A point's product is the gradient of the activated product there. -/
theorem prod_eq (t : Fin cfg0.N) (r : Fin 256) (ha : 256 * t.val + r.val = a.val) : (∑ k : Fin 1024, (fun x y : EReal => x * y) (iblk m c 0 t (ix2 r k)) (iblk m c 1 t (ix2 b k))) = D m c a b :=
  Finset.sum_congr rfl fun k _ => congrArg₂ (fun x y : EReal => x * y) (blk0 m c t r a ha k) (blk1 m c t b k)

/-- Every entry of the gate's gradient. -/
theorem arr4 : ((dats m 0 c).arrAt 4 cfg0.N (ix2 a b) : EReal) = gateGrad (D m c a b) (gA m c (ix2 a b)) (uA m c (ix2 a b)) := by
  obtain ⟨t, r, ha⟩ := place a
  have h : (dats m 0 c).arrAt 4 cfg0.N (((cfg0.win 4).blk t).view.emb (ix2 r b)) = out0_4 (F := Ideal) (iblk m c 0 t) (iblk m c 1 t) (iblk m c 2 t) (iblk m c 3 t) (ix2 r b) :=
    (congrFun (blocks4 m c t (flush t).1) (ix2 r b)).trans (congrFun (flushed4 m c t) (ix2 r b))
  obtain ⟨-, -, -, -, ⟨e0, e1⟩, -⟩ := idx t
  have hi : ((cfg0.win 4).blk t).view.emb (ix2 r b) = ix2 a b := by
    refine funext fun d => Fin.ext ?_
    match d with
    | ⟨0, _⟩ => show win0_4.index t (0 : Fin 2) * 256 + 1 * r.val = a.val; omega
    | ⟨1, _⟩ => show win0_4.index t (1 : Fin 2) * 2816 + 1 * b.val = b.val; omega
  rw [hi] at h
  refine (show ((dats m 0 c).arrAt 4 cfg0.N (ix2 a b) : EReal) = _ from h).trans ((gate _ _ _ _ r b).trans ?_)
  exact (congrArg (fun d => gateGrad d _ _) (prod_eq m c a b t r ha)).trans (congrArg₂ (gateGrad (D m c a b)) (blk2 m c t r a ha b) (blk3 m c t r a ha b))

/-- Every entry of the other factor's gradient. -/
theorem arr5 : ((dats m 0 c).arrAt 5 cfg0.N (ix2 a b) : EReal) = factorGrad (D m c a b) (gA m c (ix2 a b)) := by
  obtain ⟨t, r, ha⟩ := place a
  have h : (dats m 0 c).arrAt 5 cfg0.N (((cfg0.win 5).blk t).view.emb (ix2 r b)) = out0_5 (F := Ideal) (iblk m c 0 t) (iblk m c 1 t) (iblk m c 2 t) (iblk m c 3 t) (ix2 r b) :=
    (congrFun (blocks5 m c t (flush t).2) (ix2 r b)).trans (congrFun (flushed5 m c t) (ix2 r b))
  obtain ⟨-, -, -, -, -, e0, e1⟩ := idx t
  have hi : ((cfg0.win 5).blk t).view.emb (ix2 r b) = ix2 a b := by
    refine funext fun d => Fin.ext ?_
    match d with
    | ⟨0, _⟩ => show win0_5.index t (0 : Fin 2) * 256 + 1 * r.val = a.val; omega
    | ⟨1, _⟩ => show win0_5.index t (1 : Fin 2) * 2816 + 1 * b.val = b.val; omega
  rw [hi] at h
  refine (show ((dats m 0 c).arrAt 5 cfg0.N (ix2 a b) : EReal) = _ from h).trans ((factor _ _ _ _ r b).trans ?_)
  exact congrArg₂ factorGrad (prod_eq m c a b t r ha) (blk2 m c t r a ha b)

end Cert.Kernel16Ideal.Fb

namespace Cert.Reference16Ideal.Fb

open Idealize.ShloMosaic Idealize.ShloMosaic.TcCoe Idealize.SL.Sem Cert.Reference16Ideal.Gen Cert.Reference16Ideal.Read Idealize.ShloMosaic.Pointwise Cert.Dv
open Cert.Kernel16Ideal.Fb (gateGrad factorGrad dA wA gA uA D)
open Cert.KernelIdeal.Dv (real_of_cmp real_mul)

/-- The gate's gradient as the reference computes it: what passes through the sigmoid's slope added to what passes beside it. -/
theorem gate_eq {D u : EReal} (g : EReal) (h : IsReal (D * u)) : D * u * Ideal.logistic g + g * (D * u) * (Ideal.logistic g * (1 - Ideal.logistic g)) = gateGrad D g u := by
  unfold gateGrad
  obtain ⟨x, hx⟩ := h
  rw [hx]
  induction g with
  | bot => simp
  | top =>
    rw [Ideal.logistic_top, show (1 - 1 : EReal) = 0 from by rw [← EReal.coe_one, ← EReal.coe_sub]; simp]
    simp
  | coe r =>
    rw [Ideal.logistic_coe]
    generalize (1 + Real.exp (-r))⁻¹ = s
    norm_cast
    ring

/-- The other factor's gradient as the reference computes it. -/
theorem factor_eq (D g : EReal) : g * Ideal.logistic g * D = factorGrad D g := by
  unfold factorGrad
  rw [mul_comm, ← mul_assoc]

section Entry

variable (x0 : (⟨S16384x1024, .bf16⟩ : BufTy).Contents (Elt Ideal)) (x1 : (⟨S2816x1024, .bf16⟩ : BufTy).Contents (Elt Ideal)) (x2 x3 : (⟨S16384x2816, .bf16⟩ : BufTy).Contents (Elt Ideal)) (p : Fin 16384) (q : Fin 2816)

/-- The gradient of the activated product. -/
theorem prod : (val_main_v7 (F := Ideal) x0 x1 (ix2 p q) : EReal) = ∑ k : Fin 1024, x0 (ix2 p k) * x1 (ix2 q k) := by
  unfold val_main_v7 val_main_v6 val_main_v4
  pointwise
  try rfl

/-- The sigmoid of the gate. -/
theorem sig_eq : (val_main_v2_2 (F := Ideal) x2 (ix2 p q) : EReal) = Ideal.logistic (x2 (ix2 p q)) := by
  unfold val_main_v2_2 val_main_call0_v4 val_main_call0_cst_0 val_main_call0_v3 val_main_call0_v2 val_main_call0_cst val_main_call0_v1 val_main_call0_v0 val_main_v0
  pointwise
  try rfl

/-- The reference's gradient of the gate. -/
theorem gate : (val_main_v11 (F := Ideal) x0 x1 x2 x3 (ix2 p q) : EReal)
    = (∑ k : Fin 1024, x0 (ix2 p k) * x1 (ix2 q k)) * x3 (ix2 p q) * Ideal.logistic (x2 (ix2 p q))
      + x2 (ix2 p q) * ((∑ k : Fin 1024, x0 (ix2 p k) * x1 (ix2 q k)) * x3 (ix2 p q)) * (Ideal.logistic (x2 (ix2 p q)) * (1 - Ideal.logistic (x2 (ix2 p q)))) := by
  rw [← prod x0 x1 p q, ← sig_eq x2 p q]
  unfold val_main_v11 val_main_v10 val_main_call1_v2 val_main_call1_v1 val_main_call1_v0 val_main_v9 val_main_v1 val_main_v0 val_main_v2_1 val_main_call0_v7 val_main_call0_v6 val_main_call0_cst_1
  generalize val_main_v7 (F := Ideal) x0 x1 = d
  generalize val_main_v2_2 (F := Ideal) x2 = s
  pointwise
  try rfl

/-- The reference's gradient of the other factor. -/
theorem factor : (val_main_v12 (F := Ideal) x0 x1 x2 (ix2 p q) : EReal)
    = x2 (ix2 p q) * Ideal.logistic (x2 (ix2 p q)) * ∑ k : Fin 1024, x0 (ix2 p k) * x1 (ix2 q k) := by
  rw [← prod x0 x1 p q, ← sig_eq x2 p q]
  unfold val_main_v12 val_main_v8 val_main_v2_0 val_main_v0
  generalize val_main_v7 (F := Ideal) x0 x1 = d
  generalize val_main_v2_2 (F := Ideal) x2 = s
  pointwise
  try rfl

end Entry

/-- Where the precondition holds, the gradient of the activated product times the other factor is real. -/
theorem reals (m : (l : Loc Cert.Kernel16Ideal.nD Cert.Kernel16Ideal.τ Cert.Kernel16Ideal.sig) → Buf (Elt Ideal) l)
    (H : Cert.Pre_Kernel16Ideal_finite_activation_grads (hPre_finite_activation_grads := Cert.Pre_finite_activation_grads.Gen.facts) m) (c : Dev Cert.Kernel16Ideal.nD) (a : Fin 16384) (b : Fin 2816) :
    IsReal (D m c a b * uA m c (ix2 a b)) := by
  obtain ⟨h0, h1, h2⟩ := H c
  refine real_mul (IsReal.sum _ _ fun k => real_mul ?_ ?_) ?_
  · have e := congrFun h0 (ix2 a k)
    simp only [Cert.Pre_finite_activation_grads.fn] at e
    refine real_of_cmp (Eq.trans ?_ e)
    pointwise
    rfl
  · have e := congrFun h1 (ix2 b k)
    simp only [Cert.Pre_finite_activation_grads.fn] at e
    refine real_of_cmp (Eq.trans ?_ e)
    pointwise
    rfl
  · have e := congrFun h2 (ix2 a b)
    simp only [Cert.Pre_finite_activation_grads.fn] at e
    refine real_of_cmp (Eq.trans ?_ e)
    pointwise
    rfl

/-- The reference ends with its arguments unchanged and every counter at zero. -/
theorem frame : Cert.quiescent_Reference16Ideal (hReference16Ideal := Cert.Reference16Ideal.Gen.facts) := fun m ρ _ =>
  (θ_run Cert.Reference16Ideal.defs _ _).mono
    (fun r h => ⟨fun c => (h c).2.2, Idealize.ShloMosaic.sem_eq_zero_of_no_sems (by decide) r.2⟩) (Cert.Reference16Ideal.Value.run m ρ)

/-- Where the precondition holds, the kernel and the reference compute the same. -/
theorem values : Cert.algebraic_Kernel16Ideal_Reference16Ideal_pre_finite_activation_grads (hKernel16Ideal := Cert.Kernel16Ideal.Gen.facts) (hReference16Ideal := Cert.Reference16Ideal.Gen.facts)
    (hPre_finite_activation_grads := Cert.Pre_finite_activation_grads.Gen.facts) := by
  intro m ρ m' ρ' hpre hag
  refine ⟨fun c => (Cert.Kernel16Ideal.Gen.dats (F := Ideal) m 0 c).arrAt 4 Cert.Kernel16Ideal.cfg0.N, fun c => (Cert.Kernel16Ideal.Gen.dats (F := Ideal) m 0 c).arrAt 5 Cert.Kernel16Ideal.cfg0.N,
    (θ_run _ _ _).mono (fun _ h c => h c) (Cert.Kernel16Ideal.Value.run_blocks (F := Ideal) m ρ),
    (θ_run _ _ _).mono (fun _ h c => ⟨(h c).1.trans ?_, (h c).2.1.trans ?_, (h c).2.2⟩) (Cert.Reference16Ideal.Value.run (F := Ideal) m' ρ')⟩
  · obtain ⟨e0, e1, e2, e3⟩ := hag c
    refine (val_main_v11_eq (F := Ideal) _ _ _ _).trans ?_
    rw [e0, e1, e2, e3]
    funext i
    refine (congrArg _ (ValueIdx.eq_ix2 i)).trans (Eq.trans ?_ (congrArg _ (ValueIdx.eq_ix2 i).symm))
    exact (gate _ _ _ _ (i 0) (i 1)).trans ((gate_eq _ (reals m hpre c (i 0) (i 1))).trans (Cert.Kernel16Ideal.Fb.arr4 m c (i 0) (i 1)).symm)
  · obtain ⟨e0, e1, e2, e3⟩ := hag c
    refine (val_main_v12_eq (F := Ideal) _ _ _).trans ?_
    rw [e0, e1, e2]
    funext i
    refine (congrArg _ (ValueIdx.eq_ix2 i)).trans (Eq.trans ?_ (congrArg _ (ValueIdx.eq_ix2 i).symm))
    exact (factor _ _ _ (i 0) (i 1)).trans ((factor_eq _ _).trans (Cert.Kernel16Ideal.Fb.arr5 m c (i 0) (i 1)).symm)

end Cert.Reference16Ideal.Fb

end
-- ==== Proof.RowSums.lean ====
module

public import proofs.«01_k».proof.Proof.Sums
public import proofs.«01_k».proof.Proof.Stores
public import Idealize.ShloMosaic.Lib.Pipeline.FrameBody

@[expose] public section

noncomputable section

/-! Sums over the 16384 rows, taken a block of `B` rows at a time, and loads of a part of a buffer. -/

namespace Cert.Rows

open Idealize.ShloMosaic

/-- The sum over the first `n` blocks of `B` rows. -/
def firstOf (B : ℕ) (f : Fin 16384 → EReal) (n : ℕ) : EReal := ∑ j ∈ Finset.range (B * n), f (row j)

/-- One block more. -/
theorem firstOf_succ (B : ℕ) (f : Fin 16384 → EReal) (n : ℕ) : firstOf B f (n + 1) = firstOf B f n + ∑ r : Fin B, f (row (B * n + r.val)) := by
  unfold firstOf
  rw [Nat.mul_succ, Finset.sum_range_add, ← Fin.sum_univ_eq_sum_range (fun r => f (row (B * n + r)))]

/-- The first block alone. -/
theorem firstOf_one (B : ℕ) (f : Fin 16384 → EReal) : firstOf B f 1 = ∑ r : Fin B, f (row (B * 0 + r.val)) := by
  rw [firstOf_succ]
  unfold firstOf
  rw [Nat.mul_zero, Finset.range_zero, Finset.sum_empty, zero_add]

/-- All blocks are all rows. -/
theorem firstOf_all (B n : ℕ) (h : B * n = 16384) (f : Fin 16384 → EReal) : firstOf B f n = ∑ k : Fin 16384, f k := by
  unfold firstOf
  rw [h, ← Fin.sum_univ_eq_sum_range (fun j => f (row j)) 16384]
  exact Finset.sum_congr rfl fun k _ => congrArg f (row_val k)

/-- A sum cut in two. -/
theorem cut {a b n : ℕ} (h : a + b = n) (f : Fin n → EReal) : ∑ k : Fin n, f k = (∑ k : Fin a, f ⟨k.val, by omega⟩) + ∑ k : Fin b, f ⟨a + k.val, by omega⟩ := by
  subst h
  exact Fin.sum_univ_add f

/-- What a load of a part of a buffer that holds `x` reads. -/
abbrev part {sig : RefSig} {κ : Kind} {sp : Space} {s : Shape} {e : EltTy} {a : Memref sig κ sp s e} (h : a.IsWhole) (x : Vec Ideal s e) (r : Rect s) : Vec Ideal r.shape e :=
  View.readAt (Elt Ideal) a.view r.toLoadRect (h.unread x)

/-- A load of a part of a buffer that holds `x` reads that part of `x`. -/
theorem part_load {sig : RefSig} {κ : Kind} {sp : Space} {s : Shape} {e : EltTy} {a : Memref sig κ sp s e} (h : a.IsWhole) (x : Vec Ideal s e) (r : Rect s) :
    View.readAt (Elt Ideal) a.view r.toLoadRect (h.unread x) = View.ld x r :=
  congrArg (fun y => View.ld y r) (h.read_unread x)

end Cert.Rows

end
-- ==== Proof.NormBwd.lean ====
module

public import proofs.«01_k».proof.Proof.Norm
public import proofs.«01_k».proof.Proof.Spec

@[expose] public section

/-! The gradient of a row's layer norm in the row, in two forms, and that they agree: the closed form with two means,
and the chain rule through the mean, the variance and the root one after another. -/

noncomputable section

namespace Cert.Norm

open Idealize.ShloMosaic Cert.Dv

/-- The inverse root of a row's variance. -/
def rs (y : Fin 1024 → EReal) : EReal := Ideal.rsqrt (var y + eps)

/-- A row less its mean over its root. -/
def xh (y : Fin 1024 → EReal) (q : Fin 1024) : EReal := (y q - mean y) * rs y

/-- The gradient of the row `y` from the gradient `d` of its normed row, in closed form. -/
def dln (d y : Fin 1024 → EReal) (q : Fin 1024) : EReal := rs y * ((d q - mean d) - xh y q * mean fun k => d k * xh y k)

/-- Two. -/
abbrev two : EReal := Ideal.ofBits .f32 0x40000000#32

/-- Minus a half. -/
abbrev nhalf : EReal := Ideal.ofBits .f32 0xBF000000#32

/-- The gradient of the variance, a row's share of it. -/
def dvar (d y : Fin 1024 → EReal) : EReal := Ideal.div ((∑ k : Fin 1024, (y k - mean y) * d k) * (nhalf * Ideal.div (rs y) (var y + eps))) len

/-- What the variance passes on to an entry of the row. -/
def thru (d y : Fin 1024 → EReal) (q : Fin 1024) : EReal := dvar d y * (two * (y q - mean y))

/-- The gradient of the row by the chain rule. -/
def chain (d y : Fin 1024 → EReal) (q : Fin 1024) : EReal :=
  d q * rs y + thru d y q + Ideal.div ((∑ k : Fin 1024, -(d k * rs y)) + ∑ k : Fin 1024, -thru d y k) len

/-- The length of a row. -/
theorem len_eq : len = ((1024 : ℝ) : EReal) := by
  have h : len = (((8388608 : ℝ) * 2 ^ (-13 : ℤ) : ℝ) : EReal) := by simp [Ideal.ofBits, Ideal.ieee]
  rw [h]
  norm_num

theorem two_eq : two = ((2 : ℝ) : EReal) := by
  have h : two = (((8388608 : ℝ) * 2 ^ (-22 : ℤ) : ℝ) : EReal) := by simp [Ideal.ofBits, Ideal.ieee]
  rw [h]
  norm_num

theorem nhalf_eq : nhalf = ((-(1 / 2) : ℝ) : EReal) := by
  have h : nhalf = ((-(8388608 : ℝ) * 2 ^ (-24 : ℤ) : ℝ) : EReal) := by simp [Ideal.ofBits, Ideal.ieee]
  rw [h]
  norm_num

/-- What is added to the variance is a positive number. -/
theorem eps_pos : ∃ e : ℝ, 0 < e ∧ eps = (e : EReal) := by
  refine ⟨(10995116 : ℝ) * 2 ^ (-40 : ℤ), ?_, ?_⟩
  · norm_num
  · simp [Ideal.ofBits, Ideal.ieee]

/-- A quotient by the length. -/
theorem div_len (x : EReal) : Ideal.div x len = x * ((1024 : ℝ)⁻¹ : ℝ) := by
  rw [len_eq]
  unfold Ideal.div
  rw [if_neg (by norm_num), ← EReal.coe_inv]

/-- A sum of real numbers. -/
theorem sum_coe {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- A row of real numbers has a real mean. -/
theorem mean_coe (f : Fin 1024 → ℝ) : mean (fun k => (f k : EReal)) = (((∑ k, f k) * (1024 : ℝ)⁻¹ : ℝ) : EReal) := by
  unfold mean
  rw [div_len, sum_coe, EReal.coe_mul]

/-- The two summands of a real sum are real. -/
theorem real_parts {a b : EReal} (h : IsReal (a + b)) : IsReal a ∧ IsReal b := by
  obtain ⟨r, h⟩ := h
  induction a with
  | bot => simp at h
  | top =>
    induction b with
    | bot => simp at h
    | top => simp at h
    | coe b => simp at h
  | coe a =>
    induction b with
    | bot => simp at h
    | top => simp at h
    | coe b => exact ⟨⟨a, rfl⟩, ⟨b, rfl⟩⟩

/-- The summands of a real sum are real. -/
theorem real_all {ι : Type} (s : Finset ι) (f : ι → EReal) (h : IsReal (∑ i ∈ s, f i)) : ∀ i ∈ s, IsReal (f i) := by
  classical
  induction s using Finset.induction_on with
  | empty => exact fun i hi => absurd hi (Finset.notMem_empty i)
  | insert a s ha ih =>
    rw [Finset.sum_insert ha] at h
    intro i hi
    rcases Finset.mem_insert.mp hi with rfl | hi
    · exact (real_parts h).1
    · exact ih (real_parts h).2 i hi

/-- A row that isn't all real has no root: the inverse root is zero. -/
theorem rs_zero (y : Fin 1024 → EReal) (h : ¬∀ k, IsReal (y k)) : rs y = 0 ∧ var y + eps = ⊤ := by
  have hs : ¬IsReal (∑ k : Fin 1024, y k) := fun hr => h fun k => real_all _ y hr k (Finset.mem_univ k)
  have hm : mean y = ⊤ ∨ mean y = ⊥ := by
    unfold mean
    rw [div_len]
    generalize (∑ k : Fin 1024, y k) = z at hs
    induction z with
    | bot => exact .inr (EReal.bot_mul_coe_of_pos (by norm_num))
    | top => exact .inl (EReal.top_mul_coe_of_pos (by norm_num))
    | coe r => exact absurd ⟨r, rfl⟩ hs
  have hc : ∀ k, (y k - mean y) * (y k - mean y) = ⊤ := by
    intro k
    rcases hm with hm | hm <;> rw [hm] <;> generalize y k = z <;> induction z <;> simp [sub_eq_add_neg]
  have hv : var y = ⊤ := by
    unfold var
    rw [funext hc]
    unfold mean
    rw [div_len, Fin.sum_univ_succ]
    rw [show (⊤ : EReal) + ∑ _ : Fin 1023, ⊤ = ⊤ from EReal.top_add_of_ne_bot (by
      intro hb
      have : (⊤ : EReal) ≤ ∑ _ : Fin 1023, (⊤ : EReal) := by
        rw [Fin.sum_univ_succ]
        exact le_add_of_nonneg_right (Finset.sum_nonneg fun _ _ => le_top)
      rw [hb] at this
      exact absurd this (by simp))]
    exact EReal.top_mul_coe_of_pos (by norm_num)
  obtain ⟨e, _, he⟩ := eps_pos
  have ht : var y + eps = ⊤ := by rw [hv, he]; rfl
  exact ⟨by unfold rs; rw [ht]; rfl, ht⟩

/-- The two forms agree on every row, for real gradients. -/
theorem chain_eq (d y : Fin 1024 → EReal) (hd : ∀ k, IsReal (d k)) (q : Fin 1024) : chain d y q = dln d y q := by
  by_cases h : ∀ k, IsReal (y k)
  · choose a ha using hd
    choose b hb using h
    obtain rfl : d = fun k => (a k : EReal) := funext ha
    obtain rfl : y = fun k => (b k : EReal) := funext hb
    clear ha hb
    obtain ⟨e, he, hee⟩ := eps_pos
    let u : ℝ := (∑ k, b k) * (1024 : ℝ)⁻¹
    have hu : mean (fun k => (b k : EReal)) = (u : EReal) := mean_coe b
    let V : ℝ := (∑ k, (b k - u) * (b k - u)) * (1024 : ℝ)⁻¹ + e
    have hV : var (fun k => (b k : EReal)) + eps = (V : EReal) := by
      unfold var
      rw [hu, hee]
      exact congrArg (· + (e : EReal)) (mean_coe fun k => (b k - u) * (b k - u))
    have hp : 0 < V := add_pos_of_nonneg_of_pos (mul_nonneg (Finset.sum_nonneg fun k _ => mul_self_nonneg _) (by norm_num)) he
    let p : ℝ := (Real.sqrt V)⁻¹
    have hr : rs (fun k => (b k : EReal)) = (p : EReal) := by
      unfold rs
      rw [hV, Ideal.rsqrt_coe, if_neg (not_lt.mpr hp.le), if_neg hp.ne']
    have hp2 : V⁻¹ = p * p := by
      show V⁻¹ = (Real.sqrt V)⁻¹ * (Real.sqrt V)⁻¹
      rw [← mul_inv, Real.mul_self_sqrt hp.le]
    have hq : Ideal.div (p : EReal) (V : EReal) = ((p * (p * p) : ℝ) : EReal) := by
      unfold Ideal.div
      rw [if_neg (fun h0 => hp.ne' (EReal.coe_eq_zero.mp h0)), ← EReal.coe_inv, hp2, ← EReal.coe_mul]
    let S : ℝ := ∑ k, (b k - u) * a k
    have hS : (∑ k : Fin 1024, ((b k : EReal) - (u : EReal)) * (a k : EReal)) = (S : EReal) := sum_coe _ fun k => (b k - u) * a k
    let v : ℝ := S * (-(1 / 2) * (p * (p * p))) * (1024 : ℝ)⁻¹
    have hv : dvar (fun k => (a k : EReal)) (fun k => (b k : EReal)) = (v : EReal) := by
      unfold dvar
      rw [hu, hr, hV, hq, hS, nhalf_eq, div_len]
      rfl
    have ht : ∀ k, thru (fun k => (a k : EReal)) (fun k => (b k : EReal)) k = ((v * (2 * (b k - u)) : ℝ) : EReal) := by
      intro k
      unfold thru
      rw [hv, hu, two_eq]
      rfl
    have h0 : ∑ k, (b k - u) = 0 := by
      rw [Finset.sum_sub_distrib, Finset.sum_const, Finset.card_univ, Fintype.card_fin]
      show (∑ k, b k) - (1024 : ℕ) • ((∑ k, b k) * (1024 : ℝ)⁻¹) = 0
      rw [nsmul_eq_mul]
      push_cast
      ring
    have hx : ∀ k, xh (fun k => (b k : EReal)) k = (((b k - u) * p : ℝ) : EReal) := by
      intro k
      unfold xh
      rw [hu, hr]
      rfl
    have hl : chain (fun k => (a k : EReal)) (fun k => (b k : EReal)) q
        = ((a q * p + v * (2 * (b q - u)) + ((∑ k, -(a k * p)) + ∑ k, -(v * (2 * (b k - u)))) * (1024 : ℝ)⁻¹ : ℝ) : EReal) := by
      unfold chain
      rw [funext ht, hr, div_len]
      rw [show (∑ k : Fin 1024, -((a k : EReal) * (p : EReal))) = ((∑ k, -(a k * p) : ℝ) : EReal) from sum_coe _ fun k => -(a k * p)]
      rw [show (∑ k : Fin 1024, -(((v * (2 * (b k - u)) : ℝ)) : EReal)) = ((∑ k, -(v * (2 * (b k - u))) : ℝ) : EReal) from sum_coe _ fun k => -(v * (2 * (b k - u)))]
      rfl
    have hrr : dln (fun k => (a k : EReal)) (fun k => (b k : EReal)) q
        = ((p * ((a q - (∑ k, a k) * (1024 : ℝ)⁻¹) - (b q - u) * p * ((∑ k, a k * ((b k - u) * p)) * (1024 : ℝ)⁻¹)) : ℝ) : EReal) := by
      unfold dln
      rw [funext hx, hr, mean_coe a]
      rw [show mean (fun k => (a k : EReal) * (((b k - u) * p : ℝ) : EReal)) = (((∑ k, a k * ((b k - u) * p)) * (1024 : ℝ)⁻¹ : ℝ) : EReal) from mean_coe fun k => a k * ((b k - u) * p)]
      rfl
    rw [hl, hrr]
    refine congrArg _ ?_
    have s1 : (∑ k, -(a k * p)) = -((∑ k, a k) * p) := by rw [Finset.sum_neg_distrib, Finset.sum_mul]
    have s2 : (∑ k, -(v * (2 * (b k - u)))) = 0 := by
      rw [Finset.sum_neg_distrib, ← Finset.mul_sum, ← Finset.mul_sum, h0]
      ring
    have s3 : (∑ k, a k * ((b k - u) * p)) = S * p := by
      show _ = (∑ k, (b k - u) * a k) * p
      rw [Finset.sum_mul]
      exact Finset.sum_congr rfl fun k _ => by ring
    rw [s1, s2, s3]
    show a q * p + S * (-(1 / 2) * (p * (p * p))) * (1024 : ℝ)⁻¹ * (2 * (b q - u)) + _ = _
    ring
  · obtain ⟨h0, ht⟩ := rs_zero y h
    have hv : dvar d y = 0 := by
      unfold dvar
      rw [h0, ht, div_len]
      simp [Ideal.div]
    have hz : ∀ k, thru d y k = 0 := fun k => by unfold thru; rw [hv, zero_mul]
    unfold chain dln
    rw [funext hz, h0, div_len]
    simp

end Cert.Norm

end
-- ==== Proof.FfnBwdXLn.lean ====
module

public import proofs.«01_k».proof.Proof.RowSums
public import proofs.«01_k».proof.Proof.Halves
public import proofs.«01_k».proof.Proof.NormBwd
public import proofs.«01_k».proof.Proof.Gen.Kernel18Ideal.Value
public import Idealize.ShloMosaic.Lib.Pipeline.ValueKit.Basic
public import Idealize.ShloMosaic.Lib.Pipeline.ValueKit.Geometry

@[expose] public section

/-! The gradient of the feed-forward input at `Kernel18Ideal`, through its product, the residual branch and the norm: every point computes its rows'
gradients in closed form, and adds its rows to the gain's and the bias's gradients that the points before it left. -/

set_option maxRecDepth 16384

noncomputable section

namespace Cert.Kernel18Ideal.Fx

open Idealize.ShloMosaic Idealize.ShloMosaic.Tactic Idealize.ShloMosaic.TcCoe Cert.Kernel18Ideal.Gen Cert.Kernel18Ideal.Value Idealize.ShloMosaic.Pointwise Cert.Rows Cert.Stores Cert.Norm Cert.Halves

variable (m : (l : Loc nD τ sig) → Buf (Elt Ideal) l) (c : Dev nD)

/-- The weight's first half of columns. -/
abbrev partA : Rect S1024x5632 := Rect.unit (s := S1024x5632) ![0, 0] S1024x2816.size inb_S1024x5632_S1024x2816_0_0

/-- The weight's second half of columns. -/
abbrev partB : Rect S1024x5632 := Rect.unit (s := S1024x5632) ![0, 2816] S1024x2816.size inb_S1024x5632_S1024x2816_0_2816

/-- A point's load of the first gradient. -/
abbrev in0 (t : Fin cfg0.N) : Vec Ideal S256x2816 .bf16 := got (hs0_0 t) inb_S256x2816_S256x2816_0_0 (iblk m c 0 t)

/-- A point's load of the second gradient. -/
abbrev in1 (t : Fin cfg0.N) : Vec Ideal S256x2816 .bf16 := got (hs0_1 t) inb_S256x2816_S256x2816_0_0 (iblk m c 1 t)

/-- A point's load of the residual branch's gradient. -/
abbrev in3 (t : Fin cfg0.N) : Vec Ideal S256x1024 .f32 := got (hs0_3 t) inb_S256x1024_S256x1024_0_0 (iblk m c 3 t)

/-- A point's load of the norm's input. -/
abbrev in4 (t : Fin cfg0.N) : Vec Ideal S256x1024 .f32 := got (hs0_4 t) inb_S256x1024_S256x1024_0_0 (iblk m c 4 t)

/-- A point's load of the gain. -/
abbrev in5 (t : Fin cfg0.N) : Vec Ideal S1x1024 .f32 := got (hs0_5 t) inb_S1x1024_S1x1024_0_0 (iblk m c 5 t)

/-- A point's load of a part of the weight's columns. -/
abbrev in2 (t : Fin cfg0.N) (r : Rect S1024x5632) : Vec Ideal r.shape .bf16 := View.readAt (Elt Ideal) (ms0_2 t).view r.toLoadRect ((hs0_2 t).unread (iblk m c 2 t))

/-- Every load reads its block. -/
theorem in_eq (t : Fin cfg0.N) : in0 m c t = iblk m c 0 t ∧ in1 m c t = iblk m c 1 t ∧ in3 m c t = iblk m c 3 t ∧ in4 m c t = iblk m c 4 t ∧ in5 m c t = iblk m c 5 t
    ∧ in2 m c t partA = View.ld (iblk m c 2 t) partA ∧ in2 m c t partB = View.ld (iblk m c 2 t) partB :=
  ⟨got_eq _ _ _, got_eq _ _ _, got_eq _ _ _, got_eq _ _ _, got_eq _ _ _, part_load _ _ _, part_load _ _ _⟩

/-- What was kept of the gain's gradient before a point. -/
abbrev prev8 (t : Fin cfg0.N) : Vec Ideal S1x1024 .f32 := (outsAt0 (F := Ideal) m c (t.val - 1) (Nat.lt_of_le_of_lt (Nat.sub_le _ _) t.isLt)).2.2.1

/-- What was kept of the bias's gradient before a point. -/
abbrev prev9 (t : Fin cfg0.N) : Vec Ideal S1x1024 .f32 := (outsAt0 (F := Ideal) m c (t.val - 1) (Nat.lt_of_le_of_lt (Nat.sub_le _ _) t.isLt)).2.2.2

/-- The first point on the run. -/
theorem pointA (t : Fin cfg0.N) (h : t.val = 0) : outsAt0 (F := Ideal) m c t.val t.isLt =
    (k0_pay9 (k0_pay5 (iblk m c 4 t)) (k0_pay6 (iblk m c 4 t)) (k0_pay7 (iblk m c 3 t) (iblk m c 0 t) (View.ld (iblk m c 2 t) partA) (iblk m c 1 t) (View.ld (iblk m c 2 t) partB) (iblk m c 5 t)) (k0_pay8 (iblk m c 3 t) (iblk m c 0 t) (View.ld (iblk m c 2 t) partA) (iblk m c 1 t) (View.ld (iblk m c 2 t) partB) (iblk m c 5 t)),
     k0_pay10 (k0_pay5 (iblk m c 4 t)) (k0_pay6 (iblk m c 4 t)) (k0_pay7 (iblk m c 3 t) (iblk m c 0 t) (View.ld (iblk m c 2 t) partA) (iblk m c 1 t) (View.ld (iblk m c 2 t) partB) (iblk m c 5 t)) (k0_pay8 (iblk m c 3 t) (iblk m c 0 t) (View.ld (iblk m c 2 t) partA) (iblk m c 1 t) (View.ld (iblk m c 2 t) partB) (iblk m c 5 t)),
     k0_pay11 (k0_pay1 (F := Ideal)) (k0_pay3 (iblk m c 3 t) (iblk m c 0 t) (View.ld (iblk m c 2 t) partA) (iblk m c 1 t) (View.ld (iblk m c 2 t) partB)) (k0_pay6 (iblk m c 4 t)),
     k0_pay12 (k0_pay2 (F := Ideal)) (k0_pay3 (iblk m c 3 t) (iblk m c 0 t) (View.ld (iblk m c 2 t) partA) (iblk m c 1 t) (View.ld (iblk m c 2 t) partB))) := by
  rw [outsAt0_A m c t (by omega) (by omega) (by omega) (by omega)]
  obtain ⟨e0, e1, e3, e4, e5, eA, eB⟩ := in_eq m c t
  refine Prod.ext ?_ (Prod.ext ?_ (Prod.ext ?_ ?_)) <;> dsimp only
  · unfold out0_A_6
    refine kept_of _ _ inb_S256x1024_S256x1024_0_0 (k0_pay9 (k0_pay5 (in4 m c t)) (k0_pay6 (in4 m c t)) (k0_pay7 (in3 m c t) (in0 m c t) (in2 m c t partA) (in1 m c t) (in2 m c t partB) (in5 m c t)) (k0_pay8 (in3 m c t) (in0 m c t) (in2 m c t partA) (in1 m c t) (in2 m c t partB) (in5 m c t))) ?_ ?_
    · sl_kernel_rfl
    · rw [e0, e1, e3, e4, e5, eA, eB]
  · unfold out0_A_7
    refine kept_of _ _ inb_S256x1024_S256x1024_0_0 (k0_pay10 (k0_pay5 (in4 m c t)) (k0_pay6 (in4 m c t)) (k0_pay7 (in3 m c t) (in0 m c t) (in2 m c t partA) (in1 m c t) (in2 m c t partB) (in5 m c t)) (k0_pay8 (in3 m c t) (in0 m c t) (in2 m c t partA) (in1 m c t) (in2 m c t partB) (in5 m c t))) ?_ ?_
    · sl_kernel_rfl
    · rw [e0, e1, e3, e4, e5, eA, eB]
  · unfold out0_A_8
    refine kept_of _ _ inb_S1x1024_S1x1024_0_0 (k0_pay11 (k0_pay1 (F := Ideal)) (k0_pay3 (in3 m c t) (in0 m c t) (in2 m c t partA) (in1 m c t) (in2 m c t partB)) (k0_pay6 (in4 m c t))) ?_ ?_
    · sl_kernel_rfl
    · rw [e0, e1, e3, e4, eA, eB]
  · unfold out0_A_9
    refine kept_of _ _ inb_S1x1024_S1x1024_0_0 (k0_pay12 (k0_pay2 (F := Ideal)) (k0_pay3 (in3 m c t) (in0 m c t) (in2 m c t partA) (in1 m c t) (in2 m c t partB))) ?_ ?_
    · sl_kernel_rfl
    · rw [e0, e1, e3, eA, eB]

/-- A later point on the run. -/
theorem pointB (t : Fin cfg0.N) (h : t.val ≠ 0) : outsAt0 (F := Ideal) m c t.val t.isLt =
    (k0_pay9 (k0_pay5 (iblk m c 4 t)) (k0_pay6 (iblk m c 4 t)) (k0_pay7 (iblk m c 3 t) (iblk m c 0 t) (View.ld (iblk m c 2 t) partA) (iblk m c 1 t) (View.ld (iblk m c 2 t) partB) (iblk m c 5 t)) (k0_pay8 (iblk m c 3 t) (iblk m c 0 t) (View.ld (iblk m c 2 t) partA) (iblk m c 1 t) (View.ld (iblk m c 2 t) partB) (iblk m c 5 t)),
     k0_pay10 (k0_pay5 (iblk m c 4 t)) (k0_pay6 (iblk m c 4 t)) (k0_pay7 (iblk m c 3 t) (iblk m c 0 t) (View.ld (iblk m c 2 t) partA) (iblk m c 1 t) (View.ld (iblk m c 2 t) partB) (iblk m c 5 t)) (k0_pay8 (iblk m c 3 t) (iblk m c 0 t) (View.ld (iblk m c 2 t) partA) (iblk m c 1 t) (View.ld (iblk m c 2 t) partB) (iblk m c 5 t)),
     k0_pay13 (k0_pay1 (F := Ideal)) (k0_pay3 (iblk m c 3 t) (iblk m c 0 t) (View.ld (iblk m c 2 t) partA) (iblk m c 1 t) (View.ld (iblk m c 2 t) partB)) (k0_pay6 (iblk m c 4 t)) (outsAt0 (F := Ideal) m c (t.val - 1) (Nat.lt_of_le_of_lt (Nat.sub_le _ _) t.isLt)).2.2.1,
     k0_pay14 (k0_pay2 (F := Ideal)) (k0_pay3 (iblk m c 3 t) (iblk m c 0 t) (View.ld (iblk m c 2 t) partA) (iblk m c 1 t) (View.ld (iblk m c 2 t) partB)) (outsAt0 (F := Ideal) m c (t.val - 1) (Nat.lt_of_le_of_lt (Nat.sub_le _ _) t.isLt)).2.2.2) := by
  have hN := lt_of_lt_of_eq t.isLt (show cfg0.N = 64 from N_0)
  rw [outsAt0_B m c t (by omega) (by omega) (by omega) (by omega)]
  obtain ⟨e0, e1, e3, e4, e5, eA, eB⟩ := in_eq m c t
  refine Prod.ext ?_ (Prod.ext ?_ (Prod.ext ?_ ?_)) <;> dsimp only
  · unfold out0_B_6
    refine kept_of _ _ inb_S256x1024_S256x1024_0_0 (k0_pay9 (k0_pay5 (in4 m c t)) (k0_pay6 (in4 m c t)) (k0_pay7 (in3 m c t) (in0 m c t) (in2 m c t partA) (in1 m c t) (in2 m c t partB) (in5 m c t)) (k0_pay8 (in3 m c t) (in0 m c t) (in2 m c t partA) (in1 m c t) (in2 m c t partB) (in5 m c t))) ?_ ?_
    · sl_kernel_rfl
    · rw [e0, e1, e3, e4, e5, eA, eB]
  · unfold out0_B_7
    refine kept_of _ _ inb_S256x1024_S256x1024_0_0 (k0_pay10 (k0_pay5 (in4 m c t)) (k0_pay6 (in4 m c t)) (k0_pay7 (in3 m c t) (in0 m c t) (in2 m c t partA) (in1 m c t) (in2 m c t partB) (in5 m c t)) (k0_pay8 (in3 m c t) (in0 m c t) (in2 m c t partA) (in1 m c t) (in2 m c t partB) (in5 m c t))) ?_ ?_
    · sl_kernel_rfl
    · rw [e0, e1, e3, e4, e5, eA, eB]
  · unfold out0_B_8
    refine kept_of _ _ inb_S1x1024_S1x1024_0_0 (k0_pay13 (k0_pay1 (F := Ideal)) (k0_pay3 (in3 m c t) (in0 m c t) (in2 m c t partA) (in1 m c t) (in2 m c t partB)) (k0_pay6 (in4 m c t)) (got (hs0_8 t) inb_S1x1024_S1x1024_0_0 (prev8 m c t))) ?_ ?_
    · sl_kernel_rfl
    · rw [e0, e1, e3, e4, eA, eB, got_eq]
  · unfold out0_B_9
    refine kept_of _ _ inb_S1x1024_S1x1024_0_0 (k0_pay14 (k0_pay2 (F := Ideal)) (k0_pay3 (in3 m c t) (in0 m c t) (in2 m c t partA) (in1 m c t) (in2 m c t partB)) (got (hs0_9 t) inb_S1x1024_S1x1024_0_0 (prev9 m c t))) ?_ ?_
    · sl_kernel_rfl
    · rw [e0, e1, e3, eA, eB, got_eq]

/-- A row's gradient before the norm: the residual branch's, scaled, and the two products. -/
def grd (y : Fin 1024 → EReal) (a : Fin 2816 → EReal) (u : Fin 1024 → Fin 2816 → EReal) (b : Fin 2816 → EReal) (v : Fin 1024 → Fin 2816 → EReal) (q : Fin 1024) : EReal := sc * y q + dot a (u q) + dot b (v q)

/-- The gradient before the norm. -/
theorem pay3 (v2 : Vec Ideal S256x1024 .f32) (v5 : Vec Ideal S256x2816 .bf16) (v6 : Vec Ideal S1024x2816 .bf16) (v9 : Vec Ideal S256x2816 .bf16) (v10 : Vec Ideal S1024x2816 .bf16) (r : Fin 256) (q : Fin 1024) :
    (k0_pay3 (F := Ideal) v2 v5 v6 v9 v10 (ix2 r q) : EReal) = grd (fun k => v2 (ix2 r k)) (fun k => v5 (ix2 r k)) (fun j k => v6 (ix2 j k)) (fun k => v9 (ix2 r k)) (fun j k => v10 (ix2 j k)) q := by
  unfold k0_pay3 grd dot
  pointwise
  try rfl

/-- A row less its mean. -/
theorem pay4 (x : Vec Ideal S256x1024 .f32) (r : Fin 256) (q : Fin 1024) : (k0_pay4 (F := Ideal) x (ix2 r q) : EReal) = x (ix2 r q) - mean fun k => x (ix2 r k) := by
  unfold k0_pay4 mean
  pointwise
  try rfl

/-- The inverse root of a row's variance. -/
theorem pay5 (x : Vec Ideal S256x1024 .f32) (r : Fin 256) : (k0_pay5 (F := Ideal) x (ix2 r 0) : EReal) = rs fun k => x (ix2 r k) := by
  unfold rs var
  refine Eq.trans ?_ (congrArg (fun f => Ideal.rsqrt (mean f + eps)) (funext fun k => congrArg₂ (fun a b : EReal => a * b) (pay4 x r k) (pay4 x r k)))
  unfold k0_pay5 mean
  pointwise
  try rfl

/-- A row less its mean over its root. -/
theorem pay6 (x : Vec Ideal S256x1024 .f32) (r : Fin 256) (q : Fin 1024) : (k0_pay6 (F := Ideal) x (ix2 r q) : EReal) = xh (fun k => x (ix2 r k)) q := by
  unfold xh
  refine Eq.trans ?_ (congrArg₂ (fun a b : EReal => a * b) (pay4 x r q) (pay5 x r))
  unfold k0_pay6
  pointwise
  try rfl

/-- The norm's gradient of rows `Z` past the gain, whose sums are `z`. -/
theorem back_rows (v Z : Vec Ideal S256x1024 .f32) (z : Vec Ideal S256 .f32) (r : Fin 256) (q : Fin 1024) (d : Fin 1024 → EReal)
    (hd : ∀ k, (Z (ix2 r k) : EReal) = d k) (hz : (z (ix1 r) : EReal) = ∑ k : Fin 1024, d k) :
    (k0_pay9 (F := Ideal) (k0_pay5 v) (k0_pay6 v) Z z (ix2 r q) : EReal) = dln d (fun k => v (ix2 r k)) q := by
  have hm : mean (fun k => d k * xh (fun k => v (ix2 r k)) k) = mean fun k => (Z (ix2 r k) : EReal) * k0_pay6 (F := Ideal) v (ix2 r k) :=
    congrArg mean (funext fun k => congrArg₂ (fun a b : EReal => a * b) (hd k).symm (pay6 v r k).symm)
  unfold dln
  rw [hm, ← pay5, ← pay6, ← hd]
  unfold mean
  rw [← hz]
  unfold k0_pay9
  pointwise
  try rfl

/-- The norm's gradient. -/
theorem pay9 (v : Vec Ideal S256x1024 .f32) (v2 : Vec Ideal S256x1024 .f32) (v5 : Vec Ideal S256x2816 .bf16) (v6 : Vec Ideal S1024x2816 .bf16) (v9 : Vec Ideal S256x2816 .bf16) (v10 : Vec Ideal S1024x2816 .bf16) (g : Vec Ideal S1x1024 .f32) (r : Fin 256) (q : Fin 1024) (d : Fin 1024 → EReal)
    (hd : ∀ k, (k0_pay3 (F := Ideal) v2 v5 v6 v9 v10 (ix2 r k) : EReal) * g (ix2 0 k) = d k) :
    (k0_pay9 (F := Ideal) (k0_pay5 v) (k0_pay6 v) (k0_pay7 v2 v5 v6 v9 v10 g) (k0_pay8 v2 v5 v6 v9 v10 g) (ix2 r q) : EReal) = dln d (fun k => v (ix2 r k)) q := by
  have h7 : ∀ k, (k0_pay7 (F := Ideal) v2 v5 v6 v9 v10 g (ix2 r k) : EReal) = d k := by
    intro k
    refine Eq.trans ?_ (hd k)
    unfold k0_pay7
    pointwise
  refine back_rows v _ _ r q d h7 ?_
  refine Eq.trans ?_ (Finset.sum_congr rfl fun k _ => h7 k)
  unfold k0_pay8
  pointwise

/-- The same, narrowed. -/
theorem pay10 (a : Vec Ideal S256x1 .f32) (x : Vec Ideal S256x1024 .f32) (y : Vec Ideal S256x1024 .f32) (z : Vec Ideal S256 .f32) (r : Fin 256) (q : Fin 1024) : (k0_pay10 (F := Ideal) a x y z (ix2 r q) : EReal) = k0_pay9 (F := Ideal) a x y z (ix2 r q) := by
  unfold k0_pay10 k0_pay9
  pointwise

/-- The gain's gradient starts at zero. -/
theorem pay1 (q : Fin 1024) : (k0_pay1 (F := Ideal) (ix2 0 q) : EReal) = 0 := by
  unfold k0_pay1
  pointwise

/-- The bias's gradient starts at zero. -/
theorem pay2 (q : Fin 1024) : (k0_pay2 (F := Ideal) (ix2 0 q) : EReal) = 0 := by
  unfold k0_pay2
  pointwise

/-- Rows added to the gain's gradient. -/
theorem pay11 (o : Vec Ideal S1x1024 .f32) (x y : Vec Ideal S256x1024 .f32) (q : Fin 1024) : (k0_pay11 (F := Ideal) o x y (ix2 0 q) : EReal) = o (ix2 0 q) + ∑ r : Fin 256, x (ix2 r q) * y (ix2 r q) := by
  unfold k0_pay11
  pointwise

/-- Rows added to the bias's gradient. -/
theorem pay12 (o : Vec Ideal S1x1024 .f32) (x : Vec Ideal S256x1024 .f32) (q : Fin 1024) : (k0_pay12 (F := Ideal) o x (ix2 0 q) : EReal) = o (ix2 0 q) + ∑ r : Fin 256, x (ix2 r q) := by
  unfold k0_pay12
  pointwise

/-- A point's rows added to what was kept of the gain's gradient. -/
theorem pay13 (o : Vec Ideal S1x1024 .f32) (x y : Vec Ideal S256x1024 .f32) (k : Vec Ideal S1x1024 .f32) (q : Fin 1024) : (k0_pay13 (F := Ideal) o x y k (ix2 0 q) : EReal) = k (ix2 0 q) + (o (ix2 0 q) + ∑ r : Fin 256, x (ix2 r q) * y (ix2 r q)) := by
  rw [← pay11]
  unfold k0_pay13
  pointwise

/-- A point's rows added to what was kept of the bias's gradient. -/
theorem pay14 (o : Vec Ideal S1x1024 .f32) (x : Vec Ideal S256x1024 .f32) (k : Vec Ideal S1x1024 .f32) (q : Fin 1024) : (k0_pay14 (F := Ideal) o x k (ix2 0 q) : EReal) = k (ix2 0 q) + (o (ix2 0 q) + ∑ r : Fin 256, x (ix2 r q)) := by
  rw [← pay12]
  unfold k0_pay14
  pointwise

/-- The gate's gradient as launched. -/
abbrev A0 : (⟨S16384x2816, .bf16⟩ : BufTy).Contents (Elt Ideal) := m ((c : Thread nD τ).loc main_arg0)

/-- The up projection's gradient as launched. -/
abbrev A1 : (⟨S16384x2816, .bf16⟩ : BufTy).Contents (Elt Ideal) := m ((c : Thread nD τ).loc main_arg1)

/-- The weight as launched. -/
abbrev Wt : (⟨S1024x5632, .bf16⟩ : BufTy).Contents (Elt Ideal) := m ((c : Thread nD τ).loc main_arg2)

/-- The residual branch's gradient as launched. -/
abbrev Dy : (⟨S16384x1024, .f32⟩ : BufTy).Contents (Elt Ideal) := m ((c : Thread nD τ).loc main_arg3)

/-- The norm's input as launched. -/
abbrev Pre : (⟨S16384x1024, .f32⟩ : BufTy).Contents (Elt Ideal) := m ((c : Thread nD τ).loc main_arg4)

/-- The norm's gain as launched. -/
abbrev Gn : (⟨S1x1024, .f32⟩ : BufTy).Contents (Elt Ideal) := m ((c : Thread nD τ).loc main_arg5)

/-- The block of argument 0 at a point. -/
theorem idx0 : ∀ t : Fin cfg0.N, win0_0.index t (0 : Fin 2) = t.val ∧ win0_0.index t (1 : Fin 2) = 0 := (by decide +kernel : ∀ t : Fin grid0.N, _)

/-- An entry of the block of argument 0. -/
theorem blk0 (t : Fin cfg0.N) (r : Fin 256) (k : Fin 2816) (a : Fin 16384) (ha : 256 * t.val + r.val = a.val) : (iblk m c 0 t (ix2 r k) : EReal) = A0 m c (ix2 a k) := by
  show V m c main_arg0 (((cfg0.win 0).blk t).view.emb (ix2 r k)) = _
  rw [V_main_arg0]
  obtain ⟨e0, e1⟩ := idx0 t
  refine congrArg (A0 m c) (funext fun b => Fin.ext ?_)
  match b with
  | ⟨0, _⟩ => show win0_0.index t (0 : Fin 2) * 256 + 1 * r.val = a.val; omega
  | ⟨1, _⟩ => show win0_0.index t (1 : Fin 2) * 2816 + 1 * k.val = k.val; omega

/-- The block of argument 1 at a point. -/
theorem idx1 : ∀ t : Fin cfg0.N, win0_1.index t (0 : Fin 2) = t.val ∧ win0_1.index t (1 : Fin 2) = 0 := (by decide +kernel : ∀ t : Fin grid0.N, _)

/-- An entry of the block of argument 1. -/
theorem blk1 (t : Fin cfg0.N) (r : Fin 256) (k : Fin 2816) (a : Fin 16384) (ha : 256 * t.val + r.val = a.val) : (iblk m c 1 t (ix2 r k) : EReal) = A1 m c (ix2 a k) := by
  show V m c main_arg1 (((cfg0.win 1).blk t).view.emb (ix2 r k)) = _
  rw [V_main_arg1]
  obtain ⟨e0, e1⟩ := idx1 t
  refine congrArg (A1 m c) (funext fun b => Fin.ext ?_)
  match b with
  | ⟨0, _⟩ => show win0_1.index t (0 : Fin 2) * 256 + 1 * r.val = a.val; omega
  | ⟨1, _⟩ => show win0_1.index t (1 : Fin 2) * 2816 + 1 * k.val = k.val; omega

/-- The block of argument 2 at a point. -/
theorem idx2 : ∀ t : Fin cfg0.N, win0_2.index t (0 : Fin 2) = 0 ∧ win0_2.index t (1 : Fin 2) = 0 := (by decide +kernel : ∀ t : Fin grid0.N, _)

/-- Every point holds the whole of argument 2. -/
theorem blk2 (t : Fin cfg0.N) (q : Fin 1024) (k : Fin 5632) : (iblk m c 2 t (ix2 q k) : EReal) = Wt m c (ix2 q k) := by
  show V m c main_arg2 (((cfg0.win 2).blk t).view.emb (ix2 q k)) = _
  rw [V_main_arg2]
  obtain ⟨e0, e1⟩ := idx2 t
  refine congrArg (Wt m c) (funext fun b => Fin.ext ?_)
  match b with
  | ⟨0, _⟩ => show win0_2.index t (0 : Fin 2) * 1024 + 1 * q.val = q.val; omega
  | ⟨1, _⟩ => show win0_2.index t (1 : Fin 2) * 5632 + 1 * k.val = k.val; omega

/-- The block of argument 3 at a point. -/
theorem idx3 : ∀ t : Fin cfg0.N, win0_3.index t (0 : Fin 2) = t.val ∧ win0_3.index t (1 : Fin 2) = 0 := (by decide +kernel : ∀ t : Fin grid0.N, _)

/-- An entry of the block of argument 3. -/
theorem blk3 (t : Fin cfg0.N) (r : Fin 256) (k : Fin 1024) (a : Fin 16384) (ha : 256 * t.val + r.val = a.val) : (iblk m c 3 t (ix2 r k) : EReal) = Dy m c (ix2 a k) := by
  show V m c main_arg3 (((cfg0.win 3).blk t).view.emb (ix2 r k)) = _
  rw [V_main_arg3]
  obtain ⟨e0, e1⟩ := idx3 t
  refine congrArg (Dy m c) (funext fun b => Fin.ext ?_)
  match b with
  | ⟨0, _⟩ => show win0_3.index t (0 : Fin 2) * 256 + 1 * r.val = a.val; omega
  | ⟨1, _⟩ => show win0_3.index t (1 : Fin 2) * 1024 + 1 * k.val = k.val; omega

/-- The block of argument 4 at a point. -/
theorem idx4 : ∀ t : Fin cfg0.N, win0_4.index t (0 : Fin 2) = t.val ∧ win0_4.index t (1 : Fin 2) = 0 := (by decide +kernel : ∀ t : Fin grid0.N, _)

/-- An entry of the block of argument 4. -/
theorem blk4 (t : Fin cfg0.N) (r : Fin 256) (k : Fin 1024) (a : Fin 16384) (ha : 256 * t.val + r.val = a.val) : (iblk m c 4 t (ix2 r k) : EReal) = Pre m c (ix2 a k) := by
  show V m c main_arg4 (((cfg0.win 4).blk t).view.emb (ix2 r k)) = _
  rw [V_main_arg4]
  obtain ⟨e0, e1⟩ := idx4 t
  refine congrArg (Pre m c) (funext fun b => Fin.ext ?_)
  match b with
  | ⟨0, _⟩ => show win0_4.index t (0 : Fin 2) * 256 + 1 * r.val = a.val; omega
  | ⟨1, _⟩ => show win0_4.index t (1 : Fin 2) * 1024 + 1 * k.val = k.val; omega

/-- The block of argument 5 at a point. -/
theorem idx5 : ∀ t : Fin cfg0.N, win0_5.index t (0 : Fin 2) = 0 ∧ win0_5.index t (1 : Fin 2) = 0 := (by decide +kernel : ∀ t : Fin grid0.N, _)

/-- Every point holds the whole of argument 5. -/
theorem blk5 (t : Fin cfg0.N) (q : Fin 1) (k : Fin 1024) : (iblk m c 5 t (ix2 q k) : EReal) = Gn m c (ix2 q k) := by
  show V m c main_arg5 (((cfg0.win 5).blk t).view.emb (ix2 q k)) = _
  rw [V_main_arg5]
  obtain ⟨e0, e1⟩ := idx5 t
  refine congrArg (Gn m c) (funext fun b => Fin.ext ?_)
  match b with
  | ⟨0, _⟩ => show win0_5.index t (0 : Fin 2) * 1 + 1 * q.val = q.val; omega
  | ⟨1, _⟩ => show win0_5.index t (1 : Fin 2) * 1024 + 1 * k.val = k.val; omega

/-- A row's gradient before the norm. -/
def up (a : Fin 16384) (q : Fin 1024) : EReal :=
  grd (fun k => Dy m c (ix2 a k)) (fun k => A0 m c (ix2 a k)) (fun j k => Wt m c (ix2 j ⟨k.val, by omega⟩)) (fun k => A1 m c (ix2 a k)) (fun j k => Wt m c (ix2 j ⟨2816 + k.val, by omega⟩)) q

/-- A row of the norm's input, normalised. -/
def nrm (a : Fin 16384) (q : Fin 1024) : EReal := xh (fun k => Pre m c (ix2 a k)) q

/-- A row's gradient after the norm. -/
def down (a : Fin 16384) (q : Fin 1024) : EReal := dln (fun k => up m c a k * Gn m c (ix2 0 k)) (fun k => Pre m c (ix2 a k)) q

/-- A point's gradients before the norm are its rows'. -/
theorem up_at (t : Fin cfg0.N) (r : Fin 256) (a : Fin 16384) (ha : 256 * t.val + r.val = a.val) (q : Fin 1024) :
    (k0_pay3 (F := Ideal) (iblk m c 3 t) (iblk m c 0 t) (View.ld (iblk m c 2 t) partA) (iblk m c 1 t) (View.ld (iblk m c 2 t) partB) (ix2 r q) : EReal) = up m c a q := by
  refine (pay3 _ _ _ _ _ r q).trans ?_
  have e0 : (fun k : Fin 1024 => (iblk m c 3 t (ix2 r k) : EReal)) = fun k => Dy m c (ix2 a k) := funext fun k => blk3 m c t r k a ha
  have e1 : (fun k : Fin 2816 => (iblk m c 0 t (ix2 r k) : EReal)) = fun k => A0 m c (ix2 a k) := funext fun k => blk0 m c t r k a ha
  have e2 : (fun k : Fin 2816 => (iblk m c 1 t (ix2 r k) : EReal)) = fun k => A1 m c (ix2 a k) := funext fun k => blk1 m c t r k a ha
  have e3 : (fun (j : Fin 1024) (k : Fin 2816) => (View.ld (iblk m c 2 t) partA (ix2 j k) : EReal)) = fun j k => Wt m c (ix2 j ⟨k.val, by omega⟩) :=
    funext fun j => funext fun k => (ld_at j ⟨k.val, by omega⟩ (by omega) (by show _ = k.val; omega)).trans (blk2 m c t _ _)
  have e4 : (fun (j : Fin 1024) (k : Fin 2816) => (View.ld (iblk m c 2 t) partB (ix2 j k) : EReal)) = fun j k => Wt m c (ix2 j ⟨2816 + k.val, by omega⟩) :=
    funext fun j => funext fun k => (ld_at j ⟨2816 + k.val, by omega⟩ (by omega) (by show _ = 2816 + k.val; omega)).trans (blk2 m c t _ _)
  unfold up
  rw [← e0, ← e1, ← e2, ← e3, ← e4]

/-- A point's normalised rows. -/
theorem nrm_at (t : Fin cfg0.N) (r : Fin 256) (a : Fin 16384) (ha : 256 * t.val + r.val = a.val) (q : Fin 1024) : (k0_pay6 (F := Ideal) (iblk m c 4 t) (ix2 r q) : EReal) = nrm m c a q := by
  refine (pay6 _ r q).trans ?_
  have e0 : (fun k : Fin 1024 => (iblk m c 4 t (ix2 r k) : EReal)) = fun k => Pre m c (ix2 a k) := funext fun k => blk4 m c t r k a ha
  unfold nrm
  rw [← e0]

/-- A point's gradients after the norm are its rows'. -/
theorem down_at (t : Fin cfg0.N) (r : Fin 256) (a : Fin 16384) (ha : 256 * t.val + r.val = a.val) (q : Fin 1024) :
    (k0_pay9 (F := Ideal) (k0_pay5 (iblk m c 4 t)) (k0_pay6 (iblk m c 4 t)) (k0_pay7 (iblk m c 3 t) (iblk m c 0 t) (View.ld (iblk m c 2 t) partA) (iblk m c 1 t) (View.ld (iblk m c 2 t) partB) (iblk m c 5 t)) (k0_pay8 (iblk m c 3 t) (iblk m c 0 t) (View.ld (iblk m c 2 t) partA) (iblk m c 1 t) (View.ld (iblk m c 2 t) partB) (iblk m c 5 t)) (ix2 r q) : EReal) = down m c a q := by
  refine (pay9 _ _ _ _ _ _ _ r q (fun k => up m c a k * Gn m c (ix2 0 k)) fun k => congrArg₂ (fun x y : EReal => x * y) (up_at m c t r a ha k) (blk5 m c t 0 k)).trans ?_
  have e0 : (fun k : Fin 1024 => (iblk m c 4 t (ix2 r k) : EReal)) = fun k => Pre m c (ix2 a k) := funext fun k => blk4 m c t r k a ha
  unfold down
  rw [← e0]

/-- What every point leaves of the gradient. -/
theorem leave6 (t : Fin cfg0.N) (r : Fin 256) (a : Fin 16384) (ha : 256 * t.val + r.val = a.val) (q : Fin 1024) : ((outsAt0 (F := Ideal) m c t.val t.isLt).1 (ix2 r q) : EReal) = down m c a q := by
  by_cases h : t.val = 0
  · rw [pointA m c t h]
    exact down_at m c t r a ha q
  · rw [pointB m c t h]
    exact down_at m c t r a ha q

/-- What every point leaves of the narrowed gradient. -/
theorem leave7 (t : Fin cfg0.N) (r : Fin 256) (a : Fin 16384) (ha : 256 * t.val + r.val = a.val) (q : Fin 1024) : ((outsAt0 (F := Ideal) m c t.val t.isLt).2.1 (ix2 r q) : EReal) = down m c a q := by
  by_cases h : t.val = 0
  · rw [pointA m c t h]
    exact (pay10 _ _ _ _ r q).trans (down_at m c t r a ha q)
  · rw [pointB m c t h]
    exact (pay10 _ _ _ _ r q).trans (down_at m c t r a ha q)

/-- The row of a point's block. -/
theorem row_at (t : Fin cfg0.N) (r : Fin 256) : 256 * t.val + r.val = (row (256 * t.val + r.val)).val := by
  have hN := lt_of_lt_of_eq t.isLt (show cfg0.N = 64 from N_0)
  have hr := r.isLt
  show _ = (256 * t.val + r.val) % 16384
  omega

/-- A point's rows of the gain's gradient, onto zero. -/
theorem rows8 (t : Fin cfg0.N) (q : Fin 1024) {o : EReal} (ho : o = 0) {x y : Vec Ideal S256x1024 .f32} (hx : ∀ (r : Fin 256) a, 256 * t.val + r.val = a.val → (x (ix2 r q) : EReal) = up m c a q) (hy : ∀ (r : Fin 256) a, 256 * t.val + r.val = a.val → (y (ix2 r q) : EReal) = nrm m c a q) :
    o + ∑ r : Fin 256, (fun x y : EReal => x * y) (x (ix2 r q)) (y (ix2 r q)) = ∑ r : Fin 256, (fun a => up m c a q * nrm m c a q) (row (256 * t.val + r.val)) := by
  rw [ho, zero_add]
  exact Finset.sum_congr rfl fun r _ => congrArg₂ (fun x y : EReal => x * y) (hx r _ (row_at t r)) (hy r _ (row_at t r))

/-- A point's rows of the bias's gradient, onto zero. -/
theorem rows9 (t : Fin cfg0.N) (q : Fin 1024) {o : EReal} (ho : o = 0) {x : Vec Ideal S256x1024 .f32} (hx : ∀ (r : Fin 256) a, 256 * t.val + r.val = a.val → (x (ix2 r q) : EReal) = up m c a q) :
    o + ∑ r : Fin 256, (x (ix2 r q) : EReal) = ∑ r : Fin 256, (fun a => up m c a q) (row (256 * t.val + r.val)) := by
  rw [ho, zero_add]
  exact Finset.sum_congr rfl fun r _ => hx r _ (row_at t r)

/-- Every point leaves the sum of the gain's gradient over the rows up to its own. -/
theorem kept8 (q : Fin 1024) : ∀ (n : ℕ) (hn : n < cfg0.N), ((outsAt0 (F := Ideal) m c n hn).2.2.1 (ix2 0 q) : EReal) = firstOf 256 (fun a => up m c a q * nrm m c a q) (n + 1)
  | 0, hn => by
    rw [pointA m c ⟨0, hn⟩ rfl, firstOf_one]
    exact (pay11 _ _ _ q).trans (rows8 m c ⟨0, hn⟩ q (pay1 q) (fun r a h => up_at m c ⟨0, hn⟩ r a h q) fun r a h => nrm_at m c ⟨0, hn⟩ r a h q)
  | n + 1, hn => by
    rw [pointB m c ⟨n + 1, hn⟩ (Nat.succ_ne_zero n), firstOf_succ, ← kept8 q n (Nat.lt_of_succ_lt hn)]
    exact (pay13 _ _ _ _ q).trans (congrArg (_ + ·) (rows8 m c ⟨n + 1, hn⟩ q (pay1 q) (fun r a h => up_at m c ⟨n + 1, hn⟩ r a h q) fun r a h => nrm_at m c ⟨n + 1, hn⟩ r a h q))

/-- Every point leaves the sum of the bias's gradient over the rows up to its own. -/
theorem kept9 (q : Fin 1024) : ∀ (n : ℕ) (hn : n < cfg0.N), ((outsAt0 (F := Ideal) m c n hn).2.2.2 (ix2 0 q) : EReal) = firstOf 256 (fun a => up m c a q) (n + 1)
  | 0, hn => by
    rw [pointA m c ⟨0, hn⟩ rfl, firstOf_one]
    exact (pay12 _ _ q).trans (rows9 m c ⟨0, hn⟩ q (pay2 q) fun r a h => up_at m c ⟨0, hn⟩ r a h q)
  | n + 1, hn => by
    rw [pointB m c ⟨n + 1, hn⟩ (Nat.succ_ne_zero n), firstOf_succ, ← kept9 q n (Nat.lt_of_succ_lt hn)]
    exact (pay14 _ _ _ q).trans (congrArg (_ + ·) (rows9 m c ⟨n + 1, hn⟩ q (pay2 q) fun r a h => up_at m c ⟨n + 1, hn⟩ r a h q))

/-- The block of the gradient at a point. -/
theorem idx6 : ∀ t : Fin cfg0.N, win0_6.index t (0 : Fin 2) = t.val ∧ win0_6.index t (1 : Fin 2) = 0 := (by decide +kernel : ∀ t : Fin grid0.N, _)

/-- Every point writes its block back. -/
theorem flush6 : ∀ t : Fin cfg0.N, (cfg0.win 6).flush t = true := (by decide +kernel : ∀ t : Fin grid0.N, _)

/-- What the run leaves in the gradient. -/
theorem arr6 (a : Fin 16384) (b : Fin 1024) : ((dats m 0 c).arrAt 6 cfg0.N (ix2 a b) : EReal) = down m c a b := by
  have ht : a.val / 256 < cfg0.N := lt_of_lt_of_eq (by omega) (show 64 = cfg0.N from N_0.symm)
  let t : Fin cfg0.N := ⟨a.val / 256, ht⟩
  let p : Fin 256 := ⟨a.val % 256, Nat.mod_lt _ (by decide)⟩
  have hr : 256 * t.val + p.val = a.val := Nat.div_add_mod a.val 256
  have h : (dats m 0 c).arrAt 6 cfg0.N (((cfg0.win 6).blk t).view.emb (ix2 p b)) = (outsAt0 (F := Ideal) m c t.val t.isLt).1 (ix2 p b) :=
    (congrFun (blocks6 m c t (flush6 t)) (ix2 p b)).trans (congrFun (flushed6 m c t) (ix2 p b))
  obtain ⟨e0, e1⟩ := idx6 t
  have hi : ((cfg0.win 6).blk t).view.emb (ix2 p b) = ix2 a b := by
    refine funext fun d => Fin.ext ?_
    match d with
    | ⟨0, _⟩ => show win0_6.index t (0 : Fin 2) * 256 + 1 * p.val = a.val; omega
    | ⟨1, _⟩ => show win0_6.index t (1 : Fin 2) * 1024 + 1 * b.val = b.val; omega
  rw [hi] at h
  exact h.trans (leave6 m c t p a hr b)

/-- The block of the narrowed gradient at a point. -/
theorem idx7 : ∀ t : Fin cfg0.N, win0_7.index t (0 : Fin 2) = t.val ∧ win0_7.index t (1 : Fin 2) = 0 := (by decide +kernel : ∀ t : Fin grid0.N, _)

/-- Every point writes its block back. -/
theorem flush7 : ∀ t : Fin cfg0.N, (cfg0.win 7).flush t = true := (by decide +kernel : ∀ t : Fin grid0.N, _)

/-- What the run leaves in the narrowed gradient. -/
theorem arr7 (a : Fin 16384) (b : Fin 1024) : ((dats m 0 c).arrAt 7 cfg0.N (ix2 a b) : EReal) = down m c a b := by
  have ht : a.val / 256 < cfg0.N := lt_of_lt_of_eq (by omega) (show 64 = cfg0.N from N_0.symm)
  let t : Fin cfg0.N := ⟨a.val / 256, ht⟩
  let p : Fin 256 := ⟨a.val % 256, Nat.mod_lt _ (by decide)⟩
  have hr : 256 * t.val + p.val = a.val := Nat.div_add_mod a.val 256
  have h : (dats m 0 c).arrAt 7 cfg0.N (((cfg0.win 7).blk t).view.emb (ix2 p b)) = (outsAt0 (F := Ideal) m c t.val t.isLt).2.1 (ix2 p b) :=
    (congrFun (blocks7 m c t (flush7 t)) (ix2 p b)).trans (congrFun (flushed7 m c t) (ix2 p b))
  obtain ⟨e0, e1⟩ := idx7 t
  have hi : ((cfg0.win 7).blk t).view.emb (ix2 p b) = ix2 a b := by
    refine funext fun d => Fin.ext ?_
    match d with
    | ⟨0, _⟩ => show win0_7.index t (0 : Fin 2) * 256 + 1 * p.val = a.val; omega
    | ⟨1, _⟩ => show win0_7.index t (1 : Fin 2) * 1024 + 1 * b.val = b.val; omega
  rw [hi] at h
  exact h.trans (leave7 m c t p a hr b)

/-- The last point. -/
theorem last_lt : 63 < cfg0.N := lt_of_lt_of_eq (by omega) (show 64 = cfg0.N from N_0.symm)

/-- The last point writes the whole of the gain's gradient, alone. -/
theorem once8 : (cfg0.win 8).WholeAt ⟨63, last_lt⟩ := by decide +kernel

/-- The gain's gradient is what the last point leaves of it. -/
theorem last8 (t : Fin cfg0.N) (h : (cfg0.win 8).WholeAt t) (b : Fin 1024) :
    ((dats m 0 c).arrAt 8 cfg0.N (ix2 0 b) : EReal) = (outsAt0 (F := Ideal) m c t.val t.isLt).2.2.1 (ix2 0 b) := by
  have e := (dats m 0 c).arrAt_emb_eq_after_last 8 t h (ix2 0 b)
  rw [after0_8] at e
  have hi : (cfg0.win 8).arr.view.emb (ix2 0 b) = ix2 0 b := funext fun d => Fin.ext (by match d with | ⟨0, _⟩ => rfl | ⟨1, _⟩ => rfl)
  have hj : (fun a => ⟨(ix2 0 b : S1x1024.Idx) a, h.lt_size (ix2 0 b) a⟩ : S1x1024.Idx) = ix2 0 b := funext fun d => Fin.ext (by match d with | ⟨0, _⟩ => rfl | ⟨1, _⟩ => rfl)
  rw [hi] at e
  refine e.trans ((cast_eq _ _).trans ?_)
  exact congrArg (outsAt0 (F := Ideal) m c t.val t.isLt).2.2.1 hj

/-- What the last point leaves of it is the sum over all rows. -/
theorem total8 (t : Fin cfg0.N) (h : (cfg0.win 8).WholeAt t) (ht : t.val + 1 = 64) (b : Fin 1024) :
    ((dats m 0 c).arrAt 8 cfg0.N (ix2 0 b) : EReal) = ∑ a : Fin 16384, up m c a b * nrm m c a b := by
  rw [last8 m c t h b, kept8 m c b t.val t.isLt, ht, firstOf_all 256 64 rfl]

/-- What the run leaves in the gain's gradient. -/
theorem arr8 (b : Fin 1024) : ((dats m 0 c).arrAt 8 cfg0.N (ix2 0 b) : EReal) = ∑ a : Fin 16384, up m c a b * nrm m c a b :=
  total8 m c ⟨63, last_lt⟩ once8 rfl b

/-- The last point writes the whole of the bias's gradient, alone. -/
theorem once9 : (cfg0.win 9).WholeAt ⟨63, last_lt⟩ := by decide +kernel

/-- The bias's gradient is what the last point leaves of it. -/
theorem last9 (t : Fin cfg0.N) (h : (cfg0.win 9).WholeAt t) (b : Fin 1024) :
    ((dats m 0 c).arrAt 9 cfg0.N (ix2 0 b) : EReal) = (outsAt0 (F := Ideal) m c t.val t.isLt).2.2.2 (ix2 0 b) := by
  have e := (dats m 0 c).arrAt_emb_eq_after_last 9 t h (ix2 0 b)
  rw [after0_9] at e
  have hi : (cfg0.win 9).arr.view.emb (ix2 0 b) = ix2 0 b := funext fun d => Fin.ext (by match d with | ⟨0, _⟩ => rfl | ⟨1, _⟩ => rfl)
  have hj : (fun a => ⟨(ix2 0 b : S1x1024.Idx) a, h.lt_size (ix2 0 b) a⟩ : S1x1024.Idx) = ix2 0 b := funext fun d => Fin.ext (by match d with | ⟨0, _⟩ => rfl | ⟨1, _⟩ => rfl)
  rw [hi] at e
  refine e.trans ((cast_eq _ _).trans ?_)
  exact congrArg (outsAt0 (F := Ideal) m c t.val t.isLt).2.2.2 hj

/-- What the last point leaves of it is the sum over all rows. -/
theorem total9 (t : Fin cfg0.N) (h : (cfg0.win 9).WholeAt t) (ht : t.val + 1 = 64) (b : Fin 1024) :
    ((dats m 0 c).arrAt 9 cfg0.N (ix2 0 b) : EReal) = ∑ a : Fin 16384, up m c a b := by
  rw [last9 m c t h b, kept9 m c b t.val t.isLt, ht, firstOf_all 256 64 rfl]

/-- What the run leaves in the bias's gradient. -/
theorem arr9 (b : Fin 1024) : ((dats m 0 c).arrAt 9 cfg0.N (ix2 0 b) : EReal) = ∑ a : Fin 16384, up m c a b :=
  total9 m c ⟨63, last_lt⟩ once9 rfl b

end Cert.Kernel18Ideal.Fx

end
-- ==== Proof.PleLnBwd.lean ====
module

public import proofs.«01_k».proof.Proof.FfnBwdXLn
public import proofs.«01_k».proof.Proof.Gen.Kernel17Ideal.Value

@[expose] public section

/-! The gradient of the layer embedding at `Kernel17Ideal`, through its gate and the norm: every point computes its 512 rows' gradients in closed form,
in two halves of 256 rows, and adds its rows to the gain's and the bias's gradients that the points before it left. -/

set_option maxRecDepth 16384

noncomputable section

namespace Cert.Kernel17Ideal.Pb

open Idealize.ShloMosaic Idealize.ShloMosaic.Tactic Idealize.ShloMosaic.TcCoe Cert.Kernel17Ideal.Gen Cert.Kernel17Ideal.Value Idealize.ShloMosaic.Pointwise Cert.Rows Cert.Stores Cert.Norm Cert.Halves

variable (m : (l : Loc nD τ sig) → Buf (Elt Ideal) l) (c : Dev nD)

/-- That 256 rows from `o` on lie in a block. -/
abbrev Fits (o : ℕ) : Prop := (∀ a, (![o, 0] : Fin 2 → ℕ) a + S256x1024.size a ≤ S512x1024.size a) ∧ ∀ a, (![o, 0] : Fin 2 → ℕ) a + S256x256.size a ≤ S512x256.size a

/-- The first half lies in it. -/
theorem fits0 : Fits 0 := ⟨inb_S512x1024_S256x1024_0_0, inb_S512x256_S256x256_0_0⟩

/-- The second half lies in it. -/
theorem fits1 : Fits 256 := ⟨inb_S512x1024_S256x1024_256_0, inb_S512x256_S256x256_256_0⟩

/-- 256 rows of a block. -/
abbrev wide {o : ℕ} (h : Fits o) : Rect S512x1024 := Rect.unit (s := S512x1024) ![o, 0] S256x1024.size h.1

/-- 256 rows of a block of the embedding. -/
abbrev slim {o : ℕ} (h : Fits o) : Rect S512x256 := Rect.unit (s := S512x256) ![o, 0] S256x256.size h.2

/-- The incoming gradient as launched. -/
abbrev Dx : (⟨S16384x1024, .f32⟩ : BufTy).Contents (Elt Ideal) := m ((c : Thread nD τ).loc main_arg0)

/-- The gate's input as launched. -/
abbrev Xb : (⟨S16384x1024, .bf16⟩ : BufTy).Contents (Elt Ideal) := m ((c : Thread nD τ).loc main_arg1)

/-- The embedding as launched. -/
abbrev Pe : (⟨S16384x256, .f32⟩ : BufTy).Contents (Elt Ideal) := m ((c : Thread nD τ).loc main_arg2)

/-- The gate's weight as launched. -/
abbrev Wg : (⟨S1024x1024, .bf16⟩ : BufTy).Contents (Elt Ideal) := m ((c : Thread nD τ).loc main_arg3)

/-- The embedding's weight as launched. -/
abbrev Wp : (⟨S256x1024, .bf16⟩ : BufTy).Contents (Elt Ideal) := m ((c : Thread nD τ).loc main_arg4)

/-- The norm's input as launched. -/
abbrev Pre : (⟨S16384x1024, .f32⟩ : BufTy).Contents (Elt Ideal) := m ((c : Thread nD τ).loc main_arg5)

/-- The norm's gain as launched. -/
abbrev Gn : (⟨S1x1024, .f32⟩ : BufTy).Contents (Elt Ideal) := m ((c : Thread nD τ).loc main_arg6)

/-- A half's load of the incoming gradient. -/
abbrev in0 (t : Fin cfg0.N) {o : ℕ} (h : Fits o) : Vec Ideal S256x1024 .f32 := part (hs0_0 t) (iblk m c 0 t) (wide h)

/-- A half's load of the gate's input. -/
abbrev in1 (t : Fin cfg0.N) {o : ℕ} (h : Fits o) : Vec Ideal S256x1024 .bf16 := part (hs0_1 t) (iblk m c 1 t) (wide h)

/-- A half's load of the embedding. -/
abbrev in2 (t : Fin cfg0.N) {o : ℕ} (h : Fits o) : Vec Ideal S256x256 .f32 := part (hs0_2 t) (iblk m c 2 t) (slim h)

/-- A point's load of the gate's weight. -/
abbrev in3 (t : Fin cfg0.N) : Vec Ideal S1024x1024 .bf16 := got (hs0_3 t) inb_S1024x1024_S1024x1024_0_0 (iblk m c 3 t)

/-- A point's load of the embedding's weight. -/
abbrev in4 (t : Fin cfg0.N) : Vec Ideal S256x1024 .bf16 := got (hs0_4 t) inb_S256x1024_S256x1024_0_0 (iblk m c 4 t)

/-- A half's load of the norm's input. -/
abbrev in5 (t : Fin cfg0.N) {o : ℕ} (h : Fits o) : Vec Ideal S256x1024 .f32 := part (hs0_5 t) (iblk m c 5 t) (wide h)

/-- A point's load of the norm's gain. -/
abbrev in6 (t : Fin cfg0.N) : Vec Ideal S1x1024 .f32 := got (hs0_6 t) inb_S1x1024_S1x1024_0_0 (iblk m c 6 t)

/-- The block of argument 0 at a point. -/
theorem idx0 : ∀ t : Fin cfg0.N, win0_0.index t (0 : Fin 2) = t.val ∧ win0_0.index t (1 : Fin 2) = 0 := (by decide +kernel : ∀ t : Fin grid0.N, _)

/-- An entry of a half's load of it. -/
theorem ld0 (t : Fin cfg0.N) {o : ℕ} (h : Fits o) (r : Fin 256) (k : Fin 1024) (a : Fin 16384) (ha : 512 * t.val + (o + r.val) = a.val) : (in0 m c t h (ix2 r k) : EReal) = Dx m c (ix2 a k) := by
  have hr := r.isLt
  have ho : o + 256 ≤ 512 := h.1 0
  refine (congrFun (part_load (hs0_0 t) (iblk m c 0 t) (wide h)) (ix2 r k)).trans ?_
  refine (ld_at (⟨o + r.val, by omega⟩ : Fin 512) k rfl (Nat.zero_add _)).trans ?_
  show V m c main_arg0 (((cfg0.win 0).blk t).view.emb (ix2 (⟨o + r.val, by omega⟩ : Fin 512) k)) = _
  rw [V_main_arg0]
  obtain ⟨e0, e1⟩ := idx0 t
  refine congrArg (Dx m c) (funext fun b => Fin.ext ?_)
  match b with
  | ⟨0, _⟩ => show win0_0.index t (0 : Fin 2) * 512 + 1 * (o + r.val) = a.val; omega
  | ⟨1, _⟩ => show win0_0.index t (1 : Fin 2) * 1024 + 1 * k.val = k.val; omega

/-- The block of argument 1 at a point. -/
theorem idx1 : ∀ t : Fin cfg0.N, win0_1.index t (0 : Fin 2) = t.val ∧ win0_1.index t (1 : Fin 2) = 0 := (by decide +kernel : ∀ t : Fin grid0.N, _)

/-- An entry of a half's load of it. -/
theorem ld1 (t : Fin cfg0.N) {o : ℕ} (h : Fits o) (r : Fin 256) (k : Fin 1024) (a : Fin 16384) (ha : 512 * t.val + (o + r.val) = a.val) : (in1 m c t h (ix2 r k) : EReal) = Xb m c (ix2 a k) := by
  have hr := r.isLt
  have ho : o + 256 ≤ 512 := h.1 0
  refine (congrFun (part_load (hs0_1 t) (iblk m c 1 t) (wide h)) (ix2 r k)).trans ?_
  refine (ld_at (⟨o + r.val, by omega⟩ : Fin 512) k rfl (Nat.zero_add _)).trans ?_
  show V m c main_arg1 (((cfg0.win 1).blk t).view.emb (ix2 (⟨o + r.val, by omega⟩ : Fin 512) k)) = _
  rw [V_main_arg1]
  obtain ⟨e0, e1⟩ := idx1 t
  refine congrArg (Xb m c) (funext fun b => Fin.ext ?_)
  match b with
  | ⟨0, _⟩ => show win0_1.index t (0 : Fin 2) * 512 + 1 * (o + r.val) = a.val; omega
  | ⟨1, _⟩ => show win0_1.index t (1 : Fin 2) * 1024 + 1 * k.val = k.val; omega

/-- The block of argument 2 at a point. -/
theorem idx2 : ∀ t : Fin cfg0.N, win0_2.index t (0 : Fin 2) = t.val ∧ win0_2.index t (1 : Fin 2) = 0 := (by decide +kernel : ∀ t : Fin grid0.N, _)

/-- An entry of a half's load of it. -/
theorem ld2 (t : Fin cfg0.N) {o : ℕ} (h : Fits o) (r : Fin 256) (k : Fin 256) (a : Fin 16384) (ha : 512 * t.val + (o + r.val) = a.val) : (in2 m c t h (ix2 r k) : EReal) = Pe m c (ix2 a k) := by
  have hr := r.isLt
  have ho : o + 256 ≤ 512 := h.1 0
  refine (congrFun (part_load (hs0_2 t) (iblk m c 2 t) (slim h)) (ix2 r k)).trans ?_
  refine (ld_at (⟨o + r.val, by omega⟩ : Fin 512) k rfl (Nat.zero_add _)).trans ?_
  show V m c main_arg2 (((cfg0.win 2).blk t).view.emb (ix2 (⟨o + r.val, by omega⟩ : Fin 512) k)) = _
  rw [V_main_arg2]
  obtain ⟨e0, e1⟩ := idx2 t
  refine congrArg (Pe m c) (funext fun b => Fin.ext ?_)
  match b with
  | ⟨0, _⟩ => show win0_2.index t (0 : Fin 2) * 512 + 1 * (o + r.val) = a.val; omega
  | ⟨1, _⟩ => show win0_2.index t (1 : Fin 2) * 256 + 1 * k.val = k.val; omega

/-- The block of argument 3 at a point. -/
theorem idx3 : ∀ t : Fin cfg0.N, win0_3.index t (0 : Fin 2) = 0 ∧ win0_3.index t (1 : Fin 2) = 0 := (by decide +kernel : ∀ t : Fin grid0.N, _)

/-- Every point holds the whole of it. -/
theorem ld3 (t : Fin cfg0.N) (q : Fin 1024) (k : Fin 1024) : (in3 m c t (ix2 q k) : EReal) = Wg m c (ix2 q k) := by
  refine (congrFun (got_eq _ _ _) (ix2 q k)).trans ?_
  show V m c main_arg3 (((cfg0.win 3).blk t).view.emb (ix2 q k)) = _
  rw [V_main_arg3]
  obtain ⟨e0, e1⟩ := idx3 t
  refine congrArg (Wg m c) (funext fun b => Fin.ext ?_)
  match b with
  | ⟨0, _⟩ => show win0_3.index t (0 : Fin 2) * 1024 + 1 * q.val = q.val; omega
  | ⟨1, _⟩ => show win0_3.index t (1 : Fin 2) * 1024 + 1 * k.val = k.val; omega

/-- The block of argument 4 at a point. -/
theorem idx4 : ∀ t : Fin cfg0.N, win0_4.index t (0 : Fin 2) = 0 ∧ win0_4.index t (1 : Fin 2) = 0 := (by decide +kernel : ∀ t : Fin grid0.N, _)

/-- Every point holds the whole of it. -/
theorem ld4 (t : Fin cfg0.N) (q : Fin 256) (k : Fin 1024) : (in4 m c t (ix2 q k) : EReal) = Wp m c (ix2 q k) := by
  refine (congrFun (got_eq _ _ _) (ix2 q k)).trans ?_
  show V m c main_arg4 (((cfg0.win 4).blk t).view.emb (ix2 q k)) = _
  rw [V_main_arg4]
  obtain ⟨e0, e1⟩ := idx4 t
  refine congrArg (Wp m c) (funext fun b => Fin.ext ?_)
  match b with
  | ⟨0, _⟩ => show win0_4.index t (0 : Fin 2) * 256 + 1 * q.val = q.val; omega
  | ⟨1, _⟩ => show win0_4.index t (1 : Fin 2) * 1024 + 1 * k.val = k.val; omega

/-- The block of argument 5 at a point. -/
theorem idx5 : ∀ t : Fin cfg0.N, win0_5.index t (0 : Fin 2) = t.val ∧ win0_5.index t (1 : Fin 2) = 0 := (by decide +kernel : ∀ t : Fin grid0.N, _)

/-- An entry of a half's load of it. -/
theorem ld5 (t : Fin cfg0.N) {o : ℕ} (h : Fits o) (r : Fin 256) (k : Fin 1024) (a : Fin 16384) (ha : 512 * t.val + (o + r.val) = a.val) : (in5 m c t h (ix2 r k) : EReal) = Pre m c (ix2 a k) := by
  have hr := r.isLt
  have ho : o + 256 ≤ 512 := h.1 0
  refine (congrFun (part_load (hs0_5 t) (iblk m c 5 t) (wide h)) (ix2 r k)).trans ?_
  refine (ld_at (⟨o + r.val, by omega⟩ : Fin 512) k rfl (Nat.zero_add _)).trans ?_
  show V m c main_arg5 (((cfg0.win 5).blk t).view.emb (ix2 (⟨o + r.val, by omega⟩ : Fin 512) k)) = _
  rw [V_main_arg5]
  obtain ⟨e0, e1⟩ := idx5 t
  refine congrArg (Pre m c) (funext fun b => Fin.ext ?_)
  match b with
  | ⟨0, _⟩ => show win0_5.index t (0 : Fin 2) * 512 + 1 * (o + r.val) = a.val; omega
  | ⟨1, _⟩ => show win0_5.index t (1 : Fin 2) * 1024 + 1 * k.val = k.val; omega

/-- The block of argument 6 at a point. -/
theorem idx6 : ∀ t : Fin cfg0.N, win0_6.index t (0 : Fin 2) = 0 ∧ win0_6.index t (1 : Fin 2) = 0 := (by decide +kernel : ∀ t : Fin grid0.N, _)

/-- Every point holds the whole of it. -/
theorem ld6 (t : Fin cfg0.N) (q : Fin 1) (k : Fin 1024) : (in6 m c t (ix2 q k) : EReal) = Gn m c (ix2 q k) := by
  refine (congrFun (got_eq _ _ _) (ix2 q k)).trans ?_
  show V m c main_arg6 (((cfg0.win 6).blk t).view.emb (ix2 q k)) = _
  rw [V_main_arg6]
  obtain ⟨e0, e1⟩ := idx6 t
  refine congrArg (Gn m c) (funext fun b => Fin.ext ?_)
  match b with
  | ⟨0, _⟩ => show win0_6.index t (0 : Fin 2) * 1 + 1 * q.val = q.val; omega
  | ⟨1, _⟩ => show win0_6.index t (1 : Fin 2) * 1024 + 1 * k.val = k.val; omega

/-- A half's gradients at the gate. -/
abbrev da (t : Fin cfg0.N) {o : ℕ} (h : Fits o) : Vec Ideal S256x1024 .bf16 := k0_pay5 (in0 m c t h) (in1 m c t h) (in3 m c t) (in2 m c t h) (in4 m c t)

/-- A half's gradients at the projected embedding. -/
abbrev dpp (t : Fin cfg0.N) {o : ℕ} (h : Fits o) : Vec Ideal S256x1024 .bf16 := k0_pay6 (in0 m c t h) (in1 m c t h) (in3 m c t)

/-- A half's gradients before the norm. -/
abbrev dz (t : Fin cfg0.N) {o : ℕ} (h : Fits o) : Vec Ideal S256x1024 .f32 := k0_pay7 (in0 m c t h) (in1 m c t h) (in3 m c t) (in2 m c t h) (in4 m c t) (in3 m c t)

/-- A half's rows normalised. -/
abbrev xn (t : Fin cfg0.N) {o : ℕ} (h : Fits o) : Vec Ideal S256x1024 .f32 := Cert.Kernel18Ideal.Gen.k0_pay6 (F := Ideal) (in5 m c t h)

/-- A half's gradients past the gain. -/
abbrev gz (t : Fin cfg0.N) {o : ℕ} (h : Fits o) : Vec Ideal S256x1024 .f32 := mulf (F := Ideal) (φ := .f32) (dz m c t h) (broadcastTo (α := Ideal .f32) S256x1024 (in6 m c t) broadcasts_S1x1024_S256x1024)

/-- Their rows' sums. -/
abbrev gs (t : Fin cfg0.N) {o : ℕ} (h : Fits o) : Vec Ideal S256 .f32 := multiReduction (F := Ideal) .add [1] S256 (gz m c t h) 0x00000000#32 reduces_S256x1024_S256 (.inl rfl) rfl

/-- A half's gradients after the norm. -/
abbrev dy (t : Fin cfg0.N) {o : ℕ} (h : Fits o) : Vec Ideal S256x1024 .f32 := Cert.Kernel18Ideal.Gen.k0_pay9 (F := Ideal) (Cert.Kernel18Ideal.Gen.k0_pay5 (F := Ideal) (in5 m c t h)) (xn m c t h) (gz m c t h) (gs m c t h)

/-- The same, narrowed. -/
abbrev dyn (t : Fin cfg0.N) {o : ℕ} (h : Fits o) : Vec Ideal S256x1024 .bf16 := Cert.Kernel18Ideal.Gen.k0_pay10 (F := Ideal) (Cert.Kernel18Ideal.Gen.k0_pay5 (F := Ideal) (in5 m c t h)) (xn m c t h) (gz m c t h) (gs m c t h)

/-- The first half's rows of the gain's gradient. -/
abbrev dg0 (t : Fin cfg0.N) : Vec Ideal S1x1024 .f32 := Cert.Kernel18Ideal.Gen.k0_pay11 (F := Ideal) (Cert.Kernel18Ideal.Gen.k0_pay1 (F := Ideal)) (dz m c t fits0) (xn m c t fits0)

/-- The first half's rows of the bias's gradient. -/
abbrev db0 (t : Fin cfg0.N) : Vec Ideal S1x1024 .f32 := Cert.Kernel18Ideal.Gen.k0_pay12 (F := Ideal) (Cert.Kernel18Ideal.Gen.k0_pay2 (F := Ideal)) (dz m c t fits0)

/-- What was kept before a point. -/
abbrev before (t : Fin cfg0.N) := outsAt0 (F := Ideal) m c (t.val - 1) (Nat.lt_of_le_of_lt (Nat.sub_le _ _) t.isLt)

/-- What every point leaves of the gradients at the gate: the two halves'. -/
theorem left7 (t : Fin cfg0.N) (p : Fin 512) (q : Fin 1024) (x : EReal) (h1 : ∀ r : Fin 256, 256 + r.val = p.val → (da m c t fits1 (ix2 r q) : EReal) = x) (h0 : ∀ r : Fin 256, 0 + r.val = p.val → (da m c t fits0 (ix2 r q) : EReal) = x) :
    ((outsAt0 (F := Ideal) m c t.val t.isLt).1 (ix2 p q) : EReal) = x := by
  have hN := lt_of_lt_of_eq t.isLt (show cfg0.N = 32 from N_0)
  by_cases h : t.val = 0
  · rw [outsAt0_A m c t (by omega) (by omega) (by omega) (by omega)]
    dsimp only
    unfold out0_A_7
    refine halves_of _ _ inb_S512x1024_S256x1024_256_0 inb_S512x1024_S256x1024_0_0 (da m c t fits1) (da m c t fits0) p q x ?_ h1 h0
    sl_kernel_rfl
  · rw [outsAt0_B m c t (by omega) (by omega) (by omega) (by omega)]
    dsimp only
    unfold out0_B_7
    refine halves_of _ _ inb_S512x1024_S256x1024_256_0 inb_S512x1024_S256x1024_0_0 (da m c t fits1) (da m c t fits0) p q x ?_ h1 h0
    sl_kernel_rfl

/-- What every point leaves of the gradients at the projected embedding: the two halves'. -/
theorem left8 (t : Fin cfg0.N) (p : Fin 512) (q : Fin 1024) (x : EReal) (h1 : ∀ r : Fin 256, 256 + r.val = p.val → (dpp m c t fits1 (ix2 r q) : EReal) = x) (h0 : ∀ r : Fin 256, 0 + r.val = p.val → (dpp m c t fits0 (ix2 r q) : EReal) = x) :
    ((outsAt0 (F := Ideal) m c t.val t.isLt).2.1 (ix2 p q) : EReal) = x := by
  have hN := lt_of_lt_of_eq t.isLt (show cfg0.N = 32 from N_0)
  by_cases h : t.val = 0
  · rw [outsAt0_A m c t (by omega) (by omega) (by omega) (by omega)]
    dsimp only
    unfold out0_A_8
    refine halves_of _ _ inb_S512x1024_S256x1024_256_0 inb_S512x1024_S256x1024_0_0 (dpp m c t fits1) (dpp m c t fits0) p q x ?_ h1 h0
    sl_kernel_rfl
  · rw [outsAt0_B m c t (by omega) (by omega) (by omega) (by omega)]
    dsimp only
    unfold out0_B_8
    refine halves_of _ _ inb_S512x1024_S256x1024_256_0 inb_S512x1024_S256x1024_0_0 (dpp m c t fits1) (dpp m c t fits0) p q x ?_ h1 h0
    sl_kernel_rfl

/-- What every point leaves of the gradients: the two halves'. -/
theorem left9 (t : Fin cfg0.N) (p : Fin 512) (q : Fin 1024) (x : EReal) (h1 : ∀ r : Fin 256, 256 + r.val = p.val → (dy m c t fits1 (ix2 r q) : EReal) = x) (h0 : ∀ r : Fin 256, 0 + r.val = p.val → (dy m c t fits0 (ix2 r q) : EReal) = x) :
    ((outsAt0 (F := Ideal) m c t.val t.isLt).2.2.1 (ix2 p q) : EReal) = x := by
  have hN := lt_of_lt_of_eq t.isLt (show cfg0.N = 32 from N_0)
  by_cases h : t.val = 0
  · rw [outsAt0_A m c t (by omega) (by omega) (by omega) (by omega)]
    dsimp only
    unfold out0_A_9
    refine halves_of _ _ inb_S512x1024_S256x1024_256_0 inb_S512x1024_S256x1024_0_0 (dy m c t fits1) (dy m c t fits0) p q x ?_ h1 h0
    sl_kernel_rfl
  · rw [outsAt0_B m c t (by omega) (by omega) (by omega) (by omega)]
    dsimp only
    unfold out0_B_9
    refine halves_of _ _ inb_S512x1024_S256x1024_256_0 inb_S512x1024_S256x1024_0_0 (dy m c t fits1) (dy m c t fits0) p q x ?_ h1 h0
    sl_kernel_rfl

/-- What every point leaves of the narrowed gradients: the two halves'. -/
theorem left10 (t : Fin cfg0.N) (p : Fin 512) (q : Fin 1024) (x : EReal) (h1 : ∀ r : Fin 256, 256 + r.val = p.val → (dyn m c t fits1 (ix2 r q) : EReal) = x) (h0 : ∀ r : Fin 256, 0 + r.val = p.val → (dyn m c t fits0 (ix2 r q) : EReal) = x) :
    ((outsAt0 (F := Ideal) m c t.val t.isLt).2.2.2.1 (ix2 p q) : EReal) = x := by
  have hN := lt_of_lt_of_eq t.isLt (show cfg0.N = 32 from N_0)
  by_cases h : t.val = 0
  · rw [outsAt0_A m c t (by omega) (by omega) (by omega) (by omega)]
    dsimp only
    unfold out0_A_10
    refine halves_of _ _ inb_S512x1024_S256x1024_256_0 inb_S512x1024_S256x1024_0_0 (dyn m c t fits1) (dyn m c t fits0) p q x ?_ h1 h0
    sl_kernel_rfl
  · rw [outsAt0_B m c t (by omega) (by omega) (by omega) (by omega)]
    dsimp only
    unfold out0_B_10
    refine halves_of _ _ inb_S512x1024_S256x1024_256_0 inb_S512x1024_S256x1024_0_0 (dyn m c t fits1) (dyn m c t fits0) p q x ?_ h1 h0
    sl_kernel_rfl

/-- What the first point leaves of the gain's gradient. -/
theorem left11A (t : Fin cfg0.N) (h : t.val = 0) : (outsAt0 (F := Ideal) m c t.val t.isLt).2.2.2.2.1 = Cert.Kernel18Ideal.Gen.k0_pay11 (F := Ideal) (dg0 m c t) (dz m c t fits1) (xn m c t fits1) := by
  rw [outsAt0_A m c t (by omega) (by omega) (by omega) (by omega)]
  dsimp only
  unfold out0_A_11
  refine kept_of _ _ inb_S1x1024_S1x1024_0_0 (Cert.Kernel18Ideal.Gen.k0_pay11 (F := Ideal) (dg0 m c t) (dz m c t fits1) (xn m c t fits1)) ?_ rfl
  sl_kernel_rfl

/-- What a later point leaves of it. -/
theorem left11B (t : Fin cfg0.N) (h : t.val ≠ 0) : (outsAt0 (F := Ideal) m c t.val t.isLt).2.2.2.2.1 = Cert.Kernel18Ideal.Gen.k0_pay13 (F := Ideal) (dg0 m c t) (dz m c t fits1) (xn m c t fits1) (before m c t).2.2.2.2.1 := by
  have hN := lt_of_lt_of_eq t.isLt (show cfg0.N = 32 from N_0)
  rw [outsAt0_B m c t (by omega) (by omega) (by omega) (by omega)]
  dsimp only
  unfold out0_B_11
  refine kept_of _ _ inb_S1x1024_S1x1024_0_0 (Cert.Kernel18Ideal.Gen.k0_pay13 (F := Ideal) (dg0 m c t) (dz m c t fits1) (xn m c t fits1) (got (hs0_11 t) inb_S1x1024_S1x1024_0_0 (before m c t).2.2.2.2.1)) ?_ ?_
  · sl_kernel_rfl
  · rw [got_eq]

/-- What the first point leaves of the bias's gradient. -/
theorem left12A (t : Fin cfg0.N) (h : t.val = 0) : (outsAt0 (F := Ideal) m c t.val t.isLt).2.2.2.2.2 = Cert.Kernel18Ideal.Gen.k0_pay12 (F := Ideal) (db0 m c t) (dz m c t fits1) := by
  rw [outsAt0_A m c t (by omega) (by omega) (by omega) (by omega)]
  dsimp only
  unfold out0_A_12
  refine kept_of _ _ inb_S1x1024_S1x1024_0_0 (Cert.Kernel18Ideal.Gen.k0_pay12 (F := Ideal) (db0 m c t) (dz m c t fits1)) ?_ rfl
  sl_kernel_rfl

/-- What a later point leaves of it. -/
theorem left12B (t : Fin cfg0.N) (h : t.val ≠ 0) : (outsAt0 (F := Ideal) m c t.val t.isLt).2.2.2.2.2 = Cert.Kernel18Ideal.Gen.k0_pay14 (F := Ideal) (db0 m c t) (dz m c t fits1) (before m c t).2.2.2.2.2 := by
  have hN := lt_of_lt_of_eq t.isLt (show cfg0.N = 32 from N_0)
  rw [outsAt0_B m c t (by omega) (by omega) (by omega) (by omega)]
  dsimp only
  unfold out0_B_12
  refine kept_of _ _ inb_S1x1024_S1x1024_0_0 (Cert.Kernel18Ideal.Gen.k0_pay14 (F := Ideal) (db0 m c t) (dz m c t fits1) (got (hs0_12 t) inb_S1x1024_S1x1024_0_0 (before m c t).2.2.2.2.2)) ?_ ?_
  · sl_kernel_rfl
  · rw [got_eq]

/-- A row's gate. -/
def gate (x : Fin 1024 → EReal) (w : Fin 1024 → Fin 1024 → EReal) (q : Fin 1024) : EReal := Ideal.logistic (∑ k : Fin 1024, x k * w k q)

/-- A row's gradient at the gate's input. -/
def slope (d x : Fin 1024 → EReal) (w : Fin 1024 → Fin 1024 → EReal) (e : Fin 256 → EReal) (u : Fin 256 → Fin 1024 → EReal) (q : Fin 1024) : EReal :=
  d q * (∑ k : Fin 256, e k * u k q) * gate x w q * (1 - gate x w q)

/-- A row's gradient before the norm. -/
def grd (d x : Fin 1024 → EReal) (w : Fin 1024 → Fin 1024 → EReal) (e : Fin 256 → EReal) (u : Fin 256 → Fin 1024 → EReal) (q : Fin 1024) : EReal :=
  d q + ∑ k : Fin 1024, slope d x w e u k * w q k

/-- The gate of a row. -/
theorem pay4 (x : Vec Ideal S256x1024 .bf16) (w : Vec Ideal S1024x1024 .bf16) (r : Fin 256) (q : Fin 1024) : (k0_pay4 (F := Ideal) x w (ix2 r q) : EReal) = gate (fun k => x (ix2 r k)) (fun j k => w (ix2 j k)) q := by
  unfold k0_pay4 gate
  pointwise
  try rfl

/-- The gradient at the gate's input. -/
theorem pay5 (d : Vec Ideal S256x1024 .f32) (x : Vec Ideal S256x1024 .bf16) (w : Vec Ideal S1024x1024 .bf16) (e : Vec Ideal S256x256 .f32) (u : Vec Ideal S256x1024 .bf16) (r : Fin 256) (q : Fin 1024) :
    (k0_pay5 (F := Ideal) d x w e u (ix2 r q) : EReal) = slope (fun k => d (ix2 r k)) (fun k => x (ix2 r k)) (fun j k => w (ix2 j k)) (fun k => e (ix2 r k)) (fun j k => u (ix2 j k)) q := by
  unfold slope
  rw [← pay4, ← Ideal.ofBits_one_f32]
  unfold k0_pay5
  pointwise
  try rfl

/-- The gradient at the projected embedding. -/
theorem pay6 (d : Vec Ideal S256x1024 .f32) (x : Vec Ideal S256x1024 .bf16) (w : Vec Ideal S1024x1024 .bf16) (r : Fin 256) (q : Fin 1024) :
    (k0_pay6 (F := Ideal) d x w (ix2 r q) : EReal) = d (ix2 r q) * gate (fun k => x (ix2 r k)) (fun j k => w (ix2 j k)) q := by
  rw [← pay4]
  unfold k0_pay6
  pointwise
  try rfl

/-- The gradient before the norm. -/
theorem pay7 (d : Vec Ideal S256x1024 .f32) (x : Vec Ideal S256x1024 .bf16) (w : Vec Ideal S1024x1024 .bf16) (e : Vec Ideal S256x256 .f32) (u : Vec Ideal S256x1024 .bf16) (r : Fin 256) (q : Fin 1024) :
    (k0_pay7 (F := Ideal) d x w e u w (ix2 r q) : EReal) = grd (fun k => d (ix2 r k)) (fun k => x (ix2 r k)) (fun j k => w (ix2 j k)) (fun k => e (ix2 r k)) (fun j k => u (ix2 j k)) q := by
  unfold grd
  simp only [← pay5]
  unfold k0_pay7
  pointwise
  try rfl

/-- A row's gradient at the gate's input. -/
def fda (a : Fin 16384) (q : Fin 1024) : EReal := slope (fun k => Dx m c (ix2 a k)) (fun k => Xb m c (ix2 a k)) (fun j k => Wg m c (ix2 j k)) (fun k => Pe m c (ix2 a k)) (fun j k => Wp m c (ix2 j k)) q

/-- A row's gradient at the projected embedding. -/
def fdp (a : Fin 16384) (q : Fin 1024) : EReal := Dx m c (ix2 a q) * gate (fun k => Xb m c (ix2 a k)) (fun j k => Wg m c (ix2 j k)) q

/-- A row's gradient before the norm. -/
def up (a : Fin 16384) (q : Fin 1024) : EReal := grd (fun k => Dx m c (ix2 a k)) (fun k => Xb m c (ix2 a k)) (fun j k => Wg m c (ix2 j k)) (fun k => Pe m c (ix2 a k)) (fun j k => Wp m c (ix2 j k)) q

/-- A row of the norm's input, normalised. -/
def nrm (a : Fin 16384) (q : Fin 1024) : EReal := xh (fun k => Pre m c (ix2 a k)) q

/-- A row's gradient after the norm. -/
def down (a : Fin 16384) (q : Fin 1024) : EReal := dln (fun k => up m c a k * Gn m c (ix2 0 k)) (fun k => Pre m c (ix2 a k)) q

section

variable (t : Fin cfg0.N) {o : ℕ} (h : Fits o) (r : Fin 256) (a : Fin 16384) (ha : 512 * t.val + (o + r.val) = a.val) (q : Fin 1024)
include ha

/-- What a half's row is made of. -/
theorem made : (fun k : Fin 1024 => (in0 m c t h (ix2 r k) : EReal)) = (fun k => Dx m c (ix2 a k)) ∧ (fun k : Fin 1024 => (in1 m c t h (ix2 r k) : EReal)) = (fun k => Xb m c (ix2 a k))
    ∧ (fun (j k : Fin 1024) => (in3 m c t (ix2 j k) : EReal)) = (fun j k => Wg m c (ix2 j k)) ∧ (fun k : Fin 256 => (in2 m c t h (ix2 r k) : EReal)) = (fun k => Pe m c (ix2 a k))
    ∧ (fun (j : Fin 256) (k : Fin 1024) => (in4 m c t (ix2 j k) : EReal)) = (fun j k => Wp m c (ix2 j k)) ∧ (fun k : Fin 1024 => (in5 m c t h (ix2 r k) : EReal)) = fun k => Pre m c (ix2 a k) :=
  ⟨funext fun k => ld0 m c t h r k a ha, funext fun k => ld1 m c t h r k a ha, funext fun j => funext fun k => ld3 m c t j k, funext fun k => ld2 m c t h r k a ha,
    funext fun j => funext fun k => ld4 m c t j k, funext fun k => ld5 m c t h r k a ha⟩

/-- A half's gradients at the gate's input are its rows'. -/
theorem da_at : (da m c t h (ix2 r q) : EReal) = fda m c a q := by
  obtain ⟨e0, e1, e3, e2, e4, e5⟩ := made m c t h r a ha
  refine (pay5 _ _ _ _ _ r q).trans ?_
  unfold fda
  rw [← e0, ← e1, ← e2, ← e3, ← e4]

/-- A half's gradients at the projected embedding are its rows'. -/
theorem dpp_at : (dpp m c t h (ix2 r q) : EReal) = fdp m c a q := by
  obtain ⟨e0, e1, e3, e2, e4, e5⟩ := made m c t h r a ha
  refine (pay6 _ _ _ r q).trans ?_
  unfold fdp
  rw [← e1, ← e3, ← ld0 m c t h r q a ha]

/-- A half's gradients before the norm are its rows'. -/
theorem dz_at : (dz m c t h (ix2 r q) : EReal) = up m c a q := by
  obtain ⟨e0, e1, e3, e2, e4, e5⟩ := made m c t h r a ha
  refine (pay7 _ _ _ _ _ r q).trans ?_
  unfold up
  rw [← e0, ← e1, ← e2, ← e3, ← e4]

/-- A half's normalised rows. -/
theorem xn_at : (xn m c t h (ix2 r q) : EReal) = nrm m c a q := by
  obtain ⟨e0, e1, e3, e2, e4, e5⟩ := made m c t h r a ha
  refine (Cert.Kernel18Ideal.Fx.pay6 _ r q).trans ?_
  unfold nrm
  rw [← e5]

/-- A half's gradients past the gain. -/
theorem gz_at : (gz m c t h (ix2 r q) : EReal) = up m c a q * Gn m c (ix2 0 q) := by
  rw [← dz_at m c t h r a ha q, ← ld6 m c t 0 q]
  unfold gz
  pointwise
  try rfl

/-- Their rows' sums. -/
theorem gs_at : (gs m c t h (ix1 r) : EReal) = ∑ k : Fin 1024, up m c a k * Gn m c (ix2 0 k) := by
  refine Eq.trans ?_ (Finset.sum_congr rfl fun k _ => gz_at m c t h r a ha k)
  unfold gs
  generalize gz m c t h = y
  pointwise
  try rfl

/-- A half's gradients after the norm are its rows'. -/
theorem dy_at : (dy m c t h (ix2 r q) : EReal) = down m c a q := by
  obtain ⟨e0, e1, e3, e2, e4, e5⟩ := made m c t h r a ha
  refine (Cert.Kernel18Ideal.Fx.back_rows _ _ _ r q (fun k => up m c a k * Gn m c (ix2 0 k)) (fun k => gz_at m c t h r a ha k) (gs_at m c t h r a ha)).trans ?_
  unfold down
  rw [← e5]

/-- The same, narrowed. -/
theorem dyn_at : (dyn m c t h (ix2 r q) : EReal) = down m c a q := (Cert.Kernel18Ideal.Fx.pay10 _ _ _ _ r q).trans (dy_at m c t h r a ha q)

end

/-- The block of output 7 at a point. -/
theorem idx7 : ∀ t : Fin cfg0.N, win0_7.index t (0 : Fin 2) = t.val ∧ win0_7.index t (1 : Fin 2) = 0 := (by decide +kernel : ∀ t : Fin grid0.N, _)

/-- Every point writes its block back. -/
theorem flush7 : ∀ t : Fin cfg0.N, (cfg0.win 7).flush t = true := (by decide +kernel : ∀ t : Fin grid0.N, _)

/-- What the run leaves in the gradients at the gate. -/
theorem arr7 (a : Fin 16384) (b : Fin 1024) : ((dats m 0 c).arrAt 7 cfg0.N (ix2 a b) : EReal) = fda m c a b := by
  have ht : a.val / 512 < cfg0.N := lt_of_lt_of_eq (by omega) (show 32 = cfg0.N from N_0.symm)
  let t : Fin cfg0.N := ⟨a.val / 512, ht⟩
  let p : Fin 512 := ⟨a.val % 512, Nat.mod_lt _ (by decide)⟩
  have hr : 512 * t.val + p.val = a.val := Nat.div_add_mod a.val 512
  have h : (dats m 0 c).arrAt 7 cfg0.N (((cfg0.win 7).blk t).view.emb (ix2 p b)) = (outsAt0 (F := Ideal) m c t.val t.isLt).1 (ix2 p b) :=
    (congrFun (blocks7 m c t (flush7 t)) (ix2 p b)).trans (congrFun (flushed7 m c t) (ix2 p b))
  obtain ⟨e0, e1⟩ := idx7 t
  have hi : ((cfg0.win 7).blk t).view.emb (ix2 p b) = ix2 a b := by
    refine funext fun d => Fin.ext ?_
    match d with
    | ⟨0, _⟩ => show win0_7.index t (0 : Fin 2) * 512 + 1 * p.val = a.val; omega
    | ⟨1, _⟩ => show win0_7.index t (1 : Fin 2) * 1024 + 1 * b.val = b.val; omega
  rw [hi] at h
  exact h.trans (left7 m c t p b _ (fun r e => da_at m c t fits1 r a (by omega) b) fun r e => da_at m c t fits0 r a (by omega) b)

/-- The block of output 8 at a point. -/
theorem idx8 : ∀ t : Fin cfg0.N, win0_8.index t (0 : Fin 2) = t.val ∧ win0_8.index t (1 : Fin 2) = 0 := (by decide +kernel : ∀ t : Fin grid0.N, _)

/-- Every point writes its block back. -/
theorem flush8 : ∀ t : Fin cfg0.N, (cfg0.win 8).flush t = true := (by decide +kernel : ∀ t : Fin grid0.N, _)

/-- What the run leaves in the gradients at the projected embedding. -/
theorem arr8 (a : Fin 16384) (b : Fin 1024) : ((dats m 0 c).arrAt 8 cfg0.N (ix2 a b) : EReal) = fdp m c a b := by
  have ht : a.val / 512 < cfg0.N := lt_of_lt_of_eq (by omega) (show 32 = cfg0.N from N_0.symm)
  let t : Fin cfg0.N := ⟨a.val / 512, ht⟩
  let p : Fin 512 := ⟨a.val % 512, Nat.mod_lt _ (by decide)⟩
  have hr : 512 * t.val + p.val = a.val := Nat.div_add_mod a.val 512
  have h : (dats m 0 c).arrAt 8 cfg0.N (((cfg0.win 8).blk t).view.emb (ix2 p b)) = (outsAt0 (F := Ideal) m c t.val t.isLt).2.1 (ix2 p b) :=
    (congrFun (blocks8 m c t (flush8 t)) (ix2 p b)).trans (congrFun (flushed8 m c t) (ix2 p b))
  obtain ⟨e0, e1⟩ := idx8 t
  have hi : ((cfg0.win 8).blk t).view.emb (ix2 p b) = ix2 a b := by
    refine funext fun d => Fin.ext ?_
    match d with
    | ⟨0, _⟩ => show win0_8.index t (0 : Fin 2) * 512 + 1 * p.val = a.val; omega
    | ⟨1, _⟩ => show win0_8.index t (1 : Fin 2) * 1024 + 1 * b.val = b.val; omega
  rw [hi] at h
  exact h.trans (left8 m c t p b _ (fun r e => dpp_at m c t fits1 r a (by omega) b) fun r e => dpp_at m c t fits0 r a (by omega) b)

/-- The block of output 9 at a point. -/
theorem idx9 : ∀ t : Fin cfg0.N, win0_9.index t (0 : Fin 2) = t.val ∧ win0_9.index t (1 : Fin 2) = 0 := (by decide +kernel : ∀ t : Fin grid0.N, _)

/-- Every point writes its block back. -/
theorem flush9 : ∀ t : Fin cfg0.N, (cfg0.win 9).flush t = true := (by decide +kernel : ∀ t : Fin grid0.N, _)

/-- What the run leaves in the gradients. -/
theorem arr9 (a : Fin 16384) (b : Fin 1024) : ((dats m 0 c).arrAt 9 cfg0.N (ix2 a b) : EReal) = down m c a b := by
  have ht : a.val / 512 < cfg0.N := lt_of_lt_of_eq (by omega) (show 32 = cfg0.N from N_0.symm)
  let t : Fin cfg0.N := ⟨a.val / 512, ht⟩
  let p : Fin 512 := ⟨a.val % 512, Nat.mod_lt _ (by decide)⟩
  have hr : 512 * t.val + p.val = a.val := Nat.div_add_mod a.val 512
  have h : (dats m 0 c).arrAt 9 cfg0.N (((cfg0.win 9).blk t).view.emb (ix2 p b)) = (outsAt0 (F := Ideal) m c t.val t.isLt).2.2.1 (ix2 p b) :=
    (congrFun (blocks9 m c t (flush9 t)) (ix2 p b)).trans (congrFun (flushed9 m c t) (ix2 p b))
  obtain ⟨e0, e1⟩ := idx9 t
  have hi : ((cfg0.win 9).blk t).view.emb (ix2 p b) = ix2 a b := by
    refine funext fun d => Fin.ext ?_
    match d with
    | ⟨0, _⟩ => show win0_9.index t (0 : Fin 2) * 512 + 1 * p.val = a.val; omega
    | ⟨1, _⟩ => show win0_9.index t (1 : Fin 2) * 1024 + 1 * b.val = b.val; omega
  rw [hi] at h
  exact h.trans (left9 m c t p b _ (fun r e => dy_at m c t fits1 r a (by omega) b) fun r e => dy_at m c t fits0 r a (by omega) b)

/-- The block of output 10 at a point. -/
theorem idx10 : ∀ t : Fin cfg0.N, win0_10.index t (0 : Fin 2) = t.val ∧ win0_10.index t (1 : Fin 2) = 0 := (by decide +kernel : ∀ t : Fin grid0.N, _)

/-- Every point writes its block back. -/
theorem flush10 : ∀ t : Fin cfg0.N, (cfg0.win 10).flush t = true := (by decide +kernel : ∀ t : Fin grid0.N, _)

/-- What the run leaves in the narrowed gradients. -/
theorem arr10 (a : Fin 16384) (b : Fin 1024) : ((dats m 0 c).arrAt 10 cfg0.N (ix2 a b) : EReal) = down m c a b := by
  have ht : a.val / 512 < cfg0.N := lt_of_lt_of_eq (by omega) (show 32 = cfg0.N from N_0.symm)
  let t : Fin cfg0.N := ⟨a.val / 512, ht⟩
  let p : Fin 512 := ⟨a.val % 512, Nat.mod_lt _ (by decide)⟩
  have hr : 512 * t.val + p.val = a.val := Nat.div_add_mod a.val 512
  have h : (dats m 0 c).arrAt 10 cfg0.N (((cfg0.win 10).blk t).view.emb (ix2 p b)) = (outsAt0 (F := Ideal) m c t.val t.isLt).2.2.2.1 (ix2 p b) :=
    (congrFun (blocks10 m c t (flush10 t)) (ix2 p b)).trans (congrFun (flushed10 m c t) (ix2 p b))
  obtain ⟨e0, e1⟩ := idx10 t
  have hi : ((cfg0.win 10).blk t).view.emb (ix2 p b) = ix2 a b := by
    refine funext fun d => Fin.ext ?_
    match d with
    | ⟨0, _⟩ => show win0_10.index t (0 : Fin 2) * 512 + 1 * p.val = a.val; omega
    | ⟨1, _⟩ => show win0_10.index t (1 : Fin 2) * 1024 + 1 * b.val = b.val; omega
  rw [hi] at h
  exact h.trans (left10 m c t p b _ (fun r e => dyn_at m c t fits1 r a (by omega) b) fun r e => dyn_at m c t fits0 r a (by omega) b)

/-- The rows of a point, one half after the other. -/
theorem both (t : Fin cfg0.N) (f : Fin 16384 → EReal) {x y : Fin 256 → EReal} {o : EReal} (ho : o = 0)
    (hx : ∀ (r : Fin 256) (a : Fin 16384), 512 * t.val + (0 + r.val) = a.val → x r = f a) (hy : ∀ (r : Fin 256) (a : Fin 16384), 512 * t.val + (256 + r.val) = a.val → y r = f a) :
    (o + ∑ r : Fin 256, x r) + ∑ r : Fin 256, y r = ∑ r : Fin 512, f (row (512 * t.val + r.val)) := by
  have hN := lt_of_lt_of_eq t.isLt (show cfg0.N = 32 from N_0)
  rw [ho, zero_add, cut (n := 512) (a := 256) (b := 256) rfl]
  refine congrArg₂ (fun a b : EReal => a + b) (Finset.sum_congr rfl fun r _ => hx r _ ?_) (Finset.sum_congr rfl fun r _ => hy r _ ?_) <;> have hr := r.isLt
  · show _ = (512 * t.val + r.val) % 16384
    omega
  · show _ = (512 * t.val + (256 + r.val)) % 16384
    omega

/-- A point's rows of the gain's gradient. -/
theorem rows11 (t : Fin cfg0.N) (q : Fin 1024) : (Cert.Kernel18Ideal.Gen.k0_pay11 (F := Ideal) (dg0 m c t) (dz m c t fits1) (xn m c t fits1) (ix2 0 q) : EReal) = ∑ r : Fin 512, (fun a => up m c a q * nrm m c a q) (row (512 * t.val + r.val)) := by
  refine (Cert.Kernel18Ideal.Fx.pay11 _ _ _ q).trans ((congrArg (fun x : EReal => x + _) (Cert.Kernel18Ideal.Fx.pay11 _ _ _ q)).trans ?_)
  exact both t (fun a => up m c a q * nrm m c a q) (Cert.Kernel18Ideal.Fx.pay1 q) (fun r a ha => congrArg₂ (fun x y : EReal => x * y) (dz_at m c t fits0 r a ha q) (xn_at m c t fits0 r a ha q))
    fun r a ha => congrArg₂ (fun x y : EReal => x * y) (dz_at m c t fits1 r a ha q) (xn_at m c t fits1 r a ha q)

/-- A point's rows of the bias's gradient. -/
theorem rows12 (t : Fin cfg0.N) (q : Fin 1024) : (Cert.Kernel18Ideal.Gen.k0_pay12 (F := Ideal) (db0 m c t) (dz m c t fits1) (ix2 0 q) : EReal) = ∑ r : Fin 512, (fun a => up m c a q) (row (512 * t.val + r.val)) := by
  refine (Cert.Kernel18Ideal.Fx.pay12 _ _ q).trans ((congrArg (fun x : EReal => x + _) (Cert.Kernel18Ideal.Fx.pay12 _ _ q)).trans ?_)
  exact both t (fun a => up m c a q) (Cert.Kernel18Ideal.Fx.pay2 q) (fun r a ha => dz_at m c t fits0 r a ha q) fun r a ha => dz_at m c t fits1 r a ha q

/-- A later point's rows of the gain's gradient, added to what was kept. -/
theorem more11 (t : Fin cfg0.N) (k : Vec Ideal S1x1024 .f32) (q : Fin 1024) : (Cert.Kernel18Ideal.Gen.k0_pay13 (F := Ideal) (dg0 m c t) (dz m c t fits1) (xn m c t fits1) k (ix2 0 q) : EReal) = k (ix2 0 q) + ∑ r : Fin 512, (fun a => up m c a q * nrm m c a q) (row (512 * t.val + r.val)) := by
  rw [← rows11]
  exact (Cert.Kernel18Ideal.Fx.pay13 _ _ _ _ q).trans (congrArg (_ + ·) (Cert.Kernel18Ideal.Fx.pay11 _ _ _ q).symm)

/-- A later point's rows of the bias's gradient, added to what was kept. -/
theorem more12 (t : Fin cfg0.N) (k : Vec Ideal S1x1024 .f32) (q : Fin 1024) : (Cert.Kernel18Ideal.Gen.k0_pay14 (F := Ideal) (db0 m c t) (dz m c t fits1) k (ix2 0 q) : EReal) = k (ix2 0 q) + ∑ r : Fin 512, (fun a => up m c a q) (row (512 * t.val + r.val)) := by
  rw [← rows12]
  exact (Cert.Kernel18Ideal.Fx.pay14 _ _ _ q).trans (congrArg (_ + ·) (Cert.Kernel18Ideal.Fx.pay12 _ _ q).symm)

/-- The last point lies on the grid. -/
theorem last_lt : 31 < cfg0.N := lt_of_lt_of_eq (by decide) (show 32 = cfg0.N from N_0.symm)

/-- Every point leaves the sum of the gain's gradient over the rows up to its own. -/
theorem kept11 (q : Fin 1024) : ∀ (n : ℕ) (hn : n < cfg0.N), ((outsAt0 (F := Ideal) m c n hn).2.2.2.2.1 (ix2 0 q) : EReal) = firstOf 512 (fun a => up m c a q * nrm m c a q) (n + 1)
  | 0, hn => by
    rw [left11A m c ⟨0, hn⟩ rfl, firstOf_one]
    exact rows11 m c ⟨0, hn⟩ q
  | n + 1, hn => by
    rw [left11B m c ⟨n + 1, hn⟩ (Nat.succ_ne_zero n), firstOf_succ, ← kept11 q n (Nat.lt_of_succ_lt hn)]
    exact more11 m c ⟨n + 1, hn⟩ _ q

/-- The last point writes the whole of the gain's gradient, alone. -/
theorem once11 : (cfg0.win 11).WholeAt ⟨31, last_lt⟩ := by decide +kernel

/-- The gain's gradient is what the last point leaves of it. -/
theorem last11 (t : Fin cfg0.N) (h : (cfg0.win 11).WholeAt t) (b : Fin 1024) :
    ((dats m 0 c).arrAt 11 cfg0.N (ix2 0 b) : EReal) = (outsAt0 (F := Ideal) m c t.val t.isLt).2.2.2.2.1 (ix2 0 b) := by
  have e := (dats m 0 c).arrAt_emb_eq_after_last 11 t h (ix2 0 b)
  rw [after0_11] at e
  have hi : (cfg0.win 11).arr.view.emb (ix2 0 b) = ix2 0 b := funext fun d => Fin.ext (by match d with | ⟨0, _⟩ => rfl | ⟨1, _⟩ => rfl)
  have hj : (fun a => ⟨(ix2 0 b : S1x1024.Idx) a, h.lt_size (ix2 0 b) a⟩ : S1x1024.Idx) = ix2 0 b := funext fun d => Fin.ext (by match d with | ⟨0, _⟩ => rfl | ⟨1, _⟩ => rfl)
  rw [hi] at e
  refine e.trans ((cast_eq _ _).trans ?_)
  exact congrArg (outsAt0 (F := Ideal) m c t.val t.isLt).2.2.2.2.1 hj

/-- What the last point leaves of it is the sum over all rows. -/
theorem total11 (t : Fin cfg0.N) (h : (cfg0.win 11).WholeAt t) (ht : t.val + 1 = 32) (b : Fin 1024) :
    ((dats m 0 c).arrAt 11 cfg0.N (ix2 0 b) : EReal) = ∑ a : Fin 16384, up m c a b * nrm m c a b := by
  rw [last11 m c t h b, kept11 m c b t.val t.isLt, ht, firstOf_all 512 32 rfl]

/-- What the run leaves in the gain's gradient. -/
theorem arr11 (b : Fin 1024) : ((dats m 0 c).arrAt 11 cfg0.N (ix2 0 b) : EReal) = ∑ a : Fin 16384, up m c a b * nrm m c a b :=
  total11 m c ⟨31, last_lt⟩ once11 rfl b

/-- Every point leaves the sum of the bias's gradient over the rows up to its own. -/
theorem kept12 (q : Fin 1024) : ∀ (n : ℕ) (hn : n < cfg0.N), ((outsAt0 (F := Ideal) m c n hn).2.2.2.2.2 (ix2 0 q) : EReal) = firstOf 512 (fun a => up m c a q) (n + 1)
  | 0, hn => by
    rw [left12A m c ⟨0, hn⟩ rfl, firstOf_one]
    exact rows12 m c ⟨0, hn⟩ q
  | n + 1, hn => by
    rw [left12B m c ⟨n + 1, hn⟩ (Nat.succ_ne_zero n), firstOf_succ, ← kept12 q n (Nat.lt_of_succ_lt hn)]
    exact more12 m c ⟨n + 1, hn⟩ _ q

/-- The last point writes the whole of the bias's gradient, alone. -/
theorem once12 : (cfg0.win 12).WholeAt ⟨31, last_lt⟩ := by decide +kernel

/-- The bias's gradient is what the last point leaves of it. -/
theorem last12 (t : Fin cfg0.N) (h : (cfg0.win 12).WholeAt t) (b : Fin 1024) :
    ((dats m 0 c).arrAt 12 cfg0.N (ix2 0 b) : EReal) = (outsAt0 (F := Ideal) m c t.val t.isLt).2.2.2.2.2 (ix2 0 b) := by
  have e := (dats m 0 c).arrAt_emb_eq_after_last 12 t h (ix2 0 b)
  rw [after0_12] at e
  have hi : (cfg0.win 12).arr.view.emb (ix2 0 b) = ix2 0 b := funext fun d => Fin.ext (by match d with | ⟨0, _⟩ => rfl | ⟨1, _⟩ => rfl)
  have hj : (fun a => ⟨(ix2 0 b : S1x1024.Idx) a, h.lt_size (ix2 0 b) a⟩ : S1x1024.Idx) = ix2 0 b := funext fun d => Fin.ext (by match d with | ⟨0, _⟩ => rfl | ⟨1, _⟩ => rfl)
  rw [hi] at e
  refine e.trans ((cast_eq _ _).trans ?_)
  exact congrArg (outsAt0 (F := Ideal) m c t.val t.isLt).2.2.2.2.2 hj

/-- What the last point leaves of it is the sum over all rows. -/
theorem total12 (t : Fin cfg0.N) (h : (cfg0.win 12).WholeAt t) (ht : t.val + 1 = 32) (b : Fin 1024) :
    ((dats m 0 c).arrAt 12 cfg0.N (ix2 0 b) : EReal) = ∑ a : Fin 16384, up m c a b := by
  rw [last12 m c t h b, kept12 m c b t.val t.isLt, ht, firstOf_all 512 32 rfl]

/-- What the run leaves in the bias's gradient. -/
theorem arr12 (b : Fin 1024) : ((dats m 0 c).arrAt 12 cfg0.N (ix2 0 b) : EReal) = ∑ a : Fin 16384, up m c a b :=
  total12 m c ⟨31, last_lt⟩ once12 rfl b

end Cert.Kernel17Ideal.Pb

end
-- ==== Proof.NormRef.lean ====
module

public import proofs.«01_k».proof.Proof.NormBwd
public import proofs.«01_k».proof.Proof.Gen.Reference18Ideal.Read
public import Idealize.ShloMosaic.Lib.Pointwise

@[expose] public section

/-! The gradient of a layer norm of 16384 rows as the references compute it: by the chain rule, one stage after another, through the
variance and the mean. `D` is the gradient past the gain, `Y` the norm's input. -/

set_option maxRecDepth 16384

noncomputable section

namespace Cert.NormRef

open Idealize.ShloMosaic Idealize.ShloMosaic.TcCoe Cert.Reference18Ideal Cert.Reference18Ideal.Gen Cert.Reference18Ideal.Read Idealize.ShloMosaic.Pointwise Cert.Norm

variable (D Y : FVec Ideal S16384x1024 .f32) (g : FVec Ideal S1x1024 .f32)

/-- The row's mean. -/
theorem m11 (p : Fin 16384) : (val_main_v11 (F := Ideal) Y (ix2 p 0) : EReal) = mean (fun k => Y (ix2 p k)) := by
  unfold mean
  unfold val_main_v11 val_main_v10 val_main_cst_2 val_main_v9 val_main_v8 val_main_cst_1
  pointwise
  try rfl

/-- The row less its mean. -/
theorem c13 (p : Fin 16384) (q : Fin 1024) : (val_main_v13 (F := Ideal) Y (ix2 p q) : EReal) = Y (ix2 p q) - mean (fun k => Y (ix2 p k)) := by
  rw [← m11]
  unfold val_main_v13 val_main_v12
  pointwise
  try rfl

/-- The row less its mean. -/
theorem c22 (p : Fin 16384) (q : Fin 1024) : (val_main_v22 (F := Ideal) Y (ix2 p q) : EReal) = Y (ix2 p q) - mean (fun k => Y (ix2 p k)) := by
  rw [← m11]
  unfold val_main_v22 val_main_v21
  pointwise
  try rfl

/-- The row's variance. -/
theorem v20 (p : Fin 16384) : (val_main_v20 (F := Ideal) Y (ix2 p 0) : EReal) = var (fun k => Y (ix2 p k)) := by
  unfold var
  simp only [← c13 Y p]
  unfold mean
  unfold val_main_v20 val_main_v19 val_main_cst_5 val_main_v18 val_main_v17 val_main_cst_4 val_main_v14
  pointwise
  try rfl

/-- The row's variance, kept above zero. -/
theorem v24 (p : Fin 16384) : (val_main_v24 (F := Ideal) Y (ix2 p 0) : EReal) = var (fun k => Y (ix2 p k)) + eps := by
  rw [← v20]
  unfold val_main_v24 val_main_v23 val_main_cst_6
  pointwise
  try rfl

/-- Its inverse root. -/
theorem r25 (p : Fin 16384) : (val_main_v25 (F := Ideal) Y (ix2 p 0) : EReal) = rs (fun k => Y (ix2 p k)) := by
  unfold rs
  rw [← v24]
  unfold val_main_v25
  pointwise
  try rfl

/-- The root's derivative. -/
theorem h28 (p : Fin 16384) : (val_main_v28 (F := Ideal) Y (ix2 p 0) : EReal) = nhalf * Ideal.div (rs (fun k => Y (ix2 p k))) (var (fun k => Y (ix2 p k)) + eps) := by
  rw [← v24, ← r25]
  unfold val_main_v28 val_main_v27 val_main_cst_7 val_main_v26
  pointwise
  try rfl

/-- The row, normalised. -/
theorem x30 (p : Fin 16384) (q : Fin 1024) : (val_main_v30 (F := Ideal) Y (ix2 p q) : EReal) = xh (fun k => Y (ix2 p k)) q := by
  unfold xh
  rw [← c22, ← r25]
  unfold val_main_v30 val_main_v29
  pointwise
  try rfl

/-- The columns' sums. -/
def colSum : FVec Ideal S1x1024 .f32 := shapeCast _ (Host.reduceAdd (F := Ideal) D (val_main_cst_8 (F := Ideal)) reducesTo_S16384x1024_S1024_d0 h_S_) shapeCasts_S1024_S1x1024

/-- A column's sum. -/
theorem colSum_at (q : Fin 1024) : (colSum D (ix2 0 q) : EReal) = ∑ a : Fin 16384, (D (ix2 a q) : EReal) := by
  unfold colSum val_main_cst_8
  pointwise
  try rfl

/-- The columns' sums against the normalised rows. -/
theorem colDot_at (q : Fin 1024) : (colSum (mulf (F := Ideal) (val_main_v30 (F := Ideal) Y) D) (ix2 0 q) : EReal) = ∑ a : Fin 16384, xh (fun k => Y (ix2 a k)) q * (D (ix2 a q) : EReal) :=
  (colSum_at _ q).trans (Finset.sum_congr rfl fun a _ => congrArg (fun x : EReal => x * D (ix2 a q)) (x30 Y a q))

/-- A gradient times the gain. -/
theorem gained_at (p : Fin 16384) (q : Fin 1024) : (mulf (F := Ideal) D (val_main_v40 (F := Ideal) g) (ix2 p q) : EReal) = D (ix2 p q) * g (ix2 0 q) := by
  unfold val_main_v40
  pointwise
  try rfl

/-- The gradient against the row. -/
def against : FVec Ideal S16384x1 .f32 := shapeCast _ (Host.reduceAdd (F := Ideal) (mulf (F := Ideal) (val_main_v22 (F := Ideal) Y) D) (val_main_cst_10 (F := Ideal)) reducesTo_S16384x1024_S16384_d1 h_S_) shapeCasts_S16384_S16384x1

/-- The gradient times the root. -/
def scaled : FVec Ideal S16384x1024 .f32 := mulf (F := Ideal) D (val_main_v45 (F := Ideal) Y)

/-- Its sum, negated. -/
def scaledSum : FVec Ideal S16384x1 .f32 := shapeCast _ (Host.reduceAdd (F := Ideal) (Host.negf (F := Ideal) (scaled D Y)) (val_main_cst_11 (F := Ideal)) reducesTo_S16384x1024_S16384_d1 h_S_) shapeCasts_S16384_S16384x1

/-- The variance's gradient. -/
def varGrad : FVec Ideal S16384x1 .f32 := Host.divf (F := Ideal) (mulf (F := Ideal) (against D Y) (val_main_v28 (F := Ideal) Y)) (val_main_v51 (F := Ideal))

/-- The variance's gradient, over the row. -/
def varRow : FVec Ideal S16384x1024 .f32 := broadcastInDim S16384x1024 ![0] bcast_S16384_S16384x1024_0 (Host.reduceAdd (F := Ideal) (varGrad D Y) (val_main_cst_13 (F := Ideal)) reducesTo_S16384x1_S16384_d1 h_S_)

/-- The gradient through the variance. -/
def thruVar : FVec Ideal S16384x1024 .f32 := mulf (F := Ideal) (varRow D Y) (val_main_v16 (F := Ideal) Y)

/-- Its sum, negated. -/
def thruSum : FVec Ideal S16384x1 .f32 := shapeCast _ (Host.reduceAdd (F := Ideal) (Host.negf (F := Ideal) (thruVar D Y)) (val_main_cst_14 (F := Ideal)) reducesTo_S16384x1024_S16384_d1 h_S_) shapeCasts_S16384_S16384x1

/-- The mean's gradient. -/
def meanGrad : FVec Ideal S16384x1 .f32 := Host.divf (F := Ideal) (addf (F := Ideal) (scaledSum D Y) (thruSum D Y)) (val_main_v61 (F := Ideal))

/-- The mean's gradient, over the row. -/
def meanRow : FVec Ideal S16384x1024 .f32 := broadcastInDim S16384x1024 ![0] bcast_S16384_S16384x1024_0 (Host.reduceAdd (F := Ideal) (meanGrad D Y) (val_main_cst_16 (F := Ideal)) reducesTo_S16384x1_S16384_d1 h_S_)

/-- The row's gradient. -/
def back : FVec Ideal S16384x1024 .f32 := addf (F := Ideal) (addf (F := Ideal) (scaled D Y) (thruVar D Y)) (meanRow D Y)

/-- The gradient against a row. -/
theorem against_at (p : Fin 16384) : (against D Y (ix2 p 0) : EReal) = ∑ k : Fin 1024, (Y (ix2 p k) - mean (fun k => Y (ix2 p k))) * (D (ix2 p k) : EReal) := by
  simp only [← c22 Y p]
  unfold against val_main_cst_10
  pointwise
  try rfl

/-- A row's gradient times its root. -/
theorem scaled_at (p : Fin 16384) (q : Fin 1024) : (scaled D Y (ix2 p q) : EReal) = (D (ix2 p q) : EReal) * rs (fun k => Y (ix2 p k)) := by
  rw [← r25]
  unfold scaled val_main_v45
  pointwise
  try rfl

/-- Its sum over the row, negated. -/
theorem scaledSum_at (p : Fin 16384) : (scaledSum D Y (ix2 p 0) : EReal) = ∑ k : Fin 1024, -((D (ix2 p k) : EReal) * rs (fun k => Y (ix2 p k))) := by
  simp only [← scaled_at D Y p]
  unfold scaledSum val_main_cst_11
  pointwise
  try rfl

/-- The gradient of a row's variance. -/
theorem varGrad_at (p : Fin 16384) : (varGrad D Y (ix2 p 0) : EReal) = dvar (fun k => (D (ix2 p k) : EReal)) (fun k => Y (ix2 p k)) := by
  unfold dvar
  rw [← against_at, ← h28]
  unfold varGrad val_main_v51 val_main_cst_12
  pointwise
  try rfl

/-- The same at every place of the row. -/
theorem varRow_at (p : Fin 16384) (q : Fin 1024) : (varRow D Y (ix2 p q) : EReal) = dvar (fun k => (D (ix2 p k) : EReal)) (fun k => Y (ix2 p k)) := by
  rw [← varGrad_at]
  unfold varRow val_main_cst_13
  pointwise
  try exact Fin.sum_univ_one _

/-- A row's gradient through its variance. -/
theorem thruVar_at (p : Fin 16384) (q : Fin 1024) : (thruVar D Y (ix2 p q) : EReal) = thru (fun k => (D (ix2 p k) : EReal)) (fun k => Y (ix2 p k)) q := by
  unfold thru
  rw [← varRow_at D Y p q, ← c13]
  unfold thruVar val_main_v16 val_main_v15 val_main_cst_3
  pointwise
  try rfl

/-- Its sum over the row, negated. -/
theorem thruSum_at (p : Fin 16384) : (thruSum D Y (ix2 p 0) : EReal) = ∑ k : Fin 1024, -thru (fun k => (D (ix2 p k) : EReal)) (fun k => Y (ix2 p k)) k := by
  simp only [← thruVar_at D Y p]
  unfold thruSum val_main_cst_14
  pointwise
  try rfl

/-- The gradient of a row's mean. -/
theorem meanGrad_at (p : Fin 16384) : (meanGrad D Y (ix2 p 0) : EReal) = Ideal.div ((∑ k : Fin 1024, -((D (ix2 p k) : EReal) * rs (fun k => Y (ix2 p k)))) + ∑ k : Fin 1024, -thru (fun k => (D (ix2 p k) : EReal)) (fun k => Y (ix2 p k)) k) len := by
  rw [← scaledSum_at, ← thruSum_at]
  unfold meanGrad val_main_v61 val_main_cst_15
  pointwise
  try rfl

/-- The same at every place of the row. -/
theorem meanRow_at (p : Fin 16384) (q : Fin 1024) : (meanRow D Y (ix2 p q) : EReal) = Ideal.div ((∑ k : Fin 1024, -((D (ix2 p k) : EReal) * rs (fun k => Y (ix2 p k)))) + ∑ k : Fin 1024, -thru (fun k => (D (ix2 p k) : EReal)) (fun k => Y (ix2 p k)) k) len := by
  rw [← meanGrad_at]
  unfold meanRow val_main_cst_16
  pointwise
  try exact Fin.sum_univ_one _

/-- A row's gradient is the chain rule's. -/
theorem back_at (p : Fin 16384) (q : Fin 1024) : (back D Y (ix2 p q) : EReal) = chain (fun k => (D (ix2 p k) : EReal)) (fun k => Y (ix2 p k)) q := by
  unfold chain
  rw [← scaled_at, ← thruVar_at, ← meanRow_at D Y p q]
  unfold back
  pointwise
  try rfl

end Cert.NormRef

end
-- ==== Proof.PleLnBwdEq.lean ====
module

public import proofs.«01_k».proof.Defs
public import proofs.«01_k».proof.Proof.PleLnBwd
public import proofs.«01_k».proof.Proof.NormRef
public import proofs.«01_k».proof.Proof.Gen.Reference17Ideal.Run
public import proofs.«01_k».proof.Proof.Gen.Reference17Ideal.Read
public import proofs.«01_k».proof.Proof.Bounds
public import proofs.«01_k».proof.Proof.Gen.Pre_finite_embedding_grads

@[expose] public section

/-! The reference of the gated embedding's gradient through the norm, and that both compute the same. -/

set_option maxRecDepth 16384

noncomputable section

namespace Cert.Reference17Ideal.Pb

open Idealize.ShloMosaic Idealize.ShloMosaic.TcCoe Idealize.SL.Sem Cert.Reference17Ideal.Gen Cert.Reference17Ideal.Read Idealize.ShloMosaic.Pointwise Cert.Norm Cert.Dv
open Cert.Kernel17Ideal.Pb (gate slope grd)
open Cert.NormRef (colSum_at colDot_at gained_at back_at)
open Cert.KernelIdeal.Dv (real_of_cmp real_mul)

/-- A sigmoid is real whatever it is taken of. -/
theorem real_logistic (x : EReal) : IsReal (Ideal.logistic x) := by
  induction x with
  | bot => exact ⟨0, by rw [Ideal.logistic_bot]; rfl⟩
  | top => exact ⟨1, by rw [Ideal.logistic_top]; rfl⟩
  | coe r => exact ⟨_, Ideal.logistic_coe _⟩

/-- One less a real is real. -/
theorem real_rest {x : EReal} (h : IsReal x) : IsReal (1 - x) := by
  obtain ⟨r, rfl⟩ := h
  exact ⟨1 - r, by rw [← EReal.coe_one, ← EReal.coe_sub]⟩

/-- The gradient at the gate's input is real where what it is made of is. -/
theorem real_slope {d x : Fin 1024 → EReal} {w : Fin 1024 → Fin 1024 → EReal} {e : Fin 256 → EReal} {u : Fin 256 → Fin 1024 → EReal} (hd : ∀ k, IsReal (d k)) (he : ∀ k, IsReal (e k)) (hu : ∀ j k, IsReal (u j k)) (q : Fin 1024) : IsReal (slope d x w e u q) :=
  real_mul (real_mul (real_mul (hd q) (IsReal.sum _ _ fun k => real_mul (he k) (hu k q))) (real_logistic _)) (real_rest (real_logistic _))

/-- A gradient before the norm is real where what it is made of is. -/
theorem real_grd {d x : Fin 1024 → EReal} {w : Fin 1024 → Fin 1024 → EReal} {e : Fin 256 → EReal} {u : Fin 256 → Fin 1024 → EReal} (hd : ∀ k, IsReal (d k)) (hw : ∀ j k, IsReal (w j k)) (he : ∀ k, IsReal (e k)) (hu : ∀ j k, IsReal (u j k)) (q : Fin 1024) : IsReal (grd d x w e u q) :=
  (hd q).add (IsReal.sum _ _ fun k => real_mul (real_slope hd he hu k) (hw q k))

section Entry

variable (x0 : (⟨S16384x1024, .f32⟩ : BufTy).Contents (Elt Ideal)) (x1 : (⟨S16384x1024, .bf16⟩ : BufTy).Contents (Elt Ideal)) (x2 : (⟨S16384x256, .f32⟩ : BufTy).Contents (Elt Ideal)) (x3 : (⟨S1024x1024, .bf16⟩ : BufTy).Contents (Elt Ideal)) (x4 : (⟨S256x1024, .bf16⟩ : BufTy).Contents (Elt Ideal)) (x5 : (⟨S16384x1024, .f32⟩ : BufTy).Contents (Elt Ideal)) (x6 : (⟨S1x1024, .f32⟩ : BufTy).Contents (Elt Ideal)) (p : Fin 16384) (q : Fin 1024)

/-- The reference's gate. -/
theorem gated : (val_main_v10 (F := Ideal) x1 x3 (ix2 p q) : EReal) = gate (fun k => x1 (ix2 p k)) (fun j k => x3 (ix2 j k)) q := by
  unfold gate val_main_v10 val_main_v9 val_main_cst_0 val_main_v8 val_main_v7 val_main_cst val_main_v6 val_main_v5 val_main_v2 val_main_v1 val_main_v0
  pointwise
  try rfl

/-- Taking the incoming gradient at its own shape changes nothing. -/
theorem same : val_main_v17 (F := Ideal) x0 = x0 := by
  funext i
  refine (val_main_v17_apply x0 i).trans (congrArg x0 ?_)
  have h0 : (i 0).val < 16384 := (i 0).isLt
  have h1 : (i 1).val < 1024 := (i 1).isLt
  refine Eq.trans ?_ (ValueIdx.eq_ix2 i).symm
  refine Eq.trans (ValueIdx.eq_ix2 _) ?_
  exact congrArg₂ (fun (a : Fin 16384) (b : Fin 1024) => (ix2 a b : S16384x1024.Idx)) (Fin.ext (show ((i 0).val * 1024 + (i 1).val) / 1024 = (i 0).val by omega)) (Fin.ext (show ((i 0).val * 1024 + (i 1).val) % 1024 = (i 1).val by omega))

/-- The projected embedding. -/
theorem projected : (val_main_v4 (F := Ideal) x2 x4 (ix2 p q) : EReal) = ∑ k : Fin 256, x2 (ix2 p k) * x4 (ix2 k q) := by
  unfold val_main_v4 val_main_v3
  pointwise
  try rfl

/-- The reference's gradient at the gate's input. -/
theorem sloped : (val_main_v20 (F := Ideal) x0 x1 x2 x3 x4 (ix2 p q) : EReal) = slope (fun k => x0 (ix2 p k)) (fun k => x1 (ix2 p k)) (fun j k => x3 (ix2 j k)) (fun k => x2 (ix2 p k)) (fun j k => x4 (ix2 j k)) q := by
  unfold Cert.Kernel17Ideal.Pb.slope
  rw [← gated, ← projected, ← Ideal.ofBits_one_f32, mul_assoc]
  unfold val_main_v20 val_main_v19 val_main_v13 val_main_v12 val_main_v11 val_main_cst_1
  rw [same]
  generalize val_main_v10 (F := Ideal) x1 x3 = s
  generalize val_main_v4 (F := Ideal) x2 x4 = e
  pointwise
  try rfl

/-- The reference's gradient at the projected embedding. -/
theorem passed : (val_main_v18 (F := Ideal) x0 x1 x3 (ix2 p q) : EReal) = x0 (ix2 p q) * gate (fun k => x1 (ix2 p k)) (fun j k => x3 (ix2 j k)) q := by
  rw [← gated, mul_comm]
  unfold val_main_v18
  rw [same]
  rfl

/-- The reference's gradients before the norm. -/
theorem entries : (val_main_v23 (F := Ideal) x0 x1 x2 x3 x4 (ix2 p q) : EReal) = grd (fun k => x0 (ix2 p k)) (fun k => x1 (ix2 p k)) (fun j k => x3 (ix2 j k)) (fun k => x2 (ix2 p k)) (fun j k => x4 (ix2 j k)) q := by
  unfold Cert.Kernel17Ideal.Pb.grd
  simp only [← sloped]
  unfold val_main_v23 val_main_v22 val_main_v21 val_main_v1
  rw [show val_main_v16 (F := Ideal) x0 = x0 from same x0]
  generalize val_main_v20 (F := Ideal) x0 x1 x2 x3 x4 = s
  pointwise
  try rfl

/-- The norm's shift gathers the gradients. -/
theorem b53 : (val_main_v53 (F := Ideal) x0 x1 x2 x3 x4 (ix2 0 q) : EReal) = ∑ a : Fin 16384, (val_main_v23 (F := Ideal) x0 x1 x2 x3 x4 (ix2 a q) : EReal) :=
  colSum_at (val_main_v23 (F := Ideal) x0 x1 x2 x3 x4) q

/-- The norm's gain gathers the gradients against the normalised rows. -/
theorem g56 : (val_main_v56 (F := Ideal) x0 x1 x2 x3 x4 x5 (ix2 0 q) : EReal) = ∑ a : Fin 16384, xh (fun k => x5 (ix2 a k)) q * (val_main_v23 (F := Ideal) x0 x1 x2 x3 x4 (ix2 a q) : EReal) :=
  colDot_at (val_main_v23 (F := Ideal) x0 x1 x2 x3 x4) x5 q

/-- The gradient past the gain. -/
theorem d58 : (val_main_v58 (F := Ideal) x0 x1 x2 x3 x4 x6 (ix2 p q) : EReal) = (val_main_v23 (F := Ideal) x0 x1 x2 x3 x4 (ix2 p q) : EReal) * x6 (ix2 0 q) :=
  gained_at (val_main_v23 (F := Ideal) x0 x1 x2 x3 x4) x6 p q

/-- The gradient through the norm. -/
theorem o82 : (val_main_v82 (F := Ideal) x0 x1 x2 x3 x4 x5 x6 (ix2 p q) : EReal) = chain (fun k => (val_main_v58 (F := Ideal) x0 x1 x2 x3 x4 x6 (ix2 p k) : EReal)) (fun k => x5 (ix2 p k)) q :=
  back_at (val_main_v58 (F := Ideal) x0 x1 x2 x3 x4 x6) x5 p q

end Entry

/-- What the precondition says: what reaches the norm's gradient is real. -/
structure Reals (m : (l : Loc Cert.Kernel17Ideal.nD Cert.Kernel17Ideal.τ Cert.Kernel17Ideal.sig) → Buf (Elt Ideal) l) (c : Dev Cert.Kernel17Ideal.nD) : Prop where
  dx : ∀ a k, IsReal (Cert.Kernel17Ideal.Pb.Dx m c (ix2 a k) : EReal)
  pe : ∀ a k, IsReal (Cert.Kernel17Ideal.Pb.Pe m c (ix2 a k) : EReal)
  wg : ∀ j k, IsReal (Cert.Kernel17Ideal.Pb.Wg m c (ix2 j k) : EReal)
  wp : ∀ j k, IsReal (Cert.Kernel17Ideal.Pb.Wp m c (ix2 j k) : EReal)
  gn : ∀ k, IsReal (Cert.Kernel17Ideal.Pb.Gn m c (ix2 0 k) : EReal)

/-- The precondition gives it. -/
theorem reals (m : (l : Loc Cert.Kernel17Ideal.nD Cert.Kernel17Ideal.τ Cert.Kernel17Ideal.sig) → Buf (Elt Ideal) l)
    (H : Cert.Pre_Kernel17Ideal_finite_embedding_grads (hPre_finite_embedding_grads := Cert.Pre_finite_embedding_grads.Gen.facts) m) (c : Dev Cert.Kernel17Ideal.nD) : Reals m c := by
  obtain ⟨h0, h1, h2, h3, h4⟩ := H c
  have e0 : ∀ a k, IsReal (Cert.Kernel17Ideal.Pb.Dx m c (ix2 a k) : EReal) := by
    intro a k
    have e := congrFun h0 (ix2 a k)
    simp only [Cert.Pre_finite_embedding_grads.fn] at e
    refine real_of_cmp (Eq.trans ?_ e)
    pointwise
    rfl
  have e1 : ∀ a k, IsReal (Cert.Kernel17Ideal.Pb.Pe m c (ix2 a k) : EReal) := by
    intro a k
    have e := congrFun h1 (ix2 a k)
    simp only [Cert.Pre_finite_embedding_grads.fn] at e
    refine real_of_cmp (Eq.trans ?_ e)
    pointwise
    rfl
  have e2 : ∀ a k, IsReal (Cert.Kernel17Ideal.Pb.Wg m c (ix2 a k) : EReal) := by
    intro a k
    have e := congrFun h2 (ix2 a k)
    simp only [Cert.Pre_finite_embedding_grads.fn] at e
    refine real_of_cmp (Eq.trans ?_ e)
    pointwise
    rfl
  have e3 : ∀ a k, IsReal (Cert.Kernel17Ideal.Pb.Wp m c (ix2 a k) : EReal) := by
    intro a k
    have e := congrFun h3 (ix2 a k)
    simp only [Cert.Pre_finite_embedding_grads.fn] at e
    refine real_of_cmp (Eq.trans ?_ e)
    pointwise
    rfl
  have e4 : ∀ k, IsReal (Cert.Kernel17Ideal.Pb.Gn m c (ix2 0 k) : EReal) := by
    intro k
    have e := congrFun h4 (ix2 0 k)
    simp only [Cert.Pre_finite_embedding_grads.fn] at e
    refine real_of_cmp (Eq.trans ?_ e)
    pointwise
    rfl
  exact ⟨e0, e1, e2, e3, e4⟩

/-- The gradient past the gain is the kernel's. -/
theorem d_eq (m : (l : Loc Cert.Kernel17Ideal.nD Cert.Kernel17Ideal.τ Cert.Kernel17Ideal.sig) → Buf (Elt Ideal) l) (c : Dev Cert.Kernel17Ideal.nD) (p : Fin 16384) (k : Fin 1024) :
    (val_main_v58 (F := Ideal) (Cert.Kernel17Ideal.Pb.Dx m c) (Cert.Kernel17Ideal.Pb.Xb m c) (Cert.Kernel17Ideal.Pb.Pe m c) (Cert.Kernel17Ideal.Pb.Wg m c) (Cert.Kernel17Ideal.Pb.Wp m c) (Cert.Kernel17Ideal.Pb.Gn m c) (ix2 p k) : EReal) = Cert.Kernel17Ideal.Pb.up m c p k * Cert.Kernel17Ideal.Pb.Gn m c (ix2 0 k) := by
  rw [d58, entries]
  rfl

/-- Where the precondition holds, the reference's gradient is the kernel's. -/
theorem down_eq (m : (l : Loc Cert.Kernel17Ideal.nD Cert.Kernel17Ideal.τ Cert.Kernel17Ideal.sig) → Buf (Elt Ideal) l) (c : Dev Cert.Kernel17Ideal.nD) (H : Reals m c) (p : Fin 16384) (q : Fin 1024) :
    (val_main_v82 (F := Ideal) (Cert.Kernel17Ideal.Pb.Dx m c) (Cert.Kernel17Ideal.Pb.Xb m c) (Cert.Kernel17Ideal.Pb.Pe m c) (Cert.Kernel17Ideal.Pb.Wg m c) (Cert.Kernel17Ideal.Pb.Wp m c) (Cert.Kernel17Ideal.Pb.Pre m c) (Cert.Kernel17Ideal.Pb.Gn m c) (ix2 p q) : EReal) = Cert.Kernel17Ideal.Pb.down m c p q := by
  rw [o82]
  simp only [d_eq]
  exact chain_eq _ _ (fun k => real_mul (real_grd (H.dx p) H.wg (H.pe p) H.wp k) (H.gn k)) q

/-- Result 1 is the kernel's. -/
theorem eqOut7 (m : (l : Loc Cert.Kernel17Ideal.nD Cert.Kernel17Ideal.τ Cert.Kernel17Ideal.sig) → Buf (Elt Ideal) l) (c : Dev Cert.Kernel17Ideal.nD) {x0 : (⟨S16384x1024, .f32⟩ : BufTy).Contents (Elt Ideal)} {x1 : (⟨S16384x1024, .bf16⟩ : BufTy).Contents (Elt Ideal)} {x2 : (⟨S16384x256, .f32⟩ : BufTy).Contents (Elt Ideal)} {x3 : (⟨S1024x1024, .bf16⟩ : BufTy).Contents (Elt Ideal)} {x4 : (⟨S256x1024, .bf16⟩ : BufTy).Contents (Elt Ideal)}
    (e0 : x0 = Cert.Kernel17Ideal.Pb.Dx m c) (e1 : x1 = Cert.Kernel17Ideal.Pb.Xb m c) (e2 : x2 = Cert.Kernel17Ideal.Pb.Pe m c) (e3 : x3 = Cert.Kernel17Ideal.Pb.Wg m c) (e4 : x4 = Cert.Kernel17Ideal.Pb.Wp m c) :
    val_main_v83 (F := Ideal) x0 x1 x2 x3 x4 = (Cert.Kernel17Ideal.Gen.dats (F := Ideal) m 0 c).arrAt 7 Cert.Kernel17Ideal.cfg0.N := by
  subst e0 e1 e2 e3 e4
  funext i
  refine (congrArg _ (ValueIdx.eq_ix2 i)).trans (Eq.trans ?_ (congrArg _ (ValueIdx.eq_ix2 i).symm))
  exact (sloped _ _ _ _ _ (i 0) (i 1)).trans (Cert.Kernel17Ideal.Pb.arr7 m c (i 0) (i 1)).symm

/-- Result 2 is the kernel's. -/
theorem eqOut8 (m : (l : Loc Cert.Kernel17Ideal.nD Cert.Kernel17Ideal.τ Cert.Kernel17Ideal.sig) → Buf (Elt Ideal) l) (c : Dev Cert.Kernel17Ideal.nD) {x0 : (⟨S16384x1024, .f32⟩ : BufTy).Contents (Elt Ideal)} {x1 : (⟨S16384x1024, .bf16⟩ : BufTy).Contents (Elt Ideal)} {x3 : (⟨S1024x1024, .bf16⟩ : BufTy).Contents (Elt Ideal)}
    (e0 : x0 = Cert.Kernel17Ideal.Pb.Dx m c) (e1 : x1 = Cert.Kernel17Ideal.Pb.Xb m c) (e3 : x3 = Cert.Kernel17Ideal.Pb.Wg m c) :
    val_main_v84 (F := Ideal) x0 x1 x3 = (Cert.Kernel17Ideal.Gen.dats (F := Ideal) m 0 c).arrAt 8 Cert.Kernel17Ideal.cfg0.N := by
  subst e0 e1 e3
  funext i
  refine (congrArg _ (ValueIdx.eq_ix2 i)).trans (Eq.trans ?_ (congrArg _ (ValueIdx.eq_ix2 i).symm))
  exact (passed _ _ _ (i 0) (i 1)).trans (Cert.Kernel17Ideal.Pb.arr8 m c (i 0) (i 1)).symm

/-- Result 3 is the kernel's. -/
theorem eqOut9 (m : (l : Loc Cert.Kernel17Ideal.nD Cert.Kernel17Ideal.τ Cert.Kernel17Ideal.sig) → Buf (Elt Ideal) l) (c : Dev Cert.Kernel17Ideal.nD) (H : Reals m c) {x0 : (⟨S16384x1024, .f32⟩ : BufTy).Contents (Elt Ideal)} {x1 : (⟨S16384x1024, .bf16⟩ : BufTy).Contents (Elt Ideal)} {x2 : (⟨S16384x256, .f32⟩ : BufTy).Contents (Elt Ideal)} {x3 : (⟨S1024x1024, .bf16⟩ : BufTy).Contents (Elt Ideal)} {x4 : (⟨S256x1024, .bf16⟩ : BufTy).Contents (Elt Ideal)} {x5 : (⟨S16384x1024, .f32⟩ : BufTy).Contents (Elt Ideal)} {x6 : (⟨S1x1024, .f32⟩ : BufTy).Contents (Elt Ideal)}
    (e0 : x0 = Cert.Kernel17Ideal.Pb.Dx m c) (e1 : x1 = Cert.Kernel17Ideal.Pb.Xb m c) (e2 : x2 = Cert.Kernel17Ideal.Pb.Pe m c) (e3 : x3 = Cert.Kernel17Ideal.Pb.Wg m c) (e4 : x4 = Cert.Kernel17Ideal.Pb.Wp m c) (e5 : x5 = Cert.Kernel17Ideal.Pb.Pre m c) (e6 : x6 = Cert.Kernel17Ideal.Pb.Gn m c) :
    val_main_v82 (F := Ideal) x0 x1 x2 x3 x4 x5 x6 = (Cert.Kernel17Ideal.Gen.dats (F := Ideal) m 0 c).arrAt 9 Cert.Kernel17Ideal.cfg0.N := by
  subst e0 e1 e2 e3 e4 e5 e6
  funext i
  refine (congrArg _ (ValueIdx.eq_ix2 i)).trans (Eq.trans ?_ (congrArg _ (ValueIdx.eq_ix2 i).symm))
  exact (down_eq m c H (i 0) (i 1)).trans (Cert.Kernel17Ideal.Pb.arr9 m c (i 0) (i 1)).symm

/-- Result 4 is the kernel's. -/
theorem eqOut10 (m : (l : Loc Cert.Kernel17Ideal.nD Cert.Kernel17Ideal.τ Cert.Kernel17Ideal.sig) → Buf (Elt Ideal) l) (c : Dev Cert.Kernel17Ideal.nD) (H : Reals m c) {x0 : (⟨S16384x1024, .f32⟩ : BufTy).Contents (Elt Ideal)} {x1 : (⟨S16384x1024, .bf16⟩ : BufTy).Contents (Elt Ideal)} {x2 : (⟨S16384x256, .f32⟩ : BufTy).Contents (Elt Ideal)} {x3 : (⟨S1024x1024, .bf16⟩ : BufTy).Contents (Elt Ideal)} {x4 : (⟨S256x1024, .bf16⟩ : BufTy).Contents (Elt Ideal)} {x5 : (⟨S16384x1024, .f32⟩ : BufTy).Contents (Elt Ideal)} {x6 : (⟨S1x1024, .f32⟩ : BufTy).Contents (Elt Ideal)}
    (e0 : x0 = Cert.Kernel17Ideal.Pb.Dx m c) (e1 : x1 = Cert.Kernel17Ideal.Pb.Xb m c) (e2 : x2 = Cert.Kernel17Ideal.Pb.Pe m c) (e3 : x3 = Cert.Kernel17Ideal.Pb.Wg m c) (e4 : x4 = Cert.Kernel17Ideal.Pb.Wp m c) (e5 : x5 = Cert.Kernel17Ideal.Pb.Pre m c) (e6 : x6 = Cert.Kernel17Ideal.Pb.Gn m c) :
    val_main_v85 (F := Ideal) x0 x1 x2 x3 x4 x5 x6 = (Cert.Kernel17Ideal.Gen.dats (F := Ideal) m 0 c).arrAt 10 Cert.Kernel17Ideal.cfg0.N := by
  subst e0 e1 e2 e3 e4 e5 e6
  funext i
  refine (congrArg _ (ValueIdx.eq_ix2 i)).trans (Eq.trans ?_ (congrArg _ (ValueIdx.eq_ix2 i).symm))
  exact (down_eq m c H (i 0) (i 1)).trans (Cert.Kernel17Ideal.Pb.arr10 m c (i 0) (i 1)).symm

/-- Result 5 is the kernel's. -/
theorem eqOut11 (m : (l : Loc Cert.Kernel17Ideal.nD Cert.Kernel17Ideal.τ Cert.Kernel17Ideal.sig) → Buf (Elt Ideal) l) (c : Dev Cert.Kernel17Ideal.nD) {x0 : (⟨S16384x1024, .f32⟩ : BufTy).Contents (Elt Ideal)} {x1 : (⟨S16384x1024, .bf16⟩ : BufTy).Contents (Elt Ideal)} {x2 : (⟨S16384x256, .f32⟩ : BufTy).Contents (Elt Ideal)} {x3 : (⟨S1024x1024, .bf16⟩ : BufTy).Contents (Elt Ideal)} {x4 : (⟨S256x1024, .bf16⟩ : BufTy).Contents (Elt Ideal)} {x5 : (⟨S16384x1024, .f32⟩ : BufTy).Contents (Elt Ideal)}
    (e0 : x0 = Cert.Kernel17Ideal.Pb.Dx m c) (e1 : x1 = Cert.Kernel17Ideal.Pb.Xb m c) (e2 : x2 = Cert.Kernel17Ideal.Pb.Pe m c) (e3 : x3 = Cert.Kernel17Ideal.Pb.Wg m c) (e4 : x4 = Cert.Kernel17Ideal.Pb.Wp m c) (e5 : x5 = Cert.Kernel17Ideal.Pb.Pre m c) :
    val_main_v56 (F := Ideal) x0 x1 x2 x3 x4 x5 = (Cert.Kernel17Ideal.Gen.dats (F := Ideal) m 0 c).arrAt 11 Cert.Kernel17Ideal.cfg0.N := by
  subst e0 e1 e2 e3 e4 e5
  funext i
  have hi : i = ix2 0 (i 1) := (ValueIdx.eq_ix2 i).trans (congrArg (fun a : Fin 1 => (ix2 a (i 1) : S1x1024.Idx)) (Subsingleton.elim (α := Fin 1) (i 0) 0))
  rw [hi]
  exact (g56 _ _ _ _ _ _ (i 1)).trans ((Finset.sum_congr rfl fun a _ => (congrArg (fun y : EReal => xh _ (i 1) * y) (entries _ _ _ _ _ a (i 1))).trans (mul_comm _ _)).trans (Cert.Kernel17Ideal.Pb.arr11 m c (i 1)).symm)

/-- Result 6 is the kernel's. -/
theorem eqOut12 (m : (l : Loc Cert.Kernel17Ideal.nD Cert.Kernel17Ideal.τ Cert.Kernel17Ideal.sig) → Buf (Elt Ideal) l) (c : Dev Cert.Kernel17Ideal.nD) {x0 : (⟨S16384x1024, .f32⟩ : BufTy).Contents (Elt Ideal)} {x1 : (⟨S16384x1024, .bf16⟩ : BufTy).Contents (Elt Ideal)} {x2 : (⟨S16384x256, .f32⟩ : BufTy).Contents (Elt Ideal)} {x3 : (⟨S1024x1024, .bf16⟩ : BufTy).Contents (Elt Ideal)} {x4 : (⟨S256x1024, .bf16⟩ : BufTy).Contents (Elt Ideal)}
    (e0 : x0 = Cert.Kernel17Ideal.Pb.Dx m c) (e1 : x1 = Cert.Kernel17Ideal.Pb.Xb m c) (e2 : x2 = Cert.Kernel17Ideal.Pb.Pe m c) (e3 : x3 = Cert.Kernel17Ideal.Pb.Wg m c) (e4 : x4 = Cert.Kernel17Ideal.Pb.Wp m c) :
    val_main_v53 (F := Ideal) x0 x1 x2 x3 x4 = (Cert.Kernel17Ideal.Gen.dats (F := Ideal) m 0 c).arrAt 12 Cert.Kernel17Ideal.cfg0.N := by
  subst e0 e1 e2 e3 e4
  funext i
  have hi : i = ix2 0 (i 1) := (ValueIdx.eq_ix2 i).trans (congrArg (fun a : Fin 1 => (ix2 a (i 1) : S1x1024.Idx)) (Subsingleton.elim (α := Fin 1) (i 0) 0))
  rw [hi]
  exact (b53 _ _ _ _ _ (i 1)).trans ((Finset.sum_congr rfl fun a _ => entries _ _ _ _ _ a (i 1)).trans (Cert.Kernel17Ideal.Pb.arr12 m c (i 1)).symm)

/-- The reference ends with its arguments unchanged and every counter at zero. -/
theorem frame : Cert.quiescent_Reference17Ideal (hReference17Ideal := Cert.Reference17Ideal.Gen.facts) := fun m ρ _ =>
  (θ_run Cert.Reference17Ideal.defs _ _).mono
    (fun r h => ⟨fun c => (h c).2.2.2.2.2.2, Idealize.ShloMosaic.sem_eq_zero_of_no_sems (by decide) r.2⟩) (Cert.Reference17Ideal.Value.run m ρ)

/-- Where the precondition holds, the kernel and the reference compute the same. -/
theorem values : Cert.algebraic_Kernel17Ideal_Reference17Ideal_pre_finite_embedding_grads (hKernel17Ideal := Cert.Kernel17Ideal.Gen.facts) (hReference17Ideal := Cert.Reference17Ideal.Gen.facts)
    (hPre_finite_embedding_grads := Cert.Pre_finite_embedding_grads.Gen.facts) := by
  intro m ρ m' ρ' hpre hag
  refine ⟨fun c => (Cert.Kernel17Ideal.Gen.dats (F := Ideal) m 0 c).arrAt 7 Cert.Kernel17Ideal.cfg0.N, fun c => (Cert.Kernel17Ideal.Gen.dats (F := Ideal) m 0 c).arrAt 8 Cert.Kernel17Ideal.cfg0.N, fun c => (Cert.Kernel17Ideal.Gen.dats (F := Ideal) m 0 c).arrAt 9 Cert.Kernel17Ideal.cfg0.N, fun c => (Cert.Kernel17Ideal.Gen.dats (F := Ideal) m 0 c).arrAt 10 Cert.Kernel17Ideal.cfg0.N, fun c => (Cert.Kernel17Ideal.Gen.dats (F := Ideal) m 0 c).arrAt 11 Cert.Kernel17Ideal.cfg0.N, fun c => (Cert.Kernel17Ideal.Gen.dats (F := Ideal) m 0 c).arrAt 12 Cert.Kernel17Ideal.cfg0.N, (θ_run _ _ _).mono (fun _ h c => h c) (Cert.Kernel17Ideal.Value.run_blocks (F := Ideal) m ρ),
    (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference17Ideal.Value.run (F := Ideal) m' ρ')⟩
  · obtain ⟨e0, e1, e2, e3, e4, e5, e6⟩ := hag c
    exact (val_main_v83_eq (F := Ideal) _ _ _ _ _).trans (eqOut7 m c e0 e1 e2 e3 e4)
  · obtain ⟨e0, e1, e2, e3, e4, e5, e6⟩ := hag c
    exact (val_main_v84_eq (F := Ideal) _ _ _).trans (eqOut8 m c e0 e1 e3)
  · obtain ⟨e0, e1, e2, e3, e4, e5, e6⟩ := hag c
    exact (val_main_v82_eq (F := Ideal) _ _).trans (eqOut9 m c (reals m hpre c) e0 e1 e2 e3 e4 e5 e6)
  · obtain ⟨e0, e1, e2, e3, e4, e5, e6⟩ := hag c
    exact (val_main_v85_eq (F := Ideal) _ _).trans (eqOut10 m c (reals m hpre c) e0 e1 e2 e3 e4 e5 e6)
  · obtain ⟨e0, e1, e2, e3, e4, e5, e6⟩ := hag c
    exact (val_main_v56_eq (F := Ideal) _ _ _ _ _ _).trans (eqOut11 m c e0 e1 e2 e3 e4 e5)
  · obtain ⟨e0, e1, e2, e3, e4, e5, e6⟩ := hag c
    exact (val_main_v53_eq (F := Ideal) _ _ _ _ _).trans (eqOut12 m c e0 e1 e2 e3 e4)

end Cert.Reference17Ideal.Pb

end
-- ==== Proof.FfnBwdXLnEq.lean ====
module

public import proofs.«01_k».proof.Defs
public import proofs.«01_k».proof.Proof.FfnBwdXLn
public import proofs.«01_k».proof.Proof.NormRef
public import proofs.«01_k».proof.Proof.Gen.Reference18Ideal.Run
public import proofs.«01_k».proof.Proof.Bounds
public import proofs.«01_k».proof.Proof.Gen.Pre_finite_norm_grads

@[expose] public section

/-! The reference of the feed-forward input's gradient through the norm, and that both compute the same. -/

set_option maxRecDepth 16384

noncomputable section

namespace Cert.Reference18Ideal.Fx

open Idealize.ShloMosaic Idealize.ShloMosaic.TcCoe Idealize.SL.Sem Cert.Reference18Ideal.Gen Cert.Reference18Ideal.Read Idealize.ShloMosaic.Pointwise Cert.Norm Cert.Dv
open Cert.Kernel18Ideal.Fx (grd)
open Cert.NormRef
open Cert.KernelIdeal.Dv (real_of_cmp real_mul)

/-- Half 0 of the gradients put side by side. -/
theorem side0 (x0 : (⟨S16384x2816, .bf16⟩ : BufTy).Contents (Elt Ideal)) (x1 : (⟨S16384x2816, .bf16⟩ : BufTy).Contents (Elt Ideal)) (p : Fin 16384) (q : Fin 5632) (k : Fin 2816) (h : 0 + k.val = q.val) : (val_main_v1 (F := Ideal) x0 x1 (ix2 p q) : EReal) = x0 (ix2 p k) := by
  have hk := k.isLt
  unfold val_main_v1 val_main_v0
  pointwise
  refine (dif_pos (show q.val < 2816 by omega)).trans ?_
  exact congrArg (fun b => (x0 (ix2 p b) : EReal)) (Fin.ext (by show q.val = k.val; omega))

/-- Half 1 of the gradients put side by side. -/
theorem side1 (x0 : (⟨S16384x2816, .bf16⟩ : BufTy).Contents (Elt Ideal)) (x1 : (⟨S16384x2816, .bf16⟩ : BufTy).Contents (Elt Ideal)) (p : Fin 16384) (q : Fin 5632) (k : Fin 2816) (h : 2816 + k.val = q.val) : (val_main_v1 (F := Ideal) x0 x1 (ix2 p q) : EReal) = x1 (ix2 p k) := by
  have hk := k.isLt
  unfold val_main_v1 val_main_v0
  pointwise
  refine (dif_neg (show ¬q.val < 2816 by omega)).trans ?_
  exact congrArg (fun b => (x1 (ix2 p b) : EReal)) (Fin.ext (by show q.val - 2816 = k.val; omega))

/-- The reference's gradients before the norm. -/
theorem entry (x0 : (⟨S16384x2816, .bf16⟩ : BufTy).Contents (Elt Ideal)) (x1 : (⟨S16384x2816, .bf16⟩ : BufTy).Contents (Elt Ideal)) (x2 : (⟨S1024x5632, .bf16⟩ : BufTy).Contents (Elt Ideal)) (x3 : (⟨S16384x1024, .f32⟩ : BufTy).Contents (Elt Ideal)) (p : Fin 16384) (q : Fin 1024) : (val_main_v6 (F := Ideal) x0 x1 x2 x3 (ix2 p q) : EReal) = (∑ k : Fin 5632, (val_main_v1 (F := Ideal) x0 x1 (ix2 p k) : EReal) * x2 (ix2 q k)) + sc * x3 (ix2 p q) := by
  unfold val_main_v6 val_main_v5 val_main_v4 val_main_cst val_main_v3 val_main_v2
  pointwise
  try rfl

/-- The order of the additions is free. -/
theorem order (d s0 s1 : EReal) : (s0 + s1) + d = (d + s0) + s1 := by
  ac_rfl

/-- The reference's gradients before the norm, one half's product after the other. -/
theorem entries (x0 : (⟨S16384x2816, .bf16⟩ : BufTy).Contents (Elt Ideal)) (x1 : (⟨S16384x2816, .bf16⟩ : BufTy).Contents (Elt Ideal)) (x2 : (⟨S1024x5632, .bf16⟩ : BufTy).Contents (Elt Ideal)) (x3 : (⟨S16384x1024, .f32⟩ : BufTy).Contents (Elt Ideal)) (p : Fin 16384) (q : Fin 1024) :
    (val_main_v6 (F := Ideal) x0 x1 x2 x3 (ix2 p q) : EReal) = grd (fun k => x3 (ix2 p k)) (fun k => x0 (ix2 p k)) (fun j k => x2 (ix2 j ⟨k.val, by omega⟩)) (fun k => x1 (ix2 p k)) (fun j k => x2 (ix2 j ⟨2816 + k.val, by omega⟩)) q := by
  rw [entry, Cert.Rows.cut (a := 2816) (b := 2816) (by omega)]
  refine Eq.trans ?_ (order _ _ _)
  refine congrArg (fun b : EReal => b + _) ?_
  exact congrArg₂ (fun a b : EReal => a + b) (Finset.sum_congr rfl fun k _ => congrArg (fun b : EReal => b * _) (side0 x0 x1 p _ k (Nat.zero_add _)))
    (Finset.sum_congr rfl fun k _ => congrArg (fun b : EReal => b * _) (side1 x0 x1 p _ k rfl))

/-- The bias's gradient. -/
theorem b36 (x0 x1 : (⟨S16384x2816, .bf16⟩ : BufTy).Contents (Elt Ideal)) (x2 : (⟨S1024x5632, .bf16⟩ : BufTy).Contents (Elt Ideal)) (x3 : (⟨S16384x1024, .f32⟩ : BufTy).Contents (Elt Ideal)) (q : Fin 1024) :
    (val_main_v36 (F := Ideal) x0 x1 x2 x3 (ix2 0 q) : EReal) = ∑ a : Fin 16384, (val_main_v6 (F := Ideal) x0 x1 x2 x3 (ix2 a q) : EReal) :=
  colSum_at (val_main_v6 (F := Ideal) x0 x1 x2 x3) q

/-- The gain's gradient. -/
theorem g39 (x0 x1 : (⟨S16384x2816, .bf16⟩ : BufTy).Contents (Elt Ideal)) (x2 : (⟨S1024x5632, .bf16⟩ : BufTy).Contents (Elt Ideal)) (x3 x4 : (⟨S16384x1024, .f32⟩ : BufTy).Contents (Elt Ideal)) (q : Fin 1024) :
    (val_main_v39 (F := Ideal) x0 x1 x2 x3 x4 (ix2 0 q) : EReal) = ∑ a : Fin 16384, xh (fun k => x4 (ix2 a k)) q * (val_main_v6 (F := Ideal) x0 x1 x2 x3 (ix2 a q) : EReal) :=
  colDot_at (val_main_v6 (F := Ideal) x0 x1 x2 x3) x4 q

/-- The gradient past the gain. -/
theorem d41 (x0 x1 : (⟨S16384x2816, .bf16⟩ : BufTy).Contents (Elt Ideal)) (x2 : (⟨S1024x5632, .bf16⟩ : BufTy).Contents (Elt Ideal)) (x3 : (⟨S16384x1024, .f32⟩ : BufTy).Contents (Elt Ideal)) (x5 : (⟨S1x1024, .f32⟩ : BufTy).Contents (Elt Ideal)) (p : Fin 16384) (q : Fin 1024) :
    (val_main_v41 (F := Ideal) x0 x1 x2 x3 x5 (ix2 p q) : EReal) = (val_main_v6 (F := Ideal) x0 x1 x2 x3 (ix2 p q) : EReal) * x5 (ix2 0 q) :=
  gained_at (val_main_v6 (F := Ideal) x0 x1 x2 x3) x5 p q

/-- The reference's gradient. -/
theorem o65 (x0 x1 : (⟨S16384x2816, .bf16⟩ : BufTy).Contents (Elt Ideal)) (x2 : (⟨S1024x5632, .bf16⟩ : BufTy).Contents (Elt Ideal)) (x3 x4 : (⟨S16384x1024, .f32⟩ : BufTy).Contents (Elt Ideal)) (x5 : (⟨S1x1024, .f32⟩ : BufTy).Contents (Elt Ideal)) (p : Fin 16384) (q : Fin 1024) :
    (val_main_v65 (F := Ideal) x0 x1 x2 x3 x4 x5 (ix2 p q) : EReal) = chain (fun k => (val_main_v41 (F := Ideal) x0 x1 x2 x3 x5 (ix2 p k) : EReal)) (fun k => x4 (ix2 p k)) q :=
  back_at (val_main_v41 (F := Ideal) x0 x1 x2 x3 x5) x4 p q

/-- The same, narrowed. -/
theorem o66 (x0 x1 : (⟨S16384x2816, .bf16⟩ : BufTy).Contents (Elt Ideal)) (x2 : (⟨S1024x5632, .bf16⟩ : BufTy).Contents (Elt Ideal)) (x3 x4 : (⟨S16384x1024, .f32⟩ : BufTy).Contents (Elt Ideal)) (x5 : (⟨S1x1024, .f32⟩ : BufTy).Contents (Elt Ideal)) (p : Fin 16384) (q : Fin 1024) :
    (val_main_v66 (F := Ideal) x0 x1 x2 x3 x4 x5 (ix2 p q) : EReal) = (val_main_v65 (F := Ideal) x0 x1 x2 x3 x4 x5 (ix2 p q) : EReal) := by
  unfold val_main_v66
  pointwise
  try rfl

/-- The residual branch's scale is real. -/
theorem real_sc : IsReal sc := ⟨14107901 * (2 : ℝ) ^ (-23 : ℤ), by simp [sc, Ideal.ofBits, Ideal.ieee]⟩

/-- A gradient before the norm is real where what it is made of is. -/
theorem real_grd {y : Fin 1024 → EReal} {a b : Fin 2816 → EReal} {u v : Fin 1024 → Fin 2816 → EReal} (hy : ∀ k, IsReal (y k)) (ha : ∀ k, IsReal (a k)) (hb : ∀ k, IsReal (b k))
    (hu : ∀ j k, IsReal (u j k)) (hv : ∀ j k, IsReal (v j k)) (q : Fin 1024) : IsReal (grd y a u b v q) :=
  ((real_mul real_sc (hy q)).add (IsReal.sum _ _ fun k => real_mul (ha k) (hu q k))).add (IsReal.sum _ _ fun k => real_mul (hb k) (hv q k))

/-- What the precondition says: what reaches the norm's gradient is real. -/
structure Reals (m : (l : Loc Cert.Kernel18Ideal.nD Cert.Kernel18Ideal.τ Cert.Kernel18Ideal.sig) → Buf (Elt Ideal) l) (c : Dev Cert.Kernel18Ideal.nD) : Prop where
  a0 : ∀ a k, IsReal (Cert.Kernel18Ideal.Fx.A0 m c (ix2 a k) : EReal)
  a1 : ∀ a k, IsReal (Cert.Kernel18Ideal.Fx.A1 m c (ix2 a k) : EReal)
  wt : ∀ j k, IsReal (Cert.Kernel18Ideal.Fx.Wt m c (ix2 j k) : EReal)
  dy : ∀ a k, IsReal (Cert.Kernel18Ideal.Fx.Dy m c (ix2 a k) : EReal)
  gn : ∀ k, IsReal (Cert.Kernel18Ideal.Fx.Gn m c (ix2 0 k) : EReal)

/-- The precondition gives it. -/
theorem reals (m : (l : Loc Cert.Kernel18Ideal.nD Cert.Kernel18Ideal.τ Cert.Kernel18Ideal.sig) → Buf (Elt Ideal) l)
    (H : Cert.Pre_Kernel18Ideal_finite_norm_grads (hPre_finite_norm_grads := Cert.Pre_finite_norm_grads.Gen.facts) m) (c : Dev Cert.Kernel18Ideal.nD) : Reals m c := by
  obtain ⟨h0, h1, h2, h3, h4⟩ := H c
  have e0 : ∀ a k, IsReal (Cert.Kernel18Ideal.Fx.A0 m c (ix2 a k) : EReal) := by
    intro a k
    have e := congrFun h0 (ix2 a k)
    simp only [Cert.Pre_finite_norm_grads.fn] at e
    refine real_of_cmp (Eq.trans ?_ e)
    pointwise
    rfl
  have e1 : ∀ a k, IsReal (Cert.Kernel18Ideal.Fx.A1 m c (ix2 a k) : EReal) := by
    intro a k
    have e := congrFun h1 (ix2 a k)
    simp only [Cert.Pre_finite_norm_grads.fn] at e
    refine real_of_cmp (Eq.trans ?_ e)
    pointwise
    rfl
  have e2 : ∀ a k, IsReal (Cert.Kernel18Ideal.Fx.Wt m c (ix2 a k) : EReal) := by
    intro a k
    have e := congrFun h2 (ix2 a k)
    simp only [Cert.Pre_finite_norm_grads.fn] at e
    refine real_of_cmp (Eq.trans ?_ e)
    pointwise
    rfl
  have e3 : ∀ a k, IsReal (Cert.Kernel18Ideal.Fx.Dy m c (ix2 a k) : EReal) := by
    intro a k
    have e := congrFun h3 (ix2 a k)
    simp only [Cert.Pre_finite_norm_grads.fn] at e
    refine real_of_cmp (Eq.trans ?_ e)
    pointwise
    rfl
  have e4 : ∀ k, IsReal (Cert.Kernel18Ideal.Fx.Gn m c (ix2 0 k) : EReal) := by
    intro k
    have e := congrFun h4 (ix2 0 k)
    simp only [Cert.Pre_finite_norm_grads.fn] at e
    refine real_of_cmp (Eq.trans ?_ e)
    pointwise
    rfl
  exact ⟨e0, e1, e2, e3, e4⟩

/-- The gradient past the gain is the kernel's. -/
theorem d_eq (m : (l : Loc Cert.Kernel18Ideal.nD Cert.Kernel18Ideal.τ Cert.Kernel18Ideal.sig) → Buf (Elt Ideal) l) (c : Dev Cert.Kernel18Ideal.nD) (p : Fin 16384) (k : Fin 1024) :
    (val_main_v41 (F := Ideal) (Cert.Kernel18Ideal.Fx.A0 m c) (Cert.Kernel18Ideal.Fx.A1 m c) (Cert.Kernel18Ideal.Fx.Wt m c) (Cert.Kernel18Ideal.Fx.Dy m c) (Cert.Kernel18Ideal.Fx.Gn m c) (ix2 p k) : EReal) = Cert.Kernel18Ideal.Fx.up m c p k * Cert.Kernel18Ideal.Fx.Gn m c (ix2 0 k) := by
  rw [d41, entries]
  rfl

/-- Where the precondition holds, the reference's gradient is the kernel's. -/
theorem down_eq (m : (l : Loc Cert.Kernel18Ideal.nD Cert.Kernel18Ideal.τ Cert.Kernel18Ideal.sig) → Buf (Elt Ideal) l) (c : Dev Cert.Kernel18Ideal.nD) (H : Reals m c) (p : Fin 16384) (q : Fin 1024) :
    (val_main_v65 (F := Ideal) (Cert.Kernel18Ideal.Fx.A0 m c) (Cert.Kernel18Ideal.Fx.A1 m c) (Cert.Kernel18Ideal.Fx.Wt m c) (Cert.Kernel18Ideal.Fx.Dy m c) (Cert.Kernel18Ideal.Fx.Pre m c) (Cert.Kernel18Ideal.Fx.Gn m c) (ix2 p q) : EReal) = Cert.Kernel18Ideal.Fx.down m c p q := by
  rw [o65]
  simp only [d_eq]
  exact chain_eq _ _ (fun k => real_mul (real_grd (H.dy p) (H.a0 p) (H.a1 p) (fun j k => H.wt j _) (fun j k => H.wt j _) k) (H.gn k)) q

/-- Result 1 is the kernel's. -/
theorem eqOut6 (m : (l : Loc Cert.Kernel18Ideal.nD Cert.Kernel18Ideal.τ Cert.Kernel18Ideal.sig) → Buf (Elt Ideal) l) (c : Dev Cert.Kernel18Ideal.nD) (H : Reals m c) {x0 : (⟨S16384x2816, .bf16⟩ : BufTy).Contents (Elt Ideal)} {x1 : (⟨S16384x2816, .bf16⟩ : BufTy).Contents (Elt Ideal)} {x2 : (⟨S1024x5632, .bf16⟩ : BufTy).Contents (Elt Ideal)} {x3 : (⟨S16384x1024, .f32⟩ : BufTy).Contents (Elt Ideal)} {x4 : (⟨S16384x1024, .f32⟩ : BufTy).Contents (Elt Ideal)} {x5 : (⟨S1x1024, .f32⟩ : BufTy).Contents (Elt Ideal)}
    (e0 : x0 = Cert.Kernel18Ideal.Fx.A0 m c) (e1 : x1 = Cert.Kernel18Ideal.Fx.A1 m c) (e2 : x2 = Cert.Kernel18Ideal.Fx.Wt m c) (e3 : x3 = Cert.Kernel18Ideal.Fx.Dy m c) (e4 : x4 = Cert.Kernel18Ideal.Fx.Pre m c) (e5 : x5 = Cert.Kernel18Ideal.Fx.Gn m c) :
    val_main_v65 (F := Ideal) x0 x1 x2 x3 x4 x5 = (Cert.Kernel18Ideal.Gen.dats (F := Ideal) m 0 c).arrAt 6 Cert.Kernel18Ideal.cfg0.N := by
  subst e0 e1 e2 e3 e4 e5
  funext i
  refine (congrArg _ (ValueIdx.eq_ix2 i)).trans (Eq.trans ?_ (congrArg _ (ValueIdx.eq_ix2 i).symm))
  exact ((down_eq m c H (i 0) (i 1)).trans (Cert.Kernel18Ideal.Fx.arr6 m c (i 0) (i 1)).symm)

/-- Result 2 is the kernel's. -/
theorem eqOut7 (m : (l : Loc Cert.Kernel18Ideal.nD Cert.Kernel18Ideal.τ Cert.Kernel18Ideal.sig) → Buf (Elt Ideal) l) (c : Dev Cert.Kernel18Ideal.nD) (H : Reals m c) {x0 : (⟨S16384x2816, .bf16⟩ : BufTy).Contents (Elt Ideal)} {x1 : (⟨S16384x2816, .bf16⟩ : BufTy).Contents (Elt Ideal)} {x2 : (⟨S1024x5632, .bf16⟩ : BufTy).Contents (Elt Ideal)} {x3 : (⟨S16384x1024, .f32⟩ : BufTy).Contents (Elt Ideal)} {x4 : (⟨S16384x1024, .f32⟩ : BufTy).Contents (Elt Ideal)} {x5 : (⟨S1x1024, .f32⟩ : BufTy).Contents (Elt Ideal)}
    (e0 : x0 = Cert.Kernel18Ideal.Fx.A0 m c) (e1 : x1 = Cert.Kernel18Ideal.Fx.A1 m c) (e2 : x2 = Cert.Kernel18Ideal.Fx.Wt m c) (e3 : x3 = Cert.Kernel18Ideal.Fx.Dy m c) (e4 : x4 = Cert.Kernel18Ideal.Fx.Pre m c) (e5 : x5 = Cert.Kernel18Ideal.Fx.Gn m c) :
    val_main_v66 (F := Ideal) x0 x1 x2 x3 x4 x5 = (Cert.Kernel18Ideal.Gen.dats (F := Ideal) m 0 c).arrAt 7 Cert.Kernel18Ideal.cfg0.N := by
  subst e0 e1 e2 e3 e4 e5
  funext i
  refine (congrArg _ (ValueIdx.eq_ix2 i)).trans (Eq.trans ?_ (congrArg _ (ValueIdx.eq_ix2 i).symm))
  exact (o66 _ _ _ _ _ _ (i 0) (i 1)).trans ((down_eq m c H (i 0) (i 1)).trans (Cert.Kernel18Ideal.Fx.arr7 m c (i 0) (i 1)).symm)

/-- Result 3 is the kernel's. -/
theorem eqOut8 (m : (l : Loc Cert.Kernel18Ideal.nD Cert.Kernel18Ideal.τ Cert.Kernel18Ideal.sig) → Buf (Elt Ideal) l) (c : Dev Cert.Kernel18Ideal.nD) {x0 : (⟨S16384x2816, .bf16⟩ : BufTy).Contents (Elt Ideal)} {x1 : (⟨S16384x2816, .bf16⟩ : BufTy).Contents (Elt Ideal)} {x2 : (⟨S1024x5632, .bf16⟩ : BufTy).Contents (Elt Ideal)} {x3 : (⟨S16384x1024, .f32⟩ : BufTy).Contents (Elt Ideal)} {x4 : (⟨S16384x1024, .f32⟩ : BufTy).Contents (Elt Ideal)}
    (e0 : x0 = Cert.Kernel18Ideal.Fx.A0 m c) (e1 : x1 = Cert.Kernel18Ideal.Fx.A1 m c) (e2 : x2 = Cert.Kernel18Ideal.Fx.Wt m c) (e3 : x3 = Cert.Kernel18Ideal.Fx.Dy m c) (e4 : x4 = Cert.Kernel18Ideal.Fx.Pre m c) :
    val_main_v39 (F := Ideal) x0 x1 x2 x3 x4 = (Cert.Kernel18Ideal.Gen.dats (F := Ideal) m 0 c).arrAt 8 Cert.Kernel18Ideal.cfg0.N := by
  subst e0 e1 e2 e3 e4
  funext i
  have hi : i = ix2 0 (i 1) := (ValueIdx.eq_ix2 i).trans (congrArg (fun a : Fin 1 => (ix2 a (i 1) : S1x1024.Idx)) (Subsingleton.elim (α := Fin 1) (i 0) 0))
  rw [hi]
  exact (g39 _ _ _ _ _ (i 1)).trans ((Finset.sum_congr rfl fun a _ => (congrArg (fun y : EReal => xh _ (i 1) * y) (entries _ _ _ _ a (i 1))).trans (mul_comm _ _)).trans (Cert.Kernel18Ideal.Fx.arr8 m c (i 1)).symm)

/-- Result 4 is the kernel's. -/
theorem eqOut9 (m : (l : Loc Cert.Kernel18Ideal.nD Cert.Kernel18Ideal.τ Cert.Kernel18Ideal.sig) → Buf (Elt Ideal) l) (c : Dev Cert.Kernel18Ideal.nD) {x0 : (⟨S16384x2816, .bf16⟩ : BufTy).Contents (Elt Ideal)} {x1 : (⟨S16384x2816, .bf16⟩ : BufTy).Contents (Elt Ideal)} {x2 : (⟨S1024x5632, .bf16⟩ : BufTy).Contents (Elt Ideal)} {x3 : (⟨S16384x1024, .f32⟩ : BufTy).Contents (Elt Ideal)}
    (e0 : x0 = Cert.Kernel18Ideal.Fx.A0 m c) (e1 : x1 = Cert.Kernel18Ideal.Fx.A1 m c) (e2 : x2 = Cert.Kernel18Ideal.Fx.Wt m c) (e3 : x3 = Cert.Kernel18Ideal.Fx.Dy m c) :
    val_main_v36 (F := Ideal) x0 x1 x2 x3 = (Cert.Kernel18Ideal.Gen.dats (F := Ideal) m 0 c).arrAt 9 Cert.Kernel18Ideal.cfg0.N := by
  subst e0 e1 e2 e3
  funext i
  have hi : i = ix2 0 (i 1) := (ValueIdx.eq_ix2 i).trans (congrArg (fun a : Fin 1 => (ix2 a (i 1) : S1x1024.Idx)) (Subsingleton.elim (α := Fin 1) (i 0) 0))
  rw [hi]
  exact (b36 _ _ _ _ (i 1)).trans ((Finset.sum_congr rfl fun a _ => entries _ _ _ _ a (i 1)).trans (Cert.Kernel18Ideal.Fx.arr9 m c (i 1)).symm)

/-- The reference ends with its arguments unchanged and every counter at zero. -/
theorem frame : Cert.quiescent_Reference18Ideal (hReference18Ideal := Cert.Reference18Ideal.Gen.facts) := fun m ρ _ =>
  (θ_run Cert.Reference18Ideal.defs _ _).mono
    (fun r h => ⟨fun c => (h c).2.2.2.2, Idealize.ShloMosaic.sem_eq_zero_of_no_sems (by decide) r.2⟩) (Cert.Reference18Ideal.Value.run m ρ)

/-- Where the precondition holds, the kernel and the reference compute the same. -/
theorem values : Cert.algebraic_Kernel18Ideal_Reference18Ideal_pre_finite_norm_grads (hKernel18Ideal := Cert.Kernel18Ideal.Gen.facts) (hReference18Ideal := Cert.Reference18Ideal.Gen.facts)
    (hPre_finite_norm_grads := Cert.Pre_finite_norm_grads.Gen.facts) := by
  intro m ρ m' ρ' hpre hag
  refine ⟨fun c => (Cert.Kernel18Ideal.Gen.dats (F := Ideal) m 0 c).arrAt 6 Cert.Kernel18Ideal.cfg0.N, fun c => (Cert.Kernel18Ideal.Gen.dats (F := Ideal) m 0 c).arrAt 7 Cert.Kernel18Ideal.cfg0.N, fun c => (Cert.Kernel18Ideal.Gen.dats (F := Ideal) m 0 c).arrAt 8 Cert.Kernel18Ideal.cfg0.N, fun c => (Cert.Kernel18Ideal.Gen.dats (F := Ideal) m 0 c).arrAt 9 Cert.Kernel18Ideal.cfg0.N, (θ_run _ _ _).mono (fun _ h c => h c) (Cert.Kernel18Ideal.Value.run_blocks (F := Ideal) m ρ),
    (θ_run _ _ _).mono (fun _ h c => ⟨(h c).1.trans ?_, (h c).2.1.trans ?_, (h c).2.2.1.trans ?_, (h c).2.2.2.1.trans ?_, (h c).2.2.2.2⟩) (Cert.Reference18Ideal.Value.run (F := Ideal) m' ρ')⟩
  · obtain ⟨e0, e1, e2, e3, e4, e5⟩ := hag c
    exact (val_main_v65_eq (F := Ideal) _ _).trans (eqOut6 m c (reals m hpre c) e0 e1 e2 e3 e4 e5)
  · obtain ⟨e0, e1, e2, e3, e4, e5⟩ := hag c
    exact (val_main_v66_eq (F := Ideal) _ _).trans (eqOut7 m c (reals m hpre c) e0 e1 e2 e3 e4 e5)
  · obtain ⟨e0, e1, e2, e3, e4, e5⟩ := hag c
    exact (val_main_v39_eq (F := Ideal) _ _ _ _ _).trans (eqOut8 m c e0 e1 e2 e3 e4)
  · obtain ⟨e0, e1, e2, e3, e4, e5⟩ := hag c
    exact (val_main_v36_eq (F := Ideal) _ _ _ _).trans (eqOut9 m c e0 e1 e2 e3)

end Cert.Reference18Ideal.Fx

end
-- ==== Proof.Adam.lean ====
module

public import Idealize.ShloMosaic.PureOps.Ideal
public import Idealize.ShloMosaic.Lib.Pointwise

@[expose] public section

noncomputable section

/-! One step of the optimiser on one weight, and the constants of its bias correction. -/

namespace Cert.Adam

open Idealize.ShloMosaic

/-- Eight terms, one by one. -/
theorem eight (f : Fin 8 → EReal) : f 0 + f 1 + f 2 + f 3 + f 4 + f 5 + f 6 + f 7 = ∑ i : Fin 8, f i := (Fin.sum_univ_eight f).symm

/-- The gradient's running mean after the step. -/
def mean1 (g m : EReal) : EReal := Ideal.ofBits .f32 0x3F666666#32 * m + Ideal.ofBits .f32 0x3DCCCCCD#32 * g

/-- The running mean of the gradient's square after the step. -/
def mean2 (g v : EReal) : EReal := Ideal.ofBits .f32 0x3F7FBE77#32 * v + Ideal.ofBits .f32 0x3A83126F#32 * (g * g)

/-- The change of a weight `w`, from both means after the bias correction. -/
def change (w p q : EReal) : EReal :=
  Ideal.ofBits .f32 0xBA83126F#32 * (Ideal.div p (Ideal.sqrt q + Ideal.ofBits .f32 0x322BCC77#32) + Ideal.ofBits .f32 0x3C23D70A#32 * w)

/-- The change of a weight, by multiplication with the exact inverses of the bias correction's divisors. -/
def step (w g m v : EReal) : EReal :=
  change w (mean1 g m * ((8388608 / 5463681 : ℝ) : EReal)) (mean2 g v * ((268435456 / 2672307 : ℝ) : EReal))

/-- The first divisor as a real. -/
theorem bias1 : Ideal.ofBits .f32 0x3F26BD02#32 = ((5463681 / 8388608 : ℝ) : EReal) := by
  simp [Ideal.ofBits, Ideal.ieee, -EReal.coe_mul]; norm_num

/-- The second divisor as a real. -/
theorem bias2 : Ideal.ofBits .f32 0x3C231ACC#32 = ((2672307 / 268435456 : ℝ) : EReal) := by
  simp [Ideal.ofBits, Ideal.ieee, -EReal.coe_mul]; norm_num

/-- A division by the first divisor is a multiplication by its inverse. -/
theorem over1 (x : EReal) : Ideal.div x (Ideal.ofBits .f32 0x3F26BD02#32) = x * ((8388608 / 5463681 : ℝ) : EReal) := by
  rw [bias1, Ideal.div_coe (by norm_num)]
  norm_num

/-- A division by the second divisor is a multiplication by its inverse. -/
theorem over2 (x : EReal) : Ideal.div x (Ideal.ofBits .f32 0x3C231ACC#32) = x * ((268435456 / 2672307 : ℝ) : EReal) := by
  rw [bias2, Ideal.div_coe (by norm_num)]
  norm_num

/-- The change of a weight, by division as the reference has it. -/
theorem step_eq (w g m v : EReal) :
    step w g m v = change w (Ideal.div (mean1 g m) (Ideal.ofBits .f32 0x3F26BD02#32)) (Ideal.div (mean2 g v) (Ideal.ofBits .f32 0x3C231ACC#32)) := by
  rw [over1, over2]
  rfl

end Cert.Adam

end
-- ==== Proof.AdamSmallEq.lean ====
module

public import proofs.«01_k».proof.Defs
public import proofs.«01_k».proof.Proof.Adam
public import proofs.«01_k».proof.Proof.Gen.Kernel19Ideal.Value
public import proofs.«01_k».proof.Proof.Gen.Reference19Ideal.Run
public import proofs.«01_k».proof.Proof.Gen.Reference19Ideal.Read

@[expose] public section

/-! The optimiser's step of `Kernel19Ideal`: the norms' gains and shifts, the sinks and the lower bounds' logits. -/

noncomputable section

namespace Cert.Kernel19Ideal.Ad

open Idealize.ShloMosaic Cert.Kernel19Ideal Cert.Kernel19Ideal.Gen Cert.Adam Idealize.ShloMosaic.Pointwise

variable (w g m v : Vec Ideal S24x1024 .f32) (a : Fin 24) (b : Fin 1024)

/-- What is stored of the gradient's mean. -/
theorem first : (k0_pay1 g m (ix2 a b) : EReal) = mean1 (g (ix2 a b)) (m (ix2 a b)) := by
  unfold k0_pay1
  pointwise
  rfl

/-- What is stored of the squared gradient's mean. -/
theorem second : (k0_pay2 g v (ix2 a b) : EReal) = mean2 (g (ix2 a b)) (v (ix2 a b)) := by
  unfold k0_pay2
  pointwise
  rfl

/-- What is stored of the weight's change. -/
theorem delta : (k0_pay3 g m v w (ix2 a b) : EReal) = step (w (ix2 a b)) (g (ix2 a b)) (m (ix2 a b)) (v (ix2 a b)) := by
  unfold k0_pay3 k0_pay1 k0_pay2
  pointwise
  rw [IdealRules.named_const.ideal_named_scalar κ "inv_bias1" _ ((8388608 / 5463681 : ℝ) : EReal) rfl,
    IdealRules.named_const.ideal_named_scalar κ "inv_bias2" _ ((268435456 / 2672307 : ℝ) : EReal) rfl]
  rfl

end Cert.Kernel19Ideal.Ad

namespace Cert.Reference19Ideal.Ad

open Idealize.ShloMosaic Idealize.ShloMosaic.TcCoe Idealize.SL.Sem Cert.Reference19Ideal Cert.Reference19Ideal.Gen Cert.Reference19Ideal.Read Cert.Adam Idealize.ShloMosaic.Pointwise

section Entry

variable (w g m v : (⟨S24x1024, .f32⟩ : BufTy).Contents (Elt Ideal)) (a : Fin 24) (b : Fin 1024)

/-- The reference's mean of the gradient. -/
theorem first : (val_main_v4 (F := Ideal) g m (ix2 a b) : EReal) = mean1 (g (ix2 a b)) (m (ix2 a b)) := by
  unfold val_main_v4 val_main_v3 val_main_v2 val_main_v1 val_main_v0 val_main_cst_0 val_main_cst
  pointwise
  rfl

/-- The reference's mean of the squared gradient. -/
theorem second : (val_main_v10 (F := Ideal) g v (ix2 a b) : EReal) = mean2 (g (ix2 a b)) (v (ix2 a b)) := by
  unfold val_main_v10 val_main_v9 val_main_v8 val_main_v7 val_main_v6 val_main_v5 val_main_cst_2 val_main_cst_1
  pointwise
  rfl

/-- The reference's change of the weight. -/
theorem delta : (val_main_v23 (F := Ideal) w g m v (ix2 a b) : EReal) = step (w (ix2 a b)) (g (ix2 a b)) (m (ix2 a b)) (v (ix2 a b)) := by
  rw [step_eq, ← first g m a b, ← second g v a b]
  unfold val_main_v23 val_main_v22 val_main_v21 val_main_v20 val_main_v19 val_main_v18 val_main_v17 val_main_v16 val_main_v15 val_main_v14 val_main_v13 val_main_v12 val_main_v11 val_main_cst_7 val_main_cst_6 val_main_cst_5 val_main_cst_4 val_main_cst_3
  generalize val_main_v4 (F := Ideal) g m = s, val_main_v10 (F := Ideal) g v = r
  pointwise
  rfl

end Entry

/-- The reference ends with its arguments unchanged and every counter at zero. -/
theorem frame : Cert.quiescent_Reference19Ideal (hReference19Ideal := Cert.Reference19Ideal.Gen.facts) := fun m ρ _ =>
  (θ_run Cert.Reference19Ideal.defs _ _).mono
    (fun r h => ⟨fun c => (h c).2.2.2.2, Idealize.ShloMosaic.sem_eq_zero_of_no_sems (by decide) r.2⟩) (Cert.Reference19Ideal.Value.run m ρ)

/-- The kernel and the reference compute the same. -/
theorem values : Cert.algebraic_Kernel19Ideal_Reference19Ideal (hKernel19Ideal := Cert.Kernel19Ideal.Gen.facts) (hReference19Ideal := Cert.Reference19Ideal.Gen.facts) := by
  intro m ρ m' ρ' _ hag
  have key : ∀ {X Y : (⟨S24x1024, .f32⟩ : BufTy).Contents (Elt Ideal)}, (∀ a b, X (ix2 a b) = Y (ix2 a b)) → X = Y := fun h => funext fun i => by
    rw [ValueIdx.eq_ix2 i]
    exact h (i 0) (i 1)
  refine ⟨_, _, _, _,
    (θ_run _ _ _).mono (fun _ h c => h c) (Cert.Kernel19Ideal.Value.run (F := Ideal) m ρ),
    (θ_run _ _ _).mono (fun _ h c => ⟨(h c).1.trans ?_, (h c).2.1.trans ?_, (h c).2.2.1.trans ?_, (h c).2.2.2.1.trans ?_, (h c).2.2.2.2⟩) (Cert.Reference19Ideal.Value.run (F := Ideal) m' ρ')⟩
  all_goals
    obtain ⟨e0, e1, e2, e3⟩ := hag c
  · exact e1
  · rw [e0, e1, e2, e3]
    exact (val_main_v23_eq (F := Ideal) _ _ _ _).trans (key fun a b => (delta _ _ _ _ a b).trans (Cert.Kernel19Ideal.Ad.delta _ _ _ _ a b).symm)
  · rw [e1, e2]
    exact (val_main_v4_eq (F := Ideal) _ _).trans (key fun a b => (first _ _ a b).trans (Cert.Kernel19Ideal.Ad.first _ _ a b).symm)
  · rw [e1, e3]
    exact (val_main_v10_eq (F := Ideal) _ _).trans (key fun a b => (second _ _ a b).trans (Cert.Kernel19Ideal.Ad.second _ _ a b).symm)

end Cert.Reference19Ideal.Ad

end
-- ==== Proof.SumSmallEq.lean ====
module

public import proofs.«01_k».proof.Defs
public import proofs.«01_k».proof.Proof.Adam
public import proofs.«01_k».proof.Proof.Gen.Kernel20Ideal.Value
public import proofs.«01_k».proof.Proof.Gen.Reference20Ideal.Run
public import proofs.«01_k».proof.Proof.Gen.Reference20Ideal.Read

@[expose] public section

/-! The sum over the devices of the gradients of the small weights. -/

noncomputable section

namespace Cert.Reference20Ideal.Sm

open Idealize.ShloMosaic Idealize.ShloMosaic.TcCoe Idealize.SL.Sem Cert.Reference20Ideal Cert.Reference20Ideal.Gen Cert.Reference20Ideal.Read Idealize.ShloMosaic.Pointwise

/-- The kernel adds the eight parts of an entry. -/
theorem kernel_sum (x : Vec Ideal Cert.Kernel20Ideal.S8x24x1024 .f32) (a : Fin 24) (b : Fin 1024) : (Cert.Kernel20Ideal.Value.G1 x (ix2 a b) : EReal) = ∑ i : Fin 8, x (ix3 i a b) := by
  unfold Cert.Kernel20Ideal.Value.G1 Cert.Kernel20Ideal.Gen.k0_pay1
  pointwise
  exact Cert.Adam.eight fun i => x (ix3 i a b)

/-- The reference adds the eight parts of an entry. -/
theorem reference_sum (x : (⟨S8x24x1024, .f32⟩ : BufTy).Contents (Elt Ideal)) (a : Fin 24) (b : Fin 1024) : (val_main_v0 (F := Ideal) x (ix2 a b) : EReal) = ∑ i : Fin 8, x (ix3 i a b) := by
  unfold val_main_v0 val_main_cst
  pointwise

/-- The reference ends with its arguments unchanged and every counter at zero. -/
theorem frame : Cert.quiescent_Reference20Ideal (hReference20Ideal := Cert.Reference20Ideal.Gen.facts) := fun m ρ _ =>
  (θ_run Cert.Reference20Ideal.defs _ _).mono
    (fun r h => ⟨fun c => (h c).2, Idealize.ShloMosaic.sem_eq_zero_of_no_sems (by decide) r.2⟩) (Cert.Reference20Ideal.Value.run m ρ)

/-- The kernel and the reference compute the same. -/
theorem values : Cert.algebraic_Kernel20Ideal_Reference20Ideal (hKernel20Ideal := Cert.Kernel20Ideal.Gen.facts) (hReference20Ideal := Cert.Reference20Ideal.Gen.facts) := by
  intro m ρ m' ρ' _ hag
  refine ⟨_, (θ_run _ _ _).mono (fun _ h c => h c) (Cert.Kernel20Ideal.Value.run (F := Ideal) m ρ),
    (θ_run _ _ _).mono (fun _ h c => ⟨(h c).1.trans ?_, (h c).2⟩) (Cert.Reference20Ideal.Value.run (F := Ideal) m' ρ')⟩
  have e := hag c
  rw [e]
  refine (val_main_v0_eq (F := Ideal) _).trans (funext fun i => ?_)
  rw [ValueIdx.eq_ix2 i]
  exact (reference_sum _ (i 0) (i 1)).trans (kernel_sum _ (i 0) (i 1)).symm

end Cert.Reference20Ideal.Sm

end
-- ==== Proof.AdamAttLateEq.lean ====
module

public import proofs.«01_k».proof.Defs
public import proofs.«01_k».proof.Proof.Adam
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pipeline.ValueKit.Basic

@[expose] public section

/-! The optimiser's step of `Kernel21Ideal`: the rows of the third layer's attention input projection. -/

noncomputable section

namespace Cert.Kernel21Ideal.Ad

open Idealize.ShloMosaic Idealize.ShloMosaic.TcCoe Cert.Kernel21Ideal Cert.Kernel21Ideal.Gen Cert.Kernel21Ideal.Value Cert.Adam Idealize.ShloMosaic.Pointwise

section Block

variable (w : Vec Ideal S192x1024 .f32) (g : Vec Ideal S8x192x1024 .bf16) (m v : Vec Ideal S192x1024 .f32) (p : Fin 192) (b : Fin 1024)

/-- The devices' parts of a block of the gradient, added. -/
def parts : EReal := ∑ i : Fin 8, g (ix3 i p b)

/-- The kernel adds the parts. -/
theorem total : (k0_pay5 w g m v (ix2 p b) : EReal) = parts g p b := by
  unfold k0_pay5 k0_pay4
  pointwise
  exact eight fun i => g (ix3 i p b)

/-- What is stored of the gradient. -/
theorem grad : (out0_4 w g m v (ix2 p b) : EReal) = parts g p b := by
  unfold out0_4
  rw [View.canon_cons_unit_lit _ _ _ (by decide), total]

/-- What is stored of the gradient's mean. -/
theorem first : (out0_6 w g m v (ix2 p b) : EReal) = mean1 (parts g p b) (m (ix2 p b)) := by
  unfold out0_6
  rw [View.canon_cons_unit_lit _ _ _ (by decide), View.ld_unit_lit _ _ (by decide), ← total w g m v p b]
  generalize k0_pay5 w g m v = s
  unfold k0_pay1
  pointwise
  rfl

/-- What is stored of the squared gradient's mean. -/
theorem second : (out0_7 w g m v (ix2 p b) : EReal) = mean2 (parts g p b) (v (ix2 p b)) := by
  unfold out0_7
  rw [View.canon_cons_unit_lit _ _ _ (by decide), View.ld_unit_lit _ _ (by decide), ← total w g m v p b]
  generalize k0_pay5 w g m v = s
  unfold k0_pay2
  pointwise
  rfl

/-- What is stored of the weight's change. -/
theorem delta : (out0_5 w g m v (ix2 p b) : EReal) = step (w (ix2 p b)) (parts g p b) (m (ix2 p b)) (v (ix2 p b)) := by
  unfold out0_5
  rw [View.canon_cons_unit_lit _ _ _ (by decide), View.ld_unit_lit _ _ (by decide), View.ld_unit_lit _ _ (by decide), View.ld_unit_lit _ _ (by decide),
    ← total w g m v p b]
  generalize k0_pay5 w g m v = s
  unfold k0_pay3 k0_pay1 k0_pay2
  pointwise
  rw [IdealRules.named_const.ideal_named_scalar κ "inv_bias1" _ ((8388608 / 5463681 : ℝ) : EReal) rfl,
    IdealRules.named_const.ideal_named_scalar κ "inv_bias2" _ ((268435456 / 2672307 : ℝ) : EReal) rfl]
  rfl

end Block

variable (M : (l : Loc nD τ sig) → Buf (Elt Ideal) l) (c : Dev nD)

/-- The weight as launched. -/
abbrev W : (⟨S192x1024, .f32⟩ : BufTy).Contents (Elt Ideal) := M ((c : Thread nD τ).loc main_arg0)

/-- The devices' parts of the gradient as launched. -/
abbrev G : (⟨S8x1536x1024, .bf16⟩ : BufTy).Contents (Elt Ideal) := M ((c : Thread nD τ).loc main_arg1)

/-- The mean of the gradient as launched. -/
abbrev P : (⟨S192x1024, .f32⟩ : BufTy).Contents (Elt Ideal) := M ((c : Thread nD τ).loc main_arg2)

/-- The mean of the squared gradient as launched. -/
abbrev Q : (⟨S192x1024, .f32⟩ : BufTy).Contents (Elt Ideal) := M ((c : Thread nD τ).loc main_arg3)

/-- The whole gradient of an entry. -/
def sum (a : Fin 192) (b : Fin 1024) : EReal := ∑ i : Fin 8, G M c (ix3 i ⟨a.val, by omega⟩ b)

/-- The blocks at a point. -/
theorem idx : ∀ t : Fin cfg0.N, win0_4.index t (0 : Fin 2) = t.val ∧ win0_4.index t (1 : Fin 2) = 0 ∧ win0_1.index t (0 : Fin 3) = 0
    ∧ win0_1.index t (1 : Fin 3) = t.val ∧ win0_1.index t (2 : Fin 3) = 0 := (by decide +kernel : ∀ t : Fin grid0.N, _)

/-- Every point writes its blocks back. -/
theorem flush : ∀ t : Fin cfg0.N, (cfg0.win 4).flush t = true ∧ (cfg0.win 5).flush t = true ∧ (cfg0.win 6).flush t = true
    ∧ (cfg0.win 7).flush t = true := (by decide +kernel : ∀ t : Fin grid0.N, _)

section Point

variable (t : Fin cfg0.N) (p : Fin 192) (b : Fin 1024) (a : Fin 192) (h : 192 * t.val + p.val = a.val)
include h

/-- Where an entry of a point's block of rows lies. -/
theorem emb : ((cfg0.win 4).blk t).view.emb (ix2 p b) = ix2 a b := by
  obtain ⟨e0, e1, -⟩ := idx t
  refine funext fun d => Fin.ext ?_
  match d with
  | ⟨0, _⟩ => show win0_4.index t (0 : Fin 2) * 192 + 1 * p.val = a.val; omega
  | ⟨1, _⟩ => show win0_4.index t (1 : Fin 2) * 1024 + 1 * b.val = b.val; omega

/-- An entry of the weight's block. -/
theorem blkW : (iblk M c 0 t (ix2 p b) : EReal) = W M c (ix2 a b) := by
  show V M c main_arg0 (((cfg0.win 0).blk t).view.emb (ix2 p b)) = _
  rw [V_main_arg0]
  exact congrArg (W M c) (emb t p b a h)

/-- An entry of the block of the gradient's mean. -/
theorem blkP : (iblk M c 2 t (ix2 p b) : EReal) = P M c (ix2 a b) := by
  show V M c main_arg2 (((cfg0.win 2).blk t).view.emb (ix2 p b)) = _
  rw [V_main_arg2]
  exact congrArg (P M c) (emb t p b a h)

/-- An entry of the block of the squared gradient's mean. -/
theorem blkQ : (iblk M c 3 t (ix2 p b) : EReal) = Q M c (ix2 a b) := by
  show V M c main_arg3 (((cfg0.win 3).blk t).view.emb (ix2 p b)) = _
  rw [V_main_arg3]
  exact congrArg (Q M c) (emb t p b a h)

/-- The parts of an entry's gradient, added. -/
theorem blkG : parts (iblk M c 1 t) p b = sum M c a b := by
  have ha := a.isLt
  refine Finset.sum_congr rfl fun i _ => ?_
  show V M c main_arg1 (((cfg0.win 1).blk t).view.emb (ix3 i p b)) = _
  rw [V_main_arg1]
  obtain ⟨-, -, e0, e1, e2⟩ := idx t
  refine congrArg (G M c) (funext fun d => Fin.ext ?_)
  match d with
  | ⟨0, _⟩ => show win0_1.index t (0 : Fin 3) * 8 + 1 * i.val = i.val; omega
  | ⟨1, _⟩ => show win0_1.index t (1 : Fin 3) * 192 + 1 * p.val = a.val; omega
  | ⟨2, _⟩ => show win0_1.index t (2 : Fin 3) * 1024 + 1 * b.val = b.val; omega

/-- An entry of the gradient. -/
theorem gradA : ((dats M 0 c).arrAt 4 cfg0.N (ix2 a b) : EReal) = sum M c a b := by
  refine (congrArg ((dats M 0 c).arrAt 4 cfg0.N) (emb t p b a h).symm).trans ((congrFun (blocks4 M c t (flush t).1) (ix2 p b)).trans
    ((congrFun (flushed4 M c t) (ix2 p b)).trans ((show _ = _ from grad (iblk M c 0 t) (iblk M c 1 t) (iblk M c 2 t) (iblk M c 3 t) p b).trans ?_)))
  rw [blkG M c t p b a h]

/-- An entry of the weight's change. -/
theorem deltaA : ((dats M 0 c).arrAt 5 cfg0.N (ix2 a b) : EReal) = step (W M c (ix2 a b)) (sum M c a b) (P M c (ix2 a b)) (Q M c (ix2 a b)) := by
  refine (congrArg ((dats M 0 c).arrAt 5 cfg0.N) (emb t p b a h).symm).trans ((congrFun (blocks5 M c t (flush t).2.1) (ix2 p b)).trans
    ((congrFun (flushed5 M c t) (ix2 p b)).trans ((show _ = _ from delta (iblk M c 0 t) (iblk M c 1 t) (iblk M c 2 t) (iblk M c 3 t) p b).trans ?_)))
  rw [blkG M c t p b a h, blkW M c t p b a h, blkP M c t p b a h, blkQ M c t p b a h]

/-- An entry of the gradient's mean. -/
theorem firstA : ((dats M 0 c).arrAt 6 cfg0.N (ix2 a b) : EReal) = mean1 (sum M c a b) (P M c (ix2 a b)) := by
  refine (congrArg ((dats M 0 c).arrAt 6 cfg0.N) (emb t p b a h).symm).trans ((congrFun (blocks6 M c t (flush t).2.2.1) (ix2 p b)).trans
    ((congrFun (flushed6 M c t) (ix2 p b)).trans ((show _ = _ from first (iblk M c 0 t) (iblk M c 1 t) (iblk M c 2 t) (iblk M c 3 t) p b).trans ?_)))
  rw [blkG M c t p b a h, blkP M c t p b a h]

/-- An entry of the squared gradient's mean. -/
theorem secondA : ((dats M 0 c).arrAt 7 cfg0.N (ix2 a b) : EReal) = mean2 (sum M c a b) (Q M c (ix2 a b)) := by
  refine (congrArg ((dats M 0 c).arrAt 7 cfg0.N) (emb t p b a h).symm).trans ((congrFun (blocks7 M c t (flush t).2.2.2) (ix2 p b)).trans
    ((congrFun (flushed7 M c t) (ix2 p b)).trans ((show _ = _ from second (iblk M c 0 t) (iblk M c 1 t) (iblk M c 2 t) (iblk M c 3 t) p b).trans ?_)))
  rw [blkG M c t p b a h, blkQ M c t p b a h]

end Point

/-- Every row is in a point's block. -/
theorem point (a : Fin 192) : ∃ (t : Fin cfg0.N) (p : Fin 192), 192 * t.val + p.val = a.val :=
  ⟨⟨a.val / 192, lt_of_lt_of_eq (show a.val / 192 < 1 by have := a.isLt; omega) N_0.symm⟩, ⟨a.val % 192, Nat.mod_lt _ (by decide)⟩,
    Nat.div_add_mod a.val 192⟩

end Cert.Kernel21Ideal.Ad

namespace Cert.Reference21Ideal.Ad

open Idealize.ShloMosaic Idealize.ShloMosaic.TcCoe Idealize.SL.Sem Cert.Reference21Ideal Cert.Reference21Ideal.Gen Cert.Reference21Ideal.Read Cert.Adam Idealize.ShloMosaic.Pointwise
open Cert.Kernel21Ideal.Ad (W G P Q sum)

section Entry

variable (w : (⟨S192x1024, .f32⟩ : BufTy).Contents (Elt Ideal)) (g : (⟨S8x1536x1024, .bf16⟩ : BufTy).Contents (Elt Ideal))
  (m v : (⟨S192x1024, .f32⟩ : BufTy).Contents (Elt Ideal)) (a : Fin 192) (b : Fin 1024)

/-- The reference's mean of the gradient. -/
theorem first : (val_main_v7 (F := Ideal) g m (ix2 a b) : EReal) = mean1 (val_main_v2 (F := Ideal) g (ix2 a b)) (m (ix2 a b)) := by
  unfold val_main_v7 val_main_v6 val_main_v5 val_main_v4 val_main_v3 val_main_cst_1 val_main_cst_0
  generalize val_main_v2 (F := Ideal) g = s
  pointwise
  rfl

/-- The reference's mean of the squared gradient. -/
theorem second : (val_main_v13 (F := Ideal) g v (ix2 a b) : EReal) = mean2 (val_main_v2 (F := Ideal) g (ix2 a b)) (v (ix2 a b)) := by
  unfold val_main_v13 val_main_v12 val_main_v11 val_main_v10 val_main_v9 val_main_v8 val_main_cst_3 val_main_cst_2
  generalize val_main_v2 (F := Ideal) g = s
  pointwise
  rfl

/-- The reference's change of the weight. -/
theorem delta : (val_main_v26 (F := Ideal) w g m v (ix2 a b) : EReal) = step (w (ix2 a b)) (val_main_v2 (F := Ideal) g (ix2 a b)) (m (ix2 a b)) (v (ix2 a b)) := by
  rw [step_eq, ← first g m a b, ← second g v a b]
  unfold val_main_v26 val_main_v25 val_main_v24 val_main_v23 val_main_v22 val_main_v21 val_main_v20 val_main_v19 val_main_v18 val_main_v17 val_main_v16 val_main_v15 val_main_v14 val_main_cst_8 val_main_cst_7 val_main_cst_6 val_main_cst_5 val_main_cst_4
  generalize val_main_v7 (F := Ideal) g m = s, val_main_v13 (F := Ideal) g v = r
  pointwise
  rfl

end Entry

variable (M : (l : Loc Cert.Kernel21Ideal.nD Cert.Kernel21Ideal.τ Cert.Kernel21Ideal.sig) → Buf (Elt Ideal) l) (c : Dev Cert.Kernel21Ideal.nD)

/-- The reference's sum of the devices' parts of the gradient. -/
theorem total (a : Fin 192) (b : Fin 1024) : (val_main_v2 (F := Ideal) (G M c) (ix2 a b) : EReal) = sum M c a b := by
  unfold val_main_v2 val_main_v1 val_main_v0 val_main_cst
  pointwise
  exact Finset.sum_congr rfl fun i _ => congrArg (fun r => G M c (ix3 i r b)) (Fin.ext rfl)

/-- The reference ends with its arguments unchanged and every counter at zero. -/
theorem frame : Cert.quiescent_Reference21Ideal (hReference21Ideal := Cert.Reference21Ideal.Gen.facts) := fun m ρ _ =>
  (θ_run Cert.Reference21Ideal.defs _ _).mono
    (fun r h => ⟨fun c => (h c).2.2.2.2, Idealize.ShloMosaic.sem_eq_zero_of_no_sems (by decide) r.2⟩) (Cert.Reference21Ideal.Value.run m ρ)

/-- The kernel and the reference compute the same. -/
theorem values : Cert.algebraic_Kernel21Ideal_Reference21Ideal (hKernel21Ideal := Cert.Kernel21Ideal.Gen.facts) (hReference21Ideal := Cert.Reference21Ideal.Gen.facts) := by
  intro m ρ m' ρ' _ hag
  have key : ∀ {X Y : (⟨S192x1024, .f32⟩ : BufTy).Contents (Elt Ideal)},
      (∀ (t : Fin Cert.Kernel21Ideal.cfg0.N) (p : Fin 192) (a : Fin 192) (b : Fin 1024), 192 * t.val + p.val = a.val → X (ix2 a b) = Y (ix2 a b)) → X = Y := fun h => funext fun i => by
    obtain ⟨t, p, e⟩ := Cert.Kernel21Ideal.Ad.point (i 0)
    rw [ValueIdx.eq_ix2 i]
    exact h t p (i 0) (i 1) e
  refine ⟨fun c => (Cert.Kernel21Ideal.Gen.dats (F := Ideal) m 0 c).arrAt 4 Cert.Kernel21Ideal.cfg0.N, fun c => (Cert.Kernel21Ideal.Gen.dats (F := Ideal) m 0 c).arrAt 5 Cert.Kernel21Ideal.cfg0.N,
    fun c => (Cert.Kernel21Ideal.Gen.dats (F := Ideal) m 0 c).arrAt 6 Cert.Kernel21Ideal.cfg0.N, fun c => (Cert.Kernel21Ideal.Gen.dats (F := Ideal) m 0 c).arrAt 7 Cert.Kernel21Ideal.cfg0.N,
    (θ_run _ _ _).mono (fun _ h c => h c) (Cert.Kernel21Ideal.Value.run_blocks (F := Ideal) m ρ),
    (θ_run _ _ _).mono (fun _ h c => ⟨(h c).1.trans ?_, (h c).2.1.trans ?_, (h c).2.2.1.trans ?_, (h c).2.2.2.1.trans ?_, (h c).2.2.2.2⟩) (Cert.Reference21Ideal.Value.run (F := Ideal) m' ρ')⟩
  all_goals
    obtain ⟨e0, e1, e2, e3⟩ := hag c
  · rw [e1]
    exact (val_main_v2_eq (F := Ideal) _).trans (key fun t p a b h => (total m c a b).trans (Cert.Kernel21Ideal.Ad.gradA m c t p b a h).symm)
  · rw [e0, e1, e2, e3]
    exact (val_main_v26_eq (F := Ideal) _ _ _ _).trans (key fun t p a b h => ((delta _ _ _ _ a b).trans (by rw [total m c a b])).trans (Cert.Kernel21Ideal.Ad.deltaA m c t p b a h).symm)
  · rw [e1, e2]
    exact (val_main_v7_eq (F := Ideal) _ _).trans (key fun t p a b h => ((first _ _ a b).trans (by rw [total m c a b])).trans (Cert.Kernel21Ideal.Ad.firstA m c t p b a h).symm)
  · rw [e1, e3]
    exact (val_main_v13_eq (F := Ideal) _ _).trans (key fun t p a b h => ((second _ _ a b).trans (by rw [total m c a b])).trans (Cert.Kernel21Ideal.Ad.secondA m c t p b a h).symm)

end Cert.Reference21Ideal.Ad

end
-- ==== Proof.AdamHgrnLateEq.lean ====
module

public import proofs.«01_k».proof.Defs
public import proofs.«01_k».proof.Proof.Adam
public import proofs.«01_k».proof.Proof.RowSums
public import proofs.«01_k».proof.Proof.Stores
public import proofs.«01_k».proof.Proof.Gen.Kernel22Ideal.Value
public import proofs.«01_k».proof.Proof.Gen.Reference22Ideal.Run
public import proofs.«01_k».proof.Proof.Gen.Reference22Ideal.Read
public import Idealize.ShloMosaic.Lib.Pipeline.ValueKit.Basic

@[expose] public section

/-! The optimiser's step of `Kernel22Ideal`: the rows of the recurrence layers' input projections. -/

noncomputable section

namespace Cert.Kernel22Ideal.Ad

open Idealize.ShloMosaic Idealize.ShloMosaic.TcCoe Cert.Kernel22Ideal Cert.Kernel22Ideal.Gen Cert.Kernel22Ideal.Value Cert.Adam Idealize.ShloMosaic.Pointwise

section Block

variable (w : Vec Ideal S160x1024 .f32) (g : Vec Ideal S8x160x1024 .bf16) (m v : Vec Ideal S160x1024 .f32) (p : Fin 160) (b : Fin 1024)

/-- The devices' parts of a block of the gradient, added. -/
def parts : EReal := ∑ i : Fin 8, g (ix3 i p b)

/-- A block's parts of the gradient, added as the kernel adds them. -/
def added : Vec Ideal S160x1024 .f32 :=
  k0_pay4 (View.ld g (Rect.unit (s := S8x160x1024) ![0, 0, 0] S1x160x1024.size inb_S8x160x1024_S1x160x1024_0_0_0)) (View.ld g (Rect.unit (s := S8x160x1024) ![1, 0, 0] S1x160x1024.size inb_S8x160x1024_S1x160x1024_1_0_0)) (View.ld g (Rect.unit (s := S8x160x1024) ![2, 0, 0] S1x160x1024.size inb_S8x160x1024_S1x160x1024_2_0_0)) (View.ld g (Rect.unit (s := S8x160x1024) ![3, 0, 0] S1x160x1024.size inb_S8x160x1024_S1x160x1024_3_0_0)) (View.ld g (Rect.unit (s := S8x160x1024) ![4, 0, 0] S1x160x1024.size inb_S8x160x1024_S1x160x1024_4_0_0)) (View.ld g (Rect.unit (s := S8x160x1024) ![5, 0, 0] S1x160x1024.size inb_S8x160x1024_S1x160x1024_5_0_0)) (View.ld g (Rect.unit (s := S8x160x1024) ![6, 0, 0] S1x160x1024.size inb_S8x160x1024_S1x160x1024_6_0_0)) (View.ld g (Rect.unit (s := S8x160x1024) ![7, 0, 0] S1x160x1024.size inb_S8x160x1024_S1x160x1024_7_0_0))

/-- The kernel adds the parts. -/
theorem total : (added g (ix2 p b) : EReal) = parts g p b := by
  unfold added k0_pay4
  pointwise
  exact eight fun i => g (ix3 i p b)

/-- The new mean of the gradient. -/
theorem first : (k0_pay1 (added g) m (Scalar.ofBits .f32 0x3F666666#32) (ix2 p b) : EReal) = mean1 (parts g p b) (m (ix2 p b)) := by
  rw [← total g p b]
  generalize added g = s
  unfold k0_pay1
  pointwise
  rfl

/-- The new mean of the squared gradient. -/
theorem second : (k0_pay2 (added g) v (ix2 p b) : EReal) = mean2 (parts g p b) (v (ix2 p b)) := by
  rw [← total g p b]
  generalize added g = s
  unfold k0_pay2
  pointwise
  rfl

/-- The weight's change. -/
theorem delta : (k0_pay3 (added g) m (Scalar.ofBits .f32 0x3F666666#32) v w (ix2 p b) : EReal) = step (w (ix2 p b)) (parts g p b) (m (ix2 p b)) (v (ix2 p b)) := by
  rw [← total g p b]
  generalize added g = s
  unfold k0_pay3 k0_pay1 k0_pay2
  pointwise
  rw [IdealRules.named_const.ideal_named_scalar κ "inv_bias1" _ ((8388608 / 5463681 : ℝ) : EReal) rfl,
    IdealRules.named_const.ideal_named_scalar κ "inv_bias2" _ ((268435456 / 2672307 : ℝ) : EReal) rfl]
  rfl

variable (c : Dev nD) (i : grid0.Coords) (arg1 : Memref sig .tc .vmem S160x1024 .f32) (harg1 : arg1.IsWhole) (arg2 : Memref sig .tc .vmem S8x160x1024 .bf16) (harg2 : arg2.IsWhole) (arg3 : Memref sig .tc .vmem S160x1024 .f32) (harg3 : arg3.IsWhole) (arg4 : Memref sig .tc .vmem S160x1024 .f32) (harg4 : arg4.IsWhole) (arg5 : Memref sig .tc .vmem S160x1024 .f32) (harg5 : arg5.IsWhole) (arg6 : Memref sig .tc .vmem S160x1024 .f32) (harg6 : arg6.IsWhole) (arg7 : Memref sig .tc .vmem S160x1024 .f32) (harg7 : arg7.IsWhole) (arg8 : Memref sig .tc .vmem S160x1024 .f32) (harg8 : arg8.IsWhole)

/-- A point's loads of the parts. -/
def loaded : Vec Ideal S160x1024 .f32 :=
  k0_pay4 (View.readAt (Elt Ideal) arg2.view (Rect.unit (s := S8x160x1024) ![0, 0, 0] S1x160x1024.size inb_S8x160x1024_S1x160x1024_0_0_0).toLoadRect (harg2.unread g)) (View.readAt (Elt Ideal) arg2.view (Rect.unit (s := S8x160x1024) ![1, 0, 0] S1x160x1024.size inb_S8x160x1024_S1x160x1024_1_0_0).toLoadRect (harg2.unread g)) (View.readAt (Elt Ideal) arg2.view (Rect.unit (s := S8x160x1024) ![2, 0, 0] S1x160x1024.size inb_S8x160x1024_S1x160x1024_2_0_0).toLoadRect (harg2.unread g)) (View.readAt (Elt Ideal) arg2.view (Rect.unit (s := S8x160x1024) ![3, 0, 0] S1x160x1024.size inb_S8x160x1024_S1x160x1024_3_0_0).toLoadRect (harg2.unread g)) (View.readAt (Elt Ideal) arg2.view (Rect.unit (s := S8x160x1024) ![4, 0, 0] S1x160x1024.size inb_S8x160x1024_S1x160x1024_4_0_0).toLoadRect (harg2.unread g)) (View.readAt (Elt Ideal) arg2.view (Rect.unit (s := S8x160x1024) ![5, 0, 0] S1x160x1024.size inb_S8x160x1024_S1x160x1024_5_0_0).toLoadRect (harg2.unread g)) (View.readAt (Elt Ideal) arg2.view (Rect.unit (s := S8x160x1024) ![6, 0, 0] S1x160x1024.size inb_S8x160x1024_S1x160x1024_6_0_0).toLoadRect (harg2.unread g)) (View.readAt (Elt Ideal) arg2.view (Rect.unit (s := S8x160x1024) ![7, 0, 0] S1x160x1024.size inb_S8x160x1024_S1x160x1024_7_0_0).toLoadRect (harg2.unread g))

/-- The loads read the block. -/
theorem loaded_eq : loaded g arg2 harg2 = added g := by
  unfold loaded added
  simp only [Cert.Rows.part_load]

/-- What a point stores in window 4. -/
theorem store4 : (kernelRun0_A (F := Ideal) c i arg1 harg1 arg2 harg2 arg3 harg3 arg4 harg4 arg5 harg5 arg6 harg6 arg7 harg7 arg8 harg8 w g m v).1 = [⟨(Rect.unit (s := S160x1024) ![0, 0] S160x1024.size inb_S160x1024_S160x1024_0_0), loaded g arg2 harg2⟩] := by
  sl_kernel_rfl

/-- What a point leaves in window 4. -/
theorem leave4 : out0_A_4 (F := Ideal) c i arg1 harg1 arg2 harg2 arg3 harg3 arg4 harg4 arg5 harg5 arg6 harg6 arg7 harg7 arg8 harg8 w g m v = added g := by
  unfold out0_A_4
  rw [store4, Cert.Stores.whole_store, loaded_eq]

/-- What a point stores in window 5. -/
theorem store5 : (kernelRun0_A (F := Ideal) c i arg1 harg1 arg2 harg2 arg3 harg3 arg4 harg4 arg5 harg5 arg6 harg6 arg7 harg7 arg8 harg8 w g m v).2.1 = [⟨(Rect.unit (s := S160x1024) ![0, 0] S160x1024.size inb_S160x1024_S160x1024_0_0), k0_pay3 (loaded g arg2 harg2) (View.readAt (Elt Ideal) arg3.view (Rect.unit (s := S160x1024) ![0, 0] S160x1024.size inb_S160x1024_S160x1024_0_0).toLoadRect (harg3.unread m)) (Scalar.ofBits .f32 0x3F666666#32) (View.readAt (Elt Ideal) arg4.view (Rect.unit (s := S160x1024) ![0, 0] S160x1024.size inb_S160x1024_S160x1024_0_0).toLoadRect (harg4.unread v)) (View.readAt (Elt Ideal) arg1.view (Rect.unit (s := S160x1024) ![0, 0] S160x1024.size inb_S160x1024_S160x1024_0_0).toLoadRect (harg1.unread w))⟩] := by
  sl_kernel_rfl

/-- What a point leaves in window 5. -/
theorem leave5 : out0_A_5 (F := Ideal) c i arg1 harg1 arg2 harg2 arg3 harg3 arg4 harg4 arg5 harg5 arg6 harg6 arg7 harg7 arg8 harg8 w g m v = k0_pay3 (added g) m (Scalar.ofBits .f32 0x3F666666#32) v w := by
  unfold out0_A_5
  rw [store5, Cert.Stores.whole_store, loaded_eq, Cert.Stores.whole_load, Cert.Stores.whole_load, Cert.Stores.whole_load]

/-- What a point stores in window 6. -/
theorem store6 : (kernelRun0_A (F := Ideal) c i arg1 harg1 arg2 harg2 arg3 harg3 arg4 harg4 arg5 harg5 arg6 harg6 arg7 harg7 arg8 harg8 w g m v).2.2.1 = [⟨(Rect.unit (s := S160x1024) ![0, 0] S160x1024.size inb_S160x1024_S160x1024_0_0), k0_pay1 (loaded g arg2 harg2) (View.readAt (Elt Ideal) arg3.view (Rect.unit (s := S160x1024) ![0, 0] S160x1024.size inb_S160x1024_S160x1024_0_0).toLoadRect (harg3.unread m)) (Scalar.ofBits .f32 0x3F666666#32)⟩] := by
  sl_kernel_rfl

/-- What a point leaves in window 6. -/
theorem leave6 : out0_A_6 (F := Ideal) c i arg1 harg1 arg2 harg2 arg3 harg3 arg4 harg4 arg5 harg5 arg6 harg6 arg7 harg7 arg8 harg8 w g m v = k0_pay1 (added g) m (Scalar.ofBits .f32 0x3F666666#32) := by
  unfold out0_A_6
  rw [store6, Cert.Stores.whole_store, loaded_eq, Cert.Stores.whole_load]

/-- What a point stores in window 7. -/
theorem store7 : (kernelRun0_A (F := Ideal) c i arg1 harg1 arg2 harg2 arg3 harg3 arg4 harg4 arg5 harg5 arg6 harg6 arg7 harg7 arg8 harg8 w g m v).2.2.2.1 = [⟨(Rect.unit (s := S160x1024) ![0, 0] S160x1024.size inb_S160x1024_S160x1024_0_0), k0_pay2 (loaded g arg2 harg2) (View.readAt (Elt Ideal) arg4.view (Rect.unit (s := S160x1024) ![0, 0] S160x1024.size inb_S160x1024_S160x1024_0_0).toLoadRect (harg4.unread v))⟩] := by
  sl_kernel_rfl

/-- What a point leaves in window 7. -/
theorem leave7 : out0_A_7 (F := Ideal) c i arg1 harg1 arg2 harg2 arg3 harg3 arg4 harg4 arg5 harg5 arg6 harg6 arg7 harg7 arg8 harg8 w g m v = k0_pay2 (added g) v := by
  unfold out0_A_7
  rw [store7, Cert.Stores.whole_store, loaded_eq, Cert.Stores.whole_load]

end Block

variable (M : (l : Loc nD τ sig) → Buf (Elt Ideal) l) (c : Dev nD)

/-- The weight as launched. -/
abbrev W : (⟨S640x1024, .f32⟩ : BufTy).Contents (Elt Ideal) := M ((c : Thread nD τ).loc main_arg0)

/-- The devices' parts of the gradient as launched. -/
abbrev G : (⟨S8x1984x1024, .bf16⟩ : BufTy).Contents (Elt Ideal) := M ((c : Thread nD τ).loc main_arg1)

/-- The mean of the gradient as launched. -/
abbrev P : (⟨S640x1024, .f32⟩ : BufTy).Contents (Elt Ideal) := M ((c : Thread nD τ).loc main_arg2)

/-- The mean of the squared gradient as launched. -/
abbrev Q : (⟨S640x1024, .f32⟩ : BufTy).Contents (Elt Ideal) := M ((c : Thread nD τ).loc main_arg3)

/-- The whole gradient of an entry. -/
def sum (a : Fin 640) (b : Fin 1024) : EReal := ∑ i : Fin 8, G M c (ix3 i ⟨a.val, by omega⟩ b)

/-- The blocks at a point. -/
theorem idx : ∀ t : Fin cfg0.N, win0_4.index t (0 : Fin 2) = t.val ∧ win0_4.index t (1 : Fin 2) = 0 ∧ win0_1.index t (0 : Fin 3) = 0
    ∧ win0_1.index t (1 : Fin 3) = t.val ∧ win0_1.index t (2 : Fin 3) = 0 := (by decide +kernel : ∀ t : Fin grid0.N, _)

/-- Every point writes its blocks back. -/
theorem flush : ∀ t : Fin cfg0.N, (cfg0.win 4).flush t = true ∧ (cfg0.win 5).flush t = true ∧ (cfg0.win 6).flush t = true
    ∧ (cfg0.win 7).flush t = true := (by decide +kernel : ∀ t : Fin grid0.N, _)

section Point

variable (t : Fin cfg0.N) (p : Fin 160) (b : Fin 1024) (a : Fin 640) (h : 160 * t.val + p.val = a.val)
include h

/-- Where an entry of a point's block of rows lies. -/
theorem emb : ((cfg0.win 4).blk t).view.emb (ix2 p b) = ix2 a b := by
  obtain ⟨e0, e1, -⟩ := idx t
  refine funext fun d => Fin.ext ?_
  match d with
  | ⟨0, _⟩ => show win0_4.index t (0 : Fin 2) * 160 + 1 * p.val = a.val; omega
  | ⟨1, _⟩ => show win0_4.index t (1 : Fin 2) * 1024 + 1 * b.val = b.val; omega

/-- An entry of the weight's block. -/
theorem blkW : (iblk M c 0 t (ix2 p b) : EReal) = W M c (ix2 a b) := by
  show V M c main_arg0 (((cfg0.win 0).blk t).view.emb (ix2 p b)) = _
  rw [V_main_arg0]
  exact congrArg (W M c) (emb t p b a h)

/-- An entry of the block of the gradient's mean. -/
theorem blkP : (iblk M c 2 t (ix2 p b) : EReal) = P M c (ix2 a b) := by
  show V M c main_arg2 (((cfg0.win 2).blk t).view.emb (ix2 p b)) = _
  rw [V_main_arg2]
  exact congrArg (P M c) (emb t p b a h)

/-- An entry of the block of the squared gradient's mean. -/
theorem blkQ : (iblk M c 3 t (ix2 p b) : EReal) = Q M c (ix2 a b) := by
  show V M c main_arg3 (((cfg0.win 3).blk t).view.emb (ix2 p b)) = _
  rw [V_main_arg3]
  exact congrArg (Q M c) (emb t p b a h)

/-- The parts of an entry's gradient, added. -/
theorem blkG : parts (X0_1 M c t) p b = sum M c a b := by
  have ha := a.isLt
  refine Finset.sum_congr rfl fun i _ => ?_
  unfold X0_1 Pipeline.Window.fill
  rw [dif_pos (moved0_1 t _)]
  show V M c main_arg1 (((cfg0.win 1).blk t).view.emb _) = _
  rw [V_main_arg1]
  obtain ⟨-, -, e0, e1, e2⟩ := idx t
  refine congrArg (G M c) (funext fun d => Fin.ext ?_)
  match d with
  | ⟨0, _⟩ => show win0_1.index t (0 : Fin 3) * 8 + 1 * i.val = i.val; omega
  | ⟨1, _⟩ => show win0_1.index t (1 : Fin 3) * 160 + 1 * p.val = a.val; omega
  | ⟨2, _⟩ => show win0_1.index t (2 : Fin 3) * 1024 + 1 * b.val = b.val; omega

/-- An entry of the gradient. -/
theorem gradA : ((dats M 0 c).arrAt 4 cfg0.N (ix2 a b) : EReal) = sum M c a b := by
  refine (congrArg ((dats M 0 c).arrAt 4 cfg0.N) (emb t p b a h).symm).trans ((congrFun (blocks4 M c t (flush t).1) (ix2 p b)).trans
    ((congrFun (flushed4_A M c t) (ix2 p b)).trans ((show _ = _ from (congrFun (leave4 (iblk M c 0 t) (X0_1 M c t) (iblk M c 2 t) (iblk M c 3 t) _ _ _ _ _ _ _ _ _ _ _ _ _ _ _ _ _ _) (ix2 p b)).trans (total (X0_1 M c t) p b)).trans ?_)))
  rw [blkG M c t p b a h]

/-- An entry of the weight's change. -/
theorem deltaA : ((dats M 0 c).arrAt 5 cfg0.N (ix2 a b) : EReal) = step (W M c (ix2 a b)) (sum M c a b) (P M c (ix2 a b)) (Q M c (ix2 a b)) := by
  refine (congrArg ((dats M 0 c).arrAt 5 cfg0.N) (emb t p b a h).symm).trans ((congrFun (blocks5 M c t (flush t).2.1) (ix2 p b)).trans
    ((congrFun (flushed5_A M c t) (ix2 p b)).trans ((show _ = _ from (congrFun (leave5 (iblk M c 0 t) (X0_1 M c t) (iblk M c 2 t) (iblk M c 3 t) _ _ _ _ _ _ _ _ _ _ _ _ _ _ _ _ _ _) (ix2 p b)).trans (delta (iblk M c 0 t) (X0_1 M c t) (iblk M c 2 t) (iblk M c 3 t) p b)).trans ?_)))
  rw [blkG M c t p b a h, blkW M c t p b a h, blkP M c t p b a h, blkQ M c t p b a h]

/-- An entry of the gradient's mean. -/
theorem firstA : ((dats M 0 c).arrAt 6 cfg0.N (ix2 a b) : EReal) = mean1 (sum M c a b) (P M c (ix2 a b)) := by
  refine (congrArg ((dats M 0 c).arrAt 6 cfg0.N) (emb t p b a h).symm).trans ((congrFun (blocks6 M c t (flush t).2.2.1) (ix2 p b)).trans
    ((congrFun (flushed6_A M c t) (ix2 p b)).trans ((show _ = _ from (congrFun (leave6 (iblk M c 0 t) (X0_1 M c t) (iblk M c 2 t) (iblk M c 3 t) _ _ _ _ _ _ _ _ _ _ _ _ _ _ _ _ _ _) (ix2 p b)).trans (first (X0_1 M c t) (iblk M c 2 t) p b)).trans ?_)))
  rw [blkG M c t p b a h, blkP M c t p b a h]

/-- An entry of the squared gradient's mean. -/
theorem secondA : ((dats M 0 c).arrAt 7 cfg0.N (ix2 a b) : EReal) = mean2 (sum M c a b) (Q M c (ix2 a b)) := by
  refine (congrArg ((dats M 0 c).arrAt 7 cfg0.N) (emb t p b a h).symm).trans ((congrFun (blocks7 M c t (flush t).2.2.2) (ix2 p b)).trans
    ((congrFun (flushed7_A M c t) (ix2 p b)).trans ((show _ = _ from (congrFun (leave7 (iblk M c 0 t) (X0_1 M c t) (iblk M c 2 t) (iblk M c 3 t) _ _ _ _ _ _ _ _ _ _ _ _ _ _ _ _ _ _) (ix2 p b)).trans (second (X0_1 M c t) (iblk M c 3 t) p b)).trans ?_)))
  rw [blkG M c t p b a h, blkQ M c t p b a h]

end Point

/-- Every row is in a point's block. -/
theorem point (a : Fin 640) : ∃ (t : Fin cfg0.N) (p : Fin 160), 160 * t.val + p.val = a.val :=
  ⟨⟨a.val / 160, lt_of_lt_of_eq (show a.val / 160 < 4 by have := a.isLt; omega) N_0.symm⟩, ⟨a.val % 160, Nat.mod_lt _ (by decide)⟩,
    Nat.div_add_mod a.val 160⟩

end Cert.Kernel22Ideal.Ad

namespace Cert.Reference22Ideal.Ad

open Idealize.ShloMosaic Idealize.ShloMosaic.TcCoe Idealize.SL.Sem Cert.Reference22Ideal Cert.Reference22Ideal.Gen Cert.Reference22Ideal.Read Cert.Adam Idealize.ShloMosaic.Pointwise
open Cert.Kernel22Ideal.Ad (W G P Q sum)

section Entry

variable (w : (⟨S640x1024, .f32⟩ : BufTy).Contents (Elt Ideal)) (g : (⟨S8x1984x1024, .bf16⟩ : BufTy).Contents (Elt Ideal))
  (m v : (⟨S640x1024, .f32⟩ : BufTy).Contents (Elt Ideal)) (a : Fin 640) (b : Fin 1024)

/-- The reference's mean of the gradient. -/
theorem first : (val_main_v7 (F := Ideal) g m (ix2 a b) : EReal) = mean1 (val_main_v2 (F := Ideal) g (ix2 a b)) (m (ix2 a b)) := by
  unfold val_main_v7 val_main_v6 val_main_v5 val_main_v4 val_main_v3 val_main_cst_1 val_main_cst_0
  generalize val_main_v2 (F := Ideal) g = s
  pointwise
  rfl

/-- The reference's mean of the squared gradient. -/
theorem second : (val_main_v13 (F := Ideal) g v (ix2 a b) : EReal) = mean2 (val_main_v2 (F := Ideal) g (ix2 a b)) (v (ix2 a b)) := by
  unfold val_main_v13 val_main_v12 val_main_v11 val_main_v10 val_main_v9 val_main_v8 val_main_cst_3 val_main_cst_2
  generalize val_main_v2 (F := Ideal) g = s
  pointwise
  rfl

/-- The reference's change of the weight. -/
theorem delta : (val_main_v26 (F := Ideal) w g m v (ix2 a b) : EReal) = step (w (ix2 a b)) (val_main_v2 (F := Ideal) g (ix2 a b)) (m (ix2 a b)) (v (ix2 a b)) := by
  rw [step_eq, ← first g m a b, ← second g v a b]
  unfold val_main_v26 val_main_v25 val_main_v24 val_main_v23 val_main_v22 val_main_v21 val_main_v20 val_main_v19 val_main_v18 val_main_v17 val_main_v16 val_main_v15 val_main_v14 val_main_cst_8 val_main_cst_7 val_main_cst_6 val_main_cst_5 val_main_cst_4
  generalize val_main_v7 (F := Ideal) g m = s, val_main_v13 (F := Ideal) g v = r
  pointwise
  rfl

end Entry

variable (M : (l : Loc Cert.Kernel22Ideal.nD Cert.Kernel22Ideal.τ Cert.Kernel22Ideal.sig) → Buf (Elt Ideal) l) (c : Dev Cert.Kernel22Ideal.nD)

/-- The reference's sum of the devices' parts of the gradient. -/
theorem total (a : Fin 640) (b : Fin 1024) : (val_main_v2 (F := Ideal) (G M c) (ix2 a b) : EReal) = sum M c a b := by
  unfold val_main_v2 val_main_v1 val_main_v0 val_main_cst
  pointwise
  exact Finset.sum_congr rfl fun i _ => congrArg (fun r => G M c (ix3 i r b)) (Fin.ext rfl)

/-- The reference ends with its arguments unchanged and every counter at zero. -/
theorem frame : Cert.quiescent_Reference22Ideal (hReference22Ideal := Cert.Reference22Ideal.Gen.facts) := fun m ρ _ =>
  (θ_run Cert.Reference22Ideal.defs _ _).mono
    (fun r h => ⟨fun c => (h c).2.2.2.2, Idealize.ShloMosaic.sem_eq_zero_of_no_sems (by decide) r.2⟩) (Cert.Reference22Ideal.Value.run m ρ)

/-- The kernel and the reference compute the same. -/
theorem values : Cert.algebraic_Kernel22Ideal_Reference22Ideal (hKernel22Ideal := Cert.Kernel22Ideal.Gen.facts) (hReference22Ideal := Cert.Reference22Ideal.Gen.facts) := by
  intro m ρ m' ρ' _ hag
  have key : ∀ {X Y : (⟨S640x1024, .f32⟩ : BufTy).Contents (Elt Ideal)},
      (∀ (t : Fin Cert.Kernel22Ideal.cfg0.N) (p : Fin 160) (a : Fin 640) (b : Fin 1024), 160 * t.val + p.val = a.val → X (ix2 a b) = Y (ix2 a b)) → X = Y := fun h => funext fun i => by
    obtain ⟨t, p, e⟩ := Cert.Kernel22Ideal.Ad.point (i 0)
    rw [ValueIdx.eq_ix2 i]
    exact h t p (i 0) (i 1) e
  refine ⟨fun c => (Cert.Kernel22Ideal.Gen.dats (F := Ideal) m 0 c).arrAt 4 Cert.Kernel22Ideal.cfg0.N, fun c => (Cert.Kernel22Ideal.Gen.dats (F := Ideal) m 0 c).arrAt 5 Cert.Kernel22Ideal.cfg0.N,
    fun c => (Cert.Kernel22Ideal.Gen.dats (F := Ideal) m 0 c).arrAt 6 Cert.Kernel22Ideal.cfg0.N, fun c => (Cert.Kernel22Ideal.Gen.dats (F := Ideal) m 0 c).arrAt 7 Cert.Kernel22Ideal.cfg0.N,
    (θ_run _ _ _).mono (fun _ h c => h c) (Cert.Kernel22Ideal.Value.run_blocks (F := Ideal) m ρ),
    (θ_run _ _ _).mono (fun _ h c => ⟨(h c).1.trans ?_, (h c).2.1.trans ?_, (h c).2.2.1.trans ?_, (h c).2.2.2.1.trans ?_, (h c).2.2.2.2⟩) (Cert.Reference22Ideal.Value.run (F := Ideal) m' ρ')⟩
  all_goals
    obtain ⟨e0, e1, e2, e3⟩ := hag c
  · rw [e1]
    exact (val_main_v2_eq (F := Ideal) _).trans (key fun t p a b h => (total m c a b).trans (Cert.Kernel22Ideal.Ad.gradA m c t p b a h).symm)
  · rw [e0, e1, e2, e3]
    exact (val_main_v26_eq (F := Ideal) _ _ _ _).trans (key fun t p a b h => ((delta _ _ _ _ a b).trans (by rw [total m c a b])).trans (Cert.Kernel22Ideal.Ad.deltaA m c t p b a h).symm)
  · rw [e1, e2]
    exact (val_main_v7_eq (F := Ideal) _ _).trans (key fun t p a b h => ((first _ _ a b).trans (by rw [total m c a b])).trans (Cert.Kernel22Ideal.Ad.firstA m c t p b a h).symm)
  · rw [e1, e3]
    exact (val_main_v13_eq (F := Ideal) _ _).trans (key fun t p a b h => ((second _ _ a b).trans (by rw [total m c a b])).trans (Cert.Kernel22Ideal.Ad.secondA m c t p b a h).symm)

end Cert.Reference22Ideal.Ad

end
-- ==== Proof.AdamEarly3Eq.lean ====
module

public import proofs.«01_k».proof.Defs
public import proofs.«01_k».proof.Proof.Adam
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pipeline.ValueKit.Basic

@[expose] public section

/-! The optimiser's step of `Kernel23Ideal`: the rows of the last layer's other weights. -/

noncomputable section

namespace Cert.Kernel23Ideal.Ad

open Idealize.ShloMosaic Idealize.ShloMosaic.TcCoe Cert.Kernel23Ideal Cert.Kernel23Ideal.Gen Cert.Kernel23Ideal.Value Cert.Adam Idealize.ShloMosaic.Pointwise

section Block

variable (w : Vec Ideal S224x1024 .f32) (g : Vec Ideal S8x224x1024 .bf16) (m v : Vec Ideal S224x1024 .f32) (p : Fin 224) (b : Fin 1024)

/-- The devices' parts of a block of the gradient, added. -/
def parts : EReal := ∑ i : Fin 8, g (ix3 i p b)

/-- The kernel adds the parts. -/
theorem total : (k0_pay5 w g m v (ix2 p b) : EReal) = parts g p b := by
  unfold k0_pay5 k0_pay4
  pointwise
  exact eight fun i => g (ix3 i p b)

/-- What is stored of the gradient. -/
theorem grad : (out0_4 w g m v (ix2 p b) : EReal) = parts g p b := by
  unfold out0_4
  rw [View.canon_cons_unit_lit _ _ _ (by decide), total]

/-- What is stored of the gradient's mean. -/
theorem first : (out0_6 w g m v (ix2 p b) : EReal) = mean1 (parts g p b) (m (ix2 p b)) := by
  unfold out0_6
  rw [View.canon_cons_unit_lit _ _ _ (by decide), View.ld_unit_lit _ _ (by decide), ← total w g m v p b]
  generalize k0_pay5 w g m v = s
  unfold k0_pay1
  pointwise
  rfl

/-- What is stored of the squared gradient's mean. -/
theorem second : (out0_7 w g m v (ix2 p b) : EReal) = mean2 (parts g p b) (v (ix2 p b)) := by
  unfold out0_7
  rw [View.canon_cons_unit_lit _ _ _ (by decide), View.ld_unit_lit _ _ (by decide), ← total w g m v p b]
  generalize k0_pay5 w g m v = s
  unfold k0_pay2
  pointwise
  rfl

/-- What is stored of the weight's change. -/
theorem delta : (out0_5 w g m v (ix2 p b) : EReal) = step (w (ix2 p b)) (parts g p b) (m (ix2 p b)) (v (ix2 p b)) := by
  unfold out0_5
  rw [View.canon_cons_unit_lit _ _ _ (by decide), View.ld_unit_lit _ _ (by decide), View.ld_unit_lit _ _ (by decide), View.ld_unit_lit _ _ (by decide),
    ← total w g m v p b]
  generalize k0_pay5 w g m v = s
  unfold k0_pay3 k0_pay1 k0_pay2
  pointwise
  rw [IdealRules.named_const.ideal_named_scalar κ "inv_bias1" _ ((8388608 / 5463681 : ℝ) : EReal) rfl,
    IdealRules.named_const.ideal_named_scalar κ "inv_bias2" _ ((268435456 / 2672307 : ℝ) : EReal) rfl]
  rfl

end Block

variable (M : (l : Loc nD τ sig) → Buf (Elt Ideal) l) (c : Dev nD)

/-- The weight as launched. -/
abbrev W : (⟨S1344x1024, .f32⟩ : BufTy).Contents (Elt Ideal) := M ((c : Thread nD τ).loc main_arg0)

/-- The devices' parts of the gradient as launched. -/
abbrev G : (⟨S8x1344x1024, .bf16⟩ : BufTy).Contents (Elt Ideal) := M ((c : Thread nD τ).loc main_arg1)

/-- The mean of the gradient as launched. -/
abbrev P : (⟨S1344x1024, .f32⟩ : BufTy).Contents (Elt Ideal) := M ((c : Thread nD τ).loc main_arg2)

/-- The mean of the squared gradient as launched. -/
abbrev Q : (⟨S1344x1024, .f32⟩ : BufTy).Contents (Elt Ideal) := M ((c : Thread nD τ).loc main_arg3)

/-- The whole gradient of an entry. -/
def sum (a : Fin 1344) (b : Fin 1024) : EReal := ∑ i : Fin 8, G M c (ix3 i a b)

/-- The blocks at a point. -/
theorem idx : ∀ t : Fin cfg0.N, win0_4.index t (0 : Fin 2) = t.val ∧ win0_4.index t (1 : Fin 2) = 0 ∧ win0_1.index t (0 : Fin 3) = 0
    ∧ win0_1.index t (1 : Fin 3) = t.val ∧ win0_1.index t (2 : Fin 3) = 0 := (by decide +kernel : ∀ t : Fin grid0.N, _)

/-- Every point writes its blocks back. -/
theorem flush : ∀ t : Fin cfg0.N, (cfg0.win 4).flush t = true ∧ (cfg0.win 5).flush t = true ∧ (cfg0.win 6).flush t = true
    ∧ (cfg0.win 7).flush t = true := (by decide +kernel : ∀ t : Fin grid0.N, _)

section Point

variable (t : Fin cfg0.N) (p : Fin 224) (b : Fin 1024) (a : Fin 1344) (h : 224 * t.val + p.val = a.val)
include h

/-- Where an entry of a point's block of rows lies. -/
theorem emb : ((cfg0.win 4).blk t).view.emb (ix2 p b) = ix2 a b := by
  obtain ⟨e0, e1, -⟩ := idx t
  refine funext fun d => Fin.ext ?_
  match d with
  | ⟨0, _⟩ => show win0_4.index t (0 : Fin 2) * 224 + 1 * p.val = a.val; omega
  | ⟨1, _⟩ => show win0_4.index t (1 : Fin 2) * 1024 + 1 * b.val = b.val; omega

/-- An entry of the weight's block. -/
theorem blkW : (iblk M c 0 t (ix2 p b) : EReal) = W M c (ix2 a b) := by
  show V M c main_arg0 (((cfg0.win 0).blk t).view.emb (ix2 p b)) = _
  rw [V_main_arg0]
  exact congrArg (W M c) (emb t p b a h)

/-- An entry of the block of the gradient's mean. -/
theorem blkP : (iblk M c 2 t (ix2 p b) : EReal) = P M c (ix2 a b) := by
  show V M c main_arg2 (((cfg0.win 2).blk t).view.emb (ix2 p b)) = _
  rw [V_main_arg2]
  exact congrArg (P M c) (emb t p b a h)

/-- An entry of the block of the squared gradient's mean. -/
theorem blkQ : (iblk M c 3 t (ix2 p b) : EReal) = Q M c (ix2 a b) := by
  show V M c main_arg3 (((cfg0.win 3).blk t).view.emb (ix2 p b)) = _
  rw [V_main_arg3]
  exact congrArg (Q M c) (emb t p b a h)

/-- The parts of an entry's gradient, added. -/
theorem blkG : parts (iblk M c 1 t) p b = sum M c a b := by
  have ha := a.isLt
  refine Finset.sum_congr rfl fun i _ => ?_
  show V M c main_arg1 (((cfg0.win 1).blk t).view.emb (ix3 i p b)) = _
  rw [V_main_arg1]
  obtain ⟨-, -, e0, e1, e2⟩ := idx t
  refine congrArg (G M c) (funext fun d => Fin.ext ?_)
  match d with
  | ⟨0, _⟩ => show win0_1.index t (0 : Fin 3) * 8 + 1 * i.val = i.val; omega
  | ⟨1, _⟩ => show win0_1.index t (1 : Fin 3) * 224 + 1 * p.val = a.val; omega
  | ⟨2, _⟩ => show win0_1.index t (2 : Fin 3) * 1024 + 1 * b.val = b.val; omega

/-- An entry of the gradient. -/
theorem gradA : ((dats M 0 c).arrAt 4 cfg0.N (ix2 a b) : EReal) = sum M c a b := by
  refine (congrArg ((dats M 0 c).arrAt 4 cfg0.N) (emb t p b a h).symm).trans ((congrFun (blocks4 M c t (flush t).1) (ix2 p b)).trans
    ((congrFun (flushed4 M c t) (ix2 p b)).trans ((show _ = _ from grad (iblk M c 0 t) (iblk M c 1 t) (iblk M c 2 t) (iblk M c 3 t) p b).trans ?_)))
  rw [blkG M c t p b a h]

/-- An entry of the weight's change. -/
theorem deltaA : ((dats M 0 c).arrAt 5 cfg0.N (ix2 a b) : EReal) = step (W M c (ix2 a b)) (sum M c a b) (P M c (ix2 a b)) (Q M c (ix2 a b)) := by
  refine (congrArg ((dats M 0 c).arrAt 5 cfg0.N) (emb t p b a h).symm).trans ((congrFun (blocks5 M c t (flush t).2.1) (ix2 p b)).trans
    ((congrFun (flushed5 M c t) (ix2 p b)).trans ((show _ = _ from delta (iblk M c 0 t) (iblk M c 1 t) (iblk M c 2 t) (iblk M c 3 t) p b).trans ?_)))
  rw [blkG M c t p b a h, blkW M c t p b a h, blkP M c t p b a h, blkQ M c t p b a h]

/-- An entry of the gradient's mean. -/
theorem firstA : ((dats M 0 c).arrAt 6 cfg0.N (ix2 a b) : EReal) = mean1 (sum M c a b) (P M c (ix2 a b)) := by
  refine (congrArg ((dats M 0 c).arrAt 6 cfg0.N) (emb t p b a h).symm).trans ((congrFun (blocks6 M c t (flush t).2.2.1) (ix2 p b)).trans
    ((congrFun (flushed6 M c t) (ix2 p b)).trans ((show _ = _ from first (iblk M c 0 t) (iblk M c 1 t) (iblk M c 2 t) (iblk M c 3 t) p b).trans ?_)))
  rw [blkG M c t p b a h, blkP M c t p b a h]

/-- An entry of the squared gradient's mean. -/
theorem secondA : ((dats M 0 c).arrAt 7 cfg0.N (ix2 a b) : EReal) = mean2 (sum M c a b) (Q M c (ix2 a b)) := by
  refine (congrArg ((dats M 0 c).arrAt 7 cfg0.N) (emb t p b a h).symm).trans ((congrFun (blocks7 M c t (flush t).2.2.2) (ix2 p b)).trans
    ((congrFun (flushed7 M c t) (ix2 p b)).trans ((show _ = _ from second (iblk M c 0 t) (iblk M c 1 t) (iblk M c 2 t) (iblk M c 3 t) p b).trans ?_)))
  rw [blkG M c t p b a h, blkQ M c t p b a h]

end Point

/-- Every row is in a point's block. -/
theorem point (a : Fin 1344) : ∃ (t : Fin cfg0.N) (p : Fin 224), 224 * t.val + p.val = a.val :=
  ⟨⟨a.val / 224, lt_of_lt_of_eq (show a.val / 224 < 6 by have := a.isLt; omega) N_0.symm⟩, ⟨a.val % 224, Nat.mod_lt _ (by decide)⟩,
    Nat.div_add_mod a.val 224⟩

end Cert.Kernel23Ideal.Ad

namespace Cert.Reference23Ideal.Ad

open Idealize.ShloMosaic Idealize.ShloMosaic.TcCoe Idealize.SL.Sem Cert.Reference23Ideal Cert.Reference23Ideal.Gen Cert.Reference23Ideal.Read Cert.Adam Idealize.ShloMosaic.Pointwise
open Cert.Kernel23Ideal.Ad (W G P Q sum)

section Entry

variable (w : (⟨S1344x1024, .f32⟩ : BufTy).Contents (Elt Ideal)) (g : (⟨S8x1344x1024, .bf16⟩ : BufTy).Contents (Elt Ideal))
  (m v : (⟨S1344x1024, .f32⟩ : BufTy).Contents (Elt Ideal)) (a : Fin 1344) (b : Fin 1024)

/-- The reference's mean of the gradient. -/
theorem first : (val_main_v6 (F := Ideal) g m (ix2 a b) : EReal) = mean1 (val_main_v1 (F := Ideal) g (ix2 a b)) (m (ix2 a b)) := by
  unfold val_main_v6 val_main_v5 val_main_v4 val_main_v3 val_main_v2 val_main_cst_1 val_main_cst_0
  generalize val_main_v1 (F := Ideal) g = s
  pointwise
  rfl

/-- The reference's mean of the squared gradient. -/
theorem second : (val_main_v12 (F := Ideal) g v (ix2 a b) : EReal) = mean2 (val_main_v1 (F := Ideal) g (ix2 a b)) (v (ix2 a b)) := by
  unfold val_main_v12 val_main_v11 val_main_v10 val_main_v9 val_main_v8 val_main_v7 val_main_cst_3 val_main_cst_2
  generalize val_main_v1 (F := Ideal) g = s
  pointwise
  rfl

/-- The reference's change of the weight. -/
theorem delta : (val_main_v25 (F := Ideal) w g m v (ix2 a b) : EReal) = step (w (ix2 a b)) (val_main_v1 (F := Ideal) g (ix2 a b)) (m (ix2 a b)) (v (ix2 a b)) := by
  rw [step_eq, ← first g m a b, ← second g v a b]
  unfold val_main_v25 val_main_v24 val_main_v23 val_main_v22 val_main_v21 val_main_v20 val_main_v19 val_main_v18 val_main_v17 val_main_v16 val_main_v15 val_main_v14 val_main_v13 val_main_cst_8 val_main_cst_7 val_main_cst_6 val_main_cst_5 val_main_cst_4
  generalize val_main_v6 (F := Ideal) g m = s, val_main_v12 (F := Ideal) g v = r
  pointwise
  rfl

end Entry

variable (M : (l : Loc Cert.Kernel23Ideal.nD Cert.Kernel23Ideal.τ Cert.Kernel23Ideal.sig) → Buf (Elt Ideal) l) (c : Dev Cert.Kernel23Ideal.nD)

/-- The reference's sum of the devices' parts of the gradient. -/
theorem total (a : Fin 1344) (b : Fin 1024) : (val_main_v1 (F := Ideal) (G M c) (ix2 a b) : EReal) = sum M c a b := by
  unfold val_main_v1 val_main_v0 val_main_cst
  pointwise
  exact Finset.sum_congr rfl fun i _ => congrArg (fun r => G M c (ix3 i r b)) (Fin.ext rfl)

/-- The reference ends with its arguments unchanged and every counter at zero. -/
theorem frame : Cert.quiescent_Reference23Ideal (hReference23Ideal := Cert.Reference23Ideal.Gen.facts) := fun m ρ _ =>
  (θ_run Cert.Reference23Ideal.defs _ _).mono
    (fun r h => ⟨fun c => (h c).2.2.2.2, Idealize.ShloMosaic.sem_eq_zero_of_no_sems (by decide) r.2⟩) (Cert.Reference23Ideal.Value.run m ρ)

/-- The kernel and the reference compute the same. -/
theorem values : Cert.algebraic_Kernel23Ideal_Reference23Ideal (hKernel23Ideal := Cert.Kernel23Ideal.Gen.facts) (hReference23Ideal := Cert.Reference23Ideal.Gen.facts) := by
  intro m ρ m' ρ' _ hag
  have key : ∀ {X Y : (⟨S1344x1024, .f32⟩ : BufTy).Contents (Elt Ideal)},
      (∀ (t : Fin Cert.Kernel23Ideal.cfg0.N) (p : Fin 224) (a : Fin 1344) (b : Fin 1024), 224 * t.val + p.val = a.val → X (ix2 a b) = Y (ix2 a b)) → X = Y := fun h => funext fun i => by
    obtain ⟨t, p, e⟩ := Cert.Kernel23Ideal.Ad.point (i 0)
    rw [ValueIdx.eq_ix2 i]
    exact h t p (i 0) (i 1) e
  refine ⟨fun c => (Cert.Kernel23Ideal.Gen.dats (F := Ideal) m 0 c).arrAt 4 Cert.Kernel23Ideal.cfg0.N, fun c => (Cert.Kernel23Ideal.Gen.dats (F := Ideal) m 0 c).arrAt 5 Cert.Kernel23Ideal.cfg0.N,
    fun c => (Cert.Kernel23Ideal.Gen.dats (F := Ideal) m 0 c).arrAt 6 Cert.Kernel23Ideal.cfg0.N, fun c => (Cert.Kernel23Ideal.Gen.dats (F := Ideal) m 0 c).arrAt 7 Cert.Kernel23Ideal.cfg0.N,
    (θ_run _ _ _).mono (fun _ h c => h c) (Cert.Kernel23Ideal.Value.run_blocks (F := Ideal) m ρ),
    (θ_run _ _ _).mono (fun _ h c => ⟨(h c).1.trans ?_, (h c).2.1.trans ?_, (h c).2.2.1.trans ?_, (h c).2.2.2.1.trans ?_, (h c).2.2.2.2⟩) (Cert.Reference23Ideal.Value.run (F := Ideal) m' ρ')⟩
  all_goals
    obtain ⟨e0, e1, e2, e3⟩ := hag c
  · rw [e1]
    exact (val_main_v1_eq (F := Ideal) _).trans (key fun t p a b h => (total m c a b).trans (Cert.Kernel23Ideal.Ad.gradA m c t p b a h).symm)
  · rw [e0, e1, e2, e3]
    exact (val_main_v25_eq (F := Ideal) _ _ _ _).trans (key fun t p a b h => ((delta _ _ _ _ a b).trans (by rw [total m c a b])).trans (Cert.Kernel23Ideal.Ad.deltaA m c t p b a h).symm)
  · rw [e1, e2]
    exact (val_main_v6_eq (F := Ideal) _ _).trans (key fun t p a b h => ((first _ _ a b).trans (by rw [total m c a b])).trans (Cert.Kernel23Ideal.Ad.firstA m c t p b a h).symm)
  · rw [e1, e3]
    exact (val_main_v12_eq (F := Ideal) _ _).trans (key fun t p a b h => ((second _ _ a b).trans (by rw [total m c a b])).trans (Cert.Kernel23Ideal.Ad.secondA m c t p b a h).symm)

end Cert.Reference23Ideal.Ad

end
-- ==== Proof.AdamEarly1Eq.lean ====
module

public import proofs.«01_k».proof.Defs
public import proofs.«01_k».proof.Proof.Adam
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pipeline.ValueKit.Basic

@[expose] public section

/-! The optimiser's step of `Kernel24Ideal`: the rows of the second layer's other weights. -/

noncomputable section

namespace Cert.Kernel24Ideal.Ad

open Idealize.ShloMosaic Idealize.ShloMosaic.TcCoe Cert.Kernel24Ideal Cert.Kernel24Ideal.Gen Cert.Kernel24Ideal.Value Cert.Adam Idealize.ShloMosaic.Pointwise

section Block

variable (w : Vec Ideal S192x1024 .f32) (g : Vec Ideal S8x192x1024 .bf16) (m v : Vec Ideal S192x1024 .f32) (p : Fin 192) (b : Fin 1024)

/-- The devices' parts of a block of the gradient, added. -/
def parts : EReal := ∑ i : Fin 8, g (ix3 i p b)

/-- The kernel adds the parts. -/
theorem total : (k0_pay5 w g m v (ix2 p b) : EReal) = parts g p b := by
  unfold k0_pay5 k0_pay4
  pointwise
  exact eight fun i => g (ix3 i p b)

/-- What is stored of the gradient. -/
theorem grad : (out0_4 w g m v (ix2 p b) : EReal) = parts g p b := by
  unfold out0_4
  rw [View.canon_cons_unit_lit _ _ _ (by decide), total]

/-- What is stored of the gradient's mean. -/
theorem first : (out0_6 w g m v (ix2 p b) : EReal) = mean1 (parts g p b) (m (ix2 p b)) := by
  unfold out0_6
  rw [View.canon_cons_unit_lit _ _ _ (by decide), View.ld_unit_lit _ _ (by decide), ← total w g m v p b]
  generalize k0_pay5 w g m v = s
  unfold k0_pay1
  pointwise
  rfl

/-- What is stored of the squared gradient's mean. -/
theorem second : (out0_7 w g m v (ix2 p b) : EReal) = mean2 (parts g p b) (v (ix2 p b)) := by
  unfold out0_7
  rw [View.canon_cons_unit_lit _ _ _ (by decide), View.ld_unit_lit _ _ (by decide), ← total w g m v p b]
  generalize k0_pay5 w g m v = s
  unfold k0_pay2
  pointwise
  rfl

/-- What is stored of the weight's change. -/
theorem delta : (out0_5 w g m v (ix2 p b) : EReal) = step (w (ix2 p b)) (parts g p b) (m (ix2 p b)) (v (ix2 p b)) := by
  unfold out0_5
  rw [View.canon_cons_unit_lit _ _ _ (by decide), View.ld_unit_lit _ _ (by decide), View.ld_unit_lit _ _ (by decide), View.ld_unit_lit _ _ (by decide),
    ← total w g m v p b]
  generalize k0_pay5 w g m v = s
  unfold k0_pay3 k0_pay1 k0_pay2
  pointwise
  rw [IdealRules.named_const.ideal_named_scalar κ "inv_bias1" _ ((8388608 / 5463681 : ℝ) : EReal) rfl,
    IdealRules.named_const.ideal_named_scalar κ "inv_bias2" _ ((268435456 / 2672307 : ℝ) : EReal) rfl]
  rfl

end Block

variable (M : (l : Loc nD τ sig) → Buf (Elt Ideal) l) (c : Dev nD)

/-- The weight as launched. -/
abbrev W : (⟨S1344x1024, .f32⟩ : BufTy).Contents (Elt Ideal) := M ((c : Thread nD τ).loc main_arg0)

/-- The devices' parts of the gradient as launched. -/
abbrev G : (⟨S8x1536x1024, .bf16⟩ : BufTy).Contents (Elt Ideal) := M ((c : Thread nD τ).loc main_arg1)

/-- The mean of the gradient as launched. -/
abbrev P : (⟨S1344x1024, .f32⟩ : BufTy).Contents (Elt Ideal) := M ((c : Thread nD τ).loc main_arg2)

/-- The mean of the squared gradient as launched. -/
abbrev Q : (⟨S1344x1024, .f32⟩ : BufTy).Contents (Elt Ideal) := M ((c : Thread nD τ).loc main_arg3)

/-- The whole gradient of an entry. -/
def sum (a : Fin 1344) (b : Fin 1024) : EReal := ∑ i : Fin 8, G M c (ix3 i ⟨192 + a.val, by omega⟩ b)

/-- The blocks at a point. -/
theorem idx : ∀ t : Fin cfg0.N, win0_4.index t (0 : Fin 2) = t.val ∧ win0_4.index t (1 : Fin 2) = 0 ∧ win0_1.index t (0 : Fin 3) = 0
    ∧ win0_1.index t (1 : Fin 3) = t.val + 1 ∧ win0_1.index t (2 : Fin 3) = 0 := (by decide +kernel : ∀ t : Fin grid0.N, _)

/-- Every point writes its blocks back. -/
theorem flush : ∀ t : Fin cfg0.N, (cfg0.win 4).flush t = true ∧ (cfg0.win 5).flush t = true ∧ (cfg0.win 6).flush t = true
    ∧ (cfg0.win 7).flush t = true := (by decide +kernel : ∀ t : Fin grid0.N, _)

section Point

variable (t : Fin cfg0.N) (p : Fin 192) (b : Fin 1024) (a : Fin 1344) (h : 192 * t.val + p.val = a.val)
include h

/-- Where an entry of a point's block of rows lies. -/
theorem emb : ((cfg0.win 4).blk t).view.emb (ix2 p b) = ix2 a b := by
  obtain ⟨e0, e1, -⟩ := idx t
  refine funext fun d => Fin.ext ?_
  match d with
  | ⟨0, _⟩ => show win0_4.index t (0 : Fin 2) * 192 + 1 * p.val = a.val; omega
  | ⟨1, _⟩ => show win0_4.index t (1 : Fin 2) * 1024 + 1 * b.val = b.val; omega

/-- An entry of the weight's block. -/
theorem blkW : (iblk M c 0 t (ix2 p b) : EReal) = W M c (ix2 a b) := by
  show V M c main_arg0 (((cfg0.win 0).blk t).view.emb (ix2 p b)) = _
  rw [V_main_arg0]
  exact congrArg (W M c) (emb t p b a h)

/-- An entry of the block of the gradient's mean. -/
theorem blkP : (iblk M c 2 t (ix2 p b) : EReal) = P M c (ix2 a b) := by
  show V M c main_arg2 (((cfg0.win 2).blk t).view.emb (ix2 p b)) = _
  rw [V_main_arg2]
  exact congrArg (P M c) (emb t p b a h)

/-- An entry of the block of the squared gradient's mean. -/
theorem blkQ : (iblk M c 3 t (ix2 p b) : EReal) = Q M c (ix2 a b) := by
  show V M c main_arg3 (((cfg0.win 3).blk t).view.emb (ix2 p b)) = _
  rw [V_main_arg3]
  exact congrArg (Q M c) (emb t p b a h)

/-- The parts of an entry's gradient, added. -/
theorem blkG : parts (iblk M c 1 t) p b = sum M c a b := by
  have ha := a.isLt
  refine Finset.sum_congr rfl fun i _ => ?_
  show V M c main_arg1 (((cfg0.win 1).blk t).view.emb (ix3 i p b)) = _
  rw [V_main_arg1]
  obtain ⟨-, -, e0, e1, e2⟩ := idx t
  refine congrArg (G M c) (funext fun d => Fin.ext ?_)
  match d with
  | ⟨0, _⟩ => show win0_1.index t (0 : Fin 3) * 8 + 1 * i.val = i.val; omega
  | ⟨1, _⟩ => show win0_1.index t (1 : Fin 3) * 192 + 1 * p.val = 192 + a.val; omega
  | ⟨2, _⟩ => show win0_1.index t (2 : Fin 3) * 1024 + 1 * b.val = b.val; omega

/-- An entry of the gradient. -/
theorem gradA : ((dats M 0 c).arrAt 4 cfg0.N (ix2 a b) : EReal) = sum M c a b := by
  refine (congrArg ((dats M 0 c).arrAt 4 cfg0.N) (emb t p b a h).symm).trans ((congrFun (blocks4 M c t (flush t).1) (ix2 p b)).trans
    ((congrFun (flushed4 M c t) (ix2 p b)).trans ((show _ = _ from grad (iblk M c 0 t) (iblk M c 1 t) (iblk M c 2 t) (iblk M c 3 t) p b).trans ?_)))
  rw [blkG M c t p b a h]

/-- An entry of the weight's change. -/
theorem deltaA : ((dats M 0 c).arrAt 5 cfg0.N (ix2 a b) : EReal) = step (W M c (ix2 a b)) (sum M c a b) (P M c (ix2 a b)) (Q M c (ix2 a b)) := by
  refine (congrArg ((dats M 0 c).arrAt 5 cfg0.N) (emb t p b a h).symm).trans ((congrFun (blocks5 M c t (flush t).2.1) (ix2 p b)).trans
    ((congrFun (flushed5 M c t) (ix2 p b)).trans ((show _ = _ from delta (iblk M c 0 t) (iblk M c 1 t) (iblk M c 2 t) (iblk M c 3 t) p b).trans ?_)))
  rw [blkG M c t p b a h, blkW M c t p b a h, blkP M c t p b a h, blkQ M c t p b a h]

/-- An entry of the gradient's mean. -/
theorem firstA : ((dats M 0 c).arrAt 6 cfg0.N (ix2 a b) : EReal) = mean1 (sum M c a b) (P M c (ix2 a b)) := by
  refine (congrArg ((dats M 0 c).arrAt 6 cfg0.N) (emb t p b a h).symm).trans ((congrFun (blocks6 M c t (flush t).2.2.1) (ix2 p b)).trans
    ((congrFun (flushed6 M c t) (ix2 p b)).trans ((show _ = _ from first (iblk M c 0 t) (iblk M c 1 t) (iblk M c 2 t) (iblk M c 3 t) p b).trans ?_)))
  rw [blkG M c t p b a h, blkP M c t p b a h]

/-- An entry of the squared gradient's mean. -/
theorem secondA : ((dats M 0 c).arrAt 7 cfg0.N (ix2 a b) : EReal) = mean2 (sum M c a b) (Q M c (ix2 a b)) := by
  refine (congrArg ((dats M 0 c).arrAt 7 cfg0.N) (emb t p b a h).symm).trans ((congrFun (blocks7 M c t (flush t).2.2.2) (ix2 p b)).trans
    ((congrFun (flushed7 M c t) (ix2 p b)).trans ((show _ = _ from second (iblk M c 0 t) (iblk M c 1 t) (iblk M c 2 t) (iblk M c 3 t) p b).trans ?_)))
  rw [blkG M c t p b a h, blkQ M c t p b a h]

end Point

/-- Every row is in a point's block. -/
theorem point (a : Fin 1344) : ∃ (t : Fin cfg0.N) (p : Fin 192), 192 * t.val + p.val = a.val :=
  ⟨⟨a.val / 192, lt_of_lt_of_eq (show a.val / 192 < 7 by have := a.isLt; omega) N_0.symm⟩, ⟨a.val % 192, Nat.mod_lt _ (by decide)⟩,
    Nat.div_add_mod a.val 192⟩

end Cert.Kernel24Ideal.Ad

namespace Cert.Reference24Ideal.Ad

open Idealize.ShloMosaic Idealize.ShloMosaic.TcCoe Idealize.SL.Sem Cert.Reference24Ideal Cert.Reference24Ideal.Gen Cert.Reference24Ideal.Read Cert.Adam Idealize.ShloMosaic.Pointwise
open Cert.Kernel24Ideal.Ad (W G P Q sum)

section Entry

variable (w : (⟨S1344x1024, .f32⟩ : BufTy).Contents (Elt Ideal)) (g : (⟨S8x1536x1024, .bf16⟩ : BufTy).Contents (Elt Ideal))
  (m v : (⟨S1344x1024, .f32⟩ : BufTy).Contents (Elt Ideal)) (a : Fin 1344) (b : Fin 1024)

/-- The reference's mean of the gradient. -/
theorem first : (val_main_v7 (F := Ideal) g m (ix2 a b) : EReal) = mean1 (val_main_v2 (F := Ideal) g (ix2 a b)) (m (ix2 a b)) := by
  unfold val_main_v7 val_main_v6 val_main_v5 val_main_v4 val_main_v3 val_main_cst_1 val_main_cst_0
  generalize val_main_v2 (F := Ideal) g = s
  pointwise
  rfl

/-- The reference's mean of the squared gradient. -/
theorem second : (val_main_v13 (F := Ideal) g v (ix2 a b) : EReal) = mean2 (val_main_v2 (F := Ideal) g (ix2 a b)) (v (ix2 a b)) := by
  unfold val_main_v13 val_main_v12 val_main_v11 val_main_v10 val_main_v9 val_main_v8 val_main_cst_3 val_main_cst_2
  generalize val_main_v2 (F := Ideal) g = s
  pointwise
  rfl

/-- The reference's change of the weight. -/
theorem delta : (val_main_v26 (F := Ideal) w g m v (ix2 a b) : EReal) = step (w (ix2 a b)) (val_main_v2 (F := Ideal) g (ix2 a b)) (m (ix2 a b)) (v (ix2 a b)) := by
  rw [step_eq, ← first g m a b, ← second g v a b]
  unfold val_main_v26 val_main_v25 val_main_v24 val_main_v23 val_main_v22 val_main_v21 val_main_v20 val_main_v19 val_main_v18 val_main_v17 val_main_v16 val_main_v15 val_main_v14 val_main_cst_8 val_main_cst_7 val_main_cst_6 val_main_cst_5 val_main_cst_4
  generalize val_main_v7 (F := Ideal) g m = s, val_main_v13 (F := Ideal) g v = r
  pointwise
  rfl

end Entry

variable (M : (l : Loc Cert.Kernel24Ideal.nD Cert.Kernel24Ideal.τ Cert.Kernel24Ideal.sig) → Buf (Elt Ideal) l) (c : Dev Cert.Kernel24Ideal.nD)

/-- The reference's sum of the devices' parts of the gradient. -/
theorem total (a : Fin 1344) (b : Fin 1024) : (val_main_v2 (F := Ideal) (G M c) (ix2 a b) : EReal) = sum M c a b := by
  unfold val_main_v2 val_main_v1 val_main_v0 val_main_cst
  pointwise
  exact Finset.sum_congr rfl fun i _ => congrArg (fun r => G M c (ix3 i r b)) (Fin.ext rfl)

/-- The reference ends with its arguments unchanged and every counter at zero. -/
theorem frame : Cert.quiescent_Reference24Ideal (hReference24Ideal := Cert.Reference24Ideal.Gen.facts) := fun m ρ _ =>
  (θ_run Cert.Reference24Ideal.defs _ _).mono
    (fun r h => ⟨fun c => (h c).2.2.2.2, Idealize.ShloMosaic.sem_eq_zero_of_no_sems (by decide) r.2⟩) (Cert.Reference24Ideal.Value.run m ρ)

/-- The kernel and the reference compute the same. -/
theorem values : Cert.algebraic_Kernel24Ideal_Reference24Ideal (hKernel24Ideal := Cert.Kernel24Ideal.Gen.facts) (hReference24Ideal := Cert.Reference24Ideal.Gen.facts) := by
  intro m ρ m' ρ' _ hag
  have key : ∀ {X Y : (⟨S1344x1024, .f32⟩ : BufTy).Contents (Elt Ideal)},
      (∀ (t : Fin Cert.Kernel24Ideal.cfg0.N) (p : Fin 192) (a : Fin 1344) (b : Fin 1024), 192 * t.val + p.val = a.val → X (ix2 a b) = Y (ix2 a b)) → X = Y := fun h => funext fun i => by
    obtain ⟨t, p, e⟩ := Cert.Kernel24Ideal.Ad.point (i 0)
    rw [ValueIdx.eq_ix2 i]
    exact h t p (i 0) (i 1) e
  refine ⟨fun c => (Cert.Kernel24Ideal.Gen.dats (F := Ideal) m 0 c).arrAt 4 Cert.Kernel24Ideal.cfg0.N, fun c => (Cert.Kernel24Ideal.Gen.dats (F := Ideal) m 0 c).arrAt 5 Cert.Kernel24Ideal.cfg0.N,
    fun c => (Cert.Kernel24Ideal.Gen.dats (F := Ideal) m 0 c).arrAt 6 Cert.Kernel24Ideal.cfg0.N, fun c => (Cert.Kernel24Ideal.Gen.dats (F := Ideal) m 0 c).arrAt 7 Cert.Kernel24Ideal.cfg0.N,
    (θ_run _ _ _).mono (fun _ h c => h c) (Cert.Kernel24Ideal.Value.run_blocks (F := Ideal) m ρ),
    (θ_run _ _ _).mono (fun _ h c => ⟨(h c).1.trans ?_, (h c).2.1.trans ?_, (h c).2.2.1.trans ?_, (h c).2.2.2.1.trans ?_, (h c).2.2.2.2⟩) (Cert.Reference24Ideal.Value.run (F := Ideal) m' ρ')⟩
  all_goals
    obtain ⟨e0, e1, e2, e3⟩ := hag c
  · rw [e1]
    exact (val_main_v2_eq (F := Ideal) _).trans (key fun t p a b h => (total m c a b).trans (Cert.Kernel24Ideal.Ad.gradA m c t p b a h).symm)
  · rw [e0, e1, e2, e3]
    exact (val_main_v26_eq (F := Ideal) _ _ _ _).trans (key fun t p a b h => ((delta _ _ _ _ a b).trans (by rw [total m c a b])).trans (Cert.Kernel24Ideal.Ad.deltaA m c t p b a h).symm)
  · rw [e1, e2]
    exact (val_main_v7_eq (F := Ideal) _ _).trans (key fun t p a b h => ((first _ _ a b).trans (by rw [total m c a b])).trans (Cert.Kernel24Ideal.Ad.firstA m c t p b a h).symm)
  · rw [e1, e3]
    exact (val_main_v13_eq (F := Ideal) _ _).trans (key fun t p a b h => ((second _ _ a b).trans (by rw [total m c a b])).trans (Cert.Kernel24Ideal.Ad.secondA m c t p b a h).symm)

end Cert.Reference24Ideal.Ad

end
-- ==== Proof.AdamEarly0Eq.lean ====
module

public import proofs.«01_k».proof.Defs
public import proofs.«01_k».proof.Proof.Adam
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pipeline.ValueKit.Basic

@[expose] public section

/-! The optimiser's step of `Kernel25Ideal`: the rows of the attention layers' other weights. -/

noncomputable section

namespace Cert.Kernel25Ideal.Ad

open Idealize.ShloMosaic Idealize.ShloMosaic.TcCoe Cert.Kernel25Ideal Cert.Kernel25Ideal.Gen Cert.Kernel25Ideal.Value Cert.Adam Idealize.ShloMosaic.Pointwise

section Block

variable (w : Vec Ideal S64x1024 .f32) (g : Vec Ideal S8x64x1024 .bf16) (m v : Vec Ideal S64x1024 .f32) (p : Fin 64) (b : Fin 1024)

/-- The devices' parts of a block of the gradient, added. -/
def parts : EReal := ∑ i : Fin 8, g (ix3 i p b)

/-- The kernel adds the parts. -/
theorem total : (k0_pay5 w g m v (ix2 p b) : EReal) = parts g p b := by
  unfold k0_pay5 k0_pay4
  pointwise
  exact eight fun i => g (ix3 i p b)

/-- What is stored of the gradient. -/
theorem grad : (out0_4 w g m v (ix2 p b) : EReal) = parts g p b := by
  unfold out0_4
  rw [View.canon_cons_unit_lit _ _ _ (by decide), total]

/-- What is stored of the gradient's mean. -/
theorem first : (out0_6 w g m v (ix2 p b) : EReal) = mean1 (parts g p b) (m (ix2 p b)) := by
  unfold out0_6
  rw [View.canon_cons_unit_lit _ _ _ (by decide), View.ld_unit_lit _ _ (by decide), ← total w g m v p b]
  generalize k0_pay5 w g m v = s
  unfold k0_pay1
  pointwise
  rfl

/-- What is stored of the squared gradient's mean. -/
theorem second : (out0_7 w g m v (ix2 p b) : EReal) = mean2 (parts g p b) (v (ix2 p b)) := by
  unfold out0_7
  rw [View.canon_cons_unit_lit _ _ _ (by decide), View.ld_unit_lit _ _ (by decide), ← total w g m v p b]
  generalize k0_pay5 w g m v = s
  unfold k0_pay2
  pointwise
  rfl

/-- What is stored of the weight's change. -/
theorem delta : (out0_5 w g m v (ix2 p b) : EReal) = step (w (ix2 p b)) (parts g p b) (m (ix2 p b)) (v (ix2 p b)) := by
  unfold out0_5
  rw [View.canon_cons_unit_lit _ _ _ (by decide), View.ld_unit_lit _ _ (by decide), View.ld_unit_lit _ _ (by decide), View.ld_unit_lit _ _ (by decide),
    ← total w g m v p b]
  generalize k0_pay5 w g m v = s
  unfold k0_pay3 k0_pay1 k0_pay2
  pointwise
  rw [IdealRules.named_const.ideal_named_scalar κ "inv_bias1" _ ((8388608 / 5463681 : ℝ) : EReal) rfl,
    IdealRules.named_const.ideal_named_scalar κ "inv_bias2" _ ((268435456 / 2672307 : ℝ) : EReal) rfl]
  rfl

end Block

variable (M : (l : Loc nD τ sig) → Buf (Elt Ideal) l) (c : Dev nD)

/-- The weight as launched. -/
abbrev W : (⟨S1344x1024, .f32⟩ : BufTy).Contents (Elt Ideal) := M ((c : Thread nD τ).loc main_arg0)

/-- The devices' parts of the gradient as launched. -/
abbrev G : (⟨S8x1984x1024, .bf16⟩ : BufTy).Contents (Elt Ideal) := M ((c : Thread nD τ).loc main_arg1)

/-- The mean of the gradient as launched. -/
abbrev P : (⟨S1344x1024, .f32⟩ : BufTy).Contents (Elt Ideal) := M ((c : Thread nD τ).loc main_arg2)

/-- The mean of the squared gradient as launched. -/
abbrev Q : (⟨S1344x1024, .f32⟩ : BufTy).Contents (Elt Ideal) := M ((c : Thread nD τ).loc main_arg3)

/-- The whole gradient of an entry. -/
def sum (a : Fin 1344) (b : Fin 1024) : EReal := ∑ i : Fin 8, G M c (ix3 i ⟨640 + a.val, by omega⟩ b)

/-- The blocks at a point. -/
theorem idx : ∀ t : Fin cfg0.N, win0_4.index t (0 : Fin 2) = t.val ∧ win0_4.index t (1 : Fin 2) = 0 ∧ win0_1.index t (0 : Fin 3) = 0
    ∧ win0_1.index t (1 : Fin 3) = t.val + 10 ∧ win0_1.index t (2 : Fin 3) = 0 := (by decide +kernel : ∀ t : Fin grid0.N, _)

/-- Every point writes its blocks back. -/
theorem flush : ∀ t : Fin cfg0.N, (cfg0.win 4).flush t = true ∧ (cfg0.win 5).flush t = true ∧ (cfg0.win 6).flush t = true
    ∧ (cfg0.win 7).flush t = true := (by decide +kernel : ∀ t : Fin grid0.N, _)

section Point

variable (t : Fin cfg0.N) (p : Fin 64) (b : Fin 1024) (a : Fin 1344) (h : 64 * t.val + p.val = a.val)
include h

/-- Where an entry of a point's block of rows lies. -/
theorem emb : ((cfg0.win 4).blk t).view.emb (ix2 p b) = ix2 a b := by
  obtain ⟨e0, e1, -⟩ := idx t
  refine funext fun d => Fin.ext ?_
  match d with
  | ⟨0, _⟩ => show win0_4.index t (0 : Fin 2) * 64 + 1 * p.val = a.val; omega
  | ⟨1, _⟩ => show win0_4.index t (1 : Fin 2) * 1024 + 1 * b.val = b.val; omega

/-- An entry of the weight's block. -/
theorem blkW : (iblk M c 0 t (ix2 p b) : EReal) = W M c (ix2 a b) := by
  show V M c main_arg0 (((cfg0.win 0).blk t).view.emb (ix2 p b)) = _
  rw [V_main_arg0]
  exact congrArg (W M c) (emb t p b a h)

/-- An entry of the block of the gradient's mean. -/
theorem blkP : (iblk M c 2 t (ix2 p b) : EReal) = P M c (ix2 a b) := by
  show V M c main_arg2 (((cfg0.win 2).blk t).view.emb (ix2 p b)) = _
  rw [V_main_arg2]
  exact congrArg (P M c) (emb t p b a h)

/-- An entry of the block of the squared gradient's mean. -/
theorem blkQ : (iblk M c 3 t (ix2 p b) : EReal) = Q M c (ix2 a b) := by
  show V M c main_arg3 (((cfg0.win 3).blk t).view.emb (ix2 p b)) = _
  rw [V_main_arg3]
  exact congrArg (Q M c) (emb t p b a h)

/-- The parts of an entry's gradient, added. -/
theorem blkG : parts (iblk M c 1 t) p b = sum M c a b := by
  have ha := a.isLt
  refine Finset.sum_congr rfl fun i _ => ?_
  show V M c main_arg1 (((cfg0.win 1).blk t).view.emb (ix3 i p b)) = _
  rw [V_main_arg1]
  obtain ⟨-, -, e0, e1, e2⟩ := idx t
  refine congrArg (G M c) (funext fun d => Fin.ext ?_)
  match d with
  | ⟨0, _⟩ => show win0_1.index t (0 : Fin 3) * 8 + 1 * i.val = i.val; omega
  | ⟨1, _⟩ => show win0_1.index t (1 : Fin 3) * 64 + 1 * p.val = 640 + a.val; omega
  | ⟨2, _⟩ => show win0_1.index t (2 : Fin 3) * 1024 + 1 * b.val = b.val; omega

/-- An entry of the gradient. -/
theorem gradA : ((dats M 0 c).arrAt 4 cfg0.N (ix2 a b) : EReal) = sum M c a b := by
  refine (congrArg ((dats M 0 c).arrAt 4 cfg0.N) (emb t p b a h).symm).trans ((congrFun (blocks4 M c t (flush t).1) (ix2 p b)).trans
    ((congrFun (flushed4 M c t) (ix2 p b)).trans ((show _ = _ from grad (iblk M c 0 t) (iblk M c 1 t) (iblk M c 2 t) (iblk M c 3 t) p b).trans ?_)))
  rw [blkG M c t p b a h]

/-- An entry of the weight's change. -/
theorem deltaA : ((dats M 0 c).arrAt 5 cfg0.N (ix2 a b) : EReal) = step (W M c (ix2 a b)) (sum M c a b) (P M c (ix2 a b)) (Q M c (ix2 a b)) := by
  refine (congrArg ((dats M 0 c).arrAt 5 cfg0.N) (emb t p b a h).symm).trans ((congrFun (blocks5 M c t (flush t).2.1) (ix2 p b)).trans
    ((congrFun (flushed5 M c t) (ix2 p b)).trans ((show _ = _ from delta (iblk M c 0 t) (iblk M c 1 t) (iblk M c 2 t) (iblk M c 3 t) p b).trans ?_)))
  rw [blkG M c t p b a h, blkW M c t p b a h, blkP M c t p b a h, blkQ M c t p b a h]

/-- An entry of the gradient's mean. -/
theorem firstA : ((dats M 0 c).arrAt 6 cfg0.N (ix2 a b) : EReal) = mean1 (sum M c a b) (P M c (ix2 a b)) := by
  refine (congrArg ((dats M 0 c).arrAt 6 cfg0.N) (emb t p b a h).symm).trans ((congrFun (blocks6 M c t (flush t).2.2.1) (ix2 p b)).trans
    ((congrFun (flushed6 M c t) (ix2 p b)).trans ((show _ = _ from first (iblk M c 0 t) (iblk M c 1 t) (iblk M c 2 t) (iblk M c 3 t) p b).trans ?_)))
  rw [blkG M c t p b a h, blkP M c t p b a h]

/-- An entry of the squared gradient's mean. -/
theorem secondA : ((dats M 0 c).arrAt 7 cfg0.N (ix2 a b) : EReal) = mean2 (sum M c a b) (Q M c (ix2 a b)) := by
  refine (congrArg ((dats M 0 c).arrAt 7 cfg0.N) (emb t p b a h).symm).trans ((congrFun (blocks7 M c t (flush t).2.2.2) (ix2 p b)).trans
    ((congrFun (flushed7 M c t) (ix2 p b)).trans ((show _ = _ from second (iblk M c 0 t) (iblk M c 1 t) (iblk M c 2 t) (iblk M c 3 t) p b).trans ?_)))
  rw [blkG M c t p b a h, blkQ M c t p b a h]

end Point

/-- Every row is in a point's block. -/
theorem point (a : Fin 1344) : ∃ (t : Fin cfg0.N) (p : Fin 64), 64 * t.val + p.val = a.val :=
  ⟨⟨a.val / 64, lt_of_lt_of_eq (show a.val / 64 < 21 by have := a.isLt; omega) N_0.symm⟩, ⟨a.val % 64, Nat.mod_lt _ (by decide)⟩,
    Nat.div_add_mod a.val 64⟩

end Cert.Kernel25Ideal.Ad

namespace Cert.Reference25Ideal.Ad

open Idealize.ShloMosaic Idealize.ShloMosaic.TcCoe Idealize.SL.Sem Cert.Reference25Ideal Cert.Reference25Ideal.Gen Cert.Reference25Ideal.Read Cert.Adam Idealize.ShloMosaic.Pointwise
open Cert.Kernel25Ideal.Ad (W G P Q sum)

section Entry

variable (w : (⟨S1344x1024, .f32⟩ : BufTy).Contents (Elt Ideal)) (g : (⟨S8x1984x1024, .bf16⟩ : BufTy).Contents (Elt Ideal))
  (m v : (⟨S1344x1024, .f32⟩ : BufTy).Contents (Elt Ideal)) (a : Fin 1344) (b : Fin 1024)

/-- The reference's mean of the gradient. -/
theorem first : (val_main_v7 (F := Ideal) g m (ix2 a b) : EReal) = mean1 (val_main_v2 (F := Ideal) g (ix2 a b)) (m (ix2 a b)) := by
  unfold val_main_v7 val_main_v6 val_main_v5 val_main_v4 val_main_v3 val_main_cst_1 val_main_cst_0
  generalize val_main_v2 (F := Ideal) g = s
  pointwise
  rfl

/-- The reference's mean of the squared gradient. -/
theorem second : (val_main_v13 (F := Ideal) g v (ix2 a b) : EReal) = mean2 (val_main_v2 (F := Ideal) g (ix2 a b)) (v (ix2 a b)) := by
  unfold val_main_v13 val_main_v12 val_main_v11 val_main_v10 val_main_v9 val_main_v8 val_main_cst_3 val_main_cst_2
  generalize val_main_v2 (F := Ideal) g = s
  pointwise
  rfl

/-- The reference's change of the weight. -/
theorem delta : (val_main_v26 (F := Ideal) w g m v (ix2 a b) : EReal) = step (w (ix2 a b)) (val_main_v2 (F := Ideal) g (ix2 a b)) (m (ix2 a b)) (v (ix2 a b)) := by
  rw [step_eq, ← first g m a b, ← second g v a b]
  unfold val_main_v26 val_main_v25 val_main_v24 val_main_v23 val_main_v22 val_main_v21 val_main_v20 val_main_v19 val_main_v18 val_main_v17 val_main_v16 val_main_v15 val_main_v14 val_main_cst_8 val_main_cst_7 val_main_cst_6 val_main_cst_5 val_main_cst_4
  generalize val_main_v7 (F := Ideal) g m = s, val_main_v13 (F := Ideal) g v = r
  pointwise
  rfl

end Entry

variable (M : (l : Loc Cert.Kernel25Ideal.nD Cert.Kernel25Ideal.τ Cert.Kernel25Ideal.sig) → Buf (Elt Ideal) l) (c : Dev Cert.Kernel25Ideal.nD)

/-- The reference's sum of the devices' parts of the gradient. -/
theorem total (a : Fin 1344) (b : Fin 1024) : (val_main_v2 (F := Ideal) (G M c) (ix2 a b) : EReal) = sum M c a b := by
  unfold val_main_v2 val_main_v1 val_main_v0 val_main_cst
  pointwise
  exact Finset.sum_congr rfl fun i _ => congrArg (fun r => G M c (ix3 i r b)) (Fin.ext rfl)

/-- The reference ends with its arguments unchanged and every counter at zero. -/
theorem frame : Cert.quiescent_Reference25Ideal (hReference25Ideal := Cert.Reference25Ideal.Gen.facts) := fun m ρ _ =>
  (θ_run Cert.Reference25Ideal.defs _ _).mono
    (fun r h => ⟨fun c => (h c).2.2.2.2, Idealize.ShloMosaic.sem_eq_zero_of_no_sems (by decide) r.2⟩) (Cert.Reference25Ideal.Value.run m ρ)

/-- The kernel and the reference compute the same. -/
theorem values : Cert.algebraic_Kernel25Ideal_Reference25Ideal (hKernel25Ideal := Cert.Kernel25Ideal.Gen.facts) (hReference25Ideal := Cert.Reference25Ideal.Gen.facts) := by
  intro m ρ m' ρ' _ hag
  have key : ∀ {X Y : (⟨S1344x1024, .f32⟩ : BufTy).Contents (Elt Ideal)},
      (∀ (t : Fin Cert.Kernel25Ideal.cfg0.N) (p : Fin 64) (a : Fin 1344) (b : Fin 1024), 64 * t.val + p.val = a.val → X (ix2 a b) = Y (ix2 a b)) → X = Y := fun h => funext fun i => by
    obtain ⟨t, p, e⟩ := Cert.Kernel25Ideal.Ad.point (i 0)
    rw [ValueIdx.eq_ix2 i]
    exact h t p (i 0) (i 1) e
  refine ⟨fun c => (Cert.Kernel25Ideal.Gen.dats (F := Ideal) m 0 c).arrAt 4 Cert.Kernel25Ideal.cfg0.N, fun c => (Cert.Kernel25Ideal.Gen.dats (F := Ideal) m 0 c).arrAt 5 Cert.Kernel25Ideal.cfg0.N,
    fun c => (Cert.Kernel25Ideal.Gen.dats (F := Ideal) m 0 c).arrAt 6 Cert.Kernel25Ideal.cfg0.N, fun c => (Cert.Kernel25Ideal.Gen.dats (F := Ideal) m 0 c).arrAt 7 Cert.Kernel25Ideal.cfg0.N,
    (θ_run _ _ _).mono (fun _ h c => h c) (Cert.Kernel25Ideal.Value.run_blocks (F := Ideal) m ρ),
    (θ_run _ _ _).mono (fun _ h c => ⟨(h c).1.trans ?_, (h c).2.1.trans ?_, (h c).2.2.1.trans ?_, (h c).2.2.2.1.trans ?_, (h c).2.2.2.2⟩) (Cert.Reference25Ideal.Value.run (F := Ideal) m' ρ')⟩
  all_goals
    obtain ⟨e0, e1, e2, e3⟩ := hag c
  · rw [e1]
    exact (val_main_v2_eq (F := Ideal) _).trans (key fun t p a b h => (total m c a b).trans (Cert.Kernel25Ideal.Ad.gradA m c t p b a h).symm)
  · rw [e0, e1, e2, e3]
    exact (val_main_v26_eq (F := Ideal) _ _ _ _).trans (key fun t p a b h => ((delta _ _ _ _ a b).trans (by rw [total m c a b])).trans (Cert.Kernel25Ideal.Ad.deltaA m c t p b a h).symm)
  · rw [e1, e2]
    exact (val_main_v7_eq (F := Ideal) _ _).trans (key fun t p a b h => ((first _ _ a b).trans (by rw [total m c a b])).trans (Cert.Kernel25Ideal.Ad.firstA m c t p b a h).symm)
  · rw [e1, e3]
    exact (val_main_v13_eq (F := Ideal) _ _).trans (key fun t p a b h => ((second _ _ a b).trans (by rw [total m c a b])).trans (Cert.Kernel25Ideal.Ad.secondA m c t p b a h).symm)

end Cert.Reference25Ideal.Ad

end
-- ==== Proof.AdamAttFirstEq.lean ====
module

public import proofs.«01_k».proof.Defs
public import proofs.«01_k».proof.Proof.Adam
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pipeline.ValueKit.Basic

@[expose] public section

/-! The optimiser's step of `Kernel26Ideal`: the rows of the first layer's attention input projection. -/

noncomputable section

namespace Cert.Kernel26Ideal.Ad

open Idealize.ShloMosaic Idealize.ShloMosaic.TcCoe Cert.Kernel26Ideal Cert.Kernel26Ideal.Gen Cert.Kernel26Ideal.Value Cert.Adam Idealize.ShloMosaic.Pointwise

section Block

variable (w : Vec Ideal S192x1024 .f32) (g : Vec Ideal S8x192x1024 .bf16) (m v : Vec Ideal S192x1024 .f32) (p : Fin 192) (b : Fin 1024)

/-- The devices' parts of a block of the gradient, added. -/
def parts : EReal := ∑ i : Fin 8, g (ix3 i p b)

/-- The kernel adds the parts. -/
theorem total : (k0_pay5 w g m v (ix2 p b) : EReal) = parts g p b := by
  unfold k0_pay5 k0_pay4
  pointwise
  exact eight fun i => g (ix3 i p b)

/-- What is stored of the gradient. -/
theorem grad : (out0_4 w g m v (ix2 p b) : EReal) = parts g p b := by
  unfold out0_4
  rw [View.canon_cons_unit_lit _ _ _ (by decide), total]

/-- What is stored of the gradient's mean. -/
theorem first : (out0_6 w g m v (ix2 p b) : EReal) = mean1 (parts g p b) (m (ix2 p b)) := by
  unfold out0_6
  rw [View.canon_cons_unit_lit _ _ _ (by decide), View.ld_unit_lit _ _ (by decide), ← total w g m v p b]
  generalize k0_pay5 w g m v = s
  unfold k0_pay1
  pointwise
  rfl

/-- What is stored of the squared gradient's mean. -/
theorem second : (out0_7 w g m v (ix2 p b) : EReal) = mean2 (parts g p b) (v (ix2 p b)) := by
  unfold out0_7
  rw [View.canon_cons_unit_lit _ _ _ (by decide), View.ld_unit_lit _ _ (by decide), ← total w g m v p b]
  generalize k0_pay5 w g m v = s
  unfold k0_pay2
  pointwise
  rfl

/-- What is stored of the weight's change. -/
theorem delta : (out0_5 w g m v (ix2 p b) : EReal) = step (w (ix2 p b)) (parts g p b) (m (ix2 p b)) (v (ix2 p b)) := by
  unfold out0_5
  rw [View.canon_cons_unit_lit _ _ _ (by decide), View.ld_unit_lit _ _ (by decide), View.ld_unit_lit _ _ (by decide), View.ld_unit_lit _ _ (by decide),
    ← total w g m v p b]
  generalize k0_pay5 w g m v = s
  unfold k0_pay3 k0_pay1 k0_pay2
  pointwise
  rw [IdealRules.named_const.ideal_named_scalar κ "inv_bias1" _ ((8388608 / 5463681 : ℝ) : EReal) rfl,
    IdealRules.named_const.ideal_named_scalar κ "inv_bias2" _ ((268435456 / 2672307 : ℝ) : EReal) rfl]
  rfl

end Block

variable (M : (l : Loc nD τ sig) → Buf (Elt Ideal) l) (c : Dev nD)

/-- The weight as launched. -/
abbrev W : (⟨S192x1024, .f32⟩ : BufTy).Contents (Elt Ideal) := M ((c : Thread nD τ).loc main_arg0)

/-- The devices' parts of the gradient as launched. -/
abbrev G : (⟨S8x192x1024, .bf16⟩ : BufTy).Contents (Elt Ideal) := M ((c : Thread nD τ).loc main_arg1)

/-- The mean of the gradient as launched. -/
abbrev P : (⟨S192x1024, .f32⟩ : BufTy).Contents (Elt Ideal) := M ((c : Thread nD τ).loc main_arg2)

/-- The mean of the squared gradient as launched. -/
abbrev Q : (⟨S192x1024, .f32⟩ : BufTy).Contents (Elt Ideal) := M ((c : Thread nD τ).loc main_arg3)

/-- The whole gradient of an entry. -/
def sum (a : Fin 192) (b : Fin 1024) : EReal := ∑ i : Fin 8, G M c (ix3 i a b)

/-- The blocks at a point. -/
theorem idx : ∀ t : Fin cfg0.N, win0_4.index t (0 : Fin 2) = t.val ∧ win0_4.index t (1 : Fin 2) = 0 ∧ win0_1.index t (0 : Fin 3) = 0
    ∧ win0_1.index t (1 : Fin 3) = t.val ∧ win0_1.index t (2 : Fin 3) = 0 := (by decide +kernel : ∀ t : Fin grid0.N, _)

/-- Every point writes its blocks back. -/
theorem flush : ∀ t : Fin cfg0.N, (cfg0.win 4).flush t = true ∧ (cfg0.win 5).flush t = true ∧ (cfg0.win 6).flush t = true
    ∧ (cfg0.win 7).flush t = true := (by decide +kernel : ∀ t : Fin grid0.N, _)

section Point

variable (t : Fin cfg0.N) (p : Fin 192) (b : Fin 1024) (a : Fin 192) (h : 192 * t.val + p.val = a.val)
include h

/-- Where an entry of a point's block of rows lies. -/
theorem emb : ((cfg0.win 4).blk t).view.emb (ix2 p b) = ix2 a b := by
  obtain ⟨e0, e1, -⟩ := idx t
  refine funext fun d => Fin.ext ?_
  match d with
  | ⟨0, _⟩ => show win0_4.index t (0 : Fin 2) * 192 + 1 * p.val = a.val; omega
  | ⟨1, _⟩ => show win0_4.index t (1 : Fin 2) * 1024 + 1 * b.val = b.val; omega

/-- An entry of the weight's block. -/
theorem blkW : (iblk M c 0 t (ix2 p b) : EReal) = W M c (ix2 a b) := by
  show V M c main_arg0 (((cfg0.win 0).blk t).view.emb (ix2 p b)) = _
  rw [V_main_arg0]
  exact congrArg (W M c) (emb t p b a h)

/-- An entry of the block of the gradient's mean. -/
theorem blkP : (iblk M c 2 t (ix2 p b) : EReal) = P M c (ix2 a b) := by
  show V M c main_arg2 (((cfg0.win 2).blk t).view.emb (ix2 p b)) = _
  rw [V_main_arg2]
  exact congrArg (P M c) (emb t p b a h)

/-- An entry of the block of the squared gradient's mean. -/
theorem blkQ : (iblk M c 3 t (ix2 p b) : EReal) = Q M c (ix2 a b) := by
  show V M c main_arg3 (((cfg0.win 3).blk t).view.emb (ix2 p b)) = _
  rw [V_main_arg3]
  exact congrArg (Q M c) (emb t p b a h)

/-- The parts of an entry's gradient, added. -/
theorem blkG : parts (iblk M c 1 t) p b = sum M c a b := by
  have ha := a.isLt
  refine Finset.sum_congr rfl fun i _ => ?_
  show V M c main_arg1 (((cfg0.win 1).blk t).view.emb (ix3 i p b)) = _
  rw [V_main_arg1]
  obtain ⟨-, -, e0, e1, e2⟩ := idx t
  refine congrArg (G M c) (funext fun d => Fin.ext ?_)
  match d with
  | ⟨0, _⟩ => show win0_1.index t (0 : Fin 3) * 8 + 1 * i.val = i.val; omega
  | ⟨1, _⟩ => show win0_1.index t (1 : Fin 3) * 192 + 1 * p.val = a.val; omega
  | ⟨2, _⟩ => show win0_1.index t (2 : Fin 3) * 1024 + 1 * b.val = b.val; omega

/-- An entry of the gradient. -/
theorem gradA : ((dats M 0 c).arrAt 4 cfg0.N (ix2 a b) : EReal) = sum M c a b := by
  refine (congrArg ((dats M 0 c).arrAt 4 cfg0.N) (emb t p b a h).symm).trans ((congrFun (blocks4 M c t (flush t).1) (ix2 p b)).trans
    ((congrFun (flushed4 M c t) (ix2 p b)).trans ((show _ = _ from grad (iblk M c 0 t) (iblk M c 1 t) (iblk M c 2 t) (iblk M c 3 t) p b).trans ?_)))
  rw [blkG M c t p b a h]

/-- An entry of the weight's change. -/
theorem deltaA : ((dats M 0 c).arrAt 5 cfg0.N (ix2 a b) : EReal) = step (W M c (ix2 a b)) (sum M c a b) (P M c (ix2 a b)) (Q M c (ix2 a b)) := by
  refine (congrArg ((dats M 0 c).arrAt 5 cfg0.N) (emb t p b a h).symm).trans ((congrFun (blocks5 M c t (flush t).2.1) (ix2 p b)).trans
    ((congrFun (flushed5 M c t) (ix2 p b)).trans ((show _ = _ from delta (iblk M c 0 t) (iblk M c 1 t) (iblk M c 2 t) (iblk M c 3 t) p b).trans ?_)))
  rw [blkG M c t p b a h, blkW M c t p b a h, blkP M c t p b a h, blkQ M c t p b a h]

/-- An entry of the gradient's mean. -/
theorem firstA : ((dats M 0 c).arrAt 6 cfg0.N (ix2 a b) : EReal) = mean1 (sum M c a b) (P M c (ix2 a b)) := by
  refine (congrArg ((dats M 0 c).arrAt 6 cfg0.N) (emb t p b a h).symm).trans ((congrFun (blocks6 M c t (flush t).2.2.1) (ix2 p b)).trans
    ((congrFun (flushed6 M c t) (ix2 p b)).trans ((show _ = _ from first (iblk M c 0 t) (iblk M c 1 t) (iblk M c 2 t) (iblk M c 3 t) p b).trans ?_)))
  rw [blkG M c t p b a h, blkP M c t p b a h]

/-- An entry of the squared gradient's mean. -/
theorem secondA : ((dats M 0 c).arrAt 7 cfg0.N (ix2 a b) : EReal) = mean2 (sum M c a b) (Q M c (ix2 a b)) := by
  refine (congrArg ((dats M 0 c).arrAt 7 cfg0.N) (emb t p b a h).symm).trans ((congrFun (blocks7 M c t (flush t).2.2.2) (ix2 p b)).trans
    ((congrFun (flushed7 M c t) (ix2 p b)).trans ((show _ = _ from second (iblk M c 0 t) (iblk M c 1 t) (iblk M c 2 t) (iblk M c 3 t) p b).trans ?_)))
  rw [blkG M c t p b a h, blkQ M c t p b a h]

end Point

/-- Every row is in a point's block. -/
theorem point (a : Fin 192) : ∃ (t : Fin cfg0.N) (p : Fin 192), 192 * t.val + p.val = a.val :=
  ⟨⟨a.val / 192, lt_of_lt_of_eq (show a.val / 192 < 1 by have := a.isLt; omega) N_0.symm⟩, ⟨a.val % 192, Nat.mod_lt _ (by decide)⟩,
    Nat.div_add_mod a.val 192⟩

end Cert.Kernel26Ideal.Ad

namespace Cert.Reference26Ideal.Ad

open Idealize.ShloMosaic Idealize.ShloMosaic.TcCoe Idealize.SL.Sem Cert.Reference26Ideal Cert.Reference26Ideal.Gen Cert.Reference26Ideal.Read Cert.Adam Idealize.ShloMosaic.Pointwise
open Cert.Kernel26Ideal.Ad (W G P Q sum)

section Entry

variable (w : (⟨S192x1024, .f32⟩ : BufTy).Contents (Elt Ideal)) (g : (⟨S8x192x1024, .bf16⟩ : BufTy).Contents (Elt Ideal))
  (m v : (⟨S192x1024, .f32⟩ : BufTy).Contents (Elt Ideal)) (a : Fin 192) (b : Fin 1024)

/-- The reference's mean of the gradient. -/
theorem first : (val_main_v6 (F := Ideal) g m (ix2 a b) : EReal) = mean1 (val_main_v1 (F := Ideal) g (ix2 a b)) (m (ix2 a b)) := by
  unfold val_main_v6 val_main_v5 val_main_v4 val_main_v3 val_main_v2 val_main_cst_1 val_main_cst_0
  generalize val_main_v1 (F := Ideal) g = s
  pointwise
  rfl

/-- The reference's mean of the squared gradient. -/
theorem second : (val_main_v12 (F := Ideal) g v (ix2 a b) : EReal) = mean2 (val_main_v1 (F := Ideal) g (ix2 a b)) (v (ix2 a b)) := by
  unfold val_main_v12 val_main_v11 val_main_v10 val_main_v9 val_main_v8 val_main_v7 val_main_cst_3 val_main_cst_2
  generalize val_main_v1 (F := Ideal) g = s
  pointwise
  rfl

/-- The reference's change of the weight. -/
theorem delta : (val_main_v25 (F := Ideal) w g m v (ix2 a b) : EReal) = step (w (ix2 a b)) (val_main_v1 (F := Ideal) g (ix2 a b)) (m (ix2 a b)) (v (ix2 a b)) := by
  rw [step_eq, ← first g m a b, ← second g v a b]
  unfold val_main_v25 val_main_v24 val_main_v23 val_main_v22 val_main_v21 val_main_v20 val_main_v19 val_main_v18 val_main_v17 val_main_v16 val_main_v15 val_main_v14 val_main_v13 val_main_cst_8 val_main_cst_7 val_main_cst_6 val_main_cst_5 val_main_cst_4
  generalize val_main_v6 (F := Ideal) g m = s, val_main_v12 (F := Ideal) g v = r
  pointwise
  rfl

end Entry

variable (M : (l : Loc Cert.Kernel26Ideal.nD Cert.Kernel26Ideal.τ Cert.Kernel26Ideal.sig) → Buf (Elt Ideal) l) (c : Dev Cert.Kernel26Ideal.nD)

/-- The reference's sum of the devices' parts of the gradient. -/
theorem total (a : Fin 192) (b : Fin 1024) : (val_main_v1 (F := Ideal) (G M c) (ix2 a b) : EReal) = sum M c a b := by
  unfold val_main_v1 val_main_v0 val_main_cst
  pointwise
  exact Finset.sum_congr rfl fun i _ => congrArg (fun r => G M c (ix3 i r b)) (Fin.ext rfl)

/-- The reference ends with its arguments unchanged and every counter at zero. -/
theorem frame : Cert.quiescent_Reference26Ideal (hReference26Ideal := Cert.Reference26Ideal.Gen.facts) := fun m ρ _ =>
  (θ_run Cert.Reference26Ideal.defs _ _).mono
    (fun r h => ⟨fun c => (h c).2.2.2.2, Idealize.ShloMosaic.sem_eq_zero_of_no_sems (by decide) r.2⟩) (Cert.Reference26Ideal.Value.run m ρ)

/-- The kernel and the reference compute the same. -/
theorem values : Cert.algebraic_Kernel26Ideal_Reference26Ideal (hKernel26Ideal := Cert.Kernel26Ideal.Gen.facts) (hReference26Ideal := Cert.Reference26Ideal.Gen.facts) := by
  intro m ρ m' ρ' _ hag
  have key : ∀ {X Y : (⟨S192x1024, .f32⟩ : BufTy).Contents (Elt Ideal)},
      (∀ (t : Fin Cert.Kernel26Ideal.cfg0.N) (p : Fin 192) (a : Fin 192) (b : Fin 1024), 192 * t.val + p.val = a.val → X (ix2 a b) = Y (ix2 a b)) → X = Y := fun h => funext fun i => by
    obtain ⟨t, p, e⟩ := Cert.Kernel26Ideal.Ad.point (i 0)
    rw [ValueIdx.eq_ix2 i]
    exact h t p (i 0) (i 1) e
  refine ⟨fun c => (Cert.Kernel26Ideal.Gen.dats (F := Ideal) m 0 c).arrAt 4 Cert.Kernel26Ideal.cfg0.N, fun c => (Cert.Kernel26Ideal.Gen.dats (F := Ideal) m 0 c).arrAt 5 Cert.Kernel26Ideal.cfg0.N,
    fun c => (Cert.Kernel26Ideal.Gen.dats (F := Ideal) m 0 c).arrAt 6 Cert.Kernel26Ideal.cfg0.N, fun c => (Cert.Kernel26Ideal.Gen.dats (F := Ideal) m 0 c).arrAt 7 Cert.Kernel26Ideal.cfg0.N,
    (θ_run _ _ _).mono (fun _ h c => h c) (Cert.Kernel26Ideal.Value.run_blocks (F := Ideal) m ρ),
    (θ_run _ _ _).mono (fun _ h c => ⟨(h c).1.trans ?_, (h c).2.1.trans ?_, (h c).2.2.1.trans ?_, (h c).2.2.2.1.trans ?_, (h c).2.2.2.2⟩) (Cert.Reference26Ideal.Value.run (F := Ideal) m' ρ')⟩
  all_goals
    obtain ⟨e0, e1, e2, e3⟩ := hag c
  · rw [e1]
    exact (val_main_v1_eq (F := Ideal) _).trans (key fun t p a b h => (total m c a b).trans (Cert.Kernel26Ideal.Ad.gradA m c t p b a h).symm)
  · rw [e0, e1, e2, e3]
    exact (val_main_v25_eq (F := Ideal) _ _ _ _).trans (key fun t p a b h => ((delta _ _ _ _ a b).trans (by rw [total m c a b])).trans (Cert.Kernel26Ideal.Ad.deltaA m c t p b a h).symm)
  · rw [e1, e2]
    exact (val_main_v6_eq (F := Ideal) _ _).trans (key fun t p a b h => ((first _ _ a b).trans (by rw [total m c a b])).trans (Cert.Kernel26Ideal.Ad.firstA m c t p b a h).symm)
  · rw [e1, e3]
    exact (val_main_v12_eq (F := Ideal) _ _).trans (key fun t p a b h => ((second _ _ a b).trans (by rw [total m c a b])).trans (Cert.Kernel26Ideal.Ad.secondA m c t p b a h).symm)

end Cert.Reference26Ideal.Ad

end
-- ==== Proof.LossHeadEq.lean ====
module

public import proofs.«01_k».proof.Defs
public import proofs.«01_k».proof.Proof.RowSums
public import proofs.«01_k».proof.Proof.Gen.Kernel27Ideal.Value
public import Idealize.ShloMosaic.Lib.Pipeline.ValueKit.Basic
public import Idealize.ShloMosaic.Lib.Pipeline.ValueKit.Geometry
public import proofs.«01_k».proof.Proof.Gen.Reference27Ideal.Run
public import proofs.«01_k».proof.Proof.Gen.Reference27Ideal.Read

@[expose] public section

/-! The loss and its gradient in the prediction. -/

noncomputable section

namespace Cert.Loss

open Idealize.ShloMosaic

/-- A square is not negative. -/
theorem sq_nonneg (x : EReal) : 0 ≤ x * x := by
  rcases le_total 0 x with h | h
  · exact mul_nonneg h h
  · rw [← neg_mul_neg]
    exact mul_nonneg (EReal.neg_nonneg.mpr h) (EReal.neg_nonneg.mpr h)

/-- A factor comes out of a sum of terms that are not negative. -/
theorem sum_mul {ι : Type} (s : Finset ι) (f : ι → EReal) (hf : ∀ i, 0 ≤ f i) (c : EReal) : ∑ i ∈ s, f i * c = (∑ i ∈ s, f i) * c := by
  classical
  induction s using Finset.induction_on with
  | empty => simp
  | insert a s ha ih => rw [Finset.sum_insert ha, Finset.sum_insert ha, ih, EReal.right_distrib_of_nonneg (hf a) (Finset.sum_nonneg fun i _ => hf i)]

/-- The half. -/
theorem half : Ideal.ofBits .f32 0x3F000000#32 = ((1 / 2 : ℝ) : EReal) := by
  simp [Ideal.ofBits, Ideal.ieee, -EReal.coe_mul]; norm_num

/-- The one. -/
theorem one : Ideal.ofBits .f32 0x3F800000#32 = ((1 : ℝ) : EReal) := by
  simp [Ideal.ofBits, Ideal.ieee, -EReal.coe_mul]; norm_num

/-- The two. -/
theorem two : Ideal.ofBits .f32 0x40000000#32 = ((2 : ℝ) : EReal) := by
  simp [Ideal.ofBits, Ideal.ieee, -EReal.coe_mul]; norm_num

/-- The number of features. -/
theorem len : Ideal.ofBits .f32 0x44800000#32 = ((1024 : ℝ) : EReal) := by
  simp [Ideal.ofBits, Ideal.ieee, -EReal.coe_mul]; norm_num

/-- Its reciprocal. -/
theorem over : Ideal.ofBits .f32 0x3A800000#32 = ((1 / 1024 : ℝ) : EReal) := by
  simp [Ideal.ofBits, Ideal.ieee, -EReal.coe_mul]; norm_num

/-- Half its reciprocal. -/
theorem over2 : Ideal.ofBits .f32 0x3A000000#32 = ((1 / 2048 : ℝ) : EReal) := by
  simp [Ideal.ofBits, Ideal.ieee, -EReal.coe_mul]; norm_num

/-- Half the sum of the rows' means is the sum of the columns' sums over twice the number of features. -/
theorem mean_eq (e : Fin 16384 → Fin 1024 → EReal) :
    Ideal.ofBits .f32 0x3F000000#32 * ∑ a, Ideal.div (∑ b, e a b * e a b) (Ideal.ofBits .f32 0x44800000#32) = (∑ b, ∑ a, e a b * e a b) * Ideal.ofBits .f32 0x3A000000#32 := by
  rw [half, len, over2, Finset.sum_comm]
  simp only [Ideal.div_coe (show (1024 : ℝ) ≠ 0 by norm_num)]
  rw [sum_mul _ _ (fun a => Finset.sum_nonneg fun b _ => sq_nonneg _), mul_comm, mul_assoc, ← EReal.coe_mul]
  exact congrArg (fun r : ℝ => _ * (r : EReal)) (by norm_num)

/-- The reference's gradient of an error is the error over the number of features. -/
theorem grad_eq (x : EReal) : Ideal.div (Ideal.ofBits .f32 0x3F000000#32 * Ideal.ofBits .f32 0x3F800000#32) (Ideal.ofBits .f32 0x44800000#32) * (Ideal.ofBits .f32 0x40000000#32 * x)
    = x * Ideal.ofBits .f32 0x3A800000#32 := by
  rw [half, one, two, len, over, ← EReal.coe_mul, Ideal.div_coe (show (1024 : ℝ) ≠ 0 by norm_num), ← EReal.coe_mul, ← mul_assoc, ← EReal.coe_mul, mul_comm]
  exact congrArg (fun r : ℝ => x * (r : EReal)) (by norm_num)

end Cert.Loss

namespace Cert.Kernel27Ideal.Lo

open Idealize.ShloMosaic Idealize.ShloMosaic.TcCoe Idealize.SL.Sem Cert.Kernel27Ideal Cert.Kernel27Ideal.Gen Cert.Kernel27Ideal.Value Idealize.ShloMosaic.Pointwise Cert.Stores Cert.Rows

variable (m : (l : Loc nD τ sig) → Buf (Elt Ideal) l) (c : Dev nD)

/-- The prediction as launched. -/
abbrev yA : (⟨S16384x1024, .f32⟩ : BufTy).Contents (Elt Ideal) := m ((c : Thread nD τ).loc main_arg0)

/-- The target as launched. -/
abbrev tA : (⟨S16384x1024, .f32⟩ : BufTy).Contents (Elt Ideal) := m ((c : Thread nD τ).loc main_arg1)

/-- The error of an entry. -/
def err (a : Fin 16384) (b : Fin 1024) : EReal := (yA m c (ix2 a b) : EReal) - tA m c (ix2 a b)

/-- The squared error of an entry. -/
def sq (b : Fin 1024) (a : Fin 16384) : EReal := err m c a b * err m c a b

/-- The blocks at a point. -/
theorem idx : ∀ t : Fin cfg0.N, win0_0.index t (0 : Fin 2) = t.val ∧ win0_0.index t (1 : Fin 2) = 0 := (by decide +kernel : ∀ t : Fin grid0.N, _)

/-- Every point writes its block of the gradient back. -/
theorem flush : ∀ t : Fin cfg0.N, (cfg0.win 2).flush t = true := (by decide +kernel : ∀ t : Fin grid0.N, _)

section Point

variable (t : Fin cfg0.N) (r : Fin 512) (b : Fin 1024)

/-- Where an entry of a point's block of rows lies. -/
theorem emb (a : Fin 16384) (h : 512 * t.val + r.val = a.val) : ((cfg0.win 0).blk t).view.emb (ix2 r b) = ix2 a b := by
  obtain ⟨e0, e1⟩ := idx t
  refine funext fun d => Fin.ext ?_
  match d with
  | ⟨0, _⟩ => show win0_0.index t (0 : Fin 2) * 512 + 1 * r.val = a.val; omega
  | ⟨1, _⟩ => show win0_0.index t (1 : Fin 2) * 1024 + 1 * b.val = b.val; omega

/-- The row of a block's entry. -/
theorem row_eq : 512 * t.val + r.val = (row (512 * t.val + r.val)).val := by
  have hN := lt_of_lt_of_eq t.isLt (show cfg0.N = 32 from N_0)
  have hr := r.isLt
  exact (Nat.mod_eq_of_lt (show 512 * t.val + r.val < 16384 by omega)).symm

/-- An entry of the prediction's block. -/
theorem blkY (a : Fin 16384) (h : 512 * t.val + r.val = a.val) : (iblk m c 0 t (ix2 r b) : EReal) = yA m c (ix2 a b) := by
  show V m c main_arg0 (((cfg0.win 0).blk t).view.emb (ix2 r b)) = _
  rw [V_main_arg0]
  exact congrArg (yA m c) (emb t r b a h)

/-- An entry of the target's block. -/
theorem blkT (a : Fin 16384) (h : 512 * t.val + r.val = a.val) : (iblk m c 1 t (ix2 r b) : EReal) = tA m c (ix2 a b) := by
  show V m c main_arg1 (((cfg0.win 1).blk t).view.emb (ix2 r b)) = _
  rw [V_main_arg1]
  exact congrArg (tA m c) (emb t r b a h)

end Point

section Block

variable (x0 x1 : Vec Ideal S512x1024 .f32) (s : Vec Ideal S1x1024 .f32)

/-- What a point stores of the gradient. -/
theorem grad (r : Fin 512) (b : Fin 1024) : (k0_pay2 x0 x1 (ix2 r b) : EReal) = ((x0 (ix2 r b) : EReal) - x1 (ix2 r b)) * Ideal.ofBits .f32 0x3A800000#32 := by
  unfold k0_pay2 k0_pay1
  pointwise

/-- A point's sums of squared errors. -/
theorem part (b : Fin 1024) : (k0_pay3 x0 x1 (ix2 0 b) : EReal) = ∑ r : Fin 512, ((x0 (ix2 r b) : EReal) - x1 (ix2 r b)) * ((x0 (ix2 r b) : EReal) - x1 (ix2 r b)) := by
  unfold k0_pay3 k0_pay1
  pointwise

/-- What the first point keeps. -/
theorem start (b : Fin 1024) : (k0_pay4 x0 x1 (ix2 0 b) : EReal) = k0_pay3 x0 x1 (ix2 0 b) := by
  unfold k0_pay4
  generalize k0_pay3 x0 x1 = z
  pointwise

/-- What a later point keeps. -/
theorem more (b : Fin 1024) : (k0_pay5 x0 x1 s (ix2 0 b) : EReal) = s (ix2 0 b) + k0_pay3 x0 x1 (ix2 0 b) := by
  unfold k0_pay5
  generalize k0_pay3 x0 x1 = z
  pointwise

/-- What the last point leaves of the loss. -/
theorem total (p : Fin 8) (q : Fin 128) : (k0_pay6 s (ix2 p q) : EReal) = (∑ b : Fin 1024, s (ix2 0 b)) * Ideal.ofBits .f32 0x3A000000#32 := by
  unfold k0_pay6
  pointwise

variable (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x128 .f32) (harg4 : arg4.IsWhole) (arg5 : Memref sig .tc .vmem S1x1024 .f32) (harg5 : arg5.IsWhole)

/-- What the first point stores of the gradient. -/
theorem gradA (hc0 : cond0_0 i) (hc1 : ¬cond0_1 i) (hc2 : ¬cond0_2 i) : (kernelRun0_A (F := Ideal) c i arg1 harg1 arg2 harg2 arg3 harg3 arg4 harg4 arg5 harg5 hc0 hc1 hc2 x0 x1).1 = [⟨(Rect.unit (s := S512x1024) ![0, 0] S512x1024.size inb_S512x1024_S512x1024_0_0), k0_pay2 (View.readAt (Elt Ideal) arg1.view (Rect.unit (s := S512x1024) ![0, 0] S512x1024.size inb_S512x1024_S512x1024_0_0).toLoadRect (harg1.unread x0)) (View.readAt (Elt Ideal) arg2.view (Rect.unit (s := S512x1024) ![0, 0] S512x1024.size inb_S512x1024_S512x1024_0_0).toLoadRect (harg2.unread x1))⟩] := by
  sl_kernel_rfl

/-- What the first point stores in the kept sums. -/
theorem storeA (hc0 : cond0_0 i) (hc1 : ¬cond0_1 i) (hc2 : ¬cond0_2 i) : (kernelRun0_A (F := Ideal) c i arg1 harg1 arg2 harg2 arg3 harg3 arg4 harg4 arg5 harg5 hc0 hc1 hc2 x0 x1).2.2.1 = [⟨(Rect.unit (s := S1x1024) ![0, 0] S1x1024.size inb_S1x1024_S1x1024_0_0), k0_pay4 (View.readAt (Elt Ideal) arg1.view (Rect.unit (s := S512x1024) ![0, 0] S512x1024.size inb_S512x1024_S512x1024_0_0).toLoadRect (harg1.unread x0)) (View.readAt (Elt Ideal) arg2.view (Rect.unit (s := S512x1024) ![0, 0] S512x1024.size inb_S512x1024_S512x1024_0_0).toLoadRect (harg2.unread x1))⟩] := by
  sl_kernel_rfl

/-- What the first point leaves of the gradient. -/
theorem leaveA (hc0 : cond0_0 i) (hc1 : ¬cond0_1 i) (hc2 : ¬cond0_2 i) : out0_A_2 (F := Ideal) c i arg1 harg1 arg2 harg2 arg3 harg3 arg4 harg4 arg5 harg5 hc0 hc1 hc2 x0 x1 = k0_pay2 x0 x1 := by
  unfold out0_A_2
  rw [gradA, whole_store, whole_load, whole_load]

/-- What the first point keeps. -/
theorem keepA (hc0 : cond0_0 i) (hc1 : ¬cond0_1 i) (hc2 : ¬cond0_2 i) : sout0_A_0 (F := Ideal) c i arg1 harg1 arg2 harg2 arg3 harg3 arg4 harg4 arg5 harg5 hc0 hc1 hc2 x0 x1 = k0_pay4 x0 x1 := by
  unfold sout0_A_0
  rw [storeA, whole_store, whole_load, whole_load]

/-- What a middle point stores of the gradient. -/
theorem gradB (hc0 : ¬cond0_0 i) (hc1 : cond0_1 i) (hc2 : ¬cond0_2 i) : (kernelRun0_B (F := Ideal) c i arg1 harg1 arg2 harg2 arg3 harg3 arg4 harg4 arg5 harg5 hc0 hc1 hc2 x0 x1 s).1 = [⟨(Rect.unit (s := S512x1024) ![0, 0] S512x1024.size inb_S512x1024_S512x1024_0_0), k0_pay2 (View.readAt (Elt Ideal) arg1.view (Rect.unit (s := S512x1024) ![0, 0] S512x1024.size inb_S512x1024_S512x1024_0_0).toLoadRect (harg1.unread x0)) (View.readAt (Elt Ideal) arg2.view (Rect.unit (s := S512x1024) ![0, 0] S512x1024.size inb_S512x1024_S512x1024_0_0).toLoadRect (harg2.unread x1))⟩] := by
  sl_kernel_rfl

/-- What a middle point stores in the kept sums. -/
theorem storeB (hc0 : ¬cond0_0 i) (hc1 : cond0_1 i) (hc2 : ¬cond0_2 i) : (kernelRun0_B (F := Ideal) c i arg1 harg1 arg2 harg2 arg3 harg3 arg4 harg4 arg5 harg5 hc0 hc1 hc2 x0 x1 s).2.2.1 = [⟨(Rect.unit (s := S1x1024) ![0, 0] S1x1024.size inb_S1x1024_S1x1024_0_0), k0_pay5 (View.readAt (Elt Ideal) arg1.view (Rect.unit (s := S512x1024) ![0, 0] S512x1024.size inb_S512x1024_S512x1024_0_0).toLoadRect (harg1.unread x0)) (View.readAt (Elt Ideal) arg2.view (Rect.unit (s := S512x1024) ![0, 0] S512x1024.size inb_S512x1024_S512x1024_0_0).toLoadRect (harg2.unread x1)) (View.readAt (Elt Ideal) arg5.view (Rect.unit (s := S1x1024) ![0, 0] S1x1024.size inb_S1x1024_S1x1024_0_0).toLoadRect (harg5.unread s))⟩] := by
  sl_kernel_rfl

/-- What a middle point leaves of the gradient. -/
theorem leaveB (hc0 : ¬cond0_0 i) (hc1 : cond0_1 i) (hc2 : ¬cond0_2 i) : out0_B_2 (F := Ideal) c i arg1 harg1 arg2 harg2 arg3 harg3 arg4 harg4 arg5 harg5 hc0 hc1 hc2 x0 x1 s = k0_pay2 x0 x1 := by
  unfold out0_B_2
  rw [gradB, whole_store, whole_load, whole_load]

/-- What a middle point keeps. -/
theorem keepB (hc0 : ¬cond0_0 i) (hc1 : cond0_1 i) (hc2 : ¬cond0_2 i) : sout0_B_0 (F := Ideal) c i arg1 harg1 arg2 harg2 arg3 harg3 arg4 harg4 arg5 harg5 hc0 hc1 hc2 x0 x1 s = k0_pay5 x0 x1 s := by
  unfold sout0_B_0
  rw [storeB, whole_store, whole_load, whole_load, whole_load]

/-- What the last point stores of the gradient. -/
theorem gradC (hc0 : ¬cond0_0 i) (hc1 : cond0_1 i) (hc2 : cond0_2 i) : (kernelRun0_C (F := Ideal) c i arg1 harg1 arg2 harg2 arg3 harg3 arg4 harg4 arg5 harg5 hc0 hc1 hc2 x0 x1 s).1 = [⟨(Rect.unit (s := S512x1024) ![0, 0] S512x1024.size inb_S512x1024_S512x1024_0_0), k0_pay2 (View.readAt (Elt Ideal) arg1.view (Rect.unit (s := S512x1024) ![0, 0] S512x1024.size inb_S512x1024_S512x1024_0_0).toLoadRect (harg1.unread x0)) (View.readAt (Elt Ideal) arg2.view (Rect.unit (s := S512x1024) ![0, 0] S512x1024.size inb_S512x1024_S512x1024_0_0).toLoadRect (harg2.unread x1))⟩] := by
  sl_kernel_rfl

/-- What the last point stores in the kept sums. -/
theorem storeC (hc0 : ¬cond0_0 i) (hc1 : cond0_1 i) (hc2 : cond0_2 i) : (kernelRun0_C (F := Ideal) c i arg1 harg1 arg2 harg2 arg3 harg3 arg4 harg4 arg5 harg5 hc0 hc1 hc2 x0 x1 s).2.2.1 = [⟨(Rect.unit (s := S1x1024) ![0, 0] S1x1024.size inb_S1x1024_S1x1024_0_0), k0_pay5 (View.readAt (Elt Ideal) arg1.view (Rect.unit (s := S512x1024) ![0, 0] S512x1024.size inb_S512x1024_S512x1024_0_0).toLoadRect (harg1.unread x0)) (View.readAt (Elt Ideal) arg2.view (Rect.unit (s := S512x1024) ![0, 0] S512x1024.size inb_S512x1024_S512x1024_0_0).toLoadRect (harg2.unread x1)) (View.readAt (Elt Ideal) arg5.view (Rect.unit (s := S1x1024) ![0, 0] S1x1024.size inb_S1x1024_S1x1024_0_0).toLoadRect (harg5.unread s))⟩] := by
  sl_kernel_rfl

/-- What the last point leaves of the gradient. -/
theorem leaveC (hc0 : ¬cond0_0 i) (hc1 : cond0_1 i) (hc2 : cond0_2 i) : out0_C_2 (F := Ideal) c i arg1 harg1 arg2 harg2 arg3 harg3 arg4 harg4 arg5 harg5 hc0 hc1 hc2 x0 x1 s = k0_pay2 x0 x1 := by
  unfold out0_C_2
  rw [gradC, whole_store, whole_load, whole_load]

/-- What the last point keeps. -/
theorem keepC (hc0 : ¬cond0_0 i) (hc1 : cond0_1 i) (hc2 : cond0_2 i) : sout0_C_0 (F := Ideal) c i arg1 harg1 arg2 harg2 arg3 harg3 arg4 harg4 arg5 harg5 hc0 hc1 hc2 x0 x1 s = k0_pay5 x0 x1 s := by
  unfold sout0_C_0
  rw [storeC, whole_store, whole_load, whole_load, whole_load]

/-- What the last point stores of the loss. -/
theorem writeC (hc0 : ¬cond0_0 i) (hc1 : cond0_1 i) (hc2 : cond0_2 i) : (kernelRun0_C (F := Ideal) c i arg1 harg1 arg2 harg2 arg3 harg3 arg4 harg4 arg5 harg5 hc0 hc1 hc2 x0 x1 s).2.1 = [⟨(Rect.unit (s := S8x128) ![0, 0] S8x128.size inb_S8x128_S8x128_0_0), k0_pay6 (arg5.view.readCov (Val := Elt Ideal) [⟨(Rect.unit (s := S1x1024) ![0, 0] S1x1024.size inb_S1x1024_S1x1024_0_0), k0_pay5 (View.readAt (Elt Ideal) arg1.view (Rect.unit (s := S512x1024) ![0, 0] S512x1024.size inb_S512x1024_S512x1024_0_0).toLoadRect (harg1.unread x0)) (View.readAt (Elt Ideal) arg2.view (Rect.unit (s := S512x1024) ![0, 0] S512x1024.size inb_S512x1024_S512x1024_0_0).toLoadRect (harg2.unread x1)) (View.readAt (Elt Ideal) arg5.view (Rect.unit (s := S1x1024) ![0, 0] S1x1024.size inb_S1x1024_S1x1024_0_0).toLoadRect (harg5.unread s))⟩] (Rect.unit (s := S1x1024) ![0, 0] S1x1024.size inb_S1x1024_S1x1024_0_0).toLoadRect)⟩] := by
  sl_kernel_rfl

/-- What the last point leaves of the loss. -/
theorem lossC (hc0 : ¬cond0_0 i) (hc1 : cond0_1 i) (hc2 : cond0_2 i) : out0_C_3 (F := Ideal) c i arg1 harg1 arg2 harg2 arg3 harg3 arg4 harg4 arg5 harg5 hc0 hc1 hc2 x0 x1 s = k0_pay6 (k0_pay5 x0 x1 s) := by
  unfold out0_C_3
  rw [writeC, whole_store, whole_again, whole_load, whole_load, whole_load]

end Block

/-- The first point of the run. -/
theorem atA (t : Fin cfg0.N) (h0 : t.val % 32 = 0) (h1 : ¬1 ≤ t.val) (h2 : ¬t.val % 32 = 31) : (outsAt0 (F := Ideal) m c t.val t.isLt).1 = k0_pay2 (iblk m c 0 t) (iblk m c 1 t)
    ∧ (outsAt0 (F := Ideal) m c t.val t.isLt).2.2 = k0_pay4 (iblk m c 0 t) (iblk m c 1 t) := by
  rw [outsAt0_A m c t h0 h1 h2]
  dsimp only
  rw [leaveA, keepA]
  exact ⟨rfl, rfl⟩

/-- A middle point of the run. -/
theorem atB (t : Fin cfg0.N) (h0 : ¬t.val % 32 = 0) (h1 : 1 ≤ t.val) (h2 : ¬t.val % 32 = 31) : (outsAt0 (F := Ideal) m c t.val t.isLt).1 = k0_pay2 (iblk m c 0 t) (iblk m c 1 t)
    ∧ (outsAt0 (F := Ideal) m c t.val t.isLt).2.2 = k0_pay5 (iblk m c 0 t) (iblk m c 1 t) (outsAt0 (F := Ideal) m c (t.val - 1) (Nat.lt_of_le_of_lt (Nat.sub_le _ _) t.isLt)).2.2 := by
  rw [outsAt0_B m c t h0 h1 h2]
  dsimp only
  rw [leaveB, keepB]
  exact ⟨rfl, rfl⟩

/-- The last point of the run. -/
theorem atC (t : Fin cfg0.N) (h0 : ¬t.val % 32 = 0) (h1 : 1 ≤ t.val) (h2 : t.val % 32 = 31) : (outsAt0 (F := Ideal) m c t.val t.isLt).1 = k0_pay2 (iblk m c 0 t) (iblk m c 1 t)
    ∧ (outsAt0 (F := Ideal) m c t.val t.isLt).2.2 = k0_pay5 (iblk m c 0 t) (iblk m c 1 t) (outsAt0 (F := Ideal) m c (t.val - 1) (Nat.lt_of_le_of_lt (Nat.sub_le _ _) t.isLt)).2.2 := by
  rw [outsAt0_C m c t h0 h1 h2]
  dsimp only
  rw [leaveC, keepC]
  exact ⟨rfl, rfl⟩

/-- The last point of the run leaves the loss of what it keeps. -/
theorem outC (t : Fin cfg0.N) (h0 : ¬t.val % 32 = 0) (h1 : 1 ≤ t.val) (h2 : t.val % 32 = 31) :
    (outsAt0 (F := Ideal) m c t.val t.isLt).2.1 = k0_pay6 ((outsAt0 (F := Ideal) m c t.val t.isLt).2.2) := by
  rw [(atC m c t h0 h1 h2).2, outsAt0_C m c t h0 h1 h2]
  dsimp only
  rw [lossC]

/-- Every point leaves its block of the gradient. -/
theorem left (t : Fin cfg0.N) : (outsAt0 (F := Ideal) m c t.val t.isLt).1 = k0_pay2 (iblk m c 0 t) (iblk m c 1 t) := by
  have hN := lt_of_lt_of_eq t.isLt (show cfg0.N = 32 from N_0)
  by_cases h0 : t.val % 32 = 0
  · exact (atA m c t h0 (by omega) (by omega)).1
  · by_cases h2 : t.val % 32 = 31
    · exact (atC m c t h0 (by omega) h2).1
    · exact (atB m c t h0 (by omega) h2).1

/-- A point's sums of squared errors over its rows. -/
theorem rows (t : Fin cfg0.N) (b : Fin 1024) : (k0_pay3 (iblk m c 0 t) (iblk m c 1 t) (ix2 0 b) : EReal) = ∑ r : Fin 512, sq m c b (row (512 * t.val + r.val)) := by
  refine (part _ _ b).trans (Finset.sum_congr rfl fun r _ => ?_)
  rw [blkY m c t r b _ (row_eq t r), blkT m c t r b _ (row_eq t r)]
  rfl

/-- Every point keeps the sums of squared errors over the rows up to its own. -/
theorem kept (b : Fin 1024) : ∀ (n : ℕ) (hn : n < cfg0.N), ((outsAt0 (F := Ideal) m c n hn).2.2 (ix2 0 b) : EReal) = firstOf 512 (sq m c b) (n + 1)
  | 0, hn => by
    rw [(atA m c ⟨0, hn⟩ rfl (show ¬1 ≤ 0 by decide) (show ¬0 % 32 = 31 by decide)).2, firstOf_one]
    exact (start _ _ b).trans (rows m c ⟨0, hn⟩ b)
  | n + 1, hn => by
    have hN := lt_of_lt_of_eq hn (show cfg0.N = 32 from N_0)
    rw [firstOf_succ, ← kept b n (Nat.lt_of_succ_lt hn)]
    by_cases h2 : (n + 1) % 32 = 31
    · rw [(atC m c ⟨n + 1, hn⟩ (by show ¬(n + 1) % 32 = 0; omega) (by show 1 ≤ n + 1; omega) h2).2]
      exact (more _ _ _ b).trans (congrArg (_ + ·) (rows m c ⟨n + 1, hn⟩ b))
    · rw [(atB m c ⟨n + 1, hn⟩ (by show ¬(n + 1) % 32 = 0; omega) (by show 1 ≤ n + 1; omega) h2).2]
      exact (more _ _ _ b).trans (congrArg (_ + ·) (rows m c ⟨n + 1, hn⟩ b))

/-- What the run leaves of the gradient. -/
theorem arr2 (a : Fin 16384) (b : Fin 1024) : ((dats m 0 c).arrAt 2 cfg0.N (ix2 a b) : EReal) = err m c a b * Ideal.ofBits .f32 0x3A800000#32 := by
  have ha := a.isLt
  obtain ⟨t, ht⟩ : ∃ t : Fin cfg0.N, t.val = a.val / 512 := ⟨⟨a.val / 512, lt_of_lt_of_eq (show a.val / 512 < 32 by omega) N_0.symm⟩, rfl⟩
  have h : 512 * t.val + (⟨a.val % 512, Nat.mod_lt _ (by decide)⟩ : Fin 512).val = a.val := by rw [ht]; exact Nat.div_add_mod a.val 512
  generalize (⟨a.val % 512, Nat.mod_lt _ (by decide)⟩ : Fin 512) = r at h
  refine (congrArg ((dats m 0 c).arrAt 2 cfg0.N) (emb t r b a h).symm).trans ((congrFun (blocks2 m c t (flush t)) (ix2 r b)).trans
    ((congrFun (flushed2 m c t) (ix2 r b)).trans ?_))
  rw [left]
  refine (show _ = _ from grad (iblk m c 0 t) (iblk m c 1 t) r b).trans ?_
  rw [blkY m c t r b a h, blkT m c t r b a h]
  rfl

/-- There is a last point. -/
theorem last_lt : 31 < cfg0.N := lt_of_lt_of_eq (by decide) (show 32 = cfg0.N from N_0.symm)

/-- The last point writes the whole of the loss, alone. -/
theorem once3 : (cfg0.win 3).WholeAt ⟨31, last_lt⟩ := by decide +kernel

/-- The loss is what the last point leaves of it. -/
theorem last3 (t : Fin cfg0.N) (h : (cfg0.win 3).WholeAt t) (p : Fin 8) (q : Fin 128) :
    ((dats m 0 c).arrAt 3 cfg0.N (ix2 p q) : EReal) = (outsAt0 (F := Ideal) m c t.val t.isLt).2.1 (ix2 p q) := by
  have e := (dats m 0 c).arrAt_emb_eq_after_last 3 t h (ix2 p q)
  rw [after0_3] at e
  have hi : (cfg0.win 3).arr.view.emb (ix2 p q) = ix2 p q := funext fun d => Fin.ext (by match d with | ⟨0, _⟩ => rfl | ⟨1, _⟩ => rfl)
  have hj : (fun a => ⟨(ix2 p q : S8x128.Idx) a, h.lt_size (ix2 p q) a⟩ : S8x128.Idx) = ix2 p q := funext fun d => Fin.ext (by match d with | ⟨0, _⟩ => rfl | ⟨1, _⟩ => rfl)
  rw [hi] at e
  refine e.trans ((cast_eq _ _).trans ?_)
  exact congrArg (outsAt0 (F := Ideal) m c t.val t.isLt).2.1 hj

/-- What a last point's loss is. -/
theorem total3 (t : Fin cfg0.N) (h : (cfg0.win 3).WholeAt t) (ht : t.val + 1 = 32) (p : Fin 8) (q : Fin 128) :
    ((dats m 0 c).arrAt 3 cfg0.N (ix2 p q) : EReal) = (∑ b : Fin 1024, ∑ a : Fin 16384, sq m c b a) * Ideal.ofBits .f32 0x3A000000#32 := by
  rw [last3 m c t h p q, outC m c t (by omega) (by omega) (by omega)]
  refine (total _ p q).trans (congrArg (· * _) (Finset.sum_congr rfl fun b _ => ?_))
  exact (kept m c b t.val t.isLt).trans (by rw [ht, firstOf_all 512 32 rfl])

/-- What the run leaves of the loss. -/
theorem arr3 (p : Fin 8) (q : Fin 128) : ((dats m 0 c).arrAt 3 cfg0.N (ix2 p q) : EReal) = (∑ b : Fin 1024, ∑ a : Fin 16384, sq m c b a) * Ideal.ofBits .f32 0x3A000000#32 :=
  total3 m c ⟨31, last_lt⟩ once3 rfl p q

end Cert.Kernel27Ideal.Lo

namespace Cert.Reference27Ideal.Lo

open Idealize.ShloMosaic Idealize.ShloMosaic.TcCoe Idealize.SL.Sem Cert.Reference27Ideal Cert.Reference27Ideal.Gen Cert.Reference27Ideal.Read Idealize.ShloMosaic.Pointwise

section Entry

variable (y t : (⟨S16384x1024, .f32⟩ : BufTy).Contents (Elt Ideal))

/-- The reference's gradient. -/
theorem grad (a : Fin 16384) (b : Fin 1024) : (val_main_v14 (F := Ideal) y t (ix2 a b) : EReal) = ((y (ix2 a b) : EReal) - t (ix2 a b)) * Ideal.ofBits .f32 0x3A800000#32 := by
  rw [← Cert.Loss.grad_eq]
  unfold val_main_v14 val_main_v13 val_main_v12 val_main_v11 val_main_v10 val_main_v9 val_main_v3 val_main_v2 val_main_v0 val_main_cst_6 val_main_cst_5 val_main_cst_4 val_main_cst
  pointwise

/-- A row's mean of squared errors. -/
theorem mean (a : Fin 16384) : (val_main_v6 (F := Ideal) y t (ix1 a) : EReal)
    = Ideal.div (∑ b : Fin 1024, ((y (ix2 a b) : EReal) - t (ix2 a b)) * ((y (ix2 a b) : EReal) - t (ix2 a b))) (Ideal.ofBits .f32 0x44800000#32) := by
  unfold val_main_v6 val_main_v5 val_main_v4 val_main_v1 val_main_v0 val_main_cst_1 val_main_cst_0
  pointwise

/-- The reference's loss. -/
theorem loss (p : Fin 8) (q : Fin 128) : (val_main_v15 (F := Ideal) y t (ix2 p q) : EReal) = Ideal.ofBits .f32 0x3F000000#32 * ∑ a : Fin 16384, val_main_v6 (F := Ideal) y t (ix1 a) := by
  unfold val_main_v15 val_main_v8 val_main_v7 val_main_cst_3 val_main_cst_2
  generalize val_main_v6 (F := Ideal) y t = z
  pointwise

end Entry

/-- The reference ends with its arguments unchanged and every counter at zero. -/
theorem frame : Cert.quiescent_Reference27Ideal (hReference27Ideal := Cert.Reference27Ideal.Gen.facts) := fun m ρ _ =>
  (θ_run Cert.Reference27Ideal.defs _ _).mono
    (fun r h => ⟨fun c => (h c).2.2, Idealize.ShloMosaic.sem_eq_zero_of_no_sems (by decide) r.2⟩) (Cert.Reference27Ideal.Value.run m ρ)

open Cert.Kernel27Ideal.Lo (yA tA)

/-- The kernel and the reference compute the same. -/
theorem values : Cert.algebraic_Kernel27Ideal_Reference27Ideal (hKernel27Ideal := Cert.Kernel27Ideal.Gen.facts) (hReference27Ideal := Cert.Reference27Ideal.Gen.facts) := by
  intro m ρ m' ρ' _ hag
  refine ⟨fun c => (Cert.Kernel27Ideal.Gen.dats (F := Ideal) m 0 c).arrAt 2 Cert.Kernel27Ideal.cfg0.N, fun c => (Cert.Kernel27Ideal.Gen.dats (F := Ideal) m 0 c).arrAt 3 Cert.Kernel27Ideal.cfg0.N,
    (θ_run _ _ _).mono (fun _ h c => h c) (Cert.Kernel27Ideal.Value.run_blocks (F := Ideal) m ρ),
    (θ_run _ _ _).mono (fun _ h c => ⟨(h c).1.trans ?_, (h c).2.1.trans ?_, (h c).2.2⟩) (Cert.Reference27Ideal.Value.run (F := Ideal) m' ρ')⟩
  all_goals
    obtain ⟨e0, e1⟩ := hag c
    rw [e0, e1]
  · refine (val_main_v14_eq (F := Ideal) _ _).trans (funext fun i => ?_)
    rw [ValueIdx.eq_ix2 i]
    exact (grad _ _ (i 0) (i 1)).trans (Cert.Kernel27Ideal.Lo.arr2 m c (i 0) (i 1)).symm
  · refine (val_main_v15_eq (F := Ideal) _ _).trans (funext fun i => ?_)
    rw [ValueIdx.eq_ix2 i]
    refine (loss _ _ (i 0) (i 1)).trans (Eq.trans ?_ (Cert.Kernel27Ideal.Lo.arr3 m c (i 0) (i 1)).symm)
    refine Eq.trans ?_ (Cert.Loss.mean_eq fun a b => Cert.Kernel27Ideal.Lo.err m c a b)
    exact congrArg (_ * ·) (Finset.sum_congr rfl fun a _ => mean (yA m c) (tA m c) a)

end Cert.Reference27Ideal.Lo

end
-- ==== Proof.LowerBoundsEq.lean ====
module

public import proofs.«01_k».proof.Defs
public import proofs.«01_k».proof.Proof.Bounds
public import proofs.«01_k».proof.Proof.Gen.Pre_finite_logits
public import proofs.«01_k».proof.Proof.Gen.Kernel28Ideal.Value
public import proofs.«01_k».proof.Proof.Gen.Reference28Ideal.Run
public import proofs.«01_k».proof.Proof.Gen.Reference28Ideal.Read
public import Idealize.ShloMosaic.Lib.Pipeline.ValueKit.Tiles
public import Idealize.ShloMosaic.Lib.Pointwise

@[expose] public section

/-! The gradient of the forget gates' lower bounds: a softmax over the four layers, its running sum and every other row of it. -/

noncomputable section

namespace Cert.Lower

open Idealize.ShloMosaic Cert.Dv

/-- The largest of a column's four logits. -/
def mx (l : Fin 4 → EReal) : EReal := Finset.univ.fold max (Ideal.ofBits .f32 0xFF800000#32) l

/-- A logit's exponential, relative to the largest. -/
def ex (l : Fin 4 → EReal) (i : Fin 4) : EReal := Ideal.exp (l i - mx l)

/-- A layer's share of a column. -/
def sm (l : Fin 4 → EReal) (i : Fin 4) : EReal := Ideal.div (ex l i) (∑ j, ex l j)

/-- What the shares' gradients sum to, weighted by the shares. -/
def dot (l : Fin 4 → EReal) (d1 d3 : EReal) : EReal := sm l 1 * (d1 + d3) + (sm l 2 + sm l 3) * d3

/-- What the kernel writes of a column. -/
def ker (l : Fin 4 → EReal) (d1 d3 : EReal) : Fin 4 → EReal :=
  ![(Ideal.ofBits .f32 0x00000000#32 - sm l 0) * dot l d1 d3, sm l 1 * (d1 + d3 - dot l d1 d3), sm l 2 * (d3 - dot l d1 d3), sm l 3 * (d3 - dot l d1 d3)]

/-- What reaches the shares. -/
def up (d1 d3 : EReal) : Fin 4 → EReal := ![(-d1 + -d3) + (d1 + d3), d1 + d3, d3, d3]

/-- The reference's gradient of a column. -/
def ref (l : Fin 4 → EReal) (d1 d3 : EReal) (i : Fin 4) : EReal :=
  (Ideal.div (up d1 d3 i) (∑ j, ex l j)
    + -∑ k, up d1 d3 k * Ideal.div (Ideal.ofBits .f32 0x3F800000#32) ((∑ j, ex l j) * ∑ j, ex l j) * ex l k) * ex l i

/-- The lowest number. -/
theorem low : Ideal.ofBits .f32 0xFF800000#32 = ⊥ := by simp [Ideal.ofBits, Ideal.ieee]

/-- The one. -/
theorem one : Ideal.ofBits .f32 0x3F800000#32 = ((1 : ℝ) : EReal) := by
  simp [Ideal.ofBits, Ideal.ieee, -EReal.coe_mul]; norm_num

/-- The largest of real logits is real. -/
theorem mx_real (l : Fin 4 → EReal) (hl : ∀ i, IsReal (l i)) : IsReal (mx l) := by
  have h1 : mx l < ⊤ := by
    rw [mx, Finset.fold_max_lt, low]
    exact ⟨bot_lt_top, fun i _ => by obtain ⟨r, hr⟩ := hl i; rw [hr]; exact EReal.coe_lt_top r⟩
  have h0 : ⊥ < mx l := by
    rw [mx, Finset.lt_fold_max]
    exact .inr ⟨0, Finset.mem_univ _, by obtain ⟨r, hr⟩ := hl 0; rw [hr]; exact EReal.bot_lt_coe r⟩
  exact ⟨(mx l).toReal, (EReal.coe_toReal h1.ne h0.ne').symm⟩

/-- Real logits' exponentials are positive real numbers. -/
theorem ex_real (l : Fin 4 → EReal) (hl : ∀ i, IsReal (l i)) (i : Fin 4) : ∃ r : ℝ, 0 < r ∧ ex l i = r := by
  obtain ⟨a, ha⟩ := hl i
  obtain ⟨b, hb⟩ := mx_real l hl
  exact ⟨Real.exp (a - b), Real.exp_pos _, by rw [ex, ha, hb, ← EReal.coe_sub, Ideal.exp_coe]⟩

/-- On real logits and gradients the two agree. -/
theorem ref_eq_ker (l : Fin 4 → EReal) (hl : ∀ i, IsReal (l i)) (d1 d3 : EReal) (h1 : IsReal d1) (h3 : IsReal d3) (i : Fin 4) : ref l d1 d3 i = ker l d1 d3 i := by
  obtain ⟨e0, p0, q0⟩ := ex_real l hl 0
  obtain ⟨e1, p1, q1⟩ := ex_real l hl 1
  obtain ⟨e2, p2, q2⟩ := ex_real l hl 2
  obtain ⟨e3, p3, q3⟩ := ex_real l hl 3
  obtain ⟨a, rfl⟩ := h1
  obtain ⟨b, rfl⟩ := h3
  have hs : ∑ j, ex l j = ((e0 + e1 + e2 + e3 : ℝ) : EReal) := by
    rw [Fin.sum_univ_four, q0, q1, q2, q3]; simp only [EReal.coe_add]
  have pos : e0 + e1 + e2 + e3 ≠ 0 := by positivity
  have pos2 : (e0 + e1 + e2 + e3) * (e0 + e1 + e2 + e3) ≠ 0 := mul_ne_zero pos pos
  have z : Ideal.ofBits .f32 0x00000000#32 = ((0 : ℝ) : EReal) := by simp [Ideal.ofBits, Ideal.ieee]
  have u : ∀ k, up a b k = ((![0, a + b, b, b] k : ℝ) : EReal) := by
    intro k
    fin_cases k <;> simp [up, ← EReal.coe_add, ← EReal.coe_neg]
    ring
  rw [ref, u, hs, Fin.sum_univ_four, u, u, u, u, q0, q1, q2, q3, one]
  unfold ker dot sm
  rw [hs, q0, q1, q2, q3, z]
  generalize e0 + e1 + e2 + e3 = s at *
  fin_cases i
  all_goals
    simp only [Ideal.div_coe pos, Ideal.div_coe pos2, q0, q1, q2, q3, ← EReal.coe_mul, ← EReal.coe_add, ← EReal.coe_sub, ← EReal.coe_neg, Fin.isValue, Fin.zero_eta, Fin.mk_one, Fin.reduceFinMk, Matrix.cons_val, Matrix.cons_val_zero, Matrix.cons_val_one]
    refine congrArg _ ?_
    field_simp
    ring

end Cert.Lower

namespace Cert.Kernel28Ideal.Lo

open Idealize.ShloMosaic Idealize.ShloMosaic.TcCoe Idealize.SL.Sem Cert.Kernel28Ideal Cert.Kernel28Ideal.Gen Cert.Kernel28Ideal.Value Idealize.ShloMosaic.Pointwise Cert.Lower

section Block

variable (x : Vec Ideal S4x256 .f32) (d : Vec Ideal S2x256 .f32) (v w : Vec Ideal S1x256 .f32) (b : Fin 256)

/-- A layer's share of a column. -/
theorem share (i : Fin 4) : (k0_pay1 x (ix2 i b) : EReal) = sm (fun k => x (ix2 k b)) i := by
  unfold k0_pay1
  pointwise
  rfl

/-- The weighted sum of a column. -/
theorem weighted : (k0_pay2 x v w (ix2 0 b) : EReal) = dot (fun k => x (ix2 k b)) (v (ix2 0 b)) (w (ix2 0 b)) := by
  unfold dot
  simp only [← share x b]
  unfold k0_pay2
  generalize k0_pay1 x = z
  pointwise

/-- The first row stored. -/
theorem row0 : (k0_pay3 x v w (ix2 0 b) : EReal) = ker (fun k => x (ix2 k b)) (v (ix2 0 b)) (w (ix2 0 b)) 0 := by
  show _ = (_ - sm _ 0) * dot _ _ _
  rw [← weighted x v w b, ← share x b]
  unfold k0_pay3
  generalize k0_pay2 x v w = y
  generalize k0_pay1 x = z
  pointwise

/-- The second row stored. -/
theorem row1 : (k0_pay4 x v w (ix2 0 b) : EReal) = ker (fun k => x (ix2 k b)) (v (ix2 0 b)) (w (ix2 0 b)) 1 := by
  show _ = sm _ 1 * (_ - dot _ _ _)
  rw [← weighted x v w b, ← share x b]
  unfold k0_pay4
  generalize k0_pay2 x v w = y
  generalize k0_pay1 x = z
  pointwise

/-- The third row stored. -/
theorem row2 : (k0_pay5 x v w (ix2 0 b) : EReal) = ker (fun k => x (ix2 k b)) (v (ix2 0 b)) (w (ix2 0 b)) 2 := by
  show _ = sm _ 2 * (_ - dot _ _ _)
  rw [← weighted x v w b, ← share x b]
  unfold k0_pay5
  generalize k0_pay2 x v w = y
  generalize k0_pay1 x = z
  pointwise

/-- The fourth row stored. -/
theorem row3 : (k0_pay6 x v w (ix2 0 b) : EReal) = ker (fun k => x (ix2 k b)) (v (ix2 0 b)) (w (ix2 0 b)) 3 := by
  show _ = sm _ 3 * (_ - dot _ _ _)
  rw [← weighted x v w b, ← share x b]
  unfold k0_pay6
  generalize k0_pay2 x v w = y
  generalize k0_pay1 x = z
  pointwise

/-- A load of one row of the gradients. -/
theorem ld0 : View.ld d r0_1 (ix2 0 b) = d (ix2 0 b) :=
  congrArg d (funext fun a => Fin.ext (by match a with | ⟨0, _⟩ => rfl | ⟨1, _⟩ => show 0 + 1 * b.val = b.val; omega))

/-- A load of the other. -/
theorem ld1 : View.ld d r0_2 (ix2 0 b) = d (ix2 1 b) :=
  congrArg d (funext fun a => Fin.ext (by match a with | ⟨0, _⟩ => rfl | ⟨1, _⟩ => show 0 + 1 * b.val = b.val; omega))

/-- An entry of a row stored alone. -/
theorem one_row {o : ℕ} {p : Vec Ideal S1x256 .f32} {i : Fin 4} {f : Fin 4 → EReal} (h : ∀ j : Fin 4, j.val = o → (p (ix2 0 b) : EReal) = f j) :
    View.TileAt (Val := Elt Ideal) (e := .f32) (S := S4x256) (ix2 i b) ![o, 0] S1x256.size p (f i) := by
  intro y hy
  have y0 : y = ix2 0 b := funext fun a => Fin.ext (by
    match a with
    | ⟨0, _⟩ => exact Nat.lt_one_iff.mp (y 0).isLt
    | ⟨1, _⟩ => have e : b.val = 0 + (y 1).val := hy 1; show (y 1).val = b.val; omega)
  rw [y0]
  have e : i.val = o + (y 0).val := hy 0
  have e0 := Nat.lt_one_iff.mp (y 0).isLt
  exact h i (by omega)

/-- What the call writes. -/
theorem out (i : Fin 4) : (G2 (F := Ideal) x d (ix2 i b) : EReal) = ker (fun k => x (ix2 k b)) (d (ix2 0 b)) (d (ix2 1 b)) i := by
  refine View.canon_eq_of_allAt _ _ _ (View.cover_of_tiled_head _ _ _ rfl _) ?_
  rw [← ld0 d b, ← ld1 d b]
  refine View.allAt_cons_unit _ _ _ _ _ (one_row b fun j hj => ?_) (View.allAt_cons_unit _ _ _ _ _ (one_row b fun j hj => ?_)
    (View.allAt_cons_unit _ _ _ _ _ (one_row b fun j hj => ?_) (View.allAt_cons_unit _ _ _ _ _ (one_row b fun j hj => ?_) (View.allAt_nil _ _))))
  · exact (show j = 3 from Fin.ext hj) ▸ row3 x _ _ b
  · exact (show j = 2 from Fin.ext hj) ▸ row2 x _ _ b
  · exact (show j = 1 from Fin.ext hj) ▸ row1 x _ _ b
  · exact (show j = 0 from Fin.ext hj) ▸ row0 x _ _ b

end Block

end Cert.Kernel28Ideal.Lo

namespace Cert.Reference28Ideal.Lo

open Idealize.ShloMosaic Idealize.ShloMosaic.TcCoe Idealize.SL.Sem Cert.Reference28Ideal Cert.Reference28Ideal.Gen Cert.Reference28Ideal.Read Idealize.ShloMosaic.Pointwise Cert.Lower

section Entry

variable (x : (⟨S4x256, .f32⟩ : BufTy).Contents (Elt Ideal)) (d : (⟨S2x256, .f32⟩ : BufTy).Contents (Elt Ideal)) (b : Fin 256)

/-- A logit's exponential. -/
theorem expo (i : Fin 4) : (val_main_v20 (F := Ideal) x (ix2 i b) : EReal) = ex (fun k => x (ix2 k b)) i := by
  have h : (val_main_v7 (F := Ideal) x (ix1 b) : EReal) = mx fun k => x (ix2 k b) := by
    unfold val_main_v7 val_main_v6 val_main_v0 val_main_cst_1 val_main_cst
    pointwise
    rw [low, max_bot_left, mx, low]
  unfold ex
  rw [← h]
  unfold val_main_v20 val_main_v19 val_main_v18 val_main_v17
  generalize val_main_v7 (F := Ideal) x = z
  pointwise

/-- Their sum over a column. -/
theorem total : (val_main_v22 (F := Ideal) x (ix2 0 b) : EReal) = ∑ j, ex (fun k => x (ix2 k b)) j := by
  simp only [← expo x b]
  unfold val_main_v22 val_main_v21 val_main_cst_7
  generalize val_main_v20 (F := Ideal) x = z
  pointwise

/-- The gradients, spread over the layers. -/
theorem spread (i : Fin 4) : (val_main_v33 (F := Ideal) d (ix2 i b) : EReal) = (![0, d (ix2 0 b), 0, d (ix2 1 b)] : Fin 4 → EReal) i := by
  unfold val_main_v33 val_main_cst_9
  fin_cases i
  all_goals
    pointwise

/-- The places of a window of four rows. -/
theorem place : ∀ n : Fin (Shape.mk 2 ![4, 1]).numel, ((Shape.mk 2 ![4, 1]).rowMajor.symm n 0).val = n.val ∧ ((Shape.mk 2 ![4, 1]).rowMajor.symm n 1).val = 0 := by decide

/-- Adding one after another adds the sum. -/
theorem foldl_add {ι : Type} (f : ι → EReal) : ∀ (L : List ι) (v : EReal), L.foldl (fun r n => r + f n) v = v + (L.map f).sum
  | [], v => by simp
  | a :: L, v => by rw [List.foldl_cons, foldl_add f L, List.map_cons, List.sum_cons, add_assoc]

/-- A running sum from below. -/
theorem running (z : FVec Ideal S4x256 .f32) (c : FVec Ideal S_ .f32) (hc : ∀ i, (c i : EReal) = 0) (h : S4x256.ReduceWindows (![4, 1] : Fin 2 → Nat) ![1, 1] ![0, 0] ![3, 0] S4x256) (i : Fin 4) :
    (Host.reduceWindowAdd ![4, 1] ![1, 1] ![0, 0] ![3, 0] z c h h_S_ (ix2 i b) : EReal) = ∑ n : Fin 4, if hn : i.val + n.val < 4 then (z (ix2 ⟨i.val + n.val, hn⟩ b) : EReal) else 0 := by
  unfold Host.reduceWindowAdd
  rw [Ideal.hostReduceWindowAdd_def]
  unfold Ideal.hostReduceWindowAdd Host.reduceWindow
  dsimp only
  rw [foldl_add, hc, zero_add, ← List.ofFn_eq_map, List.sum_ofFn]
  refine Fintype.sum_equiv (finCongr (by decide)) _ _ fun n => ?_
  obtain ⟨p0, p1⟩ := place n
  have hb := b.isLt
  show _ = if hn : i.val + n.val < 4 then (z (ix2 ⟨i.val + n.val, hn⟩ b) : EReal) else 0
  by_cases hn : i.val + n.val < 4
  · rw [dif_pos hn]
    refine (dif_pos fun a => ?_).trans (congrArg z (funext fun a => Fin.ext ?_))
    · match a with
      | ⟨0, _⟩ => exact ⟨Nat.zero_le _, by show i.val * 1 + ((Shape.mk 2 ![4, 1]).rowMajor.symm n 0).val - 0 < 4; omega⟩
      | ⟨1, _⟩ => exact ⟨Nat.zero_le _, by show b.val * 1 + ((Shape.mk 2 ![4, 1]).rowMajor.symm n 1).val - 0 < 256; omega⟩
    · match a with
      | ⟨0, _⟩ => show i.val * 1 + ((Shape.mk 2 ![4, 1]).rowMajor.symm n 0).val - 0 = i.val + n.val; omega
      | ⟨1, _⟩ => show b.val * 1 + ((Shape.mk 2 ![4, 1]).rowMajor.symm n 1).val - 0 = b.val; omega
  · rw [dif_neg hn]
    refine dif_neg fun ha => hn ?_
    have e : i.val * 1 + ((Shape.mk 2 ![4, 1]).rowMajor.symm n 0).val - 0 < 4 := (ha 0).2
    omega

/-- What reaches a column's shares. -/
theorem reach (i : Fin 4) : (val_main_v39 (F := Ideal) d (ix2 i b) : EReal) = up (d (ix2 0 b)) (d (ix2 1 b)) i := by
  have h : (val_main_v38 (F := Ideal) d (ix2 i b) : EReal) = ∑ n : Fin 4, if hn : i.val + n.val < 4 then (val_main_v33 (F := Ideal) d (ix2 ⟨i.val + n.val, hn⟩ b) : EReal) else 0 :=
    running b _ _ (fun _ => by unfold val_main_call1_call0_v0 val_main_call1_call0_cst; pointwise) _ i
  have e : (val_main_v39 (F := Ideal) d (ix2 i b) : EReal) = val_main_v37 (F := Ideal) d (ix2 i b) + val_main_v38 (F := Ideal) d (ix2 i b) := rfl
  have g : (val_main_v37 (F := Ideal) d (ix2 i b) : EReal) = if i.val = 0 then ∑ k : Fin 4, -(val_main_v33 (F := Ideal) d (ix2 k b) : EReal) else 0 := by
    unfold val_main_v37 val_main_v36 val_main_v35 val_main_v34 val_main_cst_11 val_main_cst_10
    generalize val_main_v33 (F := Ideal) d = z
    fin_cases i
    all_goals
      pointwise
  rw [e, h, g]
  simp only [spread, Fin.sum_univ_four]
  fin_cases i <;> simp [up]

/-- The reference's gradient of a column. -/
theorem out (i : Fin 4) : (val_main_v51 (F := Ideal) x d (ix2 i b) : EReal) = ref (fun k => x (ix2 k b)) (d (ix2 0 b)) (d (ix2 1 b)) i := by
  unfold ref
  simp only [← total x b]
  simp only [← expo x b, ← reach d b]
  unfold val_main_v51 val_main_v50 val_main_v49 val_main_v48 val_main_v47 val_main_v46 val_main_v45 val_main_v44 val_main_v43 val_main_v42 val_main_v41 val_main_v40 val_main_v27 val_main_v26 val_main_v25 val_main_cst_13 val_main_cst_12 val_main_cst_8
  generalize val_main_v39 (F := Ideal) d = u
  generalize val_main_v22 (F := Ideal) x = s
  generalize val_main_v20 (F := Ideal) x = e
  pointwise
  rw [Fin.sum_univ_one]

end Entry

/-- The reference ends with its arguments unchanged and every counter at zero. -/
theorem frame : Cert.quiescent_Reference28Ideal (hReference28Ideal := Cert.Reference28Ideal.Gen.facts) := fun m ρ _ =>
  (θ_run Cert.Reference28Ideal.defs _ _).mono
    (fun r h => ⟨fun c => (h c).2, Idealize.ShloMosaic.sem_eq_zero_of_no_sems (by decide) r.2⟩) (Cert.Reference28Ideal.Value.run m ρ)

open Cert.KernelIdeal.Dv (real_of_cmp) in
/-- Where the precondition holds, the logits and the gradients are real. -/
theorem reals (m : (l : Loc Cert.Kernel28Ideal.nD Cert.Kernel28Ideal.τ Cert.Kernel28Ideal.sig) → Buf (Elt Ideal) l)
    (H : Cert.Pre_Kernel28Ideal_finite_logits (hPre_finite_logits := Cert.Pre_finite_logits.Gen.facts) m) (c : Dev Cert.Kernel28Ideal.nD) :
    (∀ i b, Cert.Dv.IsReal (m ((c : Thread Cert.Kernel28Ideal.nD Cert.Kernel28Ideal.τ).loc Cert.Kernel28Ideal.main_arg0) (ix2 i b) : EReal))
      ∧ ∀ i b, Cert.Dv.IsReal (m ((c : Thread Cert.Kernel28Ideal.nD Cert.Kernel28Ideal.τ).loc Cert.Kernel28Ideal.main_arg1) (ix2 i b) : EReal) := by
  obtain ⟨h0, h1⟩ := H c
  constructor
  · intro i b
    have e := congrFun h0 (ix2 i b)
    simp only [Cert.Pre_finite_logits.fn] at e
    refine real_of_cmp (Eq.trans ?_ e)
    pointwise
    rfl
  · intro i b
    have e := congrFun h1 (ix2 i b)
    simp only [Cert.Pre_finite_logits.fn] at e
    refine real_of_cmp (Eq.trans ?_ e)
    pointwise
    rfl

/-- Where the precondition holds, the kernel and the reference compute the same. -/
theorem values : Cert.algebraic_Kernel28Ideal_Reference28Ideal_pre_finite_logits (hKernel28Ideal := Cert.Kernel28Ideal.Gen.facts) (hReference28Ideal := Cert.Reference28Ideal.Gen.facts)
    (hPre_finite_logits := Cert.Pre_finite_logits.Gen.facts) := by
  intro m ρ m' ρ' hpre hag
  refine ⟨fun c => Cert.Kernel28Ideal.Value.G2 (F := Ideal) (m ((c : Thread Cert.Kernel28Ideal.nD Cert.Kernel28Ideal.τ).loc Cert.Kernel28Ideal.main_arg0)) (m ((c : Thread Cert.Kernel28Ideal.nD Cert.Kernel28Ideal.τ).loc Cert.Kernel28Ideal.main_arg1)),
    (θ_run _ _ _).mono (fun _ h c => h c) (Cert.Kernel28Ideal.Value.run (F := Ideal) m ρ),
    (θ_run _ _ _).mono (fun _ h c => ⟨(h c).1.trans ?_, (h c).2⟩) (Cert.Reference28Ideal.Value.run (F := Ideal) m' ρ')⟩
  obtain ⟨e0, e1⟩ := hag c
  obtain ⟨r0, r1⟩ := reals m hpre c
  refine (val_main_v51_eq (F := Ideal) m' c).trans ?_
  rw [e0, e1]
  refine funext fun i => ?_
  rw [ValueIdx.eq_ix2 i]
  exact ((out _ _ (i 1) (i 0)).trans (ref_eq_ker _ (fun k => r0 k (i 1)) _ _ (r1 0 (i 1)) (r1 1 (i 1)) (i 0))).trans (Cert.Kernel28Ideal.Lo.out _ _ (i 1) (i 0)).symm

end Cert.Reference28Ideal.Lo

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite_gates
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.KernelIdeal.Value
public import proofs.«01_k».proof.Proof.KernelValue
public import proofs.«01_k».proof.Proof.RefValue
public import proofs.«01_k».proof.Proof.Bounds
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.DwFfnInEq
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.FfnInEq
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.DwFfnOutEq
public import proofs.«01_k».proof.Proof.Gen.Kernel5
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.HgrnInEq
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.MixInBwdEq
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.DwMixInEq
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.DwMixOutEq
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.MixOutBwdEq
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.MixOutLnEq
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.AttInEq
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.MixInBwdAttEq
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.DwMixInAttEq
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.DwPleProjEq
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.FfnOutPleEq
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.FfnBwdActEq
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.PleLnBwdEq
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.FfnBwdXLnEq
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.AdamSmallEq
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.SumSmallEq
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.AdamAttLateEq
public import proofs.«01_k».proof.Proof.Gen.Kernel22
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.AdamHgrnLateEq
public import proofs.«01_k».proof.Proof.Gen.Kernel23
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.AdamEarly3Eq
public import proofs.«01_k».proof.Proof.Gen.Kernel24
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.AdamEarly1Eq
public import proofs.«01_k».proof.Proof.Gen.Kernel25
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.AdamEarly0Eq
public import proofs.«01_k».proof.Proof.Gen.Kernel26
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.AdamAttFirstEq
public import proofs.«01_k».proof.Proof.Gen.Kernel27
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.LossHeadEq
public import proofs.«01_k».proof.Proof.Gen.Kernel28
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.LowerBoundsEq
public import proofs.«01_k».proof.Proof.Gen.Pre_finite_activation_grads
public import proofs.«01_k».proof.Proof.Gen.Pre_finite_embedding_grads
public import proofs.«01_k».proof.Proof.Gen.Pre_finite_norm_grads
public import proofs.«01_k».proof.Proof.Gen.Pre_finite_logits
public import Idealize.ShloMosaic.Adequacy
public import Idealize.ShloMosaic.Init

@[expose] public section

noncomputable section

namespace Cert.Proof

open Idealize.ShloMosaic Idealize.SL.Sem Cert.Kernel

/-- The reference ends with its arguments unchanged and every counter at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Dv.run m ρ)

/-- The kernel and the reference compute the same gradient. -/
theorem values : Cert.algebraic_KernelIdeal_ReferenceIdeal_pre_finite_gates (hKernelIdeal := Cert.KernelIdeal.Gen.facts)
    (hReferenceIdeal := Cert.ReferenceIdeal.Gen.facts) (hPre_finite_gates := Cert.Pre_finite_gates.Gen.facts) := by
  intro m ρ m' ρ' hpre hag
  refine ⟨fun c => Cert.KernelIdeal.Value.G12 (F := Ideal) m c, (θ_run _ _ _).mono (fun _ h c => ⟨(h c).2.2.1, (h c).2.2.2.2⟩)
    (Cert.KernelIdeal.Value.run (F := Ideal) m ρ), (θ_run _ _ _).mono (fun _ h c => ⟨(h c).1.trans ?_, (h c).2⟩) (Cert.ReferenceIdeal.Dv.run m' ρ')⟩
  refine (Cert.ReferenceIdeal.Dv.result m' c).trans (Eq.trans ?_ (Cert.KernelIdeal.Dv.G12_eq m c (Cert.KernelIdeal.Dv.realGates m hpre c)).symm)
  obtain ⟨e0, e1, _, e3, _, e5⟩ := hag c
  show Cert.Dv.out (Cert.ReferenceIdeal.Dv.zA m' c) _ _ _ = _
  rw [show Cert.ReferenceIdeal.Dv.zA m' c = Cert.KernelIdeal.Dv.zA m c from e0, show Cert.ReferenceIdeal.Dv.lA m' c = Cert.KernelIdeal.Dv.lA m c from e1,
    show Cert.ReferenceIdeal.Dv.dA m' c = Cert.KernelIdeal.Dv.dA m c from e3, show Cert.ReferenceIdeal.Dv.aA m' c = Cert.KernelIdeal.Dv.aA m c from e5]

/-- All the claims: of the recurrence's gradient, and of each further call, that its program ends without fault and keeps its arguments,
that the ideal program is the kernel's, and that it computes what its reference does. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Pre_finite_gates.Gen.facts, Cert.Pre_finite_activation_grads.Gen.facts, Cert.Pre_finite_embedding_grads.Gen.facts, Cert.Pre_finite_norm_grads.Gen.facts, Cert.Pre_finite_logits.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, Cert.Reference2Ideal.Dw.frame,
  fun m ρ _ => Cert.Kernel3.Gen.frame m ρ, fun m ρ _ => Cert.Kernel3Ideal.Gen.frame m ρ, Cert.Reference3Ideal.Ffn.frame,
  fun m ρ _ => Cert.Kernel4.Gen.frame m ρ, fun m ρ _ => Cert.Kernel4Ideal.Gen.frame m ρ, Cert.Reference4Ideal.Dw.frame,
  fun m ρ _ => Cert.Kernel5.Gen.frame m ρ, fun m ρ _ => Cert.Kernel5Ideal.Gen.frame m ρ, Cert.Reference5Ideal.Mm.frame,
  fun m ρ _ => Cert.Kernel6.Gen.frame m ρ, fun m ρ _ => Cert.Kernel6Ideal.Gen.frame m ρ, Cert.Reference6Ideal.Mx.frame,
  fun m ρ _ => Cert.Kernel7.Gen.frame m ρ, fun m ρ _ => Cert.Kernel7Ideal.Gen.frame m ρ, Cert.Reference7Ideal.Dw.frame,
  fun m ρ _ => Cert.Kernel8.Gen.frame m ρ, fun m ρ _ => Cert.Kernel8Ideal.Gen.frame m ρ, Cert.Reference8Ideal.Dw.frame,
  fun m ρ _ => Cert.Kernel9.Gen.frame m ρ, fun m ρ _ => Cert.Kernel9Ideal.Gen.frame m ρ, Cert.Reference9Ideal.Mm.frame,
  fun m ρ _ => Cert.Kernel10.Gen.frame m ρ, fun m ρ _ => Cert.Kernel10Ideal.Gen.frame m ρ, Cert.Reference10Ideal.Ln.frame,
  fun m ρ _ => Cert.Kernel11.Gen.frame m ρ, fun m ρ _ => Cert.Kernel11Ideal.Gen.frame m ρ, Cert.Reference11Ideal.Mm.frame,
  fun m ρ _ => Cert.Kernel12.Gen.frame m ρ, fun m ρ _ => Cert.Kernel12Ideal.Gen.frame m ρ, Cert.Reference12Ideal.Mx.frame,
  fun m ρ _ => Cert.Kernel13.Gen.frame m ρ, fun m ρ _ => Cert.Kernel13Ideal.Gen.frame m ρ, Cert.Reference13Ideal.Dw.frame,
  fun m ρ _ => Cert.Kernel14.Gen.frame m ρ, fun m ρ _ => Cert.Kernel14Ideal.Gen.frame m ρ, Cert.Reference14Ideal.Dw.frame,
  fun m ρ _ => Cert.Kernel15.Gen.frame m ρ, fun m ρ _ => Cert.Kernel15Ideal.Gen.frame m ρ, Cert.Reference15Ideal.Fo.frame,
  fun m ρ _ => Cert.Kernel16.Gen.frame m ρ, fun m ρ _ => Cert.Kernel16Ideal.Gen.frame m ρ, fun m ρ _ => Cert.Kernel16Ideal.Gen.frame m ρ, Cert.Reference16Ideal.Fb.frame, fun m ρ _ => Cert.Reference16Ideal.Fb.frame m ρ trivial,
  fun m ρ _ => Cert.Kernel17.Gen.frame m ρ, fun m ρ _ => Cert.Kernel17Ideal.Gen.frame m ρ, fun m ρ _ => Cert.Kernel17Ideal.Gen.frame m ρ, Cert.Reference17Ideal.Pb.frame, fun m ρ _ => Cert.Reference17Ideal.Pb.frame m ρ trivial,
  fun m ρ _ => Cert.Kernel18.Gen.frame m ρ, fun m ρ _ => Cert.Kernel18Ideal.Gen.frame m ρ, fun m ρ _ => Cert.Kernel18Ideal.Gen.frame m ρ, Cert.Reference18Ideal.Fx.frame, fun m ρ _ => Cert.Reference18Ideal.Fx.frame m ρ trivial,
  fun m ρ _ => Cert.Kernel19.Gen.frame m ρ, fun m ρ _ => Cert.Kernel19Ideal.Gen.frame m ρ, Cert.Reference19Ideal.Ad.frame,
  fun m ρ _ => Cert.Kernel20.Gen.frame m ρ, fun m ρ _ => Cert.Kernel20Ideal.Gen.frame m ρ, Cert.Reference20Ideal.Sm.frame,
  fun m ρ _ => Cert.Kernel21.Gen.frame m ρ, fun m ρ _ => Cert.Kernel21Ideal.Gen.frame m ρ, Cert.Reference21Ideal.Ad.frame,
  fun m ρ _ => Cert.Kernel22.Gen.frame m ρ, fun m ρ _ => Cert.Kernel22Ideal.Gen.frame m ρ, Cert.Reference22Ideal.Ad.frame,
  fun m ρ _ => Cert.Kernel23.Gen.frame m ρ, fun m ρ _ => Cert.Kernel23Ideal.Gen.frame m ρ, Cert.Reference23Ideal.Ad.frame,
  fun m ρ _ => Cert.Kernel24.Gen.frame m ρ, fun m ρ _ => Cert.Kernel24Ideal.Gen.frame m ρ, Cert.Reference24Ideal.Ad.frame,
  fun m ρ _ => Cert.Kernel25.Gen.frame m ρ, fun m ρ _ => Cert.Kernel25Ideal.Gen.frame m ρ, Cert.Reference25Ideal.Ad.frame,
  fun m ρ _ => Cert.Kernel26.Gen.frame m ρ, fun m ρ _ => Cert.Kernel26Ideal.Gen.frame m ρ, Cert.Reference26Ideal.Ad.frame,
  fun m ρ _ => Cert.Kernel27.Gen.frame m ρ, fun m ρ _ => Cert.Kernel27Ideal.Gen.frame m ρ, Cert.Reference27Ideal.Lo.frame,
  fun m ρ _ => Cert.Kernel28.Gen.frame m ρ, fun m ρ _ => Cert.Kernel28Ideal.Gen.frame m ρ, fun m ρ _ => Cert.Kernel28Ideal.Gen.frame m ρ, Cert.Reference28Ideal.Lo.frame, fun m ρ _ => Cert.Reference28Ideal.Lo.frame m ρ trivial,
  trivial, values,
  trivial, Cert.Reference2Ideal.Dw.values,
  trivial, Cert.Reference3Ideal.Ffn.values,
  trivial, Cert.Reference4Ideal.Dw.values,
  trivial, Cert.Reference5Ideal.Mm.values,
  trivial, Cert.Reference6Ideal.Mx.values,
  trivial, Cert.Reference7Ideal.Dw.values,
  trivial, Cert.Reference8Ideal.Dw.values,
  trivial, Cert.Reference9Ideal.Mm.values,
  trivial, Cert.Reference10Ideal.Ln.values,
  trivial, Cert.Reference11Ideal.Mm.values,
  trivial, Cert.Reference12Ideal.Mx.values,
  trivial, Cert.Reference13Ideal.Dw.values,
  trivial, Cert.Reference14Ideal.Dw.values,
  trivial, Cert.Reference15Ideal.Fo.values,
  trivial, Cert.Reference16Ideal.Fb.values,
  trivial, Cert.Reference17Ideal.Pb.values,
  trivial, Cert.Reference18Ideal.Fx.values,
  ⟨IdealRules.named_const.statement Cert.Kernel19Ideal.κ "inv_bias1" .f32 0x3FC48605#32 _ rfl,
    IdealRules.named_const.statement Cert.Kernel19Ideal.κ "inv_bias2" .f32 0x42C8E6D3#32 _ rfl⟩, Cert.Reference19Ideal.Ad.values,
  trivial, Cert.Reference20Ideal.Sm.values,
  ⟨IdealRules.named_const.statement Cert.Kernel21Ideal.κ "inv_bias1" .f32 0x3FC48605#32 _ rfl,
    IdealRules.named_const.statement Cert.Kernel21Ideal.κ "inv_bias2" .f32 0x42C8E6D3#32 _ rfl⟩, Cert.Reference21Ideal.Ad.values,
  ⟨IdealRules.named_const.statement Cert.Kernel22Ideal.κ "inv_bias1" .f32 0x3FC48605#32 _ rfl,
    IdealRules.named_const.statement Cert.Kernel22Ideal.κ "inv_bias2" .f32 0x42C8E6D3#32 _ rfl⟩, Cert.Reference22Ideal.Ad.values,
  ⟨IdealRules.named_const.statement Cert.Kernel23Ideal.κ "inv_bias1" .f32 0x3FC48605#32 _ rfl,
    IdealRules.named_const.statement Cert.Kernel23Ideal.κ "inv_bias2" .f32 0x42C8E6D3#32 _ rfl⟩, Cert.Reference23Ideal.Ad.values,
  ⟨IdealRules.named_const.statement Cert.Kernel24Ideal.κ "inv_bias1" .f32 0x3FC48605#32 _ rfl,
    IdealRules.named_const.statement Cert.Kernel24Ideal.κ "inv_bias2" .f32 0x42C8E6D3#32 _ rfl⟩, Cert.Reference24Ideal.Ad.values,
  ⟨IdealRules.named_const.statement Cert.Kernel25Ideal.κ "inv_bias1" .f32 0x3FC48605#32 _ rfl,
    IdealRules.named_const.statement Cert.Kernel25Ideal.κ "inv_bias2" .f32 0x42C8E6D3#32 _ rfl⟩, Cert.Reference25Ideal.Ad.values,
  ⟨IdealRules.named_const.statement Cert.Kernel26Ideal.κ "inv_bias1" .f32 0x3FC48605#32 _ rfl,
    IdealRules.named_const.statement Cert.Kernel26Ideal.κ "inv_bias2" .f32 0x42C8E6D3#32 _ rfl⟩, Cert.Reference26Ideal.Ad.values,
  trivial, Cert.Reference27Ideal.Lo.values,
  trivial, Cert.Reference28Ideal.Lo.values⟩

end Cert.Proof

end
